-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_VProj (m : (ℓ : Loc Cert.VProj.nD Cert.VProj.τ Cert.VProj.sig) → Buf (Elt Bits) ℓ) : Prop :=
  True

def Pre_VProjIdeal (m : (ℓ : Loc Cert.VProjIdeal.nD Cert.VProjIdeal.τ Cert.VProjIdeal.sig) → Buf (Elt Ideal) ℓ) : Prop :=
  True

def Pre_VRefIdeal (m : (ℓ : Loc Cert.VRefIdeal.nD Cert.VRefIdeal.τ Cert.VRefIdeal.sig) → Buf (Elt Ideal) ℓ) : Prop :=
  True

def Pre_QkProj (m : (ℓ : Loc Cert.QkProj.nD Cert.QkProj.τ Cert.QkProj.sig) → Buf (Elt Bits) ℓ) : Prop :=
  True

def Pre_QkProjIdeal (m : (ℓ : Loc Cert.QkProjIdeal.nD Cert.QkProjIdeal.τ Cert.QkProjIdeal.sig) → Buf (Elt Ideal) ℓ) : Prop :=
  True

def Pre_QkRefIdeal (m : (ℓ : Loc Cert.QkRefIdeal.nD Cert.QkRefIdeal.τ Cert.QkRefIdeal.sig) → Buf (Elt Ideal) ℓ) : Prop :=
  True

def Pre_WoProj (m : (ℓ : Loc Cert.WoProj.nD Cert.WoProj.τ Cert.WoProj.sig) → Buf (Elt Bits) ℓ) : Prop :=
  True

def Pre_WoProjIdeal (m : (ℓ : Loc Cert.WoProjIdeal.nD Cert.WoProjIdeal.τ Cert.WoProjIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_VgProj (m : (ℓ : Loc Cert.VgProj.nD Cert.VgProj.τ Cert.VgProj.sig) → Buf (Elt Bits) ℓ) : Prop :=
  True

def Pre_VgProjIdeal (m : (ℓ : Loc Cert.VgProjIdeal.nD Cert.VgProjIdeal.τ Cert.VgProjIdeal.sig) → Buf (Elt Ideal) ℓ) : Prop :=
  True

def Pre_VgRefIdeal (m : (ℓ : Loc Cert.VgRefIdeal.nD Cert.VgRefIdeal.τ Cert.VgRefIdeal.sig) → Buf (Elt Ideal) ℓ) : Prop :=
  True

def Pre_RqkProj (m : (ℓ : Loc Cert.RqkProj.nD Cert.RqkProj.τ Cert.RqkProj.sig) → Buf (Elt Bits) ℓ) : Prop :=
  True

def Pre_RqkProjIdeal (m : (ℓ : Loc Cert.RqkProjIdeal.nD Cert.RqkProjIdeal.τ Cert.RqkProjIdeal.sig) → Buf (Elt Ideal) ℓ) : Prop :=
  True

def Pre_RqkRefIdeal (m : (ℓ : Loc Cert.RqkRefIdeal.nD Cert.RqkRefIdeal.τ Cert.RqkRefIdeal.sig) → Buf (Elt Ideal) ℓ) : Prop :=
  True

def Pre_RwoProj (m : (ℓ : Loc Cert.RwoProj.nD Cert.RwoProj.τ Cert.RwoProj.sig) → Buf (Elt Bits) ℓ) : Prop :=
  True

def Pre_RwoProjIdeal (m : (ℓ : Loc Cert.RwoProjIdeal.nD Cert.RwoProjIdeal.τ Cert.RwoProjIdeal.sig) → Buf (Elt Ideal) ℓ) : Prop :=
  True

def Pre_RwoRefIdeal (m : (ℓ : Loc Cert.RwoRefIdeal.nD Cert.RwoRefIdeal.τ Cert.RwoRefIdeal.sig) → Buf (Elt Ideal) ℓ) : Prop :=
  True

def Pre_SbAtt (m : (ℓ : Loc Cert.SbAtt.nD Cert.SbAtt.τ Cert.SbAtt.sig) → Buf (Elt Bits) ℓ) : Prop :=
  True

def Pre_SbAttIdeal (m : (ℓ : Loc Cert.SbAttIdeal.nD Cert.SbAttIdeal.τ Cert.SbAttIdeal.sig) → Buf (Elt Ideal) ℓ) : Prop :=
  True

def Pre_SbRefIdeal (m : (ℓ : Loc Cert.SbRefIdeal.nD Cert.SbRefIdeal.τ Cert.SbRefIdeal.sig) → Buf (Elt Ideal) ℓ) : Prop :=
  True

def Pre_RetS (m : (ℓ : Loc Cert.RetS.nD Cert.RetS.τ Cert.RetS.sig) → Buf (Elt Bits) ℓ) : Prop :=
  True

def Pre_RetSIdeal (m : (ℓ : Loc Cert.RetSIdeal.nD Cert.RetSIdeal.τ Cert.RetSIdeal.sig) → Buf (Elt Ideal) ℓ) : Prop :=
  True

def Pre_RetSRefIdeal (m : (ℓ : Loc Cert.RetSRefIdeal.nD Cert.RetSRefIdeal.τ Cert.RetSRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_VProj [hVProj : Cert.VProj.Facts] : Prop :=
  ∀ (m : (ℓ : Loc Cert.VProj.nD Cert.VProj.τ Cert.VProj.sig) → Buf (Elt Bits) ℓ) (g : Dev Cert.VProj.nD → PrngReg), Pre_VProj m →
    θ_run (Cert.VProj.defs (F := Bits)) (onTc (τ := Cert.VProj.τ) (Cert.VProj.main (F := Bits))) ⟨m, fun _ => 0, g⟩ (fun r => (∀ c : Dev Cert.VProj.nD,
      r.2.mem ((c.tc : Thread Cert.VProj.nD Cert.VProj.τ).loc Cert.VProj.main_arg0) = m ((c.tc : Thread Cert.VProj.nD Cert.VProj.τ).loc Cert.VProj.main_arg0)
      ∧ r.2.mem ((c.tc : Thread Cert.VProj.nD Cert.VProj.τ).loc Cert.VProj.main_arg1) = m ((c.tc : Thread Cert.VProj.nD Cert.VProj.τ).loc Cert.VProj.main_arg1)
      ∧ r.2.mem ((c.tc : Thread Cert.VProj.nD Cert.VProj.τ).loc Cert.VProj.main_arg2) = m ((c.tc : Thread Cert.VProj.nD Cert.VProj.τ).loc Cert.VProj.main_arg2)
      ∧ r.2.mem ((c.tc : Thread Cert.VProj.nD Cert.VProj.τ).loc Cert.VProj.main_arg3) = m ((c.tc : Thread Cert.VProj.nD Cert.VProj.τ).loc Cert.VProj.main_arg3))
      ∧ r.2.sem = fun _ => 0)

def quiescent_VProjIdeal [hVProjIdeal : Cert.VProjIdeal.Facts] : Prop :=
  ∀ (m : (ℓ : Loc Cert.VProjIdeal.nD Cert.VProjIdeal.τ Cert.VProjIdeal.sig) → Buf (Elt Ideal) ℓ) (g : Dev Cert.VProjIdeal.nD → PrngReg), Pre_VProjIdeal m →
    θ_run (Cert.VProjIdeal.defs (F := Ideal)) (onTc (τ := Cert.VProjIdeal.τ) (Cert.VProjIdeal.main (F := Ideal))) ⟨m, fun _ => 0, g⟩ (fun r => (∀ c : Dev Cert.VProjIdeal.nD,
      r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
      ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1)
      ∧ r.2.mem ((c.tc : Thread Cert.VProjIdeal.nD Cert.VProjIdeal.τ).loc Cert.VProjIdeal.main_arg2) = m ((c.tc : Thread Cert.VProjIdeal.nD Cert.VProjIdeal.τ).loc Cert.VProjIdeal.main_arg2)
      ∧ r.2.mem ((c.tc : Thread Cert.VProjIdeal.nD Cert.VProjIdeal.τ).loc Cert.VProjIdeal.main_arg3) = m ((c.tc : Thread Cert.VProjIdeal.nD Cert.VProjIdeal.τ).loc Cert.VProjIdeal.main_arg3))
      ∧ r.2.sem = fun _ => 0)

def quiescent_VRefIdeal [hVRefIdeal : Cert.VRefIdeal.Facts] : Prop :=
  ∀ (m : (ℓ : Loc Cert.VRefIdeal.nD Cert.VRefIdeal.τ Cert.VRefIdeal.sig) → Buf (Elt Ideal) ℓ) (g : Dev Cert.VRefIdeal.nD → PrngReg), Pre_VRefIdeal m →
    θ_run (Cert.VRefIdeal.defs (F := Ideal)) (onTc (τ := Cert.VRefIdeal.τ) (Cert.VRefIdeal.main (F := Ideal))) ⟨m, fun _ => 0, g⟩ (fun r => (∀ c : Dev Cert.VRefIdeal.nD,
      r.2.mem ((c.tc : Thread Cert.VRefIdeal.nD Cert.VRefIdeal.τ).loc Cert.VRefIdeal.main_arg0) = m ((c.tc : Thread Cert.VRefIdeal.nD Cert.VRefIdeal.τ).loc Cert.VRefIdeal.main_arg0)
      ∧ r.2.mem ((c.tc : Thread Cert.VRefIdeal.nD Cert.VRefIdeal.τ).loc Cert.VRefIdeal.main_arg1) = m ((c.tc : Thread Cert.VRefIdeal.nD Cert.VRefIdeal.τ).loc Cert.VRefIdeal.main_arg1)
      ∧ r.2.mem ((c.tc : Thread Cert.VRefIdeal.nD Cert.VRefIdeal.τ).loc Cert.VRefIdeal.main_arg2) = m ((c.tc : Thread Cert.VRefIdeal.nD Cert.VRefIdeal.τ).loc Cert.VRefIdeal.main_arg2)
      ∧ r.2.mem ((c.tc : Thread Cert.VRefIdeal.nD Cert.VRefIdeal.τ).loc Cert.VRefIdeal.main_arg3) = m ((c.tc : Thread Cert.VRefIdeal.nD Cert.VRefIdeal.τ).loc Cert.VRefIdeal.main_arg3))
      ∧ r.2.sem = fun _ => 0)

def quiescent_QkProj [hQkProj : Cert.QkProj.Facts] : Prop :=
  ∀ (m : (ℓ : Loc Cert.QkProj.nD Cert.QkProj.τ Cert.QkProj.sig) → Buf (Elt Bits) ℓ) (g : Dev Cert.QkProj.nD → PrngReg), Pre_QkProj m →
    θ_run (Cert.QkProj.defs (F := Bits)) (onTc (τ := Cert.QkProj.τ) (Cert.QkProj.main (F := Bits))) ⟨m, fun _ => 0, g⟩ (fun r => (∀ c : Dev Cert.QkProj.nD,
      r.2.mem ((c.tc : Thread Cert.QkProj.nD Cert.QkProj.τ).loc Cert.QkProj.main_arg0) = m ((c.tc : Thread Cert.QkProj.nD Cert.QkProj.τ).loc Cert.QkProj.main_arg0)
      ∧ r.2.mem ((c.tc : Thread Cert.QkProj.nD Cert.QkProj.τ).loc Cert.QkProj.main_arg1) = m ((c.tc : Thread Cert.QkProj.nD Cert.QkProj.τ).loc Cert.QkProj.main_arg1)
      ∧ r.2.mem ((c.tc : Thread Cert.QkProj.nD Cert.QkProj.τ).loc Cert.QkProj.main_arg2) = m ((c.tc : Thread Cert.QkProj.nD Cert.QkProj.τ).loc Cert.QkProj.main_arg2)
      ∧ r.2.mem ((c.tc : Thread Cert.QkProj.nD Cert.QkProj.τ).loc Cert.QkProj.main_arg3) = m ((c.tc : Thread Cert.QkProj.nD Cert.QkProj.τ).loc Cert.QkProj.main_arg3)
      ∧ r.2.mem ((c.tc : Thread Cert.QkProj.nD Cert.QkProj.τ).loc Cert.QkProj.main_arg4) = m ((c.tc : Thread Cert.QkProj.nD Cert.QkProj.τ).loc Cert.QkProj.main_arg4)
      ∧ r.2.mem ((c.tc : Thread Cert.QkProj.nD Cert.QkProj.τ).loc Cert.QkProj.main_arg5) = m ((c.tc : Thread Cert.QkProj.nD Cert.QkProj.τ).loc Cert.QkProj.main_arg5))
      ∧ r.2.sem = fun _ => 0)

def quiescent_QkProjIdeal [hQkProjIdeal : Cert.QkProjIdeal.Facts] : Prop :=
  ∀ (m : (ℓ : Loc Cert.QkProjIdeal.nD Cert.QkProjIdeal.τ Cert.QkProjIdeal.sig) → Buf (Elt Ideal) ℓ) (g : Dev Cert.QkProjIdeal.nD → PrngReg), Pre_QkProjIdeal m →
    θ_run (Cert.QkProjIdeal.defs (F := Ideal)) (onTc (τ := Cert.QkProjIdeal.τ) (Cert.QkProjIdeal.main (F := Ideal))) ⟨m, fun _ => 0, g⟩ (fun r => (∀ c : Dev Cert.QkProjIdeal.nD,
      r.2.mem ((c.tc : Thread Cert.QkProjIdeal.nD Cert.QkProjIdeal.τ).loc Cert.QkProjIdeal.main_arg0) = m ((c.tc : Thread Cert.QkProjIdeal.nD Cert.QkProjIdeal.τ).loc Cert.QkProjIdeal.main_arg0)
      ∧ r.2.mem ((c.tc : Thread Cert.QkProjIdeal.nD Cert.QkProjIdeal.τ).loc Cert.QkProjIdeal.main_arg1) = m ((c.tc : Thread Cert.QkProjIdeal.nD Cert.QkProjIdeal.τ).loc Cert.QkProjIdeal.main_arg1)
      ∧ r.2.mem ((c.tc : Thread Cert.QkProjIdeal.nD Cert.QkProjIdeal.τ).loc Cert.QkProjIdeal.main_arg2) = m ((c.tc : Thread Cert.QkProjIdeal.nD Cert.QkProjIdeal.τ).loc Cert.QkProjIdeal.main_arg2)
      ∧ r.2.mem ((c.tc : Thread Cert.QkProjIdeal.nD Cert.QkProjIdeal.τ).loc Cert.QkProjIdeal.main_arg3) = m ((c.tc : Thread Cert.QkProjIdeal.nD Cert.QkProjIdeal.τ).loc Cert.QkProjIdeal.main_arg3)
      ∧ r.2.mem ((c.tc : Thread Cert.QkProjIdeal.nD Cert.QkProjIdeal.τ).loc Cert.QkProjIdeal.main_arg4) = m ((c.tc : Thread Cert.QkProjIdeal.nD Cert.QkProjIdeal.τ).loc Cert.QkProjIdeal.main_arg4)
      ∧ r.2.mem ((c.tc : Thread Cert.QkProjIdeal.nD Cert.QkProjIdeal.τ).loc Cert.QkProjIdeal.main_arg5) = m ((c.tc : Thread Cert.QkProjIdeal.nD Cert.QkProjIdeal.τ).loc Cert.QkProjIdeal.main_arg5))
      ∧ r.2.sem = fun _ => 0)

def quiescent_QkRefIdeal [hQkRefIdeal : Cert.QkRefIdeal.Facts] : Prop :=
  ∀ (m : (ℓ : Loc Cert.QkRefIdeal.nD Cert.QkRefIdeal.τ Cert.QkRefIdeal.sig) → Buf (Elt Ideal) ℓ) (g : Dev Cert.QkRefIdeal.nD → PrngReg), Pre_QkRefIdeal m →
    θ_run (Cert.QkRefIdeal.defs (F := Ideal)) (onTc (τ := Cert.QkRefIdeal.τ) (Cert.QkRefIdeal.main (F := Ideal))) ⟨m, fun _ => 0, g⟩ (fun r => (∀ c : Dev Cert.QkRefIdeal.nD,
      r.2.mem ((c.tc : Thread Cert.QkRefIdeal.nD Cert.QkRefIdeal.τ).loc Cert.QkRefIdeal.main_arg0) = m ((c.tc : Thread Cert.QkRefIdeal.nD Cert.QkRefIdeal.τ).loc Cert.QkRefIdeal.main_arg0)
      ∧ r.2.mem ((c.tc : Thread Cert.QkRefIdeal.nD Cert.QkRefIdeal.τ).loc Cert.QkRefIdeal.main_arg1) = m ((c.tc : Thread Cert.QkRefIdeal.nD Cert.QkRefIdeal.τ).loc Cert.QkRefIdeal.main_arg1)
      ∧ r.2.mem ((c.tc : Thread Cert.QkRefIdeal.nD Cert.QkRefIdeal.τ).loc Cert.QkRefIdeal.main_arg2) = m ((c.tc : Thread Cert.QkRefIdeal.nD Cert.QkRefIdeal.τ).loc Cert.QkRefIdeal.main_arg2)
      ∧ r.2.mem ((c.tc : Thread Cert.QkRefIdeal.nD Cert.QkRefIdeal.τ).loc Cert.QkRefIdeal.main_arg3) = m ((c.tc : Thread Cert.QkRefIdeal.nD Cert.QkRefIdeal.τ).loc Cert.QkRefIdeal.main_arg3)
      ∧ r.2.mem ((c.tc : Thread Cert.QkRefIdeal.nD Cert.QkRefIdeal.τ).loc Cert.QkRefIdeal.main_arg4) = m ((c.tc : Thread Cert.QkRefIdeal.nD Cert.QkRefIdeal.τ).loc Cert.QkRefIdeal.main_arg4)
      ∧ r.2.mem ((c.tc : Thread Cert.QkRefIdeal.nD Cert.QkRefIdeal.τ).loc Cert.QkRefIdeal.main_arg5) = m ((c.tc : Thread Cert.QkRefIdeal.nD Cert.QkRefIdeal.τ).loc Cert.QkRefIdeal.main_arg5))
      ∧ r.2.sem = fun _ => 0)

def quiescent_WoProj [hWoProj : Cert.WoProj.Facts] : Prop :=
  ∀ (m : (ℓ : Loc Cert.WoProj.nD Cert.WoProj.τ Cert.WoProj.sig) → Buf (Elt Bits) ℓ) (g : Dev Cert.WoProj.nD → PrngReg), Pre_WoProj m →
    θ_run (Cert.WoProj.defs (F := Bits)) (onTc (τ := Cert.WoProj.τ) (Cert.WoProj.main (F := Bits))) ⟨m, fun _ => 0, g⟩ (fun r => (∀ c : Dev Cert.WoProj.nD,
      r.2.mem ((c.tc : Thread Cert.WoProj.nD Cert.WoProj.τ).loc Cert.WoProj.main_arg0) = m ((c.tc : Thread Cert.WoProj.nD Cert.WoProj.τ).loc Cert.WoProj.main_arg0)
      ∧ r.2.mem ((c.tc : Thread Cert.WoProj.nD Cert.WoProj.τ).loc Cert.WoProj.main_arg1) = m ((c.tc : Thread Cert.WoProj.nD Cert.WoProj.τ).loc Cert.WoProj.main_arg1)
      ∧ r.2.mem ((c.tc : Thread Cert.WoProj.nD Cert.WoProj.τ).loc Cert.WoProj.main_arg2) = m ((c.tc : Thread Cert.WoProj.nD Cert.WoProj.τ).loc Cert.WoProj.main_arg2))
      ∧ r.2.sem = fun _ => 0)

def quiescent_WoProjIdeal [hWoProjIdeal : Cert.WoProjIdeal.Facts] : Prop :=
  ∀ (m : (ℓ : Loc Cert.WoProjIdeal.nD Cert.WoProjIdeal.τ Cert.WoProjIdeal.sig) → Buf (Elt Ideal) ℓ) (g : Dev Cert.WoProjIdeal.nD → PrngReg), Pre_WoProjIdeal m →
    θ_run (Cert.WoProjIdeal.defs (F := Ideal)) (onTc (τ := Cert.WoProjIdeal.τ) (Cert.WoProjIdeal.main (F := Ideal))) ⟨m, fun _ => 0, g⟩ (fun r => (∀ c : Dev Cert.WoProjIdeal.nD,
      r.2.mem ((c.tc : Thread Cert.WoProjIdeal.nD Cert.WoProjIdeal.τ).loc Cert.WoProjIdeal.main_arg0) = m ((c.tc : Thread Cert.WoProjIdeal.nD Cert.WoProjIdeal.τ).loc Cert.WoProjIdeal.main_arg0)
      ∧ r.2.mem ((c.tc : Thread Cert.WoProjIdeal.nD Cert.WoProjIdeal.τ).loc Cert.WoProjIdeal.main_arg1) = m ((c.tc : Thread Cert.WoProjIdeal.nD Cert.WoProjIdeal.τ).loc Cert.WoProjIdeal.main_arg1)
      ∧ r.2.mem ((c.tc : Thread Cert.WoProjIdeal.nD Cert.WoProjIdeal.τ).loc Cert.WoProjIdeal.main_arg2) = m ((c.tc : Thread Cert.WoProjIdeal.nD Cert.WoProjIdeal.τ).loc Cert.WoProjIdeal.main_arg2))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1)
      ∧ r.2.mem ((c.tc : Thread Cert.WoRefIdeal.nD Cert.WoRefIdeal.τ).loc Cert.WoRefIdeal.main_arg2) = m ((c.tc : Thread Cert.WoRefIdeal.nD Cert.WoRefIdeal.τ).loc Cert.WoRefIdeal.main_arg2))
      ∧ r.2.sem = fun _ => 0)

def quiescent_VgProj [hVgProj : Cert.VgProj.Facts] : Prop :=
  ∀ (m : (ℓ : Loc Cert.VgProj.nD Cert.VgProj.τ Cert.VgProj.sig) → Buf (Elt Bits) ℓ) (g : Dev Cert.VgProj.nD → PrngReg), Pre_VgProj m →
    θ_run (Cert.VgProj.defs (F := Bits)) (onTc (τ := Cert.VgProj.τ) (Cert.VgProj.main (F := Bits))) ⟨m, fun _ => 0, g⟩ (fun r => (∀ c : Dev Cert.VgProj.nD,
      r.2.mem ((c.tc : Thread Cert.VgProj.nD Cert.VgProj.τ).loc Cert.VgProj.main_arg0) = m ((c.tc : Thread Cert.VgProj.nD Cert.VgProj.τ).loc Cert.VgProj.main_arg0)
      ∧ r.2.mem ((c.tc : Thread Cert.VgProj.nD Cert.VgProj.τ).loc Cert.VgProj.main_arg1) = m ((c.tc : Thread Cert.VgProj.nD Cert.VgProj.τ).loc Cert.VgProj.main_arg1)
      ∧ r.2.mem ((c.tc : Thread Cert.VgProj.nD Cert.VgProj.τ).loc Cert.VgProj.main_arg2) = m ((c.tc : Thread Cert.VgProj.nD Cert.VgProj.τ).loc Cert.VgProj.main_arg2))
      ∧ r.2.sem = fun _ => 0)

def quiescent_VgProjIdeal [hVgProjIdeal : Cert.VgProjIdeal.Facts] : Prop :=
  ∀ (m : (ℓ : Loc Cert.VgProjIdeal.nD Cert.VgProjIdeal.τ Cert.VgProjIdeal.sig) → Buf (Elt Ideal) ℓ) (g : Dev Cert.VgProjIdeal.nD → PrngReg), Pre_VgProjIdeal m →
    θ_run (Cert.VgProjIdeal.defs (F := Ideal)) (onTc (τ := Cert.VgProjIdeal.τ) (Cert.VgProjIdeal.main (F := Ideal))) ⟨m, fun _ => 0, g⟩ (fun r => (∀ c : Dev Cert.VgProjIdeal.nD,
      r.2.mem ((c.tc : Thread Cert.VgProjIdeal.nD Cert.VgProjIdeal.τ).loc Cert.VgProjIdeal.main_arg0) = m ((c.tc : Thread Cert.VgProjIdeal.nD Cert.VgProjIdeal.τ).loc Cert.VgProjIdeal.main_arg0)
      ∧ r.2.mem ((c.tc : Thread Cert.VgProjIdeal.nD Cert.VgProjIdeal.τ).loc Cert.VgProjIdeal.main_arg1) = m ((c.tc : Thread Cert.VgProjIdeal.nD Cert.VgProjIdeal.τ).loc Cert.VgProjIdeal.main_arg1)
      ∧ r.2.mem ((c.tc : Thread Cert.VgProjIdeal.nD Cert.VgProjIdeal.τ).loc Cert.VgProjIdeal.main_arg2) = m ((c.tc : Thread Cert.VgProjIdeal.nD Cert.VgProjIdeal.τ).loc Cert.VgProjIdeal.main_arg2))
      ∧ r.2.sem = fun _ => 0)

def quiescent_VgRefIdeal [hVgRefIdeal : Cert.VgRefIdeal.Facts] : Prop :=
  ∀ (m : (ℓ : Loc Cert.VgRefIdeal.nD Cert.VgRefIdeal.τ Cert.VgRefIdeal.sig) → Buf (Elt Ideal) ℓ) (g : Dev Cert.VgRefIdeal.nD → PrngReg), Pre_VgRefIdeal m →
    θ_run (Cert.VgRefIdeal.defs (F := Ideal)) (onTc (τ := Cert.VgRefIdeal.τ) (Cert.VgRefIdeal.main (F := Ideal))) ⟨m, fun _ => 0, g⟩ (fun r => (∀ c : Dev Cert.VgRefIdeal.nD,
      r.2.mem ((c.tc : Thread Cert.VgRefIdeal.nD Cert.VgRefIdeal.τ).loc Cert.VgRefIdeal.main_arg0) = m ((c.tc : Thread Cert.VgRefIdeal.nD Cert.VgRefIdeal.τ).loc Cert.VgRefIdeal.main_arg0)
      ∧ r.2.mem ((c.tc : Thread Cert.VgRefIdeal.nD Cert.VgRefIdeal.τ).loc Cert.VgRefIdeal.main_arg1) = m ((c.tc : Thread Cert.VgRefIdeal.nD Cert.VgRefIdeal.τ).loc Cert.VgRefIdeal.main_arg1)
      ∧ r.2.mem ((c.tc : Thread Cert.VgRefIdeal.nD Cert.VgRefIdeal.τ).loc Cert.VgRefIdeal.main_arg2) = m ((c.tc : Thread Cert.VgRefIdeal.nD Cert.VgRefIdeal.τ).loc Cert.VgRefIdeal.main_arg2))
      ∧ r.2.sem = fun _ => 0)

def quiescent_RqkProj [hRqkProj : Cert.RqkProj.Facts] : Prop :=
  ∀ (m : (ℓ : Loc Cert.RqkProj.nD Cert.RqkProj.τ Cert.RqkProj.sig) → Buf (Elt Bits) ℓ) (g : Dev Cert.RqkProj.nD → PrngReg), Pre_RqkProj m →
    θ_run (Cert.RqkProj.defs (F := Bits)) (onTc (τ := Cert.RqkProj.τ) (Cert.RqkProj.main (F := Bits))) ⟨m, fun _ => 0, g⟩ (fun r => (∀ c : Dev Cert.RqkProj.nD,
      r.2.mem ((c.tc : Thread Cert.RqkProj.nD Cert.RqkProj.τ).loc Cert.RqkProj.main_arg0) = m ((c.tc : Thread Cert.RqkProj.nD Cert.RqkProj.τ).loc Cert.RqkProj.main_arg0)
      ∧ r.2.mem ((c.tc : Thread Cert.RqkProj.nD Cert.RqkProj.τ).loc Cert.RqkProj.main_arg1) = m ((c.tc : Thread Cert.RqkProj.nD Cert.RqkProj.τ).loc Cert.RqkProj.main_arg1)
      ∧ r.2.mem ((c.tc : Thread Cert.RqkProj.nD Cert.RqkProj.τ).loc Cert.RqkProj.main_arg2) = m ((c.tc : Thread Cert.RqkProj.nD Cert.RqkProj.τ).loc Cert.RqkProj.main_arg2))
      ∧ r.2.sem = fun _ => 0)

def quiescent_RqkProjIdeal [hRqkProjIdeal : Cert.RqkProjIdeal.Facts] : Prop :=
  ∀ (m : (ℓ : Loc Cert.RqkProjIdeal.nD Cert.RqkProjIdeal.τ Cert.RqkProjIdeal.sig) → Buf (Elt Ideal) ℓ) (g : Dev Cert.RqkProjIdeal.nD → PrngReg), Pre_RqkProjIdeal m →
    θ_run (Cert.RqkProjIdeal.defs (F := Ideal)) (onTc (τ := Cert.RqkProjIdeal.τ) (Cert.RqkProjIdeal.main (F := Ideal))) ⟨m, fun _ => 0, g⟩ (fun r => (∀ c : Dev Cert.RqkProjIdeal.nD,
      r.2.mem ((c.tc : Thread Cert.RqkProjIdeal.nD Cert.RqkProjIdeal.τ).loc Cert.RqkProjIdeal.main_arg0) = m ((c.tc : Thread Cert.RqkProjIdeal.nD Cert.RqkProjIdeal.τ).loc Cert.RqkProjIdeal.main_arg0)
      ∧ r.2.mem ((c.tc : Thread Cert.RqkProjIdeal.nD Cert.RqkProjIdeal.τ).loc Cert.RqkProjIdeal.main_arg1) = m ((c.tc : Thread Cert.RqkProjIdeal.nD Cert.RqkProjIdeal.τ).loc Cert.RqkProjIdeal.main_arg1)
      ∧ r.2.mem ((c.tc : Thread Cert.RqkProjIdeal.nD Cert.RqkProjIdeal.τ).loc Cert.RqkProjIdeal.main_arg2) = m ((c.tc : Thread Cert.RqkProjIdeal.nD Cert.RqkProjIdeal.τ).loc Cert.RqkProjIdeal.main_arg2))
      ∧ r.2.sem = fun _ => 0)

def quiescent_RqkRefIdeal [hRqkRefIdeal : Cert.RqkRefIdeal.Facts] : Prop :=
  ∀ (m : (ℓ : Loc Cert.RqkRefIdeal.nD Cert.RqkRefIdeal.τ Cert.RqkRefIdeal.sig) → Buf (Elt Ideal) ℓ) (g : Dev Cert.RqkRefIdeal.nD → PrngReg), Pre_RqkRefIdeal m →
    θ_run (Cert.RqkRefIdeal.defs (F := Ideal)) (onTc (τ := Cert.RqkRefIdeal.τ) (Cert.RqkRefIdeal.main (F := Ideal))) ⟨m, fun _ => 0, g⟩ (fun r => (∀ c : Dev Cert.RqkRefIdeal.nD,
      r.2.mem ((c.tc : Thread Cert.RqkRefIdeal.nD Cert.RqkRefIdeal.τ).loc Cert.RqkRefIdeal.main_arg0) = m ((c.tc : Thread Cert.RqkRefIdeal.nD Cert.RqkRefIdeal.τ).loc Cert.RqkRefIdeal.main_arg0)
      ∧ r.2.mem ((c.tc : Thread Cert.RqkRefIdeal.nD Cert.RqkRefIdeal.τ).loc Cert.RqkRefIdeal.main_arg1) = m ((c.tc : Thread Cert.RqkRefIdeal.nD Cert.RqkRefIdeal.τ).loc Cert.RqkRefIdeal.main_arg1)
      ∧ r.2.mem ((c.tc : Thread Cert.RqkRefIdeal.nD Cert.RqkRefIdeal.τ).loc Cert.RqkRefIdeal.main_arg2) = m ((c.tc : Thread Cert.RqkRefIdeal.nD Cert.RqkRefIdeal.τ).loc Cert.RqkRefIdeal.main_arg2))
      ∧ r.2.sem = fun _ => 0)

def quiescent_RwoProj [hRwoProj : Cert.RwoProj.Facts] : Prop :=
  ∀ (m : (ℓ : Loc Cert.RwoProj.nD Cert.RwoProj.τ Cert.RwoProj.sig) → Buf (Elt Bits) ℓ) (g : Dev Cert.RwoProj.nD → PrngReg), Pre_RwoProj m →
    θ_run (Cert.RwoProj.defs (F := Bits)) (onTc (τ := Cert.RwoProj.τ) (Cert.RwoProj.main (F := Bits))) ⟨m, fun _ => 0, g⟩ (fun r => (∀ c : Dev Cert.RwoProj.nD,
      r.2.mem ((c.tc : Thread Cert.RwoProj.nD Cert.RwoProj.τ).loc Cert.RwoProj.main_arg0) = m ((c.tc : Thread Cert.RwoProj.nD Cert.RwoProj.τ).loc Cert.RwoProj.main_arg0)
      ∧ r.2.mem ((c.tc : Thread Cert.RwoProj.nD Cert.RwoProj.τ).loc Cert.RwoProj.main_arg1) = m ((c.tc : Thread Cert.RwoProj.nD Cert.RwoProj.τ).loc Cert.RwoProj.main_arg1)
      ∧ r.2.mem ((c.tc : Thread Cert.RwoProj.nD Cert.RwoProj.τ).loc Cert.RwoProj.main_arg2) = m ((c.tc : Thread Cert.RwoProj.nD Cert.RwoProj.τ).loc Cert.RwoProj.main_arg2))
      ∧ r.2.sem = fun _ => 0)

def quiescent_RwoProjIdeal [hRwoProjIdeal : Cert.RwoProjIdeal.Facts] : Prop :=
  ∀ (m : (ℓ : Loc Cert.RwoProjIdeal.nD Cert.RwoProjIdeal.τ Cert.RwoProjIdeal.sig) → Buf (Elt Ideal) ℓ) (g : Dev Cert.RwoProjIdeal.nD → PrngReg), Pre_RwoProjIdeal m →
    θ_run (Cert.RwoProjIdeal.defs (F := Ideal)) (onTc (τ := Cert.RwoProjIdeal.τ) (Cert.RwoProjIdeal.main (F := Ideal))) ⟨m, fun _ => 0, g⟩ (fun r => (∀ c : Dev Cert.RwoProjIdeal.nD,
      r.2.mem ((c.tc : Thread Cert.RwoProjIdeal.nD Cert.RwoProjIdeal.τ).loc Cert.RwoProjIdeal.main_arg0) = m ((c.tc : Thread Cert.RwoProjIdeal.nD Cert.RwoProjIdeal.τ).loc Cert.RwoProjIdeal.main_arg0)
      ∧ r.2.mem ((c.tc : Thread Cert.RwoProjIdeal.nD Cert.RwoProjIdeal.τ).loc Cert.RwoProjIdeal.main_arg1) = m ((c.tc : Thread Cert.RwoProjIdeal.nD Cert.RwoProjIdeal.τ).loc Cert.RwoProjIdeal.main_arg1)
      ∧ r.2.mem ((c.tc : Thread Cert.RwoProjIdeal.nD Cert.RwoProjIdeal.τ).loc Cert.RwoProjIdeal.main_arg2) = m ((c.tc : Thread Cert.RwoProjIdeal.nD Cert.RwoProjIdeal.τ).loc Cert.RwoProjIdeal.main_arg2))
      ∧ r.2.sem = fun _ => 0)

def quiescent_RwoRefIdeal [hRwoRefIdeal : Cert.RwoRefIdeal.Facts] : Prop :=
  ∀ (m : (ℓ : Loc Cert.RwoRefIdeal.nD Cert.RwoRefIdeal.τ Cert.RwoRefIdeal.sig) → Buf (Elt Ideal) ℓ) (g : Dev Cert.RwoRefIdeal.nD → PrngReg), Pre_RwoRefIdeal m →
    θ_run (Cert.RwoRefIdeal.defs (F := Ideal)) (onTc (τ := Cert.RwoRefIdeal.τ) (Cert.RwoRefIdeal.main (F := Ideal))) ⟨m, fun _ => 0, g⟩ (fun r => (∀ c : Dev Cert.RwoRefIdeal.nD,
      r.2.mem ((c.tc : Thread Cert.RwoRefIdeal.nD Cert.RwoRefIdeal.τ).loc Cert.RwoRefIdeal.main_arg0) = m ((c.tc : Thread Cert.RwoRefIdeal.nD Cert.RwoRefIdeal.τ).loc Cert.RwoRefIdeal.main_arg0)
      ∧ r.2.mem ((c.tc : Thread Cert.RwoRefIdeal.nD Cert.RwoRefIdeal.τ).loc Cert.RwoRefIdeal.main_arg1) = m ((c.tc : Thread Cert.RwoRefIdeal.nD Cert.RwoRefIdeal.τ).loc Cert.RwoRefIdeal.main_arg1)
      ∧ r.2.mem ((c.tc : Thread Cert.RwoRefIdeal.nD Cert.RwoRefIdeal.τ).loc Cert.RwoRefIdeal.main_arg2) = m ((c.tc : Thread Cert.RwoRefIdeal.nD Cert.RwoRefIdeal.τ).loc Cert.RwoRefIdeal.main_arg2))
      ∧ r.2.sem = fun _ => 0)

def quiescent_SbAtt [hSbAtt : Cert.SbAtt.Facts] : Prop :=
  ∀ (m : (ℓ : Loc Cert.SbAtt.nD Cert.SbAtt.τ Cert.SbAtt.sig) → Buf (Elt Bits) ℓ) (g : Dev Cert.SbAtt.nD → PrngReg), Pre_SbAtt m →
    θ_run (Cert.SbAtt.defs (F := Bits)) (onTc (τ := Cert.SbAtt.τ) (Cert.SbAtt.main (F := Bits))) ⟨m, fun _ => 0, g⟩ (fun r => (∀ c : Dev Cert.SbAtt.nD,
      r.2.mem ((c.tc : Thread Cert.SbAtt.nD Cert.SbAtt.τ).loc Cert.SbAtt.main_arg0) = m ((c.tc : Thread Cert.SbAtt.nD Cert.SbAtt.τ).loc Cert.SbAtt.main_arg0)
      ∧ r.2.mem ((c.tc : Thread Cert.SbAtt.nD Cert.SbAtt.τ).loc Cert.SbAtt.main_arg1) = m ((c.tc : Thread Cert.SbAtt.nD Cert.SbAtt.τ).loc Cert.SbAtt.main_arg1)
      ∧ r.2.mem ((c.tc : Thread Cert.SbAtt.nD Cert.SbAtt.τ).loc Cert.SbAtt.main_arg2) = m ((c.tc : Thread Cert.SbAtt.nD Cert.SbAtt.τ).loc Cert.SbAtt.main_arg2))
      ∧ r.2.sem = fun _ => 0)

def quiescent_SbAttIdeal [hSbAttIdeal : Cert.SbAttIdeal.Facts] : Prop :=
  ∀ (m : (ℓ : Loc Cert.SbAttIdeal.nD Cert.SbAttIdeal.τ Cert.SbAttIdeal.sig) → Buf (Elt Ideal) ℓ) (g : Dev Cert.SbAttIdeal.nD → PrngReg), Pre_SbAttIdeal m →
    θ_run (Cert.SbAttIdeal.defs (F := Ideal)) (onTc (τ := Cert.SbAttIdeal.τ) (Cert.SbAttIdeal.main (F := Ideal))) ⟨m, fun _ => 0, g⟩ (fun r => (∀ c : Dev Cert.SbAttIdeal.nD,
      r.2.mem ((c.tc : Thread Cert.SbAttIdeal.nD Cert.SbAttIdeal.τ).loc Cert.SbAttIdeal.main_arg0) = m ((c.tc : Thread Cert.SbAttIdeal.nD Cert.SbAttIdeal.τ).loc Cert.SbAttIdeal.main_arg0)
      ∧ r.2.mem ((c.tc : Thread Cert.SbAttIdeal.nD Cert.SbAttIdeal.τ).loc Cert.SbAttIdeal.main_arg1) = m ((c.tc : Thread Cert.SbAttIdeal.nD Cert.SbAttIdeal.τ).loc Cert.SbAttIdeal.main_arg1)
      ∧ r.2.mem ((c.tc : Thread Cert.SbAttIdeal.nD Cert.SbAttIdeal.τ).loc Cert.SbAttIdeal.main_arg2) = m ((c.tc : Thread Cert.SbAttIdeal.nD Cert.SbAttIdeal.τ).loc Cert.SbAttIdeal.main_arg2))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2))
      ∧ r.2.sem = fun _ => 0)

def quiescent_RetS [hRetS : Cert.RetS.Facts] : Prop :=
  ∀ (m : (ℓ : Loc Cert.RetS.nD Cert.RetS.τ Cert.RetS.sig) → Buf (Elt Bits) ℓ) (g : Dev Cert.RetS.nD → PrngReg), Pre_RetS m →
    θ_run (Cert.RetS.defs (F := Bits)) (onTc (τ := Cert.RetS.τ) (Cert.RetS.main (F := Bits))) ⟨m, fun _ => 0, g⟩ (fun r => (∀ c : Dev Cert.RetS.nD,
      r.2.mem ((c.tc : Thread Cert.RetS.nD Cert.RetS.τ).loc Cert.RetS.main_arg0) = m ((c.tc : Thread Cert.RetS.nD Cert.RetS.τ).loc Cert.RetS.main_arg0)
      ∧ r.2.mem ((c.tc : Thread Cert.RetS.nD Cert.RetS.τ).loc Cert.RetS.main_arg1) = m ((c.tc : Thread Cert.RetS.nD Cert.RetS.τ).loc Cert.RetS.main_arg1)
      ∧ r.2.mem ((c.tc : Thread Cert.RetS.nD Cert.RetS.τ).loc Cert.RetS.main_arg2) = m ((c.tc : Thread Cert.RetS.nD Cert.RetS.τ).loc Cert.RetS.main_arg2)
      ∧ r.2.mem ((c.tc : Thread Cert.RetS.nD Cert.RetS.τ).loc Cert.RetS.main_arg3) = m ((c.tc : Thread Cert.RetS.nD Cert.RetS.τ).loc Cert.RetS.main_arg3))
      ∧ r.2.sem = fun _ => 0)

def quiescent_RetSIdeal [hRetSIdeal : Cert.RetSIdeal.Facts] : Prop :=
  ∀ (m : (ℓ : Loc Cert.RetSIdeal.nD Cert.RetSIdeal.τ Cert.RetSIdeal.sig) → Buf (Elt Ideal) ℓ) (g : Dev Cert.RetSIdeal.nD → PrngReg), Pre_RetSIdeal m →
    θ_run (Cert.RetSIdeal.defs (F := Ideal)) (onTc (τ := Cert.RetSIdeal.τ) (Cert.RetSIdeal.main (F := Ideal))) ⟨m, fun _ => 0, g⟩ (fun r => (∀ c : Dev Cert.RetSIdeal.nD,
      r.2.mem ((c.tc : Thread Cert.RetSIdeal.nD Cert.RetSIdeal.τ).loc Cert.RetSIdeal.main_arg0) = m ((c.tc : Thread Cert.RetSIdeal.nD Cert.RetSIdeal.τ).loc Cert.RetSIdeal.main_arg0)
      ∧ r.2.mem ((c.tc : Thread Cert.RetSIdeal.nD Cert.RetSIdeal.τ).loc Cert.RetSIdeal.main_arg1) = m ((c.tc : Thread Cert.RetSIdeal.nD Cert.RetSIdeal.τ).loc Cert.RetSIdeal.main_arg1)
      ∧ r.2.mem ((c.tc : Thread Cert.RetSIdeal.nD Cert.RetSIdeal.τ).loc Cert.RetSIdeal.main_arg2) = m ((c.tc : Thread Cert.RetSIdeal.nD Cert.RetSIdeal.τ).loc Cert.RetSIdeal.main_arg2)
      ∧ r.2.mem ((c.tc : Thread Cert.RetSIdeal.nD Cert.RetSIdeal.τ).loc Cert.RetSIdeal.main_arg3) = m ((c.tc : Thread Cert.RetSIdeal.nD Cert.RetSIdeal.τ).loc Cert.RetSIdeal.main_arg3))
      ∧ r.2.sem = fun _ => 0)

def quiescent_RetSRefIdeal [hRetSRefIdeal : Cert.RetSRefIdeal.Facts] : Prop :=
  ∀ (m : (ℓ : Loc Cert.RetSRefIdeal.nD Cert.RetSRefIdeal.τ Cert.RetSRefIdeal.sig) → Buf (Elt Ideal) ℓ) (g : Dev Cert.RetSRefIdeal.nD → PrngReg), Pre_RetSRefIdeal m →
    θ_run (Cert.RetSRefIdeal.defs (F := Ideal)) (onTc (τ := Cert.RetSRefIdeal.τ) (Cert.RetSRefIdeal.main (F := Ideal))) ⟨m, fun _ => 0, g⟩ (fun r => (∀ c : Dev Cert.RetSRefIdeal.nD,
      r.2.mem ((c.tc : Thread Cert.RetSRefIdeal.nD Cert.RetSRefIdeal.τ).loc Cert.RetSRefIdeal.main_arg0) = m ((c.tc : Thread Cert.RetSRefIdeal.nD Cert.RetSRefIdeal.τ).loc Cert.RetSRefIdeal.main_arg0)
      ∧ r.2.mem ((c.tc : Thread Cert.RetSRefIdeal.nD Cert.RetSRefIdeal.τ).loc Cert.RetSRefIdeal.main_arg1) = m ((c.tc : Thread Cert.RetSRefIdeal.nD Cert.RetSRefIdeal.τ).loc Cert.RetSRefIdeal.main_arg1)
      ∧ r.2.mem ((c.tc : Thread Cert.RetSRefIdeal.nD Cert.RetSRefIdeal.τ).loc Cert.RetSRefIdeal.main_arg2) = m ((c.tc : Thread Cert.RetSRefIdeal.nD Cert.RetSRefIdeal.τ).loc Cert.RetSRefIdeal.main_arg2)
      ∧ r.2.mem ((c.tc : Thread Cert.RetSRefIdeal.nD Cert.RetSRefIdeal.τ).loc Cert.RetSRefIdeal.main_arg3) = m ((c.tc : Thread Cert.RetSRefIdeal.nD Cert.RetSRefIdeal.τ).loc Cert.RetSRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v59_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_VProj_VProjIdeal : Prop :=
  True

def algebraic_VProjIdeal_VRefIdeal [hVProjIdeal : Cert.VProjIdeal.Facts] [hVRefIdeal : Cert.VRefIdeal.Facts] : Prop :=
  ∀ (m : (ℓ : Loc Cert.VProjIdeal.nD Cert.VProjIdeal.τ Cert.VProjIdeal.sig) → Buf (Elt Ideal) ℓ) (g : Dev Cert.VProjIdeal.nD → PrngReg)
    (m' : (ℓ : Loc Cert.VRefIdeal.nD Cert.VRefIdeal.τ Cert.VRefIdeal.sig) → Buf (Elt Ideal) ℓ) (g' : Dev Cert.VRefIdeal.nD → PrngReg), Pre_VProjIdeal m →
    (∀ c : Dev Cert.VProjIdeal.nD,
      m' ((c.tc : Thread Cert.VRefIdeal.nD Cert.VRefIdeal.τ).loc Cert.VRefIdeal.main_arg0) = m ((c.tc : Thread Cert.VProjIdeal.nD Cert.VProjIdeal.τ).loc Cert.VProjIdeal.main_arg0)
      ∧ m' ((c.tc : Thread Cert.VRefIdeal.nD Cert.VRefIdeal.τ).loc Cert.VRefIdeal.main_arg1) = m ((c.tc : Thread Cert.VProjIdeal.nD Cert.VProjIdeal.τ).loc Cert.VProjIdeal.main_arg1)
      ∧ m' ((c.tc : Thread Cert.VRefIdeal.nD Cert.VRefIdeal.τ).loc Cert.VRefIdeal.main_arg2) = m ((c.tc : Thread Cert.VProjIdeal.nD Cert.VProjIdeal.τ).loc Cert.VProjIdeal.main_arg2)
      ∧ m' ((c.tc : Thread Cert.VRefIdeal.nD Cert.VRefIdeal.τ).loc Cert.VRefIdeal.main_arg3) = m ((c.tc : Thread Cert.VProjIdeal.nD Cert.VProjIdeal.τ).loc Cert.VProjIdeal.main_arg3)) →
    ∃ (v0 : (c : Dev Cert.VProjIdeal.nD) → Buf (Elt Ideal) ((c.tc : Thread Cert.VProjIdeal.nD Cert.VProjIdeal.τ).loc Cert.VProjIdeal.main_v9)),
      θ_run (Cert.VProjIdeal.defs (F := Ideal)) (onTc (τ := Cert.VProjIdeal.τ) (Cert.VProjIdeal.main (F := Ideal))) ⟨m, fun _ => 0, g⟩ (fun r => ∀ c : Dev Cert.VProjIdeal.nD,
          r.2.mem ((c.tc : Thread Cert.VProjIdeal.nD Cert.VProjIdeal.τ).loc Cert.VProjIdeal.main_v9) = v0 c
          ∧ r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
          ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1)
          ∧ r.2.mem ((c.tc : Thread Cert.VProjIdeal.nD Cert.VProjIdeal.τ).loc Cert.VProjIdeal.main_arg2) = m ((c.tc : Thread Cert.VProjIdeal.nD Cert.VProjIdeal.τ).loc Cert.VProjIdeal.main_arg2)
          ∧ r.2.mem ((c.tc : Thread Cert.VProjIdeal.nD Cert.VProjIdeal.τ).loc Cert.VProjIdeal.main_arg3) = m ((c.tc : Thread Cert.VProjIdeal.nD Cert.VProjIdeal.τ).loc Cert.VProjIdeal.main_arg3))
      ∧ θ_run (Cert.VRefIdeal.defs (F := Ideal)) (onTc (τ := Cert.VRefIdeal.τ) (Cert.VRefIdeal.main (F := Ideal))) ⟨m', fun _ => 0, g'⟩ (fun r => ∀ c : Dev Cert.VRefIdeal.nD,
          r.2.mem ((c.tc : Thread Cert.VRefIdeal.nD Cert.VRefIdeal.τ).loc Cert.VRefIdeal.main_v38) = v0 c
          ∧ r.2.mem ((c.tc : Thread Cert.VRefIdeal.nD Cert.VRefIdeal.τ).loc Cert.VRefIdeal.main_arg0) = m' ((c.tc : Thread Cert.VRefIdeal.nD Cert.VRefIdeal.τ).loc Cert.VRefIdeal.main_arg0)
          ∧ r.2.mem ((c.tc : Thread Cert.VRefIdeal.nD Cert.VRefIdeal.τ).loc Cert.VRefIdeal.main_arg1) = m' ((c.tc : Thread Cert.VRefIdeal.nD Cert.VRefIdeal.τ).loc Cert.VRefIdeal.main_arg1)
          ∧ r.2.mem ((c.tc : Thread Cert.VRefIdeal.nD Cert.VRefIdeal.τ).loc Cert.VRefIdeal.main_arg2) = m' ((c.tc : Thread Cert.VRefIdeal.nD Cert.VRefIdeal.τ).loc Cert.VRefIdeal.main_arg2)
          ∧ r.2.mem ((c.tc : Thread Cert.VRefIdeal.nD Cert.VRefIdeal.τ).loc Cert.VRefIdeal.main_arg3) = m' ((c.tc : Thread Cert.VRefIdeal.nD Cert.VRefIdeal.τ).loc Cert.VRefIdeal.main_arg3))

def preserves_QkProj_QkProjIdeal : Prop :=
  True

def algebraic_QkProjIdeal_QkRefIdeal [hQkProjIdeal : Cert.QkProjIdeal.Facts] [hQkRefIdeal : Cert.QkRefIdeal.Facts] : Prop :=
  ∀ (m : (ℓ : Loc Cert.QkProjIdeal.nD Cert.QkProjIdeal.τ Cert.QkProjIdeal.sig) → Buf (Elt Ideal) ℓ) (g : Dev Cert.QkProjIdeal.nD → PrngReg)
    (m' : (ℓ : Loc Cert.QkRefIdeal.nD Cert.QkRefIdeal.τ Cert.QkRefIdeal.sig) → Buf (Elt Ideal) ℓ) (g' : Dev Cert.QkRefIdeal.nD → PrngReg), Pre_QkProjIdeal m →
    (∀ c : Dev Cert.QkProjIdeal.nD,
      m' ((c.tc : Thread Cert.QkRefIdeal.nD Cert.QkRefIdeal.τ).loc Cert.QkRefIdeal.main_arg0) = m ((c.tc : Thread Cert.QkProjIdeal.nD Cert.QkProjIdeal.τ).loc Cert.QkProjIdeal.main_arg0)
      ∧ m' ((c.tc : Thread Cert.QkRefIdeal.nD Cert.QkRefIdeal.τ).loc Cert.QkRefIdeal.main_arg1) = m ((c.tc : Thread Cert.QkProjIdeal.nD Cert.QkProjIdeal.τ).loc Cert.QkProjIdeal.main_arg1)
      ∧ m' ((c.tc : Thread Cert.QkRefIdeal.nD Cert.QkRefIdeal.τ).loc Cert.QkRefIdeal.main_arg2) = m ((c.tc : Thread Cert.QkProjIdeal.nD Cert.QkProjIdeal.τ).loc Cert.QkProjIdeal.main_arg2)
      ∧ m' ((c.tc : Thread Cert.QkRefIdeal.nD Cert.QkRefIdeal.τ).loc Cert.QkRefIdeal.main_arg3) = m ((c.tc : Thread Cert.QkProjIdeal.nD Cert.QkProjIdeal.τ).loc Cert.QkProjIdeal.main_arg3)
      ∧ m' ((c.tc : Thread Cert.QkRefIdeal.nD Cert.QkRefIdeal.τ).loc Cert.QkRefIdeal.main_arg4) = m ((c.tc : Thread Cert.QkProjIdeal.nD Cert.QkProjIdeal.τ).loc Cert.QkProjIdeal.main_arg4)
      ∧ m' ((c.tc : Thread Cert.QkRefIdeal.nD Cert.QkRefIdeal.τ).loc Cert.QkRefIdeal.main_arg5) = m ((c.tc : Thread Cert.QkProjIdeal.nD Cert.QkProjIdeal.τ).loc Cert.QkProjIdeal.main_arg5)) →
    ∃ (v0 : (c : Dev Cert.QkProjIdeal.nD) → Buf (Elt Ideal) ((c.tc : Thread Cert.QkProjIdeal.nD Cert.QkProjIdeal.τ).loc Cert.QkProjIdeal.main_v19)),
      θ_run (Cert.QkProjIdeal.defs (F := Ideal)) (onTc (τ := Cert.QkProjIdeal.τ) (Cert.QkProjIdeal.main (F := Ideal))) ⟨m, fun _ => 0, g⟩ (fun r => ∀ c : Dev Cert.QkProjIdeal.nD,
          r.2.mem ((c.tc : Thread Cert.QkProjIdeal.nD Cert.QkProjIdeal.τ).loc Cert.QkProjIdeal.main_v19) = v0 c
          ∧ r.2.mem ((c.tc : Thread Cert.QkProjIdeal.nD Cert.QkProjIdeal.τ).loc Cert.QkProjIdeal.main_arg0) = m ((c.tc : Thread Cert.QkProjIdeal.nD Cert.QkProjIdeal.τ).loc Cert.QkProjIdeal.main_arg0)
          ∧ r.2.mem ((c.tc : Thread Cert.QkProjIdeal.nD Cert.QkProjIdeal.τ).loc Cert.QkProjIdeal.main_arg1) = m ((c.tc : Thread Cert.QkProjIdeal.nD Cert.QkProjIdeal.τ).loc Cert.QkProjIdeal.main_arg1)
          ∧ r.2.mem ((c.tc : Thread Cert.QkProjIdeal.nD Cert.QkProjIdeal.τ).loc Cert.QkProjIdeal.main_arg2) = m ((c.tc : Thread Cert.QkProjIdeal.nD Cert.QkProjIdeal.τ).loc Cert.QkProjIdeal.main_arg2)
          ∧ r.2.mem ((c.tc : Thread Cert.QkProjIdeal.nD Cert.QkProjIdeal.τ).loc Cert.QkProjIdeal.main_arg3) = m ((c.tc : Thread Cert.QkProjIdeal.nD Cert.QkProjIdeal.τ).loc Cert.QkProjIdeal.main_arg3)
          ∧ r.2.mem ((c.tc : Thread Cert.QkProjIdeal.nD Cert.QkProjIdeal.τ).loc Cert.QkProjIdeal.main_arg4) = m ((c.tc : Thread Cert.QkProjIdeal.nD Cert.QkProjIdeal.τ).loc Cert.QkProjIdeal.main_arg4)
          ∧ r.2.mem ((c.tc : Thread Cert.QkProjIdeal.nD Cert.QkProjIdeal.τ).loc Cert.QkProjIdeal.main_arg5) = m ((c.tc : Thread Cert.QkProjIdeal.nD Cert.QkProjIdeal.τ).loc Cert.QkProjIdeal.main_arg5))
      ∧ θ_run (Cert.QkRefIdeal.defs (F := Ideal)) (onTc (τ := Cert.QkRefIdeal.τ) (Cert.QkRefIdeal.main (F := Ideal))) ⟨m', fun _ => 0, g'⟩ (fun r => ∀ c : Dev Cert.QkRefIdeal.nD,
          r.2.mem ((c.tc : Thread Cert.QkRefIdeal.nD Cert.QkRefIdeal.τ).loc Cert.QkRefIdeal.main_v108) = v0 c
          ∧ r.2.mem ((c.tc : Thread Cert.QkRefIdeal.nD Cert.QkRefIdeal.τ).loc Cert.QkRefIdeal.main_arg0) = m' ((c.tc : Thread Cert.QkRefIdeal.nD Cert.QkRefIdeal.τ).loc Cert.QkRefIdeal.main_arg0)
          ∧ r.2.mem ((c.tc : Thread Cert.QkRefIdeal.nD Cert.QkRefIdeal.τ).loc Cert.QkRefIdeal.main_arg1) = m' ((c.tc : Thread Cert.QkRefIdeal.nD Cert.QkRefIdeal.τ).loc Cert.QkRefIdeal.main_arg1)
          ∧ r.2.mem ((c.tc : Thread Cert.QkRefIdeal.nD Cert.QkRefIdeal.τ).loc Cert.QkRefIdeal.main_arg2) = m' ((c.tc : Thread Cert.QkRefIdeal.nD Cert.QkRefIdeal.τ).loc Cert.QkRefIdeal.main_arg2)
          ∧ r.2.mem ((c.tc : Thread Cert.QkRefIdeal.nD Cert.QkRefIdeal.τ).loc Cert.QkRefIdeal.main_arg3) = m' ((c.tc : Thread Cert.QkRefIdeal.nD Cert.QkRefIdeal.τ).loc Cert.QkRefIdeal.main_arg3)
          ∧ r.2.mem ((c.tc : Thread Cert.QkRefIdeal.nD Cert.QkRefIdeal.τ).loc Cert.QkRefIdeal.main_arg4) = m' ((c.tc : Thread Cert.QkRefIdeal.nD Cert.QkRefIdeal.τ).loc Cert.QkRefIdeal.main_arg4)
          ∧ r.2.mem ((c.tc : Thread Cert.QkRefIdeal.nD Cert.QkRefIdeal.τ).loc Cert.QkRefIdeal.main_arg5) = m' ((c.tc : Thread Cert.QkRefIdeal.nD Cert.QkRefIdeal.τ).loc Cert.QkRefIdeal.main_arg5))

def preserves_WoProj_WoProjIdeal : Prop :=
  True

def algebraic_WoProjIdeal_WoRefIdeal [hWoProjIdeal : Cert.WoProjIdeal.Facts] [hWoRefIdeal : Cert.WoRefIdeal.Facts] : Prop :=
  ∀ (m : (ℓ : Loc Cert.WoProjIdeal.nD Cert.WoProjIdeal.τ Cert.WoProjIdeal.sig) → Buf (Elt Ideal) ℓ) (g : Dev Cert.WoProjIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoProjIdeal m →
    (∀ c : Dev Cert.WoProjIdeal.nD,
      m' ((c.tc : Thread Cert.WoRefIdeal.nD Cert.WoRefIdeal.τ).loc Cert.WoRefIdeal.main_arg0) = m ((c.tc : Thread Cert.WoProjIdeal.nD Cert.WoProjIdeal.τ).loc Cert.WoProjIdeal.main_arg0)
      ∧ m' ((c.tc : Thread Cert.WoRefIdeal.nD Cert.WoRefIdeal.τ).loc Cert.WoRefIdeal.main_arg1) = m ((c.tc : Thread Cert.WoProjIdeal.nD Cert.WoProjIdeal.τ).loc Cert.WoProjIdeal.main_arg1)
      ∧ m' ((c.tc : Thread Cert.WoRefIdeal.nD Cert.WoRefIdeal.τ).loc Cert.WoRefIdeal.main_arg2) = m ((c.tc : Thread Cert.WoProjIdeal.nD Cert.WoProjIdeal.τ).loc Cert.WoProjIdeal.main_arg2)) →
    ∃ (v0 : (c : Dev Cert.WoProjIdeal.nD) → Buf (Elt Ideal) ((c.tc : Thread Cert.WoProjIdeal.nD Cert.WoProjIdeal.τ).loc Cert.WoProjIdeal.main_v2)),
      θ_run (Cert.WoProjIdeal.defs (F := Ideal)) (onTc (τ := Cert.WoProjIdeal.τ) (Cert.WoProjIdeal.main (F := Ideal))) ⟨m, fun _ => 0, g⟩ (fun r => ∀ c : Dev Cert.WoProjIdeal.nD,
          r.2.mem ((c.tc : Thread Cert.WoProjIdeal.nD Cert.WoProjIdeal.τ).loc Cert.WoProjIdeal.main_v2) = v0 c
          ∧ r.2.mem ((c.tc : Thread Cert.WoProjIdeal.nD Cert.WoProjIdeal.τ).loc Cert.WoProjIdeal.main_arg0) = m ((c.tc : Thread Cert.WoProjIdeal.nD Cert.WoProjIdeal.τ).loc Cert.WoProjIdeal.main_arg0)
          ∧ r.2.mem ((c.tc : Thread Cert.WoProjIdeal.nD Cert.WoProjIdeal.τ).loc Cert.WoProjIdeal.main_arg1) = m ((c.tc : Thread Cert.WoProjIdeal.nD Cert.WoProjIdeal.τ).loc Cert.WoProjIdeal.main_arg1)
          ∧ r.2.mem ((c.tc : Thread Cert.WoProjIdeal.nD Cert.WoProjIdeal.τ).loc Cert.WoProjIdeal.main_arg2) = m ((c.tc : Thread Cert.WoProjIdeal.nD Cert.WoProjIdeal.τ).loc Cert.WoProjIdeal.main_arg2))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v2) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1)
          ∧ r.2.mem ((c.tc : Thread Cert.WoRefIdeal.nD Cert.WoRefIdeal.τ).loc Cert.WoRefIdeal.main_arg2) = m' ((c.tc : Thread Cert.WoRefIdeal.nD Cert.WoRefIdeal.τ).loc Cert.WoRefIdeal.main_arg2))

def preserves_VgProj_VgProjIdeal : Prop :=
  True

def algebraic_VgProjIdeal_VgRefIdeal [hVgProjIdeal : Cert.VgProjIdeal.Facts] [hVgRefIdeal : Cert.VgRefIdeal.Facts] : Prop :=
  ∀ (m : (ℓ : Loc Cert.VgProjIdeal.nD Cert.VgProjIdeal.τ Cert.VgProjIdeal.sig) → Buf (Elt Ideal) ℓ) (g : Dev Cert.VgProjIdeal.nD → PrngReg)
    (m' : (ℓ : Loc Cert.VgRefIdeal.nD Cert.VgRefIdeal.τ Cert.VgRefIdeal.sig) → Buf (Elt Ideal) ℓ) (g' : Dev Cert.VgRefIdeal.nD → PrngReg), Pre_VgProjIdeal m →
    (∀ c : Dev Cert.VgProjIdeal.nD,
      m' ((c.tc : Thread Cert.VgRefIdeal.nD Cert.VgRefIdeal.τ).loc Cert.VgRefIdeal.main_arg0) = m ((c.tc : Thread Cert.VgProjIdeal.nD Cert.VgProjIdeal.τ).loc Cert.VgProjIdeal.main_arg0)
      ∧ m' ((c.tc : Thread Cert.VgRefIdeal.nD Cert.VgRefIdeal.τ).loc Cert.VgRefIdeal.main_arg1) = m ((c.tc : Thread Cert.VgProjIdeal.nD Cert.VgProjIdeal.τ).loc Cert.VgProjIdeal.main_arg1)
      ∧ m' ((c.tc : Thread Cert.VgRefIdeal.nD Cert.VgRefIdeal.τ).loc Cert.VgRefIdeal.main_arg2) = m ((c.tc : Thread Cert.VgProjIdeal.nD Cert.VgProjIdeal.τ).loc Cert.VgProjIdeal.main_arg2)) →
    ∃ (v0 : (c : Dev Cert.VgProjIdeal.nD) → Buf (Elt Ideal) ((c.tc : Thread Cert.VgProjIdeal.nD Cert.VgProjIdeal.τ).loc Cert.VgProjIdeal.main_v6)),
      θ_run (Cert.VgProjIdeal.defs (F := Ideal)) (onTc (τ := Cert.VgProjIdeal.τ) (Cert.VgProjIdeal.main (F := Ideal))) ⟨m, fun _ => 0, g⟩ (fun r => ∀ c : Dev Cert.VgProjIdeal.nD,
          r.2.mem ((c.tc : Thread Cert.VgProjIdeal.nD Cert.VgProjIdeal.τ).loc Cert.VgProjIdeal.main_v6) = v0 c
          ∧ r.2.mem ((c.tc : Thread Cert.VgProjIdeal.nD Cert.VgProjIdeal.τ).loc Cert.VgProjIdeal.main_arg0) = m ((c.tc : Thread Cert.VgProjIdeal.nD Cert.VgProjIdeal.τ).loc Cert.VgProjIdeal.main_arg0)
          ∧ r.2.mem ((c.tc : Thread Cert.VgProjIdeal.nD Cert.VgProjIdeal.τ).loc Cert.VgProjIdeal.main_arg1) = m ((c.tc : Thread Cert.VgProjIdeal.nD Cert.VgProjIdeal.τ).loc Cert.VgProjIdeal.main_arg1)
          ∧ r.2.mem ((c.tc : Thread Cert.VgProjIdeal.nD Cert.VgProjIdeal.τ).loc Cert.VgProjIdeal.main_arg2) = m ((c.tc : Thread Cert.VgProjIdeal.nD Cert.VgProjIdeal.τ).loc Cert.VgProjIdeal.main_arg2))
      ∧ θ_run (Cert.VgRefIdeal.defs (F := Ideal)) (onTc (τ := Cert.VgRefIdeal.τ) (Cert.VgRefIdeal.main (F := Ideal))) ⟨m', fun _ => 0, g'⟩ (fun r => ∀ c : Dev Cert.VgRefIdeal.nD,
          r.2.mem ((c.tc : Thread Cert.VgRefIdeal.nD Cert.VgRefIdeal.τ).loc Cert.VgRefIdeal.main_v17) = v0 c
          ∧ r.2.mem ((c.tc : Thread Cert.VgRefIdeal.nD Cert.VgRefIdeal.τ).loc Cert.VgRefIdeal.main_arg0) = m' ((c.tc : Thread Cert.VgRefIdeal.nD Cert.VgRefIdeal.τ).loc Cert.VgRefIdeal.main_arg0)
          ∧ r.2.mem ((c.tc : Thread Cert.VgRefIdeal.nD Cert.VgRefIdeal.τ).loc Cert.VgRefIdeal.main_arg1) = m' ((c.tc : Thread Cert.VgRefIdeal.nD Cert.VgRefIdeal.τ).loc Cert.VgRefIdeal.main_arg1)
          ∧ r.2.mem ((c.tc : Thread Cert.VgRefIdeal.nD Cert.VgRefIdeal.τ).loc Cert.VgRefIdeal.main_arg2) = m' ((c.tc : Thread Cert.VgRefIdeal.nD Cert.VgRefIdeal.τ).loc Cert.VgRefIdeal.main_arg2))

def preserves_RqkProj_RqkProjIdeal : Prop :=
  True

def algebraic_RqkProjIdeal_RqkRefIdeal [hRqkProjIdeal : Cert.RqkProjIdeal.Facts] [hRqkRefIdeal : Cert.RqkRefIdeal.Facts] : Prop :=
  ∀ (m : (ℓ : Loc Cert.RqkProjIdeal.nD Cert.RqkProjIdeal.τ Cert.RqkProjIdeal.sig) → Buf (Elt Ideal) ℓ) (g : Dev Cert.RqkProjIdeal.nD → PrngReg)
    (m' : (ℓ : Loc Cert.RqkRefIdeal.nD Cert.RqkRefIdeal.τ Cert.RqkRefIdeal.sig) → Buf (Elt Ideal) ℓ) (g' : Dev Cert.RqkRefIdeal.nD → PrngReg), Pre_RqkProjIdeal m →
    (∀ c : Dev Cert.RqkProjIdeal.nD,
      m' ((c.tc : Thread Cert.RqkRefIdeal.nD Cert.RqkRefIdeal.τ).loc Cert.RqkRefIdeal.main_arg0) = m ((c.tc : Thread Cert.RqkProjIdeal.nD Cert.RqkProjIdeal.τ).loc Cert.RqkProjIdeal.main_arg0)
      ∧ m' ((c.tc : Thread Cert.RqkRefIdeal.nD Cert.RqkRefIdeal.τ).loc Cert.RqkRefIdeal.main_arg1) = m ((c.tc : Thread Cert.RqkProjIdeal.nD Cert.RqkProjIdeal.τ).loc Cert.RqkProjIdeal.main_arg1)
      ∧ m' ((c.tc : Thread Cert.RqkRefIdeal.nD Cert.RqkRefIdeal.τ).loc Cert.RqkRefIdeal.main_arg2) = m ((c.tc : Thread Cert.RqkProjIdeal.nD Cert.RqkProjIdeal.τ).loc Cert.RqkProjIdeal.main_arg2)) →
    ∃ (v0 : (c : Dev Cert.RqkProjIdeal.nD) → Buf (Elt Ideal) ((c.tc : Thread Cert.RqkProjIdeal.nD Cert.RqkProjIdeal.τ).loc Cert.RqkProjIdeal.main_v31)),
      θ_run (Cert.RqkProjIdeal.defs (F := Ideal)) (onTc (τ := Cert.RqkProjIdeal.τ) (Cert.RqkProjIdeal.main (F := Ideal))) ⟨m, fun _ => 0, g⟩ (fun r => ∀ c : Dev Cert.RqkProjIdeal.nD,
          r.2.mem ((c.tc : Thread Cert.RqkProjIdeal.nD Cert.RqkProjIdeal.τ).loc Cert.RqkProjIdeal.main_v31) = v0 c
          ∧ r.2.mem ((c.tc : Thread Cert.RqkProjIdeal.nD Cert.RqkProjIdeal.τ).loc Cert.RqkProjIdeal.main_arg0) = m ((c.tc : Thread Cert.RqkProjIdeal.nD Cert.RqkProjIdeal.τ).loc Cert.RqkProjIdeal.main_arg0)
          ∧ r.2.mem ((c.tc : Thread Cert.RqkProjIdeal.nD Cert.RqkProjIdeal.τ).loc Cert.RqkProjIdeal.main_arg1) = m ((c.tc : Thread Cert.RqkProjIdeal.nD Cert.RqkProjIdeal.τ).loc Cert.RqkProjIdeal.main_arg1)
          ∧ r.2.mem ((c.tc : Thread Cert.RqkProjIdeal.nD Cert.RqkProjIdeal.τ).loc Cert.RqkProjIdeal.main_arg2) = m ((c.tc : Thread Cert.RqkProjIdeal.nD Cert.RqkProjIdeal.τ).loc Cert.RqkProjIdeal.main_arg2))
      ∧ θ_run (Cert.RqkRefIdeal.defs (F := Ideal)) (onTc (τ := Cert.RqkRefIdeal.τ) (Cert.RqkRefIdeal.main (F := Ideal))) ⟨m', fun _ => 0, g'⟩ (fun r => ∀ c : Dev Cert.RqkRefIdeal.nD,
          r.2.mem ((c.tc : Thread Cert.RqkRefIdeal.nD Cert.RqkRefIdeal.τ).loc Cert.RqkRefIdeal.main_v178) = v0 c
          ∧ r.2.mem ((c.tc : Thread Cert.RqkRefIdeal.nD Cert.RqkRefIdeal.τ).loc Cert.RqkRefIdeal.main_arg0) = m' ((c.tc : Thread Cert.RqkRefIdeal.nD Cert.RqkRefIdeal.τ).loc Cert.RqkRefIdeal.main_arg0)
          ∧ r.2.mem ((c.tc : Thread Cert.RqkRefIdeal.nD Cert.RqkRefIdeal.τ).loc Cert.RqkRefIdeal.main_arg1) = m' ((c.tc : Thread Cert.RqkRefIdeal.nD Cert.RqkRefIdeal.τ).loc Cert.RqkRefIdeal.main_arg1)
          ∧ r.2.mem ((c.tc : Thread Cert.RqkRefIdeal.nD Cert.RqkRefIdeal.τ).loc Cert.RqkRefIdeal.main_arg2) = m' ((c.tc : Thread Cert.RqkRefIdeal.nD Cert.RqkRefIdeal.τ).loc Cert.RqkRefIdeal.main_arg2))

def preserves_RwoProj_RwoProjIdeal : Prop :=
  True

def algebraic_RwoProjIdeal_RwoRefIdeal [hRwoProjIdeal : Cert.RwoProjIdeal.Facts] [hRwoRefIdeal : Cert.RwoRefIdeal.Facts] : Prop :=
  ∀ (m : (ℓ : Loc Cert.RwoProjIdeal.nD Cert.RwoProjIdeal.τ Cert.RwoProjIdeal.sig) → Buf (Elt Ideal) ℓ) (g : Dev Cert.RwoProjIdeal.nD → PrngReg)
    (m' : (ℓ : Loc Cert.RwoRefIdeal.nD Cert.RwoRefIdeal.τ Cert.RwoRefIdeal.sig) → Buf (Elt Ideal) ℓ) (g' : Dev Cert.RwoRefIdeal.nD → PrngReg), Pre_RwoProjIdeal m →
    (∀ c : Dev Cert.RwoProjIdeal.nD,
      m' ((c.tc : Thread Cert.RwoRefIdeal.nD Cert.RwoRefIdeal.τ).loc Cert.RwoRefIdeal.main_arg0) = m ((c.tc : Thread Cert.RwoProjIdeal.nD Cert.RwoProjIdeal.τ).loc Cert.RwoProjIdeal.main_arg0)
      ∧ m' ((c.tc : Thread Cert.RwoRefIdeal.nD Cert.RwoRefIdeal.τ).loc Cert.RwoRefIdeal.main_arg1) = m ((c.tc : Thread Cert.RwoProjIdeal.nD Cert.RwoProjIdeal.τ).loc Cert.RwoProjIdeal.main_arg1)
      ∧ m' ((c.tc : Thread Cert.RwoRefIdeal.nD Cert.RwoRefIdeal.τ).loc Cert.RwoRefIdeal.main_arg2) = m ((c.tc : Thread Cert.RwoProjIdeal.nD Cert.RwoProjIdeal.τ).loc Cert.RwoProjIdeal.main_arg2)) →
    ∃ (v0 : (c : Dev Cert.RwoProjIdeal.nD) → Buf (Elt Ideal) ((c.tc : Thread Cert.RwoProjIdeal.nD Cert.RwoProjIdeal.τ).loc Cert.RwoProjIdeal.main_v2)),
      θ_run (Cert.RwoProjIdeal.defs (F := Ideal)) (onTc (τ := Cert.RwoProjIdeal.τ) (Cert.RwoProjIdeal.main (F := Ideal))) ⟨m, fun _ => 0, g⟩ (fun r => ∀ c : Dev Cert.RwoProjIdeal.nD,
          r.2.mem ((c.tc : Thread Cert.RwoProjIdeal.nD Cert.RwoProjIdeal.τ).loc Cert.RwoProjIdeal.main_v2) = v0 c
          ∧ r.2.mem ((c.tc : Thread Cert.RwoProjIdeal.nD Cert.RwoProjIdeal.τ).loc Cert.RwoProjIdeal.main_arg0) = m ((c.tc : Thread Cert.RwoProjIdeal.nD Cert.RwoProjIdeal.τ).loc Cert.RwoProjIdeal.main_arg0)
          ∧ r.2.mem ((c.tc : Thread Cert.RwoProjIdeal.nD Cert.RwoProjIdeal.τ).loc Cert.RwoProjIdeal.main_arg1) = m ((c.tc : Thread Cert.RwoProjIdeal.nD Cert.RwoProjIdeal.τ).loc Cert.RwoProjIdeal.main_arg1)
          ∧ r.2.mem ((c.tc : Thread Cert.RwoProjIdeal.nD Cert.RwoProjIdeal.τ).loc Cert.RwoProjIdeal.main_arg2) = m ((c.tc : Thread Cert.RwoProjIdeal.nD Cert.RwoProjIdeal.τ).loc Cert.RwoProjIdeal.main_arg2))
      ∧ θ_run (Cert.RwoRefIdeal.defs (F := Ideal)) (onTc (τ := Cert.RwoRefIdeal.τ) (Cert.RwoRefIdeal.main (F := Ideal))) ⟨m', fun _ => 0, g'⟩ (fun r => ∀ c : Dev Cert.RwoRefIdeal.nD,
          r.2.mem ((c.tc : Thread Cert.RwoRefIdeal.nD Cert.RwoRefIdeal.τ).loc Cert.RwoRefIdeal.main_v2) = v0 c
          ∧ r.2.mem ((c.tc : Thread Cert.RwoRefIdeal.nD Cert.RwoRefIdeal.τ).loc Cert.RwoRefIdeal.main_arg0) = m' ((c.tc : Thread Cert.RwoRefIdeal.nD Cert.RwoRefIdeal.τ).loc Cert.RwoRefIdeal.main_arg0)
          ∧ r.2.mem ((c.tc : Thread Cert.RwoRefIdeal.nD Cert.RwoRefIdeal.τ).loc Cert.RwoRefIdeal.main_arg1) = m' ((c.tc : Thread Cert.RwoRefIdeal.nD Cert.RwoRefIdeal.τ).loc Cert.RwoRefIdeal.main_arg1)
          ∧ r.2.mem ((c.tc : Thread Cert.RwoRefIdeal.nD Cert.RwoRefIdeal.τ).loc Cert.RwoRefIdeal.main_arg2) = m' ((c.tc : Thread Cert.RwoRefIdeal.nD Cert.RwoRefIdeal.τ).loc Cert.RwoRefIdeal.main_arg2))

def preserves_SbAtt_SbAttIdeal : Prop :=
  True

def algebraic_SbAttIdeal_SbRefIdeal [hSbAttIdeal : Cert.SbAttIdeal.Facts] [hSbRefIdeal : Cert.SbRefIdeal.Facts] : Prop :=
  ∀ (m : (ℓ : Loc Cert.SbAttIdeal.nD Cert.SbAttIdeal.τ Cert.SbAttIdeal.sig) → Buf (Elt Ideal) ℓ) (g : Dev Cert.SbAttIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbAttIdeal m →
    (∀ c : Dev Cert.SbAttIdeal.nD,
      m' ((c.tc : Thread Cert.SbRefIdeal.nD Cert.SbRefIdeal.τ).loc Cert.SbRefIdeal.main_arg0) = m ((c.tc : Thread Cert.SbAttIdeal.nD Cert.SbAttIdeal.τ).loc Cert.SbAttIdeal.main_arg0)
      ∧ m' ((c.tc : Thread Cert.SbRefIdeal.nD Cert.SbRefIdeal.τ).loc Cert.SbRefIdeal.main_arg1) = m ((c.tc : Thread Cert.SbAttIdeal.nD Cert.SbAttIdeal.τ).loc Cert.SbAttIdeal.main_arg1)
      ∧ m' ((c.tc : Thread Cert.SbRefIdeal.nD Cert.SbRefIdeal.τ).loc Cert.SbRefIdeal.main_arg2) = m ((c.tc : Thread Cert.SbAttIdeal.nD Cert.SbAttIdeal.τ).loc Cert.SbAttIdeal.main_arg2)) →
    ∃ (v0 : (c : Dev Cert.SbAttIdeal.nD) → Buf (Elt Ideal) ((c.tc : Thread Cert.SbAttIdeal.nD Cert.SbAttIdeal.τ).loc Cert.SbAttIdeal.main_v3)),
      θ_run (Cert.SbAttIdeal.defs (F := Ideal)) (onTc (τ := Cert.SbAttIdeal.τ) (Cert.SbAttIdeal.main (F := Ideal))) ⟨m, fun _ => 0, g⟩ (fun r => ∀ c : Dev Cert.SbAttIdeal.nD,
          r.2.mem ((c.tc : Thread Cert.SbAttIdeal.nD Cert.SbAttIdeal.τ).loc Cert.SbAttIdeal.main_v3) = v0 c
          ∧ r.2.mem ((c.tc : Thread Cert.SbAttIdeal.nD Cert.SbAttIdeal.τ).loc Cert.SbAttIdeal.main_arg0) = m ((c.tc : Thread Cert.SbAttIdeal.nD Cert.SbAttIdeal.τ).loc Cert.SbAttIdeal.main_arg0)
          ∧ r.2.mem ((c.tc : Thread Cert.SbAttIdeal.nD Cert.SbAttIdeal.τ).loc Cert.SbAttIdeal.main_arg1) = m ((c.tc : Thread Cert.SbAttIdeal.nD Cert.SbAttIdeal.τ).loc Cert.SbAttIdeal.main_arg1)
          ∧ r.2.mem ((c.tc : Thread Cert.SbAttIdeal.nD Cert.SbAttIdeal.τ).loc Cert.SbAttIdeal.main_arg2) = m ((c.tc : Thread Cert.SbAttIdeal.nD Cert.SbAttIdeal.τ).loc Cert.SbAttIdeal.main_arg2))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v30) = v0 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2))

def preserves_RetS_RetSIdeal : Prop :=
  True

def algebraic_RetSIdeal_RetSRefIdeal [hRetSIdeal : Cert.RetSIdeal.Facts] [hRetSRefIdeal : Cert.RetSRefIdeal.Facts] : Prop :=
  ∀ (m : (ℓ : Loc Cert.RetSIdeal.nD Cert.RetSIdeal.τ Cert.RetSIdeal.sig) → Buf (Elt Ideal) ℓ) (g : Dev Cert.RetSIdeal.nD → PrngReg)
    (m' : (ℓ : Loc Cert.RetSRefIdeal.nD Cert.RetSRefIdeal.τ Cert.RetSRefIdeal.sig) → Buf (Elt Ideal) ℓ) (g' : Dev Cert.RetSRefIdeal.nD → PrngReg), Pre_RetSIdeal m →
    (∀ c : Dev Cert.RetSIdeal.nD,
      m' ((c.tc : Thread Cert.RetSRefIdeal.nD Cert.RetSRefIdeal.τ).loc Cert.RetSRefIdeal.main_arg0) = m ((c.tc : Thread Cert.RetSIdeal.nD Cert.RetSIdeal.τ).loc Cert.RetSIdeal.main_arg0)
      ∧ m' ((c.tc : Thread Cert.RetSRefIdeal.nD Cert.RetSRefIdeal.τ).loc Cert.RetSRefIdeal.main_arg1) = m ((c.tc : Thread Cert.RetSIdeal.nD Cert.RetSIdeal.τ).loc Cert.RetSIdeal.main_arg1)
      ∧ m' ((c.tc : Thread Cert.RetSRefIdeal.nD Cert.RetSRefIdeal.τ).loc Cert.RetSRefIdeal.main_arg2) = m ((c.tc : Thread Cert.RetSIdeal.nD Cert.RetSIdeal.τ).loc Cert.RetSIdeal.main_arg2)
      ∧ m' ((c.tc : Thread Cert.RetSRefIdeal.nD Cert.RetSRefIdeal.τ).loc Cert.RetSRefIdeal.main_arg3) = m ((c.tc : Thread Cert.RetSIdeal.nD Cert.RetSIdeal.τ).loc Cert.RetSIdeal.main_arg3)) →
    ∃ (v0 : (c : Dev Cert.RetSIdeal.nD) → Buf (Elt Ideal) ((c.tc : Thread Cert.RetSIdeal.nD Cert.RetSIdeal.τ).loc Cert.RetSIdeal.main_v13_0)) (v1 : (c : Dev Cert.RetSIdeal.nD) → Buf (Elt Ideal) ((c.tc : Thread Cert.RetSIdeal.nD Cert.RetSIdeal.τ).loc Cert.RetSIdeal.main_v13_1)),
      θ_run (Cert.RetSIdeal.defs (F := Ideal)) (onTc (τ := Cert.RetSIdeal.τ) (Cert.RetSIdeal.main (F := Ideal))) ⟨m, fun _ => 0, g⟩ (fun r => ∀ c : Dev Cert.RetSIdeal.nD,
          r.2.mem ((c.tc : Thread Cert.RetSIdeal.nD Cert.RetSIdeal.τ).loc Cert.RetSIdeal.main_v13_0) = v0 c
          ∧ r.2.mem ((c.tc : Thread Cert.RetSIdeal.nD Cert.RetSIdeal.τ).loc Cert.RetSIdeal.main_v13_1) = v1 c
          ∧ r.2.mem ((c.tc : Thread Cert.RetSIdeal.nD Cert.RetSIdeal.τ).loc Cert.RetSIdeal.main_arg0) = m ((c.tc : Thread Cert.RetSIdeal.nD Cert.RetSIdeal.τ).loc Cert.RetSIdeal.main_arg0)
          ∧ r.2.mem ((c.tc : Thread Cert.RetSIdeal.nD Cert.RetSIdeal.τ).loc Cert.RetSIdeal.main_arg1) = m ((c.tc : Thread Cert.RetSIdeal.nD Cert.RetSIdeal.τ).loc Cert.RetSIdeal.main_arg1)
          ∧ r.2.mem ((c.tc : Thread Cert.RetSIdeal.nD Cert.RetSIdeal.τ).loc Cert.RetSIdeal.main_arg2) = m ((c.tc : Thread Cert.RetSIdeal.nD Cert.RetSIdeal.τ).loc Cert.RetSIdeal.main_arg2)
          ∧ r.2.mem ((c.tc : Thread Cert.RetSIdeal.nD Cert.RetSIdeal.τ).loc Cert.RetSIdeal.main_arg3) = m ((c.tc : Thread Cert.RetSIdeal.nD Cert.RetSIdeal.τ).loc Cert.RetSIdeal.main_arg3))
      ∧ θ_run (Cert.RetSRefIdeal.defs (F := Ideal)) (onTc (τ := Cert.RetSRefIdeal.τ) (Cert.RetSRefIdeal.main (F := Ideal))) ⟨m', fun _ => 0, g'⟩ (fun r => ∀ c : Dev Cert.RetSRefIdeal.nD,
          r.2.mem ((c.tc : Thread Cert.RetSRefIdeal.nD Cert.RetSRefIdeal.τ).loc Cert.RetSRefIdeal.main_v92) = v0 c
          ∧ r.2.mem ((c.tc : Thread Cert.RetSRefIdeal.nD Cert.RetSRefIdeal.τ).loc Cert.RetSRefIdeal.main_v70) = v1 c
          ∧ r.2.mem ((c.tc : Thread Cert.RetSRefIdeal.nD Cert.RetSRefIdeal.τ).loc Cert.RetSRefIdeal.main_arg0) = m' ((c.tc : Thread Cert.RetSRefIdeal.nD Cert.RetSRefIdeal.τ).loc Cert.RetSRefIdeal.main_arg0)
          ∧ r.2.mem ((c.tc : Thread Cert.RetSRefIdeal.nD Cert.RetSRefIdeal.τ).loc Cert.RetSRefIdeal.main_arg1) = m' ((c.tc : Thread Cert.RetSRefIdeal.nD Cert.RetSRefIdeal.τ).loc Cert.RetSRefIdeal.main_arg1)
          ∧ r.2.mem ((c.tc : Thread Cert.RetSRefIdeal.nD Cert.RetSRefIdeal.τ).loc Cert.RetSRefIdeal.main_arg2) = m' ((c.tc : Thread Cert.RetSRefIdeal.nD Cert.RetSRefIdeal.τ).loc Cert.RetSRefIdeal.main_arg2)
          ∧ r.2.mem ((c.tc : Thread Cert.RetSRefIdeal.nD Cert.RetSRefIdeal.τ).loc Cert.RetSRefIdeal.main_arg3) = m' ((c.tc : Thread Cert.RetSRefIdeal.nD Cert.RetSRefIdeal.τ).loc Cert.RetSRefIdeal.main_arg3))

def Claim : Prop :=
  ∃ (hKernel : Cert.Kernel.Facts) (hKernelIdeal : Cert.KernelIdeal.Facts) (hReferenceIdeal : Cert.ReferenceIdeal.Facts) (hVProj : Cert.VProj.Facts) (hVProjIdeal : Cert.VProjIdeal.Facts) (hVRefIdeal : Cert.VRefIdeal.Facts) (hQkProj : Cert.QkProj.Facts) (hQkProjIdeal : Cert.QkProjIdeal.Facts) (hQkRefIdeal : Cert.QkRefIdeal.Facts) (hWoProj : Cert.WoProj.Facts) (hWoProjIdeal : Cert.WoProjIdeal.Facts) (hWoRefIdeal : Cert.WoRefIdeal.Facts) (hVgProj : Cert.VgProj.Facts) (hVgProjIdeal : Cert.VgProjIdeal.Facts) (hVgRefIdeal : Cert.VgRefIdeal.Facts) (hRqkProj : Cert.RqkProj.Facts) (hRqkProjIdeal : Cert.RqkProjIdeal.Facts) (hRqkRefIdeal : Cert.RqkRefIdeal.Facts) (hRwoProj : Cert.RwoProj.Facts) (hRwoProjIdeal : Cert.RwoProjIdeal.Facts) (hRwoRefIdeal : Cert.RwoRefIdeal.Facts) (hSbAtt : Cert.SbAtt.Facts) (hSbAttIdeal : Cert.SbAttIdeal.Facts) (hSbRefIdeal : Cert.SbRefIdeal.Facts) (hRetS : Cert.RetS.Facts) (hRetSIdeal : Cert.RetSIdeal.Facts) (hRetSRefIdeal : Cert.RetSRefIdeal.Facts),
    quiescent_Kernel (hKernel := hKernel)
    ∧ quiescent_KernelIdeal (hKernelIdeal := hKernelIdeal)
    ∧ quiescent_ReferenceIdeal (hReferenceIdeal := hReferenceIdeal)
    ∧ quiescent_VProj (hVProj := hVProj)
    ∧ quiescent_VProjIdeal (hVProjIdeal := hVProjIdeal)
    ∧ quiescent_VRefIdeal (hVRefIdeal := hVRefIdeal)
    ∧ quiescent_QkProj (hQkProj := hQkProj)
    ∧ quiescent_QkProjIdeal (hQkProjIdeal := hQkProjIdeal)
    ∧ quiescent_QkRefIdeal (hQkRefIdeal := hQkRefIdeal)
    ∧ quiescent_WoProj (hWoProj := hWoProj)
    ∧ quiescent_WoProjIdeal (hWoProjIdeal := hWoProjIdeal)
    ∧ quiescent_WoRefIdeal (hWoRefIdeal := hWoRefIdeal)
    ∧ quiescent_VgProj (hVgProj := hVgProj)
    ∧ quiescent_VgProjIdeal (hVgProjIdeal := hVgProjIdeal)
    ∧ quiescent_VgRefIdeal (hVgRefIdeal := hVgRefIdeal)
    ∧ quiescent_RqkProj (hRqkProj := hRqkProj)
    ∧ quiescent_RqkProjIdeal (hRqkProjIdeal := hRqkProjIdeal)
    ∧ quiescent_RqkRefIdeal (hRqkRefIdeal := hRqkRefIdeal)
    ∧ quiescent_RwoProj (hRwoProj := hRwoProj)
    ∧ quiescent_RwoProjIdeal (hRwoProjIdeal := hRwoProjIdeal)
    ∧ quiescent_RwoRefIdeal (hRwoRefIdeal := hRwoRefIdeal)
    ∧ quiescent_SbAtt (hSbAtt := hSbAtt)
    ∧ quiescent_SbAttIdeal (hSbAttIdeal := hSbAttIdeal)
    ∧ quiescent_SbRefIdeal (hSbRefIdeal := hSbRefIdeal)
    ∧ quiescent_RetS (hRetS := hRetS)
    ∧ quiescent_RetSIdeal (hRetSIdeal := hRetSIdeal)
    ∧ quiescent_RetSRefIdeal (hRetSRefIdeal := hRetSRefIdeal)
    ∧ preserves_Kernel_KernelIdeal
    ∧ algebraic_KernelIdeal_ReferenceIdeal (hKernelIdeal := hKernelIdeal) (hReferenceIdeal := hReferenceIdeal)
    ∧ preserves_VProj_VProjIdeal
    ∧ algebraic_VProjIdeal_VRefIdeal (hVProjIdeal := hVProjIdeal) (hVRefIdeal := hVRefIdeal)
    ∧ preserves_QkProj_QkProjIdeal
    ∧ algebraic_QkProjIdeal_QkRefIdeal (hQkProjIdeal := hQkProjIdeal) (hQkRefIdeal := hQkRefIdeal)
    ∧ preserves_WoProj_WoProjIdeal
    ∧ algebraic_WoProjIdeal_WoRefIdeal (hWoProjIdeal := hWoProjIdeal) (hWoRefIdeal := hWoRefIdeal)
    ∧ preserves_VgProj_VgProjIdeal
    ∧ algebraic_VgProjIdeal_VgRefIdeal (hVgProjIdeal := hVgProjIdeal) (hVgRefIdeal := hVgRefIdeal)
    ∧ preserves_RqkProj_RqkProjIdeal
    ∧ algebraic_RqkProjIdeal_RqkRefIdeal (hRqkProjIdeal := hRqkProjIdeal) (hRqkRefIdeal := hRqkRefIdeal)
    ∧ preserves_RwoProj_RwoProjIdeal
    ∧ algebraic_RwoProjIdeal_RwoRefIdeal (hRwoProjIdeal := hRwoProjIdeal) (hRwoRefIdeal := hRwoRefIdeal)
    ∧ preserves_SbAtt_SbAttIdeal
    ∧ algebraic_SbAttIdeal_SbRefIdeal (hSbAttIdeal := hSbAttIdeal) (hSbRefIdeal := hSbRefIdeal)
    ∧ preserves_RetS_RetSIdeal
    ∧ algebraic_RetSIdeal_RetSRefIdeal (hRetSIdeal := hRetSIdeal) (hRetSRefIdeal := hRetSRefIdeal)
-- ==== Kernel.lean ====
abbrev S17408x4096 : Shape := ⟨2, ![17408, 4096]⟩
abbrev S17408x8192 : Shape := ⟨2, ![17408, 8192]⟩
abbrev S1x4096 : Shape := ⟨2, ![1, 4096]⟩
abbrev S8 : Shape := ⟨1, ![8]⟩
abbrev S_ : Shape := ⟨0, ![]⟩
abbrev S8x1x1 : Shape := ⟨3, ![8, 1, 1]⟩
abbrev S8x1x128 : Shape := ⟨3, ![8, 1, 128]⟩
abbrev S4096 : Shape := ⟨1, ![4096]⟩
abbrev S8x1x512 : Shape := ⟨3, ![8, 1, 512]⟩
abbrev S8x8x256x512 : Shape := ⟨4, ![8, 8, 256, 512]⟩
abbrev S16384x4096 : Shape := ⟨2, ![16384, 4096]⟩
abbrev S2x1x128 : Shape := ⟨3, ![2, 1, 128]⟩
abbrev S2x1x512 : Shape := ⟨3, ![2, 1, 512]⟩
abbrev S128x512 : Shape := ⟨2, ![128, 512]⟩
abbrev S128x1024 : Shape := ⟨2, ![128, 1024]⟩
abbrev S1x2x256x512 : Shape := ⟨4, ![1, 2, 256, 512]⟩
abbrev S2x256x512 : Shape := ⟨3, ![2, 256, 512]⟩
abbrev S128x128 : Shape := ⟨2, ![128, 128]⟩
abbrev S1x1x128 : Shape := ⟨3, ![1, 1, 128]⟩
abbrev S1x128 : Shape := ⟨2, ![1, 128]⟩
abbrev S128x256 : Shape := ⟨2, ![128, 256]⟩
abbrev S1x256x512 : Shape := ⟨3, ![1, 256, 512]⟩
abbrev S256x512 : Shape := ⟨2, ![256, 512]⟩
abbrev S256x128 : Shape := ⟨2, ![256, 128]⟩
abbrev S1x256x128 : Shape := ⟨3, ![1, 256, 128]⟩
abbrev S128 : Shape := ⟨1, ![128]⟩
abbrev S128x1 : Shape := ⟨2, ![128, 1]⟩
abbrev S1x1x512 : Shape := ⟨3, ![1, 1, 512]⟩
abbrev S1x512 : Shape := ⟨2, ![1, 512]⟩

abbrev nBuf : Space → Nat
  | .hbm => 21
  | .vmem => 19
  | .smem => 0
  | _ => 0

abbrev bufTy : (tb : Table) → Fin (tcTables nBuf tb) → BufTy
  | .hbm, ⟨0, _⟩ => ⟨S17408x4096, .f32⟩
  | .hbm, ⟨1, _⟩ => ⟨S17408x8192, .f32⟩
  | .hbm, ⟨2, _⟩ => ⟨S1x4096, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8x1x1, .f32⟩
  | .hbm, ⟨14, _⟩ => ⟨S8x1x128, .f32⟩
  | .hbm, ⟨15, _⟩ => ⟨S4096, .f32⟩
  | .hbm, ⟨16, _⟩ => ⟨S8x1x512, .f32⟩
  | .hbm, ⟨17, _⟩ => ⟨S_, .f32⟩
  | .hbm, ⟨18, _⟩ => ⟨S8x8x256x512, .f32⟩
  | .hbm, ⟨19, _⟩ => ⟨S16384x4096, .f32⟩
  | .hbm, ⟨20, _⟩ => ⟨S8x8x256x512, .f32⟩
  | .local _ .vmem, ⟨0, _⟩ => ⟨S2x1x128, .f32⟩
  | .local _ .vmem, ⟨1, _⟩ => ⟨S2x1x128, .f32⟩
  | .local _ .vmem, ⟨2, _⟩ => ⟨S2x1x512, .f32⟩
  | .local _ .vmem, ⟨3, _⟩ => ⟨S2x1x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S1x2x256x512, .f32⟩
  | .local _ .vmem, ⟨13, _⟩ => ⟨S1x2x256x512, .f32⟩
  | .local _ .vmem, ⟨14, _⟩ => ⟨S128x1024, .f32⟩
  | .local _ .vmem, ⟨15, _⟩ => ⟨S128x1024, .f32⟩
  | .local _ .vmem, ⟨16, _⟩ => ⟨S1x2x256x512, .f32⟩
  | .local _ .vmem, ⟨17, _⟩ => ⟨S1x2x256x512, .f32⟩
  | .local _ .vmem, ⟨18, _⟩ => ⟨S2x256x512, .f32⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 4, 16], ![false, false, false]⟩

def k0_cond2 (i : grid0.Coords) : BitVec 1 :=
  let arg2 : BitVec 32 := BitVec.ofNat 32 (i 2).val
  let c15_i32 : BitVec 32 := 15#32
  let v234 : BitVec 1 := Scalar.cmpi .eq arg2 c15_i32
  let v235 : BitVec 32 := Scalar.extui v234
  let c0_i32_82 : BitVec 32 := 0#32
  let v236 : BitVec 1 := Scalar.cmpi .ne v235 c0_i32_82
  v236

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c4_i32 : BitVec 32 := 4#32
  let v3 : BitVec 32 := Scalar.addi c4_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c4_i32 : BitVec 32 := 4#32
  let v3 : BitVec 32 := Scalar.addi c4_i32 arg1
  let c0_i32_0 : BitVec 32 := 0#32
  ![v2.toNat, v3.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S17408x4096 : Shape := ⟨2, ![17408, 4096]⟩
abbrev S17408x8192 : Shape := ⟨2, ![17408, 8192]⟩
abbrev S1x4096 : Shape := ⟨2, ![1, 4096]⟩
abbrev S16384x2048 : Shape := ⟨2, ![16384, 2048]⟩
abbrev S8x2048x8x256 : Shape := ⟨4, ![8, 2048, 8, 256]⟩
abbrev S16384x4096 : Shape := ⟨2, ![16384, 4096]⟩
abbrev S8x2048x8x512 : Shape := ⟨4, ![8, 2048, 8, 512]⟩
abbrev S_ : Shape := ⟨0, ![]⟩
abbrev S8x8x256x512 : Shape := ⟨4, ![8, 8, 256, 512]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x8 : Shape := ⟨2, ![1, 8]⟩
abbrev S128x8 : Shape := ⟨2, ![128, 8]⟩
abbrev S8x16x128x8x256 : Shape := ⟨5, ![8, 16, 128, 8, 256]⟩
abbrev S16x8x128x8x256 : Shape := ⟨5, ![16, 8, 128, 8, 256]⟩
abbrev S8x16x128x8x512 : Shape := ⟨5, ![8, 16, 128, 8, 512]⟩
abbrev S16x8x128x8x512 : Shape := ⟨5, ![16, 8, 128, 8, 512]⟩
abbrev S1x8x128x8x256 : Shape := ⟨5, ![1, 8, 128, 8, 256]⟩
abbrev S8x128x8x256 : Shape := ⟨4, ![8, 128, 8, 256]⟩
abbrev S1x8x128x8x512 : Shape := ⟨5, ![1, 8, 128, 8, 512]⟩
abbrev S8x128x8x512 : Shape := ⟨4, ![8, 128, 8, 512]⟩
abbrev S8x8x128x128 : Shape := ⟨4, ![8, 8, 128, 128]⟩
abbrev S1x8x128x128 : Shape := ⟨4, ![1, 8, 128, 128]⟩
abbrev S8x8x512x128 : Shape := ⟨4, ![8, 8, 512, 128]⟩
abbrev S1x128x8x1 : Shape := ⟨4, ![1, 128, 8, 1]⟩
abbrev S1x8x1x1 : Shape := ⟨4, ![1, 8, 1, 1]⟩
abbrev S8x2048x4096 : Shape := ⟨3, ![8, 2048, 4096]⟩
abbrev S4096 : Shape := ⟨1, ![4096]⟩
abbrev S8x512 : Shape := ⟨2, ![8, 512]⟩
abbrev S8x2048x8 : Shape := ⟨3, ![8, 2048, 8]⟩
abbrev S8x2048x8x1 : Shape := ⟨4, ![8, 2048, 8, 1]⟩
abbrev S1x1x8x512 : Shape := ⟨4, ![1, 1, 8, 512]⟩

abbrev nBuf : Space → Nat
  | .hbm => 168
  | .vmem => 0
  | .smem => 0
  | _ => 0

abbrev hbmTy0_0 (i : Nat) : BufTy := match i % 128 with
  | 0 => ⟨S17408x4096, .f32⟩
  | 1 => ⟨S17408x8192, .f32⟩
  | 2 => ⟨S1x4096, .f32⟩
  | 3 => ⟨S16384x2048, .f32⟩
  | 4 => ⟨S8x2048x8x256, .f32⟩
  | 5 => ⟨S16384x2048, .f32⟩
  | 6 => ⟨S8x2048x8x256, .f32⟩
  | 7 => ⟨S16384x4096, .f32⟩
  | 8 => ⟨S8x2048x8x512, .f32⟩
  | 9 => ⟨S_, .f32⟩
  | 10 => ⟨S8x8x256x512, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S8, .f32⟩
  | 19 => ⟨S8, .f32⟩
  | 20 => ⟨S8, .f32⟩
  | 21 => ⟨S128, .f32⟩
  | 22 => ⟨S128x1, .f32⟩
  | 23 => ⟨S1x128, .f32⟩
  | 24 => ⟨S128x128, .f32⟩
  | 25 => ⟨S128x128, .f32⟩
  | 26 => ⟨S128x128, .f32⟩
  | 27 => ⟨S1x128x128, .f32⟩
  | 28 => ⟨S_, .f32⟩
  | 29 => ⟨S1x128x128, .f32⟩
  | 30 => ⟨S1x128x128, .i1⟩
  | 31 => ⟨S_, .f32⟩
  | 32 => ⟨S128x128, .f32⟩
  | 33 => ⟨S128x128, .f32⟩
  | 34 => ⟨S1x128x128, .f32⟩
  | 35 => ⟨S8x1x1, .f32⟩
  | 36 => ⟨S8x128x128, .f32⟩
  | 37 => ⟨S8x128x128, .f32⟩
  | 38 => ⟨S8x128x128, .f32⟩
  | 39 => ⟨S8x128x128, .f32⟩
  | 40 => ⟨S_, .f32⟩
  | 41 => ⟨S_, .f32⟩
  | 42 => ⟨S8x128x128, .i1⟩
  | 43 => ⟨S8x128x128, .f32⟩
  | 44 => ⟨S8x128x128, .f32⟩
  | 45 => ⟨S_, .f32⟩
  | 46 => ⟨S128, .f32⟩
  | 47 => ⟨S128, .f32⟩
  | 48 => ⟨S128x1, .f32⟩
  | 49 => ⟨S1x8, .f32⟩
  | 50 => ⟨S128x8, .f32⟩
  | 51 => ⟨S128x8, .f32⟩
  | 52 => ⟨S128x8, .f32⟩
  | 53 => ⟨S128x8, .f32⟩
  | 54 => ⟨S_, .f32⟩
  | 55 => ⟨S128, .f32⟩
  | 56 => ⟨S128, .f32⟩
  | 57 => ⟨S128x1, .f32⟩
  | 58 => ⟨S1x8, .f32⟩
  | 59 => ⟨S128x8, .f32⟩
  | 60 => ⟨S128x8, .f32⟩
  | 61 => ⟨S128x8, .f32⟩
  | 62 => ⟨S128x8, .f32⟩
  | 63 => ⟨S_, .f32⟩
  | 64 => ⟨S8, .f32⟩
  | 65 => ⟨S8, .f32⟩
  | 66 => ⟨S8, .f32⟩
  | 67 => ⟨S8x16x128x8x256, .f32⟩
  | 68 => ⟨S16x8x128x8x256, .f32⟩
  | 69 => ⟨S8x16x128x8x256, .f32⟩
  | 70 => ⟨S16x8x128x8x256, .f32⟩
  | 71 => ⟨S8x16x128x8x512, .f32⟩
  | 72 => ⟨S16x8x128x8x512, .f32⟩
  | 73 => ⟨S_, .f32⟩
  | 74 => ⟨S16x8x128x8x512, .f32⟩
  | 75 => ⟨S_, .i32⟩
  | 76 => ⟨S16x8x128x8x256, .f32⟩
  | 77 => ⟨S16x8x128x8x256, .f32⟩
  | 78 => ⟨S16x8x128x8x512, .f32⟩
  | 79 => ⟨S8x128x128, .f32⟩
  | 80 => ⟨S128x8, .f32⟩
  | 81 => ⟨S8, .f32⟩
  | 82 => ⟨S128x8, .f32⟩
  | 83 => ⟨S_, .i32⟩
  | 84 => ⟨S8x8x256x512, .f32⟩
  | 85 => ⟨S16x8x128x8x512, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S1x8x128x8x256, .f32⟩
  | 93 => ⟨S8x128x8x256, .f32⟩
  | 94 => ⟨S_, .i32⟩
  | 95 => ⟨S_, .i32⟩
  | 96 => ⟨S_, .i32⟩
  | 97 => ⟨S_, .i32⟩
  | 98 => ⟨S1x8x128x8x256, .f32⟩
  | 99 => ⟨S8x128x8x256, .f32⟩
  | 100 => ⟨S_, .i32⟩
  | 101 => ⟨S_, .i32⟩
  | 102 => ⟨S_, .i32⟩
  | 103 => ⟨S_, .i32⟩
  | 104 => ⟨S1x8x128x8x512, .f32⟩
  | 105 => ⟨S8x128x8x512, .f32⟩
  | 106 => ⟨S8x8x128x128, .f32⟩
  | 107 => ⟨S1x8x128x128, .f32⟩
  | 108 => ⟨S8x8x128x128, .f32⟩
  | 109 => ⟨S8x8x128x128, .f32⟩
  | 110 => ⟨S8x8x512x128, .f32⟩
  | 111 => ⟨S8x128x8x512, .f32⟩
  | 112 => ⟨S8x8x512x128, .f32⟩
  | 113 => ⟨S8x128x8x512, .f32⟩
  | 114 => ⟨S1x128x8x1, .f32⟩
  | 115 => ⟨S8x128x8x512, .f32⟩
  | 116 => ⟨S8x128x8x512, .f32⟩
  | 117 => ⟨S1x8x1x1, .f32⟩
  | 118 => ⟨S8x8x256x512, .f32⟩
  | 119 => ⟨S8x8x256x512, .f32⟩
  | 120 => ⟨S1x128x8x1, .f32⟩
  | 121 => ⟨S8x128x8x256, .f32⟩
  | 122 => ⟨S8x128x8x256, .f32⟩
  | 123 => ⟨S8x8x256x512, .f32⟩
  | 124 => ⟨S8x8x256x512, .f32⟩
  | 125 => ⟨S8x128x8x512, .f32⟩
  | 126 => ⟨S1x8x128x8x512, .f32⟩
  | 127 => ⟨S_, .i32⟩
  | _ => ⟨S17408x4096, .f32⟩

abbrev hbmTy0_1 (i : Nat) : BufTy := match i % 128 with
  | 0 => ⟨S_, .i32⟩
  | 1 => ⟨S_, .i32⟩
  | 2 => ⟨S_, .i32⟩
  | 3 => ⟨S16x8x128x8x512, .f32⟩
  | 4 => ⟨S_, .i32⟩
  | 5 => ⟨S_, .i32⟩
  | 6 => ⟨S8x16x128x8x512, .f32⟩
  | 7 => ⟨S8x2048x8x512, .f32⟩
  | 8 => ⟨S16384x4096, .f32⟩
  | 9 => ⟨S8x2048x4096, .f32⟩
  | 10 => ⟨S4096, .f32⟩
  | 11 => ⟨S8x512, .f32⟩
  | 12 => ⟨S8x2048x8x512, .f32⟩
  | 13 => ⟨S_, .f32⟩
  | 14 => ⟨S8x2048x8, .f32⟩
  | 15 => ⟨S8x2048x8x1, .f32⟩
  | 16 => ⟨S_, .f32⟩
  | 17 => ⟨S8x2048x8x1, .f32⟩
  | 18 => ⟨S8x2048x8x1, .f32⟩
  | 19 => ⟨S_, .f32⟩
  | 20 => ⟨S8x2048x8x1, .f32⟩
  | 21 => ⟨S8x2048x8x1, .f32⟩
  | 22 => ⟨S8x2048x8x1, .f32⟩
  | 23 => ⟨S8x2048x8x512, .f32⟩
  | 24 => ⟨S8x2048x8x512, .f32⟩
  | 25 => ⟨S1x1x8x512, .f32⟩
  | 26 => ⟨S8x2048x8x512, .f32⟩
  | 27 => ⟨S8x2048x8x512, .f32⟩
  | 28 => ⟨S8x2048x4096, .f32⟩
  | 29 => ⟨S8x2048x4096, .f32⟩
  | 30 => ⟨S8x2048x4096, .f32⟩
  | 31 => ⟨S_, .f32⟩
  | 32 => ⟨S8x2048x4096, .f32⟩
  | 33 => ⟨S8x2048x4096, .f32⟩
  | 34 => ⟨S_, .f32⟩
  | 35 => ⟨S8x2048x4096, .f32⟩
  | 36 => ⟨S8x2048x4096, .f32⟩
  | 37 => ⟨S8x2048x4096, .f32⟩
  | 38 => ⟨S8x2048x4096, .f32⟩
  | 39 => ⟨S16384x4096, .f32⟩
  | _ => ⟨S17408x4096, .f32⟩

abbrev hbmTy (i : Nat) : BufTy := match i / 128 with
  | 0 => hbmTy0_0 i
  | 1 => hbmTy0_1 i
  | _ => ⟨S17408x4096, .f32⟩

abbrev bufTy : (tb : Table) → Fin (tcTables nBuf tb) → BufTy
  | .hbm, ⟨i, _⟩ => hbmTy i
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_8 : Ref sig .tc := ⟨.hbm, 73, rfl⟩
abbrev main_v58 : Ref sig .tc := ⟨.hbm, 74, rfl⟩
abbrev main_c : Ref sig .tc := ⟨.hbm, 75, rfl⟩
abbrev main_v59_0 : Ref sig .tc := ⟨.hbm, 76, rfl⟩
abbrev main_v59_1 : Ref sig .tc := ⟨.hbm, 77, rfl⟩
abbrev main_v59_2 : Ref sig .tc := ⟨.hbm, 78, rfl⟩
abbrev main_v59_3 : Ref sig .tc := ⟨.hbm, 79, rfl⟩
abbrev main_v59_4 : Ref sig .tc := ⟨.hbm, 80, rfl⟩
abbrev main_v59_5 : Ref sig .tc := ⟨.hbm, 81, rfl⟩
abbrev main_v59_6 : Ref sig .tc := ⟨.hbm, 82, rfl⟩
abbrev main_v59_7 : Ref sig .tc := ⟨.hbm, 83, rfl⟩
abbrev main_v59_8 : Ref sig .tc := ⟨.hbm, 84, rfl⟩
abbrev main_v59_9 : Ref sig .tc := ⟨.hbm, 85, rfl⟩
abbrev main_while0c_c_21 : Ref sig .tc := ⟨.hbm, 86, rfl⟩
abbrev main_while0c_v83 : Ref sig .tc := ⟨.hbm, 87, rfl⟩
abbrev main_while0b_call1_c : Ref sig .tc := ⟨.hbm, 88, rfl⟩
abbrev main_while0b_call1_c_0 : Ref sig .tc := ⟨.hbm, 89, rfl⟩
abbrev main_while0b_call1_c_1 : Ref sig .tc := ⟨.hbm, 90, rfl⟩
abbrev main_while0b_call1_c_2 : Ref sig .tc := ⟨.hbm, 91, rfl⟩
abbrev main_while0b_call1_v0 : Ref sig .tc := ⟨.hbm, 92, rfl⟩
abbrev main_while0b_v83 : Ref sig .tc := ⟨.hbm, 93, rfl⟩
abbrev main_while0b_call2_c : Ref sig .tc := ⟨.hbm, 94, rfl⟩
abbrev main_while0b_call2_c_0 : Ref sig .tc := ⟨.hbm, 95, rfl⟩
abbrev main_while0b_call2_c_1 : Ref sig .tc := ⟨.hbm, 96, rfl⟩
abbrev main_while0b_call2_c_2 : Ref sig .tc := ⟨.hbm, 97, rfl⟩
abbrev main_while0b_call2_v0 : Ref sig .tc := ⟨.hbm, 98, rfl⟩
abbrev main_while0b_v84 : Ref sig .tc := ⟨.hbm, 99, rfl⟩
abbrev main_while0b_call3_c : Ref sig .tc := ⟨.hbm, 100, rfl⟩
abbrev main_while0b_call3_c_0 : Ref sig .tc := ⟨.hbm, 101, rfl⟩
abbrev main_while0b_call3_c_1 : Ref sig .tc := ⟨.hbm, 102, rfl⟩
abbrev main_while0b_call3_c_2 : Ref sig .tc := ⟨.hbm, 103, rfl⟩
abbrev main_while0b_call3_v0 : Ref sig .tc := ⟨.hbm, 104, rfl⟩
abbrev main_while0b_v85 : Ref sig .tc := ⟨.hbm, 105, rfl⟩
abbrev main_while0b_v86 : Ref sig .tc := ⟨.hbm, 106, rfl⟩
abbrev main_while0b_v87 : Ref sig .tc := ⟨.hbm, 107, rfl⟩
abbrev main_while0b_v88 : Ref sig .tc := ⟨.hbm, 108, rfl⟩
abbrev main_while0b_v89 : Ref sig .tc := ⟨.hbm, 109, rfl⟩
abbrev main_while0b_v90 : Ref sig .tc := ⟨.hbm, 110, rfl⟩
abbrev main_while0b_v91 : Ref sig .tc := ⟨.hbm, 111, rfl⟩
abbrev main_while0b_v92 : Ref sig .tc := ⟨.hbm, 112, rfl⟩
abbrev main_while0b_v93 : Ref sig .tc := ⟨.hbm, 113, rfl⟩
abbrev main_while0b_v94 : Ref sig .tc := ⟨.hbm, 114, rfl⟩
abbrev main_while0b_v95 : Ref sig .tc := ⟨.hbm, 115, rfl⟩
abbrev main_while0b_v96 : Ref sig .tc := ⟨.hbm, 116, rfl⟩
abbrev main_while0b_v97 : Ref sig .tc := ⟨.hbm, 117, rfl⟩
abbrev main_while0b_v98 : Ref sig .tc := ⟨.hbm, 118, rfl⟩
abbrev main_while0b_v99 : Ref sig .tc := ⟨.hbm, 119, rfl⟩
abbrev main_while0b_v100 : Ref sig .tc := ⟨.hbm, 120, rfl⟩
abbrev main_while0b_v101 : Ref sig .tc := ⟨.hbm, 121, rfl⟩
abbrev main_while0b_v102 : Ref sig .tc := ⟨.hbm, 122, rfl⟩
abbrev main_while0b_v103 : Ref sig .tc := ⟨.hbm, 123, rfl⟩
abbrev main_while0b_v104 : Ref sig .tc := ⟨.hbm, 124, rfl⟩
abbrev main_while0b_v105 : Ref sig .tc := ⟨.hbm, 125, rfl⟩
abbrev main_while0b_call4_v0 : Ref sig .tc := ⟨.hbm, 126, rfl⟩
abbrev main_while0b_call4_c : Ref sig .tc := ⟨.hbm, 127, rfl⟩
abbrev main_while0b_call4_c_0 : Ref sig .tc := ⟨.hbm, 128, rfl⟩
abbrev main_while0b_call4_c_1 : Ref sig .tc := ⟨.hbm, 129, rfl⟩
abbrev main_while0b_call4_c_2 : Ref sig .tc := ⟨.hbm, 130, rfl⟩
abbrev main_while0b_v106 : Ref sig .tc := ⟨.hbm, 131, rfl⟩
abbrev main_while0b_c_21 : Ref sig .tc := ⟨.hbm, 132, rfl⟩
abbrev main_while0b_v107 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_cst_9 : Ref sig .tc := ⟨.hbm, 141, rfl⟩
abbrev main_v67 : Ref sig .tc := ⟨.hbm, 142, rfl⟩
abbrev main_v68 : Ref sig .tc := ⟨.hbm, 143, rfl⟩
abbrev main_cst_10 : Ref sig .tc := ⟨.hbm, 144, rfl⟩
abbrev main_v69 : Ref sig .tc := ⟨.hbm, 145, rfl⟩
abbrev main_v70 : Ref sig .tc := ⟨.hbm, 146, rfl⟩
abbrev main_cst_11 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_call5_v0 : Ref sig .tc := ⟨.hbm, 157, rfl⟩
abbrev main_call5_v1 : Ref sig .tc := ⟨.hbm, 158, rfl⟩
abbrev main_call5_cst : Ref sig .tc := ⟨.hbm, 159, rfl⟩
abbrev main_call5_v2 : Ref sig .tc := ⟨.hbm, 160, rfl⟩
abbrev main_call5_v3 : Ref sig .tc := ⟨.hbm, 161, rfl⟩
abbrev main_call5_cst_0 : Ref sig .tc := ⟨.hbm, 162, rfl⟩
abbrev main_call5_v4 : Ref sig .tc := ⟨.hbm, 163, rfl⟩
abbrev main_call5_v5 : Ref sig .tc := ⟨.hbm, 164, rfl⟩
abbrev main_v80 : Ref sig .tc := ⟨.hbm, 165, rfl⟩
abbrev main_v81 : Ref sig .tc := ⟨.hbm, 166, rfl⟩
abbrev main_v82 : Ref sig .tc := ⟨.hbm, 167, rfl⟩

abbrev nD : Nat := 1
abbrev τ : Topo := Topo.v7x

variable {F : FTy → Type} [FloatOps F]

abbrev main_while0_count : Scf.Loop 32 := ⟨0#32, 16#32, 1#32⟩
-- ==== VProj.lean ====
abbrev S8x2048x2048 : Shape := ⟨3, ![8, 2048, 2048]⟩
abbrev S128x8x2048 : Shape := ⟨3, ![128, 8, 2048]⟩
abbrev S2x2048 : Shape := ⟨2, ![2, 2048]⟩
abbrev S1x2048x6144 : Shape := ⟨3, ![1, 2048, 6144]⟩
abbrev S16384x2048 : Shape := ⟨2, ![16384, 2048]⟩
abbrev S1024x2048 : Shape := ⟨2, ![1024, 2048]⟩
abbrev S17408x2048 : Shape := ⟨2, ![17408, 2048]⟩
abbrev S2048x6144 : Shape := ⟨2, ![2048, 6144]⟩
abbrev S2048x2048 : Shape := ⟨2, ![2048, 2048]⟩
abbrev S1x2048 : Shape := ⟨2, ![1, 2048]⟩
abbrev S2048 : Shape := ⟨1, ![2048]⟩
abbrev S2048x512 : Shape := ⟨2, ![2048, 512]⟩
abbrev S1024x512 : Shape := ⟨2, ![1024, 512]⟩
abbrev S64x2048 : Shape := ⟨2, ![64, 2048]⟩
abbrev S64 : Shape := ⟨1, ![64]⟩
abbrev S64x1 : Shape := ⟨2, ![64, 1]⟩

abbrev nBuf : Space → Nat
  | .hbm => 14
  | .vmem => 8
  | .smem => 0
  | _ => 0

abbrev bufTy : (tb : Table) → Fin (tcTables nBuf tb) → BufTy
  | .hbm, ⟨0, _⟩ => ⟨S8x2048x2048, .f32⟩
  | .hbm, ⟨1, _⟩ => ⟨S128x8x2048, .f32⟩
  | .hbm, ⟨2, _⟩ => ⟨S2x2048, .f32⟩
  | .hbm, ⟨3, _⟩ => ⟨S1x2048x6144, .f32⟩
  | .hbm, ⟨4, _⟩ => ⟨S16384x2048, .f32⟩
  | .hbm, ⟨5, _⟩ => ⟨S1024x2048, .f32⟩
  | .hbm, ⟨6, _⟩ => ⟨S17408x2048, .f32⟩
  | .hbm, ⟨7, _⟩ => ⟨S2048x6144, .f32⟩
  | .hbm, ⟨8, _⟩ => ⟨S2048x6144, .bf16⟩
  | .hbm, ⟨9, _⟩ => ⟨S2048x2048, .bf16⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S17408x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c16_i32 : BitVec 32 := 16#32
  let v8 : BitVec 32 := Scalar.addi c0_i32_6 c16_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c64_i32 : BitVec 32 := 64#32
  let v9 : BitVec 32 := Scalar.muli arg7 c64_i32
  v9
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c64_i32 : BitVec 32 := 64#32
  let v9 : BitVec 32 := Scalar.muli arg7 c64_i32
  let v10 : BitVec 32 := v9
  let v11 : Index := Scalar.indexCast v10
  let c0_8 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== VRefIdeal.lean ====
abbrev S8x2048x2048 : Shape := ⟨3, ![8, 2048, 2048]⟩
abbrev S128x8x2048 : Shape := ⟨3, ![128, 8, 2048]⟩
abbrev S2x2048 : Shape := ⟨2, ![2, 2048]⟩
abbrev S1x2048x6144 : Shape := ⟨3, ![1, 2048, 6144]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x6144 : Shape := ⟨2, ![2048, 6144]⟩
abbrev S2048x2048 : Shape := ⟨2, ![2048, 2048]⟩
abbrev S16384x2048 : Shape := ⟨2, ![16384, 2048]⟩
abbrev S128x8 : Shape := ⟨2, ![128, 8]⟩
abbrev S128x8x1 : Shape := ⟨3, ![128, 8, 1]⟩
abbrev S1024x2048 : Shape := ⟨2, ![1024, 2048]⟩
abbrev S17408x2048 : Shape := ⟨2, ![17408, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S128x8x2048, .f32⟩
  | .hbm, ⟨2, _⟩ => ⟨S2x2048, .f32⟩
  | .hbm, ⟨3, _⟩ => ⟨S1x2048x6144, .f32⟩
  | .hbm, ⟨4, _⟩ => ⟨S1x2048, .f32⟩
  | .hbm, ⟨5, _⟩ => ⟨S2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S_, .f32⟩
  | .hbm, ⟨11, _⟩ => ⟨S8x2048x1, .f32⟩
  | .hbm, ⟨12, _⟩ => ⟨S8x2048x1, .f32⟩
  | .hbm, ⟨13, _⟩ => ⟨S_, .f32⟩
  | .hbm, ⟨14, _⟩ => ⟨S8x2048x1, .f32⟩
  | .hbm, ⟨15, _⟩ => ⟨S8x2048x1, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S1x1x2048, .f32⟩
  | .hbm, ⟨20, _⟩ => ⟨S8x2048x2048, .f32⟩
  | .hbm, ⟨21, _⟩ => ⟨S8x2048x2048, .f32⟩
  | .hbm, ⟨22, _⟩ => ⟨S2048x6144, .f32⟩
  | .hbm, ⟨23, _⟩ => ⟨S2048x2048, .f32⟩
  | .hbm, ⟨24, _⟩ => ⟨S8x2048x2048, .f32⟩
  | .hbm, ⟨25, _⟩ => ⟨S16384x2048, .f32⟩
  | .hbm, ⟨26, _⟩ => ⟨S1x2048, .f32⟩
  | .hbm, ⟨27, _⟩ => ⟨S2048, .f32⟩
  | .hbm, ⟨28, _⟩ => ⟨S128x8x2048, .f32⟩
  | .hbm, ⟨29, _⟩ => ⟨S_, .f32⟩
  | .hbm, ⟨30, _⟩ => ⟨S128x8, .f32⟩
  | .hbm, ⟨31, _⟩ => ⟨S128x8x1, .f32⟩
  | .hbm, ⟨32, _⟩ => ⟨S_, .f32⟩
  | .hbm, ⟨33, _⟩ => ⟨S128x8x1, .f32⟩
  | .hbm, ⟨34, _⟩ => ⟨S128x8x1, .f32⟩
  | .hbm, ⟨35, _⟩ => ⟨S_, .f32⟩
  | .hbm, ⟨36, _⟩ => ⟨S128x8x1, .f32⟩
  | .hbm, ⟨37, _⟩ => ⟨S128x8x1, .f32⟩
  | .hbm, ⟨38, _⟩ => ⟨S128x8x1, .f32⟩
  | .hbm, ⟨39, _⟩ => ⟨S128x8x2048, .f32⟩
  | .hbm, ⟨40, _⟩ => ⟨S128x8x2048, .f32⟩
  | .hbm, ⟨41, _⟩ => ⟨S1x1x2048, .f32⟩
  | .hbm, ⟨42, _⟩ => ⟨S128x8x2048, .f32⟩
  | .hbm, ⟨43, _⟩ => ⟨S128x8x2048, .f32⟩
  | .hbm, ⟨44, _⟩ => ⟨S2048x6144, .f32⟩
  | .hbm, ⟨45, _⟩ => ⟨S2048x2048, .f32⟩
  | .hbm, ⟨46, _⟩ => ⟨S128x8x2048, .f32⟩
  | .hbm, ⟨47, _⟩ => ⟨S1024x2048, .f32⟩
  | .hbm, ⟨48, _⟩ => ⟨S17408x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== QkProj.lean ====
abbrev S8x2048x2048 : Shape := ⟨3, ![8, 2048, 2048]⟩
abbrev S128x8x2048 : Shape := ⟨3, ![128, 8, 2048]⟩
abbrev S2x2048 : Shape := ⟨2, ![2, 2048]⟩
abbrev S1x2048x6144 : Shape := ⟨3, ![1, 2048, 6144]⟩
abbrev S1x128 : Shape := ⟨2, ![1, 128]⟩
abbrev S16384x2048 : Shape := ⟨2, ![16384, 2048]⟩
abbrev S1024x2048 : Shape := ⟨2, ![1024, 2048]⟩
abbrev S17408x2048 : Shape := ⟨2, ![17408, 2048]⟩
abbrev S2048x6144 : Shape := ⟨2, ![2048, 6144]⟩
abbrev S128 : Shape := ⟨1, ![128]⟩
abbrev S16x128 : Shape := ⟨2, ![16, 128]⟩
abbrev S2048 : Shape := ⟨1, ![2048]⟩
abbrev S4096 : Shape := ⟨1, ![4096]⟩
abbrev S1x4096 : Shape := ⟨2, ![1, 4096]⟩
abbrev S2048x4096 : Shape := ⟨2, ![2048, 4096]⟩
abbrev S1x2048 : Shape := ⟨2, ![1, 2048]⟩
abbrev S17408x4096 : Shape := ⟨2, ![17408, 4096]⟩
abbrev S2048x512 : Shape := ⟨2, ![2048, 512]⟩
abbrev S1x512 : Shape := ⟨2, ![1, 512]⟩
abbrev S1024x512 : Shape := ⟨2, ![1024, 512]⟩
abbrev S64x2048 : Shape := ⟨2, ![64, 2048]⟩
abbrev S64 : Shape := ⟨1, ![64]⟩
abbrev S64x1 : Shape := ⟨2, ![64, 1]⟩
abbrev S1024x128 : Shape := ⟨2, ![1024, 128]⟩
abbrev S1024 : Shape := ⟨1, ![1024]⟩
abbrev S1024x1 : Shape := ⟨2, ![1024, 1]⟩

abbrev nBuf : Space → Nat
  | .hbm => 26
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S128x8x2048, .f32⟩
  | .hbm, ⟨2, _⟩ => ⟨S2x2048, .f32⟩
  | .hbm, ⟨3, _⟩ => ⟨S1x2048x6144, .f32⟩
  | .hbm, ⟨4, _⟩ => ⟨S1x128, .f32⟩
  | .hbm, ⟨5, _⟩ => ⟨S1x128, .f32⟩
  | .hbm, ⟨6, _⟩ => ⟨S16384x2048, .f32⟩
  | .hbm, ⟨7, _⟩ => ⟨S1024x2048, .f32⟩
  | .hbm, ⟨8, _⟩ => ⟨S17408x2048, .f32⟩
  | .hbm, ⟨9, _⟩ => ⟨S2048x6144, .f32⟩
  | .hbm, ⟨10, _⟩ => ⟨S2048x6144, .bf16⟩
  | .hbm, ⟨11, _⟩ => ⟨S128, .f32⟩
  | .hbm, ⟨12, _⟩ => ⟨S1x128, .f32⟩
  | .hbm, ⟨13, _⟩ => ⟨S16x128, .f32⟩
  | .hbm, ⟨14, _⟩ => ⟨S2048, .f32⟩
  | .hbm, ⟨15, _⟩ => ⟨S128, .f32⟩
  | .hbm, ⟨16, _⟩ => ⟨S1x128, .f32⟩
  | .hbm, ⟨17, _⟩ => ⟨S16x128, .f32⟩
  | .hbm, ⟨18, _⟩ => ⟨S2048, .f32⟩
  | .hbm, ⟨19, _⟩ => ⟨S4096, .f32⟩
  | .hbm, ⟨20, _⟩ => ⟨S1x4096, .f32⟩
  | .hbm, ⟨21, _⟩ => ⟨S2048x4096, .bf16⟩
  | .hbm, ⟨22, _⟩ => ⟨S1x2048, .f32⟩
  | .hbm, ⟨23, _⟩ => ⟨S2048, .f32⟩
  | .hbm, ⟨24, _⟩ => ⟨S1x2048, .f32⟩
  | .hbm, ⟨25, _⟩ => ⟨S17408x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | .local _ .vmem, ⟨9, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_29 : BitVec 32 := 0#32
  let c16_i32 : BitVec 32 := 16#32
  let v71 : BitVec 32 := Scalar.addi c0_i32_29 c16_i32
  let c1_i32 : BitVec 32 := 1#32
  ⟨c0_i32_29, v71, c1_i32⟩
def k0_mult1 (k0_t1 : Fin k0_t1_loop.trips) : BitVec 32 :=
  let c0_i32_29 : BitVec 32 := 0#32
  let c1_i32 : BitVec 32 := 1#32
  let arg8 : BitVec 32 := Scf.iv c0_i32_29 c1_i32 k0_t1
  let c64_i32 : BitVec 32 := 64#32
  let v72 : BitVec 32 := Scalar.muli arg8 c64_i32
  v72
def k0_off1 (k0_t1 : Fin k0_t1_loop.trips) : Fin 2 → Nat :=
  let c0_i32_29 : BitVec 32 := 0#32
  let c1_i32 : BitVec 32 := 1#32
  let arg8 : BitVec 32 := Scf.iv c0_i32_29 c1_i32 k0_t1
  let c64_i32 : BitVec 32 := 64#32
  let v72 : BitVec 32 := Scalar.muli arg8 c64_i32
  let v73 : BitVec 32 := v72
  let v74 : Index := Scalar.indexCast v73
  let c0_31 : Index := 0#32
  ![v74.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QkRefIdeal.lean ====
abbrev S8x2048x2048 : Shape := ⟨3, ![8, 2048, 2048]⟩
abbrev S128x8x2048 : Shape := ⟨3, ![128, 8, 2048]⟩
abbrev S2x2048 : Shape := ⟨2, ![2, 2048]⟩
abbrev S1x2048x6144 : Shape := ⟨3, ![1, 2048, 6144]⟩
abbrev S1x128 : Shape := ⟨2, ![1, 128]⟩
abbrev S1x2048 : Shape := ⟨2, ![1, 2048]⟩
abbrev S2048 : Shape := ⟨1, ![2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x6144 : Shape := ⟨2, ![2048, 6144]⟩
abbrev S2048x4096 : Shape := ⟨2, ![2048, 4096]⟩
abbrev S8x2048x4096 : Shape := ⟨3, ![8, 2048, 4096]⟩
abbrev S16384x2x16x128 : Shape := ⟨4, ![16384, 2, 16, 128]⟩
abbrev S16384x1x16x128 : Shape := ⟨4, ![16384, 1, 16, 128]⟩
abbrev S16384x16x128 : Shape := ⟨3, ![16384, 16, 128]⟩
abbrev S128 : Shape := ⟨1, ![128]⟩
abbrev S16384x16 : Shape := ⟨2, ![16384, 16]⟩
abbrev S16384x16x1 : Shape := ⟨3, ![16384, 16, 1]⟩
abbrev S1x1x128 : Shape := ⟨3, ![1, 1, 128]⟩
abbrev S16384x2048 : Shape := ⟨2, ![16384, 2048]⟩
abbrev S16384x4096 : Shape := ⟨2, ![16384, 4096]⟩
abbrev S128x8 : Shape := ⟨2, ![128, 8]⟩
abbrev S128x8x1 : Shape := ⟨3, ![128, 8, 1]⟩
abbrev S128x8x4096 : Shape := ⟨3, ![128, 8, 4096]⟩
abbrev S1024x2x16x128 : Shape := ⟨4, ![1024, 2, 16, 128]⟩
abbrev S1024x1x16x128 : Shape := ⟨4, ![1024, 1, 16, 128]⟩
abbrev S1024x16x128 : Shape := ⟨3, ![1024, 16, 128]⟩
abbrev S1024x16 : Shape := ⟨2, ![1024, 16]⟩
abbrev S1024x16x1 : Shape := ⟨3, ![1024, 16, 1]⟩
abbrev S1024x2048 : Shape := ⟨2, ![1024, 2048]⟩
abbrev S1024x4096 : Shape := ⟨2, ![1024, 4096]⟩
abbrev S17408x4096 : Shape := ⟨2, ![17408, 4096]⟩

abbrev nBuf : Space → Nat
  | .hbm => 133
  | .vmem => 0
  | .smem => 0
  | _ => 0

abbrev hbmTy0_0 (i : Nat) : BufTy := match i % 128 with
  | 0 => ⟨S8x2048x2048, .f32⟩
  | 1 => ⟨S128x8x2048, .f32⟩
  | 2 => ⟨S2x2048, .f32⟩
  | 3 => ⟨S1x2048x6144, .f32⟩
  | 4 => ⟨S1x128, .f32⟩
  | 5 => ⟨S1x128, .f32⟩
  | 6 => ⟨S1x2048, .f32⟩
  | 7 => ⟨S2048, .f32⟩
  | 8 => ⟨S8x2048x2048, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x2048, .f32⟩
  | 20 => ⟨S8x2048x2048, .f32⟩
  | 21 => ⟨S1x1x2048, .f32⟩
  | 22 => ⟨S8x2048x2048, .f32⟩
  | 23 => ⟨S8x2048x2048, .f32⟩
  | 24 => ⟨S2048x6144, .f32⟩
  | 25 => ⟨S2048x4096, .f32⟩
  | 26 => ⟨S8x2048x4096, .f32⟩
  | 27 => ⟨S16384x2x16x128, .f32⟩
  | 28 => ⟨S16384x1x16x128, .f32⟩
  | 29 => ⟨S16384x16x128, .f32⟩
  | 30 => ⟨S128, .f32⟩
  | 31 => ⟨S16384x16x128, .f32⟩
  | 32 => ⟨S_, .f32⟩
  | 33 => ⟨S16384x16, .f32⟩
  | 34 => ⟨S16384x16x1, .f32⟩
  | 35 => ⟨S_, .f32⟩
  | 36 => ⟨S16384x16x1, .f32⟩
  | 37 => ⟨S16384x16x1, .f32⟩
  | 38 => ⟨S_, .f32⟩
  | 39 => ⟨S16384x16x1, .f32⟩
  | 40 => ⟨S16384x16x1, .f32⟩
  | 41 => ⟨S16384x16x1, .f32⟩
  | 42 => ⟨S16384x16x128, .f32⟩
  | 43 => ⟨S16384x16x128, .f32⟩
  | 44 => ⟨S1x1x128, .f32⟩
  | 45 => ⟨S16384x16x128, .f32⟩
  | 46 => ⟨S16384x16x128, .f32⟩
  | 47 => ⟨S16384x1x16x128, .f32⟩
  | 48 => ⟨S16384x16x128, .f32⟩
  | 49 => ⟨S128, .f32⟩
  | 50 => ⟨S16384x16x128, .f32⟩
  | 51 => ⟨S_, .f32⟩
  | 52 => ⟨S16384x16, .f32⟩
  | 53 => ⟨S16384x16x1, .f32⟩
  | 54 => ⟨S_, .f32⟩
  | 55 => ⟨S16384x16x1, .f32⟩
  | 56 => ⟨S16384x16x1, .f32⟩
  | 57 => ⟨S_, .f32⟩
  | 58 => ⟨S16384x16x1, .f32⟩
  | 59 => ⟨S16384x16x1, .f32⟩
  | 60 => ⟨S16384x16x1, .f32⟩
  | 61 => ⟨S16384x16x128, .f32⟩
  | 62 => ⟨S16384x16x128, .f32⟩
  | 63 => ⟨S1x1x128, .f32⟩
  | 64 => ⟨S16384x16x128, .f32⟩
  | 65 => ⟨S16384x16x128, .f32⟩
  | 66 => ⟨S16384x2048, .f32⟩
  | 67 => ⟨S16384x2048, .f32⟩
  | 68 => ⟨S16384x4096, .f32⟩
  | 69 => ⟨S1x2048, .f32⟩
  | 70 => ⟨S2048, .f32⟩
  | 71 => ⟨S128x8x2048, .f32⟩
  | 72 => ⟨S_, .f32⟩
  | 73 => ⟨S128x8, .f32⟩
  | 74 => ⟨S128x8x1, .f32⟩
  | 75 => ⟨S_, .f32⟩
  | 76 => ⟨S128x8x1, .f32⟩
  | 77 => ⟨S128x8x1, .f32⟩
  | 78 => ⟨S_, .f32⟩
  | 79 => ⟨S128x8x1, .f32⟩
  | 80 => ⟨S128x8x1, .f32⟩
  | 81 => ⟨S128x8x1, .f32⟩
  | 82 => ⟨S128x8x2048, .f32⟩
  | 83 => ⟨S128x8x2048, .f32⟩
  | 84 => ⟨S1x1x2048, .f32⟩
  | 85 => ⟨S128x8x2048, .f32⟩
  | 86 => ⟨S128x8x2048, .f32⟩
  | 87 => ⟨S2048x6144, .f32⟩
  | 88 => ⟨S2048x4096, .f32⟩
  | 89 => ⟨S128x8x4096, .f32⟩
  | 90 => ⟨S1024x2x16x128, .f32⟩
  | 91 => ⟨S1024x1x16x128, .f32⟩
  | 92 => ⟨S1024x16x128, .f32⟩
  | 93 => ⟨S128, .f32⟩
  | 94 => ⟨S1024x16x128, .f32⟩
  | 95 => ⟨S_, .f32⟩
  | 96 => ⟨S1024x16, .f32⟩
  | 97 => ⟨S1024x16x1, .f32⟩
  | 98 => ⟨S_, .f32⟩
  | 99 => ⟨S1024x16x1, .f32⟩
  | 100 => ⟨S1024x16x1, .f32⟩
  | 101 => ⟨S_, .f32⟩
  | 102 => ⟨S1024x16x1, .f32⟩
  | 103 => ⟨S1024x16x1, .f32⟩
  | 104 => ⟨S1024x16x1, .f32⟩
  | 105 => ⟨S1024x16x128, .f32⟩
  | 106 => ⟨S1024x16x128, .f32⟩
  | 107 => ⟨S1x1x128, .f32⟩
  | 108 => ⟨S1024x16x128, .f32⟩
  | 109 => ⟨S1024x16x128, .f32⟩
  | 110 => ⟨S1024x1x16x128, .f32⟩
  | 111 => ⟨S1024x16x128, .f32⟩
  | 112 => ⟨S128, .f32⟩
  | 113 => ⟨S1024x16x128, .f32⟩
  | 114 => ⟨S_, .f32⟩
  | 115 => ⟨S1024x16, .f32⟩
  | 116 => ⟨S1024x16x1, .f32⟩
  | 117 => ⟨S_, .f32⟩
  | 118 => ⟨S1024x16x1, .f32⟩
  | 119 => ⟨S1024x16x1, .f32⟩
  | 120 => ⟨S_, .f32⟩
  | 121 => ⟨S1024x16x1, .f32⟩
  | 122 => ⟨S1024x16x1, .f32⟩
  | 123 => ⟨S1024x16x1, .f32⟩
  | 124 => ⟨S1024x16x128, .f32⟩
  | 125 => ⟨S1024x16x128, .f32⟩
  | 126 => ⟨S1x1x128, .f32⟩
  | 127 => ⟨S1024x16x128, .f32⟩
  | _ => ⟨S8x2048x2048, .f32⟩

abbrev hbmTy0_1 (i : Nat) : BufTy := match i % 128 with
  | 0 => ⟨S1024x16x128, .f32⟩
  | 1 => ⟨S1024x2048, .f32⟩
  | 2 => ⟨S1024x2048, .f32⟩
  | 3 => ⟨S1024x4096, .f32⟩
  | 4 => ⟨S17408x4096, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_5 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_11 : Ref sig .tc := ⟨.hbm, 95, rfl⟩
abbrev main_v77 : Ref sig .tc := ⟨.hbm, 96, rfl⟩
abbrev main_v78 : Ref sig .tc := ⟨.hbm, 97, rfl⟩
abbrev main_cst_12 : Ref sig .tc := ⟨.hbm, 98, rfl⟩
abbrev main_v79 : Ref sig .tc := ⟨.hbm, 99, rfl⟩
abbrev main_v80 : Ref sig .tc := ⟨.hbm, 100, rfl⟩
abbrev main_cst_13 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_14 : Ref sig .tc := ⟨.hbm, 114, rfl⟩
abbrev main_v93 : Ref sig .tc := ⟨.hbm, 115, rfl⟩
abbrev main_v94 : Ref sig .tc := ⟨.hbm, 116, rfl⟩
abbrev main_cst_15 : Ref sig .tc := ⟨.hbm, 117, rfl⟩
abbrev main_v95 : Ref sig .tc := ⟨.hbm, 118, rfl⟩
abbrev main_v96 : Ref sig .tc := ⟨.hbm, 119, rfl⟩
abbrev main_cst_16 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩

abbrev nD : Nat := 1
abbrev τ : Topo := Topo.v7x

variable {F : FTy → Type} [FloatOps F]
-- ==== WoProj.lean ====
abbrev S17408x2048 : Shape := ⟨2, ![17408, 2048]⟩
abbrev S1x2048x2048 : Shape := ⟨3, ![1, 2048, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S64x2048 : Shape := ⟨2, ![64, 2048]⟩

abbrev nBuf : Space → Nat
  | .hbm => 6
  | .vmem => 9
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S1x2048x2048, .f32⟩
  | .hbm, ⟨3, _⟩ => ⟨S2048x2048, .f32⟩
  | .hbm, ⟨4, _⟩ => ⟨S2048x2048, .bf16⟩
  | .hbm, ⟨5, _⟩ => ⟨S17408x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![17, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c16_i32 : BitVec 32 := 16#32
  let v10 : BitVec 32 := Scalar.addi c0_i32_8 c16_i32
  let c1_i32 : BitVec 32 := 1#32
  ⟨c0_i32_8, v10, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c64_i32 : BitVec 32 := 64#32
  let v11 : BitVec 32 := Scalar.muli arg7 c64_i32
  v11
def k0_off1 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c64_i32 : BitVec 32 := 64#32
  let v11 : BitVec 32 := Scalar.muli arg7 c64_i32
  let v12 : BitVec 32 := v11
  let v13 : Index := Scalar.indexCast v12
  let c0_10 : Index := 0#32
  ![v13.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== WoRefIdeal.lean ====
abbrev S17408x2048 : Shape := ⟨2, ![17408, 2048]⟩
abbrev S1x2048x2048 : Shape := ⟨3, ![1, 2048, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x2048, .f32⟩
  | .hbm, ⟨2, _⟩ => ⟨S1x2048x2048, .f32⟩
  | .hbm, ⟨3, _⟩ => ⟨S2048x2048, .f32⟩
  | .hbm, ⟨4, _⟩ => ⟨S17408x2048, .f32⟩
  | .hbm, ⟨5, _⟩ => ⟨S17408x2048, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== VgProj.lean ====
abbrev S17408x2048 : Shape := ⟨2, ![17408, 2048]⟩
abbrev S2x2048 : Shape := ⟨2, ![2, 2048]⟩
abbrev S1x2048x12288 : Shape := ⟨3, ![1, 2048, 12288]⟩
abbrev S2048x12288 : Shape := ⟨2, ![2048, 12288]⟩
abbrev S2048x8192 : Shape := ⟨2, ![2048, 8192]⟩
abbrev S1x2048 : Shape := ⟨2, ![1, 2048]⟩
abbrev S2048 : Shape := ⟨1, ![2048]⟩
abbrev S17408x8192 : Shape := ⟨2, ![17408, 8192]⟩
abbrev S1024x2048 : Shape := ⟨2, ![1024, 2048]⟩
abbrev S2048x512 : Shape := ⟨2, ![2048, 512]⟩
abbrev S1024x512 : Shape := ⟨2, ![1024, 512]⟩
abbrev S64x2048 : Shape := ⟨2, ![64, 2048]⟩
abbrev S64 : Shape := ⟨1, ![64]⟩
abbrev S64x1 : Shape := ⟨2, ![64, 1]⟩

abbrev nBuf : Space → Nat
  | .hbm => 10
  | .vmem => 8
  | .smem => 0
  | _ => 0

abbrev bufTy : (tb : Table) → Fin (tcTables nBuf tb) → BufTy
  | .hbm, ⟨0, _⟩ => ⟨S17408x2048, .f32⟩
  | .hbm, ⟨1, _⟩ => ⟨S2x2048, .f32⟩
  | .hbm, ⟨2, _⟩ => ⟨S1x2048x12288, .f32⟩
  | .hbm, ⟨3, _⟩ => ⟨S2048x12288, .f32⟩
  | .hbm, ⟨4, _⟩ => ⟨S2048x12288, .bf16⟩
  | .hbm, ⟨5, _⟩ => ⟨S2048x8192, .bf16⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S17408x8192, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![17, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c16_i32 : BitVec 32 := 16#32
  let v8 : BitVec 32 := Scalar.addi c0_i32_6 c16_i32
  let c1_i32 : BitVec 32 := 1#32
  ⟨c0_i32_6, v8, c1_i32⟩
def k0_mult1 (k0_t1 : Fin k0_t1_loop.trips) : BitVec 32 :=
  let c0_i32_6 : BitVec 32 := 0#32
  let c1_i32 : BitVec 32 := 1#32
  let arg7 : BitVec 32 := Scf.iv c0_i32_6 c1_i32 k0_t1
  let c64_i32 : BitVec 32 := 64#32
  let v9 : BitVec 32 := Scalar.muli arg7 c64_i32
  v9
def k0_off1 (k0_t1 : Fin k0_t1_loop.trips) : Fin 2 → Nat :=
  let c0_i32_6 : BitVec 32 := 0#32
  let c1_i32 : BitVec 32 := 1#32
  let arg7 : BitVec 32 := Scf.iv c0_i32_6 c1_i32 k0_t1
  let c64_i32 : BitVec 32 := 64#32
  let v9 : BitVec 32 := Scalar.muli arg7 c64_i32
  let v10 : BitVec 32 := v9
  let v11 : Index := Scalar.indexCast v10
  let c0_8 : Index := 0#32
  ![v11.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== VgRefIdeal.lean ====
abbrev S17408x2048 : Shape := ⟨2, ![17408, 2048]⟩
abbrev S2x2048 : Shape := ⟨2, ![2, 2048]⟩
abbrev S1x2048x12288 : Shape := ⟨3, ![1, 2048, 12288]⟩
abbrev S1x2048 : Shape := ⟨2, ![1, 2048]⟩
abbrev S2048 : Shape := ⟨1, ![2048]⟩
abbrev S_ : Shape := ⟨0, ![]⟩
abbrev S17408 : Shape := ⟨1, ![17408]⟩
abbrev S17408x1 : Shape := ⟨2, ![17408, 1]⟩
abbrev S2048x12288 : Shape := ⟨2, ![2048, 12288]⟩
abbrev S2048x8192 : Shape := ⟨2, ![2048, 8192]⟩
abbrev S17408x8192 : Shape := ⟨2, ![17408, 8192]⟩

abbrev nBuf : Space → Nat
  | .hbm => 24
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2x2048, .f32⟩
  | .hbm, ⟨2, _⟩ => ⟨S1x2048x12288, .f32⟩
  | .hbm, ⟨3, _⟩ => ⟨S1x2048, .f32⟩
  | .hbm, ⟨4, _⟩ => ⟨S2048, .f32⟩
  | .hbm, ⟨5, _⟩ => ⟨S17408x2048, .f32⟩
  | .hbm, ⟨6, _⟩ => ⟨S_, .f32⟩
  | .hbm, ⟨7, _⟩ => ⟨S17408, .f32⟩
  | .hbm, ⟨8, _⟩ => ⟨S17408x1, .f32⟩
  | .hbm, ⟨9, _⟩ => ⟨S_, .f32⟩
  | .hbm, ⟨10, _⟩ => ⟨S17408x1, .f32⟩
  | .hbm, ⟨11, _⟩ => ⟨S17408x1, .f32⟩
  | .hbm, ⟨12, _⟩ => ⟨S_, .f32⟩
  | .hbm, ⟨13, _⟩ => ⟨S17408x1, .f32⟩
  | .hbm, ⟨14, _⟩ => ⟨S17408x1, .f32⟩
  | .hbm, ⟨15, _⟩ => ⟨S17408x1, .f32⟩
  | .hbm, ⟨16, _⟩ => ⟨S17408x2048, .f32⟩
  | .hbm, ⟨17, _⟩ => ⟨S17408x2048, .f32⟩
  | .hbm, ⟨18, _⟩ => ⟨S1x2048, .f32⟩
  | .hbm, ⟨19, _⟩ => ⟨S17408x2048, .f32⟩
  | .hbm, ⟨20, _⟩ => ⟨S17408x2048, .f32⟩
  | .hbm, ⟨21, _⟩ => ⟨S2048x12288, .f32⟩
  | .hbm, ⟨22, _⟩ => ⟨S2048x8192, .f32⟩
  | .hbm, ⟨23, _⟩ => ⟨S17408x8192, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== RqkProj.lean ====
abbrev S17408x2048 : Shape := ⟨2, ![17408, 2048]⟩
abbrev S2x2048 : Shape := ⟨2, ![2, 2048]⟩
abbrev S1x2048x12288 : Shape := ⟨3, ![1, 2048, 12288]⟩
abbrev S2048x12288 : Shape := ⟨2, ![2048, 12288]⟩
abbrev S2048 : Shape := ⟨1, ![2048]⟩
abbrev S1x2048 : Shape := ⟨2, ![1, 2048]⟩
abbrev S8x2048 : Shape := ⟨2, ![8, 2048]⟩
abbrev S16384 : Shape := ⟨1, ![16384]⟩
abbrev S8 : Shape := ⟨1, ![8]⟩
abbrev S_ : Shape := ⟨0, ![]⟩
abbrev S1x8 : Shape := ⟨2, ![1, 8]⟩
abbrev S128x8 : Shape := ⟨2, ![128, 8]⟩
abbrev S1024 : Shape := ⟨1, ![1024]⟩
abbrev S17408 : Shape := ⟨1, ![17408]⟩
abbrev S128 : Shape := ⟨1, ![128]⟩
abbrev S17408x1 : Shape := ⟨2, ![17408, 1]⟩
abbrev S1x128 : Shape := ⟨2, ![1, 128]⟩
abbrev S17408x128 : Shape := ⟨2, ![17408, 128]⟩
abbrev S2048x4096 : Shape := ⟨2, ![2048, 4096]⟩
abbrev S17408x4096 : Shape := ⟨2, ![17408, 4096]⟩
abbrev S1024x2048 : Shape := ⟨2, ![1024, 2048]⟩
abbrev S2048x512 : Shape := ⟨2, ![2048, 512]⟩
abbrev S1024x128 : Shape := ⟨2, ![1024, 128]⟩
abbrev S1024x512 : Shape := ⟨2, ![1024, 512]⟩
abbrev S64x2048 : Shape := ⟨2, ![64, 2048]⟩
abbrev S64 : Shape := ⟨1, ![64]⟩
abbrev S64x1 : Shape := ⟨2, ![64, 1]⟩

abbrev nBuf : Space → Nat
  | .hbm => 38
  | .vmem => 12
  | .smem => 0
  | _ => 0

abbrev bufTy : (tb : Table) → Fin (tcTables nBuf tb) → BufTy
  | .hbm, ⟨0, _⟩ => ⟨S17408x2048, .f32⟩
  | .hbm, ⟨1, _⟩ => ⟨S2x2048, .f32⟩
  | .hbm, ⟨2, _⟩ => ⟨S1x2048x12288, .f32⟩
  | .hbm, ⟨3, _⟩ => ⟨S2048x12288, .f32⟩
  | .hbm, ⟨4, _⟩ => ⟨S2048x12288, .bf16⟩
  | .hbm, ⟨5, _⟩ => ⟨S2048, .i32⟩
  | .hbm, ⟨6, _⟩ => ⟨S1x2048, .i32⟩
  | .hbm, ⟨7, _⟩ => ⟨S8x2048, .i32⟩
  | .hbm, ⟨8, _⟩ => ⟨S16384, .i32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S1x8, .i32⟩
  | .hbm, ⟨14, _⟩ => ⟨S128x8, .i32⟩
  | .hbm, ⟨15, _⟩ => ⟨S1024, .i32⟩
  | .hbm, ⟨16, _⟩ => ⟨S17408, .i32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S17408, .f32⟩
  | .hbm, ⟨26, _⟩ => ⟨S17408x1, .f32⟩
  | .hbm, ⟨27, _⟩ => ⟨S1x128, .f32⟩
  | .hbm, ⟨28, _⟩ => ⟨S17408x128, .f32⟩
  | .hbm, ⟨29, _⟩ => ⟨S17408x128, .f32⟩
  | .hbm, ⟨30, _⟩ => ⟨S17408x128, .f32⟩
  | .hbm, ⟨31, _⟩ => ⟨S17408x128, .f32⟩
  | .hbm, ⟨32, _⟩ => ⟨S17408x128, .f32⟩
  | .hbm, ⟨33, _⟩ => ⟨S2048x4096, .bf16⟩
  | .hbm, ⟨34, _⟩ => ⟨S1x2048, .f32⟩
  | .hbm, ⟨35, _⟩ => ⟨S2048, .f32⟩
  | .hbm, ⟨36, _⟩ => ⟨S1x2048, .f32⟩
  | .hbm, ⟨37, _⟩ => ⟨S17408x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x512, .f32⟩
  | .local _ .vmem, ⟨10, _⟩ => ⟨S1024x512, .f32⟩
  | .local _ .vmem, ⟨11, _⟩ => ⟨S1024x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![17, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_20 : BitVec 32 := 0#32
  let c16_i32 : BitVec 32 := 16#32
  let v47 : BitVec 32 := Scalar.addi c0_i32_20 c16_i32
  let c1_i32 : BitVec 32 := 1#32
  ⟨c0_i32_20, v47, c1_i32⟩
def k0_mult1 (k0_t1 : Fin k0_t1_loop.trips) : BitVec 32 :=
  let c0_i32_20 : BitVec 32 := 0#32
  let c1_i32 : BitVec 32 := 1#32
  let arg9 : BitVec 32 := Scf.iv c0_i32_20 c1_i32 k0_t1
  let c64_i32 : BitVec 32 := 64#32
  let v48 : BitVec 32 := Scalar.muli arg9 c64_i32
  v48
def k0_off1 (k0_t1 : Fin k0_t1_loop.trips) : Fin 2 → Nat :=
  let c0_i32_20 : BitVec 32 := 0#32
  let c1_i32 : BitVec 32 := 1#32
  let arg9 : BitVec 32 := Scf.iv c0_i32_20 c1_i32 k0_t1
  let c64_i32 : BitVec 32 := 64#32
  let v48 : BitVec 32 := Scalar.muli arg9 c64_i32
  let v49 : BitVec 32 := v48
  let v50 : Index := Scalar.indexCast v49
  let c0_22 : Index := 0#32
  ![v50.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RqkRefIdeal.lean ====
abbrev S17408x2048 : Shape := ⟨2, ![17408, 2048]⟩
abbrev S2x2048 : Shape := ⟨2, ![2, 2048]⟩
abbrev S1x2048x12288 : Shape := ⟨3, ![1, 2048, 12288]⟩
abbrev S16384x2048 : Shape := ⟨2, ![16384, 2048]⟩
abbrev S8x2048x2048 : Shape := ⟨3, ![8, 2048, 2048]⟩
abbrev S1024x2048 : Shape := ⟨2, ![1024, 2048]⟩
abbrev S128x8x2048 : Shape := ⟨3, ![128, 8, 2048]⟩
abbrev S2048 : Shape := ⟨1, ![2048]⟩
abbrev S1x2048 : Shape := ⟨2, ![1, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S2048x12288 : Shape := ⟨2, ![2048, 12288]⟩
abbrev S2048x4096 : Shape := ⟨2, ![2048, 4096]⟩
abbrev S8x2048x4096 : Shape := ⟨3, ![8, 2048, 4096]⟩
abbrev S8x2048x8x256 : Shape := ⟨4, ![8, 2048, 8, 256]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S8x2048x8x128 : Shape := ⟨4, ![8, 2048, 8, 128]⟩
abbrev S16384x4096 : Shape := ⟨2, ![16384, 4096]⟩
abbrev S8 : Shape := ⟨1, ![8]⟩
abbrev S128x8 : Shape := ⟨2, ![128, 8]⟩
abbrev S128x8x1 : Shape := ⟨3, ![128, 8, 1]⟩
abbrev S128x8x4096 : Shape := ⟨3, ![128, 8, 4096]⟩
abbrev S128x8x8x256 : Shape := ⟨4, ![128, 8, 8, 256]⟩
abbrev S8x1 : Shape := ⟨2, ![8, 1]⟩
abbrev S8x128 : Shape := ⟨2, ![8, 128]⟩
abbrev S1x8x1x128 : Shape := ⟨4, ![1, 8, 1, 128]⟩
abbrev S128x8x8x128 : Shape := ⟨4, ![128, 8, 8, 128]⟩
abbrev S1024x4096 : Shape := ⟨2, ![1024, 4096]⟩
abbrev S17408x4096 : Shape := ⟨2, ![17408, 4096]⟩

abbrev nBuf : Space → Nat
  | .hbm => 199
  | .vmem => 0
  | .smem => 0
  | _ => 0

abbrev hbmTy0_0 (i : Nat) : BufTy := match i % 128 with
  | 0 => ⟨S17408x2048, .f32⟩
  | 1 => ⟨S2x2048, .f32⟩
  | 2 => ⟨S1x2048x12288, .f32⟩
  | 3 => ⟨S16384x2048, .f32⟩
  | 4 => ⟨S8x2048x2048, .f32⟩
  | 5 => ⟨S1024x2048, .f32⟩
  | 6 => ⟨S128x8x2048, .f32⟩
  | 7 => ⟨S2048, .i32⟩
  | 8 => ⟨S1x2048, .f32⟩
  | 9 => ⟨S2048, .f32⟩
  | 10 => ⟨S8x2048x2048, .f32⟩
  | 11 => ⟨S_, .f32⟩
  | 12 => ⟨S8x2048, .f32⟩
  | 13 => ⟨S8x2048x1, .f32⟩
  | 14 => ⟨S_, .f32⟩
  | 15 => ⟨S8x2048x1, .f32⟩
  | 16 => ⟨S8x2048x1, .f32⟩
  | 17 => ⟨S_, .f32⟩
  | 18 => ⟨S8x2048x1, .f32⟩
  | 19 => ⟨S8x2048x1, .f32⟩
  | 20 => ⟨S8x2048x1, .f32⟩
  | 21 => ⟨S8x2048x2048, .f32⟩
  | 22 => ⟨S8x2048x2048, .f32⟩
  | 23 => ⟨S1x1x2048, .f32⟩
  | 24 => ⟨S8x2048x2048, .f32⟩
  | 25 => ⟨S8x2048x2048, .f32⟩
  | 26 => ⟨S2048x12288, .f32⟩
  | 27 => ⟨S2048x4096, .f32⟩
  | 28 => ⟨S8x2048x4096, .f32⟩
  | 29 => ⟨S8x2048x2048, .f32⟩
  | 30 => ⟨S8x2048x8x256, .f32⟩
  | 31 => ⟨S128, .f32⟩
  | 32 => ⟨S128, .f32⟩
  | 33 => ⟨S_, .f32⟩
  | 34 => ⟨S128, .f32⟩
  | 35 => ⟨S128, .f32⟩
  | 36 => ⟨S_, .f32⟩
  | 37 => ⟨S128, .f32⟩
  | 38 => ⟨S128, .f32⟩
  | 39 => ⟨S2048, .f32⟩
  | 40 => ⟨S2048x1, .f32⟩
  | 41 => ⟨S1x128, .f32⟩
  | 42 => ⟨S2048x128, .f32⟩
  | 43 => ⟨S2048x128, .f32⟩
  | 44 => ⟨S2048x128, .f32⟩
  | 45 => ⟨S2048x128, .f32⟩
  | 46 => ⟨S1x2048x1x128, .f32⟩
  | 47 => ⟨S2048x128, .f32⟩
  | 48 => ⟨S1x2048x1x128, .f32⟩
  | 49 => ⟨S8x2048x8x128, .f32⟩
  | 50 => ⟨S8x2048x8x128, .f32⟩
  | 51 => ⟨S8x2048x8x128, .f32⟩
  | 52 => ⟨S8x2048x8x128, .f32⟩
  | 53 => ⟨S8x2048x8x128, .f32⟩
  | 54 => ⟨S8x2048x8x128, .f32⟩
  | 55 => ⟨S8x2048x8x128, .f32⟩
  | 56 => ⟨S8x2048x8x128, .f32⟩
  | 57 => ⟨S8x2048x8x128, .f32⟩
  | 58 => ⟨S8x2048x8x128, .f32⟩
  | 59 => ⟨S8x2048x8x128, .f32⟩
  | 60 => ⟨S8x2048x8x128, .f32⟩
  | 61 => ⟨S8x2048x8x256, .f32⟩
  | 62 => ⟨S8x2048x2048, .f32⟩
  | 63 => ⟨S8x2048x8x256, .f32⟩
  | 64 => ⟨S128, .f32⟩
  | 65 => ⟨S128, .f32⟩
  | 66 => ⟨S_, .f32⟩
  | 67 => ⟨S128, .f32⟩
  | 68 => ⟨S128, .f32⟩
  | 69 => ⟨S_, .f32⟩
  | 70 => ⟨S128, .f32⟩
  | 71 => ⟨S128, .f32⟩
  | 72 => ⟨S2048, .f32⟩
  | 73 => ⟨S2048x1, .f32⟩
  | 74 => ⟨S1x128, .f32⟩
  | 75 => ⟨S2048x128, .f32⟩
  | 76 => ⟨S2048x128, .f32⟩
  | 77 => ⟨S2048x128, .f32⟩
  | 78 => ⟨S2048x128, .f32⟩
  | 79 => ⟨S1x2048x1x128, .f32⟩
  | 80 => ⟨S2048x128, .f32⟩
  | 81 => ⟨S1x2048x1x128, .f32⟩
  | 82 => ⟨S8x2048x8x128, .f32⟩
  | 83 => ⟨S8x2048x8x128, .f32⟩
  | 84 => ⟨S8x2048x8x128, .f32⟩
  | 85 => ⟨S8x2048x8x128, .f32⟩
  | 86 => ⟨S8x2048x8x128, .f32⟩
  | 87 => ⟨S8x2048x8x128, .f32⟩
  | 88 => ⟨S8x2048x8x128, .f32⟩
  | 89 => ⟨S8x2048x8x128, .f32⟩
  | 90 => ⟨S8x2048x8x128, .f32⟩
  | 91 => ⟨S8x2048x8x128, .f32⟩
  | 92 => ⟨S8x2048x8x128, .f32⟩
  | 93 => ⟨S8x2048x8x128, .f32⟩
  | 94 => ⟨S8x2048x8x256, .f32⟩
  | 95 => ⟨S_, .f32⟩
  | 96 => ⟨S8x2048x8x256, .f32⟩
  | 97 => ⟨S8x2048x8x256, .f32⟩
  | 98 => ⟨S16384x2048, .f32⟩
  | 99 => ⟨S16384x2048, .f32⟩
  | 100 => ⟨S16384x4096, .f32⟩
  | 101 => ⟨S8, .i32⟩
  | 102 => ⟨S_, .i32⟩
  | 103 => ⟨S8, .i32⟩
  | 104 => ⟨S8, .i32⟩
  | 105 => ⟨S1x2048, .f32⟩
  | 106 => ⟨S2048, .f32⟩
  | 107 => ⟨S128x8x2048, .f32⟩
  | 108 => ⟨S_, .f32⟩
  | 109 => ⟨S128x8, .f32⟩
  | 110 => ⟨S128x8x1, .f32⟩
  | 111 => ⟨S_, .f32⟩
  | 112 => ⟨S128x8x1, .f32⟩
  | 113 => ⟨S128x8x1, .f32⟩
  | 114 => ⟨S_, .f32⟩
  | 115 => ⟨S128x8x1, .f32⟩
  | 116 => ⟨S128x8x1, .f32⟩
  | 117 => ⟨S128x8x1, .f32⟩
  | 118 => ⟨S128x8x2048, .f32⟩
  | 119 => ⟨S128x8x2048, .f32⟩
  | 120 => ⟨S1x1x2048, .f32⟩
  | 121 => ⟨S128x8x2048, .f32⟩
  | 122 => ⟨S128x8x2048, .f32⟩
  | 123 => ⟨S2048x12288, .f32⟩
  | 124 => ⟨S2048x4096, .f32⟩
  | 125 => ⟨S128x8x4096, .f32⟩
  | 126 => ⟨S128x8x2048, .f32⟩
  | 127 => ⟨S128x8x8x256, .f32⟩
  | _ => ⟨S17408x2048, .f32⟩

abbrev hbmTy0_1 (i : Nat) : BufTy := match i % 128 with
  | 0 => ⟨S128, .f32⟩
  | 1 => ⟨S128, .f32⟩
  | 2 => ⟨S_, .f32⟩
  | 3 => ⟨S128, .f32⟩
  | 4 => ⟨S128, .f32⟩
  | 5 => ⟨S_, .f32⟩
  | 6 => ⟨S128, .f32⟩
  | 7 => ⟨S128, .f32⟩
  | 8 => ⟨S8, .f32⟩
  | 9 => ⟨S8x1, .f32⟩
  | 10 => ⟨S1x128, .f32⟩
  | 11 => ⟨S8x128, .f32⟩
  | 12 => ⟨S8x128, .f32⟩
  | 13 => ⟨S8x128, .f32⟩
  | 14 => ⟨S8x128, .f32⟩
  | 15 => ⟨S1x8x1x128, .f32⟩
  | 16 => ⟨S8x128, .f32⟩
  | 17 => ⟨S1x8x1x128, .f32⟩
  | 18 => ⟨S128x8x8x128, .f32⟩
  | 19 => ⟨S128x8x8x128, .f32⟩
  | 20 => ⟨S128x8x8x128, .f32⟩
  | 21 => ⟨S128x8x8x128, .f32⟩
  | 22 => ⟨S128x8x8x128, .f32⟩
  | 23 => ⟨S128x8x8x128, .f32⟩
  | 24 => ⟨S128x8x8x128, .f32⟩
  | 25 => ⟨S128x8x8x128, .f32⟩
  | 26 => ⟨S128x8x8x128, .f32⟩
  | 27 => ⟨S128x8x8x128, .f32⟩
  | 28 => ⟨S128x8x8x128, .f32⟩
  | 29 => ⟨S128x8x8x128, .f32⟩
  | 30 => ⟨S128x8x8x256, .f32⟩
  | 31 => ⟨S128x8x2048, .f32⟩
  | 32 => ⟨S128x8x8x256, .f32⟩
  | 33 => ⟨S128, .f32⟩
  | 34 => ⟨S128, .f32⟩
  | 35 => ⟨S_, .f32⟩
  | 36 => ⟨S128, .f32⟩
  | 37 => ⟨S128, .f32⟩
  | 38 => ⟨S_, .f32⟩
  | 39 => ⟨S128, .f32⟩
  | 40 => ⟨S128, .f32⟩
  | 41 => ⟨S8, .f32⟩
  | 42 => ⟨S8x1, .f32⟩
  | 43 => ⟨S1x128, .f32⟩
  | 44 => ⟨S8x128, .f32⟩
  | 45 => ⟨S8x128, .f32⟩
  | 46 => ⟨S8x128, .f32⟩
  | 47 => ⟨S8x128, .f32⟩
  | 48 => ⟨S1x8x1x128, .f32⟩
  | 49 => ⟨S8x128, .f32⟩
  | 50 => ⟨S1x8x1x128, .f32⟩
  | 51 => ⟨S128x8x8x128, .f32⟩
  | 52 => ⟨S128x8x8x128, .f32⟩
  | 53 => ⟨S128x8x8x128, .f32⟩
  | 54 => ⟨S128x8x8x128, .f32⟩
  | 55 => ⟨S128x8x8x128, .f32⟩
  | 56 => ⟨S128x8x8x128, .f32⟩
  | 57 => ⟨S128x8x8x128, .f32⟩
  | 58 => ⟨S128x8x8x128, .f32⟩
  | 59 => ⟨S128x8x8x128, .f32⟩
  | 60 => ⟨S128x8x8x128, .f32⟩
  | 61 => ⟨S128x8x8x128, .f32⟩
  | 62 => ⟨S128x8x8x128, .f32⟩
  | 63 => ⟨S128x8x8x256, .f32⟩
  | 64 => ⟨S_, .f32⟩
  | 65 => ⟨S128x8x8x256, .f32⟩
  | 66 => ⟨S128x8x8x256, .f32⟩
  | 67 => ⟨S1024x2048, .f32⟩
  | 68 => ⟨S1024x2048, .f32⟩
  | 69 => ⟨S1024x4096, .f32⟩
  | 70 => ⟨S17408x4096, .f32⟩
  | _ => ⟨S17408x2048, .f32⟩

abbrev hbmTy (i : Nat) : BufTy := match i / 128 with
  | 0 => hbmTy0_0 i
  | 1 => hbmTy0_1 i
  | _ => ⟨S17408x2048, .f32⟩

abbrev bufTy : (tb : Table) → Fin (tcTables nBuf tb) → BufTy
  | .hbm, ⟨i, _⟩ => hbmTy i
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_4 : Ref sig .tc := ⟨.hbm, 66, rfl⟩
abbrev main_v58 : Ref sig .tc := ⟨.hbm, 67, rfl⟩
abbrev main_v59 : Ref sig .tc := ⟨.hbm, 68, rfl⟩
abbrev main_cst_5 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_cst_6 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_c : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_cst_7 : Ref sig .tc := ⟨.hbm, 108, rfl⟩
abbrev main_v96 : Ref sig .tc := ⟨.hbm, 109, rfl⟩
abbrev main_v97 : Ref sig .tc := ⟨.hbm, 110, rfl⟩
abbrev main_cst_8 : Ref sig .tc := ⟨.hbm, 111, rfl⟩
abbrev main_v98 : Ref sig .tc := ⟨.hbm, 112, rfl⟩
abbrev main_v99 : Ref sig .tc := ⟨.hbm, 113, rfl⟩
abbrev main_cst_9 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_cst_10 : Ref sig .tc := ⟨.hbm, 130, rfl⟩
abbrev main_v115 : Ref sig .tc := ⟨.hbm, 131, rfl⟩
abbrev main_v116 : Ref sig .tc := ⟨.hbm, 132, rfl⟩
abbrev main_cst_11 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_cst_12 : Ref sig .tc := ⟨.hbm, 163, rfl⟩
abbrev main_v146 : Ref sig .tc := ⟨.hbm, 164, rfl⟩
abbrev main_v147 : Ref sig .tc := ⟨.hbm, 165, rfl⟩
abbrev main_cst_13 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_cst_14 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩

abbrev nD : Nat := 1
abbrev τ : Topo := Topo.v7x

variable {F : FTy → Type} [FloatOps F]
-- ==== RwoProj.lean ====
abbrev S17408x4096 : Shape := ⟨2, ![17408, 4096]⟩
abbrev S17408x2048 : Shape := ⟨2, ![17408, 2048]⟩
abbrev S1x4096x2048 : Shape := ⟨3, ![1, 4096, 2048]⟩
abbrev S4096x2048 : Shape := ⟨2, ![4096, 2048]⟩
abbrev S512x4096 : Shape := ⟨2, ![512, 4096]⟩
abbrev S4096x512 : Shape := ⟨2, ![4096, 512]⟩
abbrev S512x512 : Shape := ⟨2, ![512, 512]⟩
abbrev S64x4096 : Shape := ⟨2, ![64, 4096]⟩

abbrev nBuf : Space → Nat
  | .hbm => 6
  | .vmem => 9
  | .smem => 0
  | _ => 0

abbrev bufTy : (tb : Table) → Fin (tcTables nBuf tb) → BufTy
  | .hbm, ⟨0, _⟩ => ⟨S17408x4096, .f32⟩
  | .hbm, ⟨1, _⟩ => ⟨S17408x2048, .f32⟩
  | .hbm, ⟨2, _⟩ => ⟨S1x4096x2048, .f32⟩
  | .hbm, ⟨3, _⟩ => ⟨S4096x2048, .f32⟩
  | .hbm, ⟨4, _⟩ => ⟨S4096x2048, .bf16⟩
  | .hbm, ⟨5, _⟩ => ⟨S17408x2048, .f32⟩
  | .local _ .vmem, ⟨0, _⟩ => ⟨S512x4096, .f32⟩
  | .local _ .vmem, ⟨1, _⟩ => ⟨S512x4096, .f32⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x4096, .bf16⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![34, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c8_i32 : BitVec 32 := 8#32
  let v10 : BitVec 32 := Scalar.addi c0_i32_8 c8_i32
  let c1_i32 : BitVec 32 := 1#32
  ⟨c0_i32_8, v10, c1_i32⟩
def k0_mult1 (k0_t1 : Fin k0_t1_loop.trips) : BitVec 32 :=
  let c0_i32_8 : BitVec 32 := 0#32
  let c1_i32 : BitVec 32 := 1#32
  let arg7 : BitVec 32 := Scf.iv c0_i32_8 c1_i32 k0_t1
  let c64_i32 : BitVec 32 := 64#32
  let v11 : BitVec 32 := Scalar.muli arg7 c64_i32
  v11
def k0_off1 (k0_t1 : Fin k0_t1_loop.trips) : Fin 2 → Nat :=
  let c0_i32_8 : BitVec 32 := 0#32
  let c1_i32 : BitVec 32 := 1#32
  let arg7 : BitVec 32 := Scf.iv c0_i32_8 c1_i32 k0_t1
  let c64_i32 : BitVec 32 := 64#32
  let v11 : BitVec 32 := Scalar.muli arg7 c64_i32
  let v12 : BitVec 32 := v11
  let v13 : Index := Scalar.indexCast v12
  let c0_10 : Index := 0#32
  ![v13.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RwoRefIdeal.lean ====
abbrev S17408x4096 : Shape := ⟨2, ![17408, 4096]⟩
abbrev S17408x2048 : Shape := ⟨2, ![17408, 2048]⟩
abbrev S1x4096x2048 : Shape := ⟨3, ![1, 4096, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S17408x2048, .f32⟩
  | .hbm, ⟨2, _⟩ => ⟨S1x4096x2048, .f32⟩
  | .hbm, ⟨3, _⟩ => ⟨S4096x2048, .f32⟩
  | .hbm, ⟨4, _⟩ => ⟨S17408x2048, .f32⟩
  | .hbm, ⟨5, _⟩ => ⟨S17408x2048, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== SbAtt.lean ====
abbrev S17408x4096 : Shape := ⟨2, ![17408, 4096]⟩
abbrev S17408x2048 : Shape := ⟨2, ![17408, 2048]⟩
abbrev S1x16 : Shape := ⟨2, ![1, 16]⟩
abbrev S16 : Shape := ⟨1, ![16]⟩
abbrev S16x1x1 : Shape := ⟨3, ![16, 1, 1]⟩
abbrev S16x1x128 : Shape := ⟨3, ![16, 1, 128]⟩
abbrev S16384x2048 : Shape := ⟨2, ![16384, 2048]⟩
abbrev S1x1x128 : Shape := ⟨3, ![1, 1, 128]⟩
abbrev S512x128 : Shape := ⟨2, ![512, 128]⟩
abbrev S2048x128 : Shape := ⟨2, ![2048, 128]⟩
abbrev S1x128 : Shape := ⟨2, ![1, 128]⟩
abbrev S128x256 : Shape := ⟨2, ![128, 256]⟩
abbrev S512x512 : Shape := ⟨2, ![512, 512]⟩
abbrev S512x256 : Shape := ⟨2, ![512, 256]⟩
abbrev S256x256 : Shape := ⟨2, ![256, 256]⟩

abbrev nBuf : Space → Nat
  | .hbm => 7
  | .vmem => 10
  | .smem => 0
  | _ => 0

abbrev bufTy : (tb : Table) → Fin (tcTables nBuf tb) → BufTy
  | .hbm, ⟨0, _⟩ => ⟨S17408x4096, .f32⟩
  | .hbm, ⟨1, _⟩ => ⟨S17408x2048, .f32⟩
  | .hbm, ⟨2, _⟩ => ⟨S1x16, .f32⟩
  | .hbm, ⟨3, _⟩ => ⟨S16, .f32⟩
  | .hbm, ⟨4, _⟩ => ⟨S16x1x1, .f32⟩
  | .hbm, ⟨5, _⟩ => ⟨S16x1x128, .f32⟩
  | .hbm, ⟨6, _⟩ => ⟨S16384x2048, .f32⟩
  | .local _ .vmem, ⟨0, _⟩ => ⟨S1x1x128, .f32⟩
  | .local _ .vmem, ⟨1, _⟩ => ⟨S1x1x128, .f32⟩
  | .local _ .vmem, ⟨2, _⟩ => ⟨S512x128, .f32⟩
  | .local _ .vmem, ⟨3, _⟩ => ⟨S512x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S512x128, .f32⟩
  | .local _ .vmem, ⟨9, _⟩ => ⟨S512x128, .f32⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 16, 4], ![false, false, false]⟩

def k0_mult1 (i : grid0.Coords) : BitVec 32 :=
  let arg2 : BitVec 32 := BitVec.ofNat 32 (i 2).val
  let c1_i32 : BitVec 32 := 1#32
  let v30 : BitVec 32 := Scalar.muli arg2 c1_i32
  let c0_i32_8 : BitVec 32 := 0#32
  let v31 : BitVec 32 := Scalar.addi v30 c0_i32_8
  let c512_i32 : BitVec 32 := 512#32
  let v32 : BitVec 32 := Scalar.muli v31 c512_i32
  v32
def k0_off1 (i : grid0.Coords) : Fin 2 → Nat :=
  let arg2 : BitVec 32 := BitVec.ofNat 32 (i 2).val
  let c1_i32 : BitVec 32 := 1#32
  let v30 : BitVec 32 := Scalar.muli arg2 c1_i32
  let c0_i32_8 : BitVec 32 := 0#32
  let v31 : BitVec 32 := Scalar.addi v30 c0_i32_8
  let c512_i32 : BitVec 32 := 512#32
  let v32 : BitVec 32 := Scalar.muli v31 c512_i32
  let v33 : BitVec 32 := v32
  let v34 : Index := Scalar.indexCast v33
  let c0_9 : Index := 0#32
  ![v34.toNat, 0]
@[reducible] def k0_t1_loop (i : grid0.Coords) : Scf.Loop 32 :=
  let c0_i32_42 : BitVec 32 := 0#32
  let arg2 : BitVec 32 := BitVec.ofNat 32 (i 2).val
  let c1_i32_41 : BitVec 32 := 1#32
  let v177 : BitVec 32 := Scalar.muli arg2 c1_i32_41
  let v178 : BitVec 32 := Scalar.subi v177 c0_i32_42
  let c1_i32_43 : BitVec 32 := 1#32
  let v180 : BitVec 32 := Scalar.divsi v178 c1_i32_43
  let v181 : BitVec 32 := Scalar.muli v180 c1_i32_43
  let v182 : BitVec 32 := Scalar.addi c0_i32_42 v181
  let c1_i32_44 : BitVec 32 := 1#32
  ⟨c0_i32_42, v182, c1_i32_44⟩
def k0_mult2 (i : grid0.Coords) (k0_t1 : Fin (k0_t1_loop i).trips) : BitVec 32 :=
  let arg2 : BitVec 32 := BitVec.ofNat 32 (i 2).val
  let c1_i32_48 : BitVec 32 := 1#32
  let v186 : BitVec 32 := Scalar.muli arg2 c1_i32_48
  let c1_i32_49 : BitVec 32 := 1#32
  let v187 : BitVec 32 := Scalar.subi v186 c1_i32_49
  let c0_i32_42 : BitVec 32 := 0#32
  let c1_i32_44 : BitVec 32 := 1#32
  let arg8 : BitVec 32 := Scf.iv c0_i32_42 c1_i32_44 k0_t1
  let v188 : BitVec 32 := Scalar.subi v187 arg8
  let c512_i32_50 : BitVec 32 := 512#32
  let v189 : BitVec 32 := Scalar.muli v188 c512_i32_50
  v189
def k0_off2 (i : grid0.Coords) (k0_t1 : Fin (k0_t1_loop i).trips) : Fin 2 → Nat :=
  let arg2 : BitVec 32 := BitVec.ofNat 32 (i 2).val
  let c1_i32_48 : BitVec 32 := 1#32
  let v186 : BitVec 32 := Scalar.muli arg2 c1_i32_48
  let c1_i32_49 : BitVec 32 := 1#32
  let v187 : BitVec 32 := Scalar.subi v186 c1_i32_49
  let c0_i32_42 : BitVec 32 := 0#32
  let c1_i32_44 : BitVec 32 := 1#32
  let arg8 : BitVec 32 := Scf.iv c0_i32_42 c1_i32_44 k0_t1
  let v188 : BitVec 32 := Scalar.subi v187 arg8
  let c512_i32_50 : BitVec 32 := 512#32
  let v189 : BitVec 32 := Scalar.muli v188 c512_i32_50
  let v190 : BitVec 32 := v189
  let v191 : Index := Scalar.indexCast v190
  let c0_51 : Index := 0#32
  ![v191.toNat, 0]
@[reducible] def k0_t2_loop (i : grid0.Coords) : Scf.Loop 32 :=
  let c0_i32_42 : BitVec 32 := 0#32
  let arg2 : BitVec 32 := BitVec.ofNat 32 (i 2).val
  let c1_i32_41 : BitVec 32 := 1#32
  let v177 : BitVec 32 := Scalar.muli arg2 c1_i32_41
  let v178 : BitVec 32 := Scalar.subi v177 c0_i32_42
  let c1_i32_43 : BitVec 32 := 1#32
  let v180 : BitVec 32 := Scalar.divsi v178 c1_i32_43
  let v181 : BitVec 32 := Scalar.muli v180 c1_i32_43
  let v182 : BitVec 32 := Scalar.addi c0_i32_42 v181
  let v179 : BitVec 32 := Scalar.addi c0_i32_42 v178
  let c1_i32_45 : BitVec 32 := 1#32
  ⟨v182, v179, c1_i32_45⟩
def k0_mult3 (i : grid0.Coords) (k0_t2 : Fin (k0_t2_loop i).trips) : BitVec 32 :=
  let arg2 : BitVec 32 := BitVec.ofNat 32 (i 2).val
  let c1_i32_48 : BitVec 32 := 1#32
  let v186 : BitVec 32 := Scalar.muli arg2 c1_i32_48
  let c1_i32_49 : BitVec 32 := 1#32
  let v187 : BitVec 32 := Scalar.subi v186 c1_i32_49
  let c0_i32_42 : BitVec 32 := 0#32
  let c1_i32_41 : BitVec 32 := 1#32
  let v177 : BitVec 32 := Scalar.muli arg2 c1_i32_41
  let v178 : BitVec 32 := Scalar.subi v177 c0_i32_42
  let c1_i32_43 : BitVec 32 := 1#32
  let v180 : BitVec 32 := Scalar.divsi v178 c1_i32_43
  let v181 : BitVec 32 := Scalar.muli v180 c1_i32_43
  let v182 : BitVec 32 := Scalar.addi c0_i32_42 v181
  let c1_i32_45 : BitVec 32 := 1#32
  let arg8 : BitVec 32 := Scf.iv v182 c1_i32_45 k0_t2
  let v188 : BitVec 32 := Scalar.subi v187 arg8
  let c512_i32_50 : BitVec 32 := 512#32
  let v189 : BitVec 32 := Scalar.muli v188 c512_i32_50
  v189
def k0_off3 (i : grid0.Coords) (k0_t2 : Fin (k0_t2_loop i).trips) : Fin 2 → Nat :=
  let arg2 : BitVec 32 := BitVec.ofNat 32 (i 2).val
  let c1_i32_48 : BitVec 32 := 1#32
  let v186 : BitVec 32 := Scalar.muli arg2 c1_i32_48
  let c1_i32_49 : BitVec 32 := 1#32
  let v187 : BitVec 32 := Scalar.subi v186 c1_i32_49
  let c0_i32_42 : BitVec 32 := 0#32
  let c1_i32_41 : BitVec 32 := 1#32
  let v177 : BitVec 32 := Scalar.muli arg2 c1_i32_41
  let v178 : BitVec 32 := Scalar.subi v177 c0_i32_42
  let c1_i32_43 : BitVec 32 := 1#32
  let v180 : BitVec 32 := Scalar.divsi v178 c1_i32_43
  let v181 : BitVec 32 := Scalar.muli v180 c1_i32_43
  let v182 : BitVec 32 := Scalar.addi c0_i32_42 v181
  let c1_i32_45 : BitVec 32 := 1#32
  let arg8 : BitVec 32 := Scf.iv v182 c1_i32_45 k0_t2
  let v188 : BitVec 32 := Scalar.subi v187 arg8
  let c512_i32_50 : BitVec 32 := 512#32
  let v189 : BitVec 32 := Scalar.muli v188 c512_i32_50
  let v190 : BitVec 32 := v189
  let v191 : Index := Scalar.indexCast v190
  let c0_51 : Index := 0#32
  ![v191.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== SbRefIdeal.lean ====
abbrev S17408x4096 : Shape := ⟨2, ![17408, 4096]⟩
abbrev S17408x2048 : Shape := ⟨2, ![17408, 2048]⟩
abbrev S1x16 : Shape := ⟨2, ![1, 16]⟩
abbrev S16384x2048 : Shape := ⟨2, ![16384, 2048]⟩
abbrev S8x2048x16x128 : Shape := ⟨4, ![8, 2048, 16, 128]⟩
abbrev S2048 : Shape := ⟨1, ![2048]⟩
abbrev S8x16x2048x2048 : Shape := ⟨4, ![8, 16, 2048, 2048]⟩
abbrev S_ : Shape := ⟨0, ![]⟩
abbrev S16 : Shape := ⟨1, ![16]⟩
abbrev S1x16x1x1 : Shape := ⟨4, ![1, 16, 1, 1]⟩
abbrev S1x2048 : Shape := ⟨2, ![1, 2048]⟩
abbrev S2048x1 : Shape := ⟨2, ![2048, 1]⟩
abbrev S2048x2048 : Shape := ⟨2, ![2048, 2048]⟩
abbrev S8x16x128x2048 : Shape := ⟨4, ![8, 16, 128, 2048]⟩

abbrev nBuf : Space → Nat
  | .hbm => 75
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S17408x2048, .f32⟩
  | .hbm, ⟨2, _⟩ => ⟨S1x16, .f32⟩
  | .hbm, ⟨3, _⟩ => ⟨S16384x2048, .f32⟩
  | .hbm, ⟨4, _⟩ => ⟨S8x2048x16x128, .f32⟩
  | .hbm, ⟨5, _⟩ => ⟨S16384x2048, .f32⟩
  | .hbm, ⟨6, _⟩ => ⟨S8x2048x16x128, .f32⟩
  | .hbm, ⟨7, _⟩ => ⟨S16384x2048, .f32⟩
  | .hbm, ⟨8, _⟩ => ⟨S8x2048x16x128, .f32⟩
  | .hbm, ⟨9, _⟩ => ⟨S2048, .i32⟩
  | .hbm, ⟨10, _⟩ => ⟨S8x16x2048x2048, .f32⟩
  | .hbm, ⟨11, _⟩ => ⟨S_, .f32⟩
  | .hbm, ⟨12, _⟩ => ⟨S8x16x2048x2048, .f32⟩
  | .hbm, ⟨13, _⟩ => ⟨S8x16x2048x2048, .f32⟩
  | .hbm, ⟨14, _⟩ => ⟨S16, .f32⟩
  | .hbm, ⟨15, _⟩ => ⟨S1x16x1x1, .f32⟩
  | .hbm, ⟨16, _⟩ => ⟨S8x16x2048x2048, .f32⟩
  | .hbm, ⟨17, _⟩ => ⟨S8x16x2048x2048, .f32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i1⟩
  | .hbm, ⟨23, _⟩ => ⟨S8x16x2048x2048, .f32⟩
  | .hbm, ⟨24, _⟩ => ⟨S_, .f32⟩
  | .hbm, ⟨25, _⟩ => ⟨S8x16x2048x2048, .f32⟩
  | .hbm, ⟨26, _⟩ => ⟨S8x16x2048x2048, .f32⟩
  | .hbm, ⟨27, _⟩ => ⟨S8x16x2048x2048, .f32⟩
  | .hbm, ⟨28, _⟩ => ⟨S8x16x2048x2048, .f32⟩
  | .hbm, ⟨29, _⟩ => ⟨S8x16x2048x2048, .i1⟩
  | .hbm, ⟨30, _⟩ => ⟨S8x16x2048x2048, .f32⟩
  | .hbm, ⟨31, _⟩ => ⟨S8x16x2048x2048, .f32⟩
  | .hbm, ⟨32, _⟩ => ⟨S8x16x2048x2048, .f32⟩
  | .hbm, ⟨33, _⟩ => ⟨S8x16x2048x2048, .f32⟩
  | .hbm, ⟨34, _⟩ => ⟨S8x16x2048x2048, .f32⟩
  | .hbm, ⟨35, _⟩ => ⟨S8x16x2048x2048, .f32⟩
  | .hbm, ⟨36, _⟩ => ⟨S8x16x2048x2048, .f32⟩
  | .hbm, ⟨37, _⟩ => ⟨S8x16x2048x2048, .f32⟩
  | .hbm, ⟨38, _⟩ => ⟨S8x16x2048x2048, .f32⟩
  | .hbm, ⟨39, _⟩ => ⟨S8x16x2048x2048, .f32⟩
  | .hbm, ⟨40, _⟩ => ⟨S8x16x2048x2048, .f32⟩
  | .hbm, ⟨41, _⟩ => ⟨S_, .f32⟩
  | .hbm, ⟨42, _⟩ => ⟨S8x16x2048x2048, .f32⟩
  | .hbm, ⟨43, _⟩ => ⟨S8x16x2048x2048, .f32⟩
  | .hbm, ⟨44, _⟩ => ⟨S8x16x2048x2048, .f32⟩
  | .hbm, ⟨45, _⟩ => ⟨S8x16x2048x2048, .f32⟩
  | .hbm, ⟨46, _⟩ => ⟨S8x16x2048x2048, .i1⟩
  | .hbm, ⟨47, _⟩ => ⟨S8x16x2048x2048, .f32⟩
  | .hbm, ⟨48, _⟩ => ⟨S8x16x2048x2048, .f32⟩
  | .hbm, ⟨49, _⟩ => ⟨S8x16x2048x2048, .f32⟩
  | .hbm, ⟨50, _⟩ => ⟨S8x16x2048x2048, .f32⟩
  | .hbm, ⟨51, _⟩ => ⟨S8x16x2048x2048, .f32⟩
  | .hbm, ⟨52, _⟩ => ⟨S8x16x2048x2048, .f32⟩
  | .hbm, ⟨53, _⟩ => ⟨S8x16x2048x2048, .f32⟩
  | .hbm, ⟨54, _⟩ => ⟨S8x16x2048x2048, .f32⟩
  | .hbm, ⟨55, _⟩ => ⟨S8x16x2048x2048, .f32⟩
  | .hbm, ⟨56, _⟩ => ⟨S_, .f32⟩
  | .hbm, ⟨57, _⟩ => ⟨S_, .f32⟩
  | .hbm, ⟨58, _⟩ => ⟨S8x16x2048x2048, .i1⟩
  | .hbm, ⟨59, _⟩ => ⟨S8x16x2048x2048, .f32⟩
  | .hbm, ⟨60, _⟩ => ⟨S8x16x2048x2048, .f32⟩
  | .hbm, ⟨61, _⟩ => ⟨S_, .f32⟩
  | .hbm, ⟨62, _⟩ => ⟨S_, .f32⟩
  | .hbm, ⟨63, _⟩ => ⟨S8x16x2048x2048, .f32⟩
  | .hbm, ⟨64, _⟩ => ⟨S8x16x2048x2048, .f32⟩
  | .hbm, ⟨65, _⟩ => ⟨S8x16x2048x2048, .f32⟩
  | .hbm, ⟨66, _⟩ => ⟨S8x16x2048x2048, .f32⟩
  | .hbm, ⟨67, _⟩ => ⟨S_, .f32⟩
  | .hbm, ⟨68, _⟩ => ⟨S_, .f32⟩
  | .hbm, ⟨69, _⟩ => ⟨S8x16x2048x2048, .i1⟩
  | .hbm, ⟨70, _⟩ => ⟨S8x16x2048x2048, .f32⟩
  | .hbm, ⟨71, _⟩ => ⟨S8x16x2048x2048, .f32⟩
  | .hbm, ⟨72, _⟩ => ⟨S8x16x128x2048, .f32⟩
  | .hbm, ⟨73, _⟩ => ⟨S8x2048x16x128, .f32⟩
  | .hbm, ⟨74, _⟩ => ⟨S16384x2048, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_call0_cst : Ref sig .tc := ⟨.hbm, 41, rfl⟩
abbrev main_call1_call0_v0 : Ref sig .tc := ⟨.hbm, 42, rfl⟩
abbrev main_call1_call0_v1 : Ref sig .tc := ⟨.hbm, 43, rfl⟩
abbrev main_call1_call0_v2 : Ref sig .tc := ⟨.hbm, 44, rfl⟩
abbrev main_call1_call0_v3 : Ref sig .tc := ⟨.hbm, 45, rfl⟩
abbrev main_call1_call0_v4 : Ref sig .tc := ⟨.hbm, 46, rfl⟩
abbrev main_call1_call0_v5 : Ref sig .tc := ⟨.hbm, 47, rfl⟩
abbrev main_call1_call0_v6 : Ref sig .tc := ⟨.hbm, 48, rfl⟩
abbrev main_call1_call0_v7 : Ref sig .tc := ⟨.hbm, 49, rfl⟩
abbrev main_call1_call0_v8 : Ref sig .tc := ⟨.hbm, 50, rfl⟩
abbrev main_call1_call0_v9 : Ref sig .tc := ⟨.hbm, 51, rfl⟩
abbrev main_call1_call0_v10 : Ref sig .tc := ⟨.hbm, 52, rfl⟩
abbrev main_call1_call0_v11 : Ref sig .tc := ⟨.hbm, 53, rfl⟩
abbrev main_call1_v1 : Ref sig .tc := ⟨.hbm, 54, rfl⟩
abbrev main_v21 : Ref sig .tc := ⟨.hbm, 55, rfl⟩
abbrev main_cst_0 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_v22 : Ref sig .tc := ⟨.hbm, 60, rfl⟩
abbrev main_call3_cst : Ref sig .tc := ⟨.hbm, 61, rfl⟩
abbrev main_call3_v0 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_cst_1 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩

abbrev nD : Nat := 1
abbrev τ : Topo := Topo.v7x

variable {F : FTy → Type} [FloatOps F]
-- ==== RetS.lean ====
abbrev S17408x4096 : Shape := ⟨2, ![17408, 4096]⟩
abbrev S17408x8192 : Shape := ⟨2, ![17408, 8192]⟩
abbrev S1x128x8x256x512 : Shape := ⟨5, ![1, 128, 8, 256, 512]⟩
abbrev S1x4096 : Shape := ⟨2, ![1, 4096]⟩
abbrev S8 : Shape := ⟨1, ![8]⟩
abbrev S_ : Shape := ⟨0, ![]⟩
abbrev S8x1x1 : Shape := ⟨3, ![8, 1, 1]⟩
abbrev S8x1x128 : Shape := ⟨3, ![8, 1, 128]⟩
abbrev S4096 : Shape := ⟨1, ![4096]⟩
abbrev S8x1x512 : Shape := ⟨3, ![8, 1, 512]⟩
abbrev S128x8x256x512 : Shape := ⟨4, ![128, 8, 256, 512]⟩
abbrev S1024x4096 : Shape := ⟨2, ![1024, 4096]⟩
abbrev S2x1x128 : Shape := ⟨3, ![2, 1, 128]⟩
abbrev S2x1x512 : Shape := ⟨3, ![2, 1, 512]⟩
abbrev S8x512 : Shape := ⟨2, ![8, 512]⟩
abbrev S8x1024 : Shape := ⟨2, ![8, 1024]⟩
abbrev S1x2x256x512 : Shape := ⟨4, ![1, 2, 256, 512]⟩
abbrev S2x256x512 : Shape := ⟨3, ![2, 256, 512]⟩
abbrev S128x128 : Shape := ⟨2, ![128, 128]⟩
abbrev S1x1x128 : Shape := ⟨3, ![1, 1, 128]⟩
abbrev S1x128 : Shape := ⟨2, ![1, 128]⟩
abbrev S8x256 : Shape := ⟨2, ![8, 256]⟩
abbrev S120x256 : Shape := ⟨2, ![120, 256]⟩
abbrev S128x256 : Shape := ⟨2, ![128, 256]⟩
abbrev S120x512 : Shape := ⟨2, ![120, 512]⟩
abbrev S128x512 : Shape := ⟨2, ![128, 512]⟩
abbrev S1x256x512 : Shape := ⟨3, ![1, 256, 512]⟩
abbrev S256x512 : Shape := ⟨2, ![256, 512]⟩
abbrev S256x128 : Shape := ⟨2, ![256, 128]⟩
abbrev S1x256x128 : Shape := ⟨3, ![1, 256, 128]⟩
abbrev S8x1 : Shape := ⟨2, ![8, 1]⟩
abbrev S1x1x512 : Shape := ⟨3, ![1, 1, 512]⟩
abbrev S1x512 : Shape := ⟨2, ![1, 512]⟩

abbrev nBuf : Space → Nat
  | .hbm => 21
  | .vmem => 19
  | .smem => 0
  | _ => 0

abbrev bufTy : (tb : Table) → Fin (tcTables nBuf tb) → BufTy
  | .hbm, ⟨0, _⟩ => ⟨S17408x4096, .f32⟩
  | .hbm, ⟨1, _⟩ => ⟨S17408x8192, .f32⟩
  | .hbm, ⟨2, _⟩ => ⟨S1x128x8x256x512, .f32⟩
  | .hbm, ⟨3, _⟩ => ⟨S1x4096, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S8x1x1, .f32⟩
  | .hbm, ⟨15, _⟩ => ⟨S8x1x128, .f32⟩
  | .hbm, ⟨16, _⟩ => ⟨S4096, .f32⟩
  | .hbm, ⟨17, _⟩ => ⟨S8x1x512, .f32⟩
  | .hbm, ⟨18, _⟩ => ⟨S128x8x256x512, .f32⟩
  | .hbm, ⟨19, _⟩ => ⟨S1024x4096, .f32⟩
  | .hbm, ⟨20, _⟩ => ⟨S128x8x256x512, .f32⟩
  | .local _ .vmem, ⟨0, _⟩ => ⟨S2x1x128, .f32⟩
  | .local _ .vmem, ⟨1, _⟩ => ⟨S2x1x128, .f32⟩
  | .local _ .vmem, ⟨2, _⟩ => ⟨S2x1x512, .f32⟩
  | .local _ .vmem, ⟨3, _⟩ => ⟨S2x1x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S1x2x256x512, .f32⟩
  | .local _ .vmem, ⟨13, _⟩ => ⟨S1x2x256x512, .f32⟩
  | .local _ .vmem, ⟨14, _⟩ => ⟨S8x1024, .f32⟩
  | .local _ .vmem, ⟨15, _⟩ => ⟨S8x1024, .f32⟩
  | .local _ .vmem, ⟨16, _⟩ => ⟨S1x2x256x512, .f32⟩
  | .local _ .vmem, ⟨17, _⟩ => ⟨S1x2x256x512, .f32⟩
  | .local _ .vmem, ⟨18, _⟩ => ⟨S2x256x512, .f32⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13_0 : Ref sig .tc := ⟨.hbm, 19, rfl⟩
abbrev main_v13_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![128, 4, 1], ![false, false, false]⟩

def k0_cond2 (i : grid0.Coords) : BitVec 1 :=
  let arg2 : BitVec 32 := BitVec.ofNat 32 (i 2).val
  let c0_i32_88 : BitVec 32 := 0#32
  let v248 : BitVec 1 := Scalar.cmpi .eq arg2 c0_i32_88
  let v249 : BitVec 32 := Scalar.extui v248
  let c0_i32_89 : BitVec 32 := 0#32
  let v250 : BitVec 1 := Scalar.cmpi .ne v249 c0_i32_89
  v250

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg2
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg2
  let c4_i32 : BitVec 32 := 4#32
  let v3 : BitVec 32 := Scalar.addi c4_i32 arg1
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg2
  let c0_i32 : BitVec 32 := 0#32
  ![v2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c2048_i32 : BitVec 32 := 2048#32
  let v1 : BitVec 32 := Scalar.addi c2048_i32 v0
  let v2 : BitVec 32 := Scalar.addi v1 arg2
  let c4_i32 : BitVec 32 := 4#32
  let v3 : BitVec 32 := Scalar.addi c4_i32 arg1
  let c0_i32 : BitVec 32 := 0#32
  ![v2.toNat, v3.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x2x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== RetSRefIdeal.lean ====
abbrev S17408x4096 : Shape := ⟨2, ![17408, 4096]⟩
abbrev S17408x8192 : Shape := ⟨2, ![17408, 8192]⟩
abbrev S1x128x8x256x512 : Shape := ⟨5, ![1, 128, 8, 256, 512]⟩
abbrev S1x4096 : Shape := ⟨2, ![1, 4096]⟩
abbrev S1024x2048 : Shape := ⟨2, ![1024, 2048]⟩
abbrev S128x8x8x256 : Shape := ⟨4, ![128, 8, 8, 256]⟩
abbrev S1024x4096 : Shape := ⟨2, ![1024, 4096]⟩
abbrev S128x8x8x512 : Shape := ⟨4, ![128, 8, 8, 512]⟩
abbrev S128x8x256x512 : Shape := ⟨4, ![128, 8, 256, 512]⟩
abbrev S8 : Shape := ⟨1, ![8]⟩
abbrev S_ : Shape := ⟨0, ![]⟩
abbrev S8x1 : Shape := ⟨2, ![8, 1]⟩
abbrev S1x8 : Shape := ⟨2, ![1, 8]⟩
abbrev S8x8 : Shape := ⟨2, ![8, 8]⟩
abbrev S1x8x8 : Shape := ⟨3, ![1, 8, 8]⟩
abbrev S8x1x1 : Shape := ⟨3, ![8, 1, 1]⟩
abbrev S8x8x8 : Shape := ⟨3, ![8, 8, 8]⟩
abbrev S128x8x8x8 : Shape := ⟨4, ![128, 8, 8, 8]⟩
abbrev S1x8x8x8 : Shape := ⟨4, ![1, 8, 8, 8]⟩
abbrev S128x8x512x8 : Shape := ⟨4, ![128, 8, 512, 8]⟩
abbrev S1x8x8x1 : Shape := ⟨4, ![1, 8, 8, 1]⟩
abbrev S1x8x1x1 : Shape := ⟨4, ![1, 8, 1, 1]⟩
abbrev S128x8x4096 : Shape := ⟨3, ![128, 8, 4096]⟩
abbrev S4096 : Shape := ⟨1, ![4096]⟩
abbrev S8x512 : Shape := ⟨2, ![8, 512]⟩
abbrev S128x8x8 : Shape := ⟨3, ![128, 8, 8]⟩
abbrev S128x8x8x1 : Shape := ⟨4, ![128, 8, 8, 1]⟩
abbrev S1x1x8x512 : Shape := ⟨4, ![1, 1, 8, 512]⟩

abbrev nBuf : Space → Nat
  | .hbm => 119
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S17408x8192, .f32⟩
  | .hbm, ⟨2, _⟩ => ⟨S1x128x8x256x512, .f32⟩
  | .hbm, ⟨3, _⟩ => ⟨S1x4096, .f32⟩
  | .hbm, ⟨4, _⟩ => ⟨S1024x2048, .f32⟩
  | .hbm, ⟨5, _⟩ => ⟨S128x8x8x256, .f32⟩
  | .hbm, ⟨6, _⟩ => ⟨S1024x2048, .f32⟩
  | .hbm, ⟨7, _⟩ => ⟨S128x8x8x256, .f32⟩
  | .hbm, ⟨8, _⟩ => ⟨S1024x4096, .f32⟩
  | .hbm, ⟨9, _⟩ => ⟨S128x8x8x512, .f32⟩
  | .hbm, ⟨10, _⟩ => ⟨S128x8x256x512, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S8, .f32⟩
  | .hbm, ⟨22, _⟩ => ⟨S8x1, .f32⟩
  | .hbm, ⟨23, _⟩ => ⟨S1x8, .f32⟩
  | .hbm, ⟨24, _⟩ => ⟨S8x8, .f32⟩
  | .hbm, ⟨25, _⟩ => ⟨S8x8, .f32⟩
  | .hbm, ⟨26, _⟩ => ⟨S8x8, .f32⟩
  | .hbm, ⟨27, _⟩ => ⟨S1x8x8, .f32⟩
  | .hbm, ⟨28, _⟩ => ⟨S_, .f32⟩
  | .hbm, ⟨29, _⟩ => ⟨S1x8x8, .f32⟩
  | .hbm, ⟨30, _⟩ => ⟨S1x8x8, .i1⟩
  | .hbm, ⟨31, _⟩ => ⟨S_, .f32⟩
  | .hbm, ⟨32, _⟩ => ⟨S8x8, .f32⟩
  | .hbm, ⟨33, _⟩ => ⟨S8x8, .f32⟩
  | .hbm, ⟨34, _⟩ => ⟨S1x8x8, .f32⟩
  | .hbm, ⟨35, _⟩ => ⟨S8x1x1, .f32⟩
  | .hbm, ⟨36, _⟩ => ⟨S8x8x8, .f32⟩
  | .hbm, ⟨37, _⟩ => ⟨S8x8x8, .f32⟩
  | .hbm, ⟨38, _⟩ => ⟨S8x8x8, .f32⟩
  | .hbm, ⟨39, _⟩ => ⟨S8x8x8, .f32⟩
  | .hbm, ⟨40, _⟩ => ⟨S_, .f32⟩
  | .hbm, ⟨41, _⟩ => ⟨S_, .f32⟩
  | .hbm, ⟨42, _⟩ => ⟨S8x8x8, .i1⟩
  | .hbm, ⟨43, _⟩ => ⟨S8x8x8, .f32⟩
  | .hbm, ⟨44, _⟩ => ⟨S8x8x8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S8x1, .f32⟩
  | .hbm, ⟨49, _⟩ => ⟨S1x8, .f32⟩
  | .hbm, ⟨50, _⟩ => ⟨S8x8, .f32⟩
  | .hbm, ⟨51, _⟩ => ⟨S8x8, .f32⟩
  | .hbm, ⟨52, _⟩ => ⟨S8x8, .f32⟩
  | .hbm, ⟨53, _⟩ => ⟨S8x8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S8x1, .f32⟩
  | .hbm, ⟨58, _⟩ => ⟨S1x8, .f32⟩
  | .hbm, ⟨59, _⟩ => ⟨S8x8, .f32⟩
  | .hbm, ⟨60, _⟩ => ⟨S8x8, .f32⟩
  | .hbm, ⟨61, _⟩ => ⟨S8x8, .f32⟩
  | .hbm, ⟨62, _⟩ => ⟨S8x8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S8, .f32⟩
  | .hbm, ⟨67, _⟩ => ⟨S128x8x8x8, .f32⟩
  | .hbm, ⟨68, _⟩ => ⟨S1x8x8x8, .f32⟩
  | .hbm, ⟨69, _⟩ => ⟨S128x8x8x8, .f32⟩
  | .hbm, ⟨70, _⟩ => ⟨S128x8x8x8, .f32⟩
  | .hbm, ⟨71, _⟩ => ⟨S128x8x512x8, .f32⟩
  | .hbm, ⟨72, _⟩ => ⟨S128x8x8x512, .f32⟩
  | .hbm, ⟨73, _⟩ => ⟨S128x8x512x8, .f32⟩
  | .hbm, ⟨74, _⟩ => ⟨S128x8x8x512, .f32⟩
  | .hbm, ⟨75, _⟩ => ⟨S1x8x8x1, .f32⟩
  | .hbm, ⟨76, _⟩ => ⟨S128x8x8x512, .f32⟩
  | .hbm, ⟨77, _⟩ => ⟨S128x8x8x512, .f32⟩
  | .hbm, ⟨78, _⟩ => ⟨S1x8x1x1, .f32⟩
  | .hbm, ⟨79, _⟩ => ⟨S128x8x256x512, .f32⟩
  | .hbm, ⟨80, _⟩ => ⟨S128x8x256x512, .f32⟩
  | .hbm, ⟨81, _⟩ => ⟨S1x8x8x1, .f32⟩
  | .hbm, ⟨82, _⟩ => ⟨S128x8x8x256, .f32⟩
  | .hbm, ⟨83, _⟩ => ⟨S128x8x8x256, .f32⟩
  | .hbm, ⟨84, _⟩ => ⟨S128x8x256x512, .f32⟩
  | .hbm, ⟨85, _⟩ => ⟨S128x8x256x512, .f32⟩
  | .hbm, ⟨86, _⟩ => ⟨S1024x4096, .f32⟩
  | .hbm, ⟨87, _⟩ => ⟨S128x8x4096, .f32⟩
  | .hbm, ⟨88, _⟩ => ⟨S128x8x8x512, .f32⟩
  | .hbm, ⟨89, _⟩ => ⟨S4096, .f32⟩
  | .hbm, ⟨90, _⟩ => ⟨S8x512, .f32⟩
  | .hbm, ⟨91, _⟩ => ⟨S128x8x8x512, .f32⟩
  | .hbm, ⟨92, _⟩ => ⟨S_, .f32⟩
  | .hbm, ⟨93, _⟩ => ⟨S128x8x8, .f32⟩
  | .hbm, ⟨94, _⟩ => ⟨S128x8x8x1, .f32⟩
  | .hbm, ⟨95, _⟩ => ⟨S_, .f32⟩
  | .hbm, ⟨96, _⟩ => ⟨S128x8x8x1, .f32⟩
  | .hbm, ⟨97, _⟩ => ⟨S128x8x8x1, .f32⟩
  | .hbm, ⟨98, _⟩ => ⟨S_, .f32⟩
  | .hbm, ⟨99, _⟩ => ⟨S128x8x8x1, .f32⟩
  | .hbm, ⟨100, _⟩ => ⟨S128x8x8x1, .f32⟩
  | .hbm, ⟨101, _⟩ => ⟨S128x8x8x1, .f32⟩
  | .hbm, ⟨102, _⟩ => ⟨S128x8x8x512, .f32⟩
  | .hbm, ⟨103, _⟩ => ⟨S128x8x8x512, .f32⟩
  | .hbm, ⟨104, _⟩ => ⟨S1x1x8x512, .f32⟩
  | .hbm, ⟨105, _⟩ => ⟨S128x8x8x512, .f32⟩
  | .hbm, ⟨106, _⟩ => ⟨S128x8x8x512, .f32⟩
  | .hbm, ⟨107, _⟩ => ⟨S128x8x4096, .f32⟩
  | .hbm, ⟨108, _⟩ => ⟨S128x8x4096, .f32⟩
  | .hbm, ⟨109, _⟩ => ⟨S128x8x4096, .f32⟩
  | .hbm, ⟨110, _⟩ => ⟨S_, .f32⟩
  | .hbm, ⟨111, _⟩ => ⟨S128x8x4096, .f32⟩
  | .hbm, ⟨112, _⟩ => ⟨S128x8x4096, .f32⟩
  | .hbm, ⟨113, _⟩ => ⟨S_, .f32⟩
  | .hbm, ⟨114, _⟩ => ⟨S128x8x4096, .f32⟩
  | .hbm, ⟨115, _⟩ => ⟨S128x8x4096, .f32⟩
  | .hbm, ⟨116, _⟩ => ⟨S128x8x4096, .f32⟩
  | .hbm, ⟨117, _⟩ => ⟨S128x8x4096, .f32⟩
  | .hbm, ⟨118, _⟩ => ⟨S1024x4096, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_7 : Ref sig .tc := ⟨.hbm, 92, rfl⟩
abbrev main_v77 : Ref sig .tc := ⟨.hbm, 93, rfl⟩
abbrev main_v78 : Ref sig .tc := ⟨.hbm, 94, rfl⟩
abbrev main_cst_8 : Ref sig .tc := ⟨.hbm, 95, rfl⟩
abbrev main_v79 : Ref sig .tc := ⟨.hbm, 96, rfl⟩
abbrev main_v80 : Ref sig .tc := ⟨.hbm, 97, rfl⟩
abbrev main_cst_9 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_call1_v0 : Ref sig .tc := ⟨.hbm, 108, rfl⟩
abbrev main_call1_v1 : Ref sig .tc := ⟨.hbm, 109, rfl⟩
abbrev main_call1_cst : Ref sig .tc := ⟨.hbm, 110, rfl⟩
abbrev main_call1_v2 : Ref sig .tc := ⟨.hbm, 111, rfl⟩
abbrev main_call1_v3 : Ref sig .tc := ⟨.hbm, 112, rfl⟩
abbrev main_call1_cst_0 : Ref sig .tc := ⟨.hbm, 113, rfl⟩
abbrev main_call1_v4 : Ref sig .tc := ⟨.hbm, 114, rfl⟩
abbrev main_call1_v5 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩

abbrev nD : Nat := 1
abbrev τ : Topo := Topo.v7x

variable {F : FTy → Type} [FloatOps F]
-- ==== Proof.RetSpec.lean ====
/-
  The retention recurrence of one head, one chunk of 128 rows at a time, as plain sums over the extended reals: the
  decays of a head from its log rate, the state after a chunk, the mixed rows of a chunk and the gated, normed rows.
-/
module

public import Idealize.ShloMosaic.Lib.Pointwise

@[expose] public section

noncomputable section

namespace Cert.RetSpec

open Idealize.ShloMosaic

/-- Row `i` of a chunk, as the number both programs convert it to. -/
def pos (i : Fin 128) : EReal := FloatOps.sitofp (F := Ideal) .f32 (BitVec.ofNat 32 i.val)

/-- The decay between rows `j` and `i` of one chunk: `exp ((i - j) · lg)` at and under the diagonal, zero above. -/
def decI (lg : EReal) (i j : Fin 128) : EReal :=
  if 0 ≤ pos i - pos j then Ideal.exp (max (pos i - pos j) 0 * lg) else 0

/-- The decay from the state before a chunk to row `i` of it: `exp ((i + 1) · lg)`. -/
def decQ (lg : EReal) (i : Fin 128) : EReal := Ideal.exp ((pos i + 1) * lg)

/-- The decay from row `j` of a chunk to the chunk's end: `exp ((127 - j) · lg)`. -/
def decK (lg : EReal) (j : Fin 128) : EReal := Ideal.exp ((Ideal.ofBits FTy.f32 0x42FE0000#32 - pos j) * lg)

/-- The decay of the state over one chunk: `exp (128 · lg)`. -/
def decC (lg : EReal) : EReal := Ideal.exp (Ideal.ofBits FTy.f32 0x43000000#32 * lg)

/-- The state after a chunk of keys `k` and values `v`, from the state `s` before it. -/
def stepSt (lg : EReal) (k : Fin 128 → Fin 256 → EReal) (v : Fin 128 → Fin 512 → EReal)
    (s : Fin 256 → Fin 512 → EReal) (d : Fin 256) (e : Fin 512) : EReal :=
  decC lg * s d e + ∑ j : Fin 128, k j d * decK lg j * v j e

/-- Row `i` of a chunk's output before the norm: the decayed scores within the chunk against its values, and the query
    against the state `s` before the chunk. -/
def mix (lg : EReal) (q k : Fin 128 → Fin 256 → EReal) (v : Fin 128 → Fin 512 → EReal)
    (s : Fin 256 → Fin 512 → EReal) (i : Fin 128) (e : Fin 512) : EReal :=
  (∑ j : Fin 128, (∑ d : Fin 256, q i d * k j d) * decI lg i j * v j e)
    + (∑ d : Fin 256, q i d * s d e) * decQ lg i

/-- A row `x` of one head, divided by its root mean square, times the head's gain, times the silu of the gate. -/
def gated (x gain gate : Fin 512 → EReal) (e : Fin 512) : EReal :=
  gate e * Ideal.logistic (gate e)
    * (x e * Ideal.rsqrt (Ideal.div (∑ e', x e' * x e') (Ideal.ofBits FTy.f32 0x44000000#32) + Ideal.ofBits FTy.f32 0x358637BD#32) * gain e)

/-- The log rate of head `h`: `log1p (-(2 ^ (-5 - h)))`, the power of two as both programs compute it. -/
def lgOf (h : Fin 8) : EReal :=
  Ideal.log1p (-(Ideal.exp (Ideal.ofBits FTy.f32 0x3F317218#32
    * (Ideal.ofBits FTy.f32 0xC0A00000#32 - FloatOps.sitofp (F := Ideal) .f32 (BitVec.ofNat 32 h.val)))))

/-- A matrix read at natural numbers: its entry inside, zero outside. -/
def rd {R C : ℕ} (X : Fin R → Fin C → EReal) (r c : ℕ) : EReal :=
  if h : r < R ∧ c < C then X ⟨r, h.1⟩ ⟨c, h.2⟩ else 0

/-- An entry is the matrix read at the same two numbers. -/
theorem rd_val {R C : ℕ} (X : Fin R → Fin C → EReal) (r : Fin R) (c : Fin C) {r' c' : ℕ} (hr : r.val = r') (hc : c.val = c') :
    X r c = rd X r' c' := by
  subst hr hc; unfold rd; rw [dif_pos ⟨r.isLt, c.isLt⟩]

/-- Chunk `n` of batch `b`, head `h`: 256 columns from column `off`. -/
def qkC (X : Fin 17408 → Fin 4096 → EReal) (off : ℕ) (b n h : ℕ) (i : Fin 128) (d : Fin 256) : EReal :=
  rd X (b * 2048 + n * 128 + i.val) (off + h * 256 + d.val)

/-- Chunk `n` of batch `b`, head `h`: 512 columns from column `off`. -/
def vgC (X : Fin 17408 → Fin 8192 → EReal) (off : ℕ) (b n h : ℕ) (i : Fin 128) (e : Fin 512) : EReal :=
  rd X (b * 2048 + n * 128 + i.val) (off + h * 512 + e.val)

section
variable (X : Fin 17408 → Fin 4096 → EReal) (Y : Fin 17408 → Fin 8192 → EReal) (gn : Fin 4096 → EReal)

/-- The state of batch `b`, head `h` before chunk `n`: zero, then the recurrence. -/
def St (b : ℕ) (h : Fin 8) : ℕ → Fin 256 → Fin 512 → EReal
  | 0 => fun _ _ => 0
  | n + 1 => stepSt (lgOf h) (qkC X 2048 b n h) (vgC Y 0 b n h) (St b h n)

/-- The result's row `i` of chunk `n` of batch `b`, head `h`. -/
def outRow (b : ℕ) (h : Fin 8) (n : ℕ) (i : Fin 128) (e : Fin 512) : EReal :=
  gated (mix (lgOf h) (qkC X 0 b n h) (qkC X 2048 b n h) (vgC Y 0 b n h) (St X Y b h n) i)
    (fun e => gn ⟨h.val * 512 + e.val, by omega⟩) (vgC Y 4096 b n h i) e
end

/-- The first result: row `b · 2048 + n · 128 + i`, column `h · 512 + e`. -/
def G7 (X : Fin 17408 → Fin 4096 → EReal) (Y : Fin 17408 → Fin 8192 → EReal) (gn : Fin 4096 → EReal) (r : Fin 16384) (l : Fin 4096) : EReal :=
  outRow X Y gn (r.val / 2048) ⟨l.val / 512, by omega⟩ (r.val / 128 % 16) ⟨r.val % 128, by omega⟩ ⟨l.val % 512, by omega⟩

end Cert.RetSpec

end
-- ==== Proof.RetBody.lean ====
/-
  The retention kernel of the prompt: what every part of its body computes, entry by entry.
-/
module

public import proofs.«01_k».proof.Proof.Gen.KernelIdeal.Value
public import proofs.«01_k».proof.Proof.RetSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Ret

open Cert.KernelIdeal Cert.KernelIdeal.Gen Cert.RetSpec Idealize.ShloMosaic Idealize.ShloMosaic.TcCoe

variable (q k : Vec Ideal S128x256 .f32) (v : Vec Ideal S128x512 .f32) (s : Vec Ideal S1x256x512 .f32)
  (gain : Vec Ideal S1x1x512 .f32) (gate : Vec Ideal S128x512 .f32)

/-- A block [1, 1, 128] of one head's log rate, all its lanes equal, read through the decays: within the chunk. -/
theorem pay10_at {L : Vec Ideal S1x1x128 .f32} {lg : EReal} (hL : ∀ l, L (ix3 0 0 l) = lg) (i j : Fin 128) : k0_pay10 L (ix2 i j) = decI lg i j := by
  pointwise [k0_pay10, k0_pay6, k0_pay4, k0_pay5]
  simp only [hL]; rfl

/-- The decay from the state to each row, the first head. -/
theorem pay7_at {L : Vec Ideal S1x1x128 .f32} {lg : EReal} (hL : ∀ l, L (ix3 0 0 l) = lg) (i l : Fin 128) : k0_pay7 L (ix2 i l) = decQ lg i := by
  pointwise [k0_pay7, k0_pay6, k0_pay4]
  simp only [hL]; rfl

/-- The decay from the state to each row, the second head. -/
theorem pay25_at {L : Vec Ideal S1x1x128 .f32} {lg : EReal} (hL : ∀ l, L (ix3 0 0 l) = lg) (i l : Fin 128) : k0_pay25 k0_pay4 L (ix2 i l) = decQ lg i := by
  pointwise [k0_pay25, k0_pay24, k0_pay4]
  simp only [hL]; rfl

/-- The decay from each row to the end of the chunk, the first head. -/
theorem pay8_at {L : Vec Ideal S1x1x128 .f32} {lg : EReal} (hL : ∀ l, L (ix3 0 0 l) = lg) (i l : Fin 128) : k0_pay8 L (ix2 i l) = decK lg i := by
  pointwise [k0_pay8, k0_pay6, k0_pay4]
  simp only [hL]; rfl

/-- The decay of the state over a chunk, the first head. -/
theorem pay9_at {L : Vec Ideal S1x1x128 .f32} {lg : EReal} (hL : ∀ l, L (ix3 0 0 l) = lg) (i : Fin 1) (l : Fin 128) : k0_pay9 L (ix2 i l) = decC lg := by
  pointwise [k0_pay9, k0_pay6]
  simp only [hL]; rfl

/-- The decay of the state over a chunk, the second head. -/
theorem pay26_at {L : Vec Ideal S1x1x128 .f32} {lg : EReal} (hL : ∀ l, L (ix3 0 0 l) = lg) (i : Fin 1) (l : Fin 128) : k0_pay26 L (ix2 i l) = decC lg := by
  pointwise [k0_pay26, k0_pay24]
  simp only [hL]; rfl

/-- The keys decayed to the end of the chunk, the second head. -/
theorem pay32_at {L : Vec Ideal S1x1x128 .f32} {lg : EReal} (hL : ∀ l, L (ix3 0 0 l) = lg) (j : Fin 128) (d : Fin 256) : k0_pay32 k0_pay4 L k (ix2 j d) = k (ix2 j d) * decK lg j := by
  pointwise [k0_pay32, k0_pay24, k0_pay4]
  simp only [hL]
  split
  · rfl
  · rename_i h
    have : (⟨128 + (d.val - 128), by omega⟩ : Fin 256) = d := Fin.ext (by simp only; omega)
    rw [this]; rfl

/-- What the chunk's keys and values add to the state, the first head. -/
theorem pay17_at {L : Vec Ideal S1x1x128 .f32} {lg : EReal} (hL : ∀ l, L (ix3 0 0 l) = lg) (d : Fin 256) (e : Fin 512) :
    k0_pay17 (k0_pay8 L) k (k0_pay11 v) (ix2 d e) = ∑ j : Fin 128, k (ix2 j d) * decK lg j * v (ix2 j e) := by
  pointwise [k0_pay17, k0_pay11]
  refine Finset.sum_congr rfl fun j _ => ?_
  simp only [pay8_at hL]
  split
  · rfl
  · rename_i h
    have : (⟨128 + (d.val - 128), by omega⟩ : Fin 256) = d := Fin.ext (by simp only; omega)
    rw [this]

/-- What the chunk's keys and values add to the state, the second head. -/
theorem pay33_at {L : Vec Ideal S1x1x128 .f32} {lg : EReal} (hL : ∀ l, L (ix3 0 0 l) = lg) (d : Fin 256) (e : Fin 512) :
    k0_pay33 (k0_pay27 v) (k0_pay32 k0_pay4 L k) (ix2 d e) = ∑ j : Fin 128, k (ix2 j d) * decK lg j * v (ix2 j e) := by
  pointwise [k0_pay33, k0_pay27]
  refine Finset.sum_congr rfl fun j _ => ?_
  rw [pay32_at k hL]

/-- The first slice of the first head's new state. -/
theorem pay18_at {L : Vec Ideal S1x1x128 .f32} {lg : EReal} (hL : ∀ l, L (ix3 0 0 l) = lg) (z : Fin 1) (d : Fin 256) (e : Fin 128) (e' : Fin 512) (he : e'.val = e.val) :
    k0_pay18 (k0_pay8 L) (k0_pay9 L) k (k0_pay11 v) s (ix3 z d e)
      = stepSt lg (fun j d => k (ix2 j d)) (fun j e => v (ix2 j e)) (fun d e => s (ix3 0 d e)) d e' := by
  obtain ⟨e', he'⟩ := e'
  simp only at he; subst he
  pointwise [k0_pay18, k0_pay15]
  simp only [pay9_at hL, pay17_at k v hL]; rfl

/-- The second slice of the first head's new state. -/
theorem pay19_at {L : Vec Ideal S1x1x128 .f32} {lg : EReal} (hL : ∀ l, L (ix3 0 0 l) = lg) (z : Fin 1) (d : Fin 256) (e : Fin 128) (e' : Fin 512) (he : e'.val = 128 + e.val) :
    k0_pay19 (k0_pay8 L) (k0_pay9 L) k (k0_pay11 v) s (ix3 z d e)
      = stepSt lg (fun j d => k (ix2 j d)) (fun j e => v (ix2 j e)) (fun d e => s (ix3 0 d e)) d e' := by
  obtain ⟨e', he'⟩ := e'
  simp only at he; subst he
  pointwise [k0_pay19, k0_pay15]
  simp only [pay9_at hL, pay17_at k v hL]; rfl

/-- Four blocks of 128 columns side by side, each a block of `a` plus a block of `b` scaled row by row: `a` plus `b` scaled. -/
theorem cat4_at (w : Fin 128 → EReal) (W : FVec Ideal S128x128 .f32) (hW : ∀ i l, W (ix2 i l) = w i) (a b : FVec Ideal S128x512 .f32) (i : Fin 128) (e : Fin 512) :
    concatenate S128x512 1 [⟨S128x128, addf (extractStridedSlice S128x128 ![0, 0] a slices_S128x512_o0_0_S128x128) (mulf (extractStridedSlice S128x128 ![0, 0] b slices_S128x512_o0_0_S128x128) W)⟩,
      ⟨S128x128, addf (extractStridedSlice S128x128 ![0, 128] a slices_S128x512_o0_128_S128x128) (mulf (extractStridedSlice S128x128 ![0, 128] b slices_S128x512_o0_128_S128x128) W)⟩,
      ⟨S128x128, addf (extractStridedSlice S128x128 ![0, 256] a slices_S128x512_o0_256_S128x128) (mulf (extractStridedSlice S128x128 ![0, 256] b slices_S128x512_o0_256_S128x128) W)⟩,
      ⟨S128x128, addf (extractStridedSlice S128x128 ![0, 384] a slices_S128x512_o0_384_S128x128) (mulf (extractStridedSlice S128x128 ![0, 384] b slices_S128x512_o0_384_S128x128) W)⟩] concatenates_S128x128_S128x128_S128x128_S128x128_S128x512_d1 (ix2 i e)
    = a (ix2 i e) + b (ix2 i e) * w i := by
  pointwise
  simp only [hW]
  have fx : ∀ (n : ℕ) (h : n < 512), n = e.val → a (ix2 i ⟨n, h⟩) + b (ix2 i ⟨n, h⟩) * w i = a (ix2 i e) + b (ix2 i e) * w i := fun n h hn => by subst hn; rfl
  repeat' split
  all_goals exact fx _ _ (by omega)

/-- The gated rows of the first head. -/
theorem pay23_at {L : Vec Ideal S1x1x128 .f32} {lg : EReal} (hL : ∀ l, L (ix3 0 0 l) = lg) (i : Fin 128) (e : Fin 512) :
    k0_pay23 (k0_pay7 L) (k0_pay14 (k0_pay10 L) (k0_pay11 v) (k0_pay12 q) (k0_pay13 k) (constant S128x128 FTy.f32 0#32)) (k0_pay16 (k0_pay12 q) s) gain gate (ix2 i e)
      = gated (mix lg (fun i d => q (ix2 i d)) (fun j d => k (ix2 j d)) (fun j e => v (ix2 j e)) (fun d e => s (ix3 0 d e)) i) (fun e => gain (ix3 0 0 e)) (fun e => gate (ix2 i e)) e := by
  have hX : ∀ i e, (k0_pay14 (k0_pay10 L) (k0_pay11 v) (k0_pay12 q) (k0_pay13 k) (constant S128x128 FTy.f32 0#32)) (ix2 i e) + (k0_pay16 (k0_pay12 q) s) (ix2 i e) * decQ lg i
      = mix lg (fun i d => q (ix2 i d)) (fun j d => k (ix2 j d)) (fun j e => v (ix2 j e)) (fun d e => s (ix3 0 d e)) i e := by
    intro i e
    pointwise [k0_pay14, k0_pay11, k0_pay12, k0_pay13, k0_pay16, k0_pay15]
    simp only [pay10_at hL]; rfl
  unfold k0_pay23
  dsimp only
  generalize hc : concatenate S128x512 1 _ _ = X
  have hX' : ∀ i e, X (ix2 i e) = mix lg (fun i d => q (ix2 i d)) (fun j d => k (ix2 j d)) (fun j e => v (ix2 j e)) (fun d e => s (ix3 0 d e)) i e := fun i e => by rw [← hc]; exact (cat4_at _ _ (pay7_at hL) _ _ i e).trans (hX i e)
  pointwise
  simp only [hX']
  rfl

/-- The third slice of the first head's new state. -/
theorem pay20_at {L : Vec Ideal S1x1x128 .f32} {lg : EReal} (hL : ∀ l, L (ix3 0 0 l) = lg) (z : Fin 1) (d : Fin 256) (e : Fin 128) (e' : Fin 512) (he : e'.val = 256 + e.val) :
    k0_pay20 (k0_pay8 L) (k0_pay9 L) k (k0_pay11 v) s (ix3 z d e)
      = stepSt lg (fun j d => k (ix2 j d)) (fun j e => v (ix2 j e)) (fun d e => s (ix3 0 d e)) d e' := by
  obtain ⟨e', he'⟩ := e'
  simp only at he; subst he
  pointwise [k0_pay20, k0_pay15]
  simp only [pay9_at hL, pay17_at k v hL]; rfl

/-- The fourth slice of the first head's new state. -/
theorem pay22_at {L : Vec Ideal S1x1x128 .f32} {lg : EReal} (hL : ∀ l, L (ix3 0 0 l) = lg) (z : Fin 1) (d : Fin 256) (e : Fin 128) (e' : Fin 512) (he : e'.val = 384 + e.val) :
    k0_pay22 (k0_pay17 (k0_pay8 L) k (k0_pay11 v)) (k0_pay21 (k0_pay9 L) s) (ix3 z d e)
      = stepSt lg (fun j d => k (ix2 j d)) (fun j e => v (ix2 j e)) (fun d e => s (ix3 0 d e)) d e' := by
  obtain ⟨e', he'⟩ := e'
  simp only at he; subst he
  pointwise [k0_pay22, k0_pay21, k0_pay15]
  simp only [pay9_at hL, pay17_at k v hL]; rfl

/-- The first slice of the second head's new state. -/
theorem pay34_at {L : Vec Ideal S1x1x128 .f32} {lg : EReal} (hL : ∀ l, L (ix3 0 0 l) = lg) (z : Fin 1) (d : Fin 256) (e : Fin 128) (e' : Fin 512) (he : e'.val = e.val) :
    k0_pay34 (k0_pay26 L) (k0_pay27 v) (k0_pay30 s) (k0_pay32 k0_pay4 L k) (ix3 z d e)
      = stepSt lg (fun j d => k (ix2 j d)) (fun j e => v (ix2 j e)) (fun d e => s (ix3 0 d e)) d e' := by
  obtain ⟨e', he'⟩ := e'
  simp only at he; subst he
  pointwise [k0_pay34, k0_pay30]
  simp only [pay26_at hL, pay33_at k v hL]; rfl

/-- The second slice of the second head's new state. -/
theorem pay35_at {L : Vec Ideal S1x1x128 .f32} {lg : EReal} (hL : ∀ l, L (ix3 0 0 l) = lg) (z : Fin 1) (d : Fin 256) (e : Fin 128) (e' : Fin 512) (he : e'.val = 128 + e.val) :
    k0_pay35 (k0_pay26 L) (k0_pay27 v) (k0_pay30 s) (k0_pay32 k0_pay4 L k) (ix3 z d e)
      = stepSt lg (fun j d => k (ix2 j d)) (fun j e => v (ix2 j e)) (fun d e => s (ix3 0 d e)) d e' := by
  obtain ⟨e', he'⟩ := e'
  simp only at he; subst he
  pointwise [k0_pay35, k0_pay30]
  simp only [pay26_at hL, pay33_at k v hL]; rfl

/-- The third slice of the second head's new state. -/
theorem pay36_at {L : Vec Ideal S1x1x128 .f32} {lg : EReal} (hL : ∀ l, L (ix3 0 0 l) = lg) (z : Fin 1) (d : Fin 256) (e : Fin 128) (e' : Fin 512) (he : e'.val = 256 + e.val) :
    k0_pay36 (k0_pay26 L) (k0_pay27 v) (k0_pay30 s) (k0_pay32 k0_pay4 L k) (ix3 z d e)
      = stepSt lg (fun j d => k (ix2 j d)) (fun j e => v (ix2 j e)) (fun d e => s (ix3 0 d e)) d e' := by
  obtain ⟨e', he'⟩ := e'
  simp only at he; subst he
  pointwise [k0_pay36, k0_pay30]
  simp only [pay26_at hL, pay33_at k v hL]; rfl

/-- The fourth slice of the second head's new state. -/
theorem pay37_at {L : Vec Ideal S1x1x128 .f32} {lg : EReal} (hL : ∀ l, L (ix3 0 0 l) = lg) (z : Fin 1) (d : Fin 256) (e : Fin 128) (e' : Fin 512) (he : e'.val = 384 + e.val) :
    k0_pay37 (k0_pay26 L) (k0_pay27 v) (k0_pay30 s) (k0_pay32 k0_pay4 L k) (ix3 z d e)
      = stepSt lg (fun j d => k (ix2 j d)) (fun j e => v (ix2 j e)) (fun d e => s (ix3 0 d e)) d e' := by
  obtain ⟨e', he'⟩ := e'
  simp only at he; subst he
  pointwise [k0_pay37, k0_pay30]
  simp only [pay26_at hL, pay33_at k v hL]; rfl

/-- The second head's gated rows. -/
theorem pay1_at {L : Vec Ideal S1x1x128 .f32} {lg : EReal} (hL : ∀ l, L (ix3 0 0 l) = lg) (i : Fin 128) (e : Fin 512) :
    k0_pay1 (k0_pay25 k0_pay4 L) (k0_pay29 k0_pay5 L q k v) (k0_pay31 q s)
        (k0_pay38 (k0_pay25 k0_pay4 L) (k0_pay29 k0_pay5 L q k v) (k0_pay31 q s))
        (k0_pay39 (k0_pay25 k0_pay4 L) (k0_pay29 k0_pay5 L q k v) (k0_pay31 q s))
        (k0_pay40 (k0_pay29 k0_pay5 L q k v)) gain gate (ix2 i e)
      = gated (mix lg (fun i d => q (ix2 i d)) (fun j d => k (ix2 j d)) (fun j e => v (ix2 j e)) (fun d e => s (ix3 0 d e)) i)
          (fun e => gain (ix3 0 0 e)) (fun e => gate (ix2 i e)) e := by
  have hX : ∀ i e, (k0_pay29 k0_pay5 L q k v) (ix2 i e) + (k0_pay31 q s) (ix2 i e) * decQ lg i
      = mix lg (fun i d => q (ix2 i d)) (fun j d => k (ix2 j d)) (fun j e => v (ix2 j e)) (fun d e => s (ix3 0 d e)) i e := by
    intro i e
    pointwise [k0_pay29, k0_pay27, k0_pay28, k0_pay31, k0_pay30, k0_pay24, k0_pay5, k0_pay4]
    simp only [hL]; rfl
  generalize h38 : k0_pay38 (F := Ideal) _ _ _ = a0
  generalize h39 : k0_pay39 (F := Ideal) _ _ _ = a1
  generalize h40 : k0_pay40 (F := Ideal) _ = a2
  have h0 : ∀ i (l : Fin 128), a0 (ix2 i l) = (k0_pay29 k0_pay5 L q k v) (ix2 i ⟨0 + l.val, by omega⟩) + (k0_pay31 q s) (ix2 i ⟨0 + l.val, by omega⟩) * decQ lg i := fun i l => by
    rw [← h38]; pointwise [k0_pay38]; rw [pay25_at hL]
  have h1 : ∀ i (l : Fin 128), a1 (ix2 i l) = (k0_pay29 k0_pay5 L q k v) (ix2 i ⟨128 + l.val, by omega⟩) + (k0_pay31 q s) (ix2 i ⟨128 + l.val, by omega⟩) * decQ lg i := fun i l => by
    rw [← h39]; pointwise [k0_pay39]; rw [pay25_at hL]
  have h2 : ∀ i (l : Fin 128), a2 (ix2 i l) = (k0_pay29 k0_pay5 L q k v) (ix2 i ⟨256 + l.val, by omega⟩) := fun i l => by
    rw [← h40]; pointwise [k0_pay40]
  clear h38 h39 h40
  generalize (k0_pay29 k0_pay5 L q k v) = A at *
  generalize (k0_pay31 q s) = B at *
  have hW := pay25_at hL
  generalize k0_pay25 k0_pay4 L = W at *
  unfold k0_pay1
  dsimp only
  generalize hc : concatenate S128x512 1 _ _ = X
  have hX' : ∀ i e, X (ix2 i e) = mix lg (fun i d => q (ix2 i d)) (fun j d => k (ix2 j d)) (fun j e => v (ix2 j e)) (fun d e => s (ix3 0 d e)) i e := fun i e => by
    rw [← hc, ← hX i e]
    clear hX hc
    have fx : ∀ (n : ℕ) (h : n < 512), n = e.val → A (ix2 i ⟨n, h⟩) + B (ix2 i ⟨n, h⟩) * decQ lg i = A (ix2 i e) + B (ix2 i e) * decQ lg i := fun n h hn => by subst hn; rfl
    pointwise
    simp only [h0, h1, h2, hW]
    repeat' split
    all_goals exact fx _ _ (by omega)
  pointwise
  simp only [hX']
  rfl

end Cert.KernelIdeal.Ret
end
-- ==== Proof.RetCases.lean ====
/-
  The retention kernel of the prompt: the rows and the states that its body leaves, from its blocks.
-/
module

public import proofs.«01_k».proof.Proof.Gen.KernelIdeal.Value
public import proofs.«01_k».proof.Proof.RetBody
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Ret

open Cert.KernelIdeal Cert.KernelIdeal.Gen Cert.RetSpec Idealize.ShloMosaic Idealize.ShloMosaic.TcCoe

/-- Head `u`'s columns of a block of two heads' queries or keys. -/
def qkOf (x : Vec Ideal S128x512 .f32) (u : Fin 2) (j : Fin 128) (d : Fin 256) : EReal := x (ix2 j ⟨256 * u.val + d.val, by omega⟩)
/-- Head `u`'s columns of a block of two heads' values or gates. -/
def vgOf (x : Vec Ideal S128x1024 .f32) (u : Fin 2) (j : Fin 128) (e : Fin 512) : EReal := x (ix2 j ⟨512 * u.val + e.val, by omega⟩)

/-- Eight pieces that cover the buffer hide an earlier fill. -/
theorem canon_drop {S : Shape} {e : EltTy} (L' : List (View.Piece (Elt Ideal) S e)) (y : S.Idx) :
    ∀ (L : List (View.Piece (Elt Ideal) S e)) (_ : ∃ p ∈ L, y ∈ p.1.set), View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact canon_drop L' y L ⟨q, hq, hy⟩

/-- Reading a head's log rates. -/
theorem ld_lg (x0 : Vec Ideal S2x1x128 .f32) (lg : Fin 2 → EReal) (hL : ∀ u l, x0 (ix3 u 0 l) = lg u) :
    (∀ l : Fin 128, View.ld x0 (Rect.unit ![0, 0, 0] ![1, 1, 128] inb_S2x1x128_S1x1x128_0_0_0) (ix3 0 0 l) = lg 0)
    ∧ (∀ l : Fin 128, View.ld x0 (Rect.unit ![1, 0, 0] ![1, 1, 128] inb_S2x1x128_S1x1x128_1_0_0) (ix3 0 0 l) = lg 1) := by
  constructor <;> intro l <;> rw [← hL _ l, View.ld_apply] <;> congr 1 <;> ext a <;> fin_cases a <;> simp [Rect.idx_unit_val] <;> rfl

/-- Reading a head's columns of queries or keys. -/
theorem ld_qk (x : Vec Ideal S128x512 .f32) :
    (fun (j : Fin 128) (d : Fin 256) => View.ld x (Rect.unit ![0, 0] ![128, 256] inb_S128x512_S128x256_0_0) (ix2 j d)) = qkOf x 0
    ∧ (fun (j : Fin 128) (d : Fin 256) => View.ld x (Rect.unit ![0, 256] ![128, 256] inb_S128x512_S128x256_0_256) (ix2 j d)) = qkOf x 1 := by
  constructor <;> funext j d <;> unfold qkOf <;> rw [View.ld_apply] <;> congr 1 <;> ext a <;> fin_cases a <;> simp [Rect.idx_unit_val] <;> rfl

/-- Reading a head's columns of values or gates. -/
theorem ld_vg (x : Vec Ideal S128x1024 .f32) :
    (fun (j : Fin 128) (d : Fin 512) => View.ld x (Rect.unit ![0, 0] ![128, 512] inb_S128x1024_S128x512_0_0) (ix2 j d)) = vgOf x 0
    ∧ (fun (j : Fin 128) (d : Fin 512) => View.ld x (Rect.unit ![0, 512] ![128, 512] inb_S128x1024_S128x512_0_512) (ix2 j d)) = vgOf x 1 := by
  constructor <;> funext j d <;> unfold vgOf <;> rw [View.ld_apply] <;> congr 1 <;> ext a <;> fin_cases a <;> simp [Rect.idx_unit_val] <;> rfl

/-- Reading a head's state. -/
theorem ld_st (x : Vec Ideal S2x256x512 .f32) :
    (fun (j : Fin 256) (d : Fin 512) => View.ld x (Rect.unit ![0, 0, 0] ![1, 256, 512] inb_S2x256x512_S1x256x512_0_0_0) (ix3 0 j d)) = (fun d e => x (ix3 0 d e))
    ∧ (fun (j : Fin 256) (d : Fin 512) => View.ld x (Rect.unit ![1, 0, 0] ![1, 256, 512] inb_S2x256x512_S1x256x512_1_0_0) (ix3 0 j d)) = (fun d e => x (ix3 1 d e)) := by
  constructor <;> funext j d <;> rw [View.ld_apply] <;> congr 1 <;> ext a <;> fin_cases a <;> simp [Rect.idx_unit_val] <;> rfl

/-- The states without their leading axis. -/
theorem pay3_at (x : Vec Ideal S1x2x256x512 .f32) (u : Fin 2) (d : Fin 256) (e : Fin 512) : k0_pay3 x (ix3 u d e) = x (ix4 0 u d e) := by
  pointwise [k0_pay3]

/-- The eight stores of a point into the carried state `s`: per head four slices of 128 columns. -/
def statePieces (x0 : Vec Ideal S2x1x128 .f32) (x3 : Vec Ideal S128x512 .f32) (x4 : Vec Ideal S128x1024 .f32) (s : Vec Ideal S2x256x512 .f32) :
    List (View.Piece (Elt Ideal) S2x256x512 .f32) :=
  [⟨Rect.unit ![1, 0, 384] ![1, 256, 128] inb_S2x256x512_S1x256x128_1_0_384, k0_pay37 (k0_pay26 (View.ld x0 (Rect.unit ![1, 0, 0] ![1, 1, 128] inb_S2x1x128_S1x1x128_1_0_0))) (k0_pay27 (View.ld x4 (Rect.unit ![0, 512] ![128, 512] inb_S128x1024_S128x512_0_512))) (k0_pay30 (View.ld s (Rect.unit ![1, 0, 0] ![1, 256, 512] inb_S2x256x512_S1x256x512_1_0_0))) (k0_pay32 k0_pay4 (View.ld x0 (Rect.unit ![1, 0, 0] ![1, 1, 128] inb_S2x1x128_S1x1x128_1_0_0)) (View.ld x3 (Rect.unit ![0, 256] ![128, 256] inb_S128x512_S128x256_0_256)))⟩,
    ⟨Rect.unit ![1, 0, 256] ![1, 256, 128] inb_S2x256x512_S1x256x128_1_0_256, k0_pay36 (k0_pay26 (View.ld x0 (Rect.unit ![1, 0, 0] ![1, 1, 128] inb_S2x1x128_S1x1x128_1_0_0))) (k0_pay27 (View.ld x4 (Rect.unit ![0, 512] ![128, 512] inb_S128x1024_S128x512_0_512))) (k0_pay30 (View.ld s (Rect.unit ![1, 0, 0] ![1, 256, 512] inb_S2x256x512_S1x256x512_1_0_0))) (k0_pay32 k0_pay4 (View.ld x0 (Rect.unit ![1, 0, 0] ![1, 1, 128] inb_S2x1x128_S1x1x128_1_0_0)) (View.ld x3 (Rect.unit ![0, 256] ![128, 256] inb_S128x512_S128x256_0_256)))⟩,
    ⟨Rect.unit ![1, 0, 128] ![1, 256, 128] inb_S2x256x512_S1x256x128_1_0_128, k0_pay35 (k0_pay26 (View.ld x0 (Rect.unit ![1, 0, 0] ![1, 1, 128] inb_S2x1x128_S1x1x128_1_0_0))) (k0_pay27 (View.ld x4 (Rect.unit ![0, 512] ![128, 512] inb_S128x1024_S128x512_0_512))) (k0_pay30 (View.ld s (Rect.unit ![1, 0, 0] ![1, 256, 512] inb_S2x256x512_S1x256x512_1_0_0))) (k0_pay32 k0_pay4 (View.ld x0 (Rect.unit ![1, 0, 0] ![1, 1, 128] inb_S2x1x128_S1x1x128_1_0_0)) (View.ld x3 (Rect.unit ![0, 256] ![128, 256] inb_S128x512_S128x256_0_256)))⟩,
    ⟨Rect.unit ![1, 0, 0] ![1, 256, 128] inb_S2x256x512_S1x256x128_1_0_0, k0_pay34 (k0_pay26 (View.ld x0 (Rect.unit ![1, 0, 0] ![1, 1, 128] inb_S2x1x128_S1x1x128_1_0_0))) (k0_pay27 (View.ld x4 (Rect.unit ![0, 512] ![128, 512] inb_S128x1024_S128x512_0_512))) (k0_pay30 (View.ld s (Rect.unit ![1, 0, 0] ![1, 256, 512] inb_S2x256x512_S1x256x512_1_0_0))) (k0_pay32 k0_pay4 (View.ld x0 (Rect.unit ![1, 0, 0] ![1, 1, 128] inb_S2x1x128_S1x1x128_1_0_0)) (View.ld x3 (Rect.unit ![0, 256] ![128, 256] inb_S128x512_S128x256_0_256)))⟩,
    ⟨Rect.unit ![0, 0, 384] ![1, 256, 128] inb_S2x256x512_S1x256x128_0_0_384, k0_pay22 (k0_pay17 (k0_pay8 (View.ld x0 (Rect.unit ![0, 0, 0] ![1, 1, 128] inb_S2x1x128_S1x1x128_0_0_0))) (View.ld x3 (Rect.unit ![0, 0] ![128, 256] inb_S128x512_S128x256_0_0)) (k0_pay11 (View.ld x4 (Rect.unit ![0, 0] ![128, 512] inb_S128x1024_S128x512_0_0)))) (k0_pay21 (k0_pay9 (View.ld x0 (Rect.unit ![0, 0, 0] ![1, 1, 128] inb_S2x1x128_S1x1x128_0_0_0))) (View.ld s (Rect.unit ![0, 0, 0] ![1, 256, 512] inb_S2x256x512_S1x256x512_0_0_0)))⟩,
    ⟨Rect.unit ![0, 0, 256] ![1, 256, 128] inb_S2x256x512_S1x256x128_0_0_256, k0_pay20 (k0_pay8 (View.ld x0 (Rect.unit ![0, 0, 0] ![1, 1, 128] inb_S2x1x128_S1x1x128_0_0_0))) (k0_pay9 (View.ld x0 (Rect.unit ![0, 0, 0] ![1, 1, 128] inb_S2x1x128_S1x1x128_0_0_0))) (View.ld x3 (Rect.unit ![0, 0] ![128, 256] inb_S128x512_S128x256_0_0)) (k0_pay11 (View.ld x4 (Rect.unit ![0, 0] ![128, 512] inb_S128x1024_S128x512_0_0))) (View.ld s (Rect.unit ![0, 0, 0] ![1, 256, 512] inb_S2x256x512_S1x256x512_0_0_0))⟩,
    ⟨Rect.unit ![0, 0, 128] ![1, 256, 128] inb_S2x256x512_S1x256x128_0_0_128, k0_pay19 (k0_pay8 (View.ld x0 (Rect.unit ![0, 0, 0] ![1, 1, 128] inb_S2x1x128_S1x1x128_0_0_0))) (k0_pay9 (View.ld x0 (Rect.unit ![0, 0, 0] ![1, 1, 128] inb_S2x1x128_S1x1x128_0_0_0))) (View.ld x3 (Rect.unit ![0, 0] ![128, 256] inb_S128x512_S128x256_0_0)) (k0_pay11 (View.ld x4 (Rect.unit ![0, 0] ![128, 512] inb_S128x1024_S128x512_0_0))) (View.ld s (Rect.unit ![0, 0, 0] ![1, 256, 512] inb_S2x256x512_S1x256x512_0_0_0))⟩,
    ⟨Rect.unit ![0, 0, 0] ![1, 256, 128] inb_S2x256x512_S1x256x128_0_0_0, k0_pay18 (k0_pay8 (View.ld x0 (Rect.unit ![0, 0, 0] ![1, 1, 128] inb_S2x1x128_S1x1x128_0_0_0))) (k0_pay9 (View.ld x0 (Rect.unit ![0, 0, 0] ![1, 1, 128] inb_S2x1x128_S1x1x128_0_0_0))) (View.ld x3 (Rect.unit ![0, 0] ![128, 256] inb_S128x512_S128x256_0_0)) (k0_pay11 (View.ld x4 (Rect.unit ![0, 0] ![128, 512] inb_S128x1024_S128x512_0_0))) (View.ld s (Rect.unit ![0, 0, 0] ![1, 256, 512] inb_S2x256x512_S1x256x512_0_0_0))⟩]

/-- Read back, they are the recurrence's step, head by head. -/
theorem canon_statePieces (x0 : Vec Ideal S2x1x128 .f32) (x3 : Vec Ideal S128x512 .f32) (x4 : Vec Ideal S128x1024 .f32) (s : Vec Ideal S2x256x512 .f32)
    (lg : Fin 2 → EReal) (hL : ∀ u l, x0 (ix3 u 0 l) = lg u) (u : Fin 2) (d : Fin 256) (e : Fin 512) :
    View.canon (statePieces x0 x3 x4 s) (ix3 u d e) = stepSt (lg u) (qkOf x3 u) (vgOf x4 u) (fun d e => s (ix3 u d e)) d e := by
  have g := ld_lg x0 lg hL
  have k := ld_qk x3
  have v := ld_vg x4
  have w := ld_st s
  unfold statePieces
  canon_tiles y h
  all_goals idx_vars y
  all_goals obtain rfl : d = y1 := Fin.ext h1
  · obtain rfl : u = 1 := Fin.ext (by show (u : ℕ) = 1; omega)
    exact (pay37_at _ _ _ g.2 y0 d y2 e h2).trans (by rw [k.2, v.2, w.2])
  · obtain rfl : u = 1 := Fin.ext (by show (u : ℕ) = 1; omega)
    exact (pay36_at _ _ _ g.2 y0 d y2 e h2).trans (by rw [k.2, v.2, w.2])
  · obtain rfl : u = 1 := Fin.ext (by show (u : ℕ) = 1; omega)
    exact (pay35_at _ _ _ g.2 y0 d y2 e h2).trans (by rw [k.2, v.2, w.2])
  · obtain rfl : u = 1 := Fin.ext (by show (u : ℕ) = 1; omega)
    exact (pay34_at _ _ _ g.2 y0 d y2 e h2).trans (by rw [k.2, v.2, w.2])
  · obtain rfl : u = 0 := Fin.ext (by show (u : ℕ) = 0; omega)
    exact (pay22_at _ _ _ g.1 y0 d y2 e h2).trans (by rw [k.1, v.1, w.1])
  · obtain rfl : u = 0 := Fin.ext (by show (u : ℕ) = 0; omega)
    exact (pay20_at _ _ _ g.1 y0 d y2 e h2).trans (by rw [k.1, v.1, w.1])
  · obtain rfl : u = 0 := Fin.ext (by show (u : ℕ) = 0; omega)
    exact (pay19_at _ _ _ g.1 y0 d y2 e h2).trans (by rw [k.1, v.1, w.1])
  · obtain rfl : u = 0 := Fin.ext (by show (u : ℕ) = 0; omega)
    exact (pay18_at _ _ _ g.1 y0 d y2 e h2).trans (by rw [k.1, v.1, w.1])

/-- Reading a head's gains. -/
theorem ld_gain (x : Vec Ideal S2x1x512 .f32) :
    (fun (e : Fin 512) => View.ld x (Rect.unit ![0, 0, 0] ![1, 1, 512] inb_S2x1x512_S1x1x512_0_0_0) (ix3 0 0 e)) = (fun e => x (ix3 0 0 e))
    ∧ (fun (e : Fin 512) => View.ld x (Rect.unit ![1, 0, 0] ![1, 1, 512] inb_S2x1x512_S1x1x512_1_0_0) (ix3 0 0 e)) = (fun e => x (ix3 1 0 e)) := by
  constructor <;> funext d <;> rw [View.ld_apply] <;> congr 1 <;> ext a <;> fin_cases a <;> simp [Rect.idx_unit_val] <;> rfl

/-- The two stores of a point into its block of gated rows, one per head. -/
def rowPieces (x0 : Vec Ideal S2x1x128 .f32) (x1 : Vec Ideal S2x1x512 .f32) (x2 : Vec Ideal S128x512 .f32) (x3 : Vec Ideal S128x512 .f32) (x4 : Vec Ideal S128x1024 .f32) (x5 : Vec Ideal S128x1024 .f32) (s : Vec Ideal S2x256x512 .f32) : List (View.Piece (Elt Ideal) S128x1024 .f32) :=
  [⟨Rect.unit ![0, 512] ![128, 512] inb_S128x1024_S128x512_0_512, k0_pay1 (k0_pay25 k0_pay4 (View.ld x0 (Rect.unit ![1, 0, 0] ![1, 1, 128] inb_S2x1x128_S1x1x128_1_0_0))) (k0_pay29 k0_pay5 (View.ld x0 (Rect.unit ![1, 0, 0] ![1, 1, 128] inb_S2x1x128_S1x1x128_1_0_0)) (View.ld x2 (Rect.unit ![0, 256] ![128, 256] inb_S128x512_S128x256_0_256)) (View.ld x3 (Rect.unit ![0, 256] ![128, 256] inb_S128x512_S128x256_0_256)) (View.ld x4 (Rect.unit ![0, 512] ![128, 512] inb_S128x1024_S128x512_0_512))) (k0_pay31 (View.ld x2 (Rect.unit ![0, 256] ![128, 256] inb_S128x512_S128x256_0_256)) (View.ld s (Rect.unit ![1, 0, 0] ![1, 256, 512] inb_S2x256x512_S1x256x512_1_0_0))) (k0_pay38 (k0_pay25 k0_pay4 (View.ld x0 (Rect.unit ![1, 0, 0] ![1, 1, 128] inb_S2x1x128_S1x1x128_1_0_0))) (k0_pay29 k0_pay5 (View.ld x0 (Rect.unit ![1, 0, 0] ![1, 1, 128] inb_S2x1x128_S1x1x128_1_0_0)) (View.ld x2 (Rect.unit ![0, 256] ![128, 256] inb_S128x512_S128x256_0_256)) (View.ld x3 (Rect.unit ![0, 256] ![128, 256] inb_S128x512_S128x256_0_256)) (View.ld x4 (Rect.unit ![0, 512] ![128, 512] inb_S128x1024_S128x512_0_512))) (k0_pay31 (View.ld x2 (Rect.unit ![0, 256] ![128, 256] inb_S128x512_S128x256_0_256)) (View.ld s (Rect.unit ![1, 0, 0] ![1, 256, 512] inb_S2x256x512_S1x256x512_1_0_0)))) (k0_pay39 (k0_pay25 k0_pay4 (View.ld x0 (Rect.unit ![1, 0, 0] ![1, 1, 128] inb_S2x1x128_S1x1x128_1_0_0))) (k0_pay29 k0_pay5 (View.ld x0 (Rect.unit ![1, 0, 0] ![1, 1, 128] inb_S2x1x128_S1x1x128_1_0_0)) (View.ld x2 (Rect.unit ![0, 256] ![128, 256] inb_S128x512_S128x256_0_256)) (View.ld x3 (Rect.unit ![0, 256] ![128, 256] inb_S128x512_S128x256_0_256)) (View.ld x4 (Rect.unit ![0, 512] ![128, 512] inb_S128x1024_S128x512_0_512))) (k0_pay31 (View.ld x2 (Rect.unit ![0, 256] ![128, 256] inb_S128x512_S128x256_0_256)) (View.ld s (Rect.unit ![1, 0, 0] ![1, 256, 512] inb_S2x256x512_S1x256x512_1_0_0)))) (k0_pay40 (k0_pay29 k0_pay5 (View.ld x0 (Rect.unit ![1, 0, 0] ![1, 1, 128] inb_S2x1x128_S1x1x128_1_0_0)) (View.ld x2 (Rect.unit ![0, 256] ![128, 256] inb_S128x512_S128x256_0_256)) (View.ld x3 (Rect.unit ![0, 256] ![128, 256] inb_S128x512_S128x256_0_256)) (View.ld x4 (Rect.unit ![0, 512] ![128, 512] inb_S128x1024_S128x512_0_512)))) (View.ld x1 (Rect.unit ![1, 0, 0] ![1, 1, 512] inb_S2x1x512_S1x1x512_1_0_0)) (View.ld x5 (Rect.unit ![0, 512] ![128, 512] inb_S128x1024_S128x512_0_512))⟩,
    ⟨Rect.unit ![0, 0] ![128, 512] inb_S128x1024_S128x512_0_0, k0_pay23 (k0_pay7 (View.ld x0 (Rect.unit ![0, 0, 0] ![1, 1, 128] inb_S2x1x128_S1x1x128_0_0_0))) (k0_pay14 (k0_pay10 (View.ld x0 (Rect.unit ![0, 0, 0] ![1, 1, 128] inb_S2x1x128_S1x1x128_0_0_0))) (k0_pay11 (View.ld x4 (Rect.unit ![0, 0] ![128, 512] inb_S128x1024_S128x512_0_0))) (k0_pay12 (View.ld x2 (Rect.unit ![0, 0] ![128, 256] inb_S128x512_S128x256_0_0))) (k0_pay13 (View.ld x3 (Rect.unit ![0, 0] ![128, 256] inb_S128x512_S128x256_0_0))) (constant S128x128 FTy.f32 0#32)) (k0_pay16 (k0_pay12 (View.ld x2 (Rect.unit ![0, 0] ![128, 256] inb_S128x512_S128x256_0_0))) (View.ld s (Rect.unit ![0, 0, 0] ![1, 256, 512] inb_S2x256x512_S1x256x512_0_0_0))) (View.ld x1 (Rect.unit ![0, 0, 0] ![1, 1, 512] inb_S2x1x512_S1x1x512_0_0_0)) (View.ld x5 (Rect.unit ![0, 0] ![128, 512] inb_S128x1024_S128x512_0_0))⟩]

/-- Read back, they are each head's mixed, normed and gated rows. -/
theorem canon_rowPieces (x0 : Vec Ideal S2x1x128 .f32) (x1 : Vec Ideal S2x1x512 .f32) (x2 : Vec Ideal S128x512 .f32) (x3 : Vec Ideal S128x512 .f32) (x4 : Vec Ideal S128x1024 .f32) (x5 : Vec Ideal S128x1024 .f32) (s : Vec Ideal S2x256x512 .f32)
    (lg : Fin 2 → EReal) (hL : ∀ u l, x0 (ix3 u 0 l) = lg u) (j : Fin 128) (u : Fin 2) (e : Fin 512) :
    View.canon (rowPieces x0 x1 x2 x3 x4 x5 s) (ix2 j ⟨512 * u.val + e.val, by omega⟩)
      = gated (mix (lg u) (qkOf x2 u) (qkOf x3 u) (vgOf x4 u) (fun d e => s (ix3 u d e)) j) (fun e => x1 (ix3 u 0 e)) (vgOf x5 u j) e := by
  have g := ld_lg x0 lg hL
  have q := ld_qk x2
  have k := ld_qk x3
  have v := ld_vg x4
  have w := ld_st s
  have n := ld_gain x1
  have z := ld_vg x5
  unfold rowPieces
  canon_tiles y h
  all_goals idx_vars y
  all_goals obtain rfl : j = y0 := Fin.ext h0
  · obtain rfl : u = 1 := Fin.ext (by show (u : ℕ) = 1; omega)
    obtain rfl : e = y1 := Fin.ext (by have : ((1 : Fin 2) : ℕ) = 1 := rfl; omega)
    exact (pay1_at _ _ _ _ _ _ g.2 j e).trans (by rw [q.2, k.2, v.2, w.2, n.2]; exact congrArg (fun f : Fin 512 → EReal => gated _ _ f e) (congrFun z.2 j))
  · obtain rfl : u = 0 := Fin.ext (by show (u : ℕ) = 0; omega)
    obtain rfl : e = y1 := Fin.ext (by have : ((0 : Fin 2) : ℕ) = 0 := rfl; omega)
    exact (pay23_at _ _ _ _ _ _ g.1 j e).trans (by rw [q.1, k.1, v.1, w.1, n.1]; exact congrArg (fun f : Fin 512 → EReal => gated _ _ f e) (congrFun z.1 j))

/-- What a point of case A leaves in the carried state, head by head. -/
theorem soutA_at (c : Dev nD) (i : grid0.Coords) (arg3 : Memref sig .tc .vmem S2x1x128 .f32) (harg3 : arg3.IsWhole) (arg4 : Memref sig .tc .vmem S2x1x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S1x2x256x512 .f32) (harg9 : arg9.IsWhole) (arg10 : Memref sig .tc .vmem S128x1024 .f32) (harg10 : arg10.IsWhole) (arg11 : Memref sig .tc .vmem S1x2x256x512 .f32) (harg11 : arg11.IsWhole) (arg12 : Memref sig .tc .vmem S2x256x512 .f32) (harg12 : arg12.IsWhole) (hc0 : cond0_0 i) (hc1 : ¬cond0_1 i)
    (x0 : Vec Ideal S2x1x128 .f32) (x1 : Vec Ideal S2x1x512 .f32) (x2 : Vec Ideal S128x512 .f32) (x3 : Vec Ideal S128x512 .f32) (x4 : Vec Ideal S128x1024 .f32) (x5 : Vec Ideal S128x1024 .f32) (x6 : Vec Ideal S1x2x256x512 .f32) (lg : Fin 2 → EReal) (hL : ∀ u l, x0 (ix3 u 0 l) = lg u) (u : Fin 2) (d : Fin 256) (e : Fin 512) :
    sout0_A_0 c i arg3 harg3 arg4 harg4 arg5 harg5 arg6 harg6 arg7 harg7 arg8 harg8 arg9 harg9 arg10 harg10 arg11 harg11 arg12 harg12 hc0 hc1 x0 x1 x2 x3 x4 x5 x6  (ix3 u d e)
      = stepSt (lg u) (qkOf x3 u) (vgOf x4 u) (fun d e => x6 (ix4 0 u d e)) d e := by
  frame_open
  try simp (disch := decide) only [↓ View.readCov_skip, ↓ View.readCov_cons_toLoadRect, ↓ View.readCov_fill]
  frame_out
  try simp only [read_unread_whole]
  refine (canon_drop [_] (ix3 u d e) (statePieces x0 x3 x4 (k0_pay3 x6)) (View.cover_of_tiled (statePieces x0 x3 x4 (k0_pay3 x6)) S1x256x128.size (by rfl) _)).trans ?_
  exact (canon_statePieces x0 x3 x4 (k0_pay3 x6) lg hL u d e).trans (by simp only [pay3_at])

/-- What a point of case A leaves in the block of gated rows, head by head. -/
theorem outA_at (c : Dev nD) (i : grid0.Coords) (arg3 : Memref sig .tc .vmem S2x1x128 .f32) (harg3 : arg3.IsWhole) (arg4 : Memref sig .tc .vmem S2x1x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S1x2x256x512 .f32) (harg9 : arg9.IsWhole) (arg10 : Memref sig .tc .vmem S128x1024 .f32) (harg10 : arg10.IsWhole) (arg11 : Memref sig .tc .vmem S1x2x256x512 .f32) (harg11 : arg11.IsWhole) (arg12 : Memref sig .tc .vmem S2x256x512 .f32) (harg12 : arg12.IsWhole) (hc0 : cond0_0 i) (hc1 : ¬cond0_1 i)
    (x0 : Vec Ideal S2x1x128 .f32) (x1 : Vec Ideal S2x1x512 .f32) (x2 : Vec Ideal S128x512 .f32) (x3 : Vec Ideal S128x512 .f32) (x4 : Vec Ideal S128x1024 .f32) (x5 : Vec Ideal S128x1024 .f32) (x6 : Vec Ideal S1x2x256x512 .f32) (lg : Fin 2 → EReal) (hL : ∀ u l, x0 (ix3 u 0 l) = lg u) (j : Fin 128) (u : Fin 2) (e : Fin 512) :
    out0_A_7 c i arg3 harg3 arg4 harg4 arg5 harg5 arg6 harg6 arg7 harg7 arg8 harg8 arg9 harg9 arg10 harg10 arg11 harg11 arg12 harg12 hc0 hc1 x0 x1 x2 x3 x4 x5 x6  (ix2 j ⟨512 * u.val + e.val, by omega⟩)
      = gated (mix (lg u) (qkOf x2 u) (qkOf x3 u) (vgOf x4 u) (fun d e => x6 (ix4 0 u d e)) j) (fun e => x1 (ix3 u 0 e)) (vgOf x5 u j) e := by
  frame_open
  try simp (disch := decide) only [↓ View.readCov_skip, ↓ View.readCov_cons_toLoadRect, ↓ View.readCov_fill]
  frame_out
  try simp only [read_unread_whole]
  exact (canon_rowPieces x0 x1 x2 x3 x4 x5 (k0_pay3 x6) lg hL j u e).trans (by simp only [pay3_at])

/-- What a point of case B leaves in the carried state, head by head. -/
theorem soutB_at (c : Dev nD) (i : grid0.Coords) (arg3 : Memref sig .tc .vmem S2x1x128 .f32) (harg3 : arg3.IsWhole) (arg4 : Memref sig .tc .vmem S2x1x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S1x2x256x512 .f32) (harg9 : arg9.IsWhole) (arg10 : Memref sig .tc .vmem S128x1024 .f32) (harg10 : arg10.IsWhole) (arg11 : Memref sig .tc .vmem S1x2x256x512 .f32) (harg11 : arg11.IsWhole) (arg12 : Memref sig .tc .vmem S2x256x512 .f32) (harg12 : arg12.IsWhole) (hc0 : ¬cond0_0 i) (hc1 : ¬cond0_1 i)
    (x0 : Vec Ideal S2x1x128 .f32) (x1 : Vec Ideal S2x1x512 .f32) (x2 : Vec Ideal S128x512 .f32) (x3 : Vec Ideal S128x512 .f32) (x4 : Vec Ideal S128x1024 .f32) (x5 : Vec Ideal S128x1024 .f32) (x6 : Vec Ideal S1x2x256x512 .f32) (xs0 : Vec Ideal S2x256x512 .f32) (lg : Fin 2 → EReal) (hL : ∀ u l, x0 (ix3 u 0 l) = lg u) (u : Fin 2) (d : Fin 256) (e : Fin 512) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0 (ix3 u d e)
      = stepSt (lg u) (qkOf x3 u) (vgOf x4 u) (fun d e => xs0 (ix3 u d e)) d e := by
  frame_open
  try simp (disch := decide) only [↓ View.readCov_skip, ↓ View.readCov_cons_toLoadRect, ↓ View.readCov_fill]
  frame_out
  try simp only [read_unread_whole]
  exact canon_statePieces x0 x3 x4 xs0 lg hL u d e

/-- What a point of case B leaves in the block of gated rows, head by head. -/
theorem outB_at (c : Dev nD) (i : grid0.Coords) (arg3 : Memref sig .tc .vmem S2x1x128 .f32) (harg3 : arg3.IsWhole) (arg4 : Memref sig .tc .vmem S2x1x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S1x2x256x512 .f32) (harg9 : arg9.IsWhole) (arg10 : Memref sig .tc .vmem S128x1024 .f32) (harg10 : arg10.IsWhole) (arg11 : Memref sig .tc .vmem S1x2x256x512 .f32) (harg11 : arg11.IsWhole) (arg12 : Memref sig .tc .vmem S2x256x512 .f32) (harg12 : arg12.IsWhole) (hc0 : ¬cond0_0 i) (hc1 : ¬cond0_1 i)
    (x0 : Vec Ideal S2x1x128 .f32) (x1 : Vec Ideal S2x1x512 .f32) (x2 : Vec Ideal S128x512 .f32) (x3 : Vec Ideal S128x512 .f32) (x4 : Vec Ideal S128x1024 .f32) (x5 : Vec Ideal S128x1024 .f32) (x6 : Vec Ideal S1x2x256x512 .f32) (xs0 : Vec Ideal S2x256x512 .f32) (lg : Fin 2 → EReal) (hL : ∀ u l, x0 (ix3 u 0 l) = lg u) (j : Fin 128) (u : Fin 2) (e : Fin 512) :
    out0_B_7 c i arg3 harg3 arg4 harg4 arg5 harg5 arg6 harg6 arg7 harg7 arg8 harg8 arg9 harg9 arg10 harg10 arg11 harg11 arg12 harg12 hc0 hc1 x0 x1 x2 x3 x4 x5 x6 xs0 (ix2 j ⟨512 * u.val + e.val, by omega⟩)
      = gated (mix (lg u) (qkOf x2 u) (qkOf x3 u) (vgOf x4 u) (fun d e => xs0 (ix3 u d e)) j) (fun e => x1 (ix3 u 0 e)) (vgOf x5 u j) e := by
  frame_open
  try simp (disch := decide) only [↓ View.readCov_skip, ↓ View.readCov_cons_toLoadRect, ↓ View.readCov_fill]
  frame_out
  try simp only [read_unread_whole]
  exact canon_rowPieces x0 x1 x2 x3 x4 x5 xs0 lg hL j u e

/-- What a point of case C leaves in the carried state, head by head. -/
theorem soutC_at (c : Dev nD) (i : grid0.Coords) (arg3 : Memref sig .tc .vmem S2x1x128 .f32) (harg3 : arg3.IsWhole) (arg4 : Memref sig .tc .vmem S2x1x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S1x2x256x512 .f32) (harg9 : arg9.IsWhole) (arg10 : Memref sig .tc .vmem S128x1024 .f32) (harg10 : arg10.IsWhole) (arg11 : Memref sig .tc .vmem S1x2x256x512 .f32) (harg11 : arg11.IsWhole) (arg12 : Memref sig .tc .vmem S2x256x512 .f32) (harg12 : arg12.IsWhole) (hc0 : ¬cond0_0 i) (hc1 : cond0_1 i)
    (x0 : Vec Ideal S2x1x128 .f32) (x1 : Vec Ideal S2x1x512 .f32) (x2 : Vec Ideal S128x512 .f32) (x3 : Vec Ideal S128x512 .f32) (x4 : Vec Ideal S128x1024 .f32) (x5 : Vec Ideal S128x1024 .f32) (x6 : Vec Ideal S1x2x256x512 .f32) (xs0 : Vec Ideal S2x256x512 .f32) (lg : Fin 2 → EReal) (hL : ∀ u l, x0 (ix3 u 0 l) = lg u) (u : Fin 2) (d : Fin 256) (e : Fin 512) :
    sout0_C_0 c i arg3 harg3 arg4 harg4 arg5 harg5 arg6 harg6 arg7 harg7 arg8 harg8 arg9 harg9 arg10 harg10 arg11 harg11 arg12 harg12 hc0 hc1 x0 x1 x2 x3 x4 x5 x6 xs0 (ix3 u d e)
      = stepSt (lg u) (qkOf x3 u) (vgOf x4 u) (fun d e => xs0 (ix3 u d e)) d e := by
  frame_open
  try simp (disch := decide) only [↓ View.readCov_skip, ↓ View.readCov_cons_toLoadRect, ↓ View.readCov_fill]
  frame_out
  try simp only [read_unread_whole]
  exact canon_statePieces x0 x3 x4 xs0 lg hL u d e

/-- What a point of case C leaves in the block of gated rows, head by head. -/
theorem outC_at (c : Dev nD) (i : grid0.Coords) (arg3 : Memref sig .tc .vmem S2x1x128 .f32) (harg3 : arg3.IsWhole) (arg4 : Memref sig .tc .vmem S2x1x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S1x2x256x512 .f32) (harg9 : arg9.IsWhole) (arg10 : Memref sig .tc .vmem S128x1024 .f32) (harg10 : arg10.IsWhole) (arg11 : Memref sig .tc .vmem S1x2x256x512 .f32) (harg11 : arg11.IsWhole) (arg12 : Memref sig .tc .vmem S2x256x512 .f32) (harg12 : arg12.IsWhole) (hc0 : ¬cond0_0 i) (hc1 : cond0_1 i)
    (x0 : Vec Ideal S2x1x128 .f32) (x1 : Vec Ideal S2x1x512 .f32) (x2 : Vec Ideal S128x512 .f32) (x3 : Vec Ideal S128x512 .f32) (x4 : Vec Ideal S128x1024 .f32) (x5 : Vec Ideal S128x1024 .f32) (x6 : Vec Ideal S1x2x256x512 .f32) (xs0 : Vec Ideal S2x256x512 .f32) (lg : Fin 2 → EReal) (hL : ∀ u l, x0 (ix3 u 0 l) = lg u) (j : Fin 128) (u : Fin 2) (e : Fin 512) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0 (ix2 j ⟨512 * u.val + e.val, by omega⟩)
      = gated (mix (lg u) (qkOf x2 u) (qkOf x3 u) (vgOf x4 u) (fun d e => xs0 (ix3 u d e)) j) (fun e => x1 (ix3 u 0 e)) (vgOf x5 u j) e := by
  frame_open
  try simp (disch := decide) only [↓ View.readCov_skip, ↓ View.readCov_cons_toLoadRect, ↓ View.readCov_fill]
  frame_out
  try simp only [read_unread_whole]
  exact canon_rowPieces x0 x1 x2 x3 x4 x5 xs0 lg hL j u e

/-- The last point of a row of chunks stores the carried state into its block of the second result. -/
theorem outC8_at (c : Dev nD) (i : grid0.Coords) (arg3 : Memref sig .tc .vmem S2x1x128 .f32) (harg3 : arg3.IsWhole) (arg4 : Memref sig .tc .vmem S2x1x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S128x1024 .f32) (harg7 : arg7.IsWhole) (arg8 : Memref sig .tc .vmem S128x1024 .f32) (harg8 : arg8.IsWhole) (arg9 : Memref sig .tc .vmem S1x2x256x512 .f32) (harg9 : arg9.IsWhole) (arg10 : Memref sig .tc .vmem S128x1024 .f32) (harg10 : arg10.IsWhole) (arg11 : Memref sig .tc .vmem S1x2x256x512 .f32) (harg11 : arg11.IsWhole) (arg12 : Memref sig .tc .vmem S2x256x512 .f32) (harg12 : arg12.IsWhole) (hc0 : ¬cond0_0 i) (hc1 : cond0_1 i)
    (x0 : Vec Ideal S2x1x128 .f32) (x1 : Vec Ideal S2x1x512 .f32) (x2 : Vec Ideal S128x512 .f32) (x3 : Vec Ideal S128x512 .f32) (x4 : Vec Ideal S128x1024 .f32) (x5 : Vec Ideal S128x1024 .f32) (x6 : Vec Ideal S1x2x256x512 .f32) (xs0 : Vec Ideal S2x256x512 .f32) (z : Fin 1) (u : Fin 2) (d : Fin 256) (e : Fin 512) :
    out0_C_8 c i arg3 harg3 arg4 harg4 arg5 harg5 arg6 harg6 arg7 harg7 arg8 harg8 arg9 harg9 arg10 harg10 arg11 harg11 arg12 harg12 hc0 hc1 x0 x1 x2 x3 x4 x5 x6 xs0 (ix4 z u d e)
      = sout0_C_0 c i arg3 harg3 arg4 harg4 arg5 harg5 arg6 harg6 arg7 harg7 arg8 harg8 arg9 harg9 arg10 harg10 arg11 harg11 arg12 harg12 hc0 hc1 x0 x1 x2 x3 x4 x5 x6 xs0 (ix3 u d e) := by
  frame_open
  try simp (disch := decide) only [↓ View.readCov_skip, ↓ View.readCov_cons_toLoadRect, ↓ View.readCov_fill]
  frame_out
  try simp only [read_unread_whole]

  rw [View.readCov_eq_canon']
  pointwise [k0_pay2]

end Cert.KernelIdeal.Ret
end
-- ==== Proof.RetBlocks.lean ====
/-
  The retention kernel's input blocks at every grid point, as chunks of the argument matrices.
-/
module

public import proofs.«01_k».proof.Proof.RetCases

@[expose] public section

set_option maxRecDepth 16384

noncomputable section

namespace Cert.KernelIdeal.Ret

open Cert.KernelIdeal Cert.KernelIdeal.Gen Cert.RetSpec Idealize.ShloMosaic Idealize.ShloMosaic.TcCoe
open Idealize.ShloMosaic.Pipeline (Dat)

variable (m : (ℓ : Loc nD τ sig) → Buf (Elt Ideal) ℓ)

/-- The query and key projections, by row and column. -/
abbrev Xm (c : Dev nD) : Fin 17408 → Fin 4096 → EReal := fun i j => (m ((c : Thread nD τ).loc main_arg0) : FVec Ideal S17408x4096 .f32) (ix2 i j)
/-- The value and gate projections. -/
abbrev Ym (c : Dev nD) : Fin 17408 → Fin 8192 → EReal := fun i j => (m ((c : Thread nD τ).loc main_arg1) : FVec Ideal S17408x8192 .f32) (ix2 i j)
/-- The norm's gain. -/
abbrev gm (c : Dev nD) : Fin 4096 → EReal := fun j => (m ((c : Thread nD τ).loc main_arg2) : FVec Ideal S1x4096 .f32) (ix2 0 j)

/-- Every window's block at every grid point. -/
theorem idx : ∀ t : Fin cfg0.N, win0_0.index t = ![t.val / 16 % 4, 0, 0] ∧ win0_1.index t = ![t.val / 16 % 4, 0, 0]
    ∧ win0_2.index t = ![t.val / 64 * 16 + t.val % 16, t.val / 16 % 4]
    ∧ win0_3.index t = ![t.val / 64 * 16 + t.val % 16, 4 + t.val / 16 % 4]
    ∧ win0_4.index t = ![t.val / 64 * 16 + t.val % 16, t.val / 16 % 4]
    ∧ win0_5.index t = ![t.val / 64 * 16 + t.val % 16, 4 + t.val / 16 % 4]
    ∧ win0_6.index t = ![t.val / 64, t.val / 16 % 4, 0, 0]
    ∧ win0_7.index t = ![t.val / 64 * 16 + t.val % 16, t.val / 16 % 4]
    ∧ win0_8.index t = ![t.val / 64, t.val / 16 % 4, 0, 0] :=
  (by decide +kernel : ∀ t : Fin grid0.N, _)

/-- The head that slot `u` of point `t` works on. -/
def hd (t : Fin cfg0.N) (u : Fin 2) : Fin 8 := ⟨2 * (t.val / 16 % 4) + u.val, by omega⟩

/-- The grid has 512 points. -/
theorem lt512 (t : Fin cfg0.N) : t.val < 512 := lt_of_lt_of_eq t.isLt N_0

/-- The block of log rates. -/
theorem iblk0_at (c : Dev nD) (t : Fin cfg0.N) (u : Fin 2) (l : Fin 128) :
    (iblk m c 0 t : Vec Ideal S2x1x128 .f32) (ix3 u 0 l) = lgOf (hd t u) := by
  blk_simp [iblk]
  entry_read
  pointwise
  unfold lgOf hd
  blk_simp [idx t]
  rw [mul_comm (t.val / 16 % 4)]

/-- The block of gains. -/
theorem iblk1_at (c : Dev nD) (t : Fin cfg0.N) (u : Fin 2) (e : Fin 512) :
    (iblk m c 1 t : Vec Ideal S2x1x512 .f32) (ix3 u 0 e) = gm m c ⟨(hd t u).val * 512 + e.val, by omega⟩ := by
  blk_simp [iblk]
  entry_read
  pointwise
  unfold hd
  blk_ext [idx t]

/-- The block of states before the first chunk is zero. -/
theorem iblk6_at (c : Dev nD) (t : Fin cfg0.N) (u : Fin 2) (d : Fin 256) (e : Fin 512) :
    (iblk m c 6 t : Vec Ideal S1x2x256x512 .f32) (ix4 0 u d e) = (0 : EReal) := by
  blk_simp [iblk]
  entry_read
  pointwise

/-- The block of queries. -/
theorem iblk2_at (c : Dev nD) (t : Fin cfg0.N) (u : Fin 2) :
    qkOf (iblk m c 2 t : Vec Ideal S128x512 .f32) u = qkC (Xm m c) 0 (t.val / 64) (t.val % 16) (hd t u).val := by
  funext j d
  unfold qkOf qkC hd
  have := lt512 t
  refine Eq.trans ?_ (rd_val (Xm m c) ⟨t.val / 64 * 2048 + t.val % 16 * 128 + j.val, by omega⟩ ⟨0 + (2 * (t.val / 16 % 4) + u.val) * 256 + d.val, by omega⟩ rfl rfl)
  blk_ext [iblk, V, idx t]

/-- The block of keys. -/
theorem iblk3_at (c : Dev nD) (t : Fin cfg0.N) (u : Fin 2) :
    qkOf (iblk m c 3 t : Vec Ideal S128x512 .f32) u = qkC (Xm m c) 2048 (t.val / 64) (t.val % 16) (hd t u).val := by
  funext j d
  unfold qkOf qkC hd
  have := lt512 t
  refine Eq.trans ?_ (rd_val (Xm m c) ⟨t.val / 64 * 2048 + t.val % 16 * 128 + j.val, by omega⟩ ⟨2048 + (2 * (t.val / 16 % 4) + u.val) * 256 + d.val, by omega⟩ rfl rfl)
  blk_ext [iblk, V, idx t]

/-- The block of values. -/
theorem iblk4_at (c : Dev nD) (t : Fin cfg0.N) (u : Fin 2) :
    vgOf (iblk m c 4 t : Vec Ideal S128x1024 .f32) u = vgC (Ym m c) 0 (t.val / 64) (t.val % 16) (hd t u).val := by
  funext j d
  unfold vgOf vgC hd
  have := lt512 t
  refine Eq.trans ?_ (rd_val (Ym m c) ⟨t.val / 64 * 2048 + t.val % 16 * 128 + j.val, by omega⟩ ⟨0 + (2 * (t.val / 16 % 4) + u.val) * 512 + d.val, by omega⟩ rfl rfl)
  blk_ext [iblk, V, idx t]

/-- The block of gates. -/
theorem iblk5_at (c : Dev nD) (t : Fin cfg0.N) (u : Fin 2) :
    vgOf (iblk m c 5 t : Vec Ideal S128x1024 .f32) u = vgC (Ym m c) 4096 (t.val / 64) (t.val % 16) (hd t u).val := by
  funext j d
  unfold vgOf vgC hd
  have := lt512 t
  refine Eq.trans ?_ (rd_val (Ym m c) ⟨t.val / 64 * 2048 + t.val % 16 * 128 + j.val, by omega⟩ ⟨4096 + (2 * (t.val / 16 % 4) + u.val) * 512 + d.val, by omega⟩ rfl rfl)
  blk_ext [iblk, V, idx t]

end Cert.KernelIdeal.Ret
end
-- ==== Proof.RetKernel.lean ====
/-
  The retention kernel's two result arrays: what every grid point carries and stores is the recurrence of RetSpec.lean.
-/
module

public import proofs.«01_k».proof.Proof.RetBlocks

@[expose] public section

set_option maxRecDepth 16384

noncomputable section

namespace Cert.KernelIdeal.Ret

open Cert.KernelIdeal Cert.KernelIdeal.Gen Cert.RetSpec Idealize.ShloMosaic Idealize.ShloMosaic.TcCoe
open Idealize.ShloMosaic.Pipeline (Dat)

variable (m : (ℓ : Loc nD τ sig) → Buf (Elt Ideal) ℓ)

/-- Case A's carried state at point `t`. -/
theorem stateA (c : Dev nD) (t : Fin cfg0.N) (h0 : t.val % 16 = 0) (h1 : ¬t.val % 16 = 15) (u : Fin 2) (d : Fin 256) (e : Fin 512) :
    ((outsAt0 m c t.val t.isLt).2.2 : Vec Ideal S2x256x512 .f32) (ix3 u d e)
      = stepSt (lgOf (hd t u)) (qkC (Xm m c) 2048 (t.val / 64) (t.val % 16) (hd t u).val) (vgC (Ym m c) 0 (t.val / 64) (t.val % 16) (hd t u).val) (fun _ _ => 0) d e := by
  have hA := outsAt0_A m c t h0 h1
  have h3 := iblk0_at m c t
  have hB := soutA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (fun u => lgOf (hd t u)) h3 u d e
  rw [iblk3_at, iblk4_at] at hB
  simp only [iblk6_at] at hB
  rw [hA]
  dsimp only
  exact hB

/-- Case A's gated rows at point `t`. -/
theorem rowsA (c : Dev nD) (t : Fin cfg0.N) (h0 : t.val % 16 = 0) (h1 : ¬t.val % 16 = 15) (j : Fin 128) (u : Fin 2) (e : Fin 512) :
    ((outsAt0 m c t.val t.isLt).1 : Vec Ideal S128x1024 .f32) (ix2 j ⟨512 * u.val + e.val, by omega⟩)
      = gated (mix (lgOf (hd t u)) (qkC (Xm m c) 0 (t.val / 64) (t.val % 16) (hd t u).val) (qkC (Xm m c) 2048 (t.val / 64) (t.val % 16) (hd t u).val) (vgC (Ym m c) 0 (t.val / 64) (t.val % 16) (hd t u).val) (fun _ _ => 0) j)
        (fun e => gm m c ⟨(hd t u).val * 512 + e.val, by omega⟩) (vgC (Ym m c) 4096 (t.val / 64) (t.val % 16) (hd t u).val j) e := by
  have hA := outsAt0_A m c t h0 h1
  have h3 := iblk0_at m c t
  have hB := outA_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (fun u => lgOf (hd t u)) h3 j u e
  rw [iblk2_at, iblk3_at, iblk4_at, iblk5_at] at hB
  simp only [iblk1_at, iblk6_at] at hB
  rw [hA]
  dsimp only
  exact hB

/-- Case B's carried state at point `t`. -/
theorem stateB (c : Dev nD) (t : Fin cfg0.N) (h0 : ¬t.val % 16 = 0) (h1 : ¬t.val % 16 = 15) (u : Fin 2) (d : Fin 256) (e : Fin 512) :
    ((outsAt0 m c t.val t.isLt).2.2 : Vec Ideal S2x256x512 .f32) (ix3 u d e)
      = stepSt (lgOf (hd t u)) (qkC (Xm m c) 2048 (t.val / 64) (t.val % 16) (hd t u).val) (vgC (Ym m c) 0 (t.val / 64) (t.val % 16) (hd t u).val) (fun d e => ((outsAt0 m c (t.val - 1) (Nat.lt_of_le_of_lt (Nat.sub_le _ _) t.isLt)).2.2 : Vec Ideal S2x256x512 .f32) (ix3 u d e)) d e := by
  have hA := outsAt0_B m c t h0 h1
  have h3 := iblk0_at m c t
  have hB := soutB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2 (fun u => lgOf (hd t u)) h3 u d e
  rw [iblk3_at, iblk4_at] at hB
  rw [hA]
  dsimp only
  exact hB

/-- Case B's gated rows at point `t`. -/
theorem rowsB (c : Dev nD) (t : Fin cfg0.N) (h0 : ¬t.val % 16 = 0) (h1 : ¬t.val % 16 = 15) (j : Fin 128) (u : Fin 2) (e : Fin 512) :
    ((outsAt0 m c t.val t.isLt).1 : Vec Ideal S128x1024 .f32) (ix2 j ⟨512 * u.val + e.val, by omega⟩)
      = gated (mix (lgOf (hd t u)) (qkC (Xm m c) 0 (t.val / 64) (t.val % 16) (hd t u).val) (qkC (Xm m c) 2048 (t.val / 64) (t.val % 16) (hd t u).val) (vgC (Ym m c) 0 (t.val / 64) (t.val % 16) (hd t u).val) (fun d e => ((outsAt0 m c (t.val - 1) (Nat.lt_of_le_of_lt (Nat.sub_le _ _) t.isLt)).2.2 : Vec Ideal S2x256x512 .f32) (ix3 u d e)) j)
        (fun e => gm m c ⟨(hd t u).val * 512 + e.val, by omega⟩) (vgC (Ym m c) 4096 (t.val / 64) (t.val % 16) (hd t u).val j) e := by
  have hA := outsAt0_B m c t h0 h1
  have h3 := iblk0_at m c t
  have hB := outB_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2 (fun u => lgOf (hd t u)) h3 j u e
  rw [iblk2_at, iblk3_at, iblk4_at, iblk5_at] at hB
  simp only [iblk1_at] at hB
  rw [hA]
  dsimp only
  exact hB

/-- Case C's carried state at point `t`. -/
theorem stateC (c : Dev nD) (t : Fin cfg0.N) (h0 : ¬t.val % 16 = 0) (h1 : t.val % 16 = 15) (u : Fin 2) (d : Fin 256) (e : Fin 512) :
    ((outsAt0 m c t.val t.isLt).2.2 : Vec Ideal S2x256x512 .f32) (ix3 u d e)
      = stepSt (lgOf (hd t u)) (qkC (Xm m c) 2048 (t.val / 64) (t.val % 16) (hd t u).val) (vgC (Ym m c) 0 (t.val / 64) (t.val % 16) (hd t u).val) (fun d e => ((outsAt0 m c (t.val - 1) (Nat.lt_of_le_of_lt (Nat.sub_le _ _) t.isLt)).2.2 : Vec Ideal S2x256x512 .f32) (ix3 u d e)) d e := by
  have hA := outsAt0_C m c t h0 h1
  have h3 := iblk0_at m c t
  have hB := soutC_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2 (fun u => lgOf (hd t u)) h3 u d e
  rw [iblk3_at, iblk4_at] at hB
  rw [hA]
  dsimp only
  exact hB

/-- Case C's gated rows at point `t`. -/
theorem rowsC (c : Dev nD) (t : Fin cfg0.N) (h0 : ¬t.val % 16 = 0) (h1 : t.val % 16 = 15) (j : Fin 128) (u : Fin 2) (e : Fin 512) :
    ((outsAt0 m c t.val t.isLt).1 : Vec Ideal S128x1024 .f32) (ix2 j ⟨512 * u.val + e.val, by omega⟩)
      = gated (mix (lgOf (hd t u)) (qkC (Xm m c) 0 (t.val / 64) (t.val % 16) (hd t u).val) (qkC (Xm m c) 2048 (t.val / 64) (t.val % 16) (hd t u).val) (vgC (Ym m c) 0 (t.val / 64) (t.val % 16) (hd t u).val) (fun d e => ((outsAt0 m c (t.val - 1) (Nat.lt_of_le_of_lt (Nat.sub_le _ _) t.isLt)).2.2 : Vec Ideal S2x256x512 .f32) (ix3 u d e)) j)
        (fun e => gm m c ⟨(hd t u).val * 512 + e.val, by omega⟩) (vgC (Ym m c) 4096 (t.val / 64) (t.val % 16) (hd t u).val j) e := by
  have hA := outsAt0_C m c t h0 h1
  have h3 := iblk0_at m c t
  have hB := outC_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2 (fun u => lgOf (hd t u)) h3 j u e
  rw [iblk2_at, iblk3_at, iblk4_at, iblk5_at] at hB
  simp only [iblk1_at] at hB
  rw [hA]
  dsimp only
  exact hB

/-- The last chunk's point stores its carried state. -/
theorem store8 (c : Dev nD) (t : Fin cfg0.N) (h0 : ¬t.val % 16 = 0) (h1 : t.val % 16 = 15) (z : Fin 1) (u : Fin 2) (d : Fin 256) (e : Fin 512) :
    ((outsAt0 m c t.val t.isLt).2.1 : Vec Ideal S1x2x256x512 .f32) (ix4 z u d e)
      = ((outsAt0 m c t.val t.isLt).2.2 : Vec Ideal S2x256x512 .f32) (ix3 u d e) := by
  have hB := outC8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2 z u d e
  rw [outsAt0_C m c t h0 h1]
  dsimp only
  exact hB

/-- What every point leaves in the carried state: the recurrence after the point's chunk. -/
theorem state_at (c : Dev nD) : ∀ (n : ℕ) (hn : n < cfg0.N) (u : Fin 2) (d : Fin 256) (e : Fin 512),
    ((outsAt0 m c n hn).2.2 : Vec Ideal S2x256x512 .f32) (ix3 u d e)
      = St (Xm m c) (Ym m c) (n / 64) (hd ⟨n, hn⟩ u) (n % 16 + 1) d e
  | n, hn, u, d, e => by
    by_cases h0 : n % 16 = 0
    · refine (stateA m c ⟨n, hn⟩ h0 (by show ¬ n % 16 = 15; omega) u d e).trans ?_
      simp only [h0]
      rfl
    · have ih := state_at c (n - 1) (Nat.lt_of_le_of_lt (Nat.sub_le _ _) hn)
      have e1 : (n - 1) / 64 = n / 64 := by omega
      have e2 : (n - 1) % 16 + 1 = n % 16 := by omega
      have e3 : ∀ u, hd ⟨n - 1, Nat.lt_of_le_of_lt (Nat.sub_le _ _) hn⟩ u = hd ⟨n, hn⟩ u := fun u => Fin.ext (by unfold hd; simp only; omega)
      simp only [e1, e2, e3] at ih
      by_cases h1 : n % 16 = 15
      · refine (stateC m c ⟨n, hn⟩ h0 h1 u d e).trans ?_
        simp only [ih]
        rfl
      · refine (stateB m c ⟨n, hn⟩ h0 h1 u d e).trans ?_
        simp only [ih]
        rfl
  termination_by n => n

/-- What every point leaves in its block of gated rows. -/
theorem rows_at (c : Dev nD) (n : ℕ) (hn : n < cfg0.N) (j : Fin 128) (u : Fin 2) (e : Fin 512) :
    ((outsAt0 m c n hn).1 : Vec Ideal S128x1024 .f32) (ix2 j ⟨512 * u.val + e.val, by omega⟩)
      = outRow (Xm m c) (Ym m c) (gm m c) (n / 64) (hd ⟨n, hn⟩ u) (n % 16) j e := by
    by_cases h0 : n % 16 = 0
    · refine (rowsA m c ⟨n, hn⟩ h0 (by show ¬ n % 16 = 15; omega) j u e).trans ?_
      simp only [h0]
      rfl
    · have ih := state_at m c (n - 1) (Nat.lt_of_le_of_lt (Nat.sub_le _ _) hn)
      have e1 : (n - 1) / 64 = n / 64 := by omega
      have e2 : (n - 1) % 16 + 1 = n % 16 := by omega
      have e3 : ∀ u, hd ⟨n - 1, Nat.lt_of_le_of_lt (Nat.sub_le _ _) hn⟩ u = hd ⟨n, hn⟩ u := fun u => Fin.ext (by unfold hd; simp only; omega)
      simp only [e1, e2, e3] at ih
      by_cases h1 : n % 16 = 15
      · refine (rowsC m c ⟨n, hn⟩ h0 h1 j u e).trans ?_
        simp only [ih]
        rfl
      · refine (rowsB m c ⟨n, hn⟩ h0 h1 j u e).trans ?_
        simp only [ih]
        rfl

/-- The first result after the run. -/
theorem final7 (c : Dev nD) : ((dats m 0 c).arrAt 7 cfg0.N : FVec Ideal S16384x4096 .f32)
    = fun i => G7 (Xm m c) (Ym m c) (gm m c) (i 0) (i 1) := by
  refine (dats m 0 c).arrAt_eq_of_covers 7 _ (by decide +kernel) fun t hf y => ?_
  have h512 := lt512 t
  blk_simp
  rw [after0_7]
  idx_vars y
  have ey : (y1 : ℕ) = 512 * (y1.val / 512) + y1.val % 512 := by omega
  refine Eq.trans (congrArg (fun z => ((outsAt0 m c t.val t.isLt).1 : Vec Ideal S128x1024 .f32) (ix2 y0 z)) (Fin.ext ey : y1 = ⟨512 * (⟨y1.val / 512, by omega⟩ : Fin 2).val + (⟨y1.val % 512, by omega⟩ : Fin 512).val, by show 512 * (y1.val / 512) + y1.val % 512 < 1024; omega⟩)) ?_
  refine (rows_at m c t.val t.isLt y0 ⟨y1.val / 512, by omega⟩ ⟨y1.val % 512, by omega⟩).trans ?_
  unfold G7
  have r0 : ((((View.whole main_v13_0).slice (win0_7.rect t)).emb (ix2 y0 y1) 0 : Fin 16384) : ℕ) = (t.val / 64 * 16 + t.val % 16) * 128 + y0.val := by blk_simp [idx t]
  have r1 : ((((View.whole main_v13_0).slice (win0_7.rect t)).emb (ix2 y0 y1) 1 : Fin 4096) : ℕ) = (t.val / 16 % 4) * 1024 + y1.val := by blk_simp [idx t]
  simp only [r0, r1]
  have a1 : ((t.val / 64 * 16 + t.val % 16) * 128 + y0.val) / 2048 = t.val / 64 := by omega
  have a2 : ((t.val / 64 * 16 + t.val % 16) * 128 + y0.val) / 128 % 16 = t.val % 16 := by omega
  have a3 : ((t.val / 64 * 16 + t.val % 16) * 128 + y0.val) % 128 = y0.val := by omega
  have a4 : ((t.val / 16 % 4) * 1024 + y1.val) / 512 = 2 * (t.val / 16 % 4) + y1.val / 512 := by omega
  have a5 : ((t.val / 16 % 4) * 1024 + y1.val) % 512 = y1.val % 512 := by omega
  simp only [a1, a2, a3, a4, a5]
  rfl

/-- The final state after the run. -/
theorem final8 (c : Dev nD) : ((dats m 0 c).arrAt 8 cfg0.N : FVec Ideal S8x8x256x512 .f32)
    = fun i => St (Xm m c) (Ym m c) (i 0).val (i 1) 16 (i 2) (i 3) := by
  refine (dats m 0 c).arrAt_eq_of_covers 8 _ (by decide +kernel) fun t hf y => ?_
  have h15 := (flush0_8 t).mp hf
  have h512 := lt512 t
  blk_simp
  rw [after0_8]
  idx_vars y
  refine (store8 m c t (by omega) h15 y0 y1 y2 y3).trans ?_
  refine (state_at m c t.val t.isLt y1 y2 y3).trans ?_
  have r0 : ((((View.whole main_v13_1).slice (win0_8.rect t)).emb (ix4 y0 y1 y2 y3) 0 : Fin 8) : ℕ) = t.val / 64 := by blk_simp [idx t]
  have r1 : ((((View.whole main_v13_1).slice (win0_8.rect t)).emb (ix4 y0 y1 y2 y3) 1 : Fin 8) : ℕ) = (t.val / 16 % 4) * 2 + y1.val := by blk_simp [idx t]
  have r2 : ((((View.whole main_v13_1).slice (win0_8.rect t)).emb (ix4 y0 y1 y2 y3) 2 : Fin 256) : ℕ) = y2.val := by blk_simp [idx t]
  have r3 : ((((View.whole main_v13_1).slice (win0_8.rect t)).emb (ix4 y0 y1 y2 y3) 3 : Fin 512) : ℕ) = y3.val := by blk_simp [idx t]
  have e0 : win0_8.index t 0 = t.val / 64 := by rw [(idx t).2.2.2.2.2.2.2.2]; rfl
  have e1 : hd t y1 = (((View.whole main_v13_1).slice (win0_8.rect t)).emb (ix4 y0 y1 y2 y3) 1 : Fin 8) := Fin.ext (by rw [r1]; unfold hd; simp only; omega)
  rw [h15]
  exact congr (congr (congr (congr (congrArg (St (Xm m c) (Ym m c)) e0.symm) e1) rfl) (Fin.ext r2.symm)) (Fin.ext r3.symm)

end Cert.KernelIdeal.Ret
end
-- ==== Proof.MmSpec.lean ====
/-
  The projections around the layer's mixers as plain sums over the extended reals: rows of prompt and sample as one
  array, a row divided by its root mean square times a gain, and such a row against a column of weights.
-/
module

public import Idealize.ShloMosaic.Lib.Pointwise

@[expose] public section

noncomputable section

namespace Cert.MmSpec

open Idealize.ShloMosaic

/-- Row `r` of the prompt's rows (8 sequences of 2048) followed by the sample's (128 sequences of 8). -/
def catRow {C : ℕ} (P : Fin 8 → Fin 2048 → Fin C → EReal) (S : Fin 128 → Fin 8 → Fin C → EReal) (r : Fin 17408) (k : Fin C) : EReal :=
  if h : r.val < 16384 then P ⟨r.val / 2048, by omega⟩ ⟨r.val % 2048, by omega⟩ k
  else S ⟨(r.val - 16384) / 8, by omega⟩ ⟨(r.val - 16384) % 8, by omega⟩ k

/-- The row `x` divided by its root mean square, times the gain. -/
def nrm (x gain : Fin 2048 → EReal) (k : Fin 2048) : EReal :=
  x k * Ideal.rsqrt (Ideal.div (∑ j, x j * x j) (Ideal.ofBits FTy.f32 0x45000000#32) + Ideal.ofBits FTy.f32 0x358637BD#32) * gain k

/-- The normed row against one column of weights. -/
def proj (x gain w : Fin 2048 → EReal) : EReal := ∑ k, nrm x gain k * w k

/-- A row against one column of weights, added to the entry `h`. -/
def resid {K : ℕ} (x w : Fin K → EReal) (h : EReal) : EReal := h + ∑ k, x k * w k

end Cert.MmSpec

end
-- ==== Proof.VProjBody.lean ====
/-
  The kernel of the projection of values: what the body computes from its blocks, entry by entry.
-/
module

public import proofs.«01_k».proof.Proof.Gen.VProjIdeal.Value
public import proofs.«01_k».proof.Proof.MmSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.VProjIdeal.Mm

open Cert.VProjIdeal Cert.VProjIdeal.Gen Cert.MmSpec Idealize.ShloMosaic Idealize.ShloMosaic.TcCoe

/-- A trip's payload is its rows, normed. -/
theorem pay1_at (x : Vec Ideal S64x2048 .f32) (g : Vec Ideal S1x2048 .f32) (r : Fin 64) (k : Fin 2048) :
    k0_pay1 x g (ix2 r k) = nrm (fun j => x (ix2 r j)) (fun j => g (ix2 0 j)) k := by
  unfold nrm
  pointwise [k0_pay1]

/-- The stored product, entry by entry. -/
theorem pay2_at (x : Vec Ideal S1024x2048 .bf16) (g : Vec Ideal S2048x512 .bf16) (r : Fin 1024) (k : Fin 512) :
    k0_pay2 x g (ix2 r k) = ∑ j, x (ix2 r j) * g (ix2 j k) := by
  pointwise [k0_pay2]

/-- A trip stores one piece: its 64 rows, normed. -/
theorem tripL_eq (𝒱 : Variants) (bd : Option 𝒱.V) (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x2048 .bf16) (harg6 : arg6.IsWhole) (h1 : k0_cond1 i = 1#1) (X2 : BufTy.Contents (Elt Ideal) arg2.view.ty) (X3 : BufTy.Contents (Elt Ideal) arg3.view.ty) (k : Fin k0_t1_loop.trips) :
    tripL_k0_t1 (F := Ideal) 𝒱 c bd i arg2 harg2 arg3 harg3 arg4 harg4 arg5 harg5 arg6 harg6 h1 X2 X3 k
      = [⟨Rect.unit (s := S1024x2048) (k0_off1 k) S64x2048.size (k0_off1_inb i k h1),
          k0_pay1 (arg2.view.readAt (Elt Ideal) (Rect.unit (s := S1024x2048) (k0_off1 k) S64x2048.size (k0_off1_inb i k h1)).toLoadRect X2)
            (arg3.view.readAt (Elt Ideal) (Rect.unit (s := S1x2048) ![0, 0] S1x2048.size inb_S1x2048_S1x2048_0_0).toLoadRect X3)⟩] := by
  unfold tripL_k0_t1 trip_k0_t1
  rfl

/-- Where row `r` of trip `k`'s piece lies. -/
theorem emb_at (i : grid0.Coords) (h1 : k0_cond1 i = 1#1) (k : Fin k0_t1_loop.trips) (n : ℕ) (hn : k.val = n) (r : Fin 1024) (r' : Fin 64) (hr : r.val = 64 * n + r'.val) (j : Fin 2048) :
    (Rect.unit (s := S1024x2048) (k0_off1 k) S64x2048.size (k0_off1_inb i k h1)).emb (ix2 r' j) = (ix2 r j : S1024x2048.Idx) := by
  have h := k0_off1_eq k
  ext a; fin_cases a
  · show k0_off1 k 0 + 1 * r'.val = r.val
    rw [h]; show 64 * k.val + 1 * r'.val = r.val; omega
  · show k0_off1 k 1 + 1 * j.val = j.val
    rw [h]; show 0 + 1 * j.val = j.val; omega

/-- The rows the trips before `n` leave are the block's, normed. -/
theorem canon_pb (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x2048 .bf16) (harg6 : arg6.IsWhole) (h1 : k0_cond1 i = 1#1) (x0 : Vec Ideal S1024x2048 .f32) (x1 : Vec Ideal S1x2048 .f32) (n : ℕ) (hn : n ≤ 16) (r : Fin 1024) (k : Fin 2048) (hr : r.val < 64 * n) :
    View.canon (pb_k0_t1 (F := Ideal) Variants.none c none i arg2 harg2 arg3 harg3 arg4 harg4 arg5 harg5 arg6 harg6 h1 (harg2.unread x0) (harg3.unread x1) n) (ix2 r k)
      = nrm (fun j => x0 (ix2 r j)) (fun j => x1 (ix2 0 j)) k := by
  induction n with
  | zero => omega
  | succ n ih =>
    have ht : k0_t1_loop.trips = 16 := by decide
    have hs := pb_k0_t1_succ (F := Ideal) Variants.none c none i arg2 harg2 arg3 harg3 arg4 harg4 arg5 harg5 arg6 harg6 h1 (harg2.unread x0) (harg3.unread x1) ⟨n, by omega⟩
    rw [tripL_eq] at hs
    rw [hs, List.singleton_append]
    by_cases hlt : r.val < 64 * n
    · rw [View.canon_cons_of_not_mem]
      · exact ih (by omega) hlt
      · intro hm
        have hm : (ix2 r k : S1024x2048.Idx) ∈ (Rect.unit (s := S1024x2048) (k0_off1 ⟨n, by omega⟩) S64x2048.size (k0_off1_inb i ⟨n, by omega⟩ h1)).set := hm
        rw [Rect.mem_set_unit, k0_off1_eq] at hm
        have h0 := (hm 0).1
        have : 64 * n ≤ r.val := h0
        omega
    · have e := emb_at i h1 ⟨n, by omega⟩ n rfl r ⟨r.val - 64 * n, by omega⟩ (by show r.val = 64 * n + (r.val - 64 * n); omega)
      rw [← e k, View.canon_cons_emb, pay1_at]
      have f0 : (fun j => arg2.view.readAt (Elt Ideal) (Rect.unit (s := S1024x2048) (k0_off1 ⟨n, by omega⟩) S64x2048.size (k0_off1_inb i ⟨n, by omega⟩ h1)).toLoadRect (harg2.unread x0) (ix2 (⟨r.val - 64 * n, by omega⟩ : Fin 64) j)) = fun j => x0 (ix2 r j) :=
        funext fun j => by rw [View.readAt_apply, harg2.read_unread]; exact congrArg x0 (e j)
      have f1 : (fun j => arg3.view.readAt (Elt Ideal) (Rect.unit (s := S1x2048) ![0, 0] S1x2048.size inb_S1x2048_S1x2048_0_0).toLoadRect (harg3.unread x1) (ix2 0 j)) = fun j => x1 (ix2 0 j) :=
        funext fun j => by
          rw [View.readAt_apply, harg3.read_unread]
          refine congrArg x1 ?_
          ext a; fin_cases a <;> simp [Rect.idx_unit_val] <;> rfl
      exact congrArg₂ (fun a b => nrm a b k) f0 f1

/-- Case A leaves the normed block in the scratch. -/
theorem sout_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x2048 .bf16) (harg6 : arg6.IsWhole) (hc0 : cond0_0 i) (x0 : Vec Ideal S1024x2048 .f32) (x1 : Vec Ideal S1x2048 .f32) (x2 : Vec Ideal S2048x512 .bf16) (r : Fin 1024) (k : Fin 2048) :
    sout0_A_0 c i arg2 harg2 arg3 harg3 arg4 harg4 arg5 harg5 arg6 harg6 hc0 x0 x1 x2 (ix2 r k) = nrm (fun j => x0 (ix2 r j)) (fun j => x1 (ix2 0 j)) k := by
  frame_open
  frame_out
  exact canon_pb c i arg2 harg2 arg3 harg3 arg4 harg4 arg5 harg5 arg6 harg6 hc0 x0 x1 16 (le_refl _) r k (by omega)

/-- Case A's stored block. -/
theorem out_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x2048 .bf16) (harg6 : arg6.IsWhole) (hc0 : cond0_0 i) (x0 : Vec Ideal S1024x2048 .f32) (x1 : Vec Ideal S1x2048 .f32) (x2 : Vec Ideal S2048x512 .bf16) (r : Fin 1024) (k : Fin 512) :
    out0_A_3 c i arg2 harg2 arg3 harg3 arg4 harg4 arg5 harg5 arg6 harg6 hc0 x0 x1 x2 (ix2 r k) = proj (fun j => x0 (ix2 r j)) (fun j => x1 (ix2 0 j)) (fun j => x2 (ix2 j k)) := by
  frame_open
  try simp (disch := decide) only [↓ View.readCov_skip, ↓ View.readCov_cons_toLoadRect, ↓ View.readCov_fill]
  frame_out
  try simp only [read_unread_whole]
  rw [pay2_at]
  unfold proj
  refine Finset.sum_congr rfl fun j _ => congrArg (· * x2 (ix2 j k)) ?_
  rw [View.readCov_eq_canon']
  refine Eq.trans (congrArg (View.canon _) (?_ : _ = (ix2 r j : S1024x2048.Idx))) (canon_pb c i arg2 harg2 arg3 harg3 arg4 harg4 arg5 harg5 arg6 harg6 hc0 x0 x1 16 (le_refl _) r j (by omega))
  ext a; fin_cases a <;> simp [Rect.idx_unit_val] <;> rfl

/-- Case B's stored block, from the scratch it finds. -/
theorem outB_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x2048 .bf16) (harg6 : arg6.IsWhole) (hc0 : ¬cond0_0 i) (x0 : Vec Ideal S1024x2048 .f32) (x1 : Vec Ideal S1x2048 .f32) (x2 : Vec Ideal S2048x512 .bf16) (xs0 : Vec Ideal S1024x2048 .bf16) (r : Fin 1024) (k : Fin 512) :
    out0_B_3 c i arg2 harg2 arg3 harg3 arg4 harg4 arg5 harg5 arg6 harg6 hc0 x0 x1 x2 xs0 (ix2 r k) = ∑ j, xs0 (ix2 r j) * x2 (ix2 j k) := by
  frame_open
  try simp (disch := decide) only [↓ View.readCov_skip, ↓ View.readCov_cons_toLoadRect, ↓ View.readCov_fill]
  frame_out
  try simp only [read_unread_whole]
  exact pay2_at xs0 x2 r k

end Cert.VProjIdeal.Mm

end
-- ==== Proof.VProjBlocks.lean ====
/-
  The kernel of the projection of values: its input blocks at every grid point, and its result array.
-/
module

public import proofs.«01_k».proof.Proof.Gen.VProjIdeal.Value
public import proofs.«01_k».proof.Proof.MmSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.VProjIdeal.Mm

open Cert.VProjIdeal Cert.VProjIdeal.Gen Cert.MmSpec Idealize.ShloMosaic Idealize.ShloMosaic.TcCoe
open Idealize.ShloMosaic.Pipeline (Dat)

variable (m : (ℓ : Loc nD τ sig) → Buf (Elt Ideal) ℓ)

/-- Every window's block at every grid point. -/
theorem idx : ∀ t : Fin cfg0.N, win0_0.index t = ![t.val / 4, 0] ∧ win0_1.index t = ![0, 0]
    ∧ win0_2.index t = ![0, t.val % 4] ∧ win0_3.index t = ![t.val / 4, t.val % 4] :=
  (by decide +kernel : ∀ t : Fin grid0.N, _)

/-- The rows of prompt and sample. -/
abbrev Xm (c : Dev nD) : Fin 17408 → Fin 2048 → EReal := catRow (fun a b k => (m ((c : Thread nD τ).loc main_arg0) : FVec Ideal S8x2048x2048 .f32) (ix3 a b k))
  (fun a b k => (m ((c : Thread nD τ).loc main_arg1) : FVec Ideal S128x8x2048 .f32) (ix3 a b k))
/-- The mixer's gain. -/
abbrev gm (c : Dev nD) : Fin 2048 → EReal := fun j => (m ((c : Thread nD τ).loc main_arg2) : FVec Ideal S2x2048 .f32) (ix2 0 j)
/-- The weights. -/
abbrev Wm (c : Dev nD) : Fin 2048 → Fin 6144 → EReal := fun i j => (m ((c : Thread nD τ).loc main_arg3) : FVec Ideal S1x2048x6144 .f32) (ix3 0 i j)

/-- The grid has 68 points. -/
theorem lt68 (t : Fin cfg0.N) : t.val < 68 := lt_of_lt_of_eq t.isLt N_0

/-- The two arguments' rows, joined. -/
theorem cat_at (P : FVec Ideal S8x2048x2048 .f32) (S : FVec Ideal S128x8x2048 .f32) (r : Fin 17408) (k : Fin 2048) :
    (concatenate S17408x2048 0 [⟨S16384x2048, shapeCast S16384x2048 P shapeCasts_S8x2048x2048_S16384x2048⟩, ⟨S1024x2048, shapeCast S1024x2048 S shapeCasts_S128x8x2048_S1024x2048⟩] concatenates_S16384x2048_S1024x2048_S17408x2048_d0 : FVec Ideal S17408x2048 .f32) (ix2 r k)
      = catRow (fun a b k => P (ix3 a b k)) (fun a b k => S (ix3 a b k)) r k := by
  generalize hA : shapeCast S16384x2048 P shapeCasts_S8x2048x2048_S16384x2048 = A
  generalize hB : shapeCast S1024x2048 S shapeCasts_S128x8x2048_S1024x2048 = B
  pointwise
  unfold catRow
  split
  · rw [← hA]; pointwise
  · rw [← hB]; pointwise

/-- The block of input rows. -/
theorem iblk0_at (c : Dev nD) (t : Fin cfg0.N) (r : Fin 1024) (k : Fin 2048) :
    (iblk m c 0 t : Vec Ideal S1024x2048 .f32) (ix2 r k) = Xm m c ⟨1024 * (t.val / 4) + r.val, by have := lt68 t; omega⟩ k := by
  blk_simp [iblk]
  entry_read
  have e : ((View.whole main_v2).slice (win0_0.rect t)).emb (ix2 r k) = (ix2 ⟨1024 * (t.val / 4) + r.val, by have := lt68 t; omega⟩ k : S17408x2048.Idx) := by
    have r0 : ((((View.whole main_v2).slice (win0_0.rect t)).emb (ix2 r k) 0 : Fin 17408) : ℕ) = 1024 * (t.val / 4) + r.val := by blk_simp [idx t]; omega
    have r1 : ((((View.whole main_v2).slice (win0_0.rect t)).emb (ix2 r k) 1 : Fin 2048) : ℕ) = k.val := by blk_simp [idx t]
    ext a; fin_cases a
    · exact r0
    · exact r1
  exact (congrArg (concatenate S17408x2048 0 _ _) e).trans (cat_at _ _ _ _)

/-- The block of gains. -/
theorem iblk1_at (c : Dev nD) (t : Fin cfg0.N) (k : Fin 2048) :
    (iblk m c 1 t : Vec Ideal S1x2048 .f32) (ix2 0 k) = gm m c k := by
  blk_simp [iblk]
  entry_read
  pointwise
  blk_ext [idx t]

/-- The block of weights. -/
theorem iblk2_at (c : Dev nD) (t : Fin cfg0.N) (k : Fin 2048) (j : Fin 512) :
    (iblk m c 2 t : Vec Ideal S2048x512 .bf16) (ix2 k j) = Wm m c k ⟨4096 + 512 * (t.val % 4) + j.val, by omega⟩ := by
  blk_simp [iblk]
  entry_read
  pointwise
  blk_ext [idx t]

end Cert.VProjIdeal.Mm

end
-- ==== Proof.VProjRef.lean ====
/-
  The reference of the projection of values, entry by entry.
-/
module

public import proofs.«01_k».proof.Proof.Gen.VRefIdeal.Run
public import proofs.«01_k».proof.Proof.MmSpec
public import Idealize.ShloMosaic.Lib.Pointwise

@[expose] public section

set_option maxRecDepth 16384

noncomputable section

namespace Cert.VRefIdeal.Mm

open Cert.VRefIdeal Cert.VRefIdeal.Gen Cert.MmSpec Idealize.ShloMosaic Idealize.ShloMosaic.TcCoe

/-- The prompt's projected rows, before they are laid out as one array. -/
theorem p_at (P : FVec Ideal S8x2048x2048 .f32) (G : FVec Ideal S2x2048 .f32) (W : FVec Ideal S1x2048x6144 .f32) (a : Fin 8) (b : Fin 2048) (k : Fin 2048) :
    ((Host.dotGeneral dot_S8x2048x2048_S2048x2048_S8x2048x2048_2_0_01_1_n_n none (mulf (mulf P (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf P P) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x2048 ![0, 4096] (shapeCast _ W shapeCasts_S1x2048x6144_S2048x6144) slices_S2048x6144_S2048x2048_0_4096)) : FVec Ideal S8x2048x2048 .f32) (ix3 a b k)
      = proj (fun j => P (ix3 a b j)) (fun j => G (ix2 0 j)) (fun j => W (ix3 0 j ⟨4096 + k.val, by omega⟩)) := by
  unfold proj nrm
  pointwise

/-- The sample's projected rows, before they are laid out as one array. -/
theorem s_at (S : FVec Ideal S128x8x2048 .f32) (G : FVec Ideal S2x2048 .f32) (W : FVec Ideal S1x2048x6144 .f32) (a : Fin 128) (b : Fin 8) (k : Fin 2048) :
    ((Host.dotGeneral dot_S128x8x2048_S2048x2048_S128x8x2048_2_0_01_1_n_n none (mulf (mulf S (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf S S) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x2048 ![0, 4096] (shapeCast _ W shapeCasts_S1x2048x6144_S2048x6144) slices_S2048x6144_S2048x2048_0_4096)) : FVec Ideal S128x8x2048 .f32) (ix3 a b k)
      = proj (fun j => S (ix3 a b j)) (fun j => G (ix2 0 j)) (fun j => W (ix3 0 j ⟨4096 + k.val, by omega⟩)) := by
  unfold proj nrm
  pointwise

/-- Two arrays of rows laid out as one, read at a row. -/
theorem cat_at (P : FVec Ideal S8x2048x2048 .f32) (S : FVec Ideal S128x8x2048 .f32) (r : Fin 17408) (k : Fin 2048) :
    (concatenate S17408x2048 0 [⟨S16384x2048, shapeCast S16384x2048 P shapeCasts_S8x2048x2048_S16384x2048⟩, ⟨S1024x2048, shapeCast S1024x2048 S shapeCasts_S128x8x2048_S1024x2048⟩] concatenates_S16384x2048_S1024x2048_S17408x2048_d0 : FVec Ideal S17408x2048 .f32) (ix2 r k)
      = catRow (fun a b k => P (ix3 a b k)) (fun a b k => S (ix3 a b k)) r k := by
  generalize hA : shapeCast S16384x2048 P shapeCasts_S8x2048x2048_S16384x2048 = A
  generalize hB : shapeCast S1024x2048 S shapeCasts_S128x8x2048_S1024x2048 = B
  pointwise
  unfold catRow
  split
  · rw [← hA]; pointwise
  · rw [← hB]; pointwise

/-- The reference's result, of its arguments' contents. -/
theorem out_at (P : FVec Ideal S8x2048x2048 .f32) (S : FVec Ideal S128x8x2048 .f32) (G : FVec Ideal S2x2048 .f32) (W : FVec Ideal S1x2048x6144 .f32) (r : Fin 17408) (k : Fin 2048) :
    (concatenate S17408x2048 0 [⟨S16384x2048, (shapeCast _ (Host.dotGeneral dot_S8x2048x2048_S2048x2048_S8x2048x2048_2_0_01_1_n_n none (mulf (mulf P (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf P P) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x2048 ![0, 4096] (shapeCast _ W shapeCasts_S1x2048x6144_S2048x6144) slices_S2048x6144_S2048x2048_0_4096)) shapeCasts_S8x2048x2048_S16384x2048)⟩, ⟨S1024x2048, (shapeCast _ (Host.dotGeneral dot_S128x8x2048_S2048x2048_S128x8x2048_2_0_01_1_n_n none (mulf (mulf S (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf S S) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x2048 ![0, 4096] (shapeCast _ W shapeCasts_S1x2048x6144_S2048x6144) slices_S2048x6144_S2048x2048_0_4096)) shapeCasts_S128x8x2048_S1024x2048)⟩] concatenates_S16384x2048_S1024x2048_S17408x2048_d0 : FVec Ideal S17408x2048 .f32) (ix2 r k)
      = proj (catRow (fun a b k => P (ix3 a b k)) (fun a b k => S (ix3 a b k)) r) (fun j => G (ix2 0 j)) (fun j => W (ix3 0 j ⟨4096 + k.val, by omega⟩)) := by
  refine (cat_at _ _ r k).trans ?_
  unfold catRow
  split
  · exact p_at P G W _ _ k
  · exact s_at S G W _ _ k

variable (m : (ℓ : Loc nD τ sig) → Buf (Elt Ideal) ℓ)

/-- The rows of prompt and sample. -/
abbrev Xm (c : Dev nD) : Fin 17408 → Fin 2048 → EReal := catRow (fun a b k => (m ((c : Thread nD τ).loc main_arg0) : FVec Ideal S8x2048x2048 .f32) (ix3 a b k))
  (fun a b k => (m ((c : Thread nD τ).loc main_arg1) : FVec Ideal S128x8x2048 .f32) (ix3 a b k))
/-- The mixer's gain. -/
abbrev gm (c : Dev nD) : Fin 2048 → EReal := fun j => (m ((c : Thread nD τ).loc main_arg2) : FVec Ideal S2x2048 .f32) (ix2 0 j)
/-- The weights. -/
abbrev Wm (c : Dev nD) : Fin 2048 → Fin 6144 → EReal := fun i j => (m ((c : Thread nD τ).loc main_arg3) : FVec Ideal S1x2048x6144 .f32) (ix3 0 i j)

/-- The reference's result array after its run, and its arguments. -/
theorem run_at (ρ : Dev nD → PrngReg) :
    θ_run defs (onTc (τ := τ) (main (F := Ideal))) ⟨m, fun _ => 0, ρ⟩ fun r => ∀ c : Dev nD,
      (r.2.mem ((c.tc : Thread nD τ).loc main_v38) : FVec Ideal S17408x2048 .f32) = (fun i => proj (Xm m c (i 0)) (gm m c) (fun j => Wm m c j ⟨4096 + (i 1).val, by have : (i 1).val < 2048 := (i 1).isLt; omega⟩))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (funext fun i => by idx_vars i; exact out_at _ _ _ _ i0 i1), (h c).2⟩) (Value.run m ρ)

end Cert.VRefIdeal.Mm

end
-- ==== Proof.VProjValue.lean ====
/-
  The first projection's kernel and reference compute the same array: what every grid point keeps and stores, the result
  after the run, and the claim that compares the two programs.
-/
module

public import proofs.«01_k».proof.Defs
public import Idealize.ShloMosaic.Adequacy
public import Idealize.ShloMosaic.Init
public import Idealize.ShloMosaic.Lib.Quiescent
public import proofs.«01_k».proof.Proof.VProjBody
public import proofs.«01_k».proof.Proof.VProjBlocks
public import proofs.«01_k».proof.Proof.VProjRef

@[expose] public section

set_option maxRecDepth 16384

noncomputable section

namespace Cert.VProjIdeal.Mm

open Cert.VProjIdeal Cert.VProjIdeal.Gen Cert.MmSpec Idealize.ShloMosaic Idealize.ShloMosaic.TcCoe
open Idealize.ShloMosaic.Pipeline (Dat)

variable (m : (ℓ : Loc nD τ sig) → Buf (Elt Ideal) ℓ)

/-- After every point, the scratch holds the point's block of rows, normed. -/
theorem scratch_at (c : Dev nD) (n : ℕ) (hn : n < cfg0.N) (r : Fin 1024) (k : Fin 2048) :
    ((outsAt0 m c n hn).2 : Vec Ideal S1024x2048 .bf16) (ix2 r k) = nrm (Xm m c ⟨1024 * (n / 4) + r.val, by have := lt68 ⟨n, hn⟩; simp only at this; omega⟩) (gm m c) k := by
  induction n with
  | zero =>
    have hA := outsAt0_A m c ⟨0, hn⟩ (Nat.zero_mod _)
    have hB := sout_at c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) r k
    simp only [iblk0_at, iblk1_at] at hB
    dsimp only at hA
    rw [hA]
    exact hB
  | succ n ih =>
    by_cases h0 : (n + 1) % 4 = 0
    · have hA := outsAt0_A m c ⟨n + 1, hn⟩ h0
      have hB := sout_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) r k
      simp only [iblk0_at, iblk1_at] at hB
      dsimp only at hA
      rw [hA]
      exact hB
    · have hA := outsAt0_B m c ⟨n + 1, hn⟩ h0
      dsimp only at hA
      rw [hA]
      refine (ih (by omega)).trans ?_
      have e : (n + 1) / 4 = n / 4 := by omega
      simp only [e]

/-- Every point stores its block of the projection. -/
theorem block_at (c : Dev nD) (t : Fin cfg0.N) (r : Fin 1024) (k : Fin 512) :
    ((outsAt0 m c t.val t.isLt).1 : Vec Ideal S1024x512 .f32) (ix2 r k)
      = proj (Xm m c ⟨1024 * (t.val / 4) + r.val, by have := lt68 t; omega⟩) (gm m c) (fun j => Wm m c j ⟨4096 + 512 * (t.val % 4) + k.val, by omega⟩) := by
  by_cases h0 : t.val % 4 = 0
  · have hA := outsAt0_A m c t h0
    have hB := out_at c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t) r k
    simp only [iblk0_at, iblk1_at, iblk2_at] at hB
    rw [hA]
    dsimp only
    exact hB
  · have hA := outsAt0_B m c t h0
    have hB := outB_at c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2 r k
    simp only [scratch_at, iblk2_at] at hB
    have e : (t.val - 1) / 4 = t.val / 4 := by omega
    simp only [e] at hB
    rw [hA]
    dsimp only
    exact hB

/-- The result array after the run. -/
theorem final (c : Dev nD) : ((dats m 0 c).arrAt 3 cfg0.N : FVec Ideal S17408x2048 .f32)
    = fun i => proj (Xm m c (i 0)) (gm m c) (fun j => Wm m c j ⟨4096 + (i 1).val, by have : (i 1).val < 2048 := (i 1).isLt; omega⟩) := by
  refine (dats m 0 c).arrAt_eq_of_covers 3 _ (by decide +kernel) fun t hf y => ?_
  have h68 := lt68 t
  blk_simp
  rw [after0_3]
  idx_vars y
  refine (block_at m c t y0 y1).trans ?_
  have r0 : ((((View.whole main_v9).slice (win0_3.rect t)).emb (ix2 y0 y1) 0 : Fin 17408) : ℕ) = 1024 * (t.val / 4) + y0.val := by blk_simp [idx t]; omega
  have e1 : win0_3.index t 1 = t.val % 4 := by rw [(idx t).2.2.2]; rfl
  have r2 : 4096 + 512 * (t.val % 4) + y1.val = 4096 + (win0_3.index t 1 * 512 + y1.val) := by rw [e1]; omega
  exact congrArg₂ (fun a b => proj (Xm m c a) (gm m c) fun j => Wm m c j b) (Fin.ext r0.symm) (Fin.ext r2)

end Cert.VProjIdeal.Mm

namespace Cert.Claims

open Cert.MmSpec Idealize.ShloMosaic Idealize.ShloMosaic.TcCoe Idealize.ShloMosaic.Tactic

/-- The reference frees nothing and leaves its arguments as they were. -/
theorem frame_VRefIdeal : Cert.quiescent_VRefIdeal := fun m ρ _ =>
  (θ_run Cert.VRefIdeal.defs _ _).mono (fun r h => ⟨fun c => (h c).2, sem_eq_zero_of_no_sems (by decide) r.2⟩)
    (Cert.VRefIdeal.Value.run (F := Ideal) m ρ)

/-- The kernel's array is the reference's. -/
theorem algebraic_V : Cert.algebraic_VProjIdeal_VRefIdeal := by
  intro m ρ m' ρ' _ hag
  refine ⟨fun c => fun i => MmSpec.proj (VProjIdeal.Mm.Xm m c (i 0)) (VProjIdeal.Mm.gm m c) (fun j => VProjIdeal.Mm.Wm m c j ⟨4096 + (i 1).val, by have : (i 1).val < 2048 := (i 1).isLt; omega⟩), ?_, ?_⟩
  · refine (θ_run _ _ _).mono (fun r h c => ?_) (VProjIdeal.Value.run_blocks m ρ)
    obtain ⟨h1, h3⟩ := h c
    exact ⟨h1.trans (VProjIdeal.Mm.final m c), h3⟩
  · refine (θ_run _ _ _).mono (fun r h c => ?_) (VRefIdeal.Mm.run_at m' ρ')
    obtain ⟨h1, h3⟩ := h c
    have hX : VRefIdeal.Mm.Xm m' c = VProjIdeal.Mm.Xm m c := congrArg₂ catRow (funext fun a => funext fun b => funext fun k => congrFun (hag c).1 (ix3 a b k))
      (funext fun a => funext fun b => funext fun k => congrFun (hag c).2.1 (ix3 a b k))
    have hg : VRefIdeal.Mm.gm m' c = VProjIdeal.Mm.gm m c := funext fun j => congrFun (hag c).2.2.1 (ix2 0 j)
    have hW : VRefIdeal.Mm.Wm m' c = VProjIdeal.Mm.Wm m c := funext fun i => funext fun j => congrFun (hag c).2.2.2 (ix3 0 i j)
    refine ⟨h1.trans ?_, h3⟩
    rw [hX, hg, hW]; rfl

end Cert.Claims

end
-- ==== Proof.HeadSpec.lean ====
/-
  The norm of the attention's heads and the rotary embedding of the retention's, at the level of
  entries.
-/
module

public import proofs.«01_k».proof.Proof.MmSpec

@[expose] public section

noncomputable section

namespace Cert.MmSpec

open Idealize.ShloMosaic

/-- One head's 128 entries, normed: `p j / sqrt (mean of the squares + eps)`. -/
def hnorm (p : Fin 128 → EReal) (j : Fin 128) : EReal :=
  p j * Ideal.rsqrt (Ideal.div (∑ i, p i * p i) (Ideal.ofBits FTy.f32 0x43000000#32) + Ideal.ofBits FTy.f32 0x358637BD#32)

/-- Entry `k` of a row of queries and keys: its head of the projected row, normed, times the gain of
    the queries' or the keys' heads. -/
def qkhead (x gain : Fin 2048 → EReal) (w : Fin 2048 → Fin 6144 → EReal) (gq gk : Fin 128 → EReal) (k : Fin 4096) : EReal :=
  hnorm (fun j => proj x gain fun i => w i ⟨k.val / 128 * 128 + j.val, by omega⟩) ⟨k.val % 128, by omega⟩
    * if k.val < 2048 then gq ⟨k.val % 128, by omega⟩ else gk ⟨k.val % 128, by omega⟩

end Cert.MmSpec

end
-- ==== Proof.QkProjBody.lean ====
/-
  The kernel of the projection of queries and keys: what the body computes from its blocks, entry by entry.
-/
module

public import proofs.«01_k».proof.Proof.Gen.QkProjIdeal.Value
public import proofs.«01_k».proof.Proof.HeadSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.QkProjIdeal.Mm

open Cert.QkProjIdeal Cert.QkProjIdeal.Gen Cert.MmSpec Idealize.ShloMosaic Idealize.ShloMosaic.TcCoe

/-- A trip's payload is its rows, normed. -/
theorem pay1_at (x : Vec Ideal S64x2048 .f32) (g : Vec Ideal S1x2048 .f32) (r : Fin 64) (k : Fin 2048) :
    k0_pay4 x g (ix2 r k) = nrm (fun j => x (ix2 r j)) (fun j => g (ix2 0 j)) k := by
  unfold nrm
  pointwise [k0_pay4]

/-- The product, entry by entry. -/
theorem mm_at (x : Vec Ideal S1024x2048 .bf16) (g : Vec Ideal S2048x512 .bf16) (r : Fin 1024) (k : Fin 512) :
    k0_pay5 x g (ix2 r k) = ∑ j, x (ix2 r j) * g (ix2 j k) := by
  pointwise [k0_pay5]

/-- The block stored for a scratch `x`, weights `w` and gains `g`, entry by entry: within each head of
    128 columns the product is normed and multiplied by the gain. -/
def blkQ (x : Vec Ideal S1024x2048 .bf16) (w : Vec Ideal S2048x512 .bf16) (g : Vec Ideal S1x512 .f32) (r : Fin 1024) (k : Fin 512) : EReal :=
  hnorm (fun j => ∑ i, x (ix2 r i) * w (ix2 i (⟨128 * (k.val / 128) + j.val, by omega⟩ : Fin 512))) ⟨k.val % 128, by omega⟩ * g (ix2 0 k)

/-- The first head. -/
theorem head0_at (x : Vec Ideal S1024x2048 .bf16) (w : Vec Ideal S2048x512 .bf16) (g : Vec Ideal S1x128 .f32) (r : Fin 1024) (j : Fin 128) :
    k0_pay6 x w g (ix2 r j) = hnorm (fun j => k0_pay5 x w (ix2 r (⟨j.val, by omega⟩ : Fin 512))) j * g (ix2 0 j) := by
  unfold hnorm k0_pay6
  generalize k0_pay5 x w = v
  pointwise

/-- The second head. -/
theorem head1_at (x : Vec Ideal S1024x2048 .bf16) (w : Vec Ideal S2048x512 .bf16) (g : Vec Ideal S1x128 .f32) (r : Fin 1024) (j : Fin 128) :
    k0_pay1 (k0_pay7 x w) (k0_pay8 g) (ix2 r j) = hnorm (fun j => k0_pay5 x w (ix2 r (⟨128 + j.val, by omega⟩ : Fin 512))) j * g (ix2 0 j) := by
  unfold hnorm k0_pay1 k0_pay7 k0_pay8
  generalize k0_pay5 x w = v
  pointwise

/-- The third head. -/
theorem head2_at (v : FVec Ideal S1024x512 .f32) (g : Vec Ideal S1x128 .f32) (r : Fin 1024) (j : Fin 128) :
    k0_pay2 v g (ix2 r j) = hnorm (fun j => v (ix2 r (⟨256 + j.val, by omega⟩ : Fin 512))) j * g (ix2 0 j) := by
  unfold hnorm
  pointwise [k0_pay2]

/-- The fourth head. -/
theorem head3_at (v : FVec Ideal S1024x512 .f32) (g : Vec Ideal S1x128 .f32) (r : Fin 1024) (j : Fin 128) :
    k0_pay3 v g (ix2 r j) = hnorm (fun j => v (ix2 r (⟨384 + j.val, by omega⟩ : Fin 512))) j * g (ix2 0 j) := by
  unfold hnorm
  pointwise [k0_pay3]

/-- A head's entry is the block's. -/
theorem blk_of (x : Vec Ideal S1024x2048 .bf16) (w : Vec Ideal S2048x512 .bf16) (g : Vec Ideal S1x512 .f32) (r : Fin 1024) (k : Fin 512) (q : ℕ) (hq : q < 4) (j : Fin 128) (hk : k.val = 128 * q + j.val)
    (f : Fin 128 → Fin 512) (hf : ∀ a, (f a).val = 128 * q + a.val) (y : EReal) (hy : y = g (ix2 0 k)) :
    hnorm (fun a => k0_pay5 x w (ix2 r (f a))) j * y = blkQ x w g r k := by
  unfold blkQ
  have e1 : k.val / 128 = q := by omega
  have e2 : k.val % 128 = j.val := by omega
  rw [hy]
  refine congrArg (· * g (ix2 0 k)) (congrArg₂ hnorm (funext fun a => ?_) (Fin.ext e2.symm))
  rw [mm_at]
  have e : f a = (⟨128 * (k.val / 128) + a.val, by omega⟩ : Fin 512) := Fin.ext (by rw [hf a]; show 128 * q + a.val = 128 * (k.val / 128) + a.val; rw [e1])
  rw [e]

/-- The four stores of a point leave the block. -/
theorem pieces_at (x : Vec Ideal S1024x2048 .bf16) (w : Vec Ideal S2048x512 .bf16) (g : Vec Ideal S1x512 .f32) (r : Fin 1024) (k : Fin 512) :
    View.canon (Val := Elt Ideal) (s := S1024x512) (e := .f32)
      [⟨Rect.unit ![0, 384] ![1024, 128] inb_S1024x512_S1024x128_0_384, k0_pay3 (k0_pay5 x w) (View.ld g (Rect.unit ![0, 384] ![1, 128] inb_S1x512_S1x128_0_384))⟩,
        ⟨Rect.unit ![0, 256] ![1024, 128] inb_S1024x512_S1024x128_0_256, k0_pay2 (k0_pay5 x w) (View.ld g (Rect.unit ![0, 256] ![1, 128] inb_S1x512_S1x128_0_256))⟩,
        ⟨Rect.unit ![0, 128] ![1024, 128] inb_S1024x512_S1024x128_0_128, k0_pay1 (k0_pay7 x w) (k0_pay8 (View.ld g (Rect.unit ![0, 128] ![1, 128] inb_S1x512_S1x128_0_128)))⟩,
        ⟨Rect.unit ![0, 0] ![1024, 128] inb_S1024x512_S1024x128_0_0, k0_pay6 x w (View.ld g (Rect.unit ![0, 0] ![1, 128] inb_S1x512_S1x128_0_0))⟩] (ix2 r k)
      = blkQ x w g r k := by
  canon_tiles y h
  · idx_vars y
    have hk : k.val = 384 + y1.val := h1
    obtain rfl : r = y0 := Fin.ext h0
    rw [head3_at]
    refine blk_of x w g r k 3 (by omega) y1 hk _ (fun a => rfl) _ (congrArg g ?_)
    ext a; fin_cases a
    · rfl
    · refine (Rect.idx_unit_val _ _ _ _ _).trans ?_
      exact hk.symm
  · idx_vars y
    have hk : k.val = 256 + y1.val := h1
    obtain rfl : r = y0 := Fin.ext h0
    rw [head2_at]
    refine blk_of x w g r k 2 (by omega) y1 hk _ (fun a => rfl) _ (congrArg g ?_)
    ext a; fin_cases a
    · rfl
    · refine (Rect.idx_unit_val _ _ _ _ _).trans ?_
      exact hk.symm
  · idx_vars y
    have hk : k.val = 128 + y1.val := h1
    obtain rfl : r = y0 := Fin.ext h0
    rw [head1_at]
    refine blk_of x w g r k 1 (by omega) y1 hk _ (fun a => rfl) _ (congrArg g ?_)
    ext a; fin_cases a
    · rfl
    · refine (Rect.idx_unit_val _ _ _ _ _).trans ?_
      exact hk.symm
  · idx_vars y
    have hk : k.val = 0 + y1.val := h1.trans (Nat.zero_add _).symm
    obtain rfl : r = y0 := Fin.ext h0
    rw [head0_at]
    refine blk_of x w g r k 0 (by omega) y1 hk _ (fun a => (Nat.zero_add _).symm) _ (congrArg g ?_)
    ext a; fin_cases a
    · rfl
    · refine (Rect.idx_unit_val _ _ _ _ _).trans ?_
      exact hk.symm

/-- A trip stores one piece: its 64 rows, normed. -/
theorem tripL_eq (𝒱 : Variants) (bd : Option 𝒱.V) (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x2048 .bf16) (harg7 : arg7.IsWhole) (h1 : k0_cond1 i = 1#1) (X2 : BufTy.Contents (Elt Ideal) arg2.view.ty) (X3 : BufTy.Contents (Elt Ideal) arg3.view.ty) (k : Fin k0_t1_loop.trips) :
    tripL_k0_t1 (F := Ideal) 𝒱 c bd i arg2 harg2 arg3 harg3 arg4 harg4 arg5 harg5 arg6 harg6 arg7 harg7 h1 X2 X3 k
      = [⟨Rect.unit (s := S1024x2048) (k0_off1 k) S64x2048.size (k0_off1_inb i k h1),
          k0_pay4 (arg2.view.readAt (Elt Ideal) (Rect.unit (s := S1024x2048) (k0_off1 k) S64x2048.size (k0_off1_inb i k h1)).toLoadRect X2)
            (arg3.view.readAt (Elt Ideal) (Rect.unit (s := S1x2048) ![0, 0] S1x2048.size inb_S1x2048_S1x2048_0_0).toLoadRect X3)⟩] := by
  unfold tripL_k0_t1 trip_k0_t1
  rfl

/-- Where row `r` of trip `k`'s piece lies. -/
theorem emb_at (i : grid0.Coords) (h1 : k0_cond1 i = 1#1) (k : Fin k0_t1_loop.trips) (n : ℕ) (hn : k.val = n) (r : Fin 1024) (r' : Fin 64) (hr : r.val = 64 * n + r'.val) (j : Fin 2048) :
    (Rect.unit (s := S1024x2048) (k0_off1 k) S64x2048.size (k0_off1_inb i k h1)).emb (ix2 r' j) = (ix2 r j : S1024x2048.Idx) := by
  have h := k0_off1_eq k
  ext a; fin_cases a
  · show k0_off1 k 0 + 1 * r'.val = r.val
    rw [h]; show 64 * k.val + 1 * r'.val = r.val; omega
  · show k0_off1 k 1 + 1 * j.val = j.val
    rw [h]; show 0 + 1 * j.val = j.val; omega

/-- The rows the trips before `n` leave are the block's, normed. -/
theorem canon_pb (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x2048 .bf16) (harg7 : arg7.IsWhole) (h1 : k0_cond1 i = 1#1) (x0 : Vec Ideal S1024x2048 .f32) (x1 : Vec Ideal S1x2048 .f32) (n : ℕ) (hn : n ≤ 16) (r : Fin 1024) (k : Fin 2048) (hr : r.val < 64 * n) :
    View.canon (pb_k0_t1 (F := Ideal) Variants.none c none i arg2 harg2 arg3 harg3 arg4 harg4 arg5 harg5 arg6 harg6 arg7 harg7 h1 (harg2.unread x0) (harg3.unread x1) n) (ix2 r k)
      = nrm (fun j => x0 (ix2 r j)) (fun j => x1 (ix2 0 j)) k := by
  induction n with
  | zero => omega
  | succ n ih =>
    have ht : k0_t1_loop.trips = 16 := by decide
    have hs := pb_k0_t1_succ (F := Ideal) Variants.none c none i arg2 harg2 arg3 harg3 arg4 harg4 arg5 harg5 arg6 harg6 arg7 harg7 h1 (harg2.unread x0) (harg3.unread x1) ⟨n, by omega⟩
    rw [tripL_eq] at hs
    rw [hs, List.singleton_append]
    by_cases hlt : r.val < 64 * n
    · rw [View.canon_cons_of_not_mem]
      · exact ih (by omega) hlt
      · intro hm
        have hm : (ix2 r k : S1024x2048.Idx) ∈ (Rect.unit (s := S1024x2048) (k0_off1 ⟨n, by omega⟩) S64x2048.size (k0_off1_inb i ⟨n, by omega⟩ h1)).set := hm
        rw [Rect.mem_set_unit, k0_off1_eq] at hm
        have h0 := (hm 0).1
        have : 64 * n ≤ r.val := h0
        omega
    · have e := emb_at i h1 ⟨n, by omega⟩ n rfl r ⟨r.val - 64 * n, by omega⟩ (by show r.val = 64 * n + (r.val - 64 * n); omega)
      rw [← e k, View.canon_cons_emb, pay1_at]
      have f0 : (fun j => arg2.view.readAt (Elt Ideal) (Rect.unit (s := S1024x2048) (k0_off1 ⟨n, by omega⟩) S64x2048.size (k0_off1_inb i ⟨n, by omega⟩ h1)).toLoadRect (harg2.unread x0) (ix2 (⟨r.val - 64 * n, by omega⟩ : Fin 64) j)) = fun j => x0 (ix2 r j) :=
        funext fun j => by rw [View.readAt_apply, harg2.read_unread]; exact congrArg x0 (e j)
      have f1 : (fun j => arg3.view.readAt (Elt Ideal) (Rect.unit (s := S1x2048) ![0, 0] S1x2048.size inb_S1x2048_S1x2048_0_0).toLoadRect (harg3.unread x1) (ix2 0 j)) = fun j => x1 (ix2 0 j) :=
        funext fun j => by
          rw [View.readAt_apply, harg3.read_unread]
          refine congrArg x1 ?_
          ext a; fin_cases a <;> simp [Rect.idx_unit_val] <;> rfl
      exact congrArg₂ (fun a b => nrm a b k) f0 f1

/-- Case A leaves the normed block in the scratch. -/
theorem sout_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x2048 .bf16) (harg7 : arg7.IsWhole) (hc0 : cond0_0 i) (x0 : Vec Ideal S1024x2048 .f32) (x1 : Vec Ideal S1x2048 .f32) (x2 : Vec Ideal S2048x512 .bf16) (x3 : Vec Ideal S1x512 .f32) (r : Fin 1024) (k : Fin 2048) :
    sout0_A_0 c i arg2 harg2 arg3 harg3 arg4 harg4 arg5 harg5 arg6 harg6 arg7 harg7 hc0 x0 x1 x2 x3 (ix2 r k) = nrm (fun j => x0 (ix2 r j)) (fun j => x1 (ix2 0 j)) k := by
  frame_open
  frame_out
  exact canon_pb c i arg2 harg2 arg3 harg3 arg4 harg4 arg5 harg5 arg6 harg6 arg7 harg7 hc0 x0 x1 16 (le_refl _) r k (by omega)

/-- Case A's stored block. -/
theorem out_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x2048 .bf16) (harg7 : arg7.IsWhole) (hc0 : cond0_0 i) (x0 : Vec Ideal S1024x2048 .f32) (x1 : Vec Ideal S1x2048 .f32) (x2 : Vec Ideal S2048x512 .bf16) (x3 : Vec Ideal S1x512 .f32) (r : Fin 1024) (k : Fin 512) :
    out0_A_4 c i arg2 harg2 arg3 harg3 arg4 harg4 arg5 harg5 arg6 harg6 arg7 harg7 hc0 x0 x1 x2 x3 (ix2 r k) = hnorm (fun j => proj (fun a => x0 (ix2 r a)) (fun a => x1 (ix2 0 a)) fun a => x2 (ix2 a (⟨128 * (k.val / 128) + j.val, by omega⟩ : Fin 512))) ⟨k.val % 128, by omega⟩ * x3 (ix2 0 k) := by
  frame_open
  try simp (disch := decide) only [↓ View.readCov_skip, ↓ View.readCov_cons_toLoadRect, ↓ View.readCov_fill]
  frame_out
  try simp only [read_unread_whole]
  refine (pieces_at _ x2 x3 r k).trans ?_
  unfold blkQ proj
  refine congrArg (fun p => hnorm p ⟨k.val % 128, by omega⟩ * x3 (ix2 0 k)) (funext fun j => Finset.sum_congr rfl fun a _ => congrArg (· * x2 (ix2 a _)) ?_)
  rw [View.readCov_eq_canon']
  refine Eq.trans (congrArg (View.canon _) (?_ : _ = (ix2 r a : S1024x2048.Idx))) (canon_pb c i arg2 harg2 arg3 harg3 arg4 harg4 arg5 harg5 arg6 harg6 arg7 harg7 hc0 x0 x1 16 (le_refl _) r a (by omega))
  ext a; fin_cases a <;> simp [Rect.idx_unit_val] <;> rfl

/-- Case B's stored block, from the scratch it finds. -/
theorem outB_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1x512 .f32) (harg5 : arg5.IsWhole) (arg6 : Memref sig .tc .vmem S1024x512 .f32) (harg6 : arg6.IsWhole) (arg7 : Memref sig .tc .vmem S1024x2048 .bf16) (harg7 : arg7.IsWhole) (hc0 : ¬cond0_0 i) (x0 : Vec Ideal S1024x2048 .f32) (x1 : Vec Ideal S1x2048 .f32) (x2 : Vec Ideal S2048x512 .bf16) (x3 : Vec Ideal S1x512 .f32) (xs0 : Vec Ideal S1024x2048 .bf16) (r : Fin 1024) (k : Fin 512) :
    out0_B_4 c i arg2 harg2 arg3 harg3 arg4 harg4 arg5 harg5 arg6 harg6 arg7 harg7 hc0 x0 x1 x2 x3 xs0 (ix2 r k) = blkQ xs0 x2 x3 r k := by
  frame_open
  try simp (disch := decide) only [↓ View.readCov_skip, ↓ View.readCov_cons_toLoadRect, ↓ View.readCov_fill]
  frame_out
  try simp only [read_unread_whole]
  exact pieces_at xs0 x2 x3 r k

end Cert.QkProjIdeal.Mm

end
-- ==== Proof.QkProjBlocks.lean ====
/-
  The kernel of the projection of queries and keys: its input blocks at every grid point, and its result array.
-/
module

public import proofs.«01_k».proof.Proof.Gen.QkProjIdeal.Value
public import proofs.«01_k».proof.Proof.HeadSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.QkProjIdeal.Mm

open Cert.QkProjIdeal Cert.QkProjIdeal.Gen Cert.MmSpec Idealize.ShloMosaic Idealize.ShloMosaic.TcCoe
open Idealize.ShloMosaic.Pipeline (Dat)

variable (m : (ℓ : Loc nD τ sig) → Buf (Elt Ideal) ℓ)

/-- Every window's block at every grid point. -/
theorem idx : ∀ t : Fin cfg0.N, win0_0.index t = ![t.val / 8, 0] ∧ win0_1.index t = ![0, 0]
    ∧ win0_2.index t = ![0, t.val % 8] ∧ win0_3.index t = ![0, t.val % 8] ∧ win0_4.index t = ![t.val / 8, t.val % 8] :=
  (by decide +kernel : ∀ t : Fin grid0.N, _)

/-- The rows of prompt and sample. -/
abbrev Xm (c : Dev nD) : Fin 17408 → Fin 2048 → EReal := catRow (fun a b k => (m ((c : Thread nD τ).loc main_arg0) : FVec Ideal S8x2048x2048 .f32) (ix3 a b k))
  (fun a b k => (m ((c : Thread nD τ).loc main_arg1) : FVec Ideal S128x8x2048 .f32) (ix3 a b k))
/-- The mixer's gain. -/
abbrev gm (c : Dev nD) : Fin 2048 → EReal := fun j => (m ((c : Thread nD τ).loc main_arg2) : FVec Ideal S2x2048 .f32) (ix2 0 j)
/-- The weights. -/
abbrev Wm (c : Dev nD) : Fin 2048 → Fin 6144 → EReal := fun i j => (m ((c : Thread nD τ).loc main_arg3) : FVec Ideal S1x2048x6144 .f32) (ix3 0 i j)

/-- The gains of the queries' heads. -/
abbrev qm (c : Dev nD) : Fin 128 → EReal := fun j => (m ((c : Thread nD τ).loc main_arg4) : FVec Ideal S1x128 .f32) (ix2 0 j)
/-- The gains of the keys' heads. -/
abbrev km (c : Dev nD) : Fin 128 → EReal := fun j => (m ((c : Thread nD τ).loc main_arg5) : FVec Ideal S1x128 .f32) (ix2 0 j)

/-- The grid has 136 points. -/
theorem lt136 (t : Fin cfg0.N) : t.val < 136 := lt_of_lt_of_eq t.isLt N_0

/-- The two arguments' rows, joined. -/
theorem cat_at (P : FVec Ideal S8x2048x2048 .f32) (S : FVec Ideal S128x8x2048 .f32) (r : Fin 17408) (k : Fin 2048) :
    (concatenate S17408x2048 0 [⟨S16384x2048, shapeCast S16384x2048 P shapeCasts_S8x2048x2048_S16384x2048⟩, ⟨S1024x2048, shapeCast S1024x2048 S shapeCasts_S128x8x2048_S1024x2048⟩] concatenates_S16384x2048_S1024x2048_S17408x2048_d0 : FVec Ideal S17408x2048 .f32) (ix2 r k)
      = catRow (fun a b k => P (ix3 a b k)) (fun a b k => S (ix3 a b k)) r k := by
  generalize hA : shapeCast S16384x2048 P shapeCasts_S8x2048x2048_S16384x2048 = A
  generalize hB : shapeCast S1024x2048 S shapeCasts_S128x8x2048_S1024x2048 = B
  pointwise
  unfold catRow
  split
  · rw [← hA]; pointwise
  · rw [← hB]; pointwise

/-- A point's block of rows. -/
theorem iblk0_at (c : Dev nD) (t : Fin cfg0.N) (r : Fin 1024) (k : Fin 2048) :
    (iblk m c 0 t : Vec Ideal S1024x2048 .f32) (ix2 r k) = Xm m c ⟨1024 * (t.val / 8) + r.val, by have := lt136 t; omega⟩ k := by
  blk_simp [iblk]
  entry_read
  have e : ((View.whole main_v2).slice (win0_0.rect t)).emb (ix2 r k) = (ix2 ⟨1024 * (t.val / 8) + r.val, by have := lt136 t; omega⟩ k : S17408x2048.Idx) := by
    have r0 : ((((View.whole main_v2).slice (win0_0.rect t)).emb (ix2 r k) 0 : Fin 17408) : ℕ) = 1024 * (t.val / 8) + r.val := by blk_simp [idx t]; omega
    have r1 : ((((View.whole main_v2).slice (win0_0.rect t)).emb (ix2 r k) 1 : Fin 2048) : ℕ) = k.val := by blk_simp [idx t]
    ext a; fin_cases a
    · exact r0
    · exact r1
  exact (congrArg (concatenate S17408x2048 0 _ _) e).trans (cat_at _ _ _ _)

/-- Every point's gain. -/
theorem iblk1_at (c : Dev nD) (t : Fin cfg0.N) (k : Fin 2048) :
    (iblk m c 1 t : Vec Ideal S1x2048 .f32) (ix2 0 k) = gm m c k := by
  blk_simp [iblk]
  entry_read
  pointwise
  blk_ext [idx t]

/-- A point's block of weights. -/
theorem iblk2_at (c : Dev nD) (t : Fin cfg0.N) (k : Fin 2048) (j : Fin 512) :
    (iblk m c 2 t : Vec Ideal S2048x512 .bf16) (ix2 k j) = Wm m c k ⟨512 * (t.val % 8) + j.val, by omega⟩ := by
  blk_simp [iblk]
  entry_read
  pointwise
  blk_ext [idx t]

/-- The heads' gains, sixteen times the queries' and sixteen times the keys'. -/
theorem gains_at (Gq Gk : FVec Ideal S1x128 .f32) (k : Fin 4096) :
    (shapeCast S1x4096 (concatenate S4096 0 [⟨S2048, shapeCast S2048 (broadcastInDim S16x128 ![0, 1] bcast_S1x128_S16x128_0_1 (shapeCast S1x128 (shapeCast S128 Gq shapeCasts_S1x128_S128) shapeCasts_S128_S1x128)) shapeCasts_S16x128_S2048⟩, ⟨S2048, shapeCast S2048 (broadcastInDim S16x128 ![0, 1] bcast_S1x128_S16x128_0_1 (shapeCast S1x128 (shapeCast S128 Gk shapeCasts_S1x128_S128) shapeCasts_S128_S1x128)) shapeCasts_S16x128_S2048⟩] concatenates_S2048_S2048_S4096_d0) shapeCasts_S4096_S1x4096 : FVec Ideal S1x4096 .f32) (ix2 0 k)
      = if k.val < 2048 then Gq (ix2 0 (⟨k.val % 128, by omega⟩ : Fin 128)) else Gk (ix2 0 (⟨k.val % 128, by omega⟩ : Fin 128)) := by
  generalize hA : shapeCast S2048 (broadcastInDim S16x128 ![0, 1] bcast_S1x128_S16x128_0_1 (shapeCast S1x128 (shapeCast S128 Gq shapeCasts_S1x128_S128) shapeCasts_S128_S1x128)) shapeCasts_S16x128_S2048 = A
  generalize hB : shapeCast S2048 (broadcastInDim S16x128 ![0, 1] bcast_S1x128_S16x128_0_1 (shapeCast S1x128 (shapeCast S128 Gk shapeCasts_S1x128_S128) shapeCasts_S128_S1x128)) shapeCasts_S16x128_S2048 = B
  pointwise
  split
  · rw [← hA]; pointwise
  · rw [← hB]; pointwise
    exact congrArg (fun a => Gk (ix2 0 a)) (Fin.ext (by show (k.val - 2048) % 128 = k.val % 128; omega))

/-- A point's block of the heads' gains. -/
theorem iblk3_at (c : Dev nD) (t : Fin cfg0.N) (j : Fin 512) :
    (iblk m c 3 t : Vec Ideal S1x512 .f32) (ix2 0 j) = if 512 * (t.val % 8) + j.val < 2048 then qm m c ⟨(512 * (t.val % 8) + j.val) % 128, by omega⟩ else km m c ⟨(512 * (t.val % 8) + j.val) % 128, by omega⟩ := by
  blk_simp [iblk]
  entry_read
  have e : ((View.whole main_v14).slice (win0_3.rect t)).emb (ix2 0 j) = (ix2 0 ⟨512 * (t.val % 8) + j.val, by omega⟩ : S1x4096.Idx) := by
    have r0 : ((((View.whole main_v14).slice (win0_3.rect t)).emb (ix2 0 j) 0 : Fin 1) : ℕ) = 0 := by have h : (((View.whole main_v14).slice (win0_3.rect t)).emb (ix2 0 j) 0).val < 1 := (((View.whole main_v14).slice (win0_3.rect t)).emb (ix2 0 j) 0).isLt; exact Nat.lt_one_iff.mp h
    have r1 : ((((View.whole main_v14).slice (win0_3.rect t)).emb (ix2 0 j) 1 : Fin 4096) : ℕ) = 512 * (t.val % 8) + j.val := by blk_simp [idx t]; omega
    ext a; fin_cases a
    · exact r0
    · exact r1
  exact (congrArg (shapeCast S1x4096 _ _) e).trans (gains_at _ _ _)

end Cert.QkProjIdeal.Mm

end
-- ==== Proof.QkProjRef.lean ====
/-
  The attention's queries and keys as the reference writes them: a normed row against a column of
  weights, then each head normed.
-/
module

public import proofs.«01_k».proof.Proof.Gen.QkRefIdeal.Run
public import proofs.«01_k».proof.Proof.HeadSpec
public import Idealize.ShloMosaic.Lib.Pointwise

@[expose] public section

set_option maxRecDepth 16384

noncomputable section

namespace Cert.QkRefIdeal.Mm

open Cert.QkRefIdeal Cert.QkRefIdeal.Gen Cert.MmSpec Idealize.ShloMosaic Idealize.ShloMosaic.TcCoe

/-- The prompt's projected rows. -/
theorem mmP_at (P : FVec Ideal S8x2048x2048 .f32) (G : FVec Ideal S2x2048 .f32) (W : FVec Ideal S1x2048x6144 .f32) (a : Fin 8) (b : Fin 2048) (k : Fin 4096) :
    ((Host.dotGeneral dot_S8x2048x2048_S2048x4096_S8x2048x4096_2_0_01_1_n_n none (mulf (mulf P (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf P P) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x4096 ![0, 0] (shapeCast _ W shapeCasts_S1x2048x6144_S2048x6144) slices_S2048x6144_S2048x4096_0_0)) : FVec Ideal S8x2048x4096 .f32) (ix3 a b k)
      = proj (fun j => P (ix3 a b j)) (fun j => G (ix2 0 j)) (fun j => W (ix3 0 j ⟨k.val, by omega⟩)) := by
  unfold proj nrm
  pointwise

/-- The sample's projected rows. -/
theorem mmS_at (S : FVec Ideal S128x8x2048 .f32) (G : FVec Ideal S2x2048 .f32) (W : FVec Ideal S1x2048x6144 .f32) (a : Fin 128) (b : Fin 8) (k : Fin 4096) :
    ((Host.dotGeneral dot_S128x8x2048_S2048x4096_S128x8x4096_2_0_01_1_n_n none (mulf (mulf S (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf S S) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x4096 ![0, 0] (shapeCast _ W shapeCasts_S1x2048x6144_S2048x6144) slices_S2048x6144_S2048x4096_0_0)) : FVec Ideal S128x8x4096 .f32) (ix3 a b k)
      = proj (fun j => S (ix3 a b j)) (fun j => G (ix2 0 j)) (fun j => W (ix3 0 j ⟨k.val, by omega⟩)) := by
  unfold proj nrm
  pointwise

/-- The prompt's queries of the projected rows: each head normed, times the gain. -/
theorem headP0_at (D : FVec Ideal S8x2048x4096 .f32) (Gq : FVec Ideal S1x128 .f32) (n : Fin 16384) (k : Fin 2048) :
    ((shapeCast _ (mulf (mulf (shapeCast _ (extractStridedSlice S16384x1x16x128 ![0, 0, 0, 0] (shapeCast _ D shapeCasts_S8x2048x4096_S16384x2x16x128) slices_S16384x2x16x128_S16384x1x16x128_0_0_0_0) shapeCasts_S16384x1x16x128_S16384x16x128) (broadcastInDim S16384x16x128 ![0, 1, 2] bcast_S16384x16x1_S16384x16x128_0_1_2 (Host.rsqrt (addf (Host.divf (broadcastInDim S16384x16x1 ![0, 1] bcast_S16384x16_S16384x16x1_0_1 (Host.reduceAdd (mulf (shapeCast _ (extractStridedSlice S16384x1x16x128 ![0, 0, 0, 0] (shapeCast _ D shapeCasts_S8x2048x4096_S16384x2x16x128) slices_S16384x2x16x128_S16384x1x16x128_0_0_0_0) shapeCasts_S16384x1x16x128_S16384x16x128) (shapeCast _ (extractStridedSlice S16384x1x16x128 ![0, 0, 0, 0] (shapeCast _ D shapeCasts_S8x2048x4096_S16384x2x16x128) slices_S16384x2x16x128_S16384x1x16x128_0_0_0_0) shapeCasts_S16384x1x16x128_S16384x16x128)) (constant S_ .f32 0x00000000#32) reducesTo_S16384x16x128_S16384x16_d2 h_S_)) (broadcastInDim S16384x16x1 ![] bcast_S_S16384x16x1 (constant S_ .f32 0x43000000#32))) (broadcastInDim S16384x16x1 ![] bcast_S_S16384x16x1 (constant S_ .f32 0x358637BD#32)))))) (broadcastInDim S16384x16x128 ![0, 1, 2] bcast_S1x1x128_S16384x16x128_0_1_2 (broadcastInDim S1x1x128 ![2] bcast_S128_S1x1x128_2 (shapeCast _ Gq shapeCasts_S1x128_S128)))) shapeCasts_S16384x16x128_S16384x2048) : FVec Ideal S16384x2048 .f32) (ix2 n k)
      = hnorm (fun j => D (ix3 (⟨n.val / 2048, by omega⟩ : Fin 8) (⟨n.val % 2048, by omega⟩ : Fin 2048) (⟨k.val / 128 * 128 + j.val, by omega⟩ : Fin 4096))) ⟨k.val % 128, by omega⟩ * Gq (ix2 0 ⟨k.val % 128, by omega⟩) := by
  unfold hnorm
  pointwise

/-- The prompt's keys of the projected rows: each head normed, times the gain. -/
theorem headP1_at (D : FVec Ideal S8x2048x4096 .f32) (Gk : FVec Ideal S1x128 .f32) (n : Fin 16384) (k : Fin 2048) :
    ((shapeCast _ (mulf (mulf (shapeCast _ (extractStridedSlice S16384x1x16x128 ![0, 1, 0, 0] (shapeCast _ D shapeCasts_S8x2048x4096_S16384x2x16x128) slices_S16384x2x16x128_S16384x1x16x128_0_1_0_0) shapeCasts_S16384x1x16x128_S16384x16x128) (broadcastInDim S16384x16x128 ![0, 1, 2] bcast_S16384x16x1_S16384x16x128_0_1_2 (Host.rsqrt (addf (Host.divf (broadcastInDim S16384x16x1 ![0, 1] bcast_S16384x16_S16384x16x1_0_1 (Host.reduceAdd (mulf (shapeCast _ (extractStridedSlice S16384x1x16x128 ![0, 1, 0, 0] (shapeCast _ D shapeCasts_S8x2048x4096_S16384x2x16x128) slices_S16384x2x16x128_S16384x1x16x128_0_1_0_0) shapeCasts_S16384x1x16x128_S16384x16x128) (shapeCast _ (extractStridedSlice S16384x1x16x128 ![0, 1, 0, 0] (shapeCast _ D shapeCasts_S8x2048x4096_S16384x2x16x128) slices_S16384x2x16x128_S16384x1x16x128_0_1_0_0) shapeCasts_S16384x1x16x128_S16384x16x128)) (constant S_ .f32 0x00000000#32) reducesTo_S16384x16x128_S16384x16_d2 h_S_)) (broadcastInDim S16384x16x1 ![] bcast_S_S16384x16x1 (constant S_ .f32 0x43000000#32))) (broadcastInDim S16384x16x1 ![] bcast_S_S16384x16x1 (constant S_ .f32 0x358637BD#32)))))) (broadcastInDim S16384x16x128 ![0, 1, 2] bcast_S1x1x128_S16384x16x128_0_1_2 (broadcastInDim S1x1x128 ![2] bcast_S128_S1x1x128_2 (shapeCast _ Gk shapeCasts_S1x128_S128)))) shapeCasts_S16384x16x128_S16384x2048) : FVec Ideal S16384x2048 .f32) (ix2 n k)
      = hnorm (fun j => D (ix3 (⟨n.val / 2048, by omega⟩ : Fin 8) (⟨n.val % 2048, by omega⟩ : Fin 2048) (⟨2048 + k.val / 128 * 128 + j.val, by omega⟩ : Fin 4096))) ⟨k.val % 128, by omega⟩ * Gk (ix2 0 ⟨k.val % 128, by omega⟩) := by
  unfold hnorm
  pointwise

/-- The sample's queries of the projected rows: each head normed, times the gain. -/
theorem headS0_at (E : FVec Ideal S128x8x4096 .f32) (Gq : FVec Ideal S1x128 .f32) (n : Fin 1024) (k : Fin 2048) :
    ((shapeCast _ (mulf (mulf (shapeCast _ (extractStridedSlice S1024x1x16x128 ![0, 0, 0, 0] (shapeCast _ E shapeCasts_S128x8x4096_S1024x2x16x128) slices_S1024x2x16x128_S1024x1x16x128_0_0_0_0) shapeCasts_S1024x1x16x128_S1024x16x128) (broadcastInDim S1024x16x128 ![0, 1, 2] bcast_S1024x16x1_S1024x16x128_0_1_2 (Host.rsqrt (addf (Host.divf (broadcastInDim S1024x16x1 ![0, 1] bcast_S1024x16_S1024x16x1_0_1 (Host.reduceAdd (mulf (shapeCast _ (extractStridedSlice S1024x1x16x128 ![0, 0, 0, 0] (shapeCast _ E shapeCasts_S128x8x4096_S1024x2x16x128) slices_S1024x2x16x128_S1024x1x16x128_0_0_0_0) shapeCasts_S1024x1x16x128_S1024x16x128) (shapeCast _ (extractStridedSlice S1024x1x16x128 ![0, 0, 0, 0] (shapeCast _ E shapeCasts_S128x8x4096_S1024x2x16x128) slices_S1024x2x16x128_S1024x1x16x128_0_0_0_0) shapeCasts_S1024x1x16x128_S1024x16x128)) (constant S_ .f32 0x00000000#32) reducesTo_S1024x16x128_S1024x16_d2 h_S_)) (broadcastInDim S1024x16x1 ![] bcast_S_S1024x16x1 (constant S_ .f32 0x43000000#32))) (broadcastInDim S1024x16x1 ![] bcast_S_S1024x16x1 (constant S_ .f32 0x358637BD#32)))))) (broadcastInDim S1024x16x128 ![0, 1, 2] bcast_S1x1x128_S1024x16x128_0_1_2 (broadcastInDim S1x1x128 ![2] bcast_S128_S1x1x128_2 (shapeCast _ Gq shapeCasts_S1x128_S128)))) shapeCasts_S1024x16x128_S1024x2048) : FVec Ideal S1024x2048 .f32) (ix2 n k)
      = hnorm (fun j => E (ix3 (⟨n.val / 8, by omega⟩ : Fin 128) (⟨n.val % 8, by omega⟩ : Fin 8) (⟨k.val / 128 * 128 + j.val, by omega⟩ : Fin 4096))) ⟨k.val % 128, by omega⟩ * Gq (ix2 0 ⟨k.val % 128, by omega⟩) := by
  unfold hnorm
  pointwise

/-- The sample's keys of the projected rows: each head normed, times the gain. -/
theorem headS1_at (E : FVec Ideal S128x8x4096 .f32) (Gk : FVec Ideal S1x128 .f32) (n : Fin 1024) (k : Fin 2048) :
    ((shapeCast _ (mulf (mulf (shapeCast _ (extractStridedSlice S1024x1x16x128 ![0, 1, 0, 0] (shapeCast _ E shapeCasts_S128x8x4096_S1024x2x16x128) slices_S1024x2x16x128_S1024x1x16x128_0_1_0_0) shapeCasts_S1024x1x16x128_S1024x16x128) (broadcastInDim S1024x16x128 ![0, 1, 2] bcast_S1024x16x1_S1024x16x128_0_1_2 (Host.rsqrt (addf (Host.divf (broadcastInDim S1024x16x1 ![0, 1] bcast_S1024x16_S1024x16x1_0_1 (Host.reduceAdd (mulf (shapeCast _ (extractStridedSlice S1024x1x16x128 ![0, 1, 0, 0] (shapeCast _ E shapeCasts_S128x8x4096_S1024x2x16x128) slices_S1024x2x16x128_S1024x1x16x128_0_1_0_0) shapeCasts_S1024x1x16x128_S1024x16x128) (shapeCast _ (extractStridedSlice S1024x1x16x128 ![0, 1, 0, 0] (shapeCast _ E shapeCasts_S128x8x4096_S1024x2x16x128) slices_S1024x2x16x128_S1024x1x16x128_0_1_0_0) shapeCasts_S1024x1x16x128_S1024x16x128)) (constant S_ .f32 0x00000000#32) reducesTo_S1024x16x128_S1024x16_d2 h_S_)) (broadcastInDim S1024x16x1 ![] bcast_S_S1024x16x1 (constant S_ .f32 0x43000000#32))) (broadcastInDim S1024x16x1 ![] bcast_S_S1024x16x1 (constant S_ .f32 0x358637BD#32)))))) (broadcastInDim S1024x16x128 ![0, 1, 2] bcast_S1x1x128_S1024x16x128_0_1_2 (broadcastInDim S1x1x128 ![2] bcast_S128_S1x1x128_2 (shapeCast _ Gk shapeCasts_S1x128_S128)))) shapeCasts_S1024x16x128_S1024x2048) : FVec Ideal S1024x2048 .f32) (ix2 n k)
      = hnorm (fun j => E (ix3 (⟨n.val / 8, by omega⟩ : Fin 128) (⟨n.val % 8, by omega⟩ : Fin 8) (⟨2048 + k.val / 128 * 128 + j.val, by omega⟩ : Fin 4096))) ⟨k.val % 128, by omega⟩ * Gk (ix2 0 ⟨k.val % 128, by omega⟩) := by
  unfold hnorm
  pointwise

/-- Queries and keys side by side. -/
theorem catP_at (A B : FVec Ideal S16384x2048 .f32) (n : Fin 16384) (k : Fin 4096) :
    (concatenate S16384x4096 1 [⟨S16384x2048, A⟩, ⟨S16384x2048, B⟩] concatenates_S16384x2048_S16384x2048_S16384x4096_d1 : FVec Ideal S16384x4096 .f32) (ix2 n k)
      = if h : k.val < 2048 then A (ix2 n ⟨k.val, h⟩) else B (ix2 n ⟨k.val - 2048, by omega⟩) := by
  pointwise

/-- Queries and keys side by side. -/
theorem catS_at (A B : FVec Ideal S1024x2048 .f32) (n : Fin 1024) (k : Fin 4096) :
    (concatenate S1024x4096 1 [⟨S1024x2048, A⟩, ⟨S1024x2048, B⟩] concatenates_S1024x2048_S1024x2048_S1024x4096_d1 : FVec Ideal S1024x4096 .f32) (ix2 n k)
      = if h : k.val < 2048 then A (ix2 n ⟨k.val, h⟩) else B (ix2 n ⟨k.val - 2048, by omega⟩) := by
  pointwise

/-- The prompt's rows above the sample's. -/
theorem cat_at (A : FVec Ideal S16384x4096 .f32) (B : FVec Ideal S1024x4096 .f32) (r : Fin 17408) (k : Fin 4096) :
    (concatenate S17408x4096 0 [⟨S16384x4096, A⟩, ⟨S1024x4096, B⟩] concatenates_S16384x4096_S1024x4096_S17408x4096_d0 : FVec Ideal S17408x4096 .f32) (ix2 r k)
      = if h : r.val < 16384 then A (ix2 ⟨r.val, h⟩ k) else B (ix2 ⟨r.val - 16384, by omega⟩ k) := by
  pointwise

/-- The reference's result, of its arguments' contents. -/
theorem out_at (P : FVec Ideal S8x2048x2048 .f32) (S : FVec Ideal S128x8x2048 .f32) (G : FVec Ideal S2x2048 .f32) (W : FVec Ideal S1x2048x6144 .f32) (Gq Gk : FVec Ideal S1x128 .f32) (r : Fin 17408) (k : Fin 4096) :
    (concatenate S17408x4096 0 [⟨S16384x4096, (concatenate S16384x4096 1 [⟨S16384x2048, (shapeCast _ (mulf (mulf (shapeCast _ (extractStridedSlice S16384x1x16x128 ![0, 0, 0, 0] (shapeCast _ (Host.dotGeneral dot_S8x2048x2048_S2048x4096_S8x2048x4096_2_0_01_1_n_n none (mulf (mulf P (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf P P) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x4096 ![0, 0] (shapeCast _ W shapeCasts_S1x2048x6144_S2048x6144) slices_S2048x6144_S2048x4096_0_0)) shapeCasts_S8x2048x4096_S16384x2x16x128) slices_S16384x2x16x128_S16384x1x16x128_0_0_0_0) shapeCasts_S16384x1x16x128_S16384x16x128) (broadcastInDim S16384x16x128 ![0, 1, 2] bcast_S16384x16x1_S16384x16x128_0_1_2 (Host.rsqrt (addf (Host.divf (broadcastInDim S16384x16x1 ![0, 1] bcast_S16384x16_S16384x16x1_0_1 (Host.reduceAdd (mulf (shapeCast _ (extractStridedSlice S16384x1x16x128 ![0, 0, 0, 0] (shapeCast _ (Host.dotGeneral dot_S8x2048x2048_S2048x4096_S8x2048x4096_2_0_01_1_n_n none (mulf (mulf P (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf P P) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x4096 ![0, 0] (shapeCast _ W shapeCasts_S1x2048x6144_S2048x6144) slices_S2048x6144_S2048x4096_0_0)) shapeCasts_S8x2048x4096_S16384x2x16x128) slices_S16384x2x16x128_S16384x1x16x128_0_0_0_0) shapeCasts_S16384x1x16x128_S16384x16x128) (shapeCast _ (extractStridedSlice S16384x1x16x128 ![0, 0, 0, 0] (shapeCast _ (Host.dotGeneral dot_S8x2048x2048_S2048x4096_S8x2048x4096_2_0_01_1_n_n none (mulf (mulf P (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf P P) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x4096 ![0, 0] (shapeCast _ W shapeCasts_S1x2048x6144_S2048x6144) slices_S2048x6144_S2048x4096_0_0)) shapeCasts_S8x2048x4096_S16384x2x16x128) slices_S16384x2x16x128_S16384x1x16x128_0_0_0_0) shapeCasts_S16384x1x16x128_S16384x16x128)) (constant S_ .f32 0x00000000#32) reducesTo_S16384x16x128_S16384x16_d2 h_S_)) (broadcastInDim S16384x16x1 ![] bcast_S_S16384x16x1 (constant S_ .f32 0x43000000#32))) (broadcastInDim S16384x16x1 ![] bcast_S_S16384x16x1 (constant S_ .f32 0x358637BD#32)))))) (broadcastInDim S16384x16x128 ![0, 1, 2] bcast_S1x1x128_S16384x16x128_0_1_2 (broadcastInDim S1x1x128 ![2] bcast_S128_S1x1x128_2 (shapeCast _ Gq shapeCasts_S1x128_S128)))) shapeCasts_S16384x16x128_S16384x2048)⟩, ⟨S16384x2048, (shapeCast _ (mulf (mulf (shapeCast _ (extractStridedSlice S16384x1x16x128 ![0, 1, 0, 0] (shapeCast _ (Host.dotGeneral dot_S8x2048x2048_S2048x4096_S8x2048x4096_2_0_01_1_n_n none (mulf (mulf P (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf P P) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x4096 ![0, 0] (shapeCast _ W shapeCasts_S1x2048x6144_S2048x6144) slices_S2048x6144_S2048x4096_0_0)) shapeCasts_S8x2048x4096_S16384x2x16x128) slices_S16384x2x16x128_S16384x1x16x128_0_1_0_0) shapeCasts_S16384x1x16x128_S16384x16x128) (broadcastInDim S16384x16x128 ![0, 1, 2] bcast_S16384x16x1_S16384x16x128_0_1_2 (Host.rsqrt (addf (Host.divf (broadcastInDim S16384x16x1 ![0, 1] bcast_S16384x16_S16384x16x1_0_1 (Host.reduceAdd (mulf (shapeCast _ (extractStridedSlice S16384x1x16x128 ![0, 1, 0, 0] (shapeCast _ (Host.dotGeneral dot_S8x2048x2048_S2048x4096_S8x2048x4096_2_0_01_1_n_n none (mulf (mulf P (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf P P) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x4096 ![0, 0] (shapeCast _ W shapeCasts_S1x2048x6144_S2048x6144) slices_S2048x6144_S2048x4096_0_0)) shapeCasts_S8x2048x4096_S16384x2x16x128) slices_S16384x2x16x128_S16384x1x16x128_0_1_0_0) shapeCasts_S16384x1x16x128_S16384x16x128) (shapeCast _ (extractStridedSlice S16384x1x16x128 ![0, 1, 0, 0] (shapeCast _ (Host.dotGeneral dot_S8x2048x2048_S2048x4096_S8x2048x4096_2_0_01_1_n_n none (mulf (mulf P (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf P P) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x4096 ![0, 0] (shapeCast _ W shapeCasts_S1x2048x6144_S2048x6144) slices_S2048x6144_S2048x4096_0_0)) shapeCasts_S8x2048x4096_S16384x2x16x128) slices_S16384x2x16x128_S16384x1x16x128_0_1_0_0) shapeCasts_S16384x1x16x128_S16384x16x128)) (constant S_ .f32 0x00000000#32) reducesTo_S16384x16x128_S16384x16_d2 h_S_)) (broadcastInDim S16384x16x1 ![] bcast_S_S16384x16x1 (constant S_ .f32 0x43000000#32))) (broadcastInDim S16384x16x1 ![] bcast_S_S16384x16x1 (constant S_ .f32 0x358637BD#32)))))) (broadcastInDim S16384x16x128 ![0, 1, 2] bcast_S1x1x128_S16384x16x128_0_1_2 (broadcastInDim S1x1x128 ![2] bcast_S128_S1x1x128_2 (shapeCast _ Gk shapeCasts_S1x128_S128)))) shapeCasts_S16384x16x128_S16384x2048)⟩] concatenates_S16384x2048_S16384x2048_S16384x4096_d1)⟩, ⟨S1024x4096, (concatenate S1024x4096 1 [⟨S1024x2048, (shapeCast _ (mulf (mulf (shapeCast _ (extractStridedSlice S1024x1x16x128 ![0, 0, 0, 0] (shapeCast _ (Host.dotGeneral dot_S128x8x2048_S2048x4096_S128x8x4096_2_0_01_1_n_n none (mulf (mulf S (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf S S) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x4096 ![0, 0] (shapeCast _ W shapeCasts_S1x2048x6144_S2048x6144) slices_S2048x6144_S2048x4096_0_0)) shapeCasts_S128x8x4096_S1024x2x16x128) slices_S1024x2x16x128_S1024x1x16x128_0_0_0_0) shapeCasts_S1024x1x16x128_S1024x16x128) (broadcastInDim S1024x16x128 ![0, 1, 2] bcast_S1024x16x1_S1024x16x128_0_1_2 (Host.rsqrt (addf (Host.divf (broadcastInDim S1024x16x1 ![0, 1] bcast_S1024x16_S1024x16x1_0_1 (Host.reduceAdd (mulf (shapeCast _ (extractStridedSlice S1024x1x16x128 ![0, 0, 0, 0] (shapeCast _ (Host.dotGeneral dot_S128x8x2048_S2048x4096_S128x8x4096_2_0_01_1_n_n none (mulf (mulf S (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf S S) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x4096 ![0, 0] (shapeCast _ W shapeCasts_S1x2048x6144_S2048x6144) slices_S2048x6144_S2048x4096_0_0)) shapeCasts_S128x8x4096_S1024x2x16x128) slices_S1024x2x16x128_S1024x1x16x128_0_0_0_0) shapeCasts_S1024x1x16x128_S1024x16x128) (shapeCast _ (extractStridedSlice S1024x1x16x128 ![0, 0, 0, 0] (shapeCast _ (Host.dotGeneral dot_S128x8x2048_S2048x4096_S128x8x4096_2_0_01_1_n_n none (mulf (mulf S (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf S S) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x4096 ![0, 0] (shapeCast _ W shapeCasts_S1x2048x6144_S2048x6144) slices_S2048x6144_S2048x4096_0_0)) shapeCasts_S128x8x4096_S1024x2x16x128) slices_S1024x2x16x128_S1024x1x16x128_0_0_0_0) shapeCasts_S1024x1x16x128_S1024x16x128)) (constant S_ .f32 0x00000000#32) reducesTo_S1024x16x128_S1024x16_d2 h_S_)) (broadcastInDim S1024x16x1 ![] bcast_S_S1024x16x1 (constant S_ .f32 0x43000000#32))) (broadcastInDim S1024x16x1 ![] bcast_S_S1024x16x1 (constant S_ .f32 0x358637BD#32)))))) (broadcastInDim S1024x16x128 ![0, 1, 2] bcast_S1x1x128_S1024x16x128_0_1_2 (broadcastInDim S1x1x128 ![2] bcast_S128_S1x1x128_2 (shapeCast _ Gq shapeCasts_S1x128_S128)))) shapeCasts_S1024x16x128_S1024x2048)⟩, ⟨S1024x2048, (shapeCast _ (mulf (mulf (shapeCast _ (extractStridedSlice S1024x1x16x128 ![0, 1, 0, 0] (shapeCast _ (Host.dotGeneral dot_S128x8x2048_S2048x4096_S128x8x4096_2_0_01_1_n_n none (mulf (mulf S (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf S S) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x4096 ![0, 0] (shapeCast _ W shapeCasts_S1x2048x6144_S2048x6144) slices_S2048x6144_S2048x4096_0_0)) shapeCasts_S128x8x4096_S1024x2x16x128) slices_S1024x2x16x128_S1024x1x16x128_0_1_0_0) shapeCasts_S1024x1x16x128_S1024x16x128) (broadcastInDim S1024x16x128 ![0, 1, 2] bcast_S1024x16x1_S1024x16x128_0_1_2 (Host.rsqrt (addf (Host.divf (broadcastInDim S1024x16x1 ![0, 1] bcast_S1024x16_S1024x16x1_0_1 (Host.reduceAdd (mulf (shapeCast _ (extractStridedSlice S1024x1x16x128 ![0, 1, 0, 0] (shapeCast _ (Host.dotGeneral dot_S128x8x2048_S2048x4096_S128x8x4096_2_0_01_1_n_n none (mulf (mulf S (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf S S) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x4096 ![0, 0] (shapeCast _ W shapeCasts_S1x2048x6144_S2048x6144) slices_S2048x6144_S2048x4096_0_0)) shapeCasts_S128x8x4096_S1024x2x16x128) slices_S1024x2x16x128_S1024x1x16x128_0_1_0_0) shapeCasts_S1024x1x16x128_S1024x16x128) (shapeCast _ (extractStridedSlice S1024x1x16x128 ![0, 1, 0, 0] (shapeCast _ (Host.dotGeneral dot_S128x8x2048_S2048x4096_S128x8x4096_2_0_01_1_n_n none (mulf (mulf S (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf S S) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![0, 0] G slices_S2x2048_S1x2048_0_0) shapeCasts_S1x2048_S2048)))) (extractStridedSlice S2048x4096 ![0, 0] (shapeCast _ W shapeCasts_S1x2048x6144_S2048x6144) slices_S2048x6144_S2048x4096_0_0)) shapeCasts_S128x8x4096_S1024x2x16x128) slices_S1024x2x16x128_S1024x1x16x128_0_1_0_0) shapeCasts_S1024x1x16x128_S1024x16x128)) (constant S_ .f32 0x00000000#32) reducesTo_S1024x16x128_S1024x16_d2 h_S_)) (broadcastInDim S1024x16x1 ![] bcast_S_S1024x16x1 (constant S_ .f32 0x43000000#32))) (broadcastInDim S1024x16x1 ![] bcast_S_S1024x16x1 (constant S_ .f32 0x358637BD#32)))))) (broadcastInDim S1024x16x128 ![0, 1, 2] bcast_S1x1x128_S1024x16x128_0_1_2 (broadcastInDim S1x1x128 ![2] bcast_S128_S1x1x128_2 (shapeCast _ Gk shapeCasts_S1x128_S128)))) shapeCasts_S1024x16x128_S1024x2048)⟩] concatenates_S1024x2048_S1024x2048_S1024x4096_d1)⟩] concatenates_S16384x4096_S1024x4096_S17408x4096_d0 : FVec Ideal S17408x4096 .f32) (ix2 r k)
      = qkhead (catRow (fun a b k => P (ix3 a b k)) (fun a b k => S (ix3 a b k)) r) (fun j => G (ix2 0 j)) (fun i j => W (ix3 0 i j)) (fun j => Gq (ix2 0 j)) (fun j => Gk (ix2 0 j)) k := by
  refine (cat_at _ _ r k).trans ?_
  unfold qkhead
  by_cases hr : r.val < 16384
  · rw [dif_pos hr]
    have hx : catRow (fun a b k => P (ix3 a b k)) (fun a b k => S (ix3 a b k)) r = fun j => P (ix3 (⟨r.val / 2048, by omega⟩ : Fin 8) ⟨r.val % 2048, by omega⟩ j) := by
      funext j; unfold catRow; rw [dif_pos hr]
    rw [hx]
    refine (catP_at _ _ _ k).trans ?_
    by_cases hk : k.val < 2048
    · rw [dif_pos hk, if_pos hk]
      refine (headP0_at _ _ _ _).trans ?_
      exact congrArg (fun p => hnorm p _ * _) (funext fun j => mmP_at _ _ _ _ _ _)
    · rw [dif_neg hk, if_neg hk]
      refine (headP1_at _ _ _ _).trans ?_
      refine congrArg₂ (· * ·) (congrArg₂ hnorm (funext fun j => (mmP_at _ _ _ _ _ _).trans (congrArg (proj _ _) (funext fun i => congrArg (fun a => W (ix3 0 i a)) (Fin.ext ?_)))) (Fin.ext ?_)) (congrArg (fun a => Gk (ix2 0 a)) (Fin.ext ?_))
      · show 2048 + (k.val - 2048) / 128 * 128 + j.val = k.val / 128 * 128 + j.val; omega
      · show (k.val - 2048) % 128 = k.val % 128; omega
      · show (k.val - 2048) % 128 = k.val % 128; omega
  · rw [dif_neg hr]
    have hx : catRow (fun a b k => P (ix3 a b k)) (fun a b k => S (ix3 a b k)) r = fun j => S (ix3 (⟨(r.val - 16384) / 8, by omega⟩ : Fin 128) ⟨(r.val - 16384) % 8, by omega⟩ j) := by
      funext j; unfold catRow; rw [dif_neg hr]
    rw [hx]
    refine (catS_at _ _ _ k).trans ?_
    by_cases hk : k.val < 2048
    · rw [dif_pos hk, if_pos hk]
      refine (headS0_at _ _ _ _).trans ?_
      exact congrArg (fun p => hnorm p _ * _) (funext fun j => mmS_at _ _ _ _ _ _)
    · rw [dif_neg hk, if_neg hk]
      refine (headS1_at _ _ _ _).trans ?_
      refine congrArg₂ (· * ·) (congrArg₂ hnorm (funext fun j => (mmS_at _ _ _ _ _ _).trans (congrArg (proj _ _) (funext fun i => congrArg (fun a => W (ix3 0 i a)) (Fin.ext ?_)))) (Fin.ext ?_)) (congrArg (fun a => Gk (ix2 0 a)) (Fin.ext ?_))
      · show 2048 + (k.val - 2048) / 128 * 128 + j.val = k.val / 128 * 128 + j.val; omega
      · show (k.val - 2048) % 128 = k.val % 128; omega
      · show (k.val - 2048) % 128 = k.val % 128; omega

variable (m : (ℓ : Loc nD τ sig) → Buf (Elt Ideal) ℓ)

/-- The rows of prompt and sample. -/
abbrev Xm (c : Dev nD) : Fin 17408 → Fin 2048 → EReal := catRow (fun a b k => (m ((c : Thread nD τ).loc main_arg0) : FVec Ideal S8x2048x2048 .f32) (ix3 a b k))
  (fun a b k => (m ((c : Thread nD τ).loc main_arg1) : FVec Ideal S128x8x2048 .f32) (ix3 a b k))
/-- The mixer's gain. -/
abbrev gm (c : Dev nD) : Fin 2048 → EReal := fun j => (m ((c : Thread nD τ).loc main_arg2) : FVec Ideal S2x2048 .f32) (ix2 0 j)
/-- The weights. -/
abbrev Wm (c : Dev nD) : Fin 2048 → Fin 6144 → EReal := fun i j => (m ((c : Thread nD τ).loc main_arg3) : FVec Ideal S1x2048x6144 .f32) (ix3 0 i j)

/-- The gains of the queries' heads. -/
abbrev qm (c : Dev nD) : Fin 128 → EReal := fun j => (m ((c : Thread nD τ).loc main_arg4) : FVec Ideal S1x128 .f32) (ix2 0 j)
/-- The gains of the keys' heads. -/
abbrev km (c : Dev nD) : Fin 128 → EReal := fun j => (m ((c : Thread nD τ).loc main_arg5) : FVec Ideal S1x128 .f32) (ix2 0 j)

/-- The reference's result array after its run, and its arguments. -/
theorem run_at (ρ : Dev nD → PrngReg) :
    θ_run defs (onTc (τ := τ) (main (F := Ideal))) ⟨m, fun _ => 0, ρ⟩ fun r => ∀ c : Dev nD,
      (r.2.mem ((c.tc : Thread nD τ).loc main_v108) : FVec Ideal S17408x4096 .f32) = (fun i => qkhead (Xm m c (i 0)) (gm m c) (Wm m c) (qm m c) (km m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (funext fun i => by idx_vars i; unfold Value.res_main_v108; exact out_at _ _ _ _ _ _ i0 i1), (h c).2⟩) (Value.run m ρ)

end Cert.QkRefIdeal.Mm

end
-- ==== Proof.QkProjValue.lean ====
/-
  The projection to queries and keys's kernel and reference compute the same array: what every grid point keeps and stores, the result
  after the run, and the claim that compares the two programs.
-/
module

public import proofs.«01_k».proof.Defs
public import Idealize.ShloMosaic.Adequacy
public import Idealize.ShloMosaic.Init
public import Idealize.ShloMosaic.Lib.Quiescent
public import proofs.«01_k».proof.Proof.QkProjBody
public import proofs.«01_k».proof.Proof.QkProjBlocks
public import proofs.«01_k».proof.Proof.QkProjRef

@[expose] public section

set_option maxRecDepth 16384

noncomputable section

namespace Cert.QkProjIdeal.Mm

open Cert.QkProjIdeal Cert.QkProjIdeal.Gen Cert.MmSpec Idealize.ShloMosaic Idealize.ShloMosaic.TcCoe
open Idealize.ShloMosaic.Pipeline (Dat)

variable (m : (ℓ : Loc nD τ sig) → Buf (Elt Ideal) ℓ)

/-- After every point, the scratch holds the point's block of rows, normed. -/
theorem scratch_at (c : Dev nD) (n : ℕ) (hn : n < cfg0.N) (r : Fin 1024) (k : Fin 2048) :
    ((outsAt0 m c n hn).2 : Vec Ideal S1024x2048 .bf16) (ix2 r k) = nrm (Xm m c ⟨1024 * (n / 8) + r.val, by have := lt136 ⟨n, hn⟩; simp only at this; omega⟩) (gm m c) k := by
  induction n with
  | zero =>
    have hA := outsAt0_A m c ⟨0, hn⟩ (Nat.zero_mod _)
    have hB := sout_at c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) r k
    simp only [iblk0_at, iblk1_at] at hB
    dsimp only at hA
    rw [hA]
    exact hB
  | succ n ih =>
    by_cases h0 : (n + 1) % 8 = 0
    · have hA := outsAt0_A m c ⟨n + 1, hn⟩ h0
      have hB := sout_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) r k
      simp only [iblk0_at, iblk1_at] at hB
      dsimp only at hA
      rw [hA]
      exact hB
    · have hA := outsAt0_B m c ⟨n + 1, hn⟩ h0
      dsimp only at hA
      rw [hA]
      refine (ih (by omega)).trans ?_
      have e : (n + 1) / 8 = n / 8 := by omega
      simp only [e]

/-- A block's entry is its column's entry of the row. -/
theorem block_head (x g : Fin 2048 → EReal) (w : Fin 2048 → Fin 6144 → EReal) (gq gk : Fin 128 → EReal) (b : ℕ) (hb : b < 8) (k : Fin 512) :
    hnorm (fun j => proj x g fun a => w a ⟨512 * b + (128 * (k.val / 128) + j.val), by omega⟩) ⟨k.val % 128, by omega⟩
        * (if 512 * b + k.val < 2048 then gq ⟨(512 * b + k.val) % 128, by omega⟩ else gk ⟨(512 * b + k.val) % 128, by omega⟩)
      = qkhead x g w gq gk ⟨512 * b + k.val, by omega⟩ := by
  unfold qkhead
  refine congrArg₂ (· * ·) (congrArg₂ hnorm (funext fun j => congrArg (proj _ _) (funext fun i => congrArg (w i) (Fin.ext ?_))) (Fin.ext ?_)) rfl
  · show 512 * b + (128 * (k.val / 128) + j.val) = (512 * b + k.val) / 128 * 128 + j.val; omega
  · show k.val % 128 = (512 * b + k.val) % 128; omega

/-- Every point stores its block of the queries and keys. -/
theorem block_at (c : Dev nD) (t : Fin cfg0.N) (r : Fin 1024) (k : Fin 512) :
    ((outsAt0 m c t.val t.isLt).1 : Vec Ideal S1024x512 .f32) (ix2 r k)
      = qkhead (Xm m c ⟨1024 * (t.val / 8) + r.val, by have := lt136 t; omega⟩) (gm m c) (Wm m c) (qm m c) (km m c) ⟨512 * (t.val % 8) + k.val, by omega⟩ := by
  rw [← block_head _ _ _ _ _ _ (by omega)]
  by_cases h0 : t.val % 8 = 0
  · have hA := outsAt0_A m c t h0
    have hB := out_at c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t) r k
    simp only [iblk0_at, iblk1_at, iblk2_at, iblk3_at] at hB
    rw [hA]
    dsimp only
    exact hB
  · have hA := outsAt0_B m c t h0
    have hB := outB_at c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2 r k
    simp only [blkQ, scratch_at, iblk2_at, iblk3_at] at hB
    have e : (t.val - 1) / 8 = t.val / 8 := by omega
    simp only [e] at hB
    rw [hA]
    dsimp only
    exact hB

/-- The result array after the run. -/
theorem final (c : Dev nD) : ((dats m 0 c).arrAt 4 cfg0.N : FVec Ideal S17408x4096 .f32)
    = fun i => qkhead (Xm m c (i 0)) (gm m c) (Wm m c) (qm m c) (km m c) (i 1) := by
  refine (dats m 0 c).arrAt_eq_of_covers 4 _ (by decide +kernel) fun t hf y => ?_
  have h136 := lt136 t
  blk_simp
  rw [after0_4]
  idx_vars y
  refine (block_at m c t y0 y1).trans ?_
  have r0 : ((((View.whole main_v19).slice (win0_4.rect t)).emb (ix2 y0 y1) 0 : Fin 17408) : ℕ) = 1024 * (t.val / 8) + y0.val := by blk_simp [idx t]; omega
  have r1 : ((((View.whole main_v19).slice (win0_4.rect t)).emb (ix2 y0 y1) 1 : Fin 4096) : ℕ) = 512 * (t.val % 8) + y1.val := by
    have e1 : win0_4.index t 1 = t.val % 8 := by rw [(idx t).2.2.2.2]; rfl
    blk_simp
    rw [e1]
    omega
  exact congrArg₂ (fun a b => qkhead (Xm m c a) (gm m c) (Wm m c) (qm m c) (km m c) b) (Fin.ext r0.symm) (Fin.ext r1.symm)

end Cert.QkProjIdeal.Mm

namespace Cert.Claims

open Cert.MmSpec Idealize.ShloMosaic Idealize.ShloMosaic.TcCoe Idealize.ShloMosaic.Tactic

/-- The reference frees nothing and leaves its arguments as they were. -/
theorem frame_QkRefIdeal : Cert.quiescent_QkRefIdeal := fun m ρ _ =>
  (θ_run Cert.QkRefIdeal.defs _ _).mono (fun r h => ⟨fun c => (h c).2, sem_eq_zero_of_no_sems (by decide) r.2⟩)
    (Cert.QkRefIdeal.Value.run (F := Ideal) m ρ)

/-- The kernel's array is the reference's. -/
theorem algebraic_Qk : Cert.algebraic_QkProjIdeal_QkRefIdeal := by
  intro m ρ m' ρ' _ hag
  refine ⟨fun c => fun i => MmSpec.qkhead (QkProjIdeal.Mm.Xm m c (i 0)) (QkProjIdeal.Mm.gm m c) (QkProjIdeal.Mm.Wm m c) (QkProjIdeal.Mm.qm m c) (QkProjIdeal.Mm.km m c) (i 1), ?_, ?_⟩
  · refine (θ_run _ _ _).mono (fun r h c => ?_) (QkProjIdeal.Value.run_blocks m ρ)
    obtain ⟨h1, h3⟩ := h c
    exact ⟨h1.trans (QkProjIdeal.Mm.final m c), h3⟩
  · refine (θ_run _ _ _).mono (fun r h c => ?_) (QkRefIdeal.Mm.run_at m' ρ')
    obtain ⟨h1, h3⟩ := h c
    have hX : QkRefIdeal.Mm.Xm m' c = QkProjIdeal.Mm.Xm m c := congrArg₂ catRow (funext fun a => funext fun b => funext fun k => congrFun (hag c).1 (ix3 a b k))
      (funext fun a => funext fun b => funext fun k => congrFun (hag c).2.1 (ix3 a b k))
    have hg : QkRefIdeal.Mm.gm m' c = QkProjIdeal.Mm.gm m c := funext fun j => congrFun (hag c).2.2.1 (ix2 0 j)
    have hW : QkRefIdeal.Mm.Wm m' c = QkProjIdeal.Mm.Wm m c := funext fun i => funext fun j => congrFun (hag c).2.2.2.1 (ix3 0 i j)
    have hq : QkRefIdeal.Mm.qm m' c = QkProjIdeal.Mm.qm m c := funext fun j => congrFun (hag c).2.2.2.2.1 (ix2 0 j)
    have hk : QkRefIdeal.Mm.km m' c = QkProjIdeal.Mm.km m c := funext fun j => congrFun (hag c).2.2.2.2.2 (ix2 0 j)
    refine ⟨h1.trans ?_, h3⟩
    rw [hX, hg, hW, hq, hk]; rfl

end Cert.Claims

end
-- ==== Proof.WoProjBody.lean ====
/-
  The kernel of the output projection: what the body computes from its blocks, entry by entry.
-/
module

public import proofs.«01_k».proof.Proof.Gen.WoProjIdeal.Value
public import proofs.«01_k».proof.Proof.MmSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WoProjIdeal.Mm

open Cert.WoProjIdeal Cert.WoProjIdeal.Gen Cert.MmSpec Idealize.ShloMosaic Idealize.ShloMosaic.TcCoe

/-- A trip's payload is its rows. -/
theorem pay1_at (x : Vec Ideal S64x2048 .f32) (r : Fin 64) (k : Fin 2048) : k0_pay1 x (ix2 r k) = x (ix2 r k) := by
  pointwise [k0_pay1]

/-- The stored block, entry by entry: the product and the residual. -/
theorem pay2_at (x : Vec Ideal S1024x2048 .bf16) (g : Vec Ideal S2048x512 .bf16) (h : Vec Ideal S1024x512 .f32) (r : Fin 1024) (k : Fin 512) :
    k0_pay2 x g h (ix2 r k) = resid (fun j => x (ix2 r j)) (fun j => g (ix2 j k)) (h (ix2 r k)) := by
  unfold resid
  pointwise [k0_pay2]
  exact add_comm _ _

/-- A trip stores one piece: its 64 rows. -/
theorem tripL_eq (𝒱 : Variants) (bd : Option 𝒱.V) (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x2048 .bf16) (harg6 : arg6.IsWhole) (h1 : k0_cond1 i = 1#1) (X2 : BufTy.Contents (Elt Ideal) arg2.view.ty) (k : Fin k0_t1_loop.trips) :
    tripL_k0_t1 (F := Ideal) 𝒱 c bd i arg2 harg2 arg3 harg3 arg4 harg4 arg5 harg5 arg6 harg6 h1 X2 k
      = [⟨Rect.unit (s := S1024x2048) (k0_off1 k) S64x2048.size (k0_off1_inb i k h1),
          k0_pay1 (arg2.view.readAt (Elt Ideal) (Rect.unit (s := S1024x2048) (k0_off1 k) S64x2048.size (k0_off1_inb i k h1)).toLoadRect X2)⟩] := by
  unfold tripL_k0_t1 trip_k0_t1
  rfl

/-- Where row `r` of trip `k`'s piece lies. -/
theorem emb_at (i : grid0.Coords) (h1 : k0_cond1 i = 1#1) (k : Fin k0_t1_loop.trips) (n : ℕ) (hn : k.val = n) (r : Fin 1024) (r' : Fin 64) (hr : r.val = 64 * n + r'.val) (j : Fin 2048) :
    (Rect.unit (s := S1024x2048) (k0_off1 k) S64x2048.size (k0_off1_inb i k h1)).emb (ix2 r' j) = (ix2 r j : S1024x2048.Idx) := by
  have h := k0_off1_eq k
  ext a; fin_cases a
  · show k0_off1 k 0 + 1 * r'.val = r.val
    rw [h]; show 64 * k.val + 1 * r'.val = r.val; omega
  · show k0_off1 k 1 + 1 * j.val = j.val
    rw [h]; show 0 + 1 * j.val = j.val; omega

/-- The rows the trips before `n` leave are the block's. -/
theorem canon_pb (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x2048 .bf16) (harg6 : arg6.IsWhole) (h1 : k0_cond1 i = 1#1) (x0 : Vec Ideal S1024x2048 .f32) (n : ℕ) (hn : n ≤ 16) (r : Fin 1024) (k : Fin 2048) (hr : r.val < 64 * n) :
    View.canon (pb_k0_t1 (F := Ideal) Variants.none c none i arg2 harg2 arg3 harg3 arg4 harg4 arg5 harg5 arg6 harg6 h1 (harg2.unread x0) n) (ix2 r k)
      = x0 (ix2 r k) := by
  induction n with
  | zero => omega
  | succ n ih =>
    have ht : k0_t1_loop.trips = 16 := by decide
    have hs := pb_k0_t1_succ (F := Ideal) Variants.none c none i arg2 harg2 arg3 harg3 arg4 harg4 arg5 harg5 arg6 harg6 h1 (harg2.unread x0) ⟨n, by omega⟩
    rw [tripL_eq] at hs
    rw [hs, List.singleton_append]
    by_cases hlt : r.val < 64 * n
    · rw [View.canon_cons_of_not_mem]
      · exact ih (by omega) hlt
      · intro hm
        have hm : (ix2 r k : S1024x2048.Idx) ∈ (Rect.unit (s := S1024x2048) (k0_off1 ⟨n, by omega⟩) S64x2048.size (k0_off1_inb i ⟨n, by omega⟩ h1)).set := hm
        rw [Rect.mem_set_unit, k0_off1_eq] at hm
        have h0 := (hm 0).1
        have : 64 * n ≤ r.val := h0
        omega
    · have e := emb_at i h1 ⟨n, by omega⟩ n rfl r ⟨r.val - 64 * n, by omega⟩ (by show r.val = 64 * n + (r.val - 64 * n); omega)
      rw [← e k, View.canon_cons_emb, pay1_at]
      rw [View.readAt_apply, harg2.read_unread]
      rfl

/-- Case A leaves the block in the scratch. -/
theorem sout_at (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x2048 .bf16) (harg6 : arg6.IsWhole) (hc0 : cond0_0 i) (x0 : Vec Ideal S1024x2048 .f32) (x1 : Vec Ideal S2048x512 .bf16) (x2 : Vec Ideal S1024x512 .f32) (r : Fin 1024) (k : Fin 2048) :
    sout0_A_0 c i arg2 harg2 arg3 harg3 arg4 harg4 arg5 harg5 arg6 harg6 hc0 x0 x1 x2 (ix2 r k) = x0 (ix2 r k) := by
  frame_open
  frame_out
  exact canon_pb c i arg2 harg2 arg3 harg3 arg4 harg4 arg5 harg5 arg6 harg6 hc0 x0 16 (le_refl _) r k (by omega)

/-- Case A's stored block. -/
theorem out_at (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x2048 .bf16) (harg6 : arg6.IsWhole) (hc0 : cond0_0 i) (x0 : Vec Ideal S1024x2048 .f32) (x1 : Vec Ideal S2048x512 .bf16) (x2 : Vec Ideal S1024x512 .f32) (r : Fin 1024) (k : Fin 512) :
    out0_A_3 c i arg2 harg2 arg3 harg3 arg4 harg4 arg5 harg5 arg6 harg6 hc0 x0 x1 x2 (ix2 r k) = resid (fun j => x0 (ix2 r j)) (fun j => x1 (ix2 j k)) (x2 (ix2 r k)) := by
  frame_open
  try simp (disch := decide) only [↓ View.readCov_skip, ↓ View.readCov_cons_toLoadRect, ↓ View.readCov_fill]
  frame_out
  try simp only [read_unread_whole]
  rw [pay2_at]
  refine congrArg (fun f => resid f (fun j => x1 (ix2 j k)) (x2 (ix2 r k))) (funext fun j => ?_)
  rw [View.readCov_eq_canon']
  refine Eq.trans (congrArg (View.canon _) (?_ : _ = (ix2 r j : S1024x2048.Idx))) (canon_pb c i arg2 harg2 arg3 harg3 arg4 harg4 arg5 harg5 arg6 harg6 hc0 x0 16 (le_refl _) r j (by omega))
  ext a; fin_cases a <;> simp [Rect.idx_unit_val] <;> rfl

/-- Case B's stored block, from the scratch it finds. -/
theorem outB_at (c : Dev nD) (i : grid0.Coords) (arg2 : Memref sig .tc .vmem S1024x2048 .f32) (harg2 : arg2.IsWhole) (arg3 : Memref sig .tc .vmem S2048x512 .bf16) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x2048 .bf16) (harg6 : arg6.IsWhole) (hc0 : ¬cond0_0 i) (x0 : Vec Ideal S1024x2048 .f32) (x1 : Vec Ideal S2048x512 .bf16) (x2 : Vec Ideal S1024x512 .f32) (xs0 : Vec Ideal S1024x2048 .bf16) (r : Fin 1024) (k : Fin 512) :
    out0_B_3 c i arg2 harg2 arg3 harg3 arg4 harg4 arg5 harg5 arg6 harg6 hc0 x0 x1 x2 xs0 (ix2 r k) = resid (fun j => xs0 (ix2 r j)) (fun j => x1 (ix2 j k)) (x2 (ix2 r k)) := by
  frame_open
  try simp (disch := decide) only [↓ View.readCov_skip, ↓ View.readCov_cons_toLoadRect, ↓ View.readCov_fill]
  frame_out
  try simp only [read_unread_whole]
  exact pay2_at xs0 x1 x2 r k

end Cert.WoProjIdeal.Mm

end
-- ==== Proof.WoProjBlocks.lean ====
/-
  The kernel of the output projection: its input blocks at every grid point, and its result array.
-/
module

public import proofs.«01_k».proof.Proof.Gen.WoProjIdeal.Value
public import proofs.«01_k».proof.Proof.MmSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.WoProjIdeal.Mm

open Cert.WoProjIdeal Cert.WoProjIdeal.Gen Cert.MmSpec Idealize.ShloMosaic Idealize.ShloMosaic.TcCoe
open Idealize.ShloMosaic.Pipeline (Dat)

variable (m : (ℓ : Loc nD τ sig) → Buf (Elt Ideal) ℓ)

/-- Every window's block at every grid point. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- The rows to project. -/
abbrev Xm (c : Dev nD) : Fin 17408 → Fin 2048 → EReal := fun i j => (m ((c : Thread nD τ).loc main_arg0) : FVec Ideal S17408x2048 .f32) (ix2 i j)
/-- The rows they are added to. -/
abbrev Hm (c : Dev nD) : Fin 17408 → Fin 2048 → EReal := fun i j => (m ((c : Thread nD τ).loc main_arg1) : FVec Ideal S17408x2048 .f32) (ix2 i j)
/-- The weights. -/
abbrev Wm (c : Dev nD) : Fin 2048 → Fin 2048 → EReal := fun i j => (m ((c : Thread nD τ).loc main_arg2) : FVec Ideal S1x2048x2048 .f32) (ix3 0 i j)

/-- There are 68 grid points. -/
theorem lt_N (t : Fin cfg0.N) : t.val < 68 := lt_of_lt_of_eq t.isLt N_0

/-- A point's rows. -/
theorem iblk0_at (c : Dev nD) (t : Fin cfg0.N) (r : Fin 1024) (k : Fin 2048) :
    (iblk m c 0 t : Vec Ideal S1024x2048 .f32) (ix2 r k) = Xm m c ⟨1024 * (t.val / 4) + r.val, by have := lt_N t; omega⟩ k := by
  blk_ext [iblk, V, idx t]

/-- A point's weights. -/
theorem iblk1_at (c : Dev nD) (t : Fin cfg0.N) (k : Fin 2048) (j : Fin 512) :
    (iblk m c 1 t : Vec Ideal S2048x512 .bf16) (ix2 k j) = Wm m c k ⟨512 * (t.val % 4) + j.val, by omega⟩ := by
  blk_simp [iblk]
  entry_read
  pointwise
  blk_ext [idx t]

/-- A point's block of the rows added to. -/
theorem iblk2_at (c : Dev nD) (t : Fin cfg0.N) (r : Fin 1024) (j : Fin 512) :
    (iblk m c 2 t : Vec Ideal S1024x512 .f32) (ix2 r j) = Hm m c ⟨1024 * (t.val / 4) + r.val, by have := lt_N t; omega⟩ ⟨512 * (t.val % 4) + j.val, by omega⟩ := by
  blk_ext [iblk, V, idx t]

end Cert.WoProjIdeal.Mm

end
-- ==== Proof.WoProjRef.lean ====
/-
  An output projection and its residual as the reference writes them: a row against a column of weights, added to the row's entry.
-/
module

public import proofs.«01_k».proof.Proof.Gen.WoRefIdeal.Run
public import proofs.«01_k».proof.Proof.MmSpec
public import Idealize.ShloMosaic.Lib.Pointwise

@[expose] public section

set_option maxRecDepth 16384

noncomputable section

namespace Cert.WoRefIdeal.Mm

open Cert.WoRefIdeal Cert.WoRefIdeal.Gen Cert.MmSpec Idealize.ShloMosaic Idealize.ShloMosaic.TcCoe

/-- The reference's result, of its arguments' contents. -/
theorem out_at (X : FVec Ideal S17408x2048 .f32) (H : FVec Ideal S17408x2048 .f32) (W : FVec Ideal S1x2048x2048 .f32) (r : Fin 17408) (k : Fin 2048) :
    (addf H (Host.dotGeneral dot_S17408x2048_S2048x2048_S17408x2048_1_0_0_1_n_n none X (shapeCast _ W shapeCasts_S1x2048x2048_S2048x2048)) : FVec Ideal S17408x2048 .f32) (ix2 r k)
      = resid (fun j => X (ix2 r j)) (fun j => W (ix3 0 j k)) (H (ix2 r k)) := by
  unfold resid
  pointwise

variable (m : (ℓ : Loc nD τ sig) → Buf (Elt Ideal) ℓ)

/-- The rows to project. -/
abbrev Xm (c : Dev nD) : Fin 17408 → Fin 2048 → EReal := fun i j => (m ((c : Thread nD τ).loc main_arg0) : FVec Ideal S17408x2048 .f32) (ix2 i j)
/-- The rows they are added to. -/
abbrev Hm (c : Dev nD) : Fin 17408 → Fin 2048 → EReal := fun i j => (m ((c : Thread nD τ).loc main_arg1) : FVec Ideal S17408x2048 .f32) (ix2 i j)
/-- The weights. -/
abbrev Wm (c : Dev nD) : Fin 2048 → Fin 2048 → EReal := fun i j => (m ((c : Thread nD τ).loc main_arg2) : FVec Ideal S1x2048x2048 .f32) (ix3 0 i j)

/-- The reference's result array after its run, and its arguments. -/
theorem run_at (ρ : Dev nD → PrngReg) :
    θ_run defs (onTc (τ := τ) (main (F := Ideal))) ⟨m, fun _ => 0, ρ⟩ fun r => ∀ c : Dev nD,
      (r.2.mem ((c.tc : Thread nD τ).loc main_v2) : FVec Ideal S17408x2048 .f32) = (fun i => resid (Xm m c (i 0)) (fun j => Wm m c j (i 1)) (Hm m c (i 0) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by idx_vars i; exact out_at _ _ _ i0 i1), (h c).2⟩) (Value.run m ρ)

end Cert.WoRefIdeal.Mm

end
-- ==== Proof.WoProjValue.lean ====
/-
  The output projection's kernel and reference compute the same array: what every grid point keeps and stores, the result
  after the run, and the claim that compares the two programs.
-/
module

public import proofs.«01_k».proof.Defs
public import Idealize.ShloMosaic.Adequacy
public import Idealize.ShloMosaic.Init
public import Idealize.ShloMosaic.Lib.Quiescent
public import proofs.«01_k».proof.Proof.WoProjBody
public import proofs.«01_k».proof.Proof.WoProjBlocks
public import proofs.«01_k».proof.Proof.WoProjRef

@[expose] public section

set_option maxRecDepth 16384

noncomputable section

namespace Cert.WoProjIdeal.Mm

open Cert.WoProjIdeal Cert.WoProjIdeal.Gen Cert.MmSpec Idealize.ShloMosaic Idealize.ShloMosaic.TcCoe
open Idealize.ShloMosaic.Pipeline (Dat)

variable (m : (ℓ : Loc nD τ sig) → Buf (Elt Ideal) ℓ)

/-- After every point, the scratch holds the point's block of rows. -/
theorem scratch_at (c : Dev nD) (n : ℕ) (hn : n < cfg0.N) (r : Fin 1024) (k : Fin 2048) :
    ((outsAt0 m c n hn).2 : Vec Ideal S1024x2048 .bf16) (ix2 r k) = (Xm m c ⟨1024 * (n / 4) + r.val, by have := lt_N ⟨n, hn⟩; simp only at this; omega⟩) k := by
  induction n with
  | zero =>
    have hA := outsAt0_A m c ⟨0, hn⟩ (Nat.zero_mod _)
    have hB := sout_at c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) r k
    simp only [iblk0_at] at hB
    dsimp only at hA
    rw [hA]
    exact hB
  | succ n ih =>
    by_cases h0 : (n + 1) % 4 = 0
    · have hA := outsAt0_A m c ⟨n + 1, hn⟩ h0
      have hB := sout_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) r k
      simp only [iblk0_at] at hB
      dsimp only at hA
      rw [hA]
      exact hB
    · have hA := outsAt0_B m c ⟨n + 1, hn⟩ h0
      dsimp only at hA
      rw [hA]
      refine (ih (by omega)).trans ?_
      have e : (n + 1) / 4 = n / 4 := by omega
      simp only [e]

/-- Every point stores its block of the projection. -/
theorem block_at (c : Dev nD) (t : Fin cfg0.N) (r : Fin 1024) (k : Fin 512) :
    ((outsAt0 m c t.val t.isLt).1 : Vec Ideal S1024x512 .f32) (ix2 r k)
      = resid (Xm m c ⟨1024 * (t.val / 4) + r.val, by have := lt_N t; omega⟩) (fun j => Wm m c j ⟨512 * (t.val % 4) + k.val, by omega⟩) (Hm m c ⟨1024 * (t.val / 4) + r.val, by have := lt_N t; omega⟩ ⟨512 * (t.val % 4) + k.val, by omega⟩) := by
  by_cases h0 : t.val % 4 = 0
  · have hA := outsAt0_A m c t h0
    have hB := out_at c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t) r k
    simp only [iblk0_at, iblk1_at, iblk2_at] at hB
    rw [hA]
    dsimp only
    exact hB
  · have hA := outsAt0_B m c t h0
    have hB := outB_at c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2 r k
    simp only [scratch_at, iblk1_at, iblk2_at] at hB
    have e : (t.val - 1) / 4 = t.val / 4 := by omega
    simp only [e] at hB
    rw [hA]
    dsimp only
    exact hB

/-- The result array after the run. -/
theorem final (c : Dev nD) : ((dats m 0 c).arrAt 3 cfg0.N : FVec Ideal S17408x2048 .f32)
    = fun i => resid (Xm m c (i 0)) (fun j => Wm m c j (i 1)) (Hm m c (i 0) (i 1)) := by
  refine (dats m 0 c).arrAt_eq_of_covers 3 _ (by decide +kernel) fun t hf y => ?_
  have hN := lt_N t
  blk_simp
  rw [after0_3]
  idx_vars y
  refine (block_at m c t y0 y1).trans ?_
  have r0 : ((((View.whole main_v2).slice (win0_3.rect t)).emb (ix2 y0 y1) 0 : Fin 17408) : ℕ) = 1024 * (t.val / 4) + y0.val := by blk_simp [idx t]; omega
  have r1 : ((((View.whole main_v2).slice (win0_3.rect t)).emb (ix2 y0 y1) 1 : Fin 2048) : ℕ) = 512 * (t.val % 4) + y1.val := by
    have e1 : win0_3.index t 1 = t.val % 4 := by rw [(idx t).2.2.2]; rfl
    blk_simp
    rw [e1]
    omega
  exact congrArg₂ (fun a b => resid (Xm m c a) (fun j => Wm m c j b) (Hm m c a b)) (Fin.ext r0.symm) (Fin.ext r1.symm)

end Cert.WoProjIdeal.Mm

namespace Cert.Claims

open Cert.MmSpec Idealize.ShloMosaic Idealize.ShloMosaic.TcCoe Idealize.ShloMosaic.Tactic

/-- The reference frees nothing and leaves its arguments as they were. -/
theorem frame_WoRefIdeal : Cert.quiescent_WoRefIdeal := fun m ρ _ =>
  (θ_run Cert.WoRefIdeal.defs _ _).mono (fun r h => ⟨fun c => (h c).2, sem_eq_zero_of_no_sems (by decide) r.2⟩)
    (Cert.WoRefIdeal.Value.run (F := Ideal) m ρ)

/-- The kernel's array is the reference's. -/
theorem algebraic_Wo : Cert.algebraic_WoProjIdeal_WoRefIdeal := by
  intro m ρ m' ρ' _ hag
  refine ⟨fun c => fun i => MmSpec.resid (WoProjIdeal.Mm.Xm m c (i 0)) (fun j => WoProjIdeal.Mm.Wm m c j (i 1)) (WoProjIdeal.Mm.Hm m c (i 0) (i 1)), ?_, ?_⟩
  · refine (θ_run _ _ _).mono (fun r h c => ?_) (WoProjIdeal.Value.run_blocks m ρ)
    obtain ⟨h1, h3⟩ := h c
    exact ⟨h1.trans (WoProjIdeal.Mm.final m c), h3⟩
  · refine (θ_run _ _ _).mono (fun r h c => ?_) (WoRefIdeal.Mm.run_at m' ρ')
    obtain ⟨h1, h3⟩ := h c
    have hX : WoRefIdeal.Mm.Xm m' c = WoProjIdeal.Mm.Xm m c := funext fun i => funext fun j => congrFun (hag c).1 (ix2 i j)
    have hH : WoRefIdeal.Mm.Hm m' c = WoProjIdeal.Mm.Hm m c := funext fun i => funext fun j => congrFun (hag c).2.1 (ix2 i j)
    have hW : WoRefIdeal.Mm.Wm m' c = WoProjIdeal.Mm.Wm m c := funext fun i => funext fun j => congrFun (hag c).2.2 (ix3 0 i j)
    refine ⟨h1.trans ?_, h3⟩
    rw [hX, hH, hW]; rfl

end Cert.Claims

end
-- ==== Proof.VgProjBody.lean ====
/-
  The kernel of the retention's projection of values and gates: what the body computes from its blocks, entry by entry.
-/
module

public import proofs.«01_k».proof.Proof.Gen.VgProjIdeal.Value
public import proofs.«01_k».proof.Proof.MmSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.VgProjIdeal.Mm

open Cert.VgProjIdeal Cert.VgProjIdeal.Gen Cert.MmSpec Idealize.ShloMosaic Idealize.ShloMosaic.TcCoe

/-- A trip's payload is its rows, normed. -/
theorem pay1_at (x : Vec Ideal S64x2048 .f32) (g : Vec Ideal S1x2048 .f32) (r : Fin 64) (k : Fin 2048) :
    k0_pay1 x g (ix2 r k) = nrm (fun j => x (ix2 r j)) (fun j => g (ix2 0 j)) k := by
  unfold nrm
  pointwise [k0_pay1]

/-- The stored product, entry by entry. -/
theorem pay2_at (x : Vec Ideal S1024x2048 .bf16) (g : Vec Ideal S2048x512 .bf16) (r : Fin 1024) (k : Fin 512) :
    k0_pay2 x g (ix2 r k) = ∑ j, x (ix2 r j) * g (ix2 j k) := by
  pointwise [k0_pay2]

/-- A trip stores one piece: its 64 rows, normed. -/
theorem tripL_eq (𝒱 : Variants) (bd : Option 𝒱.V) (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x2048 .bf16) (harg6 : arg6.IsWhole) (h1 : k0_cond1 i = 1#1) (X2 : BufTy.Contents (Elt Ideal) arg2.view.ty) (X3 : BufTy.Contents (Elt Ideal) arg3.view.ty) (k : Fin k0_t1_loop.trips) :
    tripL_k0_t1 (F := Ideal) 𝒱 c bd i arg2 harg2 arg3 harg3 arg4 harg4 arg5 harg5 arg6 harg6 h1 X2 X3 k
      = [⟨Rect.unit (s := S1024x2048) (k0_off1 k) S64x2048.size (k0_off1_inb i k h1),
          k0_pay1 (arg2.view.readAt (Elt Ideal) (Rect.unit (s := S1024x2048) (k0_off1 k) S64x2048.size (k0_off1_inb i k h1)).toLoadRect X2)
            (arg3.view.readAt (Elt Ideal) (Rect.unit (s := S1x2048) ![0, 0] S1x2048.size inb_S1x2048_S1x2048_0_0).toLoadRect X3)⟩] := by
  unfold tripL_k0_t1 trip_k0_t1
  rfl

/-- Where row `r` of trip `k`'s piece lies. -/
theorem emb_at (i : grid0.Coords) (h1 : k0_cond1 i = 1#1) (k : Fin k0_t1_loop.trips) (n : ℕ) (hn : k.val = n) (r : Fin 1024) (r' : Fin 64) (hr : r.val = 64 * n + r'.val) (j : Fin 2048) :
    (Rect.unit (s := S1024x2048) (k0_off1 k) S64x2048.size (k0_off1_inb i k h1)).emb (ix2 r' j) = (ix2 r j : S1024x2048.Idx) := by
  have h := k0_off1_eq k
  ext a; fin_cases a
  · show k0_off1 k 0 + 1 * r'.val = r.val
    rw [h]; show 64 * k.val + 1 * r'.val = r.val; omega
  · show k0_off1 k 1 + 1 * j.val = j.val
    rw [h]; show 0 + 1 * j.val = j.val; omega

/-- The rows the trips before `n` leave are the block's, normed. -/
theorem canon_pb (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x2048 .bf16) (harg6 : arg6.IsWhole) (h1 : k0_cond1 i = 1#1) (x0 : Vec Ideal S1024x2048 .f32) (x1 : Vec Ideal S1x2048 .f32) (n : ℕ) (hn : n ≤ 16) (r : Fin 1024) (k : Fin 2048) (hr : r.val < 64 * n) :
    View.canon (pb_k0_t1 (F := Ideal) Variants.none c none i arg2 harg2 arg3 harg3 arg4 harg4 arg5 harg5 arg6 harg6 h1 (harg2.unread x0) (harg3.unread x1) n) (ix2 r k)
      = nrm (fun j => x0 (ix2 r j)) (fun j => x1 (ix2 0 j)) k := by
  induction n with
  | zero => omega
  | succ n ih =>
    have ht : k0_t1_loop.trips = 16 := by decide
    have hs := pb_k0_t1_succ (F := Ideal) Variants.none c none i arg2 harg2 arg3 harg3 arg4 harg4 arg5 harg5 arg6 harg6 h1 (harg2.unread x0) (harg3.unread x1) ⟨n, by omega⟩
    rw [tripL_eq] at hs
    rw [hs, List.singleton_append]
    by_cases hlt : r.val < 64 * n
    · rw [View.canon_cons_of_not_mem]
      · exact ih (by omega) hlt
      · intro hm
        have hm : (ix2 r k : S1024x2048.Idx) ∈ (Rect.unit (s := S1024x2048) (k0_off1 ⟨n, by omega⟩) S64x2048.size (k0_off1_inb i ⟨n, by omega⟩ h1)).set := hm
        rw [Rect.mem_set_unit, k0_off1_eq] at hm
        have h0 := (hm 0).1
        have : 64 * n ≤ r.val := h0
        omega
    · have e := emb_at i h1 ⟨n, by omega⟩ n rfl r ⟨r.val - 64 * n, by omega⟩ (by show r.val = 64 * n + (r.val - 64 * n); omega)
      rw [← e k, View.canon_cons_emb, pay1_at]
      have f0 : (fun j => arg2.view.readAt (Elt Ideal) (Rect.unit (s := S1024x2048) (k0_off1 ⟨n, by omega⟩) S64x2048.size (k0_off1_inb i ⟨n, by omega⟩ h1)).toLoadRect (harg2.unread x0) (ix2 (⟨r.val - 64 * n, by omega⟩ : Fin 64) j)) = fun j => x0 (ix2 r j) :=
        funext fun j => by rw [View.readAt_apply, harg2.read_unread]; exact congrArg x0 (e j)
      have f1 : (fun j => arg3.view.readAt (Elt Ideal) (Rect.unit (s := S1x2048) ![0, 0] S1x2048.size inb_S1x2048_S1x2048_0_0).toLoadRect (harg3.unread x1) (ix2 0 j)) = fun j => x1 (ix2 0 j) :=
        funext fun j => by
          rw [View.readAt_apply, harg3.read_unread]
          refine congrArg x1 ?_
          ext a; fin_cases a <;> simp [Rect.idx_unit_val] <;> rfl
      exact congrArg₂ (fun a b => nrm a b k) f0 f1

/-- Case A leaves the normed block in the scratch. -/
theorem sout_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x2048 .bf16) (harg6 : arg6.IsWhole) (hc0 : cond0_0 i) (x0 : Vec Ideal S1024x2048 .f32) (x1 : Vec Ideal S1x2048 .f32) (x2 : Vec Ideal S2048x512 .bf16) (r : Fin 1024) (k : Fin 2048) :
    sout0_A_0 c i arg2 harg2 arg3 harg3 arg4 harg4 arg5 harg5 arg6 harg6 hc0 x0 x1 x2 (ix2 r k) = nrm (fun j => x0 (ix2 r j)) (fun j => x1 (ix2 0 j)) k := by
  frame_open
  frame_out
  exact canon_pb c i arg2 harg2 arg3 harg3 arg4 harg4 arg5 harg5 arg6 harg6 hc0 x0 x1 16 (le_refl _) r k (by omega)

/-- Case A's stored block. -/
theorem out_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x2048 .bf16) (harg6 : arg6.IsWhole) (hc0 : cond0_0 i) (x0 : Vec Ideal S1024x2048 .f32) (x1 : Vec Ideal S1x2048 .f32) (x2 : Vec Ideal S2048x512 .bf16) (r : Fin 1024) (k : Fin 512) :
    out0_A_3 c i arg2 harg2 arg3 harg3 arg4 harg4 arg5 harg5 arg6 harg6 hc0 x0 x1 x2 (ix2 r k) = proj (fun j => x0 (ix2 r j)) (fun j => x1 (ix2 0 j)) (fun j => x2 (ix2 j k)) := by
  frame_open
  try simp (disch := decide) only [↓ View.readCov_skip, ↓ View.readCov_cons_toLoadRect, ↓ View.readCov_fill]
  frame_out
  try simp only [read_unread_whole]
  rw [pay2_at]
  unfold proj
  refine Finset.sum_congr rfl fun j _ => congrArg (· * x2 (ix2 j k)) ?_
  rw [View.readCov_eq_canon']
  refine Eq.trans (congrArg (View.canon _) (?_ : _ = (ix2 r j : S1024x2048.Idx))) (canon_pb c i arg2 harg2 arg3 harg3 arg4 harg4 arg5 harg5 arg6 harg6 hc0 x0 x1 16 (le_refl _) r j (by omega))
  ext a; fin_cases a <;> simp [Rect.idx_unit_val] <;> rfl

/-- Case B's stored block, from the scratch it finds. -/
theorem outB_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x512 .f32) (harg5 : arg5.IsWhole) (arg6 : Memref sig .tc .vmem S1024x2048 .bf16) (harg6 : arg6.IsWhole) (hc0 : ¬cond0_0 i) (x0 : Vec Ideal S1024x2048 .f32) (x1 : Vec Ideal S1x2048 .f32) (x2 : Vec Ideal S2048x512 .bf16) (xs0 : Vec Ideal S1024x2048 .bf16) (r : Fin 1024) (k : Fin 512) :
    out0_B_3 c i arg2 harg2 arg3 harg3 arg4 harg4 arg5 harg5 arg6 harg6 hc0 x0 x1 x2 xs0 (ix2 r k) = ∑ j, xs0 (ix2 r j) * x2 (ix2 j k) := by
  frame_open
  try simp (disch := decide) only [↓ View.readCov_skip, ↓ View.readCov_cons_toLoadRect, ↓ View.readCov_fill]
  frame_out
  try simp only [read_unread_whole]
  exact pay2_at xs0 x2 r k

end Cert.VgProjIdeal.Mm

end
-- ==== Proof.VgProjBlocks.lean ====
/-
  The kernel of the retention's projection of values and gates: its input blocks at every grid point, and its result array.
-/
module

public import proofs.«01_k».proof.Proof.Gen.VgProjIdeal.Value
public import proofs.«01_k».proof.Proof.MmSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.VgProjIdeal.Mm

open Cert.VgProjIdeal Cert.VgProjIdeal.Gen Cert.MmSpec Idealize.ShloMosaic Idealize.ShloMosaic.TcCoe
open Idealize.ShloMosaic.Pipeline (Dat)

variable (m : (ℓ : Loc nD τ sig) → Buf (Elt Ideal) ℓ)

/-- Every window's block at every grid point. -/
theorem idx : ∀ t : Fin cfg0.N, win0_0.index t = ![t.val / 16, 0] ∧ win0_1.index t = ![0, 0]
    ∧ win0_2.index t = ![0, t.val % 16] ∧ win0_3.index t = ![t.val / 16, t.val % 16] :=
  (by decide +kernel : ∀ t : Fin grid0.N, _)

/-- The rows. -/
abbrev Xm (c : Dev nD) : Fin 17408 → Fin 2048 → EReal := fun i j => (m ((c : Thread nD τ).loc main_arg0) : FVec Ideal S17408x2048 .f32) (ix2 i j)
/-- The mixer's gain. -/
abbrev gm (c : Dev nD) : Fin 2048 → EReal := fun j => (m ((c : Thread nD τ).loc main_arg1) : FVec Ideal S2x2048 .f32) (ix2 1 j)
/-- The weights. -/
abbrev Wm (c : Dev nD) : Fin 2048 → Fin 12288 → EReal := fun i j => (m ((c : Thread nD τ).loc main_arg2) : FVec Ideal S1x2048x12288 .f32) (ix3 0 i j)

/-- The grid has 272 points. -/
theorem lt272 (t : Fin cfg0.N) : t.val < 272 := lt_of_lt_of_eq t.isLt N_0

/-- The block of input rows. -/
theorem iblk0_at (c : Dev nD) (t : Fin cfg0.N) (r : Fin 1024) (k : Fin 2048) :
    (iblk m c 0 t : Vec Ideal S1024x2048 .f32) (ix2 r k) = Xm m c ⟨1024 * (t.val / 16) + r.val, by have := lt272 t; omega⟩ k := by
  blk_ext [iblk, V, idx t]

/-- The block of gains. -/
theorem iblk1_at (c : Dev nD) (t : Fin cfg0.N) (k : Fin 2048) :
    (iblk m c 1 t : Vec Ideal S1x2048 .f32) (ix2 0 k) = gm m c k := by
  blk_simp [iblk]
  entry_read
  pointwise
  blk_ext [idx t]

/-- The block of weights. -/
theorem iblk2_at (c : Dev nD) (t : Fin cfg0.N) (k : Fin 2048) (j : Fin 512) :
    (iblk m c 2 t : Vec Ideal S2048x512 .bf16) (ix2 k j) = Wm m c k ⟨4096 + 512 * (t.val % 16) + j.val, by omega⟩ := by
  blk_simp [iblk]
  entry_read
  pointwise
  blk_ext [idx t]

end Cert.VgProjIdeal.Mm

end
-- ==== Proof.VgProjRef.lean ====
/-
  The values-and-gates projection as the reference writes it: each entry is a normed row against a column of weights.
-/
module

public import proofs.«01_k».proof.Proof.Gen.VgRefIdeal.Run
public import proofs.«01_k».proof.Proof.MmSpec
public import Idealize.ShloMosaic.Lib.Pointwise

@[expose] public section

set_option maxRecDepth 16384

noncomputable section

namespace Cert.VgRefIdeal.Mm

open Cert.VgRefIdeal Cert.VgRefIdeal.Gen Cert.MmSpec Idealize.ShloMosaic Idealize.ShloMosaic.TcCoe

/-- The reference's result, of its arguments' contents. -/
theorem out_at (X : FVec Ideal S17408x2048 .f32) (G : FVec Ideal S2x2048 .f32) (W : FVec Ideal S1x2048x12288 .f32) (r : Fin 17408) (k : Fin 8192) :
    (Host.dotGeneral dot_S17408x2048_S2048x8192_S17408x8192_1_0_0_1_n_n none (mulf (mulf X (broadcastInDim S17408x2048 ![0, 1] bcast_S17408x1_S17408x2048_0_1 (Host.rsqrt (addf (Host.divf (broadcastInDim S17408x1 ![0] bcast_S17408_S17408x1_0 (Host.reduceAdd (mulf X X) (constant S_ .f32 0x00000000#32) reducesTo_S17408x2048_S17408_d1 h_S_)) (broadcastInDim S17408x1 ![] bcast_S_S17408x1 (constant S_ .f32 0x45000000#32))) (broadcastInDim S17408x1 ![] bcast_S_S17408x1 (constant S_ .f32 0x358637BD#32)))))) (broadcastInDim S17408x2048 ![0, 1] bcast_S1x2048_S17408x2048_0_1 (broadcastInDim S1x2048 ![1] bcast_S2048_S1x2048_1 (shapeCast _ (extractStridedSlice S1x2048 ![1, 0] G slices_S2x2048_S1x2048_1_0) shapeCasts_S1x2048_S2048)))) (extractStridedSlice S2048x8192 ![0, 4096] (shapeCast _ W shapeCasts_S1x2048x12288_S2048x12288) slices_S2048x12288_S2048x8192_0_4096) : FVec Ideal S17408x8192 .f32) (ix2 r k)
      = proj (fun j => X (ix2 r j)) (fun j => G (ix2 1 j)) (fun j => W (ix3 0 j ⟨4096 + k.val, by omega⟩)) := by
  unfold proj nrm
  pointwise

variable (m : (ℓ : Loc nD τ sig) → Buf (Elt Ideal) ℓ)

/-- The rows. -/
abbrev Xm (c : Dev nD) : Fin 17408 → Fin 2048 → EReal := fun i j => (m ((c : Thread nD τ).loc main_arg0) : FVec Ideal S17408x2048 .f32) (ix2 i j)
/-- The mixer's gain. -/
abbrev gm (c : Dev nD) : Fin 2048 → EReal := fun j => (m ((c : Thread nD τ).loc main_arg1) : FVec Ideal S2x2048 .f32) (ix2 1 j)
/-- The weights. -/
abbrev Wm (c : Dev nD) : Fin 2048 → Fin 12288 → EReal := fun i j => (m ((c : Thread nD τ).loc main_arg2) : FVec Ideal S1x2048x12288 .f32) (ix3 0 i j)

/-- The reference's result array after its run, and its arguments. -/
theorem run_at (ρ : Dev nD → PrngReg) :
    θ_run defs (onTc (τ := τ) (main (F := Ideal))) ⟨m, fun _ => 0, ρ⟩ fun r => ∀ c : Dev nD,
      (r.2.mem ((c.tc : Thread nD τ).loc main_v17) : FVec Ideal S17408x8192 .f32) = (fun i => proj (Xm m c (i 0)) (gm m c) (fun j => Wm m c j ⟨4096 + (i 1).val, by have : (i 1).val < 8192 := (i 1).isLt; omega⟩))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by idx_vars i; exact out_at _ _ _ i0 i1), (h c).2⟩) (Value.run m ρ)

end Cert.VgRefIdeal.Mm

end
-- ==== Proof.VgProjValue.lean ====
/-
  The values-and-gates projection's kernel and reference compute the same array: what every grid point keeps and stores, the result
  after the run, and the claim that compares the two programs.
-/
module

public import proofs.«01_k».proof.Defs
public import Idealize.ShloMosaic.Adequacy
public import Idealize.ShloMosaic.Init
public import Idealize.ShloMosaic.Lib.Quiescent
public import proofs.«01_k».proof.Proof.VgProjBody
public import proofs.«01_k».proof.Proof.VgProjBlocks
public import proofs.«01_k».proof.Proof.VgProjRef

@[expose] public section

set_option maxRecDepth 16384

noncomputable section

namespace Cert.VgProjIdeal.Mm

open Cert.VgProjIdeal Cert.VgProjIdeal.Gen Cert.MmSpec Idealize.ShloMosaic Idealize.ShloMosaic.TcCoe
open Idealize.ShloMosaic.Pipeline (Dat)

variable (m : (ℓ : Loc nD τ sig) → Buf (Elt Ideal) ℓ)

/-- After every point, the scratch holds the point's block of rows, normed. -/
theorem scratch_at (c : Dev nD) (n : ℕ) (hn : n < cfg0.N) (r : Fin 1024) (k : Fin 2048) :
    ((outsAt0 m c n hn).2 : Vec Ideal S1024x2048 .bf16) (ix2 r k) = nrm (Xm m c ⟨1024 * (n / 16) + r.val, by have := lt272 ⟨n, hn⟩; simp only at this; omega⟩) (gm m c) k := by
  induction n with
  | zero =>
    have hA := outsAt0_A m c ⟨0, hn⟩ (Nat.zero_mod _)
    have hB := sout_at c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) r k
    simp only [iblk0_at, iblk1_at] at hB
    dsimp only at hA
    rw [hA]
    exact hB
  | succ n ih =>
    by_cases h0 : (n + 1) % 16 = 0
    · have hA := outsAt0_A m c ⟨n + 1, hn⟩ h0
      have hB := sout_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) r k
      simp only [iblk0_at, iblk1_at] at hB
      dsimp only at hA
      rw [hA]
      exact hB
    · have hA := outsAt0_B m c ⟨n + 1, hn⟩ h0
      dsimp only at hA
      rw [hA]
      refine (ih (by omega)).trans ?_
      have e : (n + 1) / 16 = n / 16 := by omega
      simp only [e]

/-- Every point stores its block of the projection. -/
theorem block_at (c : Dev nD) (t : Fin cfg0.N) (r : Fin 1024) (k : Fin 512) :
    ((outsAt0 m c t.val t.isLt).1 : Vec Ideal S1024x512 .f32) (ix2 r k)
      = proj (Xm m c ⟨1024 * (t.val / 16) + r.val, by have := lt272 t; omega⟩) (gm m c) (fun j => Wm m c j ⟨4096 + 512 * (t.val % 16) + k.val, by omega⟩) := by
  by_cases h0 : t.val % 16 = 0
  · have hA := outsAt0_A m c t h0
    have hB := out_at c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t) r k
    simp only [iblk0_at, iblk1_at, iblk2_at] at hB
    rw [hA]
    dsimp only
    exact hB
  · have hA := outsAt0_B m c t h0
    have hB := outB_at c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2 r k
    simp only [scratch_at, iblk2_at] at hB
    have e : (t.val - 1) / 16 = t.val / 16 := by omega
    simp only [e] at hB
    rw [hA]
    dsimp only
    exact hB

/-- The result array after the run. -/
theorem final (c : Dev nD) : ((dats m 0 c).arrAt 3 cfg0.N : FVec Ideal S17408x8192 .f32)
    = fun i => proj (Xm m c (i 0)) (gm m c) (fun j => Wm m c j ⟨4096 + (i 1).val, by have : (i 1).val < 8192 := (i 1).isLt; omega⟩) := by
  refine (dats m 0 c).arrAt_eq_of_covers 3 _ (by decide +kernel) fun t hf y => ?_
  have h272 := lt272 t
  blk_simp
  rw [after0_3]
  idx_vars y
  refine (block_at m c t y0 y1).trans ?_
  have r0 : ((((View.whole main_v6).slice (win0_3.rect t)).emb (ix2 y0 y1) 0 : Fin 17408) : ℕ) = 1024 * (t.val / 16) + y0.val := by blk_simp [idx t]; omega
  have e1 : win0_3.index t 1 = t.val % 16 := by rw [(idx t).2.2.2]; rfl
  have r2 : 4096 + 512 * (t.val % 16) + y1.val = 4096 + (win0_3.index t 1 * 512 + y1.val) := by rw [e1]; omega
  exact congrArg₂ (fun a b => proj (Xm m c a) (gm m c) fun j => Wm m c j b) (Fin.ext r0.symm) (Fin.ext r2)

end Cert.VgProjIdeal.Mm

namespace Cert.Claims

open Cert.MmSpec Idealize.ShloMosaic Idealize.ShloMosaic.TcCoe Idealize.ShloMosaic.Tactic

/-- The reference frees nothing and leaves its arguments as they were. -/
theorem frame_VgRefIdeal : Cert.quiescent_VgRefIdeal := fun m ρ _ =>
  (θ_run Cert.VgRefIdeal.defs _ _).mono (fun r h => ⟨fun c => (h c).2, sem_eq_zero_of_no_sems (by decide) r.2⟩)
    (Cert.VgRefIdeal.Value.run (F := Ideal) m ρ)

/-- The kernel's array is the reference's. -/
theorem algebraic_Vg : Cert.algebraic_VgProjIdeal_VgRefIdeal := by
  intro m ρ m' ρ' _ hag
  refine ⟨fun c => fun i => MmSpec.proj (VgProjIdeal.Mm.Xm m c (i 0)) (VgProjIdeal.Mm.gm m c) (fun j => VgProjIdeal.Mm.Wm m c j ⟨4096 + (i 1).val, by have : (i 1).val < 8192 := (i 1).isLt; omega⟩), ?_, ?_⟩
  · refine (θ_run _ _ _).mono (fun r h c => ?_) (VgProjIdeal.Value.run_blocks m ρ)
    obtain ⟨h1, h3⟩ := h c
    exact ⟨h1.trans (VgProjIdeal.Mm.final m c), h3⟩
  · refine (θ_run _ _ _).mono (fun r h c => ?_) (VgRefIdeal.Mm.run_at m' ρ')
    obtain ⟨h1, h3⟩ := h c
    have hX : VgRefIdeal.Mm.Xm m' c = VgProjIdeal.Mm.Xm m c := funext fun i => funext fun j => congrFun (hag c).1 (ix2 i j)
    have hg : VgRefIdeal.Mm.gm m' c = VgProjIdeal.Mm.gm m c := funext fun j => congrFun (hag c).2.1 (ix2 1 j)
    have hW : VgRefIdeal.Mm.Wm m' c = VgProjIdeal.Mm.Wm m c := funext fun i => funext fun j => congrFun (hag c).2.2 (ix3 0 i j)
    refine ⟨h1.trans ?_, h3⟩
    rw [hX, hg, hW]; rfl

end Cert.Claims

end
-- ==== Proof.RopeSpec.lean ====
/-
  The retention's queries and keys as plain functions of their rows' values: the rotary embedding of a head and the scale
  of the keys. The kernel's programs and the reference's meet at these definitions.
-/
module

public import proofs.«01_k».proof.Proof.MmSpec

@[expose] public section

noncomputable section

namespace Cert.MmSpec

open Idealize.ShloMosaic

/-- A head's 256 entries `p` turned through the angles whose cosines are `c` and whose sines are `s`: entry `i` of the
    first half and entry `i` of the second are the two coordinates that angle `i` turns. -/
def turn (p : Fin 256 → EReal) (c s : Fin 128 → EReal) (j : Fin 256) : EReal :=
  if h : j.val < 128 then p ⟨j.val, by omega⟩ * c ⟨j.val, h⟩ - p ⟨128 + j.val, by omega⟩ * s ⟨j.val, h⟩
  else p ⟨j.val - 128, by omega⟩ * s ⟨j.val - 128, by omega⟩ + p j * c ⟨j.val - 128, by omega⟩

/-- The first half of a turned head. -/
theorem turn_lo (p : Fin 256 → EReal) (c s : Fin 128 → EReal) (j : Fin 256) (i : Fin 128) (h : j.val = i.val) :
    turn p c s j = p ⟨i.val, by omega⟩ * c i - p ⟨128 + i.val, by omega⟩ * s i := by
  unfold turn
  rw [dif_pos (by omega)]
  simp only [h]

/-- The second half of a turned head. -/
theorem turn_hi (p : Fin 256 → EReal) (c s : Fin 128 → EReal) (j : Fin 256) (i : Fin 128) (h : j.val = 128 + i.val) :
    turn p c s j = p ⟨i.val, by omega⟩ * s i + p ⟨128 + i.val, by omega⟩ * c i := by
  unfold turn
  rw [dif_neg (by omega)]
  have e : j.val - 128 = i.val := by omega
  have e' : j = (⟨128 + i.val, by omega⟩ : Fin 256) := Fin.ext h
  simp only [e]
  exact congrArg (fun a => _ + p a * _) e'

/-- The angle of position `b` and coordinate pair `i`: the position times `10000` to the power `-i/128`. -/
def ang (b : BitVec 32) (i : Fin 128) : EReal :=
  FloatOps.sitofp (F := Ideal) .f32 b
    * Ideal.pow (Ideal.ofBits FTy.f32 0x461C4000#32) (Ideal.div (-(FloatOps.sitofp (F := Ideal) .f32 (BitVec.ofNat 32 i.val))) (Ideal.ofBits FTy.f32 0x43000000#32))

/-- The position of a row: its index in its sequence, after the 2048 past positions for a row of the sample. -/
def posn (r : Fin 17408) : BitVec 32 :=
  if r.val < 16384 then BitVec.ofNat 32 (r.val % 2048) else 2048#32 + BitVec.ofNat 32 ((r.val - 16384) % 8)

/-- The scale of an entry of a row: one of a query, a sixteenth of a key. -/
def kscale (k : Fin 4096) : EReal := if k.val < 2048 then 1 else Ideal.ofBits FTy.f32 0x3D800000#32

/-- Entry `k` of a row of queries and keys: its head of the projected row, turned through the angles of the row's
    position, times the scale. -/
def ropehead (x gain : Fin 2048 → EReal) (w : Fin 2048 → Fin 12288 → EReal) (b : BitVec 32) (k : Fin 4096) : EReal :=
  turn (fun j => proj x gain fun i => w i ⟨k.val / 256 * 256 + j.val, by omega⟩) (fun i => Ideal.cos (ang b i)) (fun i => Ideal.sin (ang b i)) ⟨k.val % 256, by omega⟩ * kscale k

end Cert.MmSpec

end
-- ==== Proof.RqkProjBody.lean ====
/-
  The kernel of the retention's projection of queries and keys: what the body computes from its blocks, entry by entry.
-/
module

public import proofs.«01_k».proof.Proof.Gen.RqkProjIdeal.Value
public import proofs.«01_k».proof.Proof.RopeSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RqkProjIdeal.Mm

open Cert.RqkProjIdeal Cert.RqkProjIdeal.Gen Cert.MmSpec Idealize.ShloMosaic Idealize.ShloMosaic.TcCoe

/-- A trip's payload is its rows, normed. -/
theorem pay1_at (x : Vec Ideal S64x2048 .f32) (g : Vec Ideal S1x2048 .f32) (r : Fin 64) (k : Fin 2048) :
    k0_pay6 x g (ix2 r k) = nrm (fun j => x (ix2 r j)) (fun j => g (ix2 0 j)) k := by
  unfold nrm
  pointwise [k0_pay6]

/-- The product, entry by entry. -/
theorem mm_at (x : Vec Ideal S1024x2048 .bf16) (g : Vec Ideal S2048x512 .bf16) (r : Fin 1024) (k : Fin 512) :
    k0_pay7 x g (ix2 r k) = ∑ j, x (ix2 r j) * g (ix2 j k) := by
  pointwise [k0_pay7]

/-- The scale of a grid point's block. -/
def scl (i : grid0.Coords) : EReal := if (i 1).val < 4 then 1 else Ideal.ofBits FTy.f32 0x3D800000#32

/-- The first head's scale. -/
theorem scl0 (i : grid0.Coords) : k0_pay10 (F := Ideal) i = scl i := by
  have h : ∀ n : Fin 8, Scalar.cmpi .sge (Scalar.addi (Scalar.muli (BitVec.ofNat 32 n.val) 512#32) 0#32) 2048#32 = if n.val < 4 then 0#1 else 1#1 := by decide +kernel
  unfold k0_pay10 scl
  dsimp only
  rw [h (i 1)]
  by_cases hi : (i 1).val < 4
  · rw [if_pos hi, if_pos hi]
    exact Ideal.ofBits_one_f32
  · rw [if_neg hi, if_neg hi]
    rfl

/-- The second head's scale. -/
theorem scl1 (i : grid0.Coords) :
    k0_pay1 (F := Ideal) (Scalar.cmpi .sge (Scalar.addi (Scalar.muli (BitVec.ofNat 32 (i 1).val) 512#32) 256#32) 2048#32) = scl i := by
  have h : ∀ n : Fin 8, Scalar.cmpi .sge (Scalar.addi (Scalar.muli (BitVec.ofNat 32 n.val) 512#32) 256#32) 2048#32 = if n.val < 4 then 0#1 else 1#1 := by decide +kernel
  unfold k0_pay1 scl
  dsimp only
  rw [h (i 1)]
  by_cases hi : (i 1).val < 4
  · rw [if_pos hi, if_pos hi]
    exact Ideal.ofBits_one_f32
  · rw [if_neg hi, if_neg hi]
    rfl

/-- The block stored for a scratch `x`, weights `w`, cosines `c` and sines `s`, entry by entry: each head of
    256 columns of the product is turned and scaled. -/
def blkR (i : grid0.Coords) (x : Vec Ideal S1024x2048 .bf16) (w : Vec Ideal S2048x512 .bf16) (c s : Vec Ideal S1024x128 .f32) (r : Fin 1024) (k : Fin 512) : EReal :=
  turn (fun j => ∑ i, x (ix2 r i) * w (ix2 i (⟨256 * (k.val / 256) + j.val, by omega⟩ : Fin 512))) (fun j => c (ix2 r j)) (fun j => s (ix2 r j)) ⟨k.val % 256, by omega⟩ * scl i

/-- The first half of the first head. -/
theorem lo0_at (i : grid0.Coords) (x : Vec Ideal S1024x2048 .bf16) (w : Vec Ideal S2048x512 .bf16) (c s : Vec Ideal S1024x128 .f32) (r : Fin 1024) (j : Fin 128) :
    k0_pay13 i x w c s (ix2 r j) = (k0_pay7 x w (ix2 r (⟨j.val, by omega⟩ : Fin 512)) * c (ix2 r j) - k0_pay7 x w (ix2 r (⟨128 + j.val, by omega⟩ : Fin 512)) * s (ix2 r j)) * scl i := by
  unfold k0_pay13 k0_pay11 k0_pay12 k0_pay8 k0_pay9
  rw [scl0]
  generalize k0_pay7 x w = v
  generalize scl i = z
  pointwise

/-- The second half of the first head. -/
theorem hi0_at (i : grid0.Coords) (x : Vec Ideal S1024x2048 .bf16) (w : Vec Ideal S2048x512 .bf16) (c s : Vec Ideal S1024x128 .f32) (r : Fin 1024) (j : Fin 128) :
    k0_pay14 i x w c s (ix2 r j) = (k0_pay7 x w (ix2 r (⟨j.val, by omega⟩ : Fin 512)) * s (ix2 r j) + k0_pay7 x w (ix2 r (⟨128 + j.val, by omega⟩ : Fin 512)) * c (ix2 r j)) * scl i := by
  unfold k0_pay14 k0_pay11 k0_pay12 k0_pay8 k0_pay9
  rw [scl0]
  generalize k0_pay7 x w = v
  generalize scl i = z
  pointwise

/-- The first half of the second head. -/
theorem lo1_at (v : FVec Ideal S1024x512 .f32) (c s : Vec Ideal S1024x128 .f32) (b : BitVec 1) (r : Fin 1024) (j : Fin 128) :
    k0_pay4 v (k0_pay8 c) (k0_pay9 s) b (ix2 r j) = (v (ix2 r (⟨256 + j.val, by omega⟩ : Fin 512)) * c (ix2 r j) - v (ix2 r (⟨384 + j.val, by omega⟩ : Fin 512)) * s (ix2 r j)) * k0_pay1 (F := Ideal) b := by
  unfold k0_pay4 k0_pay2 k0_pay3 k0_pay8 k0_pay9
  generalize k0_pay1 (F := Ideal) b = z
  pointwise

/-- The second half of the second head. -/
theorem hi1_at (v : FVec Ideal S1024x512 .f32) (c s : Vec Ideal S1024x128 .f32) (b : BitVec 1) (r : Fin 1024) (j : Fin 128) :
    k0_pay5 v (k0_pay8 c) (k0_pay9 s) b (ix2 r j) = (v (ix2 r (⟨256 + j.val, by omega⟩ : Fin 512)) * s (ix2 r j) + v (ix2 r (⟨384 + j.val, by omega⟩ : Fin 512)) * c (ix2 r j)) * k0_pay1 (F := Ideal) b := by
  unfold k0_pay5 k0_pay2 k0_pay3 k0_pay8 k0_pay9
  generalize k0_pay1 (F := Ideal) b = z
  pointwise

/-- The first half of a head of the block. -/
theorem blk_lo (i : grid0.Coords) (x : Vec Ideal S1024x2048 .bf16) (w : Vec Ideal S2048x512 .bf16) (c s : Vec Ideal S1024x128 .f32) (r : Fin 1024) (k : Fin 512) (q : ℕ) (hq : q < 2) (j : Fin 128) (hk : k.val = 256 * q + j.val)
    (a b : Fin 512) (ha : a.val = 256 * q + j.val) (hb : b.val = 256 * q + (128 + j.val)) :
    (k0_pay7 x w (ix2 r a) * c (ix2 r j) - k0_pay7 x w (ix2 r b) * s (ix2 r j)) * scl i = blkR i x w c s r k := by
  unfold blkR
  have e1 : k.val / 256 = q := by omega
  have e2 : k.val % 256 = j.val := by omega
  rw [turn_lo _ _ _ _ j e2, mm_at, mm_at]
  exact congrArg (· * scl i) (congrArg₂ (fun a b : Fin 512 => (∑ i, x (ix2 r i) * w (ix2 i a)) * c (ix2 r j) - (∑ i, x (ix2 r i) * w (ix2 i b)) * s (ix2 r j)) (Fin.ext (by dsimp only; omega)) (Fin.ext (by dsimp only; omega)))

/-- The second half of a head of the block. -/
theorem blk_hi (i : grid0.Coords) (x : Vec Ideal S1024x2048 .bf16) (w : Vec Ideal S2048x512 .bf16) (c s : Vec Ideal S1024x128 .f32) (r : Fin 1024) (k : Fin 512) (q : ℕ) (hq : q < 2) (j : Fin 128) (hk : k.val = 256 * q + (128 + j.val))
    (a b : Fin 512) (ha : a.val = 256 * q + j.val) (hb : b.val = 256 * q + (128 + j.val)) :
    (k0_pay7 x w (ix2 r a) * s (ix2 r j) + k0_pay7 x w (ix2 r b) * c (ix2 r j)) * scl i = blkR i x w c s r k := by
  unfold blkR
  have e1 : k.val / 256 = q := by omega
  have e2 : k.val % 256 = 128 + j.val := by omega
  rw [turn_hi _ _ _ _ j e2, mm_at, mm_at]
  exact congrArg (· * scl i) (congrArg₂ (fun a b : Fin 512 => (∑ i, x (ix2 r i) * w (ix2 i a)) * s (ix2 r j) + (∑ i, x (ix2 r i) * w (ix2 i b)) * c (ix2 r j)) (Fin.ext (by dsimp only; omega)) (Fin.ext (by dsimp only; omega)))

/-- The four stores of a point leave the block. -/
theorem pieces_at (i : grid0.Coords) (x : Vec Ideal S1024x2048 .bf16) (w : Vec Ideal S2048x512 .bf16) (c s : Vec Ideal S1024x128 .f32) (r : Fin 1024) (k : Fin 512) :
    View.canon (Val := Elt Ideal) (s := S1024x512) (e := .f32)
      [⟨Rect.unit ![0, 384] ![1024, 128] inb_S1024x512_S1024x128_0_384, k0_pay5 (k0_pay7 x w) (k0_pay8 c) (k0_pay9 s) (Scalar.cmpi .sge (Scalar.addi (Scalar.muli (BitVec.ofNat 32 (i 1).val) 512#32) 256#32) 2048#32)⟩,
        ⟨Rect.unit ![0, 256] ![1024, 128] inb_S1024x512_S1024x128_0_256, k0_pay4 (k0_pay7 x w) (k0_pay8 c) (k0_pay9 s) (Scalar.cmpi .sge (Scalar.addi (Scalar.muli (BitVec.ofNat 32 (i 1).val) 512#32) 256#32) 2048#32)⟩,
        ⟨Rect.unit ![0, 128] ![1024, 128] inb_S1024x512_S1024x128_0_128, k0_pay14 i x w c s⟩,
        ⟨Rect.unit ![0, 0] ![1024, 128] inb_S1024x512_S1024x128_0_0, k0_pay13 i x w c s⟩] (ix2 r k)
      = blkR i x w c s r k := by
  canon_tiles y h
  · idx_vars y
    have hk : k.val = 384 + y1.val := h1
    obtain rfl : r = y0 := Fin.ext h0
    rw [hi1_at, scl1]
    exact blk_hi i x w c s r k 1 (by omega) y1 (by omega) _ _ (by first | (dsimp only; done) | (dsimp only; omega) | omega) (by first | (dsimp only; omega) | omega)
  · idx_vars y
    have hk : k.val = 256 + y1.val := h1
    obtain rfl : r = y0 := Fin.ext h0
    rw [lo1_at, scl1]
    exact blk_lo i x w c s r k 1 (by omega) y1 (by omega) _ _ (by first | (dsimp only; done) | (dsimp only; omega) | omega) (by first | (dsimp only; omega) | omega)
  · idx_vars y
    have hk : k.val = 128 + y1.val := h1
    obtain rfl : r = y0 := Fin.ext h0
    rw [hi0_at]
    exact blk_hi i x w c s r k 0 (by omega) y1 (by omega) _ _ (by first | (dsimp only; done) | (dsimp only; omega) | omega) (by first | (dsimp only; omega) | omega)
  · idx_vars y
    have hk : k.val = y1.val := h1
    obtain rfl : r = y0 := Fin.ext h0
    rw [lo0_at]
    exact blk_lo i x w c s r k 0 (by omega) y1 (by omega) _ _ (by first | (dsimp only; done) | (dsimp only; omega) | omega) (by dsimp only; omega)

/-- A trip stores one piece: its 64 rows, normed. -/
theorem tripL_eq (𝒱 : Variants) (bd : Option 𝒱.V) (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x2048 .bf16) (harg8 : arg8.IsWhole) (h1 : k0_cond1 i = 1#1) (X2 : BufTy.Contents (Elt Ideal) arg2.view.ty) (X3 : BufTy.Contents (Elt Ideal) arg3.view.ty) (k : Fin k0_t1_loop.trips) :
    tripL_k0_t1 (F := Ideal) 𝒱 c bd i arg2 harg2 arg3 harg3 arg4 harg4 arg5 harg5 arg6 harg6 arg7 harg7 arg8 harg8 h1 X2 X3 k
      = [⟨Rect.unit (s := S1024x2048) (k0_off1 k) S64x2048.size (k0_off1_inb i k h1),
          k0_pay6 (arg2.view.readAt (Elt Ideal) (Rect.unit (s := S1024x2048) (k0_off1 k) S64x2048.size (k0_off1_inb i k h1)).toLoadRect X2)
            (arg3.view.readAt (Elt Ideal) (Rect.unit (s := S1x2048) ![0, 0] S1x2048.size inb_S1x2048_S1x2048_0_0).toLoadRect X3)⟩] := by
  unfold tripL_k0_t1 trip_k0_t1
  rfl

/-- Where row `r` of trip `k`'s piece lies. -/
theorem emb_at (i : grid0.Coords) (h1 : k0_cond1 i = 1#1) (k : Fin k0_t1_loop.trips) (n : ℕ) (hn : k.val = n) (r : Fin 1024) (r' : Fin 64) (hr : r.val = 64 * n + r'.val) (j : Fin 2048) :
    (Rect.unit (s := S1024x2048) (k0_off1 k) S64x2048.size (k0_off1_inb i k h1)).emb (ix2 r' j) = (ix2 r j : S1024x2048.Idx) := by
  have h := k0_off1_eq k
  ext a; fin_cases a
  · show k0_off1 k 0 + 1 * r'.val = r.val
    rw [h]; show 64 * k.val + 1 * r'.val = r.val; omega
  · show k0_off1 k 1 + 1 * j.val = j.val
    rw [h]; show 0 + 1 * j.val = j.val; omega

/-- The rows the trips before `n` leave are the block's, normed. -/
theorem canon_pb (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x2048 .bf16) (harg8 : arg8.IsWhole) (h1 : k0_cond1 i = 1#1) (x0 : Vec Ideal S1024x2048 .f32) (x1 : Vec Ideal S1x2048 .f32) (n : ℕ) (hn : n ≤ 16) (r : Fin 1024) (k : Fin 2048) (hr : r.val < 64 * n) :
    View.canon (pb_k0_t1 (F := Ideal) Variants.none c none i arg2 harg2 arg3 harg3 arg4 harg4 arg5 harg5 arg6 harg6 arg7 harg7 arg8 harg8 h1 (harg2.unread x0) (harg3.unread x1) n) (ix2 r k)
      = nrm (fun j => x0 (ix2 r j)) (fun j => x1 (ix2 0 j)) k := by
  induction n with
  | zero => omega
  | succ n ih =>
    have ht : k0_t1_loop.trips = 16 := by decide
    have hs := pb_k0_t1_succ (F := Ideal) Variants.none c none i arg2 harg2 arg3 harg3 arg4 harg4 arg5 harg5 arg6 harg6 arg7 harg7 arg8 harg8 h1 (harg2.unread x0) (harg3.unread x1) ⟨n, by omega⟩
    rw [tripL_eq] at hs
    rw [hs, List.singleton_append]
    by_cases hlt : r.val < 64 * n
    · rw [View.canon_cons_of_not_mem]
      · exact ih (by omega) hlt
      · intro hm
        have hm : (ix2 r k : S1024x2048.Idx) ∈ (Rect.unit (s := S1024x2048) (k0_off1 ⟨n, by omega⟩) S64x2048.size (k0_off1_inb i ⟨n, by omega⟩ h1)).set := hm
        rw [Rect.mem_set_unit, k0_off1_eq] at hm
        have h0 := (hm 0).1
        have : 64 * n ≤ r.val := h0
        omega
    · have e := emb_at i h1 ⟨n, by omega⟩ n rfl r ⟨r.val - 64 * n, by omega⟩ (by show r.val = 64 * n + (r.val - 64 * n); omega)
      rw [← e k, View.canon_cons_emb, pay1_at]
      have f0 : (fun j => arg2.view.readAt (Elt Ideal) (Rect.unit (s := S1024x2048) (k0_off1 ⟨n, by omega⟩) S64x2048.size (k0_off1_inb i ⟨n, by omega⟩ h1)).toLoadRect (harg2.unread x0) (ix2 (⟨r.val - 64 * n, by omega⟩ : Fin 64) j)) = fun j => x0 (ix2 r j) :=
        funext fun j => by rw [View.readAt_apply, harg2.read_unread]; exact congrArg x0 (e j)
      have f1 : (fun j => arg3.view.readAt (Elt Ideal) (Rect.unit (s := S1x2048) ![0, 0] S1x2048.size inb_S1x2048_S1x2048_0_0).toLoadRect (harg3.unread x1) (ix2 0 j)) = fun j => x1 (ix2 0 j) :=
        funext fun j => by
          rw [View.readAt_apply, harg3.read_unread]
          refine congrArg x1 ?_
          ext a; fin_cases a <;> simp [Rect.idx_unit_val] <;> rfl
      exact congrArg₂ (fun a b => nrm a b k) f0 f1

/-- Case A leaves the normed block in the scratch. -/
theorem sout_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x2048 .bf16) (harg8 : arg8.IsWhole) (hc0 : cond0_0 i) (x0 : Vec Ideal S1024x2048 .f32) (x1 : Vec Ideal S1x2048 .f32) (x2 : Vec Ideal S2048x512 .bf16) (x3 x4 : Vec Ideal S1024x128 .f32) (r : Fin 1024) (k : Fin 2048) :
    sout0_A_0 c i arg2 harg2 arg3 harg3 arg4 harg4 arg5 harg5 arg6 harg6 arg7 harg7 arg8 harg8 hc0 x0 x1 x2 x3 x4 (ix2 r k) = nrm (fun j => x0 (ix2 r j)) (fun j => x1 (ix2 0 j)) k := by
  frame_open
  frame_out
  exact canon_pb c i arg2 harg2 arg3 harg3 arg4 harg4 arg5 harg5 arg6 harg6 arg7 harg7 arg8 harg8 hc0 x0 x1 16 (le_refl _) r k (by omega)

/-- Case A's stored block. -/
theorem out_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x2048 .bf16) (harg8 : arg8.IsWhole) (hc0 : cond0_0 i) (x0 : Vec Ideal S1024x2048 .f32) (x1 : Vec Ideal S1x2048 .f32) (x2 : Vec Ideal S2048x512 .bf16) (x3 x4 : Vec Ideal S1024x128 .f32) (r : Fin 1024) (k : Fin 512) :
    out0_A_5 c i arg2 harg2 arg3 harg3 arg4 harg4 arg5 harg5 arg6 harg6 arg7 harg7 arg8 harg8 hc0 x0 x1 x2 x3 x4 (ix2 r k) = turn (fun j => proj (fun a => x0 (ix2 r a)) (fun a => x1 (ix2 0 a)) fun a => x2 (ix2 a (⟨256 * (k.val / 256) + j.val, by omega⟩ : Fin 512))) (fun j => x3 (ix2 r j)) (fun j => x4 (ix2 r j)) ⟨k.val % 256, by omega⟩ * scl i := by
  frame_open
  try simp (disch := decide) only [↓ View.readCov_skip, ↓ View.readCov_cons_toLoadRect, ↓ View.readCov_fill]
  frame_out
  try simp only [read_unread_whole]
  refine (pieces_at i _ x2 x3 x4 r k).trans ?_
  unfold blkR proj
  refine congrArg (fun p => turn p _ _ ⟨k.val % 256, by omega⟩ * scl i) (funext fun j => Finset.sum_congr rfl fun a _ => congrArg (· * x2 (ix2 a _)) ?_)
  rw [View.readCov_eq_canon']
  refine Eq.trans (congrArg (View.canon _) (?_ : _ = (ix2 r a : S1024x2048.Idx))) (canon_pb c i arg2 harg2 arg3 harg3 arg4 harg4 arg5 harg5 arg6 harg6 arg7 harg7 arg8 harg8 hc0 x0 x1 16 (le_refl _) r a (by omega))
  ext a; fin_cases a <;> simp [Rect.idx_unit_val] <;> rfl

/-- Case B's stored block, from the scratch it finds. -/
theorem outB_at (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x512 .f32) (harg7 : arg7.IsWhole) (arg8 : Memref sig .tc .vmem S1024x2048 .bf16) (harg8 : arg8.IsWhole) (hc0 : ¬cond0_0 i) (x0 : Vec Ideal S1024x2048 .f32) (x1 : Vec Ideal S1x2048 .f32) (x2 : Vec Ideal S2048x512 .bf16) (x3 x4 : Vec Ideal S1024x128 .f32) (xs0 : Vec Ideal S1024x2048 .bf16) (r : Fin 1024) (k : Fin 512) :
    out0_B_5 c i arg2 harg2 arg3 harg3 arg4 harg4 arg5 harg5 arg6 harg6 arg7 harg7 arg8 harg8 hc0 x0 x1 x2 x3 x4 xs0 (ix2 r k) = blkR i xs0 x2 x3 x4 r k := by
  frame_open
  try simp (disch := decide) only [↓ View.readCov_skip, ↓ View.readCov_cons_toLoadRect, ↓ View.readCov_fill]
  frame_out
  try simp only [read_unread_whole]
  exact pieces_at i xs0 x2 x3 x4 r k

end Cert.RqkProjIdeal.Mm

end
-- ==== Proof.RqkProjBlocks.lean ====
/-
  The kernel of the retention's projection of queries and keys: its input blocks at every grid point, and its result array.
-/
module

public import proofs.«01_k».proof.Proof.Gen.RqkProjIdeal.Value
public import proofs.«01_k».proof.Proof.RopeSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RqkProjIdeal.Mm

open Cert.RqkProjIdeal Cert.RqkProjIdeal.Gen Cert.MmSpec Idealize.ShloMosaic Idealize.ShloMosaic.TcCoe
open Idealize.ShloMosaic.Pipeline (Dat)

variable (m : (ℓ : Loc nD τ sig) → Buf (Elt Ideal) ℓ)

/-- Every window's block at every grid point, and the point's second coordinate. -/
theorem idx : ∀ t : Fin cfg0.N, win0_0.index t = ![t.val / 8, 0] ∧ win0_1.index t = ![0, 0]
    ∧ win0_2.index t = ![0, t.val % 8] ∧ win0_3.index t = ![t.val / 8, 0]
    ∧ win0_4.index t = ![t.val / 8, 0] ∧ win0_5.index t = ![t.val / 8, t.val % 8] ∧ (grid0.coords t 1).val = t.val % 8 :=
  (by decide +kernel : ∀ t : Fin grid0.N, _)

/-- The rows. -/
abbrev Xm (c : Dev nD) : Fin 17408 → Fin 2048 → EReal := fun i j => (m ((c : Thread nD τ).loc main_arg0) : FVec Ideal S17408x2048 .f32) (ix2 i j)
/-- The mixer's gain. -/
abbrev gm (c : Dev nD) : Fin 2048 → EReal := fun j => (m ((c : Thread nD τ).loc main_arg1) : FVec Ideal S2x2048 .f32) (ix2 1 j)
/-- The weights. -/
abbrev Wm (c : Dev nD) : Fin 2048 → Fin 12288 → EReal := fun i j => (m ((c : Thread nD τ).loc main_arg2) : FVec Ideal S1x2048x12288 .f32) (ix3 0 i j)

/-- The grid has 136 points. -/
theorem lt136 (t : Fin cfg0.N) : t.val < 136 := lt_of_lt_of_eq t.isLt N_0

/-- A point's block of rows. -/
theorem iblk0_at (c : Dev nD) (t : Fin cfg0.N) (r : Fin 1024) (k : Fin 2048) :
    (iblk m c 0 t : Vec Ideal S1024x2048 .f32) (ix2 r k) = Xm m c ⟨1024 * (t.val / 8) + r.val, by have := lt136 t; omega⟩ k := by
  blk_ext [iblk, V, idx t]

/-- Every point's gain. -/
theorem iblk1_at (c : Dev nD) (t : Fin cfg0.N) (k : Fin 2048) :
    (iblk m c 1 t : Vec Ideal S1x2048 .f32) (ix2 0 k) = gm m c k := by
  blk_simp [iblk]
  entry_read
  pointwise
  blk_ext [idx t]

/-- A point's block of weights. -/
theorem iblk2_at (c : Dev nD) (t : Fin cfg0.N) (k : Fin 2048) (j : Fin 512) :
    (iblk m c 2 t : Vec Ideal S2048x512 .bf16) (ix2 k j) = Wm m c k ⟨512 * (t.val % 8) + j.val, by omega⟩ := by
  blk_simp [iblk]
  entry_read
  pointwise
  blk_ext [idx t]

/-- The sample's positions. -/
theorem posB_at (q : Fin 1024) : (shapeCast S1024 (broadcastInDim S128x8 ![0, 1] bcast_S1x8_S128x8_0_1 (shapeCast S1x8 (addi (broadcastInDim S8 ![] bcast_S_S8 (constantI S_ 32 2048#32)) (iotaInDim S8 32 0)) shapeCasts_S8_S1x8)) shapeCasts_S128x8_S1024 : IVec S1024 32) (ix1 q) = 2048#32 + BitVec.ofNat 32 (q.val % 8) := by
  generalize hI : addi (broadcastInDim S8 ![] bcast_S_S8 (constantI S_ 32 2048#32)) (iotaInDim S8 32 0) = I
  refine Eq.trans (b := I (ix1 (⟨q.val % 8, by omega⟩ : Fin 8))) ?_ ?_
  · pointwise
  · rw [← hI]; rfl

/-- The rows' positions. -/
theorem pos_at (r : Fin 17408) :
    (concatenate S17408 0 [⟨S16384, shapeCast S16384 (broadcastInDim S8x2048 ![0, 1] bcast_S1x2048_S8x2048_0_1 (shapeCast S1x2048 (iotaInDim S2048 32 0) shapeCasts_S2048_S1x2048)) shapeCasts_S8x2048_S16384⟩, ⟨S1024, shapeCast S1024 (broadcastInDim S128x8 ![0, 1] bcast_S1x8_S128x8_0_1 (shapeCast S1x8 (addi (broadcastInDim S8 ![] bcast_S_S8 (constantI S_ 32 2048#32)) (iotaInDim S8 32 0)) shapeCasts_S8_S1x8)) shapeCasts_S128x8_S1024⟩] concatenates_S16384_S1024_S17408_d0 : IVec S17408 32) (ix1 r) = posn r := by
  generalize hA : shapeCast S16384 (broadcastInDim S8x2048 ![0, 1] bcast_S1x2048_S8x2048_0_1 (shapeCast S1x2048 (iotaInDim S2048 32 0) shapeCasts_S2048_S1x2048)) shapeCasts_S8x2048_S16384 = A
  generalize hB : shapeCast S1024 (broadcastInDim S128x8 ![0, 1] bcast_S1x8_S128x8_0_1 (shapeCast S1x8 (addi (broadcastInDim S8 ![] bcast_S_S8 (constantI S_ 32 2048#32)) (iotaInDim S8 32 0)) shapeCasts_S8_S1x8)) shapeCasts_S128x8_S1024 = B
  pointwise
  unfold posn
  split
  · rw [← hA]; pointwise
  · rw [← hB]
    exact posB_at _

/-- The rows' angles. -/
theorem ang_at (r : Fin 17408) (i : Fin 128) :
    (mulf (broadcastInDim S17408x128 ![0, 1] bcast_S17408x1_S17408x128_0_1 (broadcastInDim S17408x1 ![0] bcast_S17408_S17408x1_0 (sitofp .f32 (concatenate S17408 0 [⟨S16384, shapeCast S16384 (broadcastInDim S8x2048 ![0, 1] bcast_S1x2048_S8x2048_0_1 (shapeCast S1x2048 (iotaInDim S2048 32 0) shapeCasts_S2048_S1x2048)) shapeCasts_S8x2048_S16384⟩, ⟨S1024, shapeCast S1024 (broadcastInDim S128x8 ![0, 1] bcast_S1x8_S128x8_0_1 (shapeCast S1x8 (addi (broadcastInDim S8 ![] bcast_S_S8 (constantI S_ 32 2048#32)) (iotaInDim S8 32 0)) shapeCasts_S8_S1x8)) shapeCasts_S128x8_S1024⟩] concatenates_S16384_S1024_S17408_d0)))) (broadcastInDim S17408x128 ![0, 1] bcast_S1x128_S17408x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32)))))) : FVec Ideal S17408x128 .f32) (ix2 r i) = ang (posn r) i := by
  rw [← pos_at]
  generalize concatenate S17408 0 [⟨S16384, shapeCast S16384 (broadcastInDim S8x2048 ![0, 1] bcast_S1x2048_S8x2048_0_1 (shapeCast S1x2048 (iotaInDim S2048 32 0) shapeCasts_S2048_S1x2048)) shapeCasts_S8x2048_S16384⟩, ⟨S1024, shapeCast S1024 (broadcastInDim S128x8 ![0, 1] bcast_S1x8_S128x8_0_1 (shapeCast S1x8 (addi (broadcastInDim S8 ![] bcast_S_S8 (constantI S_ 32 2048#32)) (iotaInDim S8 32 0)) shapeCasts_S8_S1x8)) shapeCasts_S128x8_S1024⟩] concatenates_S16384_S1024_S17408_d0 = P
  unfold ang
  pointwise

/-- A point's block of the angles' cosines. -/
theorem iblk3_at (c : Dev nD) (t : Fin cfg0.N) (r : Fin 1024) (j : Fin 128) :
    (iblk m c 3 t : Vec Ideal S1024x128 .f32) (ix2 r j) = Ideal.cos (ang (posn ⟨1024 * (t.val / 8) + r.val, by have := lt136 t; omega⟩) j) := by
  blk_simp [iblk]
  entry_read
  have e : ((View.whole main_v25).slice (win0_3.rect t)).emb (ix2 r j) = (ix2 ⟨1024 * (t.val / 8) + r.val, by have := lt136 t; omega⟩ j : S17408x128.Idx) := by
    have r0 : ((((View.whole main_v25).slice (win0_3.rect t)).emb (ix2 r j) 0 : Fin 17408) : ℕ) = 1024 * (t.val / 8) + r.val := by blk_simp [idx t]; omega
    have r1 : ((((View.whole main_v25).slice (win0_3.rect t)).emb (ix2 r j) 1 : Fin 128) : ℕ) = j.val := by blk_simp [idx t]
    ext a; fin_cases a
    · exact r0
    · exact r1
  exact (congrArg (Host.cos (F := Ideal) _) e).trans (congrArg Ideal.cos (ang_at _ _))

/-- A point's block of the angles' sines. -/
theorem iblk4_at (c : Dev nD) (t : Fin cfg0.N) (r : Fin 1024) (j : Fin 128) :
    (iblk m c 4 t : Vec Ideal S1024x128 .f32) (ix2 r j) = Ideal.sin (ang (posn ⟨1024 * (t.val / 8) + r.val, by have := lt136 t; omega⟩) j) := by
  blk_simp [iblk]
  entry_read
  have e : ((View.whole main_v26).slice (win0_4.rect t)).emb (ix2 r j) = (ix2 ⟨1024 * (t.val / 8) + r.val, by have := lt136 t; omega⟩ j : S17408x128.Idx) := by
    have r0 : ((((View.whole main_v26).slice (win0_4.rect t)).emb (ix2 r j) 0 : Fin 17408) : ℕ) = 1024 * (t.val / 8) + r.val := by blk_simp [idx t]; omega
    have r1 : ((((View.whole main_v26).slice (win0_4.rect t)).emb (ix2 r j) 1 : Fin 128) : ℕ) = j.val := by blk_simp [idx t]
    ext a; fin_cases a
    · exact r0
    · exact r1
  exact (congrArg (Host.sin (F := Ideal) _) e).trans (congrArg Ideal.sin (ang_at _ _))

end Cert.RqkProjIdeal.Mm

end
-- ==== Proof.RqkProjRef.lean ====
/-
  The reference's retention queries and keys, entry by entry: of the prompt's rows and of the sample's, each a head of
  the projected row turned through its position's angles.
-/
module

public import proofs.«01_k».proof.Proof.Gen.RqkRefIdeal.Run
public import proofs.«01_k».proof.Proof.RopeSpec
public import Idealize.ShloMosaic.Lib.Pipeline.ValueKit
public import Idealize.ShloMosaic.Lib.Pointwise

@[expose] public section

set_option maxRecDepth 16384

noncomputable section

namespace Cert.RqkRefIdeal.Mm

open Idealize.ShloMosaic.StableHlo Cert.RqkRefIdeal Cert.RqkRefIdeal.Gen Cert.RqkRefIdeal.Value Cert.MmSpec Idealize.ShloMosaic Idealize.ShloMosaic.TcCoe

/-- The prompt's projected rows. -/
theorem mmP_at (P : FVec Ideal S8x2048x2048 .f32) (G : FVec Ideal S2x2048 .f32) (W : FVec Ideal S1x2048x12288 .f32) (a : Fin 8) (b : Fin 2048) (k : Fin 4096) :
    (Host.dotGeneral dot_S8x2048x2048_S2048x4096_S8x2048x4096_2_0_01_1_n_n none (mulf (mulf P (broadcastInDim S8x2048x2048 ![0, 1, 2] bcast_S8x2048x1_S8x2048x2048_0_1_2 (Host.rsqrt (addf (Host.divf (broadcastInDim S8x2048x1 ![0, 1] bcast_S8x2048_S8x2048x1_0_1 (Host.reduceAdd (mulf P P) (constant S_ .f32 0x00000000#32) reducesTo_S8x2048x2048_S8x2048_d2 h_S_)) (broadcastInDim S8x2048x1 ![] bcast_S_S8x2048x1 (constant S_ .f32 0x45000000#32))) (broadcastInDim S8x2048x1 ![] bcast_S_S8x2048x1 (constant S_ .f32 0x358637BD#32)))))) (broadcastInDim S8x2048x2048 ![0, 1, 2] bcast_S1x1x2048_S8x2048x2048_0_1_2 (broadcastInDim S1x1x2048 ![2] bcast_S2048_S1x1x2048_2 (shapeCast _ (extractStridedSlice S1x2048 ![1, 0] G slices_S2x2048_S1x2048_1_0) shapeCasts_S1x2048_S2048)))) (extractStridedSlice S2048x4096 ![0, 0] (shapeCast _ W shapeCasts_S1x2048x12288_S2048x12288) slices_S2048x12288_S2048x4096_0_0) : FVec Ideal S8x2048x4096 .f32) (ix3 a b k)
      = proj (fun j => P (ix3 a b j)) (fun j => G (ix2 1 j)) (fun j => W (ix3 0 j ⟨k.val, by omega⟩)) := by
  unfold proj nrm
  pointwise

/-- The prompt's rows. -/
theorem rowP_at (X : FVec Ideal S17408x2048 .f32) (a : Fin 8) (b : Fin 2048) (j : Fin 2048) :
    (shapeCast _ (extractStridedSlice S16384x2048 ![0, 0] X slices_S17408x2048_S16384x2048_0_0) shapeCasts_S16384x2048_S8x2048x2048 : FVec Ideal S8x2048x2048 .f32) (ix3 a b j) = X (ix2 (⟨(a.val * 2048 + b.val), by omega⟩ : Fin 17408) j) := by
  pointwise

/-- The prompt's cosines. -/
theorem cosP_at (P : IVec S2048 32) (b : Fin 2048) (i : Fin 128) :
    (broadcastInDim S1x2048x1x128 ![1, 3] bcast_S2048x128_S1x2048x1x128_1_3 (Host.cos (mulf (broadcastInDim S2048x128 ![0, 1] bcast_S2048x1_S2048x128_0_1 (broadcastInDim S2048x1 ![0] bcast_S2048_S2048x1_0 (sitofp .f32 P))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32)))))))) : FVec Ideal S1x2048x1x128 .f32) (ix4 0 b 0 i) = Ideal.cos (ang (P (ix1 b)) i) := by
  unfold ang
  pointwise

/-- The prompt's sines. -/
theorem sinP_at (P : IVec S2048 32) (b : Fin 2048) (i : Fin 128) :
    (broadcastInDim S1x2048x1x128 ![1, 3] bcast_S2048x128_S1x2048x1x128_1_3 (Host.sin (mulf (broadcastInDim S2048x128 ![0, 1] bcast_S2048x1_S2048x128_0_1 (broadcastInDim S2048x1 ![0] bcast_S2048_S2048x1_0 (sitofp .f32 P))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32)))))))) : FVec Ideal S1x2048x1x128 .f32) (ix4 0 b 0 i) = Ideal.sin (ang (P (ix1 b)) i) := by
  unfold ang
  pointwise

/-- A prompt row's heads, from their halves. -/
theorem halfP_at (U V : FVec Ideal S8x2048x8x128 .f32) (r : Fin 16384) (k : Fin 2048) :
    (shapeCast S16384x2048 (concatenate S8x2048x8x256 3 [⟨S8x2048x8x128, U⟩, ⟨S8x2048x8x128, V⟩] concatenates_S8x2048x8x128_S8x2048x8x128_S8x2048x8x256_d3) shapeCasts_S8x2048x8x256_S16384x2048 : FVec Ideal S16384x2048 .f32) (ix2 r k)
      = if h : k.val % 256 < 128 then U (ix4 (⟨r.val / 2048, by omega⟩ : Fin 8) (⟨r.val % 2048, by omega⟩ : Fin 2048) (⟨k.val / 256, by omega⟩ : Fin 8) ⟨k.val % 256, h⟩) else V (ix4 (⟨r.val / 2048, by omega⟩ : Fin 8) (⟨r.val % 2048, by omega⟩ : Fin 2048) (⟨k.val / 256, by omega⟩ : Fin 8) ⟨k.val % 256 - 128, by omega⟩) := by
  pointwise

/-- The same, scaled. -/
theorem halfKP_at (U V : FVec Ideal S8x2048x8x128 .f32) (r : Fin 16384) (k : Fin 2048) :
    (shapeCast S16384x2048 (mulf (concatenate S8x2048x8x256 3 [⟨S8x2048x8x128, U⟩, ⟨S8x2048x8x128, V⟩] concatenates_S8x2048x8x128_S8x2048x8x128_S8x2048x8x256_d3) (broadcastInDim S8x2048x8x256 ![] bcast_S_S8x2048x8x256 (constant S_ .f32 0x3D800000#32))) shapeCasts_S8x2048x8x256_S16384x2048 : FVec Ideal S16384x2048 .f32) (ix2 r k)
      = (if h : k.val % 256 < 128 then U (ix4 (⟨r.val / 2048, by omega⟩ : Fin 8) (⟨r.val % 2048, by omega⟩ : Fin 2048) (⟨k.val / 256, by omega⟩ : Fin 8) ⟨k.val % 256, h⟩) else V (ix4 (⟨r.val / 2048, by omega⟩ : Fin 8) (⟨r.val % 2048, by omega⟩ : Fin 2048) (⟨k.val / 256, by omega⟩ : Fin 8) ⟨k.val % 256 - 128, by omega⟩)) * Ideal.ofBits FTy.f32 0x3D800000#32 := by
  pointwise

/-- The first halves of the heads of the prompt's queries. -/
theorem loP0_at (D : FVec Ideal S8x2048x4096 .f32) (C S : FVec Ideal S1x2048x1x128 .f32) (a : Fin 8) (b : Fin 2048) (h : Fin 8) (i : Fin 128) :
    (subf (mulf (extractStridedSlice S8x2048x8x128 ![0, 0, 0, 0] (shapeCast S8x2048x8x256 (extractStridedSlice S8x2048x2048 ![0, 0, 0] D slices_S8x2048x4096_S8x2048x2048_0_0_0) shapeCasts_S8x2048x2048_S8x2048x8x256) slices_S8x2048x8x256_S8x2048x8x128_0_0_0_0) (broadcastInDim S8x2048x8x128 ![0, 1, 2, 3] bcast_S1x2048x1x128_S8x2048x8x128_0_1_2_3 C)) (mulf (extractStridedSlice S8x2048x8x128 ![0, 0, 0, 128] (shapeCast S8x2048x8x256 (extractStridedSlice S8x2048x2048 ![0, 0, 0] D slices_S8x2048x4096_S8x2048x2048_0_0_0) shapeCasts_S8x2048x2048_S8x2048x8x256) slices_S8x2048x8x256_S8x2048x8x128_0_0_0_128) (broadcastInDim S8x2048x8x128 ![0, 1, 2, 3] bcast_S1x2048x1x128_S8x2048x8x128_0_1_2_3 S)) : FVec Ideal S8x2048x8x128 .f32) (ix4 a b h i) = D (ix3 a b (⟨(h.val * 256 + i.val), by omega⟩ : Fin 4096)) * C (ix4 0 b 0 i) - D (ix3 a b (⟨(h.val * 256 + (128 + i.val)), by omega⟩ : Fin 4096)) * S (ix4 0 b 0 i) := by
  pointwise

/-- The second halves of the heads of the prompt's queries. -/
theorem hiP0_at (D : FVec Ideal S8x2048x4096 .f32) (C S : FVec Ideal S1x2048x1x128 .f32) (a : Fin 8) (b : Fin 2048) (h : Fin 8) (i : Fin 128) :
    (addf (mulf (extractStridedSlice S8x2048x8x128 ![0, 0, 0, 0] (shapeCast S8x2048x8x256 (extractStridedSlice S8x2048x2048 ![0, 0, 0] D slices_S8x2048x4096_S8x2048x2048_0_0_0) shapeCasts_S8x2048x2048_S8x2048x8x256) slices_S8x2048x8x256_S8x2048x8x128_0_0_0_0) (broadcastInDim S8x2048x8x128 ![0, 1, 2, 3] bcast_S1x2048x1x128_S8x2048x8x128_0_1_2_3 S)) (mulf (extractStridedSlice S8x2048x8x128 ![0, 0, 0, 128] (shapeCast S8x2048x8x256 (extractStridedSlice S8x2048x2048 ![0, 0, 0] D slices_S8x2048x4096_S8x2048x2048_0_0_0) shapeCasts_S8x2048x2048_S8x2048x8x256) slices_S8x2048x8x256_S8x2048x8x128_0_0_0_128) (broadcastInDim S8x2048x8x128 ![0, 1, 2, 3] bcast_S1x2048x1x128_S8x2048x8x128_0_1_2_3 C)) : FVec Ideal S8x2048x8x128 .f32) (ix4 a b h i) = D (ix3 a b (⟨(h.val * 256 + i.val), by omega⟩ : Fin 4096)) * S (ix4 0 b 0 i) + D (ix3 a b (⟨(h.val * 256 + (128 + i.val)), by omega⟩ : Fin 4096)) * C (ix4 0 b 0 i) := by
  pointwise

/-- The prompt's queries: each head of the projected row, turned. -/
theorem headP0_at (D : FVec Ideal S8x2048x4096 .f32) (C S : FVec Ideal S1x2048x1x128 .f32) (r : Fin 16384) (k : Fin 2048) :
    (shapeCast S16384x2048 (concatenate S8x2048x8x256 3 [⟨S8x2048x8x128, subf (mulf (extractStridedSlice S8x2048x8x128 ![0, 0, 0, 0] (shapeCast S8x2048x8x256 (extractStridedSlice S8x2048x2048 ![0, 0, 0] D slices_S8x2048x4096_S8x2048x2048_0_0_0) shapeCasts_S8x2048x2048_S8x2048x8x256) slices_S8x2048x8x256_S8x2048x8x128_0_0_0_0) (broadcastInDim S8x2048x8x128 ![0, 1, 2, 3] bcast_S1x2048x1x128_S8x2048x8x128_0_1_2_3 C)) (mulf (extractStridedSlice S8x2048x8x128 ![0, 0, 0, 128] (shapeCast S8x2048x8x256 (extractStridedSlice S8x2048x2048 ![0, 0, 0] D slices_S8x2048x4096_S8x2048x2048_0_0_0) shapeCasts_S8x2048x2048_S8x2048x8x256) slices_S8x2048x8x256_S8x2048x8x128_0_0_0_128) (broadcastInDim S8x2048x8x128 ![0, 1, 2, 3] bcast_S1x2048x1x128_S8x2048x8x128_0_1_2_3 S))⟩, ⟨S8x2048x8x128, addf (mulf (extractStridedSlice S8x2048x8x128 ![0, 0, 0, 0] (shapeCast S8x2048x8x256 (extractStridedSlice S8x2048x2048 ![0, 0, 0] D slices_S8x2048x4096_S8x2048x2048_0_0_0) shapeCasts_S8x2048x2048_S8x2048x8x256) slices_S8x2048x8x256_S8x2048x8x128_0_0_0_0) (broadcastInDim S8x2048x8x128 ![0, 1, 2, 3] bcast_S1x2048x1x128_S8x2048x8x128_0_1_2_3 S)) (mulf (extractStridedSlice S8x2048x8x128 ![0, 0, 0, 128] (shapeCast S8x2048x8x256 (extractStridedSlice S8x2048x2048 ![0, 0, 0] D slices_S8x2048x4096_S8x2048x2048_0_0_0) shapeCasts_S8x2048x2048_S8x2048x8x256) slices_S8x2048x8x256_S8x2048x8x128_0_0_0_128) (broadcastInDim S8x2048x8x128 ![0, 1, 2, 3] bcast_S1x2048x1x128_S8x2048x8x128_0_1_2_3 C))⟩] concatenates_S8x2048x8x128_S8x2048x8x128_S8x2048x8x256_d3) shapeCasts_S8x2048x8x256_S16384x2048 : FVec Ideal S16384x2048 .f32) (ix2 r k)
      = turn (fun j => D (ix3 (⟨r.val / 2048, by omega⟩ : Fin 8) (⟨r.val % 2048, by omega⟩ : Fin 2048) (⟨(k.val / 256 * 256 + j.val), by omega⟩ : Fin 4096))) (fun i => C (ix4 0 (⟨r.val % 2048, by omega⟩ : Fin 2048) 0 i)) (fun i => S (ix4 0 (⟨r.val % 2048, by omega⟩ : Fin 2048) 0 i)) ⟨k.val % 256, by omega⟩ := by
  refine (halfP_at _ _ r k).trans ?_
  by_cases h : k.val % 256 < 128
  · rw [dif_pos h, turn_lo _ _ _ _ ⟨k.val % 256, h⟩ rfl]
    exact loP0_at D C S _ _ _ _
  · rw [dif_neg h, turn_hi _ _ _ _ ⟨k.val % 256 - 128, by omega⟩ (by dsimp only; omega)]
    exact hiP0_at D C S _ _ _ _

/-- The first halves of the heads of the prompt's keys. -/
theorem loP1_at (D : FVec Ideal S8x2048x4096 .f32) (C S : FVec Ideal S1x2048x1x128 .f32) (a : Fin 8) (b : Fin 2048) (h : Fin 8) (i : Fin 128) :
    (subf (mulf (extractStridedSlice S8x2048x8x128 ![0, 0, 0, 0] (shapeCast S8x2048x8x256 (extractStridedSlice S8x2048x2048 ![0, 0, 2048] D slices_S8x2048x4096_S8x2048x2048_0_0_2048) shapeCasts_S8x2048x2048_S8x2048x8x256) slices_S8x2048x8x256_S8x2048x8x128_0_0_0_0) (broadcastInDim S8x2048x8x128 ![0, 1, 2, 3] bcast_S1x2048x1x128_S8x2048x8x128_0_1_2_3 C)) (mulf (extractStridedSlice S8x2048x8x128 ![0, 0, 0, 128] (shapeCast S8x2048x8x256 (extractStridedSlice S8x2048x2048 ![0, 0, 2048] D slices_S8x2048x4096_S8x2048x2048_0_0_2048) shapeCasts_S8x2048x2048_S8x2048x8x256) slices_S8x2048x8x256_S8x2048x8x128_0_0_0_128) (broadcastInDim S8x2048x8x128 ![0, 1, 2, 3] bcast_S1x2048x1x128_S8x2048x8x128_0_1_2_3 S)) : FVec Ideal S8x2048x8x128 .f32) (ix4 a b h i) = D (ix3 a b (⟨2048 + (h.val * 256 + i.val), by omega⟩ : Fin 4096)) * C (ix4 0 b 0 i) - D (ix3 a b (⟨2048 + (h.val * 256 + (128 + i.val)), by omega⟩ : Fin 4096)) * S (ix4 0 b 0 i) := by
  pointwise

/-- The second halves of the heads of the prompt's keys. -/
theorem hiP1_at (D : FVec Ideal S8x2048x4096 .f32) (C S : FVec Ideal S1x2048x1x128 .f32) (a : Fin 8) (b : Fin 2048) (h : Fin 8) (i : Fin 128) :
    (addf (mulf (extractStridedSlice S8x2048x8x128 ![0, 0, 0, 0] (shapeCast S8x2048x8x256 (extractStridedSlice S8x2048x2048 ![0, 0, 2048] D slices_S8x2048x4096_S8x2048x2048_0_0_2048) shapeCasts_S8x2048x2048_S8x2048x8x256) slices_S8x2048x8x256_S8x2048x8x128_0_0_0_0) (broadcastInDim S8x2048x8x128 ![0, 1, 2, 3] bcast_S1x2048x1x128_S8x2048x8x128_0_1_2_3 S)) (mulf (extractStridedSlice S8x2048x8x128 ![0, 0, 0, 128] (shapeCast S8x2048x8x256 (extractStridedSlice S8x2048x2048 ![0, 0, 2048] D slices_S8x2048x4096_S8x2048x2048_0_0_2048) shapeCasts_S8x2048x2048_S8x2048x8x256) slices_S8x2048x8x256_S8x2048x8x128_0_0_0_128) (broadcastInDim S8x2048x8x128 ![0, 1, 2, 3] bcast_S1x2048x1x128_S8x2048x8x128_0_1_2_3 C)) : FVec Ideal S8x2048x8x128 .f32) (ix4 a b h i) = D (ix3 a b (⟨2048 + (h.val * 256 + i.val), by omega⟩ : Fin 4096)) * S (ix4 0 b 0 i) + D (ix3 a b (⟨2048 + (h.val * 256 + (128 + i.val)), by omega⟩ : Fin 4096)) * C (ix4 0 b 0 i) := by
  pointwise

/-- The prompt's keys: each head of the projected row, turned and scaled. -/
theorem headP1_at (D : FVec Ideal S8x2048x4096 .f32) (C S : FVec Ideal S1x2048x1x128 .f32) (r : Fin 16384) (k : Fin 2048) :
    (shapeCast S16384x2048 (mulf (concatenate S8x2048x8x256 3 [⟨S8x2048x8x128, subf (mulf (extractStridedSlice S8x2048x8x128 ![0, 0, 0, 0] (shapeCast S8x2048x8x256 (extractStridedSlice S8x2048x2048 ![0, 0, 2048] D slices_S8x2048x4096_S8x2048x2048_0_0_2048) shapeCasts_S8x2048x2048_S8x2048x8x256) slices_S8x2048x8x256_S8x2048x8x128_0_0_0_0) (broadcastInDim S8x2048x8x128 ![0, 1, 2, 3] bcast_S1x2048x1x128_S8x2048x8x128_0_1_2_3 C)) (mulf (extractStridedSlice S8x2048x8x128 ![0, 0, 0, 128] (shapeCast S8x2048x8x256 (extractStridedSlice S8x2048x2048 ![0, 0, 2048] D slices_S8x2048x4096_S8x2048x2048_0_0_2048) shapeCasts_S8x2048x2048_S8x2048x8x256) slices_S8x2048x8x256_S8x2048x8x128_0_0_0_128) (broadcastInDim S8x2048x8x128 ![0, 1, 2, 3] bcast_S1x2048x1x128_S8x2048x8x128_0_1_2_3 S))⟩, ⟨S8x2048x8x128, addf (mulf (extractStridedSlice S8x2048x8x128 ![0, 0, 0, 0] (shapeCast S8x2048x8x256 (extractStridedSlice S8x2048x2048 ![0, 0, 2048] D slices_S8x2048x4096_S8x2048x2048_0_0_2048) shapeCasts_S8x2048x2048_S8x2048x8x256) slices_S8x2048x8x256_S8x2048x8x128_0_0_0_0) (broadcastInDim S8x2048x8x128 ![0, 1, 2, 3] bcast_S1x2048x1x128_S8x2048x8x128_0_1_2_3 S)) (mulf (extractStridedSlice S8x2048x8x128 ![0, 0, 0, 128] (shapeCast S8x2048x8x256 (extractStridedSlice S8x2048x2048 ![0, 0, 2048] D slices_S8x2048x4096_S8x2048x2048_0_0_2048) shapeCasts_S8x2048x2048_S8x2048x8x256) slices_S8x2048x8x256_S8x2048x8x128_0_0_0_128) (broadcastInDim S8x2048x8x128 ![0, 1, 2, 3] bcast_S1x2048x1x128_S8x2048x8x128_0_1_2_3 C))⟩] concatenates_S8x2048x8x128_S8x2048x8x128_S8x2048x8x256_d3) (broadcastInDim S8x2048x8x256 ![] bcast_S_S8x2048x8x256 (constant S_ .f32 0x3D800000#32))) shapeCasts_S8x2048x8x256_S16384x2048 : FVec Ideal S16384x2048 .f32) (ix2 r k)
      = turn (fun j => D (ix3 (⟨r.val / 2048, by omega⟩ : Fin 8) (⟨r.val % 2048, by omega⟩ : Fin 2048) (⟨2048 + (k.val / 256 * 256 + j.val), by omega⟩ : Fin 4096))) (fun i => C (ix4 0 (⟨r.val % 2048, by omega⟩ : Fin 2048) 0 i)) (fun i => S (ix4 0 (⟨r.val % 2048, by omega⟩ : Fin 2048) 0 i)) ⟨k.val % 256, by omega⟩ * Ideal.ofBits FTy.f32 0x3D800000#32 := by
  refine (halfKP_at _ _ r k).trans ?_
  refine congrArg (· * Ideal.ofBits FTy.f32 0x3D800000#32) ?_
  by_cases h : k.val % 256 < 128
  · rw [dif_pos h, turn_lo _ _ _ _ ⟨k.val % 256, h⟩ rfl]
    exact loP1_at D C S _ _ _ _
  · rw [dif_neg h, turn_hi _ _ _ _ ⟨k.val % 256 - 128, by omega⟩ (by dsimp only; omega)]
    exact hiP1_at D C S _ _ _ _

/-- A prompt row's queries and keys. -/
theorem catP_at (A B : FVec Ideal S16384x2048 .f32) (r : Fin 16384) (k : Fin 4096) :
    (concatenate S16384x4096 1 [⟨S16384x2048, A⟩, ⟨S16384x2048, B⟩] concatenates_S16384x2048_S16384x2048_S16384x4096_d1 : FVec Ideal S16384x4096 .f32) (ix2 r k)
      = if h : k.val < 2048 then A (ix2 r ⟨k.val, h⟩) else B (ix2 r ⟨k.val - 2048, by omega⟩) := by
  pointwise

/-- The sample's projected rows. -/
theorem mmS_at (P : FVec Ideal S128x8x2048 .f32) (G : FVec Ideal S2x2048 .f32) (W : FVec Ideal S1x2048x12288 .f32) (a : Fin 128) (b : Fin 8) (k : Fin 4096) :
    (Host.dotGeneral dot_S128x8x2048_S2048x4096_S128x8x4096_2_0_01_1_n_n none (mulf (mulf P (broadcastInDim S128x8x2048 ![0, 1, 2] bcast_S128x8x1_S128x8x2048_0_1_2 (Host.rsqrt (addf (Host.divf (broadcastInDim S128x8x1 ![0, 1] bcast_S128x8_S128x8x1_0_1 (Host.reduceAdd (mulf P P) (constant S_ .f32 0x00000000#32) reducesTo_S128x8x2048_S128x8_d2 h_S_)) (broadcastInDim S128x8x1 ![] bcast_S_S128x8x1 (constant S_ .f32 0x45000000#32))) (broadcastInDim S128x8x1 ![] bcast_S_S128x8x1 (constant S_ .f32 0x358637BD#32)))))) (broadcastInDim S128x8x2048 ![0, 1, 2] bcast_S1x1x2048_S128x8x2048_0_1_2 (broadcastInDim S1x1x2048 ![2] bcast_S2048_S1x1x2048_2 (shapeCast _ (extractStridedSlice S1x2048 ![1, 0] G slices_S2x2048_S1x2048_1_0) shapeCasts_S1x2048_S2048)))) (extractStridedSlice S2048x4096 ![0, 0] (shapeCast _ W shapeCasts_S1x2048x12288_S2048x12288) slices_S2048x12288_S2048x4096_0_0) : FVec Ideal S128x8x4096 .f32) (ix3 a b k)
      = proj (fun j => P (ix3 a b j)) (fun j => G (ix2 1 j)) (fun j => W (ix3 0 j ⟨k.val, by omega⟩)) := by
  unfold proj nrm
  pointwise

/-- The sample's rows. -/
theorem rowS_at (X : FVec Ideal S17408x2048 .f32) (a : Fin 128) (b : Fin 8) (j : Fin 2048) :
    (shapeCast _ (extractStridedSlice S1024x2048 ![16384, 0] X slices_S17408x2048_S1024x2048_16384_0) shapeCasts_S1024x2048_S128x8x2048 : FVec Ideal S128x8x2048 .f32) (ix3 a b j) = X (ix2 (⟨16384 + (a.val * 8 + b.val), by omega⟩ : Fin 17408) j) := by
  pointwise

/-- The sample's cosines. -/
theorem cosS_at (P : IVec S8 32) (b : Fin 8) (i : Fin 128) :
    (broadcastInDim S1x8x1x128 ![1, 3] bcast_S8x128_S1x8x1x128_1_3 (Host.cos (mulf (broadcastInDim S8x128 ![0, 1] bcast_S8x1_S8x128_0_1 (broadcastInDim S8x1 ![0] bcast_S8_S8x1_0 (sitofp .f32 P))) (broadcastInDim S8x128 ![0, 1] bcast_S1x128_S8x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32)))))))) : FVec Ideal S1x8x1x128 .f32) (ix4 0 b 0 i) = Ideal.cos (ang (P (ix1 b)) i) := by
  unfold ang
  pointwise

/-- The sample's sines. -/
theorem sinS_at (P : IVec S8 32) (b : Fin 8) (i : Fin 128) :
    (broadcastInDim S1x8x1x128 ![1, 3] bcast_S8x128_S1x8x1x128_1_3 (Host.sin (mulf (broadcastInDim S8x128 ![0, 1] bcast_S8x1_S8x128_0_1 (broadcastInDim S8x1 ![0] bcast_S8_S8x1_0 (sitofp .f32 P))) (broadcastInDim S8x128 ![0, 1] bcast_S1x128_S8x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32)))))))) : FVec Ideal S1x8x1x128 .f32) (ix4 0 b 0 i) = Ideal.sin (ang (P (ix1 b)) i) := by
  unfold ang
  pointwise

/-- A sample row's heads, from their halves. -/
theorem halfS_at (U V : FVec Ideal S128x8x8x128 .f32) (r : Fin 1024) (k : Fin 2048) :
    (shapeCast S1024x2048 (concatenate S128x8x8x256 3 [⟨S128x8x8x128, U⟩, ⟨S128x8x8x128, V⟩] concatenates_S128x8x8x128_S128x8x8x128_S128x8x8x256_d3) shapeCasts_S128x8x8x256_S1024x2048 : FVec Ideal S1024x2048 .f32) (ix2 r k)
      = if h : k.val % 256 < 128 then U (ix4 (⟨r.val / 8, by omega⟩ : Fin 128) (⟨r.val % 8, by omega⟩ : Fin 8) (⟨k.val / 256, by omega⟩ : Fin 8) ⟨k.val % 256, h⟩) else V (ix4 (⟨r.val / 8, by omega⟩ : Fin 128) (⟨r.val % 8, by omega⟩ : Fin 8) (⟨k.val / 256, by omega⟩ : Fin 8) ⟨k.val % 256 - 128, by omega⟩) := by
  pointwise

/-- The same, scaled. -/
theorem halfKS_at (U V : FVec Ideal S128x8x8x128 .f32) (r : Fin 1024) (k : Fin 2048) :
    (shapeCast S1024x2048 (mulf (concatenate S128x8x8x256 3 [⟨S128x8x8x128, U⟩, ⟨S128x8x8x128, V⟩] concatenates_S128x8x8x128_S128x8x8x128_S128x8x8x256_d3) (broadcastInDim S128x8x8x256 ![] bcast_S_S128x8x8x256 (constant S_ .f32 0x3D800000#32))) shapeCasts_S128x8x8x256_S1024x2048 : FVec Ideal S1024x2048 .f32) (ix2 r k)
      = (if h : k.val % 256 < 128 then U (ix4 (⟨r.val / 8, by omega⟩ : Fin 128) (⟨r.val % 8, by omega⟩ : Fin 8) (⟨k.val / 256, by omega⟩ : Fin 8) ⟨k.val % 256, h⟩) else V (ix4 (⟨r.val / 8, by omega⟩ : Fin 128) (⟨r.val % 8, by omega⟩ : Fin 8) (⟨k.val / 256, by omega⟩ : Fin 8) ⟨k.val % 256 - 128, by omega⟩)) * Ideal.ofBits FTy.f32 0x3D800000#32 := by
  pointwise

/-- The first halves of the heads of the sample's queries. -/
theorem loS0_at (D : FVec Ideal S128x8x4096 .f32) (C S : FVec Ideal S1x8x1x128 .f32) (a : Fin 128) (b : Fin 8) (h : Fin 8) (i : Fin 128) :
    (subf (mulf (extractStridedSlice S128x8x8x128 ![0, 0, 0, 0] (shapeCast S128x8x8x256 (extractStridedSlice S128x8x2048 ![0, 0, 0] D slices_S128x8x4096_S128x8x2048_0_0_0) shapeCasts_S128x8x2048_S128x8x8x256) slices_S128x8x8x256_S128x8x8x128_0_0_0_0) (broadcastInDim S128x8x8x128 ![0, 1, 2, 3] bcast_S1x8x1x128_S128x8x8x128_0_1_2_3 C)) (mulf (extractStridedSlice S128x8x8x128 ![0, 0, 0, 128] (shapeCast S128x8x8x256 (extractStridedSlice S128x8x2048 ![0, 0, 0] D slices_S128x8x4096_S128x8x2048_0_0_0) shapeCasts_S128x8x2048_S128x8x8x256) slices_S128x8x8x256_S128x8x8x128_0_0_0_128) (broadcastInDim S128x8x8x128 ![0, 1, 2, 3] bcast_S1x8x1x128_S128x8x8x128_0_1_2_3 S)) : FVec Ideal S128x8x8x128 .f32) (ix4 a b h i) = D (ix3 a b (⟨(h.val * 256 + i.val), by omega⟩ : Fin 4096)) * C (ix4 0 b 0 i) - D (ix3 a b (⟨(h.val * 256 + (128 + i.val)), by omega⟩ : Fin 4096)) * S (ix4 0 b 0 i) := by
  pointwise

/-- The second halves of the heads of the sample's queries. -/
theorem hiS0_at (D : FVec Ideal S128x8x4096 .f32) (C S : FVec Ideal S1x8x1x128 .f32) (a : Fin 128) (b : Fin 8) (h : Fin 8) (i : Fin 128) :
    (addf (mulf (extractStridedSlice S128x8x8x128 ![0, 0, 0, 0] (shapeCast S128x8x8x256 (extractStridedSlice S128x8x2048 ![0, 0, 0] D slices_S128x8x4096_S128x8x2048_0_0_0) shapeCasts_S128x8x2048_S128x8x8x256) slices_S128x8x8x256_S128x8x8x128_0_0_0_0) (broadcastInDim S128x8x8x128 ![0, 1, 2, 3] bcast_S1x8x1x128_S128x8x8x128_0_1_2_3 S)) (mulf (extractStridedSlice S128x8x8x128 ![0, 0, 0, 128] (shapeCast S128x8x8x256 (extractStridedSlice S128x8x2048 ![0, 0, 0] D slices_S128x8x4096_S128x8x2048_0_0_0) shapeCasts_S128x8x2048_S128x8x8x256) slices_S128x8x8x256_S128x8x8x128_0_0_0_128) (broadcastInDim S128x8x8x128 ![0, 1, 2, 3] bcast_S1x8x1x128_S128x8x8x128_0_1_2_3 C)) : FVec Ideal S128x8x8x128 .f32) (ix4 a b h i) = D (ix3 a b (⟨(h.val * 256 + i.val), by omega⟩ : Fin 4096)) * S (ix4 0 b 0 i) + D (ix3 a b (⟨(h.val * 256 + (128 + i.val)), by omega⟩ : Fin 4096)) * C (ix4 0 b 0 i) := by
  pointwise

/-- The sample's queries: each head of the projected row, turned. -/
theorem headS0_at (D : FVec Ideal S128x8x4096 .f32) (C S : FVec Ideal S1x8x1x128 .f32) (r : Fin 1024) (k : Fin 2048) :
    (shapeCast S1024x2048 (concatenate S128x8x8x256 3 [⟨S128x8x8x128, subf (mulf (extractStridedSlice S128x8x8x128 ![0, 0, 0, 0] (shapeCast S128x8x8x256 (extractStridedSlice S128x8x2048 ![0, 0, 0] D slices_S128x8x4096_S128x8x2048_0_0_0) shapeCasts_S128x8x2048_S128x8x8x256) slices_S128x8x8x256_S128x8x8x128_0_0_0_0) (broadcastInDim S128x8x8x128 ![0, 1, 2, 3] bcast_S1x8x1x128_S128x8x8x128_0_1_2_3 C)) (mulf (extractStridedSlice S128x8x8x128 ![0, 0, 0, 128] (shapeCast S128x8x8x256 (extractStridedSlice S128x8x2048 ![0, 0, 0] D slices_S128x8x4096_S128x8x2048_0_0_0) shapeCasts_S128x8x2048_S128x8x8x256) slices_S128x8x8x256_S128x8x8x128_0_0_0_128) (broadcastInDim S128x8x8x128 ![0, 1, 2, 3] bcast_S1x8x1x128_S128x8x8x128_0_1_2_3 S))⟩, ⟨S128x8x8x128, addf (mulf (extractStridedSlice S128x8x8x128 ![0, 0, 0, 0] (shapeCast S128x8x8x256 (extractStridedSlice S128x8x2048 ![0, 0, 0] D slices_S128x8x4096_S128x8x2048_0_0_0) shapeCasts_S128x8x2048_S128x8x8x256) slices_S128x8x8x256_S128x8x8x128_0_0_0_0) (broadcastInDim S128x8x8x128 ![0, 1, 2, 3] bcast_S1x8x1x128_S128x8x8x128_0_1_2_3 S)) (mulf (extractStridedSlice S128x8x8x128 ![0, 0, 0, 128] (shapeCast S128x8x8x256 (extractStridedSlice S128x8x2048 ![0, 0, 0] D slices_S128x8x4096_S128x8x2048_0_0_0) shapeCasts_S128x8x2048_S128x8x8x256) slices_S128x8x8x256_S128x8x8x128_0_0_0_128) (broadcastInDim S128x8x8x128 ![0, 1, 2, 3] bcast_S1x8x1x128_S128x8x8x128_0_1_2_3 C))⟩] concatenates_S128x8x8x128_S128x8x8x128_S128x8x8x256_d3) shapeCasts_S128x8x8x256_S1024x2048 : FVec Ideal S1024x2048 .f32) (ix2 r k)
      = turn (fun j => D (ix3 (⟨r.val / 8, by omega⟩ : Fin 128) (⟨r.val % 8, by omega⟩ : Fin 8) (⟨(k.val / 256 * 256 + j.val), by omega⟩ : Fin 4096))) (fun i => C (ix4 0 (⟨r.val % 8, by omega⟩ : Fin 8) 0 i)) (fun i => S (ix4 0 (⟨r.val % 8, by omega⟩ : Fin 8) 0 i)) ⟨k.val % 256, by omega⟩ := by
  refine (halfS_at _ _ r k).trans ?_
  by_cases h : k.val % 256 < 128
  · rw [dif_pos h, turn_lo _ _ _ _ ⟨k.val % 256, h⟩ rfl]
    exact loS0_at D C S _ _ _ _
  · rw [dif_neg h, turn_hi _ _ _ _ ⟨k.val % 256 - 128, by omega⟩ (by dsimp only; omega)]
    exact hiS0_at D C S _ _ _ _

/-- The first halves of the heads of the sample's keys. -/
theorem loS1_at (D : FVec Ideal S128x8x4096 .f32) (C S : FVec Ideal S1x8x1x128 .f32) (a : Fin 128) (b : Fin 8) (h : Fin 8) (i : Fin 128) :
    (subf (mulf (extractStridedSlice S128x8x8x128 ![0, 0, 0, 0] (shapeCast S128x8x8x256 (extractStridedSlice S128x8x2048 ![0, 0, 2048] D slices_S128x8x4096_S128x8x2048_0_0_2048) shapeCasts_S128x8x2048_S128x8x8x256) slices_S128x8x8x256_S128x8x8x128_0_0_0_0) (broadcastInDim S128x8x8x128 ![0, 1, 2, 3] bcast_S1x8x1x128_S128x8x8x128_0_1_2_3 C)) (mulf (extractStridedSlice S128x8x8x128 ![0, 0, 0, 128] (shapeCast S128x8x8x256 (extractStridedSlice S128x8x2048 ![0, 0, 2048] D slices_S128x8x4096_S128x8x2048_0_0_2048) shapeCasts_S128x8x2048_S128x8x8x256) slices_S128x8x8x256_S128x8x8x128_0_0_0_128) (broadcastInDim S128x8x8x128 ![0, 1, 2, 3] bcast_S1x8x1x128_S128x8x8x128_0_1_2_3 S)) : FVec Ideal S128x8x8x128 .f32) (ix4 a b h i) = D (ix3 a b (⟨2048 + (h.val * 256 + i.val), by omega⟩ : Fin 4096)) * C (ix4 0 b 0 i) - D (ix3 a b (⟨2048 + (h.val * 256 + (128 + i.val)), by omega⟩ : Fin 4096)) * S (ix4 0 b 0 i) := by
  pointwise

/-- The second halves of the heads of the sample's keys. -/
theorem hiS1_at (D : FVec Ideal S128x8x4096 .f32) (C S : FVec Ideal S1x8x1x128 .f32) (a : Fin 128) (b : Fin 8) (h : Fin 8) (i : Fin 128) :
    (addf (mulf (extractStridedSlice S128x8x8x128 ![0, 0, 0, 0] (shapeCast S128x8x8x256 (extractStridedSlice S128x8x2048 ![0, 0, 2048] D slices_S128x8x4096_S128x8x2048_0_0_2048) shapeCasts_S128x8x2048_S128x8x8x256) slices_S128x8x8x256_S128x8x8x128_0_0_0_0) (broadcastInDim S128x8x8x128 ![0, 1, 2, 3] bcast_S1x8x1x128_S128x8x8x128_0_1_2_3 S)) (mulf (extractStridedSlice S128x8x8x128 ![0, 0, 0, 128] (shapeCast S128x8x8x256 (extractStridedSlice S128x8x2048 ![0, 0, 2048] D slices_S128x8x4096_S128x8x2048_0_0_2048) shapeCasts_S128x8x2048_S128x8x8x256) slices_S128x8x8x256_S128x8x8x128_0_0_0_128) (broadcastInDim S128x8x8x128 ![0, 1, 2, 3] bcast_S1x8x1x128_S128x8x8x128_0_1_2_3 C)) : FVec Ideal S128x8x8x128 .f32) (ix4 a b h i) = D (ix3 a b (⟨2048 + (h.val * 256 + i.val), by omega⟩ : Fin 4096)) * S (ix4 0 b 0 i) + D (ix3 a b (⟨2048 + (h.val * 256 + (128 + i.val)), by omega⟩ : Fin 4096)) * C (ix4 0 b 0 i) := by
  pointwise

/-- The sample's keys: each head of the projected row, turned and scaled. -/
theorem headS1_at (D : FVec Ideal S128x8x4096 .f32) (C S : FVec Ideal S1x8x1x128 .f32) (r : Fin 1024) (k : Fin 2048) :
    (shapeCast S1024x2048 (mulf (concatenate S128x8x8x256 3 [⟨S128x8x8x128, subf (mulf (extractStridedSlice S128x8x8x128 ![0, 0, 0, 0] (shapeCast S128x8x8x256 (extractStridedSlice S128x8x2048 ![0, 0, 2048] D slices_S128x8x4096_S128x8x2048_0_0_2048) shapeCasts_S128x8x2048_S128x8x8x256) slices_S128x8x8x256_S128x8x8x128_0_0_0_0) (broadcastInDim S128x8x8x128 ![0, 1, 2, 3] bcast_S1x8x1x128_S128x8x8x128_0_1_2_3 C)) (mulf (extractStridedSlice S128x8x8x128 ![0, 0, 0, 128] (shapeCast S128x8x8x256 (extractStridedSlice S128x8x2048 ![0, 0, 2048] D slices_S128x8x4096_S128x8x2048_0_0_2048) shapeCasts_S128x8x2048_S128x8x8x256) slices_S128x8x8x256_S128x8x8x128_0_0_0_128) (broadcastInDim S128x8x8x128 ![0, 1, 2, 3] bcast_S1x8x1x128_S128x8x8x128_0_1_2_3 S))⟩, ⟨S128x8x8x128, addf (mulf (extractStridedSlice S128x8x8x128 ![0, 0, 0, 0] (shapeCast S128x8x8x256 (extractStridedSlice S128x8x2048 ![0, 0, 2048] D slices_S128x8x4096_S128x8x2048_0_0_2048) shapeCasts_S128x8x2048_S128x8x8x256) slices_S128x8x8x256_S128x8x8x128_0_0_0_0) (broadcastInDim S128x8x8x128 ![0, 1, 2, 3] bcast_S1x8x1x128_S128x8x8x128_0_1_2_3 S)) (mulf (extractStridedSlice S128x8x8x128 ![0, 0, 0, 128] (shapeCast S128x8x8x256 (extractStridedSlice S128x8x2048 ![0, 0, 2048] D slices_S128x8x4096_S128x8x2048_0_0_2048) shapeCasts_S128x8x2048_S128x8x8x256) slices_S128x8x8x256_S128x8x8x128_0_0_0_128) (broadcastInDim S128x8x8x128 ![0, 1, 2, 3] bcast_S1x8x1x128_S128x8x8x128_0_1_2_3 C))⟩] concatenates_S128x8x8x128_S128x8x8x128_S128x8x8x256_d3) (broadcastInDim S128x8x8x256 ![] bcast_S_S128x8x8x256 (constant S_ .f32 0x3D800000#32))) shapeCasts_S128x8x8x256_S1024x2048 : FVec Ideal S1024x2048 .f32) (ix2 r k)
      = turn (fun j => D (ix3 (⟨r.val / 8, by omega⟩ : Fin 128) (⟨r.val % 8, by omega⟩ : Fin 8) (⟨2048 + (k.val / 256 * 256 + j.val), by omega⟩ : Fin 4096))) (fun i => C (ix4 0 (⟨r.val % 8, by omega⟩ : Fin 8) 0 i)) (fun i => S (ix4 0 (⟨r.val % 8, by omega⟩ : Fin 8) 0 i)) ⟨k.val % 256, by omega⟩ * Ideal.ofBits FTy.f32 0x3D800000#32 := by
  refine (halfKS_at _ _ r k).trans ?_
  refine congrArg (· * Ideal.ofBits FTy.f32 0x3D800000#32) ?_
  by_cases h : k.val % 256 < 128
  · rw [dif_pos h, turn_lo _ _ _ _ ⟨k.val % 256, h⟩ rfl]
    exact loS1_at D C S _ _ _ _
  · rw [dif_neg h, turn_hi _ _ _ _ ⟨k.val % 256 - 128, by omega⟩ (by dsimp only; omega)]
    exact hiS1_at D C S _ _ _ _

/-- A sample row's queries and keys. -/
theorem catS_at (A B : FVec Ideal S1024x2048 .f32) (r : Fin 1024) (k : Fin 4096) :
    (concatenate S1024x4096 1 [⟨S1024x2048, A⟩, ⟨S1024x2048, B⟩] concatenates_S1024x2048_S1024x2048_S1024x4096_d1 : FVec Ideal S1024x4096 .f32) (ix2 r k)
      = if h : k.val < 2048 then A (ix2 r ⟨k.val, h⟩) else B (ix2 r ⟨k.val - 2048, by omega⟩) := by
  pointwise

/-- The rows of prompt and sample. -/
theorem cat_at (A : FVec Ideal S16384x4096 .f32) (B : FVec Ideal S1024x4096 .f32) (r : Fin 17408) (k : Fin 4096) :
    (concatenate S17408x4096 0 [⟨S16384x4096, A⟩, ⟨S1024x4096, B⟩] concatenates_S16384x4096_S1024x4096_S17408x4096_d0 : FVec Ideal S17408x4096 .f32) (ix2 r k)
      = if h : r.val < 16384 then A (ix2 ⟨r.val, h⟩ k) else B (ix2 ⟨r.val - 16384, by omega⟩ k) := by
  pointwise

/-- The reference's result, entry by entry. -/
theorem out_at (V0 : Valuation τ sig (Elt Ideal)) (r : Fin 17408) (k : Fin 4096) :
    (concatenate S17408x4096 0 [⟨S16384x4096, (concatenate S16384x4096 1 [⟨S16384x2048, (shapeCast _ (concatenate S8x2048x8x256 3 [⟨S8x2048x8x128, (subf (mulf (res_main_v41 V0) (broadcastInDim S8x2048x8x128 ![0, 1, 2, 3] bcast_S1x2048x1x128_S8x2048x8x128_0_1_2_3 (res_main_v38 V0))) (mulf (res_main_v42 V0) (broadcastInDim S8x2048x8x128 ![0, 1, 2, 3] bcast_S1x2048x1x128_S8x2048x8x128_0_1_2_3 (res_main_v40 V0))))⟩, ⟨S8x2048x8x128, (addf (mulf (res_main_v41 V0) (broadcastInDim S8x2048x8x128 ![0, 1, 2, 3] bcast_S1x2048x1x128_S8x2048x8x128_0_1_2_3 (res_main_v40 V0))) (mulf (res_main_v42 V0) (broadcastInDim S8x2048x8x128 ![0, 1, 2, 3] bcast_S1x2048x1x128_S8x2048x8x128_0_1_2_3 (res_main_v38 V0))))⟩] concatenates_S8x2048x8x128_S8x2048x8x128_S8x2048x8x256_d3) shapeCasts_S8x2048x8x256_S16384x2048)⟩, ⟨S16384x2048, (shapeCast _ (mulf (concatenate S8x2048x8x256 3 [⟨S8x2048x8x128, (subf (mulf (res_main_v72 V0) (broadcastInDim S8x2048x8x128 ![0, 1, 2, 3] bcast_S1x2048x1x128_S8x2048x8x128_0_1_2_3 (res_main_v69 V0))) (mulf (res_main_v73 V0) (broadcastInDim S8x2048x8x128 ![0, 1, 2, 3] bcast_S1x2048x1x128_S8x2048x8x128_0_1_2_3 (res_main_v71 V0))))⟩, ⟨S8x2048x8x128, (addf (mulf (res_main_v72 V0) (broadcastInDim S8x2048x8x128 ![0, 1, 2, 3] bcast_S1x2048x1x128_S8x2048x8x128_0_1_2_3 (res_main_v71 V0))) (mulf (res_main_v73 V0) (broadcastInDim S8x2048x8x128 ![0, 1, 2, 3] bcast_S1x2048x1x128_S8x2048x8x128_0_1_2_3 (res_main_v69 V0))))⟩] concatenates_S8x2048x8x128_S8x2048x8x128_S8x2048x8x256_d3) (broadcastInDim S8x2048x8x256 ![] bcast_S_S8x2048x8x256 (constant S_ .f32 0x3D800000#32))) shapeCasts_S8x2048x8x256_S16384x2048)⟩] concatenates_S16384x2048_S16384x2048_S16384x4096_d1)⟩, ⟨S1024x4096, (concatenate S1024x4096 1 [⟨S1024x2048, (shapeCast _ (concatenate S128x8x8x256 3 [⟨S128x8x8x128, (subf (mulf (res_main_v129 V0) (broadcastInDim S128x8x8x128 ![0, 1, 2, 3] bcast_S1x8x1x128_S128x8x8x128_0_1_2_3 (res_main_v126 V0))) (mulf (res_main_v130 V0) (broadcastInDim S128x8x8x128 ![0, 1, 2, 3] bcast_S1x8x1x128_S128x8x8x128_0_1_2_3 (res_main_v128 V0))))⟩, ⟨S128x8x8x128, (addf (mulf (res_main_v129 V0) (broadcastInDim S128x8x8x128 ![0, 1, 2, 3] bcast_S1x8x1x128_S128x8x8x128_0_1_2_3 (res_main_v128 V0))) (mulf (res_main_v130 V0) (broadcastInDim S128x8x8x128 ![0, 1, 2, 3] bcast_S1x8x1x128_S128x8x8x128_0_1_2_3 (res_main_v126 V0))))⟩] concatenates_S128x8x8x128_S128x8x8x128_S128x8x8x256_d3) shapeCasts_S128x8x8x256_S1024x2048)⟩, ⟨S1024x2048, (shapeCast _ (mulf (concatenate S128x8x8x256 3 [⟨S128x8x8x128, (subf (mulf (res_main_v160 V0) (broadcastInDim S128x8x8x128 ![0, 1, 2, 3] bcast_S1x8x1x128_S128x8x8x128_0_1_2_3 (res_main_v157 V0))) (mulf (res_main_v161 V0) (broadcastInDim S128x8x8x128 ![0, 1, 2, 3] bcast_S1x8x1x128_S128x8x8x128_0_1_2_3 (res_main_v159 V0))))⟩, ⟨S128x8x8x128, (addf (mulf (res_main_v160 V0) (broadcastInDim S128x8x8x128 ![0, 1, 2, 3] bcast_S1x8x1x128_S128x8x8x128_0_1_2_3 (res_main_v159 V0))) (mulf (res_main_v161 V0) (broadcastInDim S128x8x8x128 ![0, 1, 2, 3] bcast_S1x8x1x128_S128x8x8x128_0_1_2_3 (res_main_v157 V0))))⟩] concatenates_S128x8x8x128_S128x8x8x128_S128x8x8x256_d3) (broadcastInDim S128x8x8x256 ![] bcast_S_S128x8x8x256 (constant S_ .f32 0x3D800000#32))) shapeCasts_S128x8x8x256_S1024x2048)⟩] concatenates_S1024x2048_S1024x2048_S1024x4096_d1)⟩] concatenates_S16384x4096_S1024x4096_S17408x4096_d0 : FVec Ideal S17408x4096 .f32) (ix2 r k)
      = ropehead (fun a => (V0 (Proc.devRef .tc main_arg0) : FVec Ideal S17408x2048 .f32) (ix2 r a)) (fun j => (V0 (Proc.devRef .tc main_arg1) : FVec Ideal S2x2048 .f32) (ix2 1 j))
        (fun i j => (V0 (Proc.devRef .tc main_arg2) : FVec Ideal S1x2048x12288 .f32) (ix3 0 i j)) (posn r) k := by
  refine (cat_at _ _ r k).trans ?_
  unfold ropehead
  by_cases hr : r.val < 16384
  · rw [dif_pos hr]
    have hp : posn r = ((res_main_v4 V0 : IVec S2048 32) (ix1 (⟨r.val % 2048, by omega⟩ : Fin 2048))) := by
      unfold posn; rw [if_pos hr]; rfl
    have hx : ∀ j : Fin 4096, proj (fun j => (res_main_v1 V0 : FVec Ideal S8x2048x2048 .f32) (ix3 ⟨r.val / 2048, by omega⟩ ⟨r.val % 2048, by omega⟩ j)) (fun j => (V0 (Proc.devRef .tc main_arg1) : FVec Ideal S2x2048 .f32) (ix2 1 j)) (fun i => (V0 (Proc.devRef .tc main_arg2) : FVec Ideal S1x2048x12288 .f32) (ix3 0 i ⟨j.val, by omega⟩))
        = proj (fun a => (V0 (Proc.devRef .tc main_arg0) : FVec Ideal S17408x2048 .f32) (ix2 r a)) (fun j => (V0 (Proc.devRef .tc main_arg1) : FVec Ideal S2x2048 .f32) (ix2 1 j)) (fun i => (V0 (Proc.devRef .tc main_arg2) : FVec Ideal S1x2048x12288 .f32) (ix3 0 i ⟨j.val, by omega⟩)) := by
      intro j
      refine congrArg (fun x => proj x _ _) (funext fun j => (rowP_at _ _ _ _).trans (congrArg (fun a => (V0 (Proc.devRef .tc main_arg0) : FVec Ideal S17408x2048 .f32) (ix2 a j)) (Fin.ext ?_)))
      show r.val / 2048 * 2048 + r.val % 2048 = r.val; omega
    rw [hp]
    refine (catP_at _ _ _ k).trans ?_
    by_cases hk : k.val < 2048
    · rw [dif_pos hk]
      refine (headP0_at (res_main_v22 V0) (res_main_v38 V0) (res_main_v40 V0) _ _).trans ?_
      have hs : kscale k = 1 := if_pos hk
      rw [hs, mul_one]
      refine congrFun (congr (congrArg₂ turn (funext fun j => ?_) (funext fun i => cosP_at (res_main_v4 V0) _ i)) (funext fun i => sinP_at (res_main_v4 V0) _ i)) _
      exact (mmP_at _ _ _ _ _ _).trans (hx _)
    · rw [dif_neg hk]
      refine (headP1_at (res_main_v22 V0) (res_main_v38 V0) (res_main_v40 V0) _ _).trans ?_
      have hs : kscale k = Ideal.ofBits FTy.f32 0x3D800000#32 := if_neg hk
      rw [hs]
      refine congrArg (· * Ideal.ofBits FTy.f32 0x3D800000#32) ?_
      refine congr (congr (congrArg₂ turn (funext fun j => ?_) (funext fun i => cosP_at (res_main_v4 V0) _ i)) (funext fun i => sinP_at (res_main_v4 V0) _ i)) (Fin.ext ?_)
      · refine (mmP_at _ _ _ _ _ _).trans ((hx _).trans (congrArg (proj _ _) (funext fun i => congrArg (fun a => (V0 (Proc.devRef .tc main_arg2) : FVec Ideal S1x2048x12288 .f32) (ix3 0 i a)) (Fin.ext ?_))))
        show 2048 + ((k.val - 2048) / 256 * 256 + j.val) = k.val / 256 * 256 + j.val; omega
      · show (k.val - 2048) % 256 = k.val % 256; omega
  · rw [dif_neg hr]
    have hp : posn r = ((res_main_v92 V0 : IVec S8 32) (ix1 (⟨(r.val - 16384) % 8, by omega⟩ : Fin 8))) := by
      unfold posn; rw [if_neg hr]; rfl
    have hx : ∀ j : Fin 4096, proj (fun j => (res_main_v3 V0 : FVec Ideal S128x8x2048 .f32) (ix3 ⟨(r.val - 16384) / 8, by omega⟩ ⟨(r.val - 16384) % 8, by omega⟩ j)) (fun j => (V0 (Proc.devRef .tc main_arg1) : FVec Ideal S2x2048 .f32) (ix2 1 j)) (fun i => (V0 (Proc.devRef .tc main_arg2) : FVec Ideal S1x2048x12288 .f32) (ix3 0 i ⟨j.val, by omega⟩))
        = proj (fun a => (V0 (Proc.devRef .tc main_arg0) : FVec Ideal S17408x2048 .f32) (ix2 r a)) (fun j => (V0 (Proc.devRef .tc main_arg1) : FVec Ideal S2x2048 .f32) (ix2 1 j)) (fun i => (V0 (Proc.devRef .tc main_arg2) : FVec Ideal S1x2048x12288 .f32) (ix3 0 i ⟨j.val, by omega⟩)) := by
      intro j
      refine congrArg (fun x => proj x _ _) (funext fun j => (rowS_at _ _ _ _).trans (congrArg (fun a => (V0 (Proc.devRef .tc main_arg0) : FVec Ideal S17408x2048 .f32) (ix2 a j)) (Fin.ext ?_)))
      show 16384 + ((r.val - 16384) / 8 * 8 + (r.val - 16384) % 8) = r.val; omega
    rw [hp]
    refine (catS_at _ _ _ k).trans ?_
    by_cases hk : k.val < 2048
    · rw [dif_pos hk]
      refine (headS0_at (res_main_v110 V0) (res_main_v126 V0) (res_main_v128 V0) _ _).trans ?_
      have hs : kscale k = 1 := if_pos hk
      rw [hs, mul_one]
      refine congrFun (congr (congrArg₂ turn (funext fun j => ?_) (funext fun i => cosS_at (res_main_v92 V0) _ i)) (funext fun i => sinS_at (res_main_v92 V0) _ i)) _
      exact (mmS_at _ _ _ _ _ _).trans (hx _)
    · rw [dif_neg hk]
      refine (headS1_at (res_main_v110 V0) (res_main_v126 V0) (res_main_v128 V0) _ _).trans ?_
      have hs : kscale k = Ideal.ofBits FTy.f32 0x3D800000#32 := if_neg hk
      rw [hs]
      refine congrArg (· * Ideal.ofBits FTy.f32 0x3D800000#32) ?_
      refine congr (congr (congrArg₂ turn (funext fun j => ?_) (funext fun i => cosS_at (res_main_v92 V0) _ i)) (funext fun i => sinS_at (res_main_v92 V0) _ i)) (Fin.ext ?_)
      · refine (mmS_at _ _ _ _ _ _).trans ((hx _).trans (congrArg (proj _ _) (funext fun i => congrArg (fun a => (V0 (Proc.devRef .tc main_arg2) : FVec Ideal S1x2048x12288 .f32) (ix3 0 i a)) (Fin.ext ?_))))
        show 2048 + ((k.val - 2048) / 256 * 256 + j.val) = k.val / 256 * 256 + j.val; omega
      · show (k.val - 2048) % 256 = k.val % 256; omega

variable (m : (ℓ : Loc nD τ sig) → Buf (Elt Ideal) ℓ)

/-- The rows of prompt and sample. -/
abbrev Xm (c : Dev nD) : Fin 17408 → Fin 2048 → EReal := fun i j => (m ((c : Thread nD τ).loc main_arg0) : FVec Ideal S17408x2048 .f32) (ix2 i j)
/-- The mixer's gain. -/
abbrev gm (c : Dev nD) : Fin 2048 → EReal := fun j => (m ((c : Thread nD τ).loc main_arg1) : FVec Ideal S2x2048 .f32) (ix2 1 j)
/-- The weights. -/
abbrev Wm (c : Dev nD) : Fin 2048 → Fin 12288 → EReal := fun i j => (m ((c : Thread nD τ).loc main_arg2) : FVec Ideal S1x2048x12288 .f32) (ix3 0 i j)

/-- The reference's result array after its run, and its arguments. -/
theorem run_at (ρ : Dev nD → PrngReg) :
    θ_run defs (onTc (τ := τ) (main (F := Ideal))) ⟨m, fun _ => 0, ρ⟩ fun r => ∀ c : Dev nD,
      (r.2.mem ((c.tc : Thread nD τ).loc main_v178) : FVec Ideal S17408x4096 .f32) = (fun i => ropehead (Xm m c (i 0)) (gm m c) (Wm m c) (posn (i 0)) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by idx_vars i; exact out_at (launchContents m c) i0 i1), (h c).2⟩) (Value.run m ρ)

end Cert.RqkRefIdeal.Mm

end
-- ==== Proof.RqkProjValue.lean ====
/-
  The kernel and the reference of the retention's projection of queries and keys compute the same array: what every grid point keeps and stores, the result
  after the run, and the claim that compares the two programs.
-/
module

public import proofs.«01_k».proof.Defs
public import Idealize.ShloMosaic.Adequacy
public import Idealize.ShloMosaic.Init
public import Idealize.ShloMosaic.Lib.Quiescent
public import proofs.«01_k».proof.Proof.RqkProjBody
public import proofs.«01_k».proof.Proof.RqkProjBlocks
public import proofs.«01_k».proof.Proof.RqkProjRef

@[expose] public section

set_option maxRecDepth 16384

noncomputable section

namespace Cert.RqkProjIdeal.Mm

open Cert.RqkProjIdeal Cert.RqkProjIdeal.Gen Cert.MmSpec Idealize.ShloMosaic Idealize.ShloMosaic.TcCoe
open Idealize.ShloMosaic.Pipeline (Dat)

variable (m : (ℓ : Loc nD τ sig) → Buf (Elt Ideal) ℓ)

/-- After every point, the scratch holds the point's block of rows, normed. -/
theorem scratch_at (c : Dev nD) (n : ℕ) (hn : n < cfg0.N) (r : Fin 1024) (k : Fin 2048) :
    ((outsAt0 m c n hn).2 : Vec Ideal S1024x2048 .bf16) (ix2 r k) = nrm (Xm m c ⟨1024 * (n / 8) + r.val, by have := lt136 ⟨n, hn⟩; simp only at this; omega⟩) (gm m c) k := by
  induction n with
  | zero =>
    have hA := outsAt0_A m c ⟨0, hn⟩ (Nat.zero_mod _)
    have hB := sout_at c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) r k
    simp only [iblk0_at, iblk1_at] at hB
    dsimp only at hA
    rw [hA]
    exact hB
  | succ n ih =>
    by_cases h0 : (n + 1) % 8 = 0
    · have hA := outsAt0_A m c ⟨n + 1, hn⟩ h0
      have hB := sout_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) r k
      simp only [iblk0_at, iblk1_at] at hB
      dsimp only at hA
      rw [hA]
      exact hB
    · have hA := outsAt0_B m c ⟨n + 1, hn⟩ h0
      dsimp only at hA
      rw [hA]
      refine (ih (by omega)).trans ?_
      have e : (n + 1) / 8 = n / 8 := by omega
      simp only [e]

/-- A block's entry is its column's entry of the row. -/
theorem block_head (x g : Fin 2048 → EReal) (w : Fin 2048 → Fin 12288 → EReal) (p : BitVec 32) (i : grid0.Coords) (b : ℕ) (hb : b < 8) (hi : (i 1).val = b) (k : Fin 512) :
    turn (fun j => proj x g fun a => w a ⟨512 * b + (256 * (k.val / 256) + j.val), by omega⟩) (fun j => Ideal.cos (ang p j)) (fun j => Ideal.sin (ang p j)) ⟨k.val % 256, by omega⟩ * scl i
      = ropehead x g w p ⟨512 * b + k.val, by omega⟩ := by
  unfold ropehead
  have hs : scl i = kscale ⟨512 * b + k.val, by omega⟩ := by
    unfold scl kscale
    rw [hi]
    by_cases h : b < 4
    · rw [if_pos h, if_pos (by dsimp only; omega)]
    · rw [if_neg h, if_neg (by dsimp only; omega)]
  rw [hs]
  refine congrArg (· * _) (congrArg₂ (fun q c => turn q _ _ c) (funext fun j => congrArg (proj _ _) (funext fun i => congrArg (w i) (Fin.ext ?_))) (Fin.ext ?_))
  · show 512 * b + (256 * (k.val / 256) + j.val) = (512 * b + k.val) / 256 * 256 + j.val; omega
  · show k.val % 256 = (512 * b + k.val) % 256; omega

/-- Every point stores its block of the queries and keys. -/
theorem block_at (c : Dev nD) (t : Fin cfg0.N) (r : Fin 1024) (k : Fin 512) :
    ((outsAt0 m c t.val t.isLt).1 : Vec Ideal S1024x512 .f32) (ix2 r k)
      = ropehead (Xm m c ⟨1024 * (t.val / 8) + r.val, by have := lt136 t; omega⟩) (gm m c) (Wm m c) (posn ⟨1024 * (t.val / 8) + r.val, by have := lt136 t; omega⟩) ⟨512 * (t.val % 8) + k.val, by omega⟩ := by
  rw [← block_head _ _ _ _ (grid0.coords t) _ (by omega) (idx t).2.2.2.2.2.2]
  by_cases h0 : t.val % 8 = 0
  · have hA := outsAt0_A m c t h0
    have hB := out_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t) r k
    simp only [iblk0_at, iblk1_at, iblk2_at, iblk3_at, iblk4_at] at hB
    rw [hA]
    dsimp only
    exact hB
  · have hA := outsAt0_B m c t h0
    have hB := outB_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2 r k
    simp only [blkR, scratch_at, iblk2_at, iblk3_at, iblk4_at] at hB
    have e : (t.val - 1) / 8 = t.val / 8 := by omega
    simp only [e] at hB
    rw [hA]
    dsimp only
    exact hB

/-- The result array after the run. -/
theorem final (c : Dev nD) : ((dats m 0 c).arrAt 5 cfg0.N : FVec Ideal S17408x4096 .f32)
    = fun i => ropehead (Xm m c (i 0)) (gm m c) (Wm m c) (posn (i 0)) (i 1) := by
  refine (dats m 0 c).arrAt_eq_of_covers 5 _ (by decide +kernel) fun t hf y => ?_
  have h136 := lt136 t
  blk_simp
  rw [after0_5]
  idx_vars y
  refine (block_at m c t y0 y1).trans ?_
  have r0 : ((((View.whole main_v31).slice (win0_5.rect t)).emb (ix2 y0 y1) 0 : Fin 17408) : ℕ) = 1024 * (t.val / 8) + y0.val := by blk_simp [idx t]; omega
  have r1 : ((((View.whole main_v31).slice (win0_5.rect t)).emb (ix2 y0 y1) 1 : Fin 4096) : ℕ) = 512 * (t.val % 8) + y1.val := by
    have e1 : win0_5.index t 1 = t.val % 8 := by rw [(idx t).2.2.2.2.2.1]; rfl
    blk_simp
    rw [e1]
    omega
  exact congrArg₂ (fun a b => ropehead (Xm m c a) (gm m c) (Wm m c) (posn a) b) (Fin.ext r0.symm) (Fin.ext r1.symm)

end Cert.RqkProjIdeal.Mm

namespace Cert.Claims

open Cert.MmSpec Idealize.ShloMosaic Idealize.ShloMosaic.TcCoe Idealize.ShloMosaic.Tactic

/-- The reference frees nothing and leaves its arguments as they were. -/
theorem frame_RqkRefIdeal : Cert.quiescent_RqkRefIdeal := fun m ρ _ =>
  (θ_run Cert.RqkRefIdeal.defs _ _).mono (fun r h => ⟨fun c => (h c).2, sem_eq_zero_of_no_sems (by decide) r.2⟩)
    (Cert.RqkRefIdeal.Value.run (F := Ideal) m ρ)

/-- The kernel's array is the reference's. -/
theorem algebraic_Rqk : Cert.algebraic_RqkProjIdeal_RqkRefIdeal := by
  intro m ρ m' ρ' _ hag
  refine ⟨fun c => fun i => MmSpec.ropehead (RqkProjIdeal.Mm.Xm m c (i 0)) (RqkProjIdeal.Mm.gm m c) (RqkProjIdeal.Mm.Wm m c) (MmSpec.posn (i 0)) (i 1), ?_, ?_⟩
  · refine (θ_run _ _ _).mono (fun r h c => ?_) (RqkProjIdeal.Value.run_blocks m ρ)
    obtain ⟨h1, h3⟩ := h c
    exact ⟨h1.trans (RqkProjIdeal.Mm.final m c), h3⟩
  · refine (θ_run _ _ _).mono (fun r h c => ?_) (RqkRefIdeal.Mm.run_at m' ρ')
    obtain ⟨h1, h3⟩ := h c
    have hX : RqkRefIdeal.Mm.Xm m' c = RqkProjIdeal.Mm.Xm m c := funext fun i => funext fun j => congrFun (hag c).1 (ix2 i j)
    have hg : RqkRefIdeal.Mm.gm m' c = RqkProjIdeal.Mm.gm m c := funext fun j => congrFun (hag c).2.1 (ix2 1 j)
    have hW : RqkRefIdeal.Mm.Wm m' c = RqkProjIdeal.Mm.Wm m c := funext fun i => funext fun j => congrFun (hag c).2.2 (ix3 0 i j)
    refine ⟨h1.trans ?_, h3⟩
    rw [hX, hg, hW]; rfl

end Cert.Claims

end
-- ==== Proof.RwoProjBody.lean ====
/-
  The kernel of the retention's output projection: what the body computes from its blocks, entry by entry.
-/
module

public import proofs.«01_k».proof.Proof.Gen.RwoProjIdeal.Value
public import proofs.«01_k».proof.Proof.MmSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RwoProjIdeal.Mm

open Cert.RwoProjIdeal Cert.RwoProjIdeal.Gen Cert.MmSpec Idealize.ShloMosaic Idealize.ShloMosaic.TcCoe

/-- A trip's payload is its rows. -/
theorem pay1_at (x : Vec Ideal S64x4096 .f32) (r : Fin 64) (k : Fin 4096) : k0_pay1 x (ix2 r k) = x (ix2 r k) := by
  pointwise [k0_pay1]

/-- The stored block, entry by entry: the product and the residual. -/
theorem pay2_at (x : Vec Ideal S512x4096 .bf16) (g : Vec Ideal S4096x512 .bf16) (h : Vec Ideal S512x512 .f32) (r : Fin 512) (k : Fin 512) :
    k0_pay2 x g h (ix2 r k) = resid (fun j => x (ix2 r j)) (fun j => g (ix2 j k)) (h (ix2 r k)) := by
  unfold resid
  pointwise [k0_pay2]
  exact add_comm _ _

/-- A trip stores one piece: its 64 rows. -/
theorem tripL_eq (𝒱 : Variants) (bd : Option 𝒱.V) (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x4096 .bf16) (harg6 : arg6.IsWhole) (h1 : k0_cond1 i = 1#1) (X2 : BufTy.Contents (Elt Ideal) arg2.view.ty) (k : Fin k0_t1_loop.trips) :
    tripL_k0_t1 (F := Ideal) 𝒱 c bd i arg2 harg2 arg3 harg3 arg4 harg4 arg5 harg5 arg6 harg6 h1 X2 k
      = [⟨Rect.unit (s := S512x4096) (k0_off1 k) S64x4096.size (k0_off1_inb i k h1),
          k0_pay1 (arg2.view.readAt (Elt Ideal) (Rect.unit (s := S512x4096) (k0_off1 k) S64x4096.size (k0_off1_inb i k h1)).toLoadRect X2)⟩] := by
  unfold tripL_k0_t1 trip_k0_t1
  rfl

/-- Where row `r` of trip `k`'s piece lies. -/
theorem emb_at (i : grid0.Coords) (h1 : k0_cond1 i = 1#1) (k : Fin k0_t1_loop.trips) (n : ℕ) (hn : k.val = n) (r : Fin 512) (r' : Fin 64) (hr : r.val = 64 * n + r'.val) (j : Fin 4096) :
    (Rect.unit (s := S512x4096) (k0_off1 k) S64x4096.size (k0_off1_inb i k h1)).emb (ix2 r' j) = (ix2 r j : S512x4096.Idx) := by
  have h := k0_off1_eq k
  ext a; fin_cases a
  · show k0_off1 k 0 + 1 * r'.val = r.val
    rw [h]; show 64 * k.val + 1 * r'.val = r.val; omega
  · show k0_off1 k 1 + 1 * j.val = j.val
    rw [h]; show 0 + 1 * j.val = j.val; omega

/-- The rows the trips before `n` leave are the block's. -/
theorem canon_pb (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x4096 .bf16) (harg6 : arg6.IsWhole) (h1 : k0_cond1 i = 1#1) (x0 : Vec Ideal S512x4096 .f32) (n : ℕ) (hn : n ≤ 8) (r : Fin 512) (k : Fin 4096) (hr : r.val < 64 * n) :
    View.canon (pb_k0_t1 (F := Ideal) Variants.none c none i arg2 harg2 arg3 harg3 arg4 harg4 arg5 harg5 arg6 harg6 h1 (harg2.unread x0) n) (ix2 r k)
      = x0 (ix2 r k) := by
  induction n with
  | zero => omega
  | succ n ih =>
    have ht : k0_t1_loop.trips = 8 := by decide
    have hs := pb_k0_t1_succ (F := Ideal) Variants.none c none i arg2 harg2 arg3 harg3 arg4 harg4 arg5 harg5 arg6 harg6 h1 (harg2.unread x0) ⟨n, by omega⟩
    rw [tripL_eq] at hs
    rw [hs, List.singleton_append]
    by_cases hlt : r.val < 64 * n
    · rw [View.canon_cons_of_not_mem]
      · exact ih (by omega) hlt
      · intro hm
        have hm : (ix2 r k : S512x4096.Idx) ∈ (Rect.unit (s := S512x4096) (k0_off1 ⟨n, by omega⟩) S64x4096.size (k0_off1_inb i ⟨n, by omega⟩ h1)).set := hm
        rw [Rect.mem_set_unit, k0_off1_eq] at hm
        have h0 := (hm 0).1
        have : 64 * n ≤ r.val := h0
        omega
    · have e := emb_at i h1 ⟨n, by omega⟩ n rfl r ⟨r.val - 64 * n, by omega⟩ (by show r.val = 64 * n + (r.val - 64 * n); omega)
      rw [← e k, View.canon_cons_emb, pay1_at]
      rw [View.readAt_apply, harg2.read_unread]
      rfl

/-- Case A leaves the block in the scratch. -/
theorem sout_at (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x4096 .bf16) (harg6 : arg6.IsWhole) (hc0 : cond0_0 i) (x0 : Vec Ideal S512x4096 .f32) (x1 : Vec Ideal S4096x512 .bf16) (x2 : Vec Ideal S512x512 .f32) (r : Fin 512) (k : Fin 4096) :
    sout0_A_0 c i arg2 harg2 arg3 harg3 arg4 harg4 arg5 harg5 arg6 harg6 hc0 x0 x1 x2 (ix2 r k) = x0 (ix2 r k) := by
  frame_open
  frame_out
  exact canon_pb c i arg2 harg2 arg3 harg3 arg4 harg4 arg5 harg5 arg6 harg6 hc0 x0 8 (le_refl _) r k (by omega)

/-- Case A's stored block. -/
theorem out_at (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x4096 .bf16) (harg6 : arg6.IsWhole) (hc0 : cond0_0 i) (x0 : Vec Ideal S512x4096 .f32) (x1 : Vec Ideal S4096x512 .bf16) (x2 : Vec Ideal S512x512 .f32) (r : Fin 512) (k : Fin 512) :
    out0_A_3 c i arg2 harg2 arg3 harg3 arg4 harg4 arg5 harg5 arg6 harg6 hc0 x0 x1 x2 (ix2 r k) = resid (fun j => x0 (ix2 r j)) (fun j => x1 (ix2 j k)) (x2 (ix2 r k)) := by
  frame_open
  try simp (disch := decide) only [↓ View.readCov_skip, ↓ View.readCov_cons_toLoadRect, ↓ View.readCov_fill]
  frame_out
  try simp only [read_unread_whole]
  rw [pay2_at]
  refine congrArg (fun f => resid f (fun j => x1 (ix2 j k)) (x2 (ix2 r k))) (funext fun j => ?_)
  rw [View.readCov_eq_canon']
  refine Eq.trans (congrArg (View.canon _) (?_ : _ = (ix2 r j : S512x4096.Idx))) (canon_pb c i arg2 harg2 arg3 harg3 arg4 harg4 arg5 harg5 arg6 harg6 hc0 x0 8 (le_refl _) r j (by omega))
  ext a; fin_cases a <;> simp [Rect.idx_unit_val] <;> rfl

/-- Case B's stored block, from the scratch it finds. -/
theorem outB_at (c : Dev nD) (i : grid0.Coords) (arg2 : Memref sig .tc .vmem S512x4096 .f32) (harg2 : arg2.IsWhole) (arg3 : Memref sig .tc .vmem S4096x512 .bf16) (harg3 : arg3.IsWhole) (arg4 : Memref sig .tc .vmem S512x512 .f32) (harg4 : arg4.IsWhole) (arg5 : Memref sig .tc .vmem S512x512 .f32) (harg5 : arg5.IsWhole) (arg6 : Memref sig .tc .vmem S512x4096 .bf16) (harg6 : arg6.IsWhole) (hc0 : ¬cond0_0 i) (x0 : Vec Ideal S512x4096 .f32) (x1 : Vec Ideal S4096x512 .bf16) (x2 : Vec Ideal S512x512 .f32) (xs0 : Vec Ideal S512x4096 .bf16) (r : Fin 512) (k : Fin 512) :
    out0_B_3 c i arg2 harg2 arg3 harg3 arg4 harg4 arg5 harg5 arg6 harg6 hc0 x0 x1 x2 xs0 (ix2 r k) = resid (fun j => xs0 (ix2 r j)) (fun j => x1 (ix2 j k)) (x2 (ix2 r k)) := by
  frame_open
  try simp (disch := decide) only [↓ View.readCov_skip, ↓ View.readCov_cons_toLoadRect, ↓ View.readCov_fill]
  frame_out
  try simp only [read_unread_whole]
  exact pay2_at xs0 x1 x2 r k

end Cert.RwoProjIdeal.Mm

end
-- ==== Proof.RwoProjBlocks.lean ====
/-
  The kernel of the retention's output projection: its input blocks at every grid point, and its result array.
-/
module

public import proofs.«01_k».proof.Proof.Gen.RwoProjIdeal.Value
public import proofs.«01_k».proof.Proof.MmSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RwoProjIdeal.Mm

open Cert.RwoProjIdeal Cert.RwoProjIdeal.Gen Cert.MmSpec Idealize.ShloMosaic Idealize.ShloMosaic.TcCoe
open Idealize.ShloMosaic.Pipeline (Dat)

variable (m : (ℓ : Loc nD τ sig) → Buf (Elt Ideal) ℓ)

/-- Every window's block at every grid point. -/
theorem idx : ∀ t : Fin cfg0.N, win0_0.index t = ![t.val / 4, 0] ∧ win0_1.index t = ![0, t.val % 4]
    ∧ win0_2.index t = ![t.val / 4, t.val % 4] ∧ win0_3.index t = ![t.val / 4, t.val % 4] :=
  (by decide +kernel : ∀ t : Fin grid0.N, _)

/-- The rows to project. -/
abbrev Xm (c : Dev nD) : Fin 17408 → Fin 4096 → EReal := fun i j => (m ((c : Thread nD τ).loc main_arg0) : FVec Ideal S17408x4096 .f32) (ix2 i j)
/-- The rows they are added to. -/
abbrev Hm (c : Dev nD) : Fin 17408 → Fin 2048 → EReal := fun i j => (m ((c : Thread nD τ).loc main_arg1) : FVec Ideal S17408x2048 .f32) (ix2 i j)
/-- The weights. -/
abbrev Wm (c : Dev nD) : Fin 4096 → Fin 2048 → EReal := fun i j => (m ((c : Thread nD τ).loc main_arg2) : FVec Ideal S1x4096x2048 .f32) (ix3 0 i j)

/-- There are 136 grid points. -/
theorem lt_N (t : Fin cfg0.N) : t.val < 136 := lt_of_lt_of_eq t.isLt N_0

/-- A point's rows. -/
theorem iblk0_at (c : Dev nD) (t : Fin cfg0.N) (r : Fin 512) (k : Fin 4096) :
    (iblk m c 0 t : Vec Ideal S512x4096 .f32) (ix2 r k) = Xm m c ⟨512 * (t.val / 4) + r.val, by have := lt_N t; omega⟩ k := by
  blk_ext [iblk, V, idx t]

/-- A point's weights. -/
theorem iblk1_at (c : Dev nD) (t : Fin cfg0.N) (k : Fin 4096) (j : Fin 512) :
    (iblk m c 1 t : Vec Ideal S4096x512 .bf16) (ix2 k j) = Wm m c k ⟨512 * (t.val % 4) + j.val, by omega⟩ := by
  blk_simp [iblk]
  entry_read
  pointwise
  blk_ext [idx t]

/-- A point's block of the rows added to. -/
theorem iblk2_at (c : Dev nD) (t : Fin cfg0.N) (r : Fin 512) (j : Fin 512) :
    (iblk m c 2 t : Vec Ideal S512x512 .f32) (ix2 r j) = Hm m c ⟨512 * (t.val / 4) + r.val, by have := lt_N t; omega⟩ ⟨512 * (t.val % 4) + j.val, by omega⟩ := by
  blk_ext [iblk, V, idx t]

end Cert.RwoProjIdeal.Mm

end
-- ==== Proof.RwoProjRef.lean ====
/-
  An output projection and its residual as the reference writes them: a row against a column of weights, added to the row's entry.
-/
module

public import proofs.«01_k».proof.Proof.Gen.RwoRefIdeal.Run
public import proofs.«01_k».proof.Proof.MmSpec
public import Idealize.ShloMosaic.Lib.Pointwise

@[expose] public section

set_option maxRecDepth 16384

noncomputable section

namespace Cert.RwoRefIdeal.Mm

open Cert.RwoRefIdeal Cert.RwoRefIdeal.Gen Cert.MmSpec Idealize.ShloMosaic Idealize.ShloMosaic.TcCoe

/-- The reference's result, of its arguments' contents. -/
theorem out_at (X : FVec Ideal S17408x4096 .f32) (H : FVec Ideal S17408x2048 .f32) (W : FVec Ideal S1x4096x2048 .f32) (r : Fin 17408) (k : Fin 2048) :
    (addf H (Host.dotGeneral dot_S17408x4096_S4096x2048_S17408x2048_1_0_0_1_n_n none X (shapeCast _ W shapeCasts_S1x4096x2048_S4096x2048)) : FVec Ideal S17408x2048 .f32) (ix2 r k)
      = resid (fun j => X (ix2 r j)) (fun j => W (ix3 0 j k)) (H (ix2 r k)) := by
  unfold resid
  pointwise

variable (m : (ℓ : Loc nD τ sig) → Buf (Elt Ideal) ℓ)

/-- The rows to project. -/
abbrev Xm (c : Dev nD) : Fin 17408 → Fin 4096 → EReal := fun i j => (m ((c : Thread nD τ).loc main_arg0) : FVec Ideal S17408x4096 .f32) (ix2 i j)
/-- The rows they are added to. -/
abbrev Hm (c : Dev nD) : Fin 17408 → Fin 2048 → EReal := fun i j => (m ((c : Thread nD τ).loc main_arg1) : FVec Ideal S17408x2048 .f32) (ix2 i j)
/-- The weights. -/
abbrev Wm (c : Dev nD) : Fin 4096 → Fin 2048 → EReal := fun i j => (m ((c : Thread nD τ).loc main_arg2) : FVec Ideal S1x4096x2048 .f32) (ix3 0 i j)

/-- The reference's result array after its run, and its arguments. -/
theorem run_at (ρ : Dev nD → PrngReg) :
    θ_run defs (onTc (τ := τ) (main (F := Ideal))) ⟨m, fun _ => 0, ρ⟩ fun r => ∀ c : Dev nD,
      (r.2.mem ((c.tc : Thread nD τ).loc main_v2) : FVec Ideal S17408x2048 .f32) = (fun i => resid (Xm m c (i 0)) (fun j => Wm m c j (i 1)) (Hm m c (i 0) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by idx_vars i; exact out_at _ _ _ i0 i1), (h c).2⟩) (Value.run m ρ)

end Cert.RwoRefIdeal.Mm

end
-- ==== Proof.RwoProjValue.lean ====
/-
  The output projection's kernel and reference compute the same array: what every grid point keeps and stores, the result
  after the run, and the claim that compares the two programs.
-/
module

public import proofs.«01_k».proof.Defs
public import Idealize.ShloMosaic.Adequacy
public import Idealize.ShloMosaic.Init
public import Idealize.ShloMosaic.Lib.Quiescent
public import proofs.«01_k».proof.Proof.RwoProjBody
public import proofs.«01_k».proof.Proof.RwoProjBlocks
public import proofs.«01_k».proof.Proof.RwoProjRef

@[expose] public section

set_option maxRecDepth 16384

noncomputable section

namespace Cert.RwoProjIdeal.Mm

open Cert.RwoProjIdeal Cert.RwoProjIdeal.Gen Cert.MmSpec Idealize.ShloMosaic Idealize.ShloMosaic.TcCoe
open Idealize.ShloMosaic.Pipeline (Dat)

variable (m : (ℓ : Loc nD τ sig) → Buf (Elt Ideal) ℓ)

/-- After every point, the scratch holds the point's block of rows. -/
theorem scratch_at (c : Dev nD) (n : ℕ) (hn : n < cfg0.N) (r : Fin 512) (k : Fin 4096) :
    ((outsAt0 m c n hn).2 : Vec Ideal S512x4096 .bf16) (ix2 r k) = (Xm m c ⟨512 * (n / 4) + r.val, by have := lt_N ⟨n, hn⟩; simp only at this; omega⟩) k := by
  induction n with
  | zero =>
    have hA := outsAt0_A m c ⟨0, hn⟩ (Nat.zero_mod _)
    have hB := sout_at c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) r k
    simp only [iblk0_at] at hB
    dsimp only at hA
    rw [hA]
    exact hB
  | succ n ih =>
    by_cases h0 : (n + 1) % 4 = 0
    · have hA := outsAt0_A m c ⟨n + 1, hn⟩ h0
      have hB := sout_at c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) r k
      simp only [iblk0_at] at hB
      dsimp only at hA
      rw [hA]
      exact hB
    · have hA := outsAt0_B m c ⟨n + 1, hn⟩ h0
      dsimp only at hA
      rw [hA]
      refine (ih (by omega)).trans ?_
      have e : (n + 1) / 4 = n / 4 := by omega
      simp only [e]

/-- Every point stores its block of the projection. -/
theorem block_at (c : Dev nD) (t : Fin cfg0.N) (r : Fin 512) (k : Fin 512) :
    ((outsAt0 m c t.val t.isLt).1 : Vec Ideal S512x512 .f32) (ix2 r k)
      = resid (Xm m c ⟨512 * (t.val / 4) + r.val, by have := lt_N t; omega⟩) (fun j => Wm m c j ⟨512 * (t.val % 4) + k.val, by omega⟩) (Hm m c ⟨512 * (t.val / 4) + r.val, by have := lt_N t; omega⟩ ⟨512 * (t.val % 4) + k.val, by omega⟩) := by
  by_cases h0 : t.val % 4 = 0
  · have hA := outsAt0_A m c t h0
    have hB := out_at c (grid0.coords t) (ms0_0 t) (hs0_0 t) (ms0_1 t) (hs0_1 t) (ms0_2 t) (hs0_2 t) (ms0_3 t) (hs0_3 t) scM0_0 (Memref.isWhole_whole _) ((hcond0_0 t).mpr h0) (iblk m c 0 t) (iblk m c 1 t) (iblk m c 2 t) r k
    simp only [iblk0_at, iblk1_at, iblk2_at] at hB
    rw [hA]
    dsimp only
    exact hB
  · have hA := outsAt0_B m c t h0
    have hB := outB_at c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2 r k
    simp only [scratch_at, iblk1_at, iblk2_at] at hB
    have e : (t.val - 1) / 4 = t.val / 4 := by omega
    simp only [e] at hB
    rw [hA]
    dsimp only
    exact hB

/-- The result array after the run. -/
theorem final (c : Dev nD) : ((dats m 0 c).arrAt 3 cfg0.N : FVec Ideal S17408x2048 .f32)
    = fun i => resid (Xm m c (i 0)) (fun j => Wm m c j (i 1)) (Hm m c (i 0) (i 1)) := by
  refine (dats m 0 c).arrAt_eq_of_covers 3 _ (by decide +kernel) fun t hf y => ?_
  have hN := lt_N t
  blk_simp
  rw [after0_3]
  idx_vars y
  refine (block_at m c t y0 y1).trans ?_
  have r0 : ((((View.whole main_v2).slice (win0_3.rect t)).emb (ix2 y0 y1) 0 : Fin 17408) : ℕ) = 512 * (t.val / 4) + y0.val := by blk_simp [idx t]; omega
  have r1 : ((((View.whole main_v2).slice (win0_3.rect t)).emb (ix2 y0 y1) 1 : Fin 2048) : ℕ) = 512 * (t.val % 4) + y1.val := by
    have e1 : win0_3.index t 1 = t.val % 4 := by rw [(idx t).2.2.2]; rfl
    blk_simp
    rw [e1]
    omega
  exact congrArg₂ (fun a b => resid (Xm m c a) (fun j => Wm m c j b) (Hm m c a b)) (Fin.ext r0.symm) (Fin.ext r1.symm)

end Cert.RwoProjIdeal.Mm

namespace Cert.Claims

open Cert.MmSpec Idealize.ShloMosaic Idealize.ShloMosaic.TcCoe Idealize.ShloMosaic.Tactic

/-- The reference frees nothing and leaves its arguments as they were. -/
theorem frame_RwoRefIdeal : Cert.quiescent_RwoRefIdeal := fun m ρ _ =>
  (θ_run Cert.RwoRefIdeal.defs _ _).mono (fun r h => ⟨fun c => (h c).2, sem_eq_zero_of_no_sems (by decide) r.2⟩)
    (Cert.RwoRefIdeal.Value.run (F := Ideal) m ρ)

/-- The kernel's array is the reference's. -/
theorem algebraic_Rwo : Cert.algebraic_RwoProjIdeal_RwoRefIdeal := by
  intro m ρ m' ρ' _ hag
  refine ⟨fun c => fun i => MmSpec.resid (RwoProjIdeal.Mm.Xm m c (i 0)) (fun j => RwoProjIdeal.Mm.Wm m c j (i 1)) (RwoProjIdeal.Mm.Hm m c (i 0) (i 1)), ?_, ?_⟩
  · refine (θ_run _ _ _).mono (fun r h c => ?_) (RwoProjIdeal.Value.run_blocks m ρ)
    obtain ⟨h1, h3⟩ := h c
    exact ⟨h1.trans (RwoProjIdeal.Mm.final m c), h3⟩
  · refine (θ_run _ _ _).mono (fun r h c => ?_) (RwoRefIdeal.Mm.run_at m' ρ')
    obtain ⟨h1, h3⟩ := h c
    have hX : RwoRefIdeal.Mm.Xm m' c = RwoProjIdeal.Mm.Xm m c := funext fun i => funext fun j => congrFun (hag c).1 (ix2 i j)
    have hH : RwoRefIdeal.Mm.Hm m' c = RwoProjIdeal.Mm.Hm m c := funext fun i => funext fun j => congrFun (hag c).2.1 (ix2 i j)
    have hW : RwoRefIdeal.Mm.Wm m' c = RwoProjIdeal.Mm.Wm m c := funext fun i => funext fun j => congrFun (hag c).2.2 (ix3 0 i j)
    refine ⟨h1.trans ?_, h3⟩
    rw [hX, hH, hW]; rfl

end Cert.Claims

end
-- ==== Proof.SbSpec.lean ====
/-
  The stick-breaking attention of the prompt as plain sums over the extended reals. A row at position `T` looks at
  the keys before it; `Z s` is its logit for key `s`. Key `s` gets the weight
  `exp (log_sigmoid (Z s) + (the sum over the keys between s and T of log_sigmoid (-Z)))`. Also the algebra both
  programs need: sums over tiles of 128 keys, a number split into two parts, and the two forms of the exponent.
-/
module

public import Idealize.ShloMosaic.Lib.Pointwise

@[expose] public section

noncomputable section

namespace Cert.SbSpec

open Idealize.ShloMosaic

/-- A row of 2048 numbers, at any position: 0 outside. -/
def ofFin (f : Fin 2048 → EReal) (s : ℕ) : EReal := if h : s < 2048 then f ⟨s, h⟩ else 0

/-- A row at a position inside. -/
theorem ofFin_at (f : Fin 2048 → EReal) (s : Fin 2048) : ofFin f s.val = f s := dif_pos s.isLt

/-- The softplus of a logit, `log (1 + exp z)` in its stable form. -/
def sp (z : EReal) : EReal := max z 0 + Ideal.log1p (Ideal.exp (0 - max z (-z)))

/-- What key `j` contributes to the rest of a row at position `T`: nothing if `j` is not before it. -/
def restAt (T : ℕ) (Z : ℕ → EReal) (j : ℕ) : EReal := if j < T then 0 - sp (Z j) else 0

/-- The contributions of the keys from `s` on. -/
def restFrom (T : ℕ) (Z : ℕ → EReal) (s : ℕ) : EReal := ∑ j ∈ Finset.Ico s 2048, restAt T Z j

/-- The weight of key `s`. -/
def wgt (T : ℕ) (Z : ℕ → EReal) (s : ℕ) : EReal :=
  if s < T then Ideal.exp (Z s - sp (Z s) + restFrom T Z (s + 1)) else 0

/-- The weighted values of the keys from `s` on. -/
def attFrom (T : ℕ) (Z V : ℕ → EReal) (s : ℕ) : EReal := ∑ j ∈ Finset.Ico s 2048, wgt T Z j * V j

/-- The exponential is never negative. -/
theorem exp_nonneg (x : EReal) : 0 ≤ Ideal.exp x := by
  induction x using EReal.rec with
  | bot => exact le_refl _
  | top => exact le_top
  | coe r => exact EReal.coe_nonneg.mpr (Real.exp_pos r).le

/-- The logarithm of one plus something not negative is not minus infinity. -/
theorem log1p_ne_bot (x : EReal) (h : 0 ≤ x) : Ideal.log1p x ≠ ⊥ := by
  induction x using EReal.rec with
  | bot => exact absurd h (by decide)
  | top =>
    have e : (1 : EReal) + ⊤ = ⊤ := rfl
    unfold Ideal.log1p
    rw [e]
    exact fun h => nomatch h
  | coe r =>
    have hr : 0 ≤ r := EReal.coe_nonneg.mp h
    have e : (1 : EReal) + (r : EReal) = ((1 + r : ℝ) : EReal) := rfl
    unfold Ideal.log1p
    rw [e]
    show (if 1 + r ≤ 0 then (⊥ : EReal) else (Real.log (1 + r) : EReal)) ≠ ⊥
    rw [if_neg (by linarith)]
    exact EReal.coe_ne_bot _

/-- A softplus is not minus infinity. -/
theorem sp_ne_bot (z : EReal) : sp z ≠ ⊥ := by
  unfold sp
  rw [Ne, EReal.add_eq_bot_iff, not_or]
  exact ⟨fun h => absurd (le_max_right z 0) (by rw [h]; decide), log1p_ne_bot _ (exp_nonneg _)⟩

/-- No contribution is plus infinity. -/
theorem restAt_ne_top (T : ℕ) (Z : ℕ → EReal) (j : ℕ) : restAt T Z j ≠ ⊤ := by
  unfold restAt
  split
  · generalize hs : sp (Z j) = s
    have hb : s ≠ ⊥ := hs ▸ sp_ne_bot _
    induction s using EReal.rec with
    | bot => exact absurd rfl hb
    | top => exact fun h => nomatch h
    | coe r => exact EReal.coe_ne_top (0 - r)
  · exact EReal.zero_ne_top

/-- A number that is not plus infinity, added to what is left of it after taking it away. -/
theorem add_sub_self_of_ne_top (x : EReal) (h : x ≠ ⊤) : x + (x - x) = x := by
  induction x using EReal.rec with
  | bot => rfl
  | top => exact absurd rfl h
  | coe r =>
    show ((r + (r - r) : ℝ) : EReal) = r
    rw [sub_self, add_zero]

/-- Numbers against zeros and ones, once as they are and once as what is left of them. -/
theorem split_sum (x : Fin 128 → EReal) (p : Fin 128 → Prop) [DecidablePred p] (h : ∀ k, x k ≠ ⊤) :
    ∑ k, x k * (if p k then 1 else 0) + ∑ k, (x k - x k) * (if p k then 1 else 0) = ∑ k, if p k then x k else 0 := by
  rw [← Finset.sum_add_distrib]
  refine Finset.sum_congr rfl fun k _ => ?_
  split
  · rw [mul_one, mul_one, add_sub_self_of_ne_top _ (h k)]
  · rw [mul_zero, mul_zero, add_zero]

/-- A tile's keys after key `c`. -/
theorem tile_suffix (f : ℕ → EReal) (s : ℕ) (c : Fin 128) :
    ∑ k : Fin 128, (if c.val < k.val then f (s + k.val) else 0) = ∑ j ∈ Finset.Ico (s + (c.val + 1)) (s + 128), f j := by
  rw [Fin.sum_univ_eq_sum_range (fun k => if c.val < k then f (s + k) else 0) 128, ← Finset.sum_filter, Finset.sum_Ico_eq_sum_range]
  have e : (Finset.range 128).filter (fun k => c.val < k) = Finset.Ico (c.val + 1) 128 := by
    ext k
    simp only [Finset.mem_filter, Finset.mem_range, Finset.mem_Ico]
    omega
  rw [e, Finset.sum_Ico_eq_sum_range]
  refine Finset.sum_congr (congrArg Finset.range (by omega)) fun k _ => congrArg f (by omega)

/-- A tile's keys. -/
theorem tile_sum (f : ℕ → EReal) (s W : ℕ) :
    ∑ k : Fin W, f (s + k.val) = ∑ j ∈ Finset.Ico s (s + W), f j := by
  rw [Fin.sum_univ_eq_sum_range (fun k => f (s + k)) W, Finset.sum_Ico_eq_sum_range]
  refine Finset.sum_congr (congrArg Finset.range (by omega)) fun k _ => rfl

/-- The contributions from `s` on, by what lies in `[s, e)`. -/
theorem restFrom_split (T : ℕ) (Z : ℕ → EReal) (s e : ℕ) (h1 : s ≤ e) (h2 : e ≤ 2048) :
    restFrom T Z e + ∑ j ∈ Finset.Ico s e, restAt T Z j = restFrom T Z s := by
  unfold restFrom
  rw [add_comm]
  exact Finset.sum_Ico_consecutive _ h1 h2

/-- No key at or after the row's position contributes. -/
theorem restFrom_zero (T : ℕ) (Z : ℕ → EReal) (s : ℕ) (h : T ≤ s) : restFrom T Z s = 0 :=
  Finset.sum_eq_zero fun j hj => if_neg (by have := (Finset.mem_Ico.mp hj).1; omega)

/-- The weighted values from `s` on, by what lies in `[s, e)`. -/
theorem attFrom_split (T : ℕ) (Z V : ℕ → EReal) (s e : ℕ) (h1 : s ≤ e) (h2 : e ≤ 2048) :
    attFrom T Z V e + ∑ j ∈ Finset.Ico s e, wgt T Z j * V j = attFrom T Z V s := by
  unfold attFrom
  rw [add_comm]
  exact Finset.sum_Ico_consecutive _ h1 h2

/-- No key at or after the row's position has a weight. -/
theorem attFrom_zero (T : ℕ) (Z V : ℕ → EReal) (s : ℕ) (h : T ≤ s) : attFrom T Z V s = 0 :=
  Finset.sum_eq_zero fun j hj => by
    have h1 := (Finset.mem_Ico.mp hj).1
    have e : wgt T Z j = 0 := if_neg (by omega)
    rw [e, zero_mul]

end Cert.SbSpec

end
-- ==== Proof.SbTile.lean ====
/-
  The prompt's attention kernel works on tiles of 128 keys, from the row's position back to key 0. Here: what one tile's
  operations leave, entry by entry, and what four tiles do to the accumulator.
-/
module

public import proofs.«01_k».proof.Proof.Gen.SbAttIdeal.Value
public import proofs.«01_k».proof.Proof.SbSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SbAttIdeal.Mm

open Cert.SbAttIdeal Cert.SbAttIdeal.Gen Cert.SbSpec Idealize.ShloMosaic Idealize.ShloMosaic.TcCoe

/-- A tile of rows by keys. -/
abbrev Tile := FVec Ideal S512x128 .f32

/-- The softplus of a tile of logits. -/
def spA (z : Tile) : Tile :=
  addf (maximumf z (broadcast S512x128 (Scalar.ofBits .f32 0x00000000#32)))
    (log1p (exp (subf (broadcast S512x128 (Scalar.ofBits .f32 0x00000000#32)) (absf z))))

/-- The tile's contributions, unmasked. -/
def xA (z : Tile) : Tile := subf (broadcast S512x128 (Scalar.ofBits .f32 0x00000000#32)) (spA z)

/-- The tile's contributions against the weights `w` of 128 rows, as two parts. -/
def csA (x : Tile) (w : FVec Ideal S128x256 .bf16) : FVec Ideal S512x256 .f32 :=
  matmul dot_S512x256_S256x256_S512x256_1_0_0_1_n_n none
    (concatenate S512x256 1 [⟨S512x128, truncf .bf16 x bitsLt_bf16_f32⟩,
      ⟨S512x128, truncf .bf16 (subf x (extf .f32 (truncf .bf16 x bitsLt_bf16_f32 : FVec Ideal S512x128 .bf16) bitsLt_bf16_f32)) bitsLt_bf16_f32⟩]
      concatenates_S512x128_S512x128_S512x256_d1 : FVec Ideal S512x256 .bf16)
    (concatenate S256x256 0 [⟨S128x256, w⟩, ⟨S128x256, w⟩] concatenates_S128x256_S128x256_S256x256_d0 : FVec Ideal S256x256 .bf16)
    (constant S512x256 .f32 0x00000000#32)

/-- The carry after a tile. -/
def carA (C x : Tile) (w : FVec Ideal S128x256 .bf16) : Tile :=
  addf C (extractStridedSlice S512x128 ![0, 128] (csA x w) slices_S512x256_o0_128_S512x128)

/-- The tile's weights, unmasked. -/
def expA (z C x : Tile) (w : FVec Ideal S128x256 .bf16) : Tile :=
  exp (addf (subf z (spA z)) (addf C (extractStridedSlice S512x128 ![0, 0] (csA x w) slices_S512x256_o0_0_S512x128)))

/-- The softplus, entry by entry. -/
theorem spA_at (z : Tile) (r : Fin 512) (c : Fin 128) : spA z (ix2 r c) = sp (z (ix2 r c)) := by
  unfold sp
  pointwise [spA]
  rfl

/-- The contributions, entry by entry. -/
theorem xA_at (z : Tile) (r : Fin 512) (c : Fin 128) : xA z (ix2 r c) = 0 - sp (z (ix2 r c)) := by
  unfold xA
  rw [← spA_at]
  generalize spA z = v
  pointwise

/-- The weights that sum the keys after a key (first 128 columns) and all keys (the others). -/
theorem w_at (k : Fin 128) (c : Fin 256) : k0_pay43 (F := Ideal) (ix2 k c) = if c.val < 128 ∧ ¬ c.val < k.val then (0 : EReal) else 1 := by
  have h : ∀ (k : Fin 128) (c : Fin 256), IntOp.ori (IntOp.cmpi .sge (BitVec.ofNat 32 c.val) 128#32) (IntOp.cmpi .sgt (BitVec.ofNat 32 k.val) (BitVec.ofNat 32 c.val)) = if c.val < 128 ∧ ¬ c.val < k.val then 0#1 else 1#1 := by
    decide +kernel
  have e : k0_pay43 (F := Ideal) (ix2 k c) = Scalar.select (IntOp.ori (IntOp.cmpi .sge (BitVec.ofNat 32 c.val) 128#32) (IntOp.cmpi .sgt (BitVec.ofNat 32 k.val) (BitVec.ofNat 32 c.val))) (1 : EReal) 0 := by
    pointwise [k0_pay43]
  rw [e, h]
  by_cases hk : c.val < 128 ∧ ¬ c.val < k.val
  · rw [if_pos hk, if_pos hk]
    rfl
  · rw [if_neg hk, if_neg hk]
    rfl

/-- The split product is the two halves' sums. -/
theorem csA_at (x : Tile) (w : FVec Ideal S128x256 .bf16) (r : Fin 512) (c : Fin 256) :
    csA x w (ix2 r c) = ∑ k : Fin 128, x (ix2 r k) * w (ix2 k c) + ∑ k : Fin 128, (x (ix2 r k) - x (ix2 r k)) * w (ix2 k c) := by
  have h : csA x w (ix2 r c) = ∑ k : Fin 256,
      (if h : k.val < 128 then x (ix2 r ⟨k.val, h⟩) else x (ix2 r ⟨k.val - 128, by omega⟩) - x (ix2 r ⟨k.val - 128, by omega⟩))
      * (if h : k.val < 128 then w (ix2 ⟨k.val, h⟩ c) else w (ix2 ⟨k.val - 128, by omega⟩ c)) := by
    pointwise [csA]
  rw [h]
  refine (Fin.sum_univ_add (a := 128) (b := 128) _).trans (congrArg₂ (· + ·) (Finset.sum_congr rfl fun k _ => ?_) (Finset.sum_congr rfl fun k _ => ?_))
  · rw [dif_pos (show (Fin.castAdd 128 k).val < 128 from k.isLt), dif_pos (show (Fin.castAdd 128 k).val < 128 from k.isLt)]
    rfl
  · have hn : ¬ (Fin.natAdd 128 k).val < 128 := by show ¬ 128 + k.val < 128; omega
    have he : (⟨(Fin.natAdd 128 k).val - 128, by show 128 + k.val - 128 < 128; omega⟩ : Fin 128) = k := Fin.ext (by show 128 + k.val - 128 = k.val; omega)
    rw [dif_neg hn, dif_neg hn, he]

/-- The slices of the split product. -/
theorem carA_at (C x : Tile) (w : FVec Ideal S128x256 .bf16) (r : Fin 512) (c : Fin 128) :
    carA C x w (ix2 r c) = C (ix2 r c) + csA x w (ix2 r (⟨128 + c.val, by omega⟩ : Fin 256)) := by
  unfold carA
  generalize csA x w = v
  pointwise

/-- The unmasked weight, entry by entry. -/
theorem expA_at (z C x : Tile) (w : FVec Ideal S128x256 .bf16) (r : Fin 512) (c : Fin 128) :
    expA z C x w (ix2 r c) = Ideal.exp (z (ix2 r c) - sp (z (ix2 r c)) + (C (ix2 r c) + csA x w (ix2 r (⟨c.val, by omega⟩ : Fin 256)))) := by
  unfold expA
  rw [← spA_at]
  generalize csA x w = v
  generalize spA z = u
  pointwise

variable (T : Fin 512 → ℕ) (Z V : Fin 512 → ℕ → EReal)

/-- The carry after a tile of keys from `s` on. -/
theorem car_tile (C x : Tile) (s : ℕ) (hs : s + 128 ≤ 2048) (hx : ∀ r c, x (ix2 r c) = restAt (T r) (Z r) (s + c.val))
    (hC : ∀ r c, C (ix2 r c) = restFrom (T r) (Z r) (s + 128)) (r : Fin 512) (c : Fin 128) :
    carA C x (k0_pay43 (F := Ideal)) (ix2 r c) = restFrom (T r) (Z r) s := by
  rw [carA_at, csA_at, hC, ← restFrom_split (T r) (Z r) s (s + 128) (by omega) hs, ← tile_sum]
  refine congrArg (_ + ·) ?_
  have e := split_sum (fun k => restAt (T r) (Z r) (s + k.val)) (fun _ => True) (fun k => restAt_ne_top _ _ _)
  simp only [if_true] at e
  refine Eq.trans ?_ e
  refine congrArg₂ (· + ·) (Finset.sum_congr rfl fun k _ => ?_) (Finset.sum_congr rfl fun k _ => ?_)
  · rw [hx, w_at, if_neg (by dsimp only; omega)]
  · rw [hx, w_at, if_neg (by dsimp only; omega)]

/-- The unmasked weights of a tile of keys from `s` on. -/
theorem exp_tile (z C x : Tile) (s : ℕ) (hs : s + 128 ≤ 2048) (hz : ∀ r c, z (ix2 r c) = Z r (s + c.val)) (hx : ∀ r c, x (ix2 r c) = restAt (T r) (Z r) (s + c.val))
    (hC : ∀ r c, C (ix2 r c) = restFrom (T r) (Z r) (s + 128)) (r : Fin 512) (c : Fin 128) :
    expA z C x (k0_pay43 (F := Ideal)) (ix2 r c) = Ideal.exp (Z r (s + c.val) - sp (Z r (s + c.val)) + restFrom (T r) (Z r) (s + c.val + 1)) := by
  rw [expA_at, csA_at, hC, hz, ← restFrom_split (T r) (Z r) (s + c.val + 1) (s + 128) (by omega) hs]
  refine congrArg (fun u => Ideal.exp (Z r (s + c.val) - sp (Z r (s + c.val)) + (restFrom (T r) (Z r) (s + 128) + u))) ?_
  have e := split_sum (fun k => restAt (T r) (Z r) (s + k.val)) (fun k => c.val < k.val) (fun k => restAt_ne_top _ _ _)
  rw [tile_suffix (restAt (T r) (Z r)) s c] at e
  rw [show s + c.val + 1 = s + (c.val + 1) from by omega]
  refine Eq.trans ?_ e
  refine congrArg₂ (· + ·) (Finset.sum_congr rfl fun k _ => ?_) (Finset.sum_congr rfl fun k _ => ?_)
  · rw [hx, w_at]
    refine congrArg (restAt (T r) (Z r) (s + k.val) * ·) ?_
    by_cases hk : c.val < k.val
    · rw [if_neg (by dsimp only; omega), if_pos hk]
    · rw [if_pos ⟨by dsimp only; omega, hk⟩, if_neg hk]
  · rw [hx, w_at]
    refine congrArg ((restAt (T r) (Z r) (s + k.val) - restAt (T r) (Z r) (s + k.val)) * ·) ?_
    by_cases hk : c.val < k.val
    · rw [if_neg (by dsimp only; omega), if_pos hk]
    · rw [if_pos ⟨by dsimp only; omega, hk⟩, if_neg hk]

/-- The four tiles side by side against the values. -/
def accA (acc a0 a1 a2 a3 : Tile) (v : FVec Ideal S512x128 .bf16) : Tile :=
  addf acc (matmul dot_S512x512_S512x128_S512x128_1_0_0_1_n_n none
    (truncf .bf16 (concatenate S512x512 1 [⟨S512x128, a0⟩, ⟨S512x128, a1⟩, ⟨S512x128, a2⟩, ⟨S512x128, a3⟩] concatenates_S512x128_S512x128_S512x128_S512x128_S512x512_d1 : FVec Ideal S512x512 .f32) bitsLt_bf16_f32 : FVec Ideal S512x512 .bf16)
    v (constant S512x128 .f32 0x00000000#32))

/-- The accumulator after the four tiles of the keys `[512 b, 512 b + 512)`. -/
theorem acc_tile (acc a0 a1 a2 a3 : Tile) (v : FVec Ideal S512x128 .bf16) (b : ℕ) (hb : b < 4) (V : Fin 128 → ℕ → EReal)
    (h0 : ∀ r c, a0 (ix2 r c) = wgt (T r) (Z r) (512 * b + 0 + c.val)) (h1 : ∀ r c, a1 (ix2 r c) = wgt (T r) (Z r) (512 * b + 128 + c.val))
    (h2 : ∀ r c, a2 (ix2 r c) = wgt (T r) (Z r) (512 * b + 256 + c.val)) (h3 : ∀ r c, a3 (ix2 r c) = wgt (T r) (Z r) (512 * b + 384 + c.val))
    (hv : ∀ (k : Fin 512) (d : Fin 128), v (ix2 k d) = V d (512 * b + k.val)) (ha : ∀ (r : Fin 512) (d : Fin 128), acc (ix2 r d) = attFrom (T r) (Z r) (V d) (512 * (b + 1)))
    (r : Fin 512) (d : Fin 128) :
    accA acc a0 a1 a2 a3 v (ix2 r d) = attFrom (T r) (Z r) (V d) (512 * b) := by
  have h : accA acc a0 a1 a2 a3 v (ix2 r d) = acc (ix2 r d) + ∑ k : Fin 512, (if h : k.val < 128 then a0 (ix2 r ⟨k.val, h⟩) else if h : k.val - 128 < 128 then a1 (ix2 r ⟨k.val - 128, h⟩)
      else if h : k.val - 128 - 128 < 128 then a2 (ix2 r ⟨k.val - 128 - 128, h⟩) else a3 (ix2 r ⟨k.val - 128 - 128 - 128, by omega⟩)) * v (ix2 k d) := by
    pointwise [accA]
  rw [h, ha, ← attFrom_split (T r) (Z r) (V d) (512 * b) (512 * (b + 1)) (by omega) (by omega), show 512 * (b + 1) = 512 * b + 512 from by omega, ← tile_sum]
  refine congrArg (_ + ·) (Finset.sum_congr rfl fun k _ => ?_)
  rw [hv]
  refine congrArg (· * _) ?_
  split
  · rw [h0]; exact congrArg (wgt _ _) (by dsimp only; omega)
  · split
    · rw [h1]; exact congrArg (wgt _ _) (by dsimp only; omega)
    · split
      · rw [h2]; exact congrArg (wgt _ _) (by dsimp only; omega)
      · rw [h3]; exact congrArg (wgt _ _) (by dsimp only; omega)

end Cert.SbAttIdeal.Mm

end
-- ==== Proof.SbBody.lean ====
/-
  The steps of the prompt's attention kernel: the four tiles of 512 keys at the row's own block (masked) and at a block
  before it (unmasked), and where the loop's loads lie.
-/
module

public import proofs.«01_k».proof.Proof.SbTile
public import Idealize.ShloMosaic.Lib.LoopRemainder
public import Idealize.ShloMosaic.Lib.WordCmp

@[expose] public section

set_option maxRecDepth 16384

noncomputable section

namespace Cert.SbAttIdeal.Mm

open Cert.SbAttIdeal Cert.SbAttIdeal.Gen Cert.SbSpec Idealize.ShloMosaic Idealize.ShloMosaic.TcCoe

/-- The logits' scale. -/
abbrev scl : EReal := Ideal.ofBits FTy.f32 0x3DB504F3#32

/-- The logits of tile 0 of 512 keys. -/
def z0A (lg : FVec Ideal S512x512 .f32) (v3 : FVec Ideal S1x128 .f32) : Tile :=
  addf (mulf (extractStridedSlice S512x128 ![0, 0] lg slices_S512x512_o0_0_S512x128) (broadcast S512x128 (Scalar.ofBits .f32 0x3DB504F3#32))) (broadcastTo S512x128 v3 broadcasts_S1x128_S512x128)
/-- The logits of tile 1. -/
def z1A (lg : FVec Ideal S512x512 .f32) (v3 : FVec Ideal S1x128 .f32) : Tile :=
  addf (mulf (extractStridedSlice S512x128 ![0, 128] lg slices_S512x512_o0_128_S512x128) (broadcast S512x128 (Scalar.ofBits .f32 0x3DB504F3#32))) (broadcastTo S512x128 v3 broadcasts_S1x128_S512x128)
/-- The logits of tile 2. -/
def z2A (lg : FVec Ideal S512x512 .f32) (v3 : FVec Ideal S1x128 .f32) : Tile :=
  addf (mulf (extractStridedSlice S512x128 ![0, 256] lg slices_S512x512_o0_256_S512x128) (broadcast S512x128 (Scalar.ofBits .f32 0x3DB504F3#32))) (broadcastTo S512x128 v3 broadcasts_S1x128_S512x128)
/-- The logits of tile 3. -/
def z3A (lg : FVec Ideal S512x512 .f32) (v3 : FVec Ideal S1x128 .f32) : Tile :=
  addf (mulf (extractStridedSlice S512x128 ![0, 384] lg slices_S512x512_o0_384_S512x128) (broadcast S512x128 (Scalar.ofBits .f32 0x3DB504F3#32))) (broadcastTo S512x128 v3 broadcasts_S1x128_S512x128)

/-- Tile 0's logits, entry by entry. -/
theorem z0A_at (lg : FVec Ideal S512x512 .f32) (v3 : FVec Ideal S1x128 .f32) (r : Fin 512) (c : Fin 128) :
    z0A lg v3 (ix2 r c) = lg (ix2 r (⟨c.val, by omega⟩ : Fin 512)) * scl + v3 (ix2 0 c) := by
  pointwise [z0A]
/-- Tile 1's logits, entry by entry. -/
theorem z1A_at (lg : FVec Ideal S512x512 .f32) (v3 : FVec Ideal S1x128 .f32) (r : Fin 512) (c : Fin 128) :
    z1A lg v3 (ix2 r c) = lg (ix2 r (⟨128 + c.val, by omega⟩ : Fin 512)) * scl + v3 (ix2 0 c) := by
  pointwise [z1A]
/-- Tile 2's logits, entry by entry. -/
theorem z2A_at (lg : FVec Ideal S512x512 .f32) (v3 : FVec Ideal S1x128 .f32) (r : Fin 512) (c : Fin 128) :
    z2A lg v3 (ix2 r c) = lg (ix2 r (⟨256 + c.val, by omega⟩ : Fin 512)) * scl + v3 (ix2 0 c) := by
  pointwise [z2A]
/-- Tile 3's logits, entry by entry. -/
theorem z3A_at (lg : FVec Ideal S512x512 .f32) (v3 : FVec Ideal S1x128 .f32) (r : Fin 512) (c : Fin 128) :
    z3A lg v3 (ix2 r c) = lg (ix2 r (⟨384 + c.val, by omega⟩ : Fin 512)) * scl + v3 (ix2 0 c) := by
  pointwise [z3A]

/-- The products of queries and keys, entry by entry. -/
theorem lg_at (q k : FVec Ideal S512x128 .f32) (r s : Fin 512) :
    k0_pay8 (F := Ideal) (k0_pay41 q) k (ix2 r s) = ∑ d : Fin 128, q (ix2 r d) * k (ix2 s d) := by
  pointwise [k0_pay8, k0_pay41]

/-- The same products at the row's own block. -/
theorem lgd_at (q k : FVec Ideal S512x128 .f32) (r s : Fin 512) :
    k0_pay52 (F := Ideal) (k0_pay41 q) (k0_pay50 k) (ix2 r s) = ∑ d : Fin 128, q (ix2 r d) * k (ix2 s d) := by
  pointwise [k0_pay52, k0_pay41, k0_pay50]

/-- A masked tile. -/
def mskA (p : IVec S512x128 1) (x : Tile) : Tile := select p x (broadcast S512x128 (Scalar.ofBits .f32 0x00000000#32))

/-- A masked tile, entry by entry. -/
theorem mskA_at (p : IVec S512x128 1) (x : Tile) (r : Fin 512) (c : Fin 128) (b : Prop) [Decidable b] (h : p (ix2 r c) = BitVec.ofBool (decide b)) :
    mskA p x (ix2 r c) = if b then x (ix2 r c) else 0 := by
  have e : mskA p x (ix2 r c) = Scalar.select (p (ix2 r c)) (x (ix2 r c)) (0 : EReal) := by
    pointwise [mskA]
  rw [e, h]
  by_cases hb : b
  · rw [if_pos hb, decide_eq_true hb]; rfl
  · rw [if_neg hb, decide_eq_false hb]; rfl

/-- The mask of tile 0: the keys before the row. -/
theorem m0_at (r : Fin 512) (c : Fin 128) : k0_pay46 (ix2 r c) = BitVec.ofBool (decide (0 + c.val < r.val)) := by
  have e : k0_pay46 (ix2 r c) = IntOp.cmpi .slt (IntOp.addi (BitVec.ofNat 32 c.val) 0#32) (BitVec.ofNat 32 r.val) := by
    pointwise [k0_pay46]
  have e2 : IntOp.addi (BitVec.ofNat 32 c.val) 0#32 = BitVec.ofNat 32 (0 + c.val) := by
    rw [Nat.add_comm, BitVec.ofNat_add]; rfl
  rw [e, e2]
  exact WordCmp.cmpi_slt_ofNat (by omega) (by omega)
/-- The mask of tile 1. -/
theorem m1_at (r : Fin 512) (c : Fin 128) : k0_pay47 (ix2 r c) = BitVec.ofBool (decide (128 + c.val < r.val)) := by
  have e : k0_pay47 (ix2 r c) = IntOp.cmpi .slt (IntOp.addi (BitVec.ofNat 32 c.val) 128#32) (BitVec.ofNat 32 r.val) := by
    pointwise [k0_pay47]
  have e2 : IntOp.addi (BitVec.ofNat 32 c.val) 128#32 = BitVec.ofNat 32 (128 + c.val) := by
    rw [Nat.add_comm, BitVec.ofNat_add]; rfl
  rw [e, e2]
  exact WordCmp.cmpi_slt_ofNat (by omega) (by omega)
/-- The mask of tile 2. -/
theorem m2_at (r : Fin 512) (c : Fin 128) : k0_pay48 (ix2 r c) = BitVec.ofBool (decide (256 + c.val < r.val)) := by
  have e : k0_pay48 (ix2 r c) = IntOp.cmpi .slt (IntOp.addi (BitVec.ofNat 32 c.val) 256#32) (BitVec.ofNat 32 r.val) := by
    pointwise [k0_pay48]
  have e2 : IntOp.addi (BitVec.ofNat 32 c.val) 256#32 = BitVec.ofNat 32 (256 + c.val) := by
    rw [Nat.add_comm, BitVec.ofNat_add]; rfl
  rw [e, e2]
  exact WordCmp.cmpi_slt_ofNat (by omega) (by omega)
/-- The mask of tile 3. -/
theorem m3_at (r : Fin 512) (c : Fin 128) : k0_pay49 (ix2 r c) = BitVec.ofBool (decide (384 + c.val < r.val)) := by
  have e : k0_pay49 (ix2 r c) = IntOp.cmpi .slt (IntOp.addi (BitVec.ofNat 32 c.val) 384#32) (BitVec.ofNat 32 r.val) := by
    pointwise [k0_pay49]
  have e2 : IntOp.addi (BitVec.ofNat 32 c.val) 384#32 = BitVec.ofNat 32 (384 + c.val) := by
    rw [Nat.add_comm, BitVec.ofNat_add]; rfl
  rw [e, e2]
  exact WordCmp.cmpi_slt_ofNat (by omega) (by omega)

/-- The suffix weights. -/
abbrev w : FVec Ideal S128x256 .bf16 := k0_pay43 (F := Ideal)

variable (T : Fin 512 → ℕ) (Z : Fin 512 → ℕ → EReal)

/-- Four tiles, from the last to the first: the carry and the accumulator after them. -/
theorem quad_at (z0 z1 z2 z3 x0 x1 x2 x3 a0 a1 a2 a3 acc car : Tile) (v : FVec Ideal S512x128 .bf16) (b : ℕ) (hb : b < 4) (V : Fin 128 → ℕ → EReal)
    (hz0 : ∀ r c, z0 (ix2 r c) = Z r (512 * b + 0 + c.val)) (hz1 : ∀ r c, z1 (ix2 r c) = Z r (512 * b + 128 + c.val))
    (hz2 : ∀ r c, z2 (ix2 r c) = Z r (512 * b + 256 + c.val)) (hz3 : ∀ r c, z3 (ix2 r c) = Z r (512 * b + 384 + c.val))
    (hx0 : ∀ r c, x0 (ix2 r c) = if 512 * b + 0 + c.val < T r then xA z0 (ix2 r c) else 0) (hx1 : ∀ r c, x1 (ix2 r c) = if 512 * b + 128 + c.val < T r then xA z1 (ix2 r c) else 0)
    (hx2 : ∀ r c, x2 (ix2 r c) = if 512 * b + 256 + c.val < T r then xA z2 (ix2 r c) else 0) (hx3 : ∀ r c, x3 (ix2 r c) = if 512 * b + 384 + c.val < T r then xA z3 (ix2 r c) else 0)
    (ha0 : ∀ r c, a0 (ix2 r c) = if 512 * b + 0 + c.val < T r then expA z0 (carA (carA (carA car x3 w) x2 w) x1 w) x0 w (ix2 r c) else 0)
    (ha1 : ∀ r c, a1 (ix2 r c) = if 512 * b + 128 + c.val < T r then expA z1 (carA (carA car x3 w) x2 w) x1 w (ix2 r c) else 0)
    (ha2 : ∀ r c, a2 (ix2 r c) = if 512 * b + 256 + c.val < T r then expA z2 (carA car x3 w) x2 w (ix2 r c) else 0)
    (ha3 : ∀ r c, a3 (ix2 r c) = if 512 * b + 384 + c.val < T r then expA z3 car x3 w (ix2 r c) else 0)
    (hv : ∀ (k : Fin 512) (d : Fin 128), v (ix2 k d) = V d (512 * b + k.val))
    (ha : ∀ (r : Fin 512) (d : Fin 128), acc (ix2 r d) = attFrom (T r) (Z r) (V d) (512 * (b + 1)))
    (hc : ∀ (r : Fin 512) (c : Fin 128), car (ix2 r c) = restFrom (T r) (Z r) (512 * (b + 1))) :
    (∀ r d, accA acc a0 a1 a2 a3 v (ix2 r d) = attFrom (T r) (Z r) (V d) (512 * b))
    ∧ ∀ r c, carA (carA (carA (carA car x3 w) x2 w) x1 w) x0 w (ix2 r c) = restFrom (T r) (Z r) (512 * b) := by
  have y0 : ∀ r c, x0 (ix2 r c) = restAt (T r) (Z r) (512 * b + 0 + c.val) := fun r c => by rw [hx0, xA_at, hz0]; rfl
  have y1 : ∀ r c, x1 (ix2 r c) = restAt (T r) (Z r) (512 * b + 128 + c.val) := fun r c => by rw [hx1, xA_at, hz1]; rfl
  have y2 : ∀ r c, x2 (ix2 r c) = restAt (T r) (Z r) (512 * b + 256 + c.val) := fun r c => by rw [hx2, xA_at, hz2]; rfl
  have y3 : ∀ r c, x3 (ix2 r c) = restAt (T r) (Z r) (512 * b + 384 + c.val) := fun r c => by rw [hx3, xA_at, hz3]; rfl
  have k3 : ∀ (r : Fin 512) (c : Fin 128), car (ix2 r c) = restFrom (T r) (Z r) (512 * b + 384 + 128) := fun r c => by rw [hc]; rfl
  have k2 : ∀ (r : Fin 512) (c : Fin 128), carA car x3 w (ix2 r c) = restFrom (T r) (Z r) (512 * b + 256 + 128) := car_tile T Z car x3 (512 * b + 384) (by omega) y3 k3
  have k1 : ∀ (r : Fin 512) (c : Fin 128), carA (carA car x3 w) x2 w (ix2 r c) = restFrom (T r) (Z r) (512 * b + 128 + 128) := car_tile T Z _ x2 (512 * b + 256) (by omega) y2 k2
  have k0 : ∀ (r : Fin 512) (c : Fin 128), carA (carA (carA car x3 w) x2 w) x1 w (ix2 r c) = restFrom (T r) (Z r) (512 * b + 0 + 128) := car_tile T Z _ x1 (512 * b + 128) (by omega) y1 k1
  refine ⟨fun r d => acc_tile T Z acc a0 a1 a2 a3 v b hb V ?_ ?_ ?_ ?_ hv ha r d, car_tile T Z _ x0 (512 * b + 0) (by omega) y0 k0⟩
  · intro r c
    rw [ha0, exp_tile T Z z0 _ x0 (512 * b + 0) (by omega) hz0 y0 k0]; rfl
  · intro r c
    rw [ha1, exp_tile T Z z1 _ x1 (512 * b + 128) (by omega) hz1 y1 k1]; rfl
  · intro r c
    rw [ha2, exp_tile T Z z2 _ x2 (512 * b + 256) (by omega) hz2 y2 k2]; rfl
  · intro r c
    rw [ha3, exp_tile T Z z3 _ x3 (512 * b + 384) (by omega) hz3 y3 k3]; rfl

/-- Where the tiles' logits come from. -/
theorem logits_at (lg : FVec Ideal S512x512 .f32) (v3 : FVec Ideal S1x128 .f32) (b : ℕ) (β : EReal) (hβ : ∀ c, v3 (ix2 0 c) = β)
    (hlg : ∀ r (s : Fin 512), lg (ix2 r s) * scl + β = Z r (512 * b + s.val)) :
    (∀ r c, z0A lg v3 (ix2 r c) = Z r (512 * b + 0 + c.val)) ∧ (∀ r c, z1A lg v3 (ix2 r c) = Z r (512 * b + 128 + c.val))
    ∧ (∀ r c, z2A lg v3 (ix2 r c) = Z r (512 * b + 256 + c.val)) ∧ (∀ r c, z3A lg v3 (ix2 r c) = Z r (512 * b + 384 + c.val)) := by
  refine ⟨fun r c => ?_, fun r c => ?_, fun r c => ?_, fun r c => ?_⟩
  · rw [z0A_at, hβ, hlg]; exact congrArg (Z r) (by dsimp only; omega)
  · rw [z1A_at, hβ, hlg]; exact congrArg (Z r) (by dsimp only; omega)
  · rw [z2A_at, hβ, hlg]; exact congrArg (Z r) (by dsimp only; omega)
  · rw [z3A_at, hβ, hlg]; exact congrArg (Z r) (by dsimp only; omega)

/-- One trip of the loop over the blocks before the row's own, on the accumulator and the carry. -/
def stepA (lg : FVec Ideal S512x512 .f32) (v3 : FVec Ideal S1x128 .f32) (v : FVec Ideal S512x128 .bf16) (s : Tile × Tile) : Tile × Tile :=
  (accA s.1 (expA (z0A lg v3) (carA (carA (carA s.2 (xA (z3A lg v3)) w) (xA (z2A lg v3)) w) (xA (z1A lg v3)) w) (xA (z0A lg v3)) w)
      (expA (z1A lg v3) (carA (carA s.2 (xA (z3A lg v3)) w) (xA (z2A lg v3)) w) (xA (z1A lg v3)) w)
      (expA (z2A lg v3) (carA s.2 (xA (z3A lg v3)) w) (xA (z2A lg v3)) w)
      (expA (z3A lg v3) s.2 (xA (z3A lg v3)) w) v,
    carA (carA (carA (carA s.2 (xA (z3A lg v3)) w) (xA (z2A lg v3)) w) (xA (z1A lg v3)) w) (xA (z0A lg v3)) w)

/-- A trip takes the accumulator and the carry from one block of keys to the one before it. -/
theorem step_at (lg : FVec Ideal S512x512 .f32) (v3 : FVec Ideal S1x128 .f32) (v : FVec Ideal S512x128 .bf16) (s : Tile × Tile) (b : ℕ) (hb : b < 4) (V : Fin 128 → ℕ → EReal)
    (β : EReal) (hβ : ∀ c, v3 (ix2 0 c) = β) (hlg : ∀ r (s : Fin 512), lg (ix2 r s) * scl + β = Z r (512 * b + s.val)) (hT : ∀ r, 512 * (b + 1) ≤ T r)
    (hv : ∀ (k : Fin 512) (d : Fin 128), v (ix2 k d) = V d (512 * b + k.val))
    (ha : ∀ (r : Fin 512) (d : Fin 128), s.1 (ix2 r d) = attFrom (T r) (Z r) (V d) (512 * (b + 1)))
    (hc : ∀ (r : Fin 512) (c : Fin 128), s.2 (ix2 r c) = restFrom (T r) (Z r) (512 * (b + 1))) :
    (∀ r d, (stepA lg v3 v s).1 (ix2 r d) = attFrom (T r) (Z r) (V d) (512 * b)) ∧ ∀ r c, (stepA lg v3 v s).2 (ix2 r c) = restFrom (T r) (Z r) (512 * b) := by
  obtain ⟨l0, l1, l2, l3⟩ := logits_at Z lg v3 b β hβ hlg
  have lt : ∀ (r : Fin 512) (n : ℕ) (c : Fin 128), n ≤ 384 → 512 * b + n + c.val < T r := fun r n c h => by have := hT r; omega
  exact quad_at T Z _ _ _ _ _ _ _ _ _ _ _ _ s.1 s.2 v b hb V l0 l1 l2 l3
    (fun r c => (if_pos (lt r 0 c (by omega))).symm) (fun r c => (if_pos (lt r 128 c (by omega))).symm) (fun r c => (if_pos (lt r 256 c (by omega))).symm) (fun r c => (if_pos (lt r 384 c (by omega))).symm)
    (fun r c => (if_pos (lt r 0 c (by omega))).symm) (fun r c => (if_pos (lt r 128 c (by omega))).symm) (fun r c => (if_pos (lt r 256 c (by omega))).symm) (fun r c => (if_pos (lt r 384 c (by omega))).symm)
    hv ha hc

/-- The row's own block of keys, masked, on an accumulator and a carry. -/
def diagA (lg : FVec Ideal S512x512 .f32) (v3 : FVec Ideal S1x128 .f32) (v : FVec Ideal S512x128 .bf16) (acc car : Tile) : Tile × Tile :=
  (accA acc (mskA k0_pay46 (expA (z0A lg v3) (carA (carA (carA car (mskA k0_pay49 (xA (z3A lg v3))) w) (mskA k0_pay48 (xA (z2A lg v3))) w) (mskA k0_pay47 (xA (z1A lg v3))) w) (mskA k0_pay46 (xA (z0A lg v3))) w))
      (mskA k0_pay47 (expA (z1A lg v3) (carA (carA car (mskA k0_pay49 (xA (z3A lg v3))) w) (mskA k0_pay48 (xA (z2A lg v3))) w) (mskA k0_pay47 (xA (z1A lg v3))) w))
      (mskA k0_pay48 (expA (z2A lg v3) (carA car (mskA k0_pay49 (xA (z3A lg v3))) w) (mskA k0_pay48 (xA (z2A lg v3))) w))
      (mskA k0_pay49 (expA (z3A lg v3) car (mskA k0_pay49 (xA (z3A lg v3))) w)) v,
    carA (carA (carA (carA car (mskA k0_pay49 (xA (z3A lg v3))) w) (mskA k0_pay48 (xA (z2A lg v3))) w) (mskA k0_pay47 (xA (z1A lg v3))) w) (mskA k0_pay46 (xA (z0A lg v3))) w)

/-- The accumulator and the carry after the row's own block of keys. -/
theorem diag_at (lg : FVec Ideal S512x512 .f32) (v3 : FVec Ideal S1x128 .f32) (v : FVec Ideal S512x128 .bf16) (acc car : Tile) (b : ℕ) (hb : b < 4) (V : Fin 128 → ℕ → EReal)
    (β : EReal) (hβ : ∀ c, v3 (ix2 0 c) = β) (hlg : ∀ r (s : Fin 512), lg (ix2 r s) * scl + β = Z r (512 * b + s.val)) (hT : ∀ r, T r = 512 * b + r.val)
    (hv : ∀ (k : Fin 512) (d : Fin 128), v (ix2 k d) = V d (512 * b + k.val))
    (ha : ∀ (r : Fin 512) (d : Fin 128), acc (ix2 r d) = 0) (hc : ∀ (r : Fin 512) (c : Fin 128), car (ix2 r c) = 0) :
    (∀ r d, (diagA lg v3 v acc car).1 (ix2 r d) = attFrom (T r) (Z r) (V d) (512 * b)) ∧ ∀ r c, (diagA lg v3 v acc car).2 (ix2 r c) = restFrom (T r) (Z r) (512 * b) := by
  obtain ⟨l0, l1, l2, l3⟩ := logits_at Z lg v3 b β hβ hlg
  have mk : ∀ (r : Fin 512) (n : ℕ) (c : Fin 128) (p : IVec S512x128 1), p (ix2 r c) = BitVec.ofBool (decide (n + c.val < r.val)) → p (ix2 r c) = BitVec.ofBool (decide (512 * b + n + c.val < T r)) := fun r n c p h => by
    rw [h, hT]
    exact congrArg BitVec.ofBool (decide_eq_decide.mpr (by omega))
  exact quad_at T Z _ _ _ _ _ _ _ _ _ _ _ _ acc car v b hb V l0 l1 l2 l3
    (fun r c => mskA_at _ _ r c _ (mk r 0 c _ (m0_at r c))) (fun r c => mskA_at _ _ r c _ (mk r 128 c _ (m1_at r c))) (fun r c => mskA_at _ _ r c _ (mk r 256 c _ (m2_at r c))) (fun r c => mskA_at _ _ r c _ (mk r 384 c _ (m3_at r c)))
    (fun r c => mskA_at _ _ r c _ (mk r 0 c _ (m0_at r c))) (fun r c => mskA_at _ _ r c _ (mk r 128 c _ (m1_at r c))) (fun r c => mskA_at _ _ r c _ (mk r 256 c _ (m2_at r c))) (fun r c => mskA_at _ _ r c _ (mk r 384 c _ (m3_at r c)))
    hv (fun r d => (ha r d).trans (attFrom_zero _ _ _ _ (by rw [hT]; omega)).symm) (fun r c => (hc r c).trans (restFrom_zero _ _ _ (by rw [hT]; omega)).symm)

/-- The loop makes as many trips as there are blocks of keys before the row's own. -/
theorem trips_eq (i : grid0.Coords) : (k0_t1_loop i).trips = (i 2).val := by
  have h : ∀ q : Fin 4, Scf.trips 0#32 (Scalar.addi 0#32 (Scalar.muli (Scalar.divsi (Scalar.subi (Scalar.muli (BitVec.ofNat 32 q.val) 1#32) 0#32) 1#32) 1#32)) 1#32 = q.val := by decide +kernel
  exact h (i 2)

/-- The second loop makes no trip. -/
theorem trips2_eq (i : grid0.Coords) : (k0_t2_loop i).trips = 0 := Scf.rem_trips _ _

/-- The row's own block of keys. -/
theorem off1_eq (i : grid0.Coords) : k0_off1 i = ![512 * (i 2).val, 0] := by
  have h : ∀ q : Fin 4, (Scalar.indexCast (Scalar.muli (Scalar.addi (Scalar.muli (BitVec.ofNat 32 q.val) 1#32) 0#32) 512#32)).toNat = 512 * q.val := by decide +kernel
  exact congrArg (fun n => ![n, 0]) (h (i 2))

/-- The block of keys of a trip. -/
theorem off2_eq (i : grid0.Coords) (k : Fin (k0_t1_loop i).trips) : k0_off2 i k = ![512 * ((i 2).val - 1 - k.val), 0] := by
  have h : ∀ q k : Fin 4, k.val < q.val → (Scalar.indexCast (Scalar.muli (Scalar.subi (Scalar.subi (Scalar.muli (BitVec.ofNat 32 q.val) 1#32) 1#32) (Scf.iv 0#32 1#32 k.val)) 512#32)).toNat = 512 * (q.val - 1 - k.val) := by decide +kernel
  have hk : k.val < (i 2).val := lt_of_lt_of_eq k.isLt (trips_eq i)
  have h4 : (i 2).val < 4 := (i 2).isLt
  exact congrArg (fun n => ![n, 0]) (h (i 2) ⟨k.val, by omega⟩ hk)

end Cert.SbAttIdeal.Mm

end
-- ==== Proof.SbOut.lean ====
/-
  What a grid point of the prompt's attention kernel stores: its rows' weighted values over all keys.
-/
module

public import proofs.«01_k».proof.Proof.SbBody

@[expose] public section

set_option maxRecDepth 16384

noncomputable section

namespace Cert.SbAttIdeal.Mm

open Cert.SbAttIdeal Cert.SbAttIdeal.Gen Cert.SbSpec Idealize.ShloMosaic Idealize.ShloMosaic.TcCoe

/-- The loop's trip, by the step. -/
theorem trip_eq (𝒱 : Variants) (bd : Option 𝒱.V) (c : Dev nD) (i : grid0.Coords) (arg3 : Memref sig .tc .vmem S1x1x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S512x128 .f32) (harg7 : arg7.IsWhole) (arg2 : BitVec 32) (v1 : FVec Ideal S512x128 .bf16) (v3 : FVec Ideal S1x128 .f32) (v16 : FVec Ideal S512x128 .f32) (v20 v23 : IVec S512x128 1) (v39 : FVec Ideal S512x128 .bf16) (v40 : FVec Ideal S512x512 .f32) (v71 v104 v106 : FVec Ideal S512x128 .f32) (v131 : FVec Ideal S512x256 .f32) (v135 : FVec Ideal S512x128 .f32) (cst_32 : Ideal .f32)
    (X5 : BufTy.Contents (Elt Ideal) arg5.view.ty) (X6 : BufTy.Contents (Elt Ideal) arg6.view.ty) (k : Fin (k0_t1_loop i).trips) (s : Tile × Tile) :
    tripR_k0_t1 (F := Ideal) 𝒱 c bd i arg3 harg3 arg4 harg4 arg5 harg5 arg6 harg6 arg7 harg7 arg2 v1 v3 w v16 v20 v23 v39 v40 v71 v104 v106 v131 v135 cst_32 X5 X6 k s
      = stepA (k0_pay8 v1 (arg5.view.readAt (Elt Ideal) (Rect.unit (s := S2048x128) (k0_off2 i k) S512x128.size (k0_off2_inb i k)).toLoadRect X5)) v3
          (k0_pay7 (arg6.view.readAt (Elt Ideal) (Rect.unit (s := S2048x128) (k0_off2 i k) S512x128.size (k0_off2_inb i k)).toLoadRect X6)) s := by
  unfold tripR_k0_t1 trip_k0_t1
  rfl

/-- A load of 512 rows from row `512 b` on. -/
theorem load_at (arg : Memref sig .tc .vmem S2048x128 .f32) (harg : arg.IsWhole) (x : Vec Ideal S2048x128 .f32) (off : Fin 2 → ℕ) (hin : ∀ a, off a + S512x128.size a ≤ S2048x128.size a)
    (b : ℕ) (hoff : off = ![512 * b, 0]) (r : Fin 512) (d : Fin 128) (hb : b < 4) :
    arg.view.readAt (Elt Ideal) (Rect.unit (s := S2048x128) off S512x128.size hin).toLoadRect (harg.unread x) (ix2 r d)
      = x (ix2 (⟨512 * b + r.val, by omega⟩ : Fin 2048) d) := by
  subst hoff
  rw [View.readAt_apply, harg.read_unread]
  refine congrArg x ?_
  ext a; fin_cases a <;> simp [Rect.idx_unit_val] <;> rfl

/-- The accumulator and the carry before a trip. -/
theorem loop_at (c : Dev nD) (i : grid0.Coords) (arg3 : Memref sig .tc .vmem S1x1x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S512x128 .f32) (harg7 : arg7.IsWhole) (arg2 : BitVec 32) (q : FVec Ideal S512x128 .f32) (v3 : FVec Ideal S1x128 .f32) (v16 : FVec Ideal S512x128 .f32) (v20 v23 : IVec S512x128 1) (v39 : FVec Ideal S512x128 .bf16) (v40 : FVec Ideal S512x512 .f32) (v71 v104 v106 : FVec Ideal S512x128 .f32) (v131 : FVec Ideal S512x256 .f32) (v135 : FVec Ideal S512x128 .f32) (cst_32 : Ideal .f32)
    (x2 x3 : Vec Ideal S2048x128 .f32) (init : Tile × Tile) (T : Fin 512 → ℕ) (Z : Fin 512 → ℕ → EReal) (V : Fin 128 → ℕ → EReal) (β : EReal) (hβ : ∀ c, v3 (ix2 0 c) = β)
    (hZ : ∀ (r : Fin 512) (s : Fin 2048), (∑ d : Fin 128, q (ix2 r d) * x2 (ix2 s d)) * scl + β = Z r s.val) (hV : ∀ (s : Fin 2048) (d : Fin 128), x3 (ix2 s d) = V d s.val)
    (hT : ∀ r, 512 * (i 2).val ≤ T r)
    (ha : ∀ (r : Fin 512) (d : Fin 128), init.1 (ix2 r d) = attFrom (T r) (Z r) (V d) (512 * (i 2).val))
    (hc : ∀ (r : Fin 512) (c : Fin 128), init.2 (ix2 r c) = restFrom (T r) (Z r) (512 * (i 2).val)) (n : ℕ) (hn : n ≤ (i 2).val) :
    (∀ r d, (st_k0_t1 (F := Ideal) Variants.none c none i arg3 harg3 arg4 harg4 arg5 harg5 arg6 harg6 arg7 harg7 arg2 (k0_pay41 q) v3 w v16 v20 v23 v39 v40 v71 v104 v106 v131 v135 cst_32 (harg5.unread x2) (harg6.unread x3) init n).1 (ix2 r d) = attFrom (T r) (Z r) (V d) (512 * ((i 2).val - n)))
    ∧ ∀ r c', (st_k0_t1 (F := Ideal) Variants.none c none i arg3 harg3 arg4 harg4 arg5 harg5 arg6 harg6 arg7 harg7 arg2 (k0_pay41 q) v3 w v16 v20 v23 v39 v40 v71 v104 v106 v131 v135 cst_32 (harg5.unread x2) (harg6.unread x3) init n).2 (ix2 r c') = restFrom (T r) (Z r) (512 * ((i 2).val - n)) := by
  induction n with
  | zero => exact ⟨ha, hc⟩
  | succ n ih =>
    have h4 : (i 2).val < 4 := (i 2).isLt
    have ht : n < (k0_t1_loop i).trips := lt_of_lt_of_eq hn (trips_eq i).symm
    have hs := st_k0_t1_succ (F := Ideal) Variants.none c none i arg3 harg3 arg4 harg4 arg5 harg5 arg6 harg6 arg7 harg7 arg2 (k0_pay41 q) v3 w v16 v20 v23 v39 v40 v71 v104 v106 v131 v135 cst_32 (harg5.unread x2) (harg6.unread x3) init ⟨n, ht⟩
    rw [trip_eq] at hs
    obtain ⟨i1, i2⟩ := ih (by omega)
    have e : (i 2).val - n = (i 2).val - (n + 1) + 1 := by omega
    rw [e] at i1 i2
    have ho : k0_off2 i ⟨n, ht⟩ = ![512 * ((i 2).val - (n + 1)), 0] := (off2_eq i ⟨n, ht⟩).trans (by rw [show (i 2).val - 1 - n = (i 2).val - (n + 1) from by omega])
    have hb : (i 2).val - (n + 1) < 4 := by omega
    rw [hs]
    refine step_at T Z _ v3 _ _ ((i 2).val - (n + 1)) hb V β hβ (fun r s => ?_) (fun r => le_trans (by omega) (hT r)) (fun s d => ?_) i1 i2
    · rw [lg_at]
      refine Eq.trans (congrArg (fun u : EReal => u * scl + β) (Finset.sum_congr rfl fun d _ => congrArg (q (ix2 r d) * ·) (load_at arg5 harg5 x2 _ _ _ ho s d hb))) (hZ r _)
    · exact (load_at arg6 harg6 x3 _ _ _ ho s d hb).trans (hV _ d)

/-- A block of 512 rows from row `512 b` on. -/
theorem ld_at (x : Vec Ideal S2048x128 .f32) (off : Fin 2 → ℕ) (hin : ∀ a, off a + S512x128.size a ≤ S2048x128.size a)
    (b : ℕ) (hoff : off = ![512 * b, 0]) (r : Fin 512) (d : Fin 128) (hb : b < 4) :
    View.ld x (Rect.unit (s := S2048x128) off S512x128.size hin) (ix2 r d) = x (ix2 (⟨512 * b + r.val, by omega⟩ : Fin 2048) d) := by
  subst hoff
  refine congrArg x ?_
  ext a; fin_cases a <;> simp [Rect.idx_unit_val] <;> rfl

/-- What a grid point stores: each row's weighted values over all keys. -/
theorem out_at (c : Dev nD) (i : grid0.Coords) (arg3 : Memref sig .tc .vmem S1x1x128 .f32) (harg3 : arg3.IsWhole) (arg4 : Memref sig .tc .vmem S512x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S512x128 .f32) (harg7 : arg7.IsWhole) (x0 : Vec Ideal S1x1x128 .f32) (x1 : Vec Ideal S512x128 .f32) (x2 x3 : Vec Ideal S2048x128 .f32)
    (β : EReal) (hβ : ∀ c : Fin 128, x0 (ix3 0 0 c) = β) (r : Fin 512) (d : Fin 128) :
    out0_A_4 c i arg3 harg3 arg4 harg4 arg5 harg5 arg6 harg6 arg7 harg7 x0 x1 x2 x3 (ix2 r d)
      = attFrom (512 * (i 2).val + r.val) (ofFin fun s => (∑ e : Fin 128, x1 (ix2 r e) * x2 (ix2 s e)) * scl + β) (ofFin fun s => x3 (ix2 s d)) 0 := by
  have h4 : (i 2).val < 4 := (i 2).isLt
  have hB : ∀ c : Fin 128, k0_pay42 (F := Ideal) x0 (ix2 0 c) = β := fun c => by
    rw [← hβ c]
    pointwise [k0_pay42]
  have hZ : ∀ (r : Fin 512) (s : Fin 2048), (∑ d : Fin 128, x1 (ix2 r d) * x2 (ix2 s d)) * scl + β = ofFin (fun s => (∑ e : Fin 128, x1 (ix2 r e) * x2 (ix2 s e)) * scl + β) s.val :=
    fun r s => (ofFin_at (fun s => (∑ e : Fin 128, x1 (ix2 r e) * x2 (ix2 s e)) * scl + β) s).symm
  have hV : ∀ (s : Fin 2048) (d : Fin 128), x3 (ix2 s d) = ofFin (fun s => x3 (ix2 s d)) s.val := fun s d => (ofFin_at (fun s => x3 (ix2 s d)) s).symm
  have hD := diag_at (fun r => 512 * (i 2).val + r.val) (fun r => ofFin fun s => (∑ e : Fin 128, x1 (ix2 r e) * x2 (ix2 s e)) * scl + β)
    (k0_pay52 (F := Ideal) (k0_pay41 x1) (k0_pay50 (View.ld x2 (Rect.unit (s := S2048x128) (k0_off1 i) S512x128.size (k0_off1_inb i))))) (k0_pay42 x0)
    (k0_pay51 (View.ld x3 (Rect.unit (s := S2048x128) (k0_off1 i) S512x128.size (k0_off1_inb i)))) k0_pay44 k0_pay45 (i 2).val h4 (fun d => ofFin fun s => x3 (ix2 s d)) β hB
    (fun r s => by
      rw [lgd_at]
      exact Eq.trans (congrArg (fun u : EReal => u * scl + β) (Finset.sum_congr rfl fun d _ => congrArg (x1 (ix2 r d) * ·) (ld_at x2 _ _ _ (off1_eq i) s d h4))) (hZ r _))
    (fun r => rfl) (fun s d => (ld_at x3 _ _ _ (off1_eq i) s d h4).trans (hV _ d))
    (fun r d => by pointwise [k0_pay44]) (fun r d => by pointwise [k0_pay45])
  frame_open
  frame_out
  rw [Scf.rem_trips]
  refine (congrFun (congrArg Prod.fst (st_k0_t2_zero ..)) _).trans ?_
  refine ((loop_at c i arg3 harg3 arg4 harg4 arg5 harg5 arg6 harg6 arg7 harg7 _ x1 _ _ _ _ _ _ _ _ _ _ _ _ x2 x3 _ (fun r => 512 * (i 2).val + r.val) (fun r => ofFin fun s => (∑ e : Fin 128, x1 (ix2 r e) * x2 (ix2 s e)) * scl + β)
    (fun d => ofFin fun s => x3 (ix2 s d)) β hB hZ hV (fun r => Nat.le_add_right _ _) hD.1 hD.2 (k0_t1_loop i).trips (le_of_eq (trips_eq i))).1 r d).trans ?_
  rw [trips_eq, Nat.sub_self]

end Cert.SbAttIdeal.Mm

end
-- ==== Proof.SbRow.lean ====
/-
  One entry of the prompt's attention as both programs compute it, and the scalar steps that take the reference's
  logarithms of sigmoids to softpluses.
-/
module

public import proofs.«01_k».proof.Proof.SbSpec

@[expose] public section

set_option maxRecDepth 16384

noncomputable section

namespace Cert.SbSpec

open Idealize.ShloMosaic

/-- The attention of batch `b`, query `T`, head `h`, component `d`: the weighted sum of the head's values over the keys before `T`. -/
def attRow (Q : Fin 17408 → Fin 4096 → EReal) (V : Fin 17408 → Fin 2048 → EReal) (β : Fin 16 → EReal)
    (b : Fin 8) (T : Fin 2048) (h : Fin 16) (d : Fin 128) : EReal :=
  attFrom T.val
    (ofFin fun s => (∑ e : Fin 128, Q ⟨2048 * b.val + T.val, by omega⟩ ⟨128 * h.val + e.val, by omega⟩ * Q ⟨2048 * b.val + s.val, by omega⟩ ⟨2048 + (128 * h.val + e.val), by omega⟩)
      * Ideal.ofBits FTy.f32 0x3DB504F3#32 + β h)
    (ofFin fun s => V ⟨2048 * b.val + s.val, by omega⟩ ⟨128 * h.val + d.val, by omega⟩) 0

/-- The array of all entries, a batch's queries along the rows and a head's components along the columns. -/
def attAll (Q : Fin 17408 → Fin 4096 → EReal) (V : Fin 17408 → Fin 2048 → EReal) (β : Fin 16 → EReal) (R : Fin 16384) (C : Fin 2048) : EReal :=
  attRow Q V β ⟨R.val / 2048, by omega⟩ ⟨R.val % 2048, by omega⟩ ⟨C.val / 128, by omega⟩ ⟨C.val % 128, by omega⟩

/-- The logarithm of a sigmoid in its stable form. -/
def lsg (z : EReal) : EReal := -(max (-z) 0 + Ideal.log1p (Ideal.exp (-max (-z) (-(-z)))))

/-- The logarithm of the sigmoid of the negated logit is the negated softplus. -/
theorem lsg_neg (z : EReal) : lsg (-z) = 0 - sp z := by
  unfold lsg sp
  rw [neg_neg, sub_eq_add_neg, zero_add, sub_eq_add_neg, zero_add]

/-- What a real logit's softplus adds to its positive part. -/
def tl (r : ℝ) : ℝ := Real.log (1 + Real.exp (-max r (-r)))

/-- The same at the extended reals. -/
theorem tl_coe (r : ℝ) : Ideal.log1p (Ideal.exp (-max (r : EReal) (-(r : EReal)))) = (tl r : EReal) := by
  have h1 : max (r : EReal) (-(r : EReal)) = ((max r (-r) : ℝ) : EReal) := by
    rw [← EReal.coe_neg]; exact (EReal.coe_strictMono.monotone.map_max).symm
  have h2 : Ideal.exp (-((max r (-r) : ℝ) : EReal)) = ((Real.exp (-max r (-r)) : ℝ) : EReal) := by
    rw [← EReal.coe_neg]; rfl
  rw [h1, h2]
  have e : (1 : EReal) + ((Real.exp (-max r (-r)) : ℝ) : EReal) = ((1 + Real.exp (-max r (-r)) : ℝ) : EReal) := rfl
  unfold Ideal.log1p
  rw [e]
  show (if 1 + Real.exp (-max r (-r)) ≤ 0 then (⊥ : EReal) else (Real.log (1 + Real.exp (-max r (-r))) : EReal)) = _
  rw [if_neg (by have := Real.exp_pos (-max r (-r)); linarith)]
  rfl

/-- A real logit's softplus. -/
theorem sp_coe (r : ℝ) : sp (r : EReal) = ((max r 0 + tl r : ℝ) : EReal) := by
  have h : max (r : EReal) 0 = ((max r 0 : ℝ) : EReal) := (EReal.coe_strictMono.monotone.map_max (a := r) (b := 0)).symm
  unfold sp
  rw [sub_eq_add_neg, zero_add, tl_coe, h]
  rfl

/-- A real logit's logarithm of the sigmoid. -/
theorem lsg_coe (r : ℝ) : lsg (r : EReal) = ((-(max (-r) 0 + tl r) : ℝ) : EReal) := by
  have h : max (-(r : EReal)) 0 = ((max (-r) 0 : ℝ) : EReal) := (EReal.coe_strictMono.monotone.map_max (a := -r) (b := 0)).symm
  unfold lsg
  rw [neg_neg, max_comm (-(r : EReal)) (r : EReal), tl_coe, h]
  rfl

/-- The exponential of minus infinity adds nothing. -/
theorem log1p_exp_bot : Ideal.log1p (Ideal.exp ⊥) = 0 := by
  have e : Ideal.exp ⊥ = ((0 : ℝ) : EReal) := rfl
  have e1 : (1 : EReal) + ((0 : ℝ) : EReal) = ((1 : ℝ) : EReal) := by rw [EReal.coe_zero, add_zero]; rfl
  rw [e]
  unfold Ideal.log1p
  rw [e1]
  show (if (1 : ℝ) ≤ 0 then (⊥ : EReal) else (Real.log 1 : EReal)) = 0
  rw [if_neg (by norm_num), Real.log_one]
  rfl

/-- The exponent of a weight: the logarithm of the sigmoid and the contributions from the key on less the key's own, against the
    logit less its softplus and the contributions after the key. -/
theorem expo (z S : EReal) : lsg z + ((0 - sp z) + S - (0 - sp z)) = z - sp z + S := by
  induction z using EReal.rec with
  | bot =>
    have h : lsg ⊥ = ⊥ := by
      unfold lsg
      have e1 : max (-(⊥ : EReal)) 0 = ⊤ := by rw [EReal.neg_bot]; exact max_eq_left le_top
      have e2 : -max (-(⊥ : EReal)) (-(-⊥)) = ⊥ := by rw [EReal.neg_bot, EReal.neg_top]; exact congrArg Neg.neg (max_eq_left (le_top : (⊥ : EReal) ≤ ⊤))
      rw [e1, e2, log1p_exp_bot, add_zero, EReal.neg_top]
    rw [h, EReal.bot_add, sub_eq_add_neg, EReal.bot_add, EReal.bot_add]
  | top =>
    have h : sp ⊤ = ⊤ := by
      unfold sp
      have e2 : (0 : EReal) - max ⊤ (-⊤) = ⊥ := by rw [EReal.neg_top, max_eq_left (le_top : (⊥ : EReal) ≤ ⊤)]; rfl
      have e1 : max (⊤ : EReal) 0 = ⊤ := max_eq_left le_top
      rw [e1, e2, log1p_exp_bot, add_zero]
    have e3 : (0 : EReal) - ⊤ = ⊥ := rfl
    have e4 : (⊤ : EReal) - ⊤ = ⊥ := rfl
    rw [h, e3, e4, EReal.bot_add, sub_eq_add_neg, EReal.bot_add, EReal.add_bot]
  | coe r =>
    rw [sp_coe, lsg_coe]
    have hm : max (-r) 0 = max r 0 - r := by
      rcases le_total r 0 with h | h
      · rw [max_eq_left (by linarith), max_eq_right h]; ring
      · rw [max_eq_right (by linarith), max_eq_left h]; ring
    rw [hm]
    have hl : -(max r 0 - r + tl r) = r - (max r 0 + tl r) := by ring
    rw [hl]
    generalize max r 0 + tl r = p
    have h0 : (0 : EReal) - (p : EReal) = ((-p : ℝ) : EReal) := by rw [sub_eq_add_neg, zero_add]; rfl
    have h1 : (r : EReal) - (p : EReal) = ((r - p : ℝ) : EReal) := rfl
    rw [h0, h1]
    refine congrArg (fun u : EReal => ((r - p : ℝ) : EReal) + u) ?_
    induction S using EReal.rec with
    | bot => rfl
    | top => rfl
    | coe q =>
      show ((-p + q - -p : ℝ) : EReal) = (q : EReal)
      exact congrArg _ (by ring)

end Cert.SbSpec

end
-- ==== Proof.SbBlocks.lean ====
/-
  What every window of the prompt's attention kernel holds at a grid point, what the point stores, and the array after the run.
-/
module

public import proofs.«01_k».proof.Proof.Gen.SbAttIdeal.Value
public import proofs.«01_k».proof.Proof.SbOut
public import proofs.«01_k».proof.Proof.SbRow
public import Idealize.ShloMosaic.Lib.Pipeline.ValueKit
public import Idealize.ShloMosaic.Lib.Pipeline.ReadBack
public import Idealize.ShloMosaic.Lib.Pointwise

@[expose] public section

set_option maxRecDepth 16384

noncomputable section

namespace Cert.SbAttIdeal.Mm

open Cert.SbAttIdeal Cert.SbAttIdeal.Gen Cert.SbSpec Idealize.ShloMosaic Idealize.ShloMosaic.TcCoe
open Idealize.ShloMosaic.Pipeline (Dat)

variable (m : (ℓ : Loc nD τ sig) → Buf (Elt Ideal) ℓ)

/-- Every window's block at every grid point, and the point's third coordinate. -/
theorem idx : ∀ t : Fin cfg0.N, win0_0.index t = ![t.val / 4 % 16, 0, 0] ∧ win0_1.index t = ![4 * (t.val / 64) + t.val % 4, t.val / 4 % 16]
    ∧ win0_2.index t = ![t.val / 64, 16 + t.val / 4 % 16] ∧ win0_3.index t = ![t.val / 64, t.val / 4 % 16]
    ∧ win0_4.index t = ![4 * (t.val / 64) + t.val % 4, t.val / 4 % 16] ∧ (grid0.coords t 2).val = t.val % 4 :=
  (by decide +kernel : ∀ t : Fin grid0.N, _)

/-- The queries and keys. -/
abbrev Qm (c : Dev nD) : Fin 17408 → Fin 4096 → EReal := fun i j => (m ((c : Thread nD τ).loc main_arg0) : FVec Ideal S17408x4096 .f32) (ix2 i j)
/-- The values. -/
abbrev Vm (c : Dev nD) : Fin 17408 → Fin 2048 → EReal := fun i j => (m ((c : Thread nD τ).loc main_arg1) : FVec Ideal S17408x2048 .f32) (ix2 i j)
/-- The heads' biases. -/
abbrev bm (c : Dev nD) : Fin 16 → EReal := fun h => (m ((c : Thread nD τ).loc main_arg2) : FVec Ideal S1x16 .f32) (ix2 0 h)

/-- The grid has 512 points. -/
theorem lt512 (t : Fin cfg0.N) : t.val < 512 := lt_of_lt_of_eq t.isLt N_0

/-- A point's bias, the same in every lane. -/
theorem iblk0_at (c : Dev nD) (t : Fin cfg0.N) (l : Fin 128) :
    (iblk m c 0 t : Vec Ideal S1x1x128 .f32) (ix3 0 0 l) = bm m c ⟨t.val / 4 % 16, by omega⟩ := by
  blk_simp [iblk]
  entry_read
  pointwise
  blk_ext [idx t]

/-- A point's block of queries. -/
theorem iblk1_at (c : Dev nD) (t : Fin cfg0.N) (r : Fin 512) (e : Fin 128) :
    (iblk m c 1 t : Vec Ideal S512x128 .f32) (ix2 r e) = Qm m c ⟨512 * (4 * (t.val / 64) + t.val % 4) + r.val, by have := lt512 t; omega⟩ ⟨128 * (t.val / 4 % 16) + e.val, by omega⟩ := by
  blk_ext [iblk, V, idx t]

/-- A point's keys. -/
theorem iblk2_at (c : Dev nD) (t : Fin cfg0.N) (s : Fin 2048) (e : Fin 128) :
    (X0_2 m c t : Vec Ideal S2048x128 .f32) (ix2 s e) = Qm m c ⟨2048 * (t.val / 64) + s.val, by have := lt512 t; omega⟩ ⟨2048 + (128 * (t.val / 4 % 16) + e.val), by omega⟩ := by
  unfold X0_2 Pipeline.Window.fill
  rw [dif_pos (moved0_2 t _)]
  blk_ext [iblk, V, idx t]

/-- A point's values. -/
theorem iblk3_at (c : Dev nD) (t : Fin cfg0.N) (s : Fin 2048) (d : Fin 128) :
    (X0_3 m c t : Vec Ideal S2048x128 .f32) (ix2 s d) = Vm m c ⟨2048 * (t.val / 64) + s.val, by have := lt512 t; omega⟩ ⟨128 * (t.val / 4 % 16) + d.val, by omega⟩ := by
  unfold X0_3 Pipeline.Window.fill
  rw [dif_pos (moved0_3 t _)]
  blk_ext [iblk, V, idx t]

/-- Every point stores its block of the attention. -/
theorem block_at (c : Dev nD) (t : Fin cfg0.N) (r : Fin 512) (d : Fin 128) :
    (outsAt0 m c t : Vec Ideal S512x128 .f32) (ix2 r d)
      = attRow (Qm m c) (Vm m c) (bm m c) ⟨t.val / 64, by have := lt512 t; omega⟩ ⟨512 * (t.val % 4) + r.val, by omega⟩ ⟨t.val / 4 % 16, by omega⟩ d := by
  have hB := out_at c (grid0.coords t) (ms0_0 t) (hs0_0 t) (ms0_1 t) (hs0_1 t) (ms0_2 t) (hs0_2 t) (ms0_3 t) (hs0_3 t) (ms0_4 t) (hs0_4 t) (iblk m c 0 t) (iblk m c 1 t) (X0_2 m c t) (X0_3 m c t)
    (bm m c ⟨t.val / 4 % 16, by omega⟩) (iblk0_at m c t) r d
  unfold outsAt0
  rw [hB, (idx t).2.2.2.2.2]
  unfold attRow
  refine congrArg₂ (fun Z V => attFrom (512 * (t.val % 4) + r.val) (ofFin Z) (ofFin V) 0) (funext fun s => ?_) (funext fun s => iblk3_at m c t s d)
  refine congrArg (fun u : EReal => u * scl + bm m c ⟨t.val / 4 % 16, by omega⟩) (Finset.sum_congr rfl fun e _ => ?_)
  rw [iblk1_at, iblk2_at]
  refine congrArg₂ (fun a b : EReal => a * b) (congrArg (fun a => Qm m c a _) (Fin.ext ?_)) rfl
  show 512 * (4 * (t.val / 64) + t.val % 4) + r.val = 2048 * (t.val / 64) + (512 * (t.val % 4) + r.val)
  omega

/-- The result array after the run. -/
theorem final (c : Dev nD) : ((dats m 0 c).arrAt 4 cfg0.N : FVec Ideal S16384x2048 .f32)
    = fun i => attAll (Qm m c) (Vm m c) (bm m c) (i 0) (i 1) := by
  refine (dats m 0 c).arrAt_eq_of_covers 4 _ (by decide +kernel) fun t hf y => ?_
  have h512 := lt512 t
  blk_simp
  rw [after0_4]
  idx_vars y
  refine (block_at m c t y0 y1).trans ?_
  have r0 : ((((View.whole main_v3).slice (win0_4.rect t)).emb (ix2 y0 y1) 0 : Fin 16384) : ℕ) = 512 * (4 * (t.val / 64) + t.val % 4) + y0.val := by
    have e1 : win0_4.index t 0 = 4 * (t.val / 64) + t.val % 4 := by rw [(idx t).2.2.2.2.1]; rfl
    blk_simp
    rw [e1]
    omega
  have r1 : ((((View.whole main_v3).slice (win0_4.rect t)).emb (ix2 y0 y1) 1 : Fin 2048) : ℕ) = 128 * (t.val / 4 % 16) + y1.val := by
    have e1 : win0_4.index t 1 = t.val / 4 % 16 := by rw [(idx t).2.2.2.2.1]; rfl
    blk_simp
    rw [e1]
    omega
  unfold attAll
  refine congr (congr (congrArg₂ (attRow (Qm m c) (Vm m c) (bm m c)) (Fin.ext ?_) (Fin.ext ?_)) (Fin.ext ?_)) (Fin.ext ?_)
  · show t.val / 64 = _ / 2048; rw [r0]; omega
  · show 512 * (t.val % 4) + y0.val = _ % 2048; rw [r0]; omega
  · show t.val / 4 % 16 = _ / 128; rw [r1]; omega
  · show y1.val = _ % 128; rw [r1]; omega

end Cert.SbAttIdeal.Mm

end
-- ==== Proof.SbRef.lean ====
/-
  The reference's attention of the prompt, entry by entry.
-/
module

public import proofs.«01_k».proof.Proof.Gen.SbRefIdeal.Run
public import proofs.«01_k».proof.Proof.SbRow
public import Idealize.ShloMosaic.Lib.Pipeline.ValueKit
public import Idealize.ShloMosaic.Lib.Pointwise
public import Idealize.ShloMosaic.Lib.WordCmp

@[expose] public section

set_option maxRecDepth 16384

noncomputable section

namespace Cert.SbRefIdeal.Mm

open Idealize.ShloMosaic.StableHlo Cert.SbRefIdeal Cert.SbRefIdeal.Gen Cert.SbRefIdeal.Value Cert.SbSpec Idealize.ShloMosaic Idealize.ShloMosaic.TcCoe

/-- Logits of batches, heads, queries and keys. -/
abbrev T4 := FVec Ideal S8x16x2048x2048 .f32

/-- The zeros. -/
def zeroT : T4 := broadcastInDim S8x16x2048x2048 ![] bcast_S_S8x16x2048x2048 (constant S_ .f32 0x00000000#32)

/-- The logits. -/
def zT (Q : FVec Ideal S17408x4096 .f32) (B : FVec Ideal S1x16 .f32) : T4 :=
  addf (mulf (Host.dotGeneral dot_S8x2048x16x128_S8x2048x16x128_S8x16x2048x2048_3_3_1_1_02_02 none (shapeCast _ (extractStridedSlice S16384x2048 ![0, 0] Q slices_S17408x4096_S16384x2048_0_0) shapeCasts_S16384x2048_S8x2048x16x128) (shapeCast _ (extractStridedSlice S16384x2048 ![0, 2048] Q slices_S17408x4096_S16384x2048_0_2048) shapeCasts_S16384x2048_S8x2048x16x128)) (broadcastInDim S8x16x2048x2048 ![] bcast_S_S8x16x2048x2048 (constant S_ .f32 0x3DB504F3#32))) (broadcastInDim S8x16x2048x2048 ![0, 1, 2, 3] bcast_S1x16x1x1_S8x16x2048x2048_0_1_2_3 (broadcastInDim S1x16x1x1 ![1] bcast_S16_S1x16x1x1_1 (shapeCast _ B shapeCasts_S1x16_S16)))

/-- The logarithms of the sigmoids. -/
def lsT (x : T4) : T4 :=
  Host.negf (select (cmpf .une (subf (Host.negf x) zeroT) (subf (Host.negf x) zeroT)) (addf (Host.negf x) zeroT) (addf (maximumf (Host.negf x) zeroT) (Host.log1p (Host.exp (Host.negf (Host.absf (subf (Host.negf x) zeroT)))))))

/-- The keys before the query. -/
def mskT : IVec S8x16x2048x2048 1 :=
  broadcastInDim S8x16x2048x2048 ![2, 3] bcast_S2048x2048_S8x16x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The contributions of the keys. -/
def restT (x : T4) : T4 := select mskT (lsT (Host.negf x)) zeroT

/-- The sums of the contributions from every key on. -/
def cumT (x : T4) : T4 :=
  Host.reduceWindowAdd ![1, 1, 1, 2048] ![1, 1, 1, 1] ![0, 0, 0, 0] ![0, 0, 0, 2047] x (broadcastInDim S_ ![] bcast_S_S_ (constant S_ .f32 0x00000000#32)) reduceWindows_S8x16x2048x2048_S8x16x2048x2048_w1s1p0_0_w1s1p0_0_w1s1p0_0_w2048s1p0_2047 h_S_

/-- The weights. -/
def aT (x : T4) : T4 := select mskT (Host.exp (addf (lsT x) (subf (cumT (restT x)) (restT x)))) zeroT

/-- The weighted values. -/
def oT (V : FVec Ideal S17408x2048 .f32) (a : T4) : FVec Ideal S16384x2048 .f32 :=
  shapeCast _ (transpose S8x2048x16x128 [0, 3, 1, 2] (Host.dotGeneral dot_S8x2048x16x128_S8x16x2048x2048_S8x16x128x2048_1_3_3_2_02_01 none (shapeCast _ (extractStridedSlice S16384x2048 ![0, 0] V slices_S17408x2048_S16384x2048_0_0) shapeCasts_S16384x2048_S8x2048x16x128) a) transposes_S8x16x128x2048_S8x2048x16x128_0_3_1_2) shapeCasts_S8x2048x16x128_S16384x2048

/-- The zeros, entry by entry. -/
theorem zeroT_at (b : Fin 8) (h : Fin 16) (t s : Fin 2048) : zeroT (ix4 b h t s) = 0 := by
  pointwise [zeroT]

/-- The logits, entry by entry. -/
theorem zT_at (Q : FVec Ideal S17408x4096 .f32) (B : FVec Ideal S1x16 .f32) (b : Fin 8) (h : Fin 16) (t s : Fin 2048) :
    zT Q B (ix4 b h t s) = (∑ e : Fin 128, Q (ix2 ⟨2048 * b.val + t.val, by omega⟩ ⟨128 * h.val + e.val, by omega⟩) * Q (ix2 ⟨2048 * b.val + s.val, by omega⟩ ⟨2048 + (128 * h.val + e.val), by omega⟩))
      * Ideal.ofBits FTy.f32 0x3DB504F3#32 + B (ix2 0 h) := by
  pointwise [zT]
  refine congrArg (fun u : EReal => u * Ideal.ofBits FTy.f32 0x3DB504F3#32 + B (ix2 0 h)) (Finset.sum_congr rfl fun e _ => congrArg₂ (fun a b : EReal => a * b)
    (congrArg₂ (fun i j => Q (ix2 i j)) (Fin.ext ?_) (Fin.ext ?_)) (congrArg₂ (fun i j => Q (ix2 i j)) (Fin.ext ?_) (Fin.ext ?_)))
  all_goals dsimp only; omega

/-- The logarithms of the sigmoids, entry by entry. -/
theorem lsT_at (x : T4) (b : Fin 8) (h : Fin 16) (t s : Fin 2048) : lsT x (ix4 b h t s) = lsg (x (ix4 b h t s)) := by
  pointwise [lsT, zeroT]
  refine congrArg Neg.neg (Eq.trans (b := max (-x (ix4 b h t s)) 0 + Ideal.log1p (Ideal.exp (-max (-x (ix4 b h t s)) (-(-x (ix4 b h t s)))))) ?_ rfl)
  exact if_neg fun hne => hne rfl

/-- The mask, entry by entry. -/
theorem mskT_at (b : Fin 8) (h : Fin 16) (t s : Fin 2048) : mskT (ix4 b h t s) = BitVec.ofBool (decide (s.val < t.val)) := by
  pointwise [mskT]
  rw [WordCmp.cmpi_slt_ofNat (by omega) (by omega)]

/-- A masked array, entry by entry. -/
theorem sel_at (x : T4) (b : Fin 8) (h : Fin 16) (t s : Fin 2048) : (select mskT x zeroT : T4) (ix4 b h t s) = if s.val < t.val then x (ix4 b h t s) else 0 := by
  have e : (select mskT x zeroT : T4) (ix4 b h t s) = Scalar.select (mskT (ix4 b h t s)) (x (ix4 b h t s)) (zeroT (ix4 b h t s)) := by
    pointwise
  rw [e, mskT_at, zeroT_at]
  by_cases hb : s.val < t.val
  · rw [if_pos hb, decide_eq_true hb]; rfl
  · rw [if_neg hb, decide_eq_false hb]; rfl

/-- The contributions, entry by entry. -/
theorem restT_at (x : T4) (b : Fin 8) (h : Fin 16) (t s : Fin 2048) : restT x (ix4 b h t s) = if s.val < t.val then 0 - sp (x (ix4 b h t s)) else 0 := by
  unfold restT
  rw [sel_at, lsT_at, ← lsg_neg]
  rfl

/-- A fold of additions is a sum. -/
theorem foldl_add {ι : Type} (l : List ι) (g : ι → EReal) (v : EReal) : l.foldl (fun r a => r + g a) v = v + (l.map g).sum := by
  induction l generalizing v with
  | nil => exact (add_zero v).symm
  | cons a l ih => rw [List.foldl_cons, ih, List.map_cons, List.sum_cons, add_assoc]

/-- A window has 2048 positions. -/
theorem winN : (⟨4, ![1, 1, 1, 2048]⟩ : Shape).numel = 2048 := by decide

/-- The sums from every key on, entry by entry. -/
theorem cumT_at (x : T4) (b : Fin 8) (h : Fin 16) (t s : Fin 2048) :
    cumT x (ix4 b h t s) = ∑ j ∈ Finset.Ico s.val 2048, ofFin (fun s => x (ix4 b h t s)) j := by
  have hz : (broadcastInDim S_ ![] bcast_S_S_ (constant S_ .f32 0x00000000#32) : FVec Ideal S_ .f32) (Shape.Idx.first h_S_) = 0 := by
    have e0 : Shape.Idx.first h_S_ = ix0 := funext fun a => a.elim0
    rw [e0]
    pointwise
  unfold cumT Host.reduceWindowAdd
  show Ideal.hostReduceWindowAdd _ _ _ _ _ x _ _ = _
  unfold Ideal.hostReduceWindowAdd Host.reduceWindow
  rw [hz]
  refine (foldl_add _ _ _).trans ?_
  rw [zero_add, ← Fin.sum_univ_def]
  refine Eq.trans (b := ∑ n : Fin (⟨4, ![1, 1, 1, 2048]⟩ : Shape).numel, ofFin (fun s => x (ix4 b h t s)) (s.val + n.val)) (Finset.sum_congr rfl fun n _ => ?_) ?_
  · have hn : n.val < 2048 := lt_of_lt_of_eq n.isLt winN
    have hw : (⟨4, ![1, 1, 1, 2048]⟩ : Shape).rowMajor.symm n = ix4 (0 : Fin 1) (0 : Fin 1) (0 : Fin 1) (⟨n.val, hn⟩ : Fin 2048) :=
      ((⟨4, ![1, 1, 1, 2048]⟩ : Shape).rowMajor.symm_apply_eq).2 (Fin.ext (by
        rw [Shape.rowMajor_val_four]
        show n.val = _
        simp [ix4]))
    have h0 : ((⟨4, ![1, 1, 1, 2048]⟩ : Shape).rowMajor.symm n 0).val = 0 := by rw [hw]; rfl
    have h1 : ((⟨4, ![1, 1, 1, 2048]⟩ : Shape).rowMajor.symm n 1).val = 0 := by rw [hw]; rfl
    have h2 : ((⟨4, ![1, 1, 1, 2048]⟩ : Shape).rowMajor.symm n 2).val = 0 := by rw [hw]; rfl
    have h3 : ((⟨4, ![1, 1, 1, 2048]⟩ : Shape).rowMajor.symm n 3).val = n.val := by rw [hw]; rfl
    by_cases hsn : s.val + n.val < 2048
    · refine (dif_pos ?_).trans ((congrArg x ?_).trans (show ofFin (fun s => x (ix4 b h t s)) (s.val + n.val) = x (ix4 b h t ⟨s.val + n.val, hsn⟩) from dif_pos hsn).symm)
      · intro a
        match a with
        | ⟨0, _⟩ =>
          show 0 ≤ _ ∧ b.val * 1 + ((⟨4, ![1, 1, 1, 2048]⟩ : Shape).rowMajor.symm n 0).val - 0 < 8
          rw [h0]; omega
        | ⟨1, _⟩ =>
          show 0 ≤ _ ∧ h.val * 1 + ((⟨4, ![1, 1, 1, 2048]⟩ : Shape).rowMajor.symm n 1).val - 0 < 16
          rw [h1]; omega
        | ⟨2, _⟩ =>
          show 0 ≤ _ ∧ t.val * 1 + ((⟨4, ![1, 1, 1, 2048]⟩ : Shape).rowMajor.symm n 2).val - 0 < 2048
          rw [h2]; omega
        | ⟨3, _⟩ =>
          show 0 ≤ _ ∧ s.val * 1 + ((⟨4, ![1, 1, 1, 2048]⟩ : Shape).rowMajor.symm n 3).val - 0 < 2048
          rw [h3]; omega
      · funext a
        refine Fin.ext ?_
        match a with
        | ⟨0, _⟩ =>
          show b.val * 1 + ((⟨4, ![1, 1, 1, 2048]⟩ : Shape).rowMajor.symm n 0).val - 0 = b.val
          rw [h0]; omega
        | ⟨1, _⟩ =>
          show h.val * 1 + ((⟨4, ![1, 1, 1, 2048]⟩ : Shape).rowMajor.symm n 1).val - 0 = h.val
          rw [h1]; omega
        | ⟨2, _⟩ =>
          show t.val * 1 + ((⟨4, ![1, 1, 1, 2048]⟩ : Shape).rowMajor.symm n 2).val - 0 = t.val
          rw [h2]; omega
        | ⟨3, _⟩ =>
          show s.val * 1 + ((⟨4, ![1, 1, 1, 2048]⟩ : Shape).rowMajor.symm n 3).val - 0 = s.val + n.val
          rw [h3]; omega
    · refine (dif_neg fun hin => hsn ?_).trans (show ofFin (fun s => x (ix4 b h t s)) (s.val + n.val) = 0 from dif_neg hsn).symm
      have h4 := (hin (3 : Fin 4)).2
      change s.val * 1 + ((⟨4, ![1, 1, 1, 2048]⟩ : Shape).rowMajor.symm n 3).val - 0 < 2048 at h4
      rw [h3] at h4
      omega
  · rw [Fin.sum_univ_eq_sum_range (fun n => ofFin (fun s => x (ix4 b h t s)) (s.val + n)), winN]
    have hs : ∑ j ∈ Finset.Ico s.val (s.val + 2048), ofFin (fun s => x (ix4 b h t s)) j = ∑ n ∈ Finset.range 2048, ofFin (fun s => x (ix4 b h t s)) (s.val + n) := by
      rw [Finset.sum_Ico_eq_sum_range, Nat.add_sub_cancel_left]
    rw [← hs, ← Finset.sum_Ico_consecutive _ (by omega : s.val ≤ 2048) (by omega : 2048 ≤ s.val + 2048)]
    have h0 : ∑ j ∈ Finset.Ico 2048 (s.val + 2048), ofFin (fun s => x (ix4 b h t s)) j = 0 :=
      Finset.sum_eq_zero fun j hj => dif_neg (by have := (Finset.mem_Ico.mp hj).1; omega)
    rw [h0, add_zero]

/-- The weights, entry by entry. -/
theorem aT_at (x : T4) (b : Fin 8) (h : Fin 16) (t s : Fin 2048) : aT x (ix4 b h t s) = wgt t.val (ofFin fun s => x (ix4 b h t s)) s.val := by
  unfold aT wgt
  rw [sel_at]
  by_cases hb : s.val < t.val
  · rw [if_pos hb, if_pos hb]
    have e : (Host.exp (addf (lsT x) (subf (cumT (restT x)) (restT x))) : T4) (ix4 b h t s) = Ideal.exp (lsT x (ix4 b h t s) + (cumT (restT x) (ix4 b h t s) - restT x (ix4 b h t s))) := by
      pointwise
    rw [e, lsT_at, restT_at, if_pos hb, cumT_at]
    have e1 : ∑ j ∈ Finset.Ico s.val 2048, ofFin (fun s => restT x (ix4 b h t s)) j = (0 - sp (x (ix4 b h t s))) + restFrom t.val (ofFin fun s => x (ix4 b h t s)) (s.val + 1) := by
      rw [Finset.sum_eq_sum_Ico_succ_bot s.isLt, ofFin_at (fun s => restT x (ix4 b h t s)) s, restT_at, if_pos hb]
      unfold restFrom
      refine congrArg (fun u : EReal => (0 - sp (x (ix4 b h t s))) + u) (Finset.sum_congr rfl fun j hj => ?_)
      have hj2 : j < 2048 := (Finset.mem_Ico.mp hj).2
      rw [show ofFin (fun s => restT x (ix4 b h t s)) j = restT x (ix4 b h t ⟨j, hj2⟩) from dif_pos hj2, restT_at]
      unfold restAt
      rw [show ofFin (fun s => x (ix4 b h t s)) j = x (ix4 b h t ⟨j, hj2⟩) from dif_pos hj2]
    rw [e1, expo, ofFin_at (fun s => x (ix4 b h t s)) s]
  · rw [if_neg hb, if_neg hb]

/-- The weighted values, entry by entry. -/
theorem oT_at (V : FVec Ideal S17408x2048 .f32) (a : T4) (b : Fin 8) (t : Fin 2048) (h : Fin 16) (d : Fin 128) :
    oT V a (ix2 (⟨2048 * b.val + t.val, by omega⟩ : Fin 16384) (⟨128 * h.val + d.val, by omega⟩ : Fin 2048)) = ∑ s : Fin 2048, a (ix4 b h t s) * V (ix2 ⟨2048 * b.val + s.val, by omega⟩ ⟨128 * h.val + d.val, by omega⟩) := by
  pointwise [oT]
  refine Finset.sum_congr rfl fun s _ => (mul_comm _ _).trans (congrArg (fun u : EReal => a (ix4 b h t s) * u) (congrArg₂ (fun i j => V (ix2 i j)) (Fin.ext ?_) (Fin.ext ?_)))
  all_goals dsimp only; omega

variable (m : (ℓ : Loc nD τ sig) → Buf (Elt Ideal) ℓ)

/-- The queries and keys. -/
abbrev Qm (c : Dev nD) : Fin 17408 → Fin 4096 → EReal := fun i j => (m ((c.tc : Thread nD τ).loc main_arg0) : FVec Ideal S17408x4096 .f32) (ix2 i j)
/-- The values. -/
abbrev Vm (c : Dev nD) : Fin 17408 → Fin 2048 → EReal := fun i j => (m ((c.tc : Thread nD τ).loc main_arg1) : FVec Ideal S17408x2048 .f32) (ix2 i j)
/-- The heads' biases. -/
abbrev bm (c : Dev nD) : Fin 16 → EReal := fun h => (m ((c.tc : Thread nD τ).loc main_arg2) : FVec Ideal S1x16 .f32) (ix2 0 h)

/-- The reference's array is these steps. -/
theorem res_eq (c : Dev nD) : (res_main_v30 m c : FVec Ideal S16384x2048 .f32)
    = oT (m ((c.tc : Thread nD τ).loc main_arg1)) (aT (zT (m ((c.tc : Thread nD τ).loc main_arg0)) (m ((c.tc : Thread nD τ).loc main_arg2)))) := by
  unfold res_main_v30 oT aT restT cumT mskT lsT zT zeroT
  rfl

/-- The reference's array, entry by entry. -/
theorem out_at (c : Dev nD) (R : Fin 16384) (C : Fin 2048) : (res_main_v30 m c : FVec Ideal S16384x2048 .f32) (ix2 R C) = attAll (Qm m c) (Vm m c) (bm m c) R C := by
  have hR : R = (⟨2048 * (R.val / 2048) + R.val % 2048, by omega⟩ : Fin 16384) := Fin.ext (by dsimp only; omega)
  have hC : C = (⟨128 * (C.val / 128) + C.val % 128, by omega⟩ : Fin 2048) := Fin.ext (by dsimp only; omega)
  rw [res_eq]
  refine (congrArg₂ (fun R C => oT _ _ (ix2 R C)) hR hC).trans ?_
  refine (oT_at _ _ ⟨R.val / 2048, by omega⟩ ⟨R.val % 2048, by omega⟩ ⟨C.val / 128, by omega⟩ ⟨C.val % 128, by omega⟩).trans ?_
  unfold attAll attRow attFrom
  rw [← Finset.range_eq_Ico, ← Fin.sum_univ_eq_sum_range]
  refine Finset.sum_congr rfl fun s _ => ?_
  refine congrArg₂ (fun a b : EReal => a * b) ((aT_at _ _ _ _ _).trans ?_) (ofFin_at (fun s => Vm m c ⟨2048 * (R.val / 2048) + s.val, by omega⟩ ⟨128 * (C.val / 128) + C.val % 128, by omega⟩) s).symm
  refine congrArg (fun Z => wgt (R.val % 2048) (ofFin Z) s.val) (funext fun s => ?_)
  exact zT_at _ _ _ _ _ _

/-- The reference's result array after its run, and its arguments. -/
theorem run_at (ρ : Dev nD → PrngReg) :
    θ_run defs (onTc (τ := τ) (main (F := Ideal))) ⟨m, fun _ => 0, ρ⟩ fun r => ∀ c : Dev nD,
      (r.2.mem ((c.tc : Thread nD τ).loc main_v30) : FVec Ideal S16384x2048 .f32) = (fun i => attAll (Qm m c) (Vm m c) (bm m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (funext fun i => by idx_vars i; exact out_at m c i0 i1), (h c).2⟩) (Value.run m ρ)

end Cert.SbRefIdeal.Mm

end
-- ==== Proof.SbValue.lean ====
/-
  The kernel and the reference of the prompt's attention compute the same array: the claim that compares the two programs.
-/
module

public import proofs.«01_k».proof.Defs
public import Idealize.ShloMosaic.Adequacy
public import Idealize.ShloMosaic.Init
public import Idealize.ShloMosaic.Lib.Quiescent
public import proofs.«01_k».proof.Proof.SbBlocks
public import proofs.«01_k».proof.Proof.SbRef

@[expose] public section

set_option maxRecDepth 16384

noncomputable section

namespace Cert.Claims

open Cert.SbSpec Idealize.ShloMosaic Idealize.ShloMosaic.TcCoe Idealize.ShloMosaic.Tactic

/-- The reference frees nothing and leaves its arguments as they were. -/
theorem frame_SbRefIdeal : Cert.quiescent_SbRefIdeal := fun m ρ _ =>
  (θ_run Cert.SbRefIdeal.defs _ _).mono (fun r h => ⟨fun c => (h c).2, sem_eq_zero_of_no_sems (by decide) r.2⟩)
    (Cert.SbRefIdeal.Value.run (F := Ideal) m ρ)

/-- The kernel's array is the reference's. -/
theorem algebraic_Sb : Cert.algebraic_SbAttIdeal_SbRefIdeal := by
  intro m ρ m' ρ' _ hag
  refine ⟨fun c => fun i => SbSpec.attAll (SbAttIdeal.Mm.Qm m c) (SbAttIdeal.Mm.Vm m c) (SbAttIdeal.Mm.bm m c) (i 0) (i 1), ?_, ?_⟩
  · refine (θ_run _ _ _).mono (fun r h c => ?_) (SbAttIdeal.Value.run_blocks m ρ)
    obtain ⟨h1, h3⟩ := h c
    exact ⟨h1.trans (SbAttIdeal.Mm.final m c), h3⟩
  · refine (θ_run _ _ _).mono (fun r h c => ?_) (SbRefIdeal.Mm.run_at m' ρ')
    obtain ⟨h1, h3⟩ := h c
    have hQ : SbRefIdeal.Mm.Qm m' c = SbAttIdeal.Mm.Qm m c := funext fun i => funext fun j => congrFun (hag c).1 (ix2 i j)
    have hV : SbRefIdeal.Mm.Vm m' c = SbAttIdeal.Mm.Vm m c := funext fun i => funext fun j => congrFun (hag c).2.1 (ix2 i j)
    have hB : SbRefIdeal.Mm.bm m' c = SbAttIdeal.Mm.bm m c := funext fun h => congrFun (hag c).2.2 (ix2 0 h)
    refine ⟨h1.trans ?_, h3⟩
    rw [hQ, hV, hB]; rfl

end Cert.Claims

end
-- ==== Proof.RetsSpec.lean ====
/-
  The sample's retention of one head as plain sums over the extended reals: eight rows are one chunk, so one step of the
  recurrence, and rows padded with zeros add nothing to it.
-/
module

public import proofs.«01_k».proof.Proof.RetSpec

@[expose] public section

noncomputable section

namespace Cert.RetsSpec

open Cert.RetSpec Idealize.ShloMosaic

/-- Row `i` of the eight, among 128. -/
def up (i : Fin 8) : Fin 128 := ⟨i.val, by omega⟩

/-- The decay from row `j` to the end of the eight rows: `exp ((7 - j) · lg)`. -/
def decK (lg : EReal) (j : Fin 128) : EReal := Ideal.exp ((Ideal.ofBits FTy.f32 0x40E00000#32 - pos j) * lg)

/-- The decay of the state over the eight rows: `exp (8 · lg)`. -/
def decC (lg : EReal) : EReal := Ideal.exp (Ideal.ofBits FTy.f32 0x41000000#32 * lg)

/-- The state after the eight rows of keys `k` and values `v`, from the state `s` before them. -/
def stepSt (lg : EReal) (k : Fin 8 → Fin 256 → EReal) (v : Fin 8 → Fin 512 → EReal)
    (s : Fin 256 → Fin 512 → EReal) (d : Fin 256) (e : Fin 512) : EReal :=
  decC lg * s d e + ∑ j : Fin 8, k j d * decK lg (up j) * v j e

/-- Row `i`'s output before the norm: the decayed scores against the values, and the query against the state `s`. -/
def mix (lg : EReal) (q k : Fin 8 → Fin 256 → EReal) (v : Fin 8 → Fin 512 → EReal)
    (s : Fin 256 → Fin 512 → EReal) (i : Fin 8) (e : Fin 512) : EReal :=
  (∑ j : Fin 8, (∑ d : Fin 256, q i d * k j d) * decI lg (up i) (up j) * v j e)
    + (∑ d : Fin 256, q i d * s d e) * decQ lg (up i)

/-- Eight rows followed by 120 rows of zeros. -/
def zpad {C : ℕ} (x : Fin 8 → Fin C → EReal) (i : Fin 128) (d : Fin C) : EReal :=
  if h : i.val < 8 then x ⟨i.val, h⟩ d else 0

/-- The first eight of the padded rows are the rows themselves. -/
theorem pad_up {C : ℕ} (x : Fin 8 → Fin C → EReal) (i : Fin 8) (d : Fin C) : zpad x (up i) d = x i d := dif_pos i.isLt

/-- The other padded rows are zero. -/
theorem pad_zero {C : ℕ} (x : Fin 8 → Fin C → EReal) (i : Fin 128) (h : 8 ≤ i.val) (d : Fin C) : zpad x i d = 0 := dif_neg (by omega)

/-- A sum over 128 rows whose terms past the eighth vanish is the sum over the eight. -/
theorem sum_up (f : Fin 128 → EReal) (hf : ∀ j : Fin 128, 8 ≤ j.val → f j = 0) : ∑ j : Fin 128, f j = ∑ j : Fin 8, f (up j) := by
  refine (Fin.sum_univ_add (a := 8) (b := 120) f).trans ?_
  have : ∑ i : Fin 120, f (Fin.natAdd 8 i) = 0 := Finset.sum_eq_zero fun i _ => hf _ (by simp [Fin.natAdd])
  rw [this, add_zero]
  rfl

/-- The padded keys and values give the same sum over keys times values. -/
theorem sum_kv (lg : EReal) (k : Fin 8 → Fin 256 → EReal) (v : Fin 8 → Fin 512 → EReal) (d : Fin 256) (e : Fin 512) :
    ∑ j : Fin 128, zpad k j d * decK lg j * zpad v j e = ∑ j : Fin 8, k j d * decK lg (up j) * v j e := by
  refine (sum_up _ fun j h => ?_).trans (Finset.sum_congr rfl fun j _ => ?_)
  · rw [pad_zero v j h, mul_zero]
  · rw [pad_up, pad_up]

/-- The padded scores against the padded values give the same sum. -/
theorem sum_qkv (lg : EReal) (q k : Fin 8 → Fin 256 → EReal) (v : Fin 8 → Fin 512 → EReal) (i : Fin 8) (e : Fin 512) :
    ∑ j : Fin 128, (∑ d : Fin 256, zpad q (up i) d * zpad k j d) * decI lg (up i) j * zpad v j e
      = ∑ j : Fin 8, (∑ d : Fin 256, q i d * k j d) * decI lg (up i) (up j) * v j e := by
  refine (sum_up _ fun j h => ?_).trans (Finset.sum_congr rfl fun j _ => ?_)
  · rw [pad_zero v j h, mul_zero]
  · simp only [pad_up]

/-- Eight rows of sample `b`, head `h`: 256 columns from column `off`, rows from 16384. -/
def qkS (X : Fin 17408 → Fin 4096 → EReal) (off b h : ℕ) (i : Fin 8) (d : Fin 256) : EReal :=
  rd X (16384 + b * 8 + i.val) (off + h * 256 + d.val)

/-- Eight rows of sample `b`, head `h`: 512 columns from column `off`, rows from 16384. -/
def vgS (X : Fin 17408 → Fin 8192 → EReal) (off b h : ℕ) (i : Fin 8) (e : Fin 512) : EReal :=
  rd X (16384 + b * 8 + i.val) (off + h * 512 + e.val)

section
variable (X : Fin 17408 → Fin 4096 → EReal) (Y : Fin 17408 → Fin 8192 → EReal)
  (S : Fin 128 → Fin 8 → Fin 256 → Fin 512 → EReal) (gn : Fin 4096 → EReal)

/-- The second result: the state of sample `b`, head `h` after its rows. -/
def G8 (b : Fin 128) (h : Fin 8) (d : Fin 256) (e : Fin 512) : EReal :=
  stepSt (lgOf h) (qkS X 2048 b h) (vgS Y 0 b h) (S b h) d e

/-- The gated row `i` of sample `b`, head `h`. -/
def outRow (b : Fin 128) (h : Fin 8) (i : Fin 8) (e : Fin 512) : EReal :=
  gated (mix (lgOf h) (qkS X 0 b h) (qkS X 2048 b h) (vgS Y 0 b h) (S b h) i)
    (fun e => gn ⟨h.val * 512 + e.val, by omega⟩) (vgS Y 4096 b h i) e

/-- The first result: row `b · 8 + i`, column `h · 512 + e`. -/
def G7 (r : Fin 1024) (l : Fin 4096) : EReal :=
  outRow X Y S gn ⟨r.val / 8, by omega⟩ ⟨l.val / 512, by omega⟩ ⟨r.val % 8, by omega⟩ ⟨l.val % 512, by omega⟩
end

end Cert.RetsSpec

end
-- ==== Proof.RetsBody.lean ====
/-
  The sample's retention kernel, one point's arithmetic: every stored value is the recurrence's step or the gated rows
  of RetsSpec.lean, whose padded rows drop out of the sums.
-/
module

public import proofs.«01_k».proof.Proof.Gen.RetSIdeal.Value
public import proofs.«01_k».proof.Proof.RetsSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.RetSIdeal.Ret

open Cert.RetSIdeal Cert.RetSIdeal.Gen Cert.RetsSpec Idealize.ShloMosaic Idealize.ShloMosaic.TcCoe
open Cert.RetSpec (gated decI decQ lgOf pos rd rd_val)

variable (q k : Vec Ideal S8x256 .f32) (v : Vec Ideal S8x512 .f32) (s : Vec Ideal S1x256x512 .f32)
  (gain : Vec Ideal S1x1x512 .f32) (gate : Vec Ideal S8x512 .f32)

/-- Eight rows of 256 columns stacked on 120 rows of zeros. -/
theorem cat256_at (x : Vec Ideal S8x256 .f32) (i : Fin 128) (d : Fin 256) :
    (concatenate S128x256 0 [⟨S8x256, x⟩, ⟨S120x256, broadcast S120x256 (Scalar.ofBits (F := Ideal) .f32 0x00000000#32)⟩] concatenates_S8x256_S120x256_S128x256_d0 : FVec Ideal S128x256 .f32) (ix2 i d)
      = zpad (fun i d => x (ix2 i d)) i d := by
  pointwise
  unfold zpad
  split <;> rfl

/-- Eight rows of 512 columns stacked on 120 rows of zeros. -/
theorem cat512_at (x : Vec Ideal S8x512 .f32) (i : Fin 128) (d : Fin 512) :
    (concatenate S128x512 0 [⟨S8x512, x⟩, ⟨S120x512, broadcast S120x512 (Scalar.ofBits (F := Ideal) .f32 0x00000000#32)⟩] concatenates_S8x512_S120x512_S128x512_d0 : FVec Ideal S128x512 .f32) (ix2 i d)
      = zpad (fun i d => x (ix2 i d)) i d := by
  pointwise
  unfold zpad
  split <;> rfl

/-- A block padded to 128 rows. -/
theorem pay10_at (i : Fin 128) (d : Fin 256) : k0_pay10 q (ix2 i d) = zpad (fun i d => q (ix2 i d)) i d := cat256_at q i d

/-- A block padded to 128 rows. -/
theorem pay11_at (i : Fin 128) (d : Fin 256) : k0_pay11 k (ix2 i d) = zpad (fun i d => k (ix2 i d)) i d := cat256_at k i d

/-- A block padded to 128 rows. -/
theorem pay31_at (i : Fin 128) (d : Fin 256) : k0_pay31 k (ix2 i d) = zpad (fun i d => k (ix2 i d)) i d := cat256_at k i d

/-- A block padded to 128 rows. -/
theorem pay33_at (i : Fin 128) (d : Fin 256) : k0_pay33 q (ix2 i d) = zpad (fun i d => q (ix2 i d)) i d := cat256_at q i d

/-- A block padded to 128 rows. -/
theorem pay12_at (i : Fin 128) (d : Fin 512) : k0_pay12 v (ix2 i d) = zpad (fun i d => v (ix2 i d)) i d := cat512_at v i d

/-- A block padded to 128 rows. -/
theorem pay32_at (i : Fin 128) (d : Fin 512) : k0_pay32 v (ix2 i d) = zpad (fun i d => v (ix2 i d)) i d := cat512_at v i d

/-- A block padded to 128 rows, narrowed. -/
theorem pay13_at (i : Fin 128) (d : Fin 256) : k0_pay13 (k0_pay10 q) (ix2 i d) = zpad (fun i d => q (ix2 i d)) i d := pay10_at q i d

/-- A block padded to 128 rows, narrowed. -/
theorem pay34_at (i : Fin 128) (d : Fin 256) : k0_pay34 k (ix2 i d) = zpad (fun i d => k (ix2 i d)) i d := pay31_at k i d

/-- The decays within the chunk, first head. -/
theorem dec9_at {L : Vec Ideal S1x1x128 .f32} {lg : EReal} (hL : ∀ l, L (ix3 0 0 l) = lg) (i j : Fin 128) : k0_pay9 L (ix2 i j) = decI lg i j := by
  pointwise [k0_pay9, k0_pay5, k0_pay4, k0_pay3]
  simp only [hL]; rfl

/-- The decays within the chunk, second head. -/
theorem dec30_at {L : Vec Ideal S1x1x128 .f32} {lg : EReal} (hL : ∀ l, L (ix3 0 0 l) = lg) (i j : Fin 128) : k0_pay30 k0_pay4 L (ix2 i j) = decI lg i j := by
  pointwise [k0_pay30, k0_pay26, k0_pay4, k0_pay3]
  simp only [hL]; rfl

/-- The queries' decays, first head. -/
theorem dec6_at {L : Vec Ideal S1x1x128 .f32} {lg : EReal} (hL : ∀ l, L (ix3 0 0 l) = lg) (i l : Fin 128) : k0_pay6 L (ix2 i l) = decQ lg i := by
  pointwise [k0_pay6, k0_pay5, k0_pay3]
  simp only [hL]; rfl

/-- The queries' decays, second head. -/
theorem dec27_at {L : Vec Ideal S1x1x128 .f32} {lg : EReal} (hL : ∀ l, L (ix3 0 0 l) = lg) (i l : Fin 128) : k0_pay27 k0_pay3 L (ix2 i l) = decQ lg i := by
  pointwise [k0_pay27, k0_pay26, k0_pay3]
  simp only [hL]; rfl

/-- The keys' decays, first head. -/
theorem dec7_at {L : Vec Ideal S1x1x128 .f32} {lg : EReal} (hL : ∀ l, L (ix3 0 0 l) = lg) (i l : Fin 128) : k0_pay7 L (ix2 i l) = decK lg i := by
  pointwise [k0_pay7, k0_pay5, k0_pay3]
  simp only [hL]; rfl

/-- The keys' decays, second head. -/
theorem dec28_at {L : Vec Ideal S1x1x128 .f32} {lg : EReal} (hL : ∀ l, L (ix3 0 0 l) = lg) (i l : Fin 128) : k0_pay28 k0_pay3 L (ix2 i l) = decK lg i := by
  pointwise [k0_pay28, k0_pay26, k0_pay3]
  simp only [hL]; rfl

/-- The state's decay, first head. -/
theorem dec8_at {L : Vec Ideal S1x1x128 .f32} {lg : EReal} (hL : ∀ l, L (ix3 0 0 l) = lg) (i : Fin 1) (l : Fin 128) : k0_pay8 L (ix2 i l) = decC lg := by
  pointwise [k0_pay8, k0_pay5]
  simp only [hL]; rfl

/-- The state's decay, second head. -/
theorem dec29_at {L : Vec Ideal S1x1x128 .f32} {lg : EReal} (hL : ∀ l, L (ix3 0 0 l) = lg) (i : Fin 1) (l : Fin 128) : k0_pay29 L (ix2 i l) = decC lg := by
  pointwise [k0_pay29, k0_pay26]
  simp only [hL]; rfl

/-- The sum of keys times values, first head. -/
theorem kv17_at {L : Vec Ideal S1x1x128 .f32} {lg : EReal} (hL : ∀ l, L (ix3 0 0 l) = lg) (d : Fin 256) (e : Fin 512) :
    k0_pay17 (k0_pay7 L) (k0_pay11 k) v (ix2 d e) = ∑ j : Fin 8, k (ix2 j d) * decK lg (up j) * v (ix2 j e) := by
  refine Eq.trans ?_ (sum_kv lg (fun j d => k (ix2 j d)) (fun j e => v (ix2 j e)) d e)
  pointwise [k0_pay17]
  refine Finset.sum_congr rfl fun j _ => ?_
  simp only [dec7_at hL, pay11_at, pay12_at]
  split
  · rfl
  · rename_i h
    have : (⟨128 + (d.val - 128), by omega⟩ : Fin 256) = d := Fin.ext (by simp only; omega)
    rw [this]

/-- The sum of keys times values, second head. -/
theorem kv38_at {L : Vec Ideal S1x1x128 .f32} {lg : EReal} (hL : ∀ l, L (ix3 0 0 l) = lg) (d : Fin 256) (e : Fin 512) :
    k0_pay38 (k0_pay28 k0_pay3 L) (k0_pay31 k) (k0_pay32 v) (ix2 d e) = ∑ j : Fin 8, k (ix2 j d) * decK lg (up j) * v (ix2 j e) := by
  refine Eq.trans ?_ (sum_kv lg (fun j d => k (ix2 j d)) (fun j e => v (ix2 j e)) d e)
  pointwise [k0_pay38]
  refine Finset.sum_congr rfl fun j _ => ?_
  simp only [dec28_at hL, pay31_at, pay32_at]
  split
  · rfl
  · rename_i h
    have : (⟨128 + (d.val - 128), by omega⟩ : Fin 256) = d := Fin.ext (by simp only; omega)
    rw [this]

/-- The first slice of the first head's new state. -/
theorem st18_at {L : Vec Ideal S1x1x128 .f32} {lg : EReal} (hL : ∀ l, L (ix3 0 0 l) = lg) (z : Fin 1) (d : Fin 256) (e : Fin 128) (e' : Fin 512) (he : e'.val = e.val) :
    k0_pay18 (k0_pay7 L) (k0_pay8 L) (k0_pay11 k) v s (ix3 z d e)
      = stepSt lg (fun j d => k (ix2 j d)) (fun j e => v (ix2 j e)) (fun d e => s (ix3 0 d e)) d e' := by
  obtain ⟨e', he'⟩ := e'
  simp only at he; subst he
  pointwise [k0_pay18, k0_pay15]
  simp only [dec8_at hL, kv17_at k v hL]; rfl

/-- The second slice of the first head's new state. -/
theorem st19_at {L : Vec Ideal S1x1x128 .f32} {lg : EReal} (hL : ∀ l, L (ix3 0 0 l) = lg) (z : Fin 1) (d : Fin 256) (e : Fin 128) (e' : Fin 512) (he : e'.val = 128 + e.val) :
    k0_pay19 (k0_pay7 L) (k0_pay8 L) (k0_pay11 k) v s (ix3 z d e)
      = stepSt lg (fun j d => k (ix2 j d)) (fun j e => v (ix2 j e)) (fun d e => s (ix3 0 d e)) d e' := by
  obtain ⟨e', he'⟩ := e'
  simp only at he; subst he
  pointwise [k0_pay19, k0_pay15]
  simp only [dec8_at hL, kv17_at k v hL]; rfl

/-- The third slice of the first head's new state. -/
theorem st21_at {L : Vec Ideal S1x1x128 .f32} {lg : EReal} (hL : ∀ l, L (ix3 0 0 l) = lg) (z : Fin 1) (d : Fin 256) (e : Fin 128) (e' : Fin 512) (he : e'.val = 256 + e.val) :
    k0_pay21 (k0_pay20 (k0_pay7 L) (k0_pay8 L) (k0_pay11 k) v s) (ix3 z d e)
      = stepSt lg (fun j d => k (ix2 j d)) (fun j e => v (ix2 j e)) (fun d e => s (ix3 0 d e)) d e' := by
  obtain ⟨e', he'⟩ := e'
  simp only at he; subst he
  pointwise [k0_pay21, k0_pay20, k0_pay15]
  simp only [dec8_at hL, kv17_at k v hL]; rfl

/-- The fourth slice of the first head's new state. -/
theorem st22_at {L : Vec Ideal S1x1x128 .f32} {lg : EReal} (hL : ∀ l, L (ix3 0 0 l) = lg) (z : Fin 1) (d : Fin 256) (e : Fin 128) (e' : Fin 512) (he : e'.val = 384 + e.val) :
    k0_pay22 (k0_pay8 L) (k0_pay15 s) (k0_pay17 (k0_pay7 L) (k0_pay11 k) v) (ix3 z d e)
      = stepSt lg (fun j d => k (ix2 j d)) (fun j e => v (ix2 j e)) (fun d e => s (ix3 0 d e)) d e' := by
  obtain ⟨e', he'⟩ := e'
  simp only at he; subst he
  pointwise [k0_pay22, k0_pay15]
  simp only [dec8_at hL, kv17_at k v hL]; rfl

/-- The first slice of the second head's new state. -/
theorem st39_at {L : Vec Ideal S1x1x128 .f32} {lg : EReal} (hL : ∀ l, L (ix3 0 0 l) = lg) (z : Fin 1) (d : Fin 256) (e : Fin 128) (e' : Fin 512) (he : e'.val = e.val) :
    k0_pay39 (k0_pay28 k0_pay3 L) (k0_pay29 L) (k0_pay31 k) (k0_pay32 v) s (ix3 z d e)
      = stepSt lg (fun j d => k (ix2 j d)) (fun j e => v (ix2 j e)) (fun d e => s (ix3 0 d e)) d e' := by
  obtain ⟨e', he'⟩ := e'
  simp only at he; subst he
  pointwise [k0_pay39, k0_pay36]
  simp only [dec29_at hL, kv38_at k v hL]; rfl

/-- The second slice of the second head's new state. -/
theorem st40_at {L : Vec Ideal S1x1x128 .f32} {lg : EReal} (hL : ∀ l, L (ix3 0 0 l) = lg) (z : Fin 1) (d : Fin 256) (e : Fin 128) (e' : Fin 512) (he : e'.val = 128 + e.val) :
    k0_pay40 (k0_pay28 k0_pay3 L) (k0_pay29 L) (k0_pay31 k) (k0_pay32 v) s (ix3 z d e)
      = stepSt lg (fun j d => k (ix2 j d)) (fun j e => v (ix2 j e)) (fun d e => s (ix3 0 d e)) d e' := by
  obtain ⟨e', he'⟩ := e'
  simp only at he; subst he
  pointwise [k0_pay40, k0_pay36]
  simp only [dec29_at hL, kv38_at k v hL]; rfl

/-- The third slice of the second head's new state. -/
theorem st41_at {L : Vec Ideal S1x1x128 .f32} {lg : EReal} (hL : ∀ l, L (ix3 0 0 l) = lg) (z : Fin 1) (d : Fin 256) (e : Fin 128) (e' : Fin 512) (he : e'.val = 256 + e.val) :
    k0_pay41 (k0_pay28 k0_pay3 L) (k0_pay29 L) (k0_pay31 k) (k0_pay32 v) s (ix3 z d e)
      = stepSt lg (fun j d => k (ix2 j d)) (fun j e => v (ix2 j e)) (fun d e => s (ix3 0 d e)) d e' := by
  obtain ⟨e', he'⟩ := e'
  simp only at he; subst he
  pointwise [k0_pay41, k0_pay36]
  simp only [dec29_at hL, kv38_at k v hL]; rfl

/-- The fourth slice of the second head's new state. -/
theorem st44_at {L : Vec Ideal S1x1x128 .f32} {lg : EReal} (hL : ∀ l, L (ix3 0 0 l) = lg) (z : Fin 1) (d : Fin 256) (e : Fin 128) (e' : Fin 512) (he : e'.val = 384 + e.val) :
    k0_pay44 (k0_pay38 (k0_pay28 k0_pay3 L) (k0_pay31 k) (k0_pay32 v)) (k0_pay42 s) (k0_pay43 (k0_pay29 L)) (ix3 z d e)
      = stepSt lg (fun j d => k (ix2 j d)) (fun j e => v (ix2 j e)) (fun d e => s (ix3 0 d e)) d e' := by
  obtain ⟨e', he'⟩ := e'
  simp only at he; subst he
  pointwise [k0_pay44, k0_pay42, k0_pay43, k0_pay36]
  simp only [dec29_at hL, kv38_at k v hL]; rfl

/-- The four slices of 128 columns put together again. -/
theorem cat4_at (w : Fin 128 → EReal) (W : FVec Ideal S128x128 .f32) (hW : ∀ i l, W (ix2 i l) = w i) (a b : FVec Ideal S128x512 .f32) (i : Fin 128) (e : Fin 512) :
    concatenate S128x512 1 [⟨S128x128, addf (extractStridedSlice S128x128 ![0, 0] a slices_S128x512_o0_0_S128x128) (mulf (extractStridedSlice S128x128 ![0, 0] b slices_S128x512_o0_0_S128x128) W)⟩,
      ⟨S128x128, addf (extractStridedSlice S128x128 ![0, 128] a slices_S128x512_o0_128_S128x128) (mulf (extractStridedSlice S128x128 ![0, 128] b slices_S128x512_o0_128_S128x128) W)⟩,
      ⟨S128x128, addf (extractStridedSlice S128x128 ![0, 256] a slices_S128x512_o0_256_S128x128) (mulf (extractStridedSlice S128x128 ![0, 256] b slices_S128x512_o0_256_S128x128) W)⟩,
      ⟨S128x128, addf (extractStridedSlice S128x128 ![0, 384] a slices_S128x512_o0_384_S128x128) (mulf (extractStridedSlice S128x128 ![0, 384] b slices_S128x512_o0_384_S128x128) W)⟩] concatenates_S128x128_S128x128_S128x128_S128x128_S128x512_d1 (ix2 i e)
    = a (ix2 i e) + b (ix2 i e) * w i := by
  pointwise
  simp only [hW]
  have fx : ∀ (n : ℕ) (h : n < 512), n = e.val → a (ix2 i ⟨n, h⟩) + b (ix2 i ⟨n, h⟩) * w i = a (ix2 i e) + b (ix2 i e) * w i := fun n h hn => by subst hn; rfl
  repeat' split
  all_goals exact fx _ _ (by omega)

/-- The first head's gated rows. -/
theorem rows25_at {L : Vec Ideal S1x1x128 .f32} {lg : EReal} (hL : ∀ l, L (ix3 0 0 l) = lg) (i : Fin 8) (e : Fin 512) :
    k0_pay25 (k0_pay23 (k0_pay6 L) (k0_pay14 (k0_pay9 L) (k0_pay10 q) (k0_pay11 k) v) (k0_pay16 (k0_pay10 q) s) gain) gate (k0_pay24 gate) (ix2 i e)
      = gated (mix lg (fun i d => q (ix2 i d)) (fun j d => k (ix2 j d)) (fun j e => v (ix2 j e)) (fun d e => s (ix3 0 d e)) i) (fun e => gain (ix3 0 0 e)) (fun e => gate (ix2 i e)) e := by
  have hX : ∀ (i : Fin 8) (e : Fin 512), (k0_pay14 (k0_pay9 L) (k0_pay10 q) (k0_pay11 k) v) (ix2 (up i) e) + (k0_pay16 (k0_pay10 q) s) (ix2 (up i) e) * decQ lg (up i)
      = mix lg (fun i d => q (ix2 i d)) (fun j d => k (ix2 j d)) (fun j e => v (ix2 j e)) (fun d e => s (ix3 0 d e)) i e := by
    intro i e
    unfold mix
    rw [← sum_qkv lg (fun i d => q (ix2 i d)) (fun j d => k (ix2 j d)) (fun j e => v (ix2 j e)) i e]
    pointwise [k0_pay14, k0_pay16, k0_pay15]
    simp only [dec9_at hL, pay13_at, pay11_at, pay12_at, pad_up]
  unfold k0_pay25 k0_pay24 k0_pay23
  dsimp only
  generalize hc : concatenate S128x512 1 _ _ = X
  have hX' : ∀ (i : Fin 8) (e : Fin 512), X (ix2 (up i) e) = mix lg (fun i d => q (ix2 i d)) (fun j d => k (ix2 j d)) (fun j e => v (ix2 j e)) (fun d e => s (ix3 0 d e)) i e := fun i e => by rw [← hc]; exact (cat4_at _ _ (dec6_at hL) _ _ (up i) e).trans (hX i e)
  have hX0 : ∀ (i : Fin 8) (e : Fin 512) (h : i.val < 128), X (ix2 ⟨i.val, h⟩ e) = mix lg (fun i d => q (ix2 i d)) (fun j d => k (ix2 j d)) (fun j e => v (ix2 j e)) (fun d e => s (ix3 0 d e)) i e := fun i e _ => hX' i e
  clear hc hX hX'
  pointwise
  simp only [hX0]
  rfl

/-- The second head's gated rows. -/
theorem rows45_at {L : Vec Ideal S1x1x128 .f32} {lg : EReal} (hL : ∀ l, L (ix3 0 0 l) = lg) (i : Fin 8) (e : Fin 512) :
    k0_pay45 (k0_pay27 k0_pay3 L) (k0_pay35 (k0_pay30 k0_pay4 L) (k0_pay32 v) (k0_pay33 q) (k0_pay34 k)) (k0_pay37 (k0_pay33 q) s) gain gate (ix2 i e)
      = gated (mix lg (fun i d => q (ix2 i d)) (fun j d => k (ix2 j d)) (fun j e => v (ix2 j e)) (fun d e => s (ix3 0 d e)) i) (fun e => gain (ix3 0 0 e)) (fun e => gate (ix2 i e)) e := by
  have hX : ∀ (i : Fin 8) (e : Fin 512), (k0_pay35 (k0_pay30 k0_pay4 L) (k0_pay32 v) (k0_pay33 q) (k0_pay34 k)) (ix2 (up i) e) + (k0_pay37 (k0_pay33 q) s) (ix2 (up i) e) * decQ lg (up i)
      = mix lg (fun i d => q (ix2 i d)) (fun j d => k (ix2 j d)) (fun j e => v (ix2 j e)) (fun d e => s (ix3 0 d e)) i e := by
    intro i e
    unfold mix
    rw [← sum_qkv lg (fun i d => q (ix2 i d)) (fun j d => k (ix2 j d)) (fun j e => v (ix2 j e)) i e]
    pointwise [k0_pay35, k0_pay37, k0_pay36]
    simp only [dec30_at hL, pay33_at, pay34_at, pay32_at, pad_up]
  unfold k0_pay45
  dsimp only
  generalize hc : concatenate S128x512 1 _ _ = X
  have hX' : ∀ (i : Fin 8) (e : Fin 512), X (ix2 (up i) e) = mix lg (fun i d => q (ix2 i d)) (fun j d => k (ix2 j d)) (fun j e => v (ix2 j e)) (fun d e => s (ix3 0 d e)) i e := fun i e => by rw [← hc]; exact (cat4_at _ _ (dec27_at hL) _ _ (up i) e).trans (hX i e)
  have hX0 : ∀ (i : Fin 8) (e : Fin 512) (h : i.val < 128), X (ix2 ⟨i.val, h⟩ e) = mix lg (fun i d => q (ix2 i d)) (fun j d => k (ix2 j d)) (fun j e => v (ix2 j e)) (fun d e => s (ix3 0 d e)) i e := fun i e _ => hX' i e
  clear hc hX hX'
  pointwise
  simp only [hX0]
  rfl

end Cert.RetSIdeal.Ret
end
-- ==== Proof.RetsCases.lean ====
/-
  What one grid point of the sample's retention kernel leaves in its two output blocks, head by head.
-/
module

public import proofs.«01_k».proof.Proof.RetsBody

@[expose] public section

set_option maxRecDepth 16384

noncomputable section

namespace Cert.RetSIdeal.Ret

open Cert.RetSIdeal Cert.RetSIdeal.Gen Cert.RetsSpec Idealize.ShloMosaic Idealize.ShloMosaic.TcCoe
open Cert.RetSpec (gated decI decQ lgOf pos rd rd_val)

/-- Head `u`'s columns of a block of two heads' queries or keys. -/
def qkOf (x : Vec Ideal S8x512 .f32) (u : Fin 2) (j : Fin 8) (d : Fin 256) : EReal := x (ix2 j ⟨256 * u.val + d.val, by omega⟩)
/-- Head `u`'s columns of a block of two heads' values or gates. -/
def vgOf (x : Vec Ideal S8x1024 .f32) (u : Fin 2) (j : Fin 8) (e : Fin 512) : EReal := x (ix2 j ⟨512 * u.val + e.val, by omega⟩)

/-- Pieces that cover the buffer hide an earlier fill. -/
theorem canon_drop {S : Shape} {e : EltTy} (L' : List (View.Piece (Elt Ideal) S e)) (y : S.Idx) :
    ∀ (L : List (View.Piece (Elt Ideal) S e)) (_ : ∃ p ∈ L, y ∈ p.1.set), View.canon (L ++ L') y = View.canon L y
  | [], h => by obtain ⟨p, hp, _⟩ := h; simp at hp
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := h
      rcases List.mem_cons.mp hq with rfl | hq
      · exact absurd hy hm
      · exact canon_drop L' y L ⟨q, hq, hy⟩

/-- The two heads' log rates, loaded. -/
theorem ld_lg (x0 : Vec Ideal S2x1x128 .f32) (lg : Fin 2 → EReal) (hL : ∀ u l, x0 (ix3 u 0 l) = lg u) :
    (∀ l : Fin 128, View.ld x0 (Rect.unit ![0, 0, 0] ![1, 1, 128] inb_S2x1x128_S1x1x128_0_0_0) (ix3 0 0 l) = lg 0)
    ∧ (∀ l : Fin 128, View.ld x0 (Rect.unit ![1, 0, 0] ![1, 1, 128] inb_S2x1x128_S1x1x128_1_0_0) (ix3 0 0 l) = lg 1) := by
  constructor <;> intro l <;> rw [← hL _ l, View.ld_apply] <;> congr 1 <;> ext a <;> fin_cases a <;> simp [Rect.idx_unit_val] <;> rfl

/-- The two heads' queries or keys, loaded. -/
theorem ld_qk (x : Vec Ideal S8x512 .f32) :
    (fun (j : Fin 8) (d : Fin 256) => View.ld x (Rect.unit ![0, 0] ![8, 256] inb_S8x512_S8x256_0_0) (ix2 j d)) = qkOf x 0
    ∧ (fun (j : Fin 8) (d : Fin 256) => View.ld x (Rect.unit ![0, 256] ![8, 256] inb_S8x512_S8x256_0_256) (ix2 j d)) = qkOf x 1 := by
  constructor <;> funext j d <;> unfold qkOf <;> rw [View.ld_apply] <;> congr 1 <;> ext a <;> fin_cases a <;> simp [Rect.idx_unit_val] <;> rfl

/-- The two heads' values or gates, loaded. -/
theorem ld_vg (x : Vec Ideal S8x1024 .f32) :
    (fun (j : Fin 8) (d : Fin 512) => View.ld x (Rect.unit ![0, 0] ![8, 512] inb_S8x1024_S8x512_0_0) (ix2 j d)) = vgOf x 0
    ∧ (fun (j : Fin 8) (d : Fin 512) => View.ld x (Rect.unit ![0, 512] ![8, 512] inb_S8x1024_S8x512_0_512) (ix2 j d)) = vgOf x 1 := by
  constructor <;> funext j d <;> unfold vgOf <;> rw [View.ld_apply] <;> congr 1 <;> ext a <;> fin_cases a <;> simp [Rect.idx_unit_val] <;> rfl

/-- The two heads' states, loaded. -/
theorem ld_st (x : Vec Ideal S2x256x512 .f32) :
    (fun (j : Fin 256) (d : Fin 512) => View.ld x (Rect.unit ![0, 0, 0] ![1, 256, 512] inb_S2x256x512_S1x256x512_0_0_0) (ix3 0 j d)) = (fun d e => x (ix3 0 d e))
    ∧ (fun (j : Fin 256) (d : Fin 512) => View.ld x (Rect.unit ![1, 0, 0] ![1, 256, 512] inb_S2x256x512_S1x256x512_1_0_0) (ix3 0 j d)) = (fun d e => x (ix3 1 d e)) := by
  constructor <;> funext j d <;> rw [View.ld_apply] <;> congr 1 <;> ext a <;> fin_cases a <;> simp [Rect.idx_unit_val] <;> rfl

/-- The two heads' gains, loaded. -/
theorem ld_gain (x : Vec Ideal S2x1x512 .f32) :
    (fun (e : Fin 512) => View.ld x (Rect.unit ![0, 0, 0] ![1, 1, 512] inb_S2x1x512_S1x1x512_0_0_0) (ix3 0 0 e)) = (fun e => x (ix3 0 0 e))
    ∧ (fun (e : Fin 512) => View.ld x (Rect.unit ![1, 0, 0] ![1, 1, 512] inb_S2x1x512_S1x1x512_1_0_0) (ix3 0 0 e)) = (fun e => x (ix3 1 0 e)) := by
  constructor <;> funext d <;> rw [View.ld_apply] <;> congr 1 <;> ext a <;> fin_cases a <;> simp [Rect.idx_unit_val] <;> rfl

/-- The state block copied into the carried state. -/
theorem pay2_at (x : Vec Ideal S1x2x256x512 .f32) (u : Fin 2) (d : Fin 256) (e : Fin 512) : k0_pay2 x (ix3 u d e) = x (ix4 0 u d e) := by
  pointwise [k0_pay2]

/-- The eight stores of a point into the carried state `s`: per head four slices of 128 columns. -/
def statePieces (x0 : Vec Ideal S2x1x128 .f32) (x3 : Vec Ideal S8x512 .f32) (x4 : Vec Ideal S8x1024 .f32) (s : Vec Ideal S2x256x512 .f32) :
    List (View.Piece (Elt Ideal) S2x256x512 .f32) :=
  [⟨Rect.unit ![1, 0, 384] ![1, 256, 128] inb_S2x256x512_S1x256x128_1_0_384, k0_pay44 (k0_pay38 (k0_pay28 k0_pay3 (View.ld x0 (Rect.unit ![1, 0, 0] ![1, 1, 128] inb_S2x1x128_S1x1x128_1_0_0))) (k0_pay31 (View.ld x3 (Rect.unit ![0, 256] ![8, 256] inb_S8x512_S8x256_0_256))) (k0_pay32 (View.ld x4 (Rect.unit ![0, 512] ![8, 512] inb_S8x1024_S8x512_0_512)))) (k0_pay42 (View.ld s (Rect.unit ![1, 0, 0] ![1, 256, 512] inb_S2x256x512_S1x256x512_1_0_0))) (k0_pay43 (k0_pay29 (View.ld x0 (Rect.unit ![1, 0, 0] ![1, 1, 128] inb_S2x1x128_S1x1x128_1_0_0))))⟩,
    ⟨Rect.unit ![1, 0, 256] ![1, 256, 128] inb_S2x256x512_S1x256x128_1_0_256, k0_pay41 (k0_pay28 k0_pay3 (View.ld x0 (Rect.unit ![1, 0, 0] ![1, 1, 128] inb_S2x1x128_S1x1x128_1_0_0))) (k0_pay29 (View.ld x0 (Rect.unit ![1, 0, 0] ![1, 1, 128] inb_S2x1x128_S1x1x128_1_0_0))) (k0_pay31 (View.ld x3 (Rect.unit ![0, 256] ![8, 256] inb_S8x512_S8x256_0_256))) (k0_pay32 (View.ld x4 (Rect.unit ![0, 512] ![8, 512] inb_S8x1024_S8x512_0_512))) (View.ld s (Rect.unit ![1, 0, 0] ![1, 256, 512] inb_S2x256x512_S1x256x512_1_0_0))⟩,
    ⟨Rect.unit ![1, 0, 128] ![1, 256, 128] inb_S2x256x512_S1x256x128_1_0_128, k0_pay40 (k0_pay28 k0_pay3 (View.ld x0 (Rect.unit ![1, 0, 0] ![1, 1, 128] inb_S2x1x128_S1x1x128_1_0_0))) (k0_pay29 (View.ld x0 (Rect.unit ![1, 0, 0] ![1, 1, 128] inb_S2x1x128_S1x1x128_1_0_0))) (k0_pay31 (View.ld x3 (Rect.unit ![0, 256] ![8, 256] inb_S8x512_S8x256_0_256))) (k0_pay32 (View.ld x4 (Rect.unit ![0, 512] ![8, 512] inb_S8x1024_S8x512_0_512))) (View.ld s (Rect.unit ![1, 0, 0] ![1, 256, 512] inb_S2x256x512_S1x256x512_1_0_0))⟩,
    ⟨Rect.unit ![1, 0, 0] ![1, 256, 128] inb_S2x256x512_S1x256x128_1_0_0, k0_pay39 (k0_pay28 k0_pay3 (View.ld x0 (Rect.unit ![1, 0, 0] ![1, 1, 128] inb_S2x1x128_S1x1x128_1_0_0))) (k0_pay29 (View.ld x0 (Rect.unit ![1, 0, 0] ![1, 1, 128] inb_S2x1x128_S1x1x128_1_0_0))) (k0_pay31 (View.ld x3 (Rect.unit ![0, 256] ![8, 256] inb_S8x512_S8x256_0_256))) (k0_pay32 (View.ld x4 (Rect.unit ![0, 512] ![8, 512] inb_S8x1024_S8x512_0_512))) (View.ld s (Rect.unit ![1, 0, 0] ![1, 256, 512] inb_S2x256x512_S1x256x512_1_0_0))⟩,
    ⟨Rect.unit ![0, 0, 384] ![1, 256, 128] inb_S2x256x512_S1x256x128_0_0_384, k0_pay22 (k0_pay8 (View.ld x0 (Rect.unit ![0, 0, 0] ![1, 1, 128] inb_S2x1x128_S1x1x128_0_0_0))) (k0_pay15 (View.ld s (Rect.unit ![0, 0, 0] ![1, 256, 512] inb_S2x256x512_S1x256x512_0_0_0))) (k0_pay17 (k0_pay7 (View.ld x0 (Rect.unit ![0, 0, 0] ![1, 1, 128] inb_S2x1x128_S1x1x128_0_0_0))) (k0_pay11 (View.ld x3 (Rect.unit ![0, 0] ![8, 256] inb_S8x512_S8x256_0_0))) (View.ld x4 (Rect.unit ![0, 0] ![8, 512] inb_S8x1024_S8x512_0_0)))⟩,
    ⟨Rect.unit ![0, 0, 256] ![1, 256, 128] inb_S2x256x512_S1x256x128_0_0_256, k0_pay21 (k0_pay20 (k0_pay7 (View.ld x0 (Rect.unit ![0, 0, 0] ![1, 1, 128] inb_S2x1x128_S1x1x128_0_0_0))) (k0_pay8 (View.ld x0 (Rect.unit ![0, 0, 0] ![1, 1, 128] inb_S2x1x128_S1x1x128_0_0_0))) (k0_pay11 (View.ld x3 (Rect.unit ![0, 0] ![8, 256] inb_S8x512_S8x256_0_0))) (View.ld x4 (Rect.unit ![0, 0] ![8, 512] inb_S8x1024_S8x512_0_0)) (View.ld s (Rect.unit ![0, 0, 0] ![1, 256, 512] inb_S2x256x512_S1x256x512_0_0_0)))⟩,
    ⟨Rect.unit ![0, 0, 128] ![1, 256, 128] inb_S2x256x512_S1x256x128_0_0_128, k0_pay19 (k0_pay7 (View.ld x0 (Rect.unit ![0, 0, 0] ![1, 1, 128] inb_S2x1x128_S1x1x128_0_0_0))) (k0_pay8 (View.ld x0 (Rect.unit ![0, 0, 0] ![1, 1, 128] inb_S2x1x128_S1x1x128_0_0_0))) (k0_pay11 (View.ld x3 (Rect.unit ![0, 0] ![8, 256] inb_S8x512_S8x256_0_0))) (View.ld x4 (Rect.unit ![0, 0] ![8, 512] inb_S8x1024_S8x512_0_0)) (View.ld s (Rect.unit ![0, 0, 0] ![1, 256, 512] inb_S2x256x512_S1x256x512_0_0_0))⟩,
    ⟨Rect.unit ![0, 0, 0] ![1, 256, 128] inb_S2x256x512_S1x256x128_0_0_0, k0_pay18 (k0_pay7 (View.ld x0 (Rect.unit ![0, 0, 0] ![1, 1, 128] inb_S2x1x128_S1x1x128_0_0_0))) (k0_pay8 (View.ld x0 (Rect.unit ![0, 0, 0] ![1, 1, 128] inb_S2x1x128_S1x1x128_0_0_0))) (k0_pay11 (View.ld x3 (Rect.unit ![0, 0] ![8, 256] inb_S8x512_S8x256_0_0))) (View.ld x4 (Rect.unit ![0, 0] ![8, 512] inb_S8x1024_S8x512_0_0)) (View.ld s (Rect.unit ![0, 0, 0] ![1, 256, 512] inb_S2x256x512_S1x256x512_0_0_0))⟩]

/-- Read back, they are the recurrence's step, head by head. -/
theorem canon_statePieces (x0 : Vec Ideal S2x1x128 .f32) (x3 : Vec Ideal S8x512 .f32) (x4 : Vec Ideal S8x1024 .f32) (s : Vec Ideal S2x256x512 .f32)
    (lg : Fin 2 → EReal) (hL : ∀ u l, x0 (ix3 u 0 l) = lg u) (u : Fin 2) (d : Fin 256) (e : Fin 512) :
    View.canon (statePieces x0 x3 x4 s) (ix3 u d e) = stepSt (lg u) (qkOf x3 u) (vgOf x4 u) (fun d e => s (ix3 u d e)) d e := by
  have g := ld_lg x0 lg hL
  have k := ld_qk x3
  have v := ld_vg x4
  have w := ld_st s
  unfold statePieces
  canon_tiles y h
  all_goals idx_vars y
  all_goals obtain rfl : d = y1 := Fin.ext h1
  · obtain rfl : u = 1 := Fin.ext (by show (u : ℕ) = 1; omega)
    exact (st44_at _ _ _ g.2 y0 d y2 e h2).trans (by rw [k.2, v.2, w.2])
  · obtain rfl : u = 1 := Fin.ext (by show (u : ℕ) = 1; omega)
    exact (st41_at _ _ _ g.2 y0 d y2 e h2).trans (by rw [k.2, v.2, w.2])
  · obtain rfl : u = 1 := Fin.ext (by show (u : ℕ) = 1; omega)
    exact (st40_at _ _ _ g.2 y0 d y2 e h2).trans (by rw [k.2, v.2, w.2])
  · obtain rfl : u = 1 := Fin.ext (by show (u : ℕ) = 1; omega)
    exact (st39_at _ _ _ g.2 y0 d y2 e h2).trans (by rw [k.2, v.2, w.2])
  · obtain rfl : u = 0 := Fin.ext (by show (u : ℕ) = 0; omega)
    exact (st22_at _ _ _ g.1 y0 d y2 e h2).trans (by rw [k.1, v.1, w.1])
  · obtain rfl : u = 0 := Fin.ext (by show (u : ℕ) = 0; omega)
    exact (st21_at _ _ _ g.1 y0 d y2 e h2).trans (by rw [k.1, v.1, w.1])
  · obtain rfl : u = 0 := Fin.ext (by show (u : ℕ) = 0; omega)
    exact (st19_at _ _ _ g.1 y0 d y2 e h2).trans (by rw [k.1, v.1, w.1])
  · obtain rfl : u = 0 := Fin.ext (by show (u : ℕ) = 0; omega)
    exact (st18_at _ _ _ g.1 y0 d y2 e h2).trans (by rw [k.1, v.1, w.1])

/-- The two stores of a point into its block of gated rows, one per head. -/
def rowPieces (x0 : Vec Ideal S2x1x128 .f32) (x1 : Vec Ideal S2x1x512 .f32) (x2 x3 : Vec Ideal S8x512 .f32) (x4 x5 : Vec Ideal S8x1024 .f32) (s : Vec Ideal S2x256x512 .f32) :
    List (View.Piece (Elt Ideal) S8x1024 .f32) :=
  [⟨Rect.unit ![0, 512] ![8, 512] inb_S8x1024_S8x512_0_512, k0_pay45 (k0_pay27 k0_pay3 (View.ld x0 (Rect.unit ![1, 0, 0] ![1, 1, 128] inb_S2x1x128_S1x1x128_1_0_0))) (k0_pay35 (k0_pay30 k0_pay4 (View.ld x0 (Rect.unit ![1, 0, 0] ![1, 1, 128] inb_S2x1x128_S1x1x128_1_0_0))) (k0_pay32 (View.ld x4 (Rect.unit ![0, 512] ![8, 512] inb_S8x1024_S8x512_0_512))) (k0_pay33 (View.ld x2 (Rect.unit ![0, 256] ![8, 256] inb_S8x512_S8x256_0_256))) (k0_pay34 (View.ld x3 (Rect.unit ![0, 256] ![8, 256] inb_S8x512_S8x256_0_256)))) (k0_pay37 (k0_pay33 (View.ld x2 (Rect.unit ![0, 256] ![8, 256] inb_S8x512_S8x256_0_256))) (View.ld s (Rect.unit ![1, 0, 0] ![1, 256, 512] inb_S2x256x512_S1x256x512_1_0_0))) (View.ld x1 (Rect.unit ![1, 0, 0] ![1, 1, 512] inb_S2x1x512_S1x1x512_1_0_0)) (View.ld x5 (Rect.unit ![0, 512] ![8, 512] inb_S8x1024_S8x512_0_512))⟩,
    ⟨Rect.unit ![0, 0] ![8, 512] inb_S8x1024_S8x512_0_0, k0_pay25 (k0_pay23 (k0_pay6 (View.ld x0 (Rect.unit ![0, 0, 0] ![1, 1, 128] inb_S2x1x128_S1x1x128_0_0_0))) (k0_pay14 (k0_pay9 (View.ld x0 (Rect.unit ![0, 0, 0] ![1, 1, 128] inb_S2x1x128_S1x1x128_0_0_0))) (k0_pay10 (View.ld x2 (Rect.unit ![0, 0] ![8, 256] inb_S8x512_S8x256_0_0))) (k0_pay11 (View.ld x3 (Rect.unit ![0, 0] ![8, 256] inb_S8x512_S8x256_0_0))) (View.ld x4 (Rect.unit ![0, 0] ![8, 512] inb_S8x1024_S8x512_0_0))) (k0_pay16 (k0_pay10 (View.ld x2 (Rect.unit ![0, 0] ![8, 256] inb_S8x512_S8x256_0_0))) (View.ld s (Rect.unit ![0, 0, 0] ![1, 256, 512] inb_S2x256x512_S1x256x512_0_0_0))) (View.ld x1 (Rect.unit ![0, 0, 0] ![1, 1, 512] inb_S2x1x512_S1x1x512_0_0_0))) (View.ld x5 (Rect.unit ![0, 0] ![8, 512] inb_S8x1024_S8x512_0_0)) (k0_pay24 (View.ld x5 (Rect.unit ![0, 0] ![8, 512] inb_S8x1024_S8x512_0_0)))⟩]

/-- Read back, they are each head's mixed, normed and gated rows. -/
theorem canon_rowPieces (x0 : Vec Ideal S2x1x128 .f32) (x1 : Vec Ideal S2x1x512 .f32) (x2 x3 : Vec Ideal S8x512 .f32) (x4 x5 : Vec Ideal S8x1024 .f32) (s : Vec Ideal S2x256x512 .f32)
    (lg : Fin 2 → EReal) (hL : ∀ u l, x0 (ix3 u 0 l) = lg u) (j : Fin 8) (u : Fin 2) (e : Fin 512) :
    View.canon (rowPieces x0 x1 x2 x3 x4 x5 s) (ix2 j ⟨512 * u.val + e.val, by omega⟩)
      = gated (mix (lg u) (qkOf x2 u) (qkOf x3 u) (vgOf x4 u) (fun d e => s (ix3 u d e)) j) (fun e => x1 (ix3 u 0 e)) (vgOf x5 u j) e := by
  have g := ld_lg x0 lg hL
  have q := ld_qk x2
  have k := ld_qk x3
  have v := ld_vg x4
  have w := ld_st s
  have n := ld_gain x1
  have z := ld_vg x5
  unfold rowPieces
  canon_tiles y h
  all_goals idx_vars y
  all_goals obtain rfl : j = y0 := Fin.ext h0
  · obtain rfl : u = 1 := Fin.ext (by show (u : ℕ) = 1; omega)
    obtain rfl : e = y1 := Fin.ext (by have : ((1 : Fin 2) : ℕ) = 1 := rfl; omega)
    exact (rows45_at _ _ _ _ _ _ g.2 j e).trans (by rw [q.2, k.2, v.2, w.2, n.2]; exact congrArg (fun f : Fin 512 → EReal => gated _ _ f e) (congrFun z.2 j))
  · obtain rfl : u = 0 := Fin.ext (by show (u : ℕ) = 0; omega)
    obtain rfl : e = y1 := Fin.ext (by have : ((0 : Fin 2) : ℕ) = 0 := rfl; omega)
    exact (rows25_at _ _ _ _ _ _ g.1 j e).trans (by rw [q.1, k.1, v.1, w.1, n.1]; exact congrArg (fun f : Fin 512 → EReal => gated _ _ f e) (congrFun z.1 j))

/-- What a point leaves in the block of gated rows, head by head. -/
theorem out7_at (c : Dev nD) (i : grid0.Coords) (arg3 : Memref sig .tc .vmem S2x1x128 .f32) (harg3 : arg3.IsWhole) (arg4 : Memref sig .tc .vmem S2x1x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S1x2x256x512 .f32) (harg9 : arg9.IsWhole) (arg10 : Memref sig .tc .vmem S8x1024 .f32) (harg10 : arg10.IsWhole) (arg11 : Memref sig .tc .vmem S1x2x256x512 .f32) (harg11 : arg11.IsWhole) (arg12 : Memref sig .tc .vmem S2x256x512 .f32) (harg12 : arg12.IsWhole) (hc0 : cond0_0 i) (hc1 : cond0_1 i)
    (x0 : Vec Ideal S2x1x128 .f32) (x1 : Vec Ideal S2x1x512 .f32) (x2 : Vec Ideal S8x512 .f32) (x3 : Vec Ideal S8x512 .f32) (x4 : Vec Ideal S8x1024 .f32) (x5 : Vec Ideal S8x1024 .f32) (x6 : Vec Ideal S1x2x256x512 .f32) (lg : Fin 2 → EReal) (hL : ∀ u l, x0 (ix3 u 0 l) = lg u) (j : Fin 8) (u : Fin 2) (e : Fin 512) :
    out0_A_7 c i arg3 harg3 arg4 harg4 arg5 harg5 arg6 harg6 arg7 harg7 arg8 harg8 arg9 harg9 arg10 harg10 arg11 harg11 arg12 harg12 hc0 hc1 x0 x1 x2 x3 x4 x5 x6 (ix2 j ⟨512 * u.val + e.val, by omega⟩)
      = gated (mix (lg u) (qkOf x2 u) (qkOf x3 u) (vgOf x4 u) (fun d e => x6 (ix4 0 u d e)) j) (fun e => x1 (ix3 u 0 e)) (vgOf x5 u j) e := by
  frame_open
  try simp (disch := decide) only [↓ View.readCov_skip, ↓ View.readCov_cons_toLoadRect, ↓ View.readCov_fill]
  frame_out
  try simp only [read_unread_whole]
  exact (canon_rowPieces x0 x1 x2 x3 x4 x5 (k0_pay2 x6) lg hL j u e).trans (by simp only [pay2_at])

/-- What a point leaves in the block of the states, head by head. -/
theorem out8_at (c : Dev nD) (i : grid0.Coords) (arg3 : Memref sig .tc .vmem S2x1x128 .f32) (harg3 : arg3.IsWhole) (arg4 : Memref sig .tc .vmem S2x1x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S1x2x256x512 .f32) (harg9 : arg9.IsWhole) (arg10 : Memref sig .tc .vmem S8x1024 .f32) (harg10 : arg10.IsWhole) (arg11 : Memref sig .tc .vmem S1x2x256x512 .f32) (harg11 : arg11.IsWhole) (arg12 : Memref sig .tc .vmem S2x256x512 .f32) (harg12 : arg12.IsWhole) (hc0 : cond0_0 i) (hc1 : cond0_1 i)
    (x0 : Vec Ideal S2x1x128 .f32) (x1 : Vec Ideal S2x1x512 .f32) (x2 : Vec Ideal S8x512 .f32) (x3 : Vec Ideal S8x512 .f32) (x4 : Vec Ideal S8x1024 .f32) (x5 : Vec Ideal S8x1024 .f32) (x6 : Vec Ideal S1x2x256x512 .f32) (lg : Fin 2 → EReal) (hL : ∀ u l, x0 (ix3 u 0 l) = lg u) (z : Fin 1) (u : Fin 2) (d : Fin 256) (e : Fin 512) :
    out0_A_8 c i arg3 harg3 arg4 harg4 arg5 harg5 arg6 harg6 arg7 harg7 arg8 harg8 arg9 harg9 arg10 harg10 arg11 harg11 arg12 harg12 hc0 hc1 x0 x1 x2 x3 x4 x5 x6 (ix4 z u d e)
      = stepSt (lg u) (qkOf x3 u) (vgOf x4 u) (fun d e => x6 (ix4 0 u d e)) d e := by
  frame_open
  try simp (disch := decide) only [↓ View.readCov_skip, ↓ View.readCov_cons_toLoadRect, ↓ View.readCov_fill]
  frame_out
  try simp only [read_unread_whole]
  rw [View.readCov_eq_canon']
  have hc : View.canon (statePieces x0 x3 x4 (k0_pay2 x6) ++ [⟨Rect.unit ![0, 0, 0] ![2, 256, 512] inb_S2x256x512_S2x256x512_0_0_0, k0_pay2 x6⟩]) (ix3 u d e) = stepSt (lg u) (qkOf x3 u) (vgOf x4 u) (fun d e => x6 (ix4 0 u d e)) d e := (canon_drop _ (ix3 u d e) (statePieces x0 x3 x4 (k0_pay2 x6)) (View.cover_of_tiled (statePieces x0 x3 x4 (k0_pay2 x6)) S1x256x128.size (by rfl) _)).trans ((canon_statePieces x0 x3 x4 (k0_pay2 x6) lg hL u d e).trans (by simp only [pay2_at]))
  refine Eq.trans ?_ hc
  pointwise [k0_pay1]
  rfl

end Cert.RetSIdeal.Ret
end
-- ==== Proof.RetsBlocks.lean ====
/-
  The sample's retention kernel: its input blocks at every grid point, as rows of the argument matrices, and its two
  result arrays.
-/
module

public import proofs.«01_k».proof.Proof.RetsCases

@[expose] public section

set_option maxRecDepth 16384

noncomputable section

namespace Cert.RetSIdeal.Ret

open Cert.RetSIdeal Cert.RetSIdeal.Gen Cert.RetsSpec Idealize.ShloMosaic Idealize.ShloMosaic.TcCoe
open Cert.RetSpec (gated decI decQ lgOf pos rd rd_val)
open Idealize.ShloMosaic.Pipeline (Dat)

variable (m : (ℓ : Loc nD τ sig) → Buf (Elt Ideal) ℓ)

/-- The query and key projections, by row and column. -/
abbrev Xm (c : Dev nD) : Fin 17408 → Fin 4096 → EReal := fun i j => (m ((c : Thread nD τ).loc main_arg0) : FVec Ideal S17408x4096 .f32) (ix2 i j)
/-- The value and gate projections. -/
abbrev Ym (c : Dev nD) : Fin 17408 → Fin 8192 → EReal := fun i j => (m ((c : Thread nD τ).loc main_arg1) : FVec Ideal S17408x8192 .f32) (ix2 i j)
/-- The states before the sample's rows. -/
abbrev Sm (c : Dev nD) : Fin 128 → Fin 8 → Fin 256 → Fin 512 → EReal := fun b h d e => (m ((c : Thread nD τ).loc main_arg2) : FVec Ideal S1x128x8x256x512 .f32) (ix5 0 b h d e)
/-- The norm's gain. -/
abbrev gm (c : Dev nD) : Fin 4096 → EReal := fun j => (m ((c : Thread nD τ).loc main_arg3) : FVec Ideal S1x4096 .f32) (ix2 0 j)

/-- Every window's block at every grid point. -/
theorem idx : ∀ t : Fin cfg0.N, win0_0.index t = ![t.val % 4, 0, 0] ∧ win0_1.index t = ![t.val % 4, 0, 0]
    ∧ win0_2.index t = ![2048 + t.val / 4, t.val % 4]
    ∧ win0_3.index t = ![2048 + t.val / 4, 4 + t.val % 4]
    ∧ win0_4.index t = ![2048 + t.val / 4, t.val % 4]
    ∧ win0_5.index t = ![2048 + t.val / 4, 4 + t.val % 4]
    ∧ win0_6.index t = ![t.val / 4, t.val % 4, 0, 0]
    ∧ win0_7.index t = ![t.val / 4, t.val % 4]
    ∧ win0_8.index t = ![t.val / 4, t.val % 4, 0, 0] :=
  (by decide +kernel : ∀ t : Fin grid0.N, _)

/-- The head that slot `u` of point `t` works on. -/
def hd (t : Fin cfg0.N) (u : Fin 2) : Fin 8 := ⟨2 * (t.val % 4) + u.val, by omega⟩

/-- The grid has 512 points. -/
theorem lt512 (t : Fin cfg0.N) : t.val < 512 := lt_of_lt_of_eq t.isLt N_0

/-- The sample that point `t` works on. -/
def sb (t : Fin cfg0.N) : Fin 128 := ⟨t.val / 4, by have := lt512 t; omega⟩

/-- The block of log rates. -/
theorem iblk0_at (c : Dev nD) (t : Fin cfg0.N) (u : Fin 2) (l : Fin 128) :
    (iblk m c 0 t : Vec Ideal S2x1x128 .f32) (ix3 u 0 l) = lgOf (hd t u) := by
  blk_simp [iblk]
  entry_read
  pointwise
  unfold lgOf hd
  blk_simp [idx t]
  rw [mul_comm (t.val % 4)]

/-- The block of gains. -/
theorem iblk1_at (c : Dev nD) (t : Fin cfg0.N) (u : Fin 2) (e : Fin 512) :
    (iblk m c 1 t : Vec Ideal S2x1x512 .f32) (ix3 u 0 e) = gm m c ⟨(hd t u).val * 512 + e.val, by omega⟩ := by
  blk_simp [iblk]
  entry_read
  pointwise
  unfold hd
  blk_ext [idx t]

/-- The block of states. -/
theorem iblk6_at (c : Dev nD) (t : Fin cfg0.N) (u : Fin 2) (d : Fin 256) (e : Fin 512) :
    (iblk m c 6 t : Vec Ideal S1x2x256x512 .f32) (ix4 0 u d e) = Sm m c (sb t) (hd t u) d e := by
  blk_simp [iblk]
  entry_read
  pointwise
  unfold hd sb
  blk_ext [idx t]

/-- The block of queries. -/
theorem iblk2_at (c : Dev nD) (t : Fin cfg0.N) (u : Fin 2) :
    qkOf (iblk m c 2 t : Vec Ideal S8x512 .f32) u = qkS (Xm m c) 0 (sb t) (hd t u).val := by
  funext j d
  unfold qkOf qkS hd sb
  have := lt512 t
  refine Eq.trans ?_ (rd_val (Xm m c) ⟨16384 + t.val / 4 * 8 + j.val, by omega⟩ ⟨0 + (2 * (t.val % 4) + u.val) * 256 + d.val, by omega⟩ rfl rfl)
  blk_ext [iblk, V, idx t]

/-- The block of keys. -/
theorem iblk3_at (c : Dev nD) (t : Fin cfg0.N) (u : Fin 2) :
    qkOf (iblk m c 3 t : Vec Ideal S8x512 .f32) u = qkS (Xm m c) 2048 (sb t) (hd t u).val := by
  funext j d
  unfold qkOf qkS hd sb
  have := lt512 t
  refine Eq.trans ?_ (rd_val (Xm m c) ⟨16384 + t.val / 4 * 8 + j.val, by omega⟩ ⟨2048 + (2 * (t.val % 4) + u.val) * 256 + d.val, by omega⟩ rfl rfl)
  blk_ext [iblk, V, idx t]

/-- The block of values. -/
theorem iblk4_at (c : Dev nD) (t : Fin cfg0.N) (u : Fin 2) :
    vgOf (iblk m c 4 t : Vec Ideal S8x1024 .f32) u = vgS (Ym m c) 0 (sb t) (hd t u).val := by
  funext j d
  unfold vgOf vgS hd sb
  have := lt512 t
  refine Eq.trans ?_ (rd_val (Ym m c) ⟨16384 + t.val / 4 * 8 + j.val, by omega⟩ ⟨0 + (2 * (t.val % 4) + u.val) * 512 + d.val, by omega⟩ rfl rfl)
  blk_ext [iblk, V, idx t]

/-- The block of gates. -/
theorem iblk5_at (c : Dev nD) (t : Fin cfg0.N) (u : Fin 2) :
    vgOf (iblk m c 5 t : Vec Ideal S8x1024 .f32) u = vgS (Ym m c) 4096 (sb t) (hd t u).val := by
  funext j d
  unfold vgOf vgS hd sb
  have := lt512 t
  refine Eq.trans ?_ (rd_val (Ym m c) ⟨16384 + t.val / 4 * 8 + j.val, by omega⟩ ⟨4096 + (2 * (t.val % 4) + u.val) * 512 + d.val, by omega⟩ rfl rfl)
  blk_ext [iblk, V, idx t]

/-- What every point leaves in its block of gated rows. -/
theorem rows_at (c : Dev nD) (t : Fin cfg0.N) (j : Fin 8) (u : Fin 2) (e : Fin 512) :
    ((outsAt0 m c t).1 : Vec Ideal S8x1024 .f32) (ix2 j ⟨512 * u.val + e.val, by omega⟩)
      = outRow (Xm m c) (Ym m c) (Sm m c) (gm m c) (sb t) (hd t u) j e := by
  have h3 := iblk0_at m c t
  have hB := out7_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (hcond0_0 t) (hcond0_1 t) (iblk m c 0 t) (iblk m c 1 t) (iblk m c 2 t) (iblk m c 3 t) (iblk m c 4 t) (iblk m c 5 t) (iblk m c 6 t) (fun u => lgOf (hd t u)) h3 j u e
  rw [iblk2_at, iblk3_at, iblk4_at, iblk5_at] at hB
  simp only [iblk1_at, iblk6_at] at hB
  unfold outsAt0
  dsimp only
  exact hB

/-- What every point leaves in its block of states. -/
theorem state_at (c : Dev nD) (t : Fin cfg0.N) (z : Fin 1) (u : Fin 2) (d : Fin 256) (e : Fin 512) :
    ((outsAt0 m c t).2 : Vec Ideal S1x2x256x512 .f32) (ix4 z u d e) = G8 (Xm m c) (Ym m c) (Sm m c) (sb t) (hd t u) d e := by
  have h3 := iblk0_at m c t
  have hB := out8_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (hcond0_0 t) (hcond0_1 t) (iblk m c 0 t) (iblk m c 1 t) (iblk m c 2 t) (iblk m c 3 t) (iblk m c 4 t) (iblk m c 5 t) (iblk m c 6 t) (fun u => lgOf (hd t u)) h3 z u d e
  rw [iblk3_at, iblk4_at] at hB
  simp only [iblk6_at] at hB
  unfold outsAt0
  dsimp only
  exact hB

/-- The first result after the run. -/
theorem final7 (c : Dev nD) : ((dats m 0 c).arrAt 7 cfg0.N : FVec Ideal S1024x4096 .f32)
    = fun i => G7 (Xm m c) (Ym m c) (Sm m c) (gm m c) (i 0) (i 1) := by
  refine (dats m 0 c).arrAt_eq_of_covers 7 _ (by decide +kernel) fun t hf y => ?_
  have h512 := lt512 t
  blk_simp
  rw [after0_7]
  idx_vars y
  have ey : (y1 : ℕ) = 512 * (y1.val / 512) + y1.val % 512 := by omega
  refine Eq.trans (congrArg (fun z => ((outsAt0 m c t).1 : Vec Ideal S8x1024 .f32) (ix2 y0 z)) (Fin.ext ey : y1 = ⟨512 * (⟨y1.val / 512, by omega⟩ : Fin 2).val + (⟨y1.val % 512, by omega⟩ : Fin 512).val, by show 512 * (y1.val / 512) + y1.val % 512 < 1024; omega⟩)) ?_
  refine (rows_at m c t y0 ⟨y1.val / 512, by omega⟩ ⟨y1.val % 512, by omega⟩).trans ?_
  unfold G7
  have r0 : ((((View.whole main_v13_0).slice (win0_7.rect t)).emb (ix2 y0 y1) 0 : Fin 1024) : ℕ) = t.val / 4 * 8 + y0.val := by blk_simp [idx t]
  have r1 : ((((View.whole main_v13_0).slice (win0_7.rect t)).emb (ix2 y0 y1) 1 : Fin 4096) : ℕ) = (t.val % 4) * 1024 + y1.val := by blk_simp [idx t]
  simp only [r0, r1]
  have a1 : (t.val / 4 * 8 + y0.val) / 8 = t.val / 4 := by omega
  have a3 : (t.val / 4 * 8 + y0.val) % 8 = y0.val := by omega
  have a4 : ((t.val % 4) * 1024 + y1.val) / 512 = 2 * (t.val % 4) + y1.val / 512 := by omega
  have a5 : ((t.val % 4) * 1024 + y1.val) % 512 = y1.val % 512 := by omega
  simp only [a1, a3, a4, a5]
  rfl

/-- The states after the run. -/
theorem final8 (c : Dev nD) : ((dats m 0 c).arrAt 8 cfg0.N : FVec Ideal S128x8x256x512 .f32)
    = fun i => G8 (Xm m c) (Ym m c) (Sm m c) (i 0) (i 1) (i 2) (i 3) := by
  refine (dats m 0 c).arrAt_eq_of_covers 8 _ (by decide +kernel) fun t hf y => ?_
  have h512 := lt512 t
  blk_simp
  rw [after0_8]
  idx_vars y
  refine (state_at m c t y0 y1 y2 y3).trans ?_
  have r0 : ((((View.whole main_v13_1).slice (win0_8.rect t)).emb (ix4 y0 y1 y2 y3) 0 : Fin 128) : ℕ) = t.val / 4 := by blk_simp [idx t]
  have r1 : ((((View.whole main_v13_1).slice (win0_8.rect t)).emb (ix4 y0 y1 y2 y3) 1 : Fin 8) : ℕ) = (t.val % 4) * 2 + y1.val := by blk_simp [idx t]
  have r2 : ((((View.whole main_v13_1).slice (win0_8.rect t)).emb (ix4 y0 y1 y2 y3) 2 : Fin 256) : ℕ) = y2.val := by blk_simp [idx t]
  have r3 : ((((View.whole main_v13_1).slice (win0_8.rect t)).emb (ix4 y0 y1 y2 y3) 3 : Fin 512) : ℕ) = y3.val := by blk_simp [idx t]
  have e0 : sb t = (((View.whole main_v13_1).slice (win0_8.rect t)).emb (ix4 y0 y1 y2 y3) 0 : Fin 128) := Fin.ext (by rw [r0]; rfl)
  have e1 : hd t y1 = (((View.whole main_v13_1).slice (win0_8.rect t)).emb (ix4 y0 y1 y2 y3) 1 : Fin 8) := Fin.ext (by rw [r1]; unfold hd; simp only; omega)
  exact congr (congr (congr (congrArg (G8 (Xm m c) (Ym m c) (Sm m c)) e0) e1) (Fin.ext r2.symm)) (Fin.ext r3.symm)

end Cert.RetSIdeal.Ret
end
-- ==== Proof.RetsRef.lean ====
/-
  The reference of the sample's retention: its two result arrays are those of RetsSpec.lean.
-/
module

public import proofs.«01_k».proof.Proof.Gen.RetSRefIdeal.Run
public import proofs.«01_k».proof.Proof.RetsSpec
public import Idealize.ShloMosaic.Lib.Pointwise
public import Idealize.ShloMosaic.Lib.StableHlo.ReadAt

@[expose] public section

set_option maxRecDepth 16384

noncomputable section

namespace Cert.RetSRefIdeal.Ret

open Cert.RetSRefIdeal Cert.RetSRefIdeal.Gen Cert.RetSRefIdeal.Value Cert.RetsSpec Idealize.ShloMosaic Idealize.ShloMosaic.TcCoe Idealize.ShloMosaic.StableHlo Idealize.SL.Sem
open Cert.RetSpec (gated decI decQ lgOf pos rd rd_val)

variable (m : (ℓ : Loc nD τ sig) → Buf (Elt Ideal) ℓ)

/-- The query and key projections, by row and column. -/
abbrev Xm (c : Dev nD) : Fin 17408 → Fin 4096 → EReal := fun i j => (m ((c.tc : Thread nD τ).loc main_arg0) : FVec Ideal S17408x4096 .f32) (ix2 i j)
/-- The value and gate projections. -/
abbrev Ym (c : Dev nD) : Fin 17408 → Fin 8192 → EReal := fun i j => (m ((c.tc : Thread nD τ).loc main_arg1) : FVec Ideal S17408x8192 .f32) (ix2 i j)
/-- The states before the sample's rows. -/
abbrev Sm (c : Dev nD) : Fin 128 → Fin 8 → Fin 256 → Fin 512 → EReal := fun b h d e => (m ((c.tc : Thread nD τ).loc main_arg2) : FVec Ideal S1x128x8x256x512 .f32) (ix5 0 b h d e)
/-- The norm's gain. -/
abbrev gm (c : Dev nD) : Fin 4096 → EReal := fun j => (m ((c.tc : Thread nD τ).loc main_arg3) : FVec Ideal S1x4096 .f32) (ix2 0 j)

/-- The heads' log rates. -/
def lgT : FVec Ideal S8 .f32 := Host.log1p (Host.negf (Host.exp (mulf (broadcastInDim S8 ![] bcast_S_S8 (constant S_ .f32 0x3F317218#32)) (subf (broadcastInDim S8 ![] bcast_S_S8 (constant S_ .f32 0xC0A00000#32)) (sitofp .f32 (iotaInDim S8 32 0))))))

/-- The decays between the eight rows. -/
def dIT (l : FVec Ideal S8 .f32) : FVec Ideal S8x8x8 .f32 := select (broadcastInDim S8x8x8 ![0, 1, 2] bcast_S1x8x8_S8x8x8_0_1_2 (cmpf .oge (broadcastInDim S1x8x8 ![1, 2] bcast_S8x8_S1x8x8_1_2 (subf (broadcastInDim S8x8 ![0, 1] bcast_S8x1_S8x8_0_1 (broadcastInDim S8x1 ![0] bcast_S8_S8x1_0 (sitofp .f32 (iotaInDim S8 32 0)))) (broadcastInDim S8x8 ![0, 1] bcast_S1x8_S8x8_0_1 (broadcastInDim S1x8 ![1] bcast_S8_S1x8_1 (sitofp .f32 (iotaInDim S8 32 0))))) : FVec Ideal S1x8x8 .f32) (broadcastInDim S1x8x8 ![] bcast_S_S1x8x8 (constant S_ .f32 0x00000000#32)))) (Host.exp (mulf (broadcastInDim S8x8x8 ![0, 1, 2] bcast_S1x8x8_S8x8x8_0_1_2 (broadcastInDim S1x8x8 ![1, 2] bcast_S8x8_S1x8x8_1_2 (maximumf (subf (broadcastInDim S8x8 ![0, 1] bcast_S8x1_S8x8_0_1 (broadcastInDim S8x1 ![0] bcast_S8_S8x1_0 (sitofp .f32 (iotaInDim S8 32 0)))) (broadcastInDim S8x8 ![0, 1] bcast_S1x8_S8x8_0_1 (broadcastInDim S1x8 ![1] bcast_S8_S1x8_1 (sitofp .f32 (iotaInDim S8 32 0))))) (broadcastInDim S8x8 ![] bcast_S_S8x8 (constant S_ .f32 0x00000000#32))))) (broadcastInDim S8x8x8 ![0, 1, 2] bcast_S8x1x1_S8x8x8_0_1_2 (broadcastInDim S8x1x1 ![0] bcast_S8_S8x1x1_0 l)))) (broadcastInDim S8x8x8 ![] bcast_S_S8x8x8 (id (constant S_ .f32 0x00000000#32)))

/-- The decays from the state before the rows to each row. -/
def dQT (l : FVec Ideal S8 .f32) : FVec Ideal S8x8 .f32 := Host.exp (mulf (broadcastInDim S8x8 ![0, 1] bcast_S8x1_S8x8_0_1 (broadcastInDim S8x1 ![0] bcast_S8_S8x1_0 (addf (sitofp .f32 (iotaInDim S8 32 0)) (broadcastInDim S8 ![] bcast_S_S8 (constant S_ .f32 0x3F800000#32))))) (broadcastInDim S8x8 ![0, 1] bcast_S1x8_S8x8_0_1 (broadcastInDim S1x8 ![1] bcast_S8_S1x8_1 l)))

/-- The decays from each row to the end of the rows. -/
def dKT (l : FVec Ideal S8 .f32) : FVec Ideal S8x8 .f32 := Host.exp (mulf (broadcastInDim S8x8 ![0, 1] bcast_S8x1_S8x8_0_1 (broadcastInDim S8x1 ![0] bcast_S8_S8x1_0 (subf (broadcastInDim S8 ![] bcast_S_S8 (constant S_ .f32 0x40E00000#32)) (sitofp .f32 (iotaInDim S8 32 0))))) (broadcastInDim S8x8 ![0, 1] bcast_S1x8_S8x8_0_1 (broadcastInDim S1x8 ![1] bcast_S8_S1x8_1 l)))

/-- The decays of the state over the rows. -/
def dCT (l : FVec Ideal S8 .f32) : FVec Ideal S8 .f32 := Host.exp (mulf (broadcastInDim S8 ![] bcast_S_S8 (constant S_ .f32 0x41000000#32)) l)

/-- The sample's queries by heads. -/
def qT (x : FVec Ideal S17408x4096 .f32) : FVec Ideal S128x8x8x256 .f32 := shapeCast _ (extractStridedSlice S1024x2048 ![16384, 0] x slices_S17408x4096_S1024x2048_16384_0) shapeCasts_S1024x2048_S128x8x8x256

/-- The sample's keys by heads. -/
def kT (x : FVec Ideal S17408x4096 .f32) : FVec Ideal S128x8x8x256 .f32 := shapeCast _ (extractStridedSlice S1024x2048 ![16384, 2048] x slices_S17408x4096_S1024x2048_16384_2048) shapeCasts_S1024x2048_S128x8x8x256

/-- The sample's values by heads. -/
def vT (x : FVec Ideal S17408x8192 .f32) : FVec Ideal S128x8x8x512 .f32 := shapeCast _ (extractStridedSlice S1024x4096 ![16384, 0] x slices_S17408x8192_S1024x4096_16384_0) shapeCasts_S1024x4096_S128x8x8x512

/-- The sample's gates. -/
def gT (x : FVec Ideal S17408x8192 .f32) : FVec Ideal S128x8x4096 .f32 := shapeCast _ (extractStridedSlice S1024x4096 ![16384, 4096] x slices_S17408x8192_S1024x4096_16384_4096) shapeCasts_S1024x4096_S128x8x4096

/-- The states, without the leading axis. -/
def sT (x : FVec Ideal S1x128x8x256x512 .f32) : FVec Ideal S128x8x256x512 .f32 := shapeCast _ x shapeCasts_S1x128x8x256x512_S128x8x256x512

/-- The gain by heads. -/
def gnT (x : FVec Ideal S1x4096 .f32) : FVec Ideal S8x512 .f32 := shapeCast _ (shapeCast _ x shapeCasts_S1x4096_S4096) shapeCasts_S4096_S8x512

/-- The decayed scores of the rows against the rows. -/
def aT (q k : FVec Ideal S128x8x8x256 .f32) (dI : FVec Ideal S8x8x8 .f32) : FVec Ideal S128x8x8x8 .f32 := mulf (Host.dotGeneral dot_S128x8x8x256_S128x8x8x256_S128x8x8x8_3_3_1_1_02_02 none q k) (broadcastInDim S128x8x8x8 ![0, 1, 2, 3] bcast_S1x8x8x8_S128x8x8x8_0_1_2_3 (broadcastInDim S1x8x8x8 ![1, 2, 3] bcast_S8x8x8_S1x8x8x8_1_2_3 dI))

/-- The rows before the norm. -/
def oT (q : FVec Ideal S128x8x8x256 .f32) (v : FVec Ideal S128x8x8x512 .f32) (st : FVec Ideal S128x8x256x512 .f32) (a : FVec Ideal S128x8x8x8 .f32) (dQ : FVec Ideal S8x8 .f32) : FVec Ideal S128x8x8x512 .f32 := addf (transpose S128x8x8x512 [0, 3, 1, 2] (Host.dotGeneral dot_S128x8x8x512_S128x8x8x8_S128x8x512x8_1_3_3_2_02_01 none v a) transposes_S128x8x512x8_S128x8x8x512_0_3_1_2) (mulf (transpose S128x8x8x512 [0, 3, 1, 2] (Host.dotGeneral dot_S128x8x256x512_S128x8x8x256_S128x8x512x8_2_3_3_1_01_02 none st q) transposes_S128x8x512x8_S128x8x8x512_0_3_1_2) (broadcastInDim S128x8x8x512 ![0, 1, 2, 3] bcast_S1x8x8x1_S128x8x8x512_0_1_2_3 (broadcastInDim S1x8x8x1 ![1, 2] bcast_S8x8_S1x8x8x1_1_2 dQ)))

/-- The gated rows. -/
def outT (o : FVec Ideal S128x8x8x512 .f32) (g : FVec Ideal S128x8x4096 .f32) (gn : FVec Ideal S8x512 .f32) : FVec Ideal S1024x4096 .f32 := shapeCast _ (mulf (mulf g (Host.divf (broadcastInDim S128x8x4096 ![] bcast_S_S128x8x4096 (constant S_ .f32 0x3F800000#32)) (addf (broadcastInDim S128x8x4096 ![] bcast_S_S128x8x4096 (constant S_ .f32 0x3F800000#32)) (Host.exp (Host.negf g))))) (shapeCast _ (mulf (mulf o (broadcastInDim S128x8x8x512 ![0, 1, 2, 3] bcast_S128x8x8x1_S128x8x8x512_0_1_2_3 (Host.rsqrt (addf (Host.divf (broadcastInDim S128x8x8x1 ![0, 1, 2] bcast_S128x8x8_S128x8x8x1_0_1_2 (Host.reduceAdd (mulf o o) (constant S_ .f32 0x00000000#32) reducesTo_S128x8x8x512_S128x8x8_d3 h_S_)) (broadcastInDim S128x8x8x1 ![] bcast_S_S128x8x8x1 (constant S_ .f32 0x44000000#32))) (broadcastInDim S128x8x8x1 ![] bcast_S_S128x8x8x1 (constant S_ .f32 0x358637BD#32)))))) (broadcastInDim S128x8x8x512 ![0, 1, 2, 3] bcast_S1x1x8x512_S128x8x8x512_0_1_2_3 (broadcastInDim S1x1x8x512 ![2, 3] bcast_S8x512_S1x1x8x512_2_3 gn))) shapeCasts_S128x8x8x512_S128x8x4096)) shapeCasts_S128x8x4096_S1024x4096

/-- The states after the rows. -/
def stT (k : FVec Ideal S128x8x8x256 .f32) (v : FVec Ideal S128x8x8x512 .f32) (st : FVec Ideal S128x8x256x512 .f32) (dC : FVec Ideal S8 .f32) (dK : FVec Ideal S8x8 .f32) : FVec Ideal S128x8x256x512 .f32 := addf (mulf (broadcastInDim S128x8x256x512 ![0, 1, 2, 3] bcast_S1x8x1x1_S128x8x256x512_0_1_2_3 (broadcastInDim S1x8x1x1 ![1] bcast_S8_S1x8x1x1_1 dC)) st) (Host.dotGeneral dot_S128x8x8x256_S128x8x8x512_S128x8x256x512_1_1_3_3_02_02 none (mulf k (broadcastInDim S128x8x8x256 ![0, 1, 2, 3] bcast_S1x8x8x1_S128x8x8x256_0_1_2_3 (broadcastInDim S1x8x8x1 ![1, 2] bcast_S8x8_S1x8x8x1_1_2 dK))) v)

/-- The log rates, head by head. -/
theorem lgT_at (h : Fin 8) : lgT (ix1 h) = lgOf h := by
  pointwise [lgT]
  unfold lgOf
  rfl

/-- The decays between the rows, entry by entry. -/
theorem dIT_at (l : FVec Ideal S8 .f32) (h i j : Fin 8) : dIT l (ix3 h i j) = decI (l (ix1 h)) (up i) (up j) := by
  unfold dIT
  simp only [id_eq]
  pointwise
  unfold decI pos
  rfl

/-- The decays to each row, entry by entry. -/
theorem dQT_at (l : FVec Ideal S8 .f32) (i h : Fin 8) : dQT l (ix2 i h) = decQ (l (ix1 h)) (up i) := by
  pointwise [dQT]
  unfold decQ pos
  rfl

/-- The decays to the end, entry by entry. -/
theorem dKT_at (l : FVec Ideal S8 .f32) (i h : Fin 8) : dKT l (ix2 i h) = decK (l (ix1 h)) (up i) := by
  pointwise [dKT]
  unfold decK pos
  rfl

/-- The decays of the state, head by head. -/
theorem dCT_at (l : FVec Ideal S8 .f32) (h : Fin 8) : dCT l (ix1 h) = decC (l (ix1 h)) := by
  pointwise [dCT]
  unfold decC
  rfl

/-- The queries, entry by entry. -/
theorem qT_at (x : FVec Ideal S17408x4096 .f32) (b : Fin 128) (i h : Fin 8) (d : Fin 256) :
    qT x (ix4 b i h d) = qkS (fun i j => x (ix2 i j)) 0 b h i d := by
  pointwise [qT]
  exact rd_val (fun i j => x (ix2 i j)) _ _ (by dsimp only; omega) (by dsimp only; omega)

/-- The keys, entry by entry. -/
theorem kT_at (x : FVec Ideal S17408x4096 .f32) (b : Fin 128) (i h : Fin 8) (d : Fin 256) :
    kT x (ix4 b i h d) = qkS (fun i j => x (ix2 i j)) 2048 b h i d := by
  pointwise [kT]
  exact rd_val (fun i j => x (ix2 i j)) _ _ (by dsimp only; omega) (by dsimp only; omega)

/-- The values, entry by entry. -/
theorem vT_at (x : FVec Ideal S17408x8192 .f32) (b : Fin 128) (i h : Fin 8) (e : Fin 512) :
    vT x (ix4 b i h e) = vgS (fun i j => x (ix2 i j)) 0 b h i e := by
  pointwise [vT]
  exact rd_val (fun i j => x (ix2 i j)) _ _ (by dsimp only; omega) (by dsimp only; omega)

/-- The gates, entry by entry. -/
theorem gT_at (x : FVec Ideal S17408x8192 .f32) (b : Fin 128) (i h : Fin 8) (e : Fin 512) (l : Fin 4096) (hl : l.val = h.val * 512 + e.val) :
    gT x (ix3 b i l) = vgS (fun i j => x (ix2 i j)) 4096 b h i e := by
  pointwise [gT]
  exact rd_val (fun i j => x (ix2 i j)) _ _ (by dsimp only; omega) (by dsimp only; omega)

/-- The states, entry by entry. -/
theorem sT_at (x : FVec Ideal S1x128x8x256x512 .f32) (b : Fin 128) (h : Fin 8) (d : Fin 256) (e : Fin 512) :
    sT x (ix4 b h d e) = x (ix5 0 b h d e) := by
  pointwise [sT]

/-- The gain, entry by entry. -/
theorem gnT_at (x : FVec Ideal S1x4096 .f32) (h : Fin 8) (e : Fin 512) :
    gnT x (ix2 h e) = x (ix2 0 ⟨h.val * 512 + e.val, by omega⟩) := by
  pointwise [gnT]

/-- The decayed scores, entry by entry. -/
theorem aT_at (q k : FVec Ideal S128x8x8x256 .f32) (dI : FVec Ideal S8x8x8 .f32) (b : Fin 128) (h i j : Fin 8) :
    aT q k dI (ix4 b h i j) = (∑ d : Fin 256, q (ix4 b i h d) * k (ix4 b j h d)) * dI (ix3 h i j) := by
  pointwise [aT]

/-- The rows before the norm, entry by entry. -/
theorem oT_at (q : FVec Ideal S128x8x8x256 .f32) (v : FVec Ideal S128x8x8x512 .f32) (st : FVec Ideal S128x8x256x512 .f32) (a : FVec Ideal S128x8x8x8 .f32) (dQ : FVec Ideal S8x8 .f32)
    (b : Fin 128) (i h : Fin 8) (e : Fin 512) :
    oT q v st a dQ (ix4 b i h e) = (∑ j : Fin 8, a (ix4 b h i j) * v (ix4 b j h e)) + (∑ d : Fin 256, q (ix4 b i h d) * st (ix4 b h d e)) * dQ (ix2 i h) := by
  pointwise [oT]
  exact congrArg₂ (· + ·) (Finset.sum_congr rfl fun x _ => mul_comm _ _) (congrArg (· * _) (Finset.sum_congr rfl fun x _ => mul_comm _ _))

/-- The gated rows, entry by entry. -/
theorem outT_at (o : FVec Ideal S128x8x8x512 .f32) (g : FVec Ideal S128x8x4096 .f32) (gn : FVec Ideal S8x512 .f32) (r : Fin 1024) (l : Fin 4096) :
    outT o g gn (ix2 r l) = gated (fun e => o (ix4 ⟨r.val / 8, by omega⟩ ⟨r.val % 8, by omega⟩ ⟨l.val / 512, by omega⟩ e))
      (fun e => gn (ix2 ⟨l.val / 512, by omega⟩ e)) (fun e => g (ix3 ⟨r.val / 8, by omega⟩ ⟨r.val % 8, by omega⟩ ⟨l.val / 512 * 512 + e.val, by omega⟩)) ⟨l.val % 512, by omega⟩ := by
  pointwise [outT]
  have hs : ∀ g : EReal, Ideal.div 1 (1 + Ideal.exp (-g)) = Ideal.logistic g := fun g => rfl
  have d3 : l.val / 512 * 512 + l.val % 512 = l.val := by omega
  unfold gated
  simp only [hs, d3]

/-- The states after the rows, entry by entry. -/
theorem stT_at (k : FVec Ideal S128x8x8x256 .f32) (v : FVec Ideal S128x8x8x512 .f32) (st : FVec Ideal S128x8x256x512 .f32) (dC : FVec Ideal S8 .f32) (dK : FVec Ideal S8x8 .f32)
    (b : Fin 128) (h : Fin 8) (d : Fin 256) (e : Fin 512) :
    stT k v st dC dK (ix4 b h d e) = dC (ix1 h) * st (ix4 b h d e) + ∑ j : Fin 8, k (ix4 b j h d) * dK (ix2 j h) * v (ix4 b j h e) := by
  pointwise [stT]

/-- The gated rows. -/
theorem out7 (c : Dev nD) (r : Fin 1024) (l : Fin 4096) :
    (res_main_v92 m c : FVec Ideal S1024x4096 .f32) (ix2 r l) = G7 (Xm m c) (Ym m c) (Sm m c) (gm m c) r l := by
  have e : (res_main_v92 m c : FVec Ideal S1024x4096 .f32) = outT (oT (qT (m ((c.tc : Thread nD τ).loc main_arg0))) (vT (m ((c.tc : Thread nD τ).loc main_arg1))) (sT (m ((c.tc : Thread nD τ).loc main_arg2))) (aT (qT (m ((c.tc : Thread nD τ).loc main_arg0))) (kT (m ((c.tc : Thread nD τ).loc main_arg0))) (dIT lgT)) (dQT lgT)) (gT (m ((c.tc : Thread nD τ).loc main_arg1))) (gnT (m ((c.tc : Thread nD τ).loc main_arg3))) := by
    unfold res_main_v92 outT oT aT gT gnT qT kT vT sT dIT dQT lgT
    rfl
  rw [e, outT_at]
  unfold G7 outRow mix
  have hg := fun e : Fin 512 => gT_at (m ((c.tc : Thread nD τ).loc main_arg1)) ⟨r.val / 8, by omega⟩ ⟨r.val % 8, by omega⟩ ⟨l.val / 512, by omega⟩ e ⟨l.val / 512 * 512 + e.val, by omega⟩ rfl
  simp only [oT_at, aT_at, qT_at, kT_at, vT_at, sT_at, gnT_at, dIT_at, dQT_at, lgT_at, hg]

/-- The states. -/
theorem out8 (c : Dev nD) (b : Fin 128) (h : Fin 8) (d : Fin 256) (e : Fin 512) :
    stT (kT (m ((c.tc : Thread nD τ).loc main_arg0))) (vT (m ((c.tc : Thread nD τ).loc main_arg1))) (sT (m ((c.tc : Thread nD τ).loc main_arg2))) (dCT lgT) (dKT lgT) (ix4 b h d e) = G8 (Xm m c) (Ym m c) (Sm m c) b h d e := by
  rw [stT_at]
  unfold G8 stepSt
  simp only [kT_at, vT_at, sT_at, dCT_at, dKT_at, lgT_at]

/-- The reference's result arrays after its run, and its arguments. -/
theorem run_at (ρ : Dev nD → PrngReg) :
    θ_run defs (onTc (τ := τ) (main (F := Ideal))) ⟨m, fun _ => 0, ρ⟩ fun r => ∀ c : Dev nD,
      (r.2.mem ((c.tc : Thread nD τ).loc main_v92) : FVec Ideal S1024x4096 .f32) = (fun i => G7 (Xm m c) (Ym m c) (Sm m c) (gm m c) (i 0) (i 1))
      ∧ (r.2.mem ((c.tc : Thread nD τ).loc main_v70) : FVec Ideal S128x8x256x512 .f32) = (fun i => G8 (Xm m c) (Ym m c) (Sm m c) (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans (funext fun i => by idx_vars i; exact out7 m c i0 i1), (h c).2.1.trans (funext fun i => ?_), (h c).2.2⟩) (Value.run m ρ)
  idx_vars i
  exact out8 m c i0 i1 i2 i3

end Cert.RetSRefIdeal.Ret

end
-- ==== Proof.RetsValue.lean ====
/-
  The kernel and the reference of the sample's retention compute the same arrays: the claim that compares the two programs.
-/
module

public import proofs.«01_k».proof.Defs
public import Idealize.ShloMosaic.Adequacy
public import Idealize.ShloMosaic.Init
public import Idealize.ShloMosaic.Lib.Quiescent
public import proofs.«01_k».proof.Proof.RetsBlocks
public import proofs.«01_k».proof.Proof.RetsRef

@[expose] public section

set_option maxRecDepth 16384

noncomputable section

namespace Cert.Claims

open Cert.RetsSpec Idealize.ShloMosaic Idealize.ShloMosaic.TcCoe Idealize.ShloMosaic.Tactic

/-- The reference frees nothing and leaves its arguments as they were. -/
theorem frame_RetSRefIdeal : Cert.quiescent_RetSRefIdeal := fun m ρ _ =>
  (θ_run Cert.RetSRefIdeal.defs _ _).mono (fun r h => ⟨fun c => (h c).2.2, sem_eq_zero_of_no_sems (by decide) r.2⟩)
    (Cert.RetSRefIdeal.Value.run (F := Ideal) m ρ)

/-- The kernel's arrays are the reference's. -/
theorem algebraic_RetS : Cert.algebraic_RetSIdeal_RetSRefIdeal := by
  intro m ρ m' ρ' _ hag
  refine ⟨fun c => fun i => G7 (RetSIdeal.Ret.Xm m c) (RetSIdeal.Ret.Ym m c) (RetSIdeal.Ret.Sm m c) (RetSIdeal.Ret.gm m c) (i 0) (i 1),
    fun c => fun i => G8 (RetSIdeal.Ret.Xm m c) (RetSIdeal.Ret.Ym m c) (RetSIdeal.Ret.Sm m c) (i 0) (i 1) (i 2) (i 3), ?_, ?_⟩
  · refine (θ_run _ _ _).mono (fun r h c => ?_) (RetSIdeal.Value.run_blocks m ρ)
    obtain ⟨h1, h2, h3⟩ := h c
    exact ⟨h1.trans (RetSIdeal.Ret.final7 m c), h2.trans (RetSIdeal.Ret.final8 m c), h3⟩
  · refine (θ_run _ _ _).mono (fun r h c => ?_) (RetSRefIdeal.Ret.run_at m' ρ')
    obtain ⟨h1, h2, h3⟩ := h c
    have hX : RetSRefIdeal.Ret.Xm m' c = RetSIdeal.Ret.Xm m c := funext fun i => funext fun j => congrFun (hag c).1 (ix2 i j)
    have hY : RetSRefIdeal.Ret.Ym m' c = RetSIdeal.Ret.Ym m c := funext fun i => funext fun j => congrFun (hag c).2.1 (ix2 i j)
    have hS : RetSRefIdeal.Ret.Sm m' c = RetSIdeal.Ret.Sm m c := funext fun b => funext fun h => funext fun d => funext fun e => congrFun (hag c).2.2.1 (ix5 0 b h d e)
    have hg : RetSRefIdeal.Ret.gm m' c = RetSIdeal.Ret.gm m c := funext fun j => congrFun (hag c).2.2.2 (ix2 0 j)
    refine ⟨h1.trans ?_, h2.trans ?_, h3⟩
    · rw [hX, hY, hS, hg]; rfl
    · rw [hX, hY, hS]; rfl

end Cert.Claims

end
-- ==== Proof.RetRef.lean ====
/-
  The reference's scan over chunks: after `n` trips the carried state and the outputs so far are those of RetSpec.lean.
-/
module

public import proofs.«01_k».proof.Proof.Gen.ReferenceIdeal.Run
public import proofs.«01_k».proof.Proof.RetSpec
public import Idealize.ShloMosaic.Lib.Pointwise
public import Idealize.ShloMosaic.Lib.StableHlo.ReadAt

@[expose] public section

set_option maxRecDepth 16384

noncomputable section

namespace Cert.ReferenceIdeal.Ret

open Cert.ReferenceIdeal Cert.ReferenceIdeal.Gen Cert.ReferenceIdeal.Value Cert.RetSpec Idealize.ShloMosaic Idealize.ShloMosaic.TcCoe Idealize.ShloMosaic.StableHlo

variable (X : Fin 17408 → Fin 4096 → EReal) (Y : Fin 17408 → Fin 8192 → EReal)

/-- What holds of the buffers before trip `n`. -/
structure Inv (V : Valuation τ sig (Elt Ideal)) (n : ℕ) : Prop where
  q : ∀ (n' : Fin 16) (b : Fin 8) (i : Fin 128) (h : Fin 8) (d : Fin 256),
    (V (Proc.devRef .tc main_v59_0) : FVec Ideal S16x8x128x8x256 .f32) (ix5 n' b i h d) = qkC X 0 b n' h i d
  k : ∀ (n' : Fin 16) (b : Fin 8) (i : Fin 128) (h : Fin 8) (d : Fin 256),
    (V (Proc.devRef .tc main_v59_1) : FVec Ideal S16x8x128x8x256 .f32) (ix5 n' b i h d) = qkC X 2048 b n' h i d
  v : ∀ (n' : Fin 16) (b : Fin 8) (i : Fin 128) (h : Fin 8) (e : Fin 512),
    (V (Proc.devRef .tc main_v59_2) : FVec Ideal S16x8x128x8x512 .f32) (ix5 n' b i h e) = vgC Y 0 b n' h i e
  dI : ∀ (h : Fin 8) (i j : Fin 128), (V (Proc.devRef .tc main_v59_3) : FVec Ideal S8x128x128 .f32) (ix3 h i j) = decI (lgOf h) i j
  dQ : ∀ (i : Fin 128) (h : Fin 8), (V (Proc.devRef .tc main_v59_4) : FVec Ideal S128x8 .f32) (ix2 i h) = decQ (lgOf h) i
  dC : ∀ (h : Fin 8), (V (Proc.devRef .tc main_v59_5) : FVec Ideal S8 .f32) (ix1 h) = decC (lgOf h)
  dK : ∀ (i : Fin 128) (h : Fin 8), (V (Proc.devRef .tc main_v59_6) : FVec Ideal S128x8 .f32) (ix2 i h) = decK (lgOf h) i
  ctr : (V (Proc.devRef .tc main_v59_7) : (⟨S_, .i32⟩ : BufTy).Contents (Elt Ideal)) = fun _ => BitVec.ofNat 32 n
  st : ∀ (b h : Fin 8) (d : Fin 256) (e : Fin 512),
    (V (Proc.devRef .tc main_v59_8) : FVec Ideal S8x8x256x512 .f32) (ix4 b h d e) = St X Y b h n d e
  out : ∀ (n' : Fin 16) (b : Fin 8) (i : Fin 128) (h : Fin 8) (e : Fin 512), n'.val < n →
    (V (Proc.devRef .tc main_v59_9) : FVec Ideal S16x8x128x8x512 .f32) (ix5 n' b i h e)
      = mix (lgOf h) (qkC X 0 b n' h) (qkC X 2048 b n' h) (vgC Y 0 b n' h) (St X Y b h n') i e

variable (m : (ℓ : Loc nD τ sig) → Buf (Elt Ideal) ℓ)

/-- The query and key projections, by row and column. -/
abbrev Xm (c : Dev nD) : Fin 17408 → Fin 4096 → EReal := fun i j => (m ((c.tc : Thread nD τ).loc main_arg0) : FVec Ideal S17408x4096 .f32) (ix2 i j)
/-- The value and gate projections. -/
abbrev Ym (c : Dev nD) : Fin 17408 → Fin 8192 → EReal := fun i j => (m ((c.tc : Thread nD τ).loc main_arg1) : FVec Ideal S17408x8192 .f32) (ix2 i j)
/-- The norm's gain. -/
abbrev gm (c : Dev nD) : Fin 4096 → EReal := fun j => (m ((c.tc : Thread nD τ).loc main_arg2) : FVec Ideal S1x4096 .f32) (ix2 0 j)

/-- A matrix's rows cut into batches and chunks and its columns into heads, the chunks first: the element it reads. -/
theorem split256 (x : FVec Ideal S16384x2048 .f32) (n' : Fin 16) (b : Fin 8) (i : Fin 128) (h : Fin 8) (d : Fin 256) :
    (transpose S16x8x128x8x256 [1, 0, 2, 3, 4] (shapeCast S8x16x128x8x256 (shapeCast S8x2048x8x256 x shapeCasts_S16384x2048_S8x2048x8x256) shapeCasts_S8x2048x8x256_S8x16x128x8x256) transposes_S8x16x128x8x256_S16x8x128x8x256_1_0_2_3_4 : FVec Ideal S16x8x128x8x256 .f32) (ix5 n' b i h d)
      = x (ix2 ⟨b.val * 2048 + n'.val * 128 + i.val, by omega⟩ ⟨h.val * 256 + d.val, by omega⟩) := by
  pointwise

/-- The same for the values. -/
theorem split512 (x : FVec Ideal S16384x4096 .f32) (n' : Fin 16) (b : Fin 8) (i : Fin 128) (h : Fin 8) (d : Fin 512) :
    (transpose S16x8x128x8x512 [1, 0, 2, 3, 4] (shapeCast S8x16x128x8x512 (shapeCast S8x2048x8x512 x shapeCasts_S16384x4096_S8x2048x8x512) shapeCasts_S8x2048x8x512_S8x16x128x8x512) transposes_S8x16x128x8x512_S16x8x128x8x512_1_0_2_3_4 : FVec Ideal S16x8x128x8x512 .f32) (ix5 n' b i h d)
      = x (ix2 ⟨b.val * 2048 + n'.val * 128 + i.val, by omega⟩ ⟨h.val * 512 + d.val, by omega⟩) := by
  pointwise

/-- The queries by chunks, before the scan. -/
theorem entry0 (c : Dev nD) (n' : Fin 16) (b : Fin 8) (i : Fin 128) (h : Fin 8) (d : Fin 256) :
    (entryContents preI m c (Proc.devRef .tc main_v59_0) : FVec Ideal S16x8x128x8x256 .f32) (ix5 n' b i h d) = qkC (Xm m c) 0 b n' h i d := by
  have e : (entryContents preI m c (Proc.devRef .tc main_v59_0) : FVec Ideal S16x8x128x8x256 .f32) =
    transpose S16x8x128x8x256 [1, 0, 2, 3, 4] (shapeCast S8x16x128x8x256 (shapeCast S8x2048x8x256 (extractStridedSlice S16384x2048 ![0, 0] (m ((c.tc : Thread nD τ).loc main_arg0) : FVec Ideal S17408x4096 .f32) slices_S17408x4096_S16384x2048_0_0) shapeCasts_S16384x2048_S8x2048x8x256) shapeCasts_S8x2048x8x256_S8x16x128x8x256) transposes_S8x16x128x8x256_S16x8x128x8x256_1_0_2_3_4 := by
    simp only [entryContents, afterL_cons, afterL_nil]
    after_reads_simp
    rfl
  rw [e, split256]
  pointwise
  exact rd_val (Xm m c) _ _ (by simp) (by simp)

/-- The keys by chunks, before the scan. -/
theorem entry1 (c : Dev nD) (n' : Fin 16) (b : Fin 8) (i : Fin 128) (h : Fin 8) (d : Fin 256) :
    (entryContents preI m c (Proc.devRef .tc main_v59_1) : FVec Ideal S16x8x128x8x256 .f32) (ix5 n' b i h d) = qkC (Xm m c) 2048 b n' h i d := by
  have e : (entryContents preI m c (Proc.devRef .tc main_v59_1) : FVec Ideal S16x8x128x8x256 .f32) =
    transpose S16x8x128x8x256 [1, 0, 2, 3, 4] (shapeCast S8x16x128x8x256 (shapeCast S8x2048x8x256 (extractStridedSlice S16384x2048 ![0, 2048] (m ((c.tc : Thread nD τ).loc main_arg0) : FVec Ideal S17408x4096 .f32) slices_S17408x4096_S16384x2048_0_2048) shapeCasts_S16384x2048_S8x2048x8x256) shapeCasts_S8x2048x8x256_S8x16x128x8x256) transposes_S8x16x128x8x256_S16x8x128x8x256_1_0_2_3_4 := by
    simp only [entryContents, afterL_cons, afterL_nil]
    after_reads_simp
    rfl
  rw [e, split256]
  pointwise
  exact rd_val (Xm m c) _ _ (by simp) (by simp [Nat.add_assoc])

/-- The values by chunks, before the scan. -/
theorem entry2 (c : Dev nD) (n' : Fin 16) (b : Fin 8) (i : Fin 128) (h : Fin 8) (d : Fin 512) :
    (entryContents preI m c (Proc.devRef .tc main_v59_2) : FVec Ideal S16x8x128x8x512 .f32) (ix5 n' b i h d) = vgC (Ym m c) 0 b n' h i d := by
  have e : (entryContents preI m c (Proc.devRef .tc main_v59_2) : FVec Ideal S16x8x128x8x512 .f32) =
    transpose S16x8x128x8x512 [1, 0, 2, 3, 4] (shapeCast S8x16x128x8x512 (shapeCast S8x2048x8x512 (extractStridedSlice S16384x4096 ![0, 0] (m ((c.tc : Thread nD τ).loc main_arg1) : FVec Ideal S17408x8192 .f32) slices_S17408x8192_S16384x4096_0_0) shapeCasts_S16384x4096_S8x2048x8x512) shapeCasts_S8x2048x8x512_S8x16x128x8x512) transposes_S8x16x128x8x512_S16x8x128x8x512_1_0_2_3_4 := by
    simp only [entryContents, afterL_cons, afterL_nil]
    after_reads_simp
    rfl
  rw [e, split512]
  pointwise
  exact rd_val (Ym m c) _ _ (by simp) (by simp)

/-- The decay of the state over a chunk. -/
theorem entry5 (c : Dev nD) (h : Fin 8) :
    (entryContents preI m c (Proc.devRef .tc main_v59_5) : FVec Ideal S8 .f32) (ix1 h) = decC (lgOf h) := by
  simp only [entryContents, afterL_cons, afterL_nil]
  after_reads_at
  simp only [id_eq]
  pointwise
  unfold decC lgOf
  rfl

/-- The decay from each row to the end of the chunk. -/
theorem entry6 (c : Dev nD) (i : Fin 128) (h : Fin 8) :
    (entryContents preI m c (Proc.devRef .tc main_v59_6) : FVec Ideal S128x8 .f32) (ix2 i h) = decK (lgOf h) i := by
  simp only [entryContents, afterL_cons, afterL_nil]
  after_reads_at
  simp only [id_eq]
  pointwise
  unfold decK lgOf pos
  rfl

/-- The state before the first chunk is zero. -/
theorem entry8 (c : Dev nD) (b h : Fin 8) (d : Fin 256) (e : Fin 512) :
    (entryContents preI m c (Proc.devRef .tc main_v59_8) : FVec Ideal S8x8x256x512 .f32) (ix4 b h d e) = (0 : EReal) := by
  simp only [entryContents, afterL_cons, afterL_nil]
  after_reads_at
  simp only [id_eq]
  pointwise

/-- The decay between the rows of a chunk. -/
theorem entry3 (c : Dev nD) (h : Fin 8) (i j : Fin 128) :
    (entryContents preI m c (Proc.devRef .tc main_v59_3) : FVec Ideal S8x128x128 .f32) (ix3 h i j) = decI (lgOf h) i j := by
  simp only [entryContents, afterL_cons, afterL_nil]
  after_reads_at
  simp only [id_eq]
  pointwise
  unfold decI lgOf pos
  rfl

/-- The decay from the state to each row. -/
theorem entry4 (c : Dev nD) (h : Fin 8) (i : Fin 128) :
    (entryContents preI m c (Proc.devRef .tc main_v59_4) : FVec Ideal S128x8 .f32) (ix2 i h) = decQ (lgOf h) i := by
  simp only [entryContents, afterL_cons, afterL_nil]
  after_reads_at
  simp only [id_eq]
  pointwise
  unfold decQ lgOf pos
  rfl

/-- The counter read as an integer is the number of trips done. -/
theorem chunk_ix (w : IVec S_ 32) (n : Fin 16) (hw : w (Shape.Idx.first h_S_) = BitVec.ofNat 32 n.val) :
    (w (Shape.Idx.first h_S_)).toInt = (n.val : Int) := by
  rw [hw]; exact (by decide : ∀ n : Fin 16, (BitVec.ofNat 32 n.val).toInt = (n.val : Int)) n

/-- A slice that starts inside the array starts where it is asked to. -/
theorem clamp (st : Fin 5 → Int) (n : Fin 16) (h0 : st 0 = n.val) (h1 : st 1 = 0) (h2 : st 2 = 0) (h3 : st 3 = 0) (h4 : st 4 = 0) :
    Host.clampedStart S16x8x128x8x512 S1x8x128x8x512 rfl st 0 = n.val ∧ Host.clampedStart S16x8x128x8x512 S1x8x128x8x512 rfl st 1 = 0
    ∧ Host.clampedStart S16x8x128x8x512 S1x8x128x8x512 rfl st 2 = 0 ∧ Host.clampedStart S16x8x128x8x512 S1x8x128x8x512 rfl st 3 = 0
    ∧ Host.clampedStart S16x8x128x8x512 S1x8x128x8x512 rfl st 4 = 0 :=
  ⟨Host.clampedStart_of_le _ _ _ n.val h0 (by show n.val + 1 ≤ 16; omega), Host.clampedStart_of_le _ _ _ 0 h1 (by decide),
   Host.clampedStart_of_le _ _ _ 0 h2 (by decide), Host.clampedStart_of_le _ _ _ 0 h3 (by decide), Host.clampedStart_of_le _ _ _ 0 h4 (by decide)⟩

/-- One chunk taken out of the sixteen. -/
theorem slice256 (x : FVec Ideal S16x8x128x8x256 .f32) (st : Fin 5 → Int) (n : Fin 16) (h0 : st 0 = n.val) (h1 : st 1 = 0) (h2 : st 2 = 0) (h3 : st 3 = 0) (h4 : st 4 = 0)
    (b : Fin 8) (i : Fin 128) (h : Fin 8) (d : Fin 256) :
    (shapeCast S8x128x8x256 (Host.dynamicSlice S1x8x128x8x256 x st sliceFits_S16x8x128x8x256_S1x8x128x8x256) shapeCasts_S1x8x128x8x256_S8x128x8x256 : FVec Ideal S8x128x8x256 .f32) (ix4 b i h d)
      = x (ix5 n b i h d) := by
  have c0 : Host.clampedStart S16x8x128x8x256 S1x8x128x8x256 rfl st 0 = n.val := Host.clampedStart_of_le _ _ _ n.val h0 (by show n.val + 1 ≤ 16; omega)
  have c1 : Host.clampedStart S16x8x128x8x256 S1x8x128x8x256 rfl st 1 = 0 := Host.clampedStart_of_le _ _ _ 0 h1 (by decide)
  have c2 : Host.clampedStart S16x8x128x8x256 S1x8x128x8x256 rfl st 2 = 0 := Host.clampedStart_of_le _ _ _ 0 h2 (by decide)
  have c3 : Host.clampedStart S16x8x128x8x256 S1x8x128x8x256 rfl st 3 = 0 := Host.clampedStart_of_le _ _ _ 0 h3 (by decide)
  have c4 : Host.clampedStart S16x8x128x8x256 S1x8x128x8x256 rfl st 4 = 0 := Host.clampedStart_of_le _ _ _ 0 h4 (by decide)
  pointwise
  simp only [c0, c1, c2, c3, c4, Nat.zero_add]

/-- The same for the values' chunks. -/
theorem slice512 (x : FVec Ideal S16x8x128x8x512 .f32) (st : Fin 5 → Int) (n : Fin 16) (h0 : st 0 = n.val) (h1 : st 1 = 0) (h2 : st 2 = 0) (h3 : st 3 = 0) (h4 : st 4 = 0)
    (b : Fin 8) (i : Fin 128) (h : Fin 8) (d : Fin 512) :
    (shapeCast S8x128x8x512 (Host.dynamicSlice S1x8x128x8x512 x st sliceFits_S16x8x128x8x512_S1x8x128x8x512) shapeCasts_S1x8x128x8x512_S8x128x8x512 : FVec Ideal S8x128x8x512 .f32) (ix4 b i h d)
      = x (ix5 n b i h d) := by
  obtain ⟨c0, c1, c2, c3, c4⟩ := clamp st n h0 h1 h2 h3 h4
  pointwise
  simp only [c0, c1, c2, c3, c4, Nat.zero_add]

/-- One chunk written among the sixteen: the new one at its place, the old ones elsewhere. -/
theorem put512 (x : FVec Ideal S16x8x128x8x512 .f32) (u : FVec Ideal S1x8x128x8x512 .f32) (st : Fin 5 → Int) (n : Fin 16) (h0 : st 0 = n.val) (h1 : st 1 = 0) (h2 : st 2 = 0) (h3 : st 3 = 0) (h4 : st 4 = 0)
    (n' : Fin 16) (b : Fin 8) (i : Fin 128) (h : Fin 8) (d : Fin 512) :
    (Host.dynamicUpdateSlice x u st updateFits_S16x8x128x8x512_S1x8x128x8x512 : FVec Ideal S16x8x128x8x512 .f32) (ix5 n' b i h d)
      = if n' = n then u (ix5 0 b i h d) else x (ix5 n' b i h d) := by
  obtain ⟨c0, c1, c2, c3, c4⟩ := clamp st n h0 h1 h2 h3 h4
  pointwise
  by_cases hn : n' = n
  · subst hn
    rw [if_pos rfl, dif_pos (by rw [c0, c1, c2, c3, c4]; omega)]
    simp only [c0, c1, c2, c3, c4, Nat.sub_zero, Nat.sub_self]
    rfl
  · rw [if_neg hn, dif_neg]
    intro hh
    have h0' := hh.1
    rw [c0] at h0'
    exact hn (Fin.ext (by omega))

/-- The keys of trip `n` are those of chunk `n`. -/
theorem stepK {V : Valuation τ sig (Elt Ideal)} {n : Fin 16} (I : Inv X Y V n) (b : Fin 8) (i : Fin 128) (h : Fin 8) (d : Fin 256) :
    (res_main_while0b_v84 V : FVec Ideal S8x128x8x256 .f32) (ix4 b i h d) = qkC X 2048 b n h i d :=
  (slice256 _ _ n (chunk_ix _ n (congrFun I.ctr _)) rfl rfl rfl rfl b i h d).trans (I.k n b i h d)

/-- The queries of trip `n` are those of chunk `n`. -/
theorem stepQ {V : Valuation τ sig (Elt Ideal)} {n : Fin 16} (I : Inv X Y V n) (b : Fin 8) (i : Fin 128) (h : Fin 8) (d : Fin 256) :
    (res_main_while0b_v83 V : FVec Ideal S8x128x8x256 .f32) (ix4 b i h d) = qkC X 0 b n h i d :=
  (slice256 _ _ n (chunk_ix _ n (congrFun I.ctr _)) rfl rfl rfl rfl b i h d).trans (I.q n b i h d)

/-- The values of trip `n` are those of chunk `n`. -/
theorem stepV {V : Valuation τ sig (Elt Ideal)} {n : Fin 16} (I : Inv X Y V n) (b : Fin 8) (i : Fin 128) (h : Fin 8) (d : Fin 512) :
    (res_main_while0b_v85 V : FVec Ideal S8x128x8x512 .f32) (ix4 b i h d) = vgC Y 0 b n h i d :=
  (slice512 _ _ n (chunk_ix _ n (congrFun I.ctr _)) rfl rfl rfl rfl b i h d).trans (I.v n b i h d)

/-- A trip takes the state to the next one. -/
theorem stepS {V : Valuation τ sig (Elt Ideal)} {n : Fin 16} (I : Inv X Y V n) (b h : Fin 8) (d : Fin 256) (e : Fin 512) :
    (step_main_v59_8 V : FVec Ideal S8x8x256x512 .f32) (ix4 b h d e) = St X Y b h (n + 1) d e := by
  unfold step_main_v59_8
  rw [id_eq]
  pointwise
  have e1 := fun x => stepK X Y I b x h d
  have e2 := fun x => stepV X Y I b x h e
  simp only [e1, e2, I.dC, I.dK, I.st]
  rfl

/-- A trip adds its chunk's rows to the rows before the norm. -/
theorem stepO {V : Valuation τ sig (Elt Ideal)} {n : Fin 16} (I : Inv X Y V n) (n' : Fin 16) (hn : n'.val < n.val + 1)
    (b : Fin 8) (i : Fin 128) (h : Fin 8) (e : Fin 512) :
    (step_main_v59_9 V : FVec Ideal S16x8x128x8x512 .f32) (ix5 n' b i h e)
      = mix (lgOf h) (qkC X 0 b n' h) (qkC X 2048 b n' h) (vgC Y 0 b n' h) (St X Y b h n') i e := by
  unfold step_main_v59_9
  rw [id_eq]
  refine (put512 _ _ _ n (chunk_ix _ n (congrFun I.ctr _)) rfl rfl rfl rfl n' b i h e).trans ?_
  by_cases hnn : n' = n
  · subst hnn
    rw [if_pos rfl]
    pointwise
    have e1 := fun x d => stepK X Y I b x h d
    have e2 := fun x => stepV X Y I b x h e
    have e3 := fun d => stepQ X Y I b i h d
    simp only [e1, e2, e3, I.dI, I.dQ, I.st]
    unfold mix
    exact congrArg₂ (· + ·) (Finset.sum_congr rfl fun x _ => mul_comm _ _) (congrArg (· * _) (Finset.sum_congr rfl fun x _ => mul_comm _ _))
  · rw [if_neg hnn]
    exact I.out n' b i h e (by have : n'.val ≠ n.val := fun hh => hnn (Fin.ext hh); omega)

/-- The silu with its division written out is the logistic function. -/
theorem silu_eq (g : EReal) : Ideal.div 1 (1 + Ideal.exp (-g)) = Ideal.logistic g := by
  rfl

/-- The gated rows, from the rows before the norm. -/
theorem outR (V : Valuation τ sig (Elt Ideal)) (r : Fin 16384) (l : Fin 4096) (I : Inv X Y V 16) :
    (out_main_v82 V : FVec Ideal S16384x4096 .f32) (ix2 r l)
     = gated (mix (lgOf ⟨l.val / 512, by omega⟩) (qkC X 0 (r.val / 2048) (r.val / 128 % 16) (l.val / 512)) (qkC X 2048 (r.val / 2048) (r.val / 128 % 16) (l.val / 512)) (vgC Y 0 (r.val / 2048) (r.val / 128 % 16) (l.val / 512)) (St X Y (r.val / 2048) ⟨l.val / 512, by omega⟩ (r.val / 128 % 16)) ⟨r.val % 128, by omega⟩)
    (fun e => (V (Proc.devRef .tc main_arg2) : FVec Ideal S1x4096 .f32) (ix2 0 ⟨l.val / 512 * 512 + e.val, by omega⟩)) (fun e => (V (Proc.devRef .tc main_arg1) : FVec Ideal S17408x8192 .f32) (ix2 ⟨r.val, by omega⟩ ⟨4096 + (l.val / 512 * 512 + e.val), by omega⟩)) ⟨l.val % 512, by omega⟩ := by
  pointwise [out_main_v82]
  have e1 := fun e => I.out ⟨r.val % 2048 / 128, by omega⟩ ⟨r.val / 2048, by omega⟩ ⟨r.val % 2048 % 128, by omega⟩ ⟨l.val / 512, by omega⟩ e (by show r.val % 2048 / 128 < 16; omega)
  simp only [e1, silu_eq]
  have d1 : r.val % 2048 / 128 = r.val / 128 % 16 := by omega
  have d2 : r.val % 2048 % 128 = r.val % 128 := by omega
  have d3 : l.val / 512 * 512 + l.val % 512 = l.val := by omega
  unfold gated
  simp only [d1, d2, d3]

/-- One trip keeps the invariant and raises its count. -/
theorem step_inv {V : Valuation τ sig (Elt Ideal)} (n : ℕ) (hn : n < 16) (I : Inv X Y V n) : Inv X Y (STEP V) (n + 1) where
  q := by rw [STEP_main_v59_0]; exact I.q
  k := by rw [STEP_main_v59_1]; exact I.k
  v := by rw [STEP_main_v59_2]; exact I.v
  dI := by rw [STEP_main_v59_3]; exact I.dI
  dQ := by rw [STEP_main_v59_4]; exact I.dQ
  dC := by rw [STEP_main_v59_5]; exact I.dC
  dK := by rw [STEP_main_v59_6]; exact I.dK
  ctr := by
    rw [STEP_main_v59_7]
    unfold step_main_v59_7
    rw [id_eq]
    have := I.ctr
    funext j
    show IntOp.addi ((V (Proc.devRef .tc main_v59_7) : (⟨S_, .i32⟩ : BufTy).Contents (Elt Ideal)) j) 1#32 = BitVec.ofNat 32 (n + 1)
    rw [this]
    exact (BitVec.ofNat_add n 1).symm
  st := by rw [STEP_main_v59_8]; exact fun b h d e => stepS X Y (n := ⟨n, hn⟩) I b h d e
  out := by rw [STEP_main_v59_9]; exact fun n' b i h e hh => stepO X Y (n := ⟨n, hn⟩) I n' hh b i h e

/-- The invariant holds before the first trip, with the arguments' projections. -/
theorem entry_inv (c : Dev nD) : Inv (Xm m c) (Ym m c) (entryContents preI m c) 0 where
  q := entry0 m c
  k := entry1 m c
  v := entry2 m c
  dI := entry3 m c
  dQ := fun i h => entry4 m c h i
  dC := entry5 m c
  dK := entry6 m c
  ctr := ctr_entry m c
  st := entry8 m c
  out := fun _ _ _ _ _ h => absurd h (Nat.not_lt_zero _)

/-- The invariant after `n` trips. -/
theorem iter_inv (c : Dev nD) : ∀ n ≤ 16, Inv (Xm m c) (Ym m c) (STEP^[n] (entryContents preI m c)) n
  | 0, _ => entry_inv m c
  | n + 1, h => by
    rw [Function.iterate_succ_apply']
    exact step_inv _ _ n h (iter_inv c n (by omega))

/-- The reference's first result: the gated output rows. -/
theorem result82 (c : Dev nD) : (out_main_v82 (STEP^[16] (entryContents preI m c)) : FVec Ideal S16384x4096 .f32)
    = fun i => G7 (Xm m c) (Ym m c) (gm m c) (i 0) (i 1) := by
  funext i
  idx_vars i
  refine (outR _ _ _ _ _ (iter_inv m c 16 le_rfl)).trans ?_
  rw [iter_main_arg1, iter_main_arg2]
  unfold G7 outRow
  have : ∀ e : Fin 512, Ym m c ⟨i0.val, by omega⟩ ⟨4096 + (i1.val / 512 * 512 + e.val), by omega⟩ = vgC (Ym m c) 4096 (i0.val / 2048) (i0.val / 128 % 16) (i1.val / 512) ⟨i0.val % 128, by omega⟩ e := by
    intro e
    exact rd_val (Ym m c) _ _ (by show i0.val = i0.val / 2048 * 2048 + i0.val / 128 % 16 * 128 + i0.val % 128; omega) (by show 4096 + (i1.val / 512 * 512 + e.val) = _; omega)
  refine congrArg (fun g => gated _ _ g _) (funext this)

/-- The reference's second result: the states after the last chunk. -/
theorem result8 (c : Dev nD) : ((STEP^[16] (entryContents preI m c)) (Proc.devRef .tc main_v59_8) : FVec Ideal S8x8x256x512 .f32)
    = fun i => St (Xm m c) (Ym m c) (i 0).val (i 1) 16 (i 2) (i 3) := by
  funext i
  idx_vars i
  exact (iter_inv m c 16 le_rfl).st _ _ _ _

end Cert.ReferenceIdeal.Ret
end
-- ==== Proof.lean ====
/-
  The claims of this problem, from the modules under Proof/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.RetS
public import proofs.«01_k».proof.Proof.Gen.RetS.Skeleton
public import proofs.«01_k».proof.Proof.Gen.RetS.Launch
public import proofs.«01_k».proof.Proof.Gen.RetS.Points
public import proofs.«01_k».proof.Proof.Gen.RetS.Frame
public import proofs.«01_k».proof.Proof.Gen.RetSIdeal
public import proofs.«01_k».proof.Proof.Gen.RetSIdeal.Skeleton
public import proofs.«01_k».proof.Proof.Gen.RetSIdeal.Launch
public import proofs.«01_k».proof.Proof.Gen.RetSIdeal.Points
public import proofs.«01_k».proof.Proof.Gen.RetSIdeal.Frame
public import proofs.«01_k».proof.Proof.Gen.RetSIdeal.Value
public import proofs.«01_k».proof.Proof.Gen.RetSRefIdeal
public import proofs.«01_k».proof.Proof.Gen.RetSRefIdeal.Run
public import proofs.«01_k».proof.Proof.Gen.SbAtt
public import proofs.«01_k».proof.Proof.Gen.SbAtt.Skeleton
public import proofs.«01_k».proof.Proof.Gen.SbAtt.Launch
public import proofs.«01_k».proof.Proof.Gen.SbAtt.Points
public import proofs.«01_k».proof.Proof.Gen.SbAtt.Frame
public import proofs.«01_k».proof.Proof.Gen.SbAttIdeal
public import proofs.«01_k».proof.Proof.Gen.SbAttIdeal.Skeleton
public import proofs.«01_k».proof.Proof.Gen.SbAttIdeal.Launch
public import proofs.«01_k».proof.Proof.Gen.SbAttIdeal.Points
public import proofs.«01_k».proof.Proof.Gen.SbAttIdeal.Frame
public import proofs.«01_k».proof.Proof.Gen.SbAttIdeal.Value
public import proofs.«01_k».proof.Proof.Gen.SbRefIdeal
public import proofs.«01_k».proof.Proof.Gen.SbRefIdeal.Run
public import proofs.«01_k».proof.Proof.Gen.VProj
public import proofs.«01_k».proof.Proof.Gen.VProjIdeal
public import proofs.«01_k».proof.Proof.Gen.VProj.Skeleton
public import proofs.«01_k».proof.Proof.Gen.VProjIdeal.Skeleton
public import proofs.«01_k».proof.Proof.Gen.VProj.Launch
public import proofs.«01_k».proof.Proof.Gen.VProjIdeal.Launch
public import proofs.«01_k».proof.Proof.Gen.VProj.Points
public import proofs.«01_k».proof.Proof.Gen.VProjIdeal.Points
public import proofs.«01_k».proof.Proof.Gen.VProj.Frame
public import proofs.«01_k».proof.Proof.Gen.VProjIdeal.Frame
public import proofs.«01_k».proof.Proof.Gen.VProjIdeal.Value
public import proofs.«01_k».proof.Proof.Gen.VRefIdeal
public import proofs.«01_k».proof.Proof.Gen.VRefIdeal.Run
public import proofs.«01_k».proof.Proof.Gen.QkProj
public import proofs.«01_k».proof.Proof.Gen.QkProjIdeal
public import proofs.«01_k».proof.Proof.Gen.QkProj.Skeleton
public import proofs.«01_k».proof.Proof.Gen.QkProjIdeal.Skeleton
public import proofs.«01_k».proof.Proof.Gen.QkProj.Launch
public import proofs.«01_k».proof.Proof.Gen.QkProjIdeal.Launch
public import proofs.«01_k».proof.Proof.Gen.QkProj.Points
public import proofs.«01_k».proof.Proof.Gen.QkProjIdeal.Points
public import proofs.«01_k».proof.Proof.Gen.QkProj.Frame
public import proofs.«01_k».proof.Proof.Gen.QkProjIdeal.Frame
public import proofs.«01_k».proof.Proof.Gen.QkProjIdeal.Value
public import proofs.«01_k».proof.Proof.Gen.QkRefIdeal
public import proofs.«01_k».proof.Proof.Gen.QkRefIdeal.Run
public import proofs.«01_k».proof.Proof.Gen.WoProj
public import proofs.«01_k».proof.Proof.Gen.WoProjIdeal
public import proofs.«01_k».proof.Proof.Gen.WoProj.Skeleton
public import proofs.«01_k».proof.Proof.Gen.WoProjIdeal.Skeleton
public import proofs.«01_k».proof.Proof.Gen.WoProj.Launch
public import proofs.«01_k».proof.Proof.Gen.WoProjIdeal.Launch
public import proofs.«01_k».proof.Proof.Gen.WoProj.Points
public import proofs.«01_k».proof.Proof.Gen.WoProjIdeal.Points
public import proofs.«01_k».proof.Proof.Gen.WoProj.Frame
public import proofs.«01_k».proof.Proof.Gen.WoProjIdeal.Frame
public import proofs.«01_k».proof.Proof.Gen.WoProjIdeal.Value
public import proofs.«01_k».proof.Proof.Gen.WoRefIdeal
public import proofs.«01_k».proof.Proof.Gen.WoRefIdeal.Run
public import proofs.«01_k».proof.Proof.Gen.VgProj
public import proofs.«01_k».proof.Proof.Gen.VgProjIdeal
public import proofs.«01_k».proof.Proof.Gen.VgProj.Skeleton
public import proofs.«01_k».proof.Proof.Gen.VgProjIdeal.Skeleton
public import proofs.«01_k».proof.Proof.Gen.VgProj.Launch
public import proofs.«01_k».proof.Proof.Gen.VgProjIdeal.Launch
public import proofs.«01_k».proof.Proof.Gen.VgProj.Points
public import proofs.«01_k».proof.Proof.Gen.VgProjIdeal.Points
public import proofs.«01_k».proof.Proof.Gen.VgProj.Frame
public import proofs.«01_k».proof.Proof.Gen.VgProjIdeal.Frame
public import proofs.«01_k».proof.Proof.Gen.VgProjIdeal.Value
public import proofs.«01_k».proof.Proof.Gen.VgRefIdeal
public import proofs.«01_k».proof.Proof.Gen.VgRefIdeal.Run
public import proofs.«01_k».proof.Proof.Gen.RqkProj
public import proofs.«01_k».proof.Proof.Gen.RqkProjIdeal
public import proofs.«01_k».proof.Proof.Gen.RqkProj.Skeleton
public import proofs.«01_k».proof.Proof.Gen.RqkProjIdeal.Skeleton
public import proofs.«01_k».proof.Proof.Gen.RqkProj.Launch
public import proofs.«01_k».proof.Proof.Gen.RqkProjIdeal.Launch
public import proofs.«01_k».proof.Proof.Gen.RqkProj.Points
public import proofs.«01_k».proof.Proof.Gen.RqkProjIdeal.Points
public import proofs.«01_k».proof.Proof.Gen.RqkProj.Frame
public import proofs.«01_k».proof.Proof.Gen.RqkProjIdeal.Frame
public import proofs.«01_k».proof.Proof.Gen.RqkProjIdeal.Value
public import proofs.«01_k».proof.Proof.Gen.RqkRefIdeal
public import proofs.«01_k».proof.Proof.Gen.RqkRefIdeal.Run
public import proofs.«01_k».proof.Proof.Gen.RwoProj
public import proofs.«01_k».proof.Proof.Gen.RwoProjIdeal
public import proofs.«01_k».proof.Proof.Gen.RwoProj.Skeleton
public import proofs.«01_k».proof.Proof.Gen.RwoProjIdeal.Skeleton
public import proofs.«01_k».proof.Proof.Gen.RwoProj.Launch
public import proofs.«01_k».proof.Proof.Gen.RwoProjIdeal.Launch
public import proofs.«01_k».proof.Proof.Gen.RwoProj.Points
public import proofs.«01_k».proof.Proof.Gen.RwoProjIdeal.Points
public import proofs.«01_k».proof.Proof.Gen.RwoProj.Frame
public import proofs.«01_k».proof.Proof.Gen.RwoProjIdeal.Frame
public import proofs.«01_k».proof.Proof.Gen.RwoProjIdeal.Value
public import proofs.«01_k».proof.Proof.Gen.RwoRefIdeal
public import proofs.«01_k».proof.Proof.Gen.RwoRefIdeal.Run
public import proofs.«01_k».proof.Proof.RetKernel
public import proofs.«01_k».proof.Proof.VProjValue
public import proofs.«01_k».proof.Proof.QkProjValue
public import proofs.«01_k».proof.Proof.WoProjValue
public import proofs.«01_k».proof.Proof.VgProjValue
public import proofs.«01_k».proof.Proof.RqkProjValue
public import proofs.«01_k».proof.Proof.RwoProjValue
public import proofs.«01_k».proof.Proof.SbValue
public import proofs.«01_k».proof.Proof.RetsValue
public import proofs.«01_k».proof.Proof.RetRef
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference ends with its arguments unchanged and no counter raised. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The retention call and its reference compute the same rows and the same final states. -/
theorem algebraic_ret : Cert.algebraic_KernelIdeal_ReferenceIdeal := by
  intro m ρ m' ρ' _ hag
  refine ⟨fun c => fun i => RetSpec.G7 (KernelIdeal.Ret.Xm m c) (KernelIdeal.Ret.Ym m c) (KernelIdeal.Ret.gm m c) (i 0) (i 1),
    fun c => fun i => RetSpec.St (KernelIdeal.Ret.Xm m c) (KernelIdeal.Ret.Ym m c) (i 0).val (i 1) 16 (i 2) (i 3), ?_, ?_⟩
  · refine (θ_run _ _ _).mono (fun r h c => ?_) (KernelIdeal.Value.run_blocks m ρ)
    obtain ⟨h1, h2, h3⟩ := h c
    exact ⟨h1.trans (KernelIdeal.Ret.final7 m c), h2.trans (KernelIdeal.Ret.final8 m c), h3⟩
  · refine (θ_run _ _ _).mono (fun r h c => ?_) (ReferenceIdeal.Value.run m' ρ')
    obtain ⟨h1, h2, h3⟩ := h c
    have hX : ReferenceIdeal.Ret.Xm m' c = KernelIdeal.Ret.Xm m c := funext fun i => funext fun j => congrFun (hag c).1 (ix2 i j)
    have hY : ReferenceIdeal.Ret.Ym m' c = KernelIdeal.Ret.Ym m c := funext fun i => funext fun j => congrFun (hag c).2.1 (ix2 i j)
    have hg : ReferenceIdeal.Ret.gm m' c = KernelIdeal.Ret.gm m c := funext fun j => congrFun (hag c).2.2 (ix2 0 j)
    refine ⟨h1.trans ((ReferenceIdeal.Ret.result82 m' c).trans ?_), h2.trans ((ReferenceIdeal.Ret.result8 m' c).trans ?_), h3⟩
    · rw [hX, hY, hg]; rfl
    · rw [hX, hY]; rfl

/-- Every claim of the certificate. -/
theorem claim : Cert.Claim := ⟨Cert.Kernel.Gen.facts,
  Cert.KernelIdeal.Gen.facts,
  Cert.ReferenceIdeal.Gen.facts,
  Cert.VProj.Gen.facts,
  Cert.VProjIdeal.Gen.facts,
  Cert.VRefIdeal.Gen.facts,
  Cert.QkProj.Gen.facts,
  Cert.QkProjIdeal.Gen.facts,
  Cert.QkRefIdeal.Gen.facts,
  Cert.WoProj.Gen.facts,
  Cert.WoProjIdeal.Gen.facts,
  Cert.WoRefIdeal.Gen.facts,
  Cert.VgProj.Gen.facts,
  Cert.VgProjIdeal.Gen.facts,
  Cert.VgRefIdeal.Gen.facts,
  Cert.RqkProj.Gen.facts,
  Cert.RqkProjIdeal.Gen.facts,
  Cert.RqkRefIdeal.Gen.facts,
  Cert.RwoProj.Gen.facts,
  Cert.RwoProjIdeal.Gen.facts,
  Cert.RwoRefIdeal.Gen.facts,
  Cert.SbAtt.Gen.facts,
  Cert.SbAttIdeal.Gen.facts,
  Cert.SbRefIdeal.Gen.facts,
  Cert.RetS.Gen.facts,
  Cert.RetSIdeal.Gen.facts,
  Cert.RetSRefIdeal.Gen.facts,
  fun m ρ _ => Cert.Kernel.Gen.frame m ρ, fun m ρ _ => Cert.KernelIdeal.Gen.frame m ρ, frame_ref,
  fun m ρ _ => Cert.VProj.Gen.frame m ρ, fun m ρ _ => Cert.VProjIdeal.Gen.frame m ρ, Cert.Claims.frame_VRefIdeal,
  fun m ρ _ => Cert.QkProj.Gen.frame m ρ, fun m ρ _ => Cert.QkProjIdeal.Gen.frame m ρ, Cert.Claims.frame_QkRefIdeal,
  fun m ρ _ => Cert.WoProj.Gen.frame m ρ, fun m ρ _ => Cert.WoProjIdeal.Gen.frame m ρ, Cert.Claims.frame_WoRefIdeal,
  fun m ρ _ => Cert.VgProj.Gen.frame m ρ, fun m ρ _ => Cert.VgProjIdeal.Gen.frame m ρ, Cert.Claims.frame_VgRefIdeal,
  fun m ρ _ => Cert.RqkProj.Gen.frame m ρ, fun m ρ _ => Cert.RqkProjIdeal.Gen.frame m ρ, Cert.Claims.frame_RqkRefIdeal,
  fun m ρ _ => Cert.RwoProj.Gen.frame m ρ, fun m ρ _ => Cert.RwoProjIdeal.Gen.frame m ρ, Cert.Claims.frame_RwoRefIdeal,
  fun m ρ _ => Cert.SbAtt.Gen.frame m ρ, fun m ρ _ => Cert.SbAttIdeal.Gen.frame m ρ, Cert.Claims.frame_SbRefIdeal,
  fun m ρ _ => Cert.RetS.Gen.frame m ρ, fun m ρ _ => Cert.RetSIdeal.Gen.frame m ρ, Cert.Claims.frame_RetSRefIdeal,
  trivial, algebraic_ret,
  trivial, Cert.Claims.algebraic_V,
  trivial, Cert.Claims.algebraic_Qk,
  trivial, Cert.Claims.algebraic_Wo,
  trivial, Cert.Claims.algebraic_Vg,
  trivial, Cert.Claims.algebraic_Rqk,
  trivial, Cert.Claims.algebraic_Rwo,
  trivial, Cert.Claims.algebraic_Sb,
  trivial, Cert.Claims.algebraic_RetS⟩

end Cert.Proof

end
